-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_bwd_finite [hPre_ffn_bwd_finite : Cert.Pre_ffn_bwd_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_bwd_finite [hPre_ffn_bwd_finite : Cert.Pre_ffn_bwd_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_bwd_finite [hPre_mix_bwd_finite : Cert.Pre_mix_bwd_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.2.2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.2.2.2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))).2.2.2.2.2.2.2.2.2.2.2.2 = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_mix_bwd_finite [hPre_mix_bwd_finite : Cert.Pre_mix_bwd_finite.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.2.2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.2.2.2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))).2.2.2.2.2.2.2.2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_bwd_finite [hFfnBwdIdeal : Cert.FfnBwdIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_bwd_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_ffn_bwd_finite [hFfnBwdRefIdeal : Cert.FfnBwdRefIdeal.Facts] [hPre_ffn_bwd_finite : Cert.Pre_ffn_bwd_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_bwd_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ r.2.sem = fun _ => 0)

def quiescent_MixBwdIdeal_pre_mix_bwd_finite [hMixBwdIdeal : Cert.MixBwdIdeal.Facts] [hPre_mix_bwd_finite : Cert.Pre_mix_bwd_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_bwd_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12))
      ∧ r.2.sem = fun _ => 0)

def quiescent_MixBwdRefIdeal_pre_mix_bwd_finite [hMixBwdRefIdeal : Cert.MixBwdRefIdeal.Facts] [hPre_mix_bwd_finite : Cert.Pre_mix_bwd_finite.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_mix_bwd_finite m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_FfnBwd_FfnBwdIdeal : Prop :=
  True

def algebraic_FfnBwdIdeal_FfnBwdRefIdeal_pre_ffn_bwd_finite [hFfnBwdIdeal : Cert.FfnBwdIdeal.Facts] [hFfnBwdRefIdeal : Cert.FfnBwdRefIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_bwd_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v25_0)) (v1 : (c : Dev Cert.FfnBwdIdeal.nD) → Buf (Elt Ideal) ((c.tc : Thread Cert.FfnBwdIdeal.nD Cert.FfnBwdIdeal.τ).loc Cert.FfnBwdIdeal.main_v25_1)) (v2 : (c : Dev Cert.FfnBwdIdeal.nD) → Buf (Elt Ideal) ((c.tc : Thread Cert.FfnBwdIdeal.nD Cert.FfnBwdIdeal.τ).loc Cert.FfnBwdIdeal.main_v25_2)) (v3 : (c : Dev Cert.FfnBwdIdeal.nD) → Buf (Elt Ideal) ((c.tc : Thread Cert.FfnBwdIdeal.nD Cert.FfnBwdIdeal.τ).loc Cert.FfnBwdIdeal.main_v25_3)) (v4 : (c : Dev Cert.FfnBwdIdeal.nD) → Buf (Elt Ideal) ((c.tc : Thread Cert.FfnBwdIdeal.nD Cert.FfnBwdIdeal.τ).loc Cert.FfnBwdIdeal.main_v25_4)) (v5 : (c : Dev Cert.FfnBwdIdeal.nD) → Buf (Elt Ideal) ((c.tc : Thread Cert.FfnBwdIdeal.nD Cert.FfnBwdIdeal.τ).loc Cert.FfnBwdIdeal.main_v25_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v25_0) = v0 c
          ∧ r.2.mem ((c.tc : Thread Cert.FfnBwdIdeal.nD Cert.FfnBwdIdeal.τ).loc Cert.FfnBwdIdeal.main_v25_1) = v1 c
          ∧ r.2.mem ((c.tc : Thread Cert.FfnBwdIdeal.nD Cert.FfnBwdIdeal.τ).loc Cert.FfnBwdIdeal.main_v25_2) = v2 c
          ∧ r.2.mem ((c.tc : Thread Cert.FfnBwdIdeal.nD Cert.FfnBwdIdeal.τ).loc Cert.FfnBwdIdeal.main_v25_3) = v3 c
          ∧ r.2.mem ((c.tc : Thread Cert.FfnBwdIdeal.nD Cert.FfnBwdIdeal.τ).loc Cert.FfnBwdIdeal.main_v25_4) = v4 c
          ∧ r.2.mem ((c.tc : Thread Cert.FfnBwdIdeal.nD Cert.FfnBwdIdeal.τ).loc Cert.FfnBwdIdeal.main_v25_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v54) = v0 c
          ∧ r.2.mem ((c.tc : Thread Cert.FfnBwdRefIdeal.nD Cert.FfnBwdRefIdeal.τ).loc Cert.FfnBwdRefIdeal.main_v55) = v1 c
          ∧ r.2.mem ((c.tc : Thread Cert.FfnBwdRefIdeal.nD Cert.FfnBwdRefIdeal.τ).loc Cert.FfnBwdRefIdeal.main_v57) = v2 c
          ∧ r.2.mem ((c.tc : Thread Cert.FfnBwdRefIdeal.nD Cert.FfnBwdRefIdeal.τ).loc Cert.FfnBwdRefIdeal.main_v60) = v3 c
          ∧ r.2.mem ((c.tc : Thread Cert.FfnBwdRefIdeal.nD Cert.FfnBwdRefIdeal.τ).loc Cert.FfnBwdRefIdeal.main_v63) = v4 c
          ∧ r.2.mem ((c.tc : Thread Cert.FfnBwdRefIdeal.nD Cert.FfnBwdRefIdeal.τ).loc Cert.FfnBwdRefIdeal.main_v64) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_MixBwd_MixBwdIdeal : Prop :=
  True

def algebraic_MixBwdIdeal_MixBwdRefIdeal_pre_mix_bwd_finite [hMixBwdIdeal : Cert.MixBwdIdeal.Facts] [hMixBwdRefIdeal : Cert.MixBwdRefIdeal.Facts] [hPre_mix_bwd_finite : Cert.Pre_mix_bwd_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_mix_bwd_finite m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)
      ∧ m' ((c.tc : Thread Cert.MixBwdRefIdeal.nD Cert.MixBwdRefIdeal.τ).loc Cert.MixBwdRefIdeal.main_arg11) = m ((c.tc : Thread Cert.MixBwdIdeal.nD Cert.MixBwdIdeal.τ).loc Cert.MixBwdIdeal.main_arg11)
      ∧ m' ((c.tc : Thread Cert.MixBwdRefIdeal.nD Cert.MixBwdRefIdeal.τ).loc Cert.MixBwdRefIdeal.main_arg12) = m ((c.tc : Thread Cert.MixBwdIdeal.nD Cert.MixBwdIdeal.τ).loc Cert.MixBwdIdeal.main_arg12)) →
    ∃ (v0 : (c : Dev Cert.MixBwdIdeal.nD) → Buf (Elt Ideal) ((c.tc : Thread Cert.MixBwdIdeal.nD Cert.MixBwdIdeal.τ).loc Cert.MixBwdIdeal.main_v135_0)) (v1 : (c : Dev Cert.MixBwdIdeal.nD) → Buf (Elt Ideal) ((c.tc : Thread Cert.MixBwdIdeal.nD Cert.MixBwdIdeal.τ).loc Cert.MixBwdIdeal.main_v135_1)) (v2 : (c : Dev Cert.MixBwdIdeal.nD) → Buf (Elt Ideal) ((c.tc : Thread Cert.MixBwdIdeal.nD Cert.MixBwdIdeal.τ).loc Cert.MixBwdIdeal.main_v135_2)) (v3 : (c : Dev Cert.MixBwdIdeal.nD) → Buf (Elt Ideal) ((c.tc : Thread Cert.MixBwdIdeal.nD Cert.MixBwdIdeal.τ).loc Cert.MixBwdIdeal.main_v135_3)) (v4 : (c : Dev Cert.MixBwdIdeal.nD) → Buf (Elt Ideal) ((c.tc : Thread Cert.MixBwdIdeal.nD Cert.MixBwdIdeal.τ).loc Cert.MixBwdIdeal.main_v135_4)) (v5 : (c : Dev Cert.MixBwdIdeal.nD) → Buf (Elt Ideal) ((c.tc : Thread Cert.MixBwdIdeal.nD Cert.MixBwdIdeal.τ).loc Cert.MixBwdIdeal.main_v135_5)) (v6 : (c : Dev Cert.MixBwdIdeal.nD) → Buf (Elt Ideal) ((c.tc : Thread Cert.MixBwdIdeal.nD Cert.MixBwdIdeal.τ).loc Cert.MixBwdIdeal.main_v135_6)) (v7 : (c : Dev Cert.MixBwdIdeal.nD) → Buf (Elt Ideal) ((c.tc : Thread Cert.MixBwdIdeal.nD Cert.MixBwdIdeal.τ).loc Cert.MixBwdIdeal.main_v135_7)) (v8 : (c : Dev Cert.MixBwdIdeal.nD) → Buf (Elt Ideal) ((c.tc : Thread Cert.MixBwdIdeal.nD Cert.MixBwdIdeal.τ).loc Cert.MixBwdIdeal.main_v135_8)) (v9 : (c : Dev Cert.MixBwdIdeal.nD) → Buf (Elt Ideal) ((c.tc : Thread Cert.MixBwdIdeal.nD Cert.MixBwdIdeal.τ).loc Cert.MixBwdIdeal.main_v135_9)) (v10 : (c : Dev Cert.MixBwdIdeal.nD) → Buf (Elt Ideal) ((c.tc : Thread Cert.MixBwdIdeal.nD Cert.MixBwdIdeal.τ).loc Cert.MixBwdIdeal.main_v135_10)) (v11 : (c : Dev Cert.MixBwdIdeal.nD) → Buf (Elt Ideal) ((c.tc : Thread Cert.MixBwdIdeal.nD Cert.MixBwdIdeal.τ).loc Cert.MixBwdIdeal.main_v135_11)) (v12 : (c : Dev Cert.MixBwdIdeal.nD) → Buf (Elt Ideal) ((c.tc : Thread Cert.MixBwdIdeal.nD Cert.MixBwdIdeal.τ).loc Cert.MixBwdIdeal.main_v135_12)) (v13 : (c : Dev Cert.MixBwdIdeal.nD) → Buf (Elt Ideal) ((c.tc : Thread Cert.MixBwdIdeal.nD Cert.MixBwdIdeal.τ).loc Cert.MixBwdIdeal.main_v135_13)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v135_0) = v0 c
          ∧ r.2.mem ((c.tc : Thread Cert.MixBwdIdeal.nD Cert.MixBwdIdeal.τ).loc Cert.MixBwdIdeal.main_v135_1) = v1 c
          ∧ r.2.mem ((c.tc : Thread Cert.MixBwdIdeal.nD Cert.MixBwdIdeal.τ).loc Cert.MixBwdIdeal.main_v135_2) = v2 c
          ∧ r.2.mem ((c.tc : Thread Cert.MixBwdIdeal.nD Cert.MixBwdIdeal.τ).loc Cert.MixBwdIdeal.main_v135_3) = v3 c
          ∧ r.2.mem ((c.tc : Thread Cert.MixBwdIdeal.nD Cert.MixBwdIdeal.τ).loc Cert.MixBwdIdeal.main_v135_4) = v4 c
          ∧ r.2.mem ((c.tc : Thread Cert.MixBwdIdeal.nD Cert.MixBwdIdeal.τ).loc Cert.MixBwdIdeal.main_v135_5) = v5 c
          ∧ r.2.mem ((c.tc : Thread Cert.MixBwdIdeal.nD Cert.MixBwdIdeal.τ).loc Cert.MixBwdIdeal.main_v135_6) = v6 c
          ∧ r.2.mem ((c.tc : Thread Cert.MixBwdIdeal.nD Cert.MixBwdIdeal.τ).loc Cert.MixBwdIdeal.main_v135_7) = v7 c
          ∧ r.2.mem ((c.tc : Thread Cert.MixBwdIdeal.nD Cert.MixBwdIdeal.τ).loc Cert.MixBwdIdeal.main_v135_8) = v8 c
          ∧ r.2.mem ((c.tc : Thread Cert.MixBwdIdeal.nD Cert.MixBwdIdeal.τ).loc Cert.MixBwdIdeal.main_v135_9) = v9 c
          ∧ r.2.mem ((c.tc : Thread Cert.MixBwdIdeal.nD Cert.MixBwdIdeal.τ).loc Cert.MixBwdIdeal.main_v135_10) = v10 c
          ∧ r.2.mem ((c.tc : Thread Cert.MixBwdIdeal.nD Cert.MixBwdIdeal.τ).loc Cert.MixBwdIdeal.main_v135_11) = v11 c
          ∧ r.2.mem ((c.tc : Thread Cert.MixBwdIdeal.nD Cert.MixBwdIdeal.τ).loc Cert.MixBwdIdeal.main_v135_12) = v12 c
          ∧ r.2.mem ((c.tc : Thread Cert.MixBwdIdeal.nD Cert.MixBwdIdeal.τ).loc Cert.MixBwdIdeal.main_v135_13) = v13 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
          ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
          ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v311) = v0 c
          ∧ r.2.mem ((c.tc : Thread Cert.MixBwdRefIdeal.nD Cert.MixBwdRefIdeal.τ).loc Cert.MixBwdRefIdeal.main_v312) = v1 c
          ∧ r.2.mem ((c.tc : Thread Cert.MixBwdRefIdeal.nD Cert.MixBwdRefIdeal.τ).loc Cert.MixBwdRefIdeal.main_v314) = v2 c
          ∧ r.2.mem ((c.tc : Thread Cert.MixBwdRefIdeal.nD Cert.MixBwdRefIdeal.τ).loc Cert.MixBwdRefIdeal.main_v317) = v3 c
          ∧ r.2.mem ((c.tc : Thread Cert.MixBwdRefIdeal.nD Cert.MixBwdRefIdeal.τ).loc Cert.MixBwdRefIdeal.main_v320) = v4 c
          ∧ r.2.mem ((c.tc : Thread Cert.MixBwdRefIdeal.nD Cert.MixBwdRefIdeal.τ).loc Cert.MixBwdRefIdeal.main_v321) = v5 c
          ∧ r.2.mem ((c.tc : Thread Cert.MixBwdRefIdeal.nD Cert.MixBwdRefIdeal.τ).loc Cert.MixBwdRefIdeal.main_v322) = v6 c
          ∧ r.2.mem ((c.tc : Thread Cert.MixBwdRefIdeal.nD Cert.MixBwdRefIdeal.τ).loc Cert.MixBwdRefIdeal.main_v323) = v7 c
          ∧ r.2.mem ((c.tc : Thread Cert.MixBwdRefIdeal.nD Cert.MixBwdRefIdeal.τ).loc Cert.MixBwdRefIdeal.main_v220) = v8 c
          ∧ r.2.mem ((c.tc : Thread Cert.MixBwdRefIdeal.nD Cert.MixBwdRefIdeal.τ).loc Cert.MixBwdRefIdeal.main_v325) = v9 c
          ∧ r.2.mem ((c.tc : Thread Cert.MixBwdRefIdeal.nD Cert.MixBwdRefIdeal.τ).loc Cert.MixBwdRefIdeal.main_v326) = v10 c
          ∧ r.2.mem ((c.tc : Thread Cert.MixBwdRefIdeal.nD Cert.MixBwdRefIdeal.τ).loc Cert.MixBwdRefIdeal.main_v327) = v11 c
          ∧ r.2.mem ((c.tc : Thread Cert.MixBwdRefIdeal.nD Cert.MixBwdRefIdeal.τ).loc Cert.MixBwdRefIdeal.main_v328) = v12 c
          ∧ r.2.mem ((c.tc : Thread Cert.MixBwdRefIdeal.nD Cert.MixBwdRefIdeal.τ).loc Cert.MixBwdRefIdeal.main_v329) = v13 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10)
          ∧ r.2.mem ((c.tc : Thread Cert.MixBwdRefIdeal.nD Cert.MixBwdRefIdeal.τ).loc Cert.MixBwdRefIdeal.main_arg11) = m' ((c.tc : Thread Cert.MixBwdRefIdeal.nD Cert.MixBwdRefIdeal.τ).loc Cert.MixBwdRefIdeal.main_arg11)
          ∧ r.2.mem ((c.tc : Thread Cert.MixBwdRefIdeal.nD Cert.MixBwdRefIdeal.τ).loc Cert.MixBwdRefIdeal.main_arg12) = m' ((c.tc : Thread Cert.MixBwdRefIdeal.nD Cert.MixBwdRefIdeal.τ).loc Cert.MixBwdRefIdeal.main_arg12))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v7_0)) (v1 : (c : Dev Cert.FfnFwdIdeal.nD) → Buf (Elt Ideal) ((c.tc : Thread Cert.FfnFwdIdeal.nD Cert.FfnFwdIdeal.τ).loc Cert.FfnFwdIdeal.main_v7_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v7_0) = v0 c
          ∧ r.2.mem ((c.tc : Thread Cert.FfnFwdIdeal.nD Cert.FfnFwdIdeal.τ).loc Cert.FfnFwdIdeal.main_v7_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v18) = v0 c
          ∧ r.2.mem ((c.tc : Thread Cert.FfnFwdRefIdeal.nD Cert.FfnFwdRefIdeal.τ).loc Cert.FfnFwdRefIdeal.main_v20) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)) →
    ∃ (v0 : (c : Dev Cert.MixFwdIdeal.nD) → Buf (Elt Ideal) ((c.tc : Thread Cert.MixFwdIdeal.nD Cert.MixFwdIdeal.τ).loc Cert.MixFwdIdeal.main_v15_0)) (v1 : (c : Dev Cert.MixFwdIdeal.nD) → Buf (Elt Ideal) ((c.tc : Thread Cert.MixFwdIdeal.nD Cert.MixFwdIdeal.τ).loc Cert.MixFwdIdeal.main_v15_1)) (v2 : (c : Dev Cert.MixFwdIdeal.nD) → Buf (Elt Ideal) ((c.tc : Thread Cert.MixFwdIdeal.nD Cert.MixFwdIdeal.τ).loc Cert.MixFwdIdeal.main_v15_2)) (v3 : (c : Dev Cert.MixFwdIdeal.nD) → Buf (Elt Ideal) ((c.tc : Thread Cert.MixFwdIdeal.nD Cert.MixFwdIdeal.τ).loc Cert.MixFwdIdeal.main_v15_3)) (v4 : (c : Dev Cert.MixFwdIdeal.nD) → Buf (Elt Ideal) ((c.tc : Thread Cert.MixFwdIdeal.nD Cert.MixFwdIdeal.τ).loc Cert.MixFwdIdeal.main_v15_4)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v15_0) = v0 c
          ∧ r.2.mem ((c.tc : Thread Cert.MixFwdIdeal.nD Cert.MixFwdIdeal.τ).loc Cert.MixFwdIdeal.main_v15_1) = v1 c
          ∧ r.2.mem ((c.tc : Thread Cert.MixFwdIdeal.nD Cert.MixFwdIdeal.τ).loc Cert.MixFwdIdeal.main_v15_2) = v2 c
          ∧ r.2.mem ((c.tc : Thread Cert.MixFwdIdeal.nD Cert.MixFwdIdeal.τ).loc Cert.MixFwdIdeal.main_v15_3) = v3 c
          ∧ r.2.mem ((c.tc : Thread Cert.MixFwdIdeal.nD Cert.MixFwdIdeal.τ).loc Cert.MixFwdIdeal.main_v15_4) = v4 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v217) = v0 c
          ∧ r.2.mem ((c.tc : Thread Cert.MixFwdRefIdeal.nD Cert.MixFwdRefIdeal.τ).loc Cert.MixFwdRefIdeal.main_v218) = v1 c
          ∧ r.2.mem ((c.tc : Thread Cert.MixFwdRefIdeal.nD Cert.MixFwdRefIdeal.τ).loc Cert.MixFwdRefIdeal.main_v219) = v2 c
          ∧ r.2.mem ((c.tc : Thread Cert.MixFwdRefIdeal.nD Cert.MixFwdRefIdeal.τ).loc Cert.MixFwdRefIdeal.main_v220) = v3 c
          ∧ r.2.mem ((c.tc : Thread Cert.MixFwdRefIdeal.nD Cert.MixFwdRefIdeal.τ).loc Cert.MixFwdRefIdeal.main_v222) = v4 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11))

def Claim : Prop :=
  ∃ (hLoss : Cert.Loss.Facts) (hLossIdeal : Cert.LossIdeal.Facts) (hLossRefIdeal : Cert.LossRefIdeal.Facts) (hFfnBwd : Cert.FfnBwd.Facts) (hFfnBwdIdeal : Cert.FfnBwdIdeal.Facts) (hFfnBwdRefIdeal : Cert.FfnBwdRefIdeal.Facts) (hMixBwd : Cert.MixBwd.Facts) (hMixBwdIdeal : Cert.MixBwdIdeal.Facts) (hMixBwdRefIdeal : Cert.MixBwdRefIdeal.Facts) (hFfnFwd : Cert.FfnFwd.Facts) (hFfnFwdIdeal : Cert.FfnFwdIdeal.Facts) (hFfnFwdRefIdeal : Cert.FfnFwdRefIdeal.Facts) (hMixFwd : Cert.MixFwd.Facts) (hMixFwdIdeal : Cert.MixFwdIdeal.Facts) (hMixFwdRefIdeal : Cert.MixFwdRefIdeal.Facts) (hPre_loss_finite : Cert.Pre_loss_finite.Facts) (hPre_ffn_bwd_finite : Cert.Pre_ffn_bwd_finite.Facts) (hPre_mix_bwd_finite : Cert.Pre_mix_bwd_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_FfnBwd (hFfnBwd := hFfnBwd)
    ∧ quiescent_FfnBwdIdeal (hFfnBwdIdeal := hFfnBwdIdeal)
    ∧ quiescent_FfnBwdIdeal_pre_ffn_bwd_finite (hFfnBwdIdeal := hFfnBwdIdeal) (hPre_ffn_bwd_finite := hPre_ffn_bwd_finite)
    ∧ quiescent_FfnBwdRefIdeal (hFfnBwdRefIdeal := hFfnBwdRefIdeal)
    ∧ quiescent_FfnBwdRefIdeal_pre_ffn_bwd_finite (hFfnBwdRefIdeal := hFfnBwdRefIdeal) (hPre_ffn_bwd_finite := hPre_ffn_bwd_finite)
    ∧ quiescent_MixBwd (hMixBwd := hMixBwd)
    ∧ quiescent_MixBwdIdeal (hMixBwdIdeal := hMixBwdIdeal)
    ∧ quiescent_MixBwdIdeal_pre_mix_bwd_finite (hMixBwdIdeal := hMixBwdIdeal) (hPre_mix_bwd_finite := hPre_mix_bwd_finite)
    ∧ quiescent_MixBwdRefIdeal (hMixBwdRefIdeal := hMixBwdRefIdeal)
    ∧ quiescent_MixBwdRefIdeal_pre_mix_bwd_finite (hMixBwdRefIdeal := hMixBwdRefIdeal) (hPre_mix_bwd_finite := hPre_mix_bwd_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_FfnBwd_FfnBwdIdeal
    ∧ algebraic_FfnBwdIdeal_FfnBwdRefIdeal_pre_ffn_bwd_finite (hFfnBwdIdeal := hFfnBwdIdeal) (hFfnBwdRefIdeal := hFfnBwdRefIdeal) (hPre_ffn_bwd_finite := hPre_ffn_bwd_finite)
    ∧ preserves_MixBwd_MixBwdIdeal
    ∧ algebraic_MixBwdIdeal_MixBwdRefIdeal_pre_mix_bwd_finite (hMixBwdIdeal := hMixBwdIdeal) (hMixBwdRefIdeal := hMixBwdRefIdeal) (hPre_mix_bwd_finite := hPre_mix_bwd_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixFwd_MixFwdIdeal
    ∧ algebraic_MixFwdIdeal_MixFwdRefIdeal (hMixFwdIdeal := hMixFwdIdeal) (hMixFwdRefIdeal := hMixFwdRefIdeal)
-- ==== Pre_ffn_bwd_finite.lean ====
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S1x4096x1024 .f32) (main_arg1 : FVec F S1024 .f32) (main_arg2 : FVec F S1024x4096 .f32) (main_arg3 : FVec F S4096x1024 .f32) (main_arg4 : FVec F S1x4096x1024 .f32) : IVec S1x4096x1024 1 × IVec S1024 1 × IVec S1024x4096 1 × IVec S4096x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_loss_finite.lean ====
abbrev S1x4096x1024 : Shape := ⟨3, ![1, 4096, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)

variable [Facts]

def fn {F : FTy → Type} [FloatOps F] (main_arg0 : FVec F S1x4096x1024 .f32) (main_arg1 : FVec F S1024 .f32) (main_arg2 : FVec F S1x4096x1024 .f32) : IVec S1x4096x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  (main_v2, main_v5, main_v8)
-- ==== Pre_mix_bwd_finite.lean ====
abbrev S1x4096x1024 : Shape := ⟨3, ![1, 4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S31x512 : S_.BroadcastsInDim S31x512 (![] : Fin 0 → Fin S31x512.rank)
  bcast_S_S1024x1024 : S_.BroadcastsInDim S1024x1024 (![] : Fin 0 → Fin S1024x1024.rank)

variable [Facts]

def fn_part2 {F : FTy → Type} [FloatOps F] (main_arg12 : FVec F S1x4096x1024 .f32) (main_v2 : IVec S1x4096x1024 1) (main_v5 : IVec S1024 1) (main_v8 : IVec S1024x2048 1) (main_v11 : IVec S512 1) (main_v14 : IVec S512 1) (main_v17 : IVec S4x128x128 1) (main_v20 : IVec S4x128 1) (main_v23 : IVec S31x512 1) (main_v26 : IVec S512 1) (main_v29 : IVec S512 1) (main_v32 : IVec S512 1) (main_v35 : IVec S1024x1024 1) : IVec S1x4096x1024 1 × IVec S1024 1 × IVec S1024x2048 1 × IVec S512 1 × IVec S512 1 × IVec S4x128x128 1 × IVec S4x128 1 × IVec S31x512 1 × IVec S512 1 × IVec S512 1 × IVec S512 1 × IVec S1024x1024 1 × IVec S1x4096x1024 1 :=
  let main_v36 : FVec F S1x4096x1024 .f32 := Host.absf main_arg12
  let main_cst_11 : FVec F S_ .f32 := constant S_ .f32 0x7F800000#32
  let main_v37 : FVec F S1x4096x1024 .f32 := broadcastInDim S1x4096x1024 ![] bcast_S_S1x4096x1024 main_cst_11
  let main_v38 : IVec S1x4096x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S4x128 .f32) (main_arg7 : FVec F S31x512 .f32) (main_arg8 : FVec F S512 .f32) (main_arg9 : FVec F S512 .f32) (main_arg10 : FVec F S512 .f32) (main_arg11 : FVec F S1024x1024 .f32) (main_arg12 : FVec F S1x4096x1024 .f32) (main_v2 : IVec S1x4096x1024 1) (main_v5 : IVec S1024 1) (main_v8 : IVec S1024x2048 1) (main_v11 : IVec S512 1) (main_v14 : IVec S512 1) (main_v17 : IVec S4x128x128 1) : IVec S1x4096x1024 1 × IVec S1024 1 × IVec S1024x2048 1 × IVec S512 1 × IVec S512 1 × IVec S4x128x128 1 × IVec S4x128 1 × IVec S31x512 1 × IVec S512 1 × IVec S512 1 × IVec S512 1 × IVec S1024x1024 1 × IVec S1x4096x1024 1 :=
  let main_v18 : FVec F S4x128 .f32 := Host.absf main_arg6
  let main_cst_5 : FVec F S_ .f32 := constant S_ .f32 0x7F800000#32
  let main_v19 : FVec F S4x128 .f32 := broadcastInDim S4x128 ![] bcast_S_S4x128 main_cst_5
  let main_v20 : IVec S4x128 1 := cmpf .olt main_v18 main_v19
  let main_v21 : FVec F S31x512 .f32 := Host.absf main_arg7
  let main_cst_6 : FVec F S_ .f32 := constant S_ .f32 0x7F800000#32
  let main_v22 : FVec F S31x512 .f32 := broadcastInDim S31x512 ![] bcast_S_S31x512 main_cst_6
  let main_v23 : IVec S31x512 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S512 .f32 := Host.absf main_arg9
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S512 .f32 := Host.absf main_arg10
  let main_cst_9 : FVec F S_ .f32 := constant S_ .f32 0x7F800000#32
  let main_v31 : FVec F S512 .f32 := broadcastInDim S512 ![] bcast_S_S512 main_cst_9
  let main_v32 : IVec S512 1 := cmpf .olt main_v30 main_v31
  let main_v33 : FVec F S1024x1024 .f32 := Host.absf main_arg11
  let main_cst_10 : FVec F S_ .f32 := constant S_ .f32 0x7F800000#32
  let main_v34 : FVec F S1024x1024 .f32 := broadcastInDim S1024x1024 ![] bcast_S_S1024x1024 main_cst_10
  let main_v35 : IVec S1024x1024 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S1x4096x1024 .f32) (main_arg1 : FVec F S1024 .f32) (main_arg2 : FVec F S1024x2048 .f32) (main_arg3 : FVec F S512 .f32) (main_arg4 : FVec F S512 .f32) (main_arg5 : FVec F S4x128x128 .f32) (main_arg6 : FVec F S4x128 .f32) (main_arg7 : FVec F S31x512 .f32) (main_arg8 : FVec F S512 .f32) (main_arg9 : FVec F S512 .f32) (main_arg10 : FVec F S512 .f32) (main_arg11 : FVec F S1024x1024 .f32) (main_arg12 : FVec F S1x4096x1024 .f32) : IVec S1x4096x1024 1 × IVec S1024 1 × IVec S1024x2048 1 × IVec S512 1 × IVec S512 1 × IVec S4x128x128 1 × IVec S4x128 1 × IVec S31x512 1 × IVec S512 1 × IVec S512 1 × IVec S512 1 × IVec S1024x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S4x128x128 .f32 := Host.absf main_arg5
  let main_cst_4 : FVec F S_ .f32 := constant S_ .f32 0x7F800000#32
  let main_v16 : FVec F S4x128x128 .f32 := broadcastInDim S4x128x128 ![] bcast_S_S4x128x128 main_cst_4
  let main_v17 : IVec S4x128x128 1 := cmpf .olt main_v15 main_v16
  fn_part1 (F := F) main_arg6 main_arg7 main_arg8 main_arg9 main_arg10 main_arg11 main_arg12 main_v2 main_v5 main_v8 main_v11 main_v14 main_v17
-- ==== Loss.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 10
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1, .f32⟩
  | .local _ .vmem, ⟨10, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1024, .f32⟩
  | .hbm, ⟨54, _⟩ => ⟨S1x4096x1024, .f32⟩
  | .hbm, ⟨55, _⟩ => ⟨S_, .f32⟩
  | .hbm, ⟨56, _⟩ => ⟨S1x4096, .f32⟩
  | .hbm, ⟨57, _⟩ => ⟨S1x4096x1, .f32⟩
  | .hbm, ⟨58, _⟩ => ⟨S1x4096x1024, .f32⟩
  | .hbm, ⟨59, _⟩ => ⟨S1x4096x1024, .f32⟩
  | .hbm, ⟨60, _⟩ => ⟨S1x4096x1, .f32⟩
  | .hbm, ⟨61, _⟩ => ⟨S_, .f32⟩
  | .hbm, ⟨62, _⟩ => ⟨S1x4096x1, .f32⟩
  | .hbm, ⟨63, _⟩ => ⟨S1x4096x1, .f32⟩
  | .hbm, ⟨64, _⟩ => ⟨S_, .f32⟩
  | .hbm, ⟨65, _⟩ => ⟨S4096, .f32⟩
  | .hbm, ⟨66, _⟩ => ⟨S1x4096, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S4096x1024, .f32⟩
  | .hbm, ⟨73, _⟩ => ⟨S4096x1024, .bf16⟩
  | .hbm, ⟨74, _⟩ => ⟨S1x1, .f32⟩
  | .hbm, ⟨75, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== FfnBwd.lean ====
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x4096 : Shape := ⟨2, ![4096, 4096]⟩
abbrev S1x1024 : Shape := ⟨2, ![1, 1024]⟩
abbrev S512x1024 : Shape := ⟨2, ![512, 1024]⟩
abbrev S1x1024x1024 : Shape := ⟨3, ![1, 1024, 1024]⟩
abbrev S1024x512 : Shape := ⟨2, ![1024, 512]⟩
abbrev S512 : Shape := ⟨1, ![512]⟩
abbrev S512x1 : Shape := ⟨2, ![512, 1]⟩
abbrev S1024x1024 : Shape := ⟨2, ![1024, 1024]⟩

abbrev nBuf : Space → Nat
  | .hbm => 39
  | .vmem => 25
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4x1024x1024, .f32⟩
  | .hbm, ⟨9, _⟩ => ⟨S4x1024x1024, .bf16⟩
  | .hbm, ⟨10, _⟩ => ⟨S1x4096x1024, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S4096x1024, .f32⟩
  | .hbm, ⟨27, _⟩ => ⟨S4096x4096, .f32⟩
  | .hbm, ⟨28, _⟩ => ⟨S4096x4096, .bf16⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .bf16⟩
  | .hbm, ⟨35, _⟩ => ⟨S4096x4096, .bf16⟩
  | .hbm, ⟨36, _⟩ => ⟨S4096x4096, .bf16⟩
  | .hbm, ⟨37, _⟩ => ⟨S1024x4096, .bf16⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1x1024, .f32⟩
  | .local _ .vmem, ⟨24, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_24 : BitVec 32 := 0#32
  let v37 : BitVec 1 := Scalar.cmpi .ne v36 c0_i32_24
  v37

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnBwdRefIdeal.lean ====
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S1x1024 : Shape := ⟨2, ![1, 1024]⟩
abbrev S4096 : Shape := ⟨1, ![4096]⟩
abbrev S4096x4096 : Shape := ⟨2, ![4096, 4096]⟩

abbrev nBuf : Space → Nat
  | .hbm => 85
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x4096, .f32⟩
  | .hbm, ⟨26, _⟩ => ⟨S_, .f32⟩
  | .hbm, ⟨27, _⟩ => ⟨S1x4096x4096, .f32⟩
  | .hbm, ⟨28, _⟩ => ⟨S1x4096x4096, .f32⟩
  | .hbm, ⟨29, _⟩ => ⟨S_, .f32⟩
  | .hbm, ⟨30, _⟩ => ⟨S1x4096x4096, .f32⟩
  | .hbm, ⟨31, _⟩ => ⟨S1x4096x4096, .i1⟩
  | .hbm, ⟨32, _⟩ => ⟨S_, .f32⟩
  | .hbm, ⟨33, _⟩ => ⟨S1x4096x4096, .f32⟩
  | .hbm, ⟨34, _⟩ => ⟨S1x4096x4096, .f32⟩
  | .hbm, ⟨35, _⟩ => ⟨S_, .f32⟩
  | .hbm, ⟨36, _⟩ => ⟨S1x4096x4096, .f32⟩
  | .hbm, ⟨37, _⟩ => ⟨S1x4096x4096, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x4096x4096, .f32⟩
  | .hbm, ⟨42, _⟩ => ⟨S1x4096x4096, .f32⟩
  | .hbm, ⟨43, _⟩ => ⟨S_, .f32⟩
  | .hbm, ⟨44, _⟩ => ⟨S1x4096x4096, .f32⟩
  | .hbm, ⟨45, _⟩ => ⟨S1x4096x4096, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x4096x1024, .f32⟩
  | .hbm, ⟨52, _⟩ => ⟨S1x4096x1024, .f32⟩
  | .hbm, ⟨53, _⟩ => ⟨S_, .f32⟩
  | .hbm, ⟨54, _⟩ => ⟨S1024, .f32⟩
  | .hbm, ⟨55, _⟩ => ⟨S1x4096x1024, .f32⟩
  | .hbm, ⟨56, _⟩ => ⟨S_, .f32⟩
  | .hbm, ⟨57, _⟩ => ⟨S1x4096, .f32⟩
  | .hbm, ⟨58, _⟩ => ⟨S1x4096x1, .f32⟩
  | .hbm, ⟨59, _⟩ => ⟨S1x4096x1024, .f32⟩
  | .hbm, ⟨60, _⟩ => ⟨S1x4096x1024, .f32⟩
  | .hbm, ⟨61, _⟩ => ⟨S1x4096x1, .f32⟩
  | .hbm, ⟨62, _⟩ => ⟨S_, .f32⟩
  | .hbm, ⟨63, _⟩ => ⟨S1x4096x1, .f32⟩
  | .hbm, ⟨64, _⟩ => ⟨S1x4096x1, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S4096x1024, .f32⟩
  | .hbm, ⟨75, _⟩ => ⟨S4096x1024, .bf16⟩
  | .hbm, ⟨76, _⟩ => ⟨S4096x4096, .f32⟩
  | .hbm, ⟨77, _⟩ => ⟨S4096x4096, .bf16⟩
  | .hbm, ⟨78, _⟩ => ⟨S4096x4096, .f32⟩
  | .hbm, ⟨79, _⟩ => ⟨S4096x4096, .f32⟩
  | .hbm, ⟨80, _⟩ => ⟨S4096x4096, .bf16⟩
  | .hbm, ⟨81, _⟩ => ⟨S4096x1024, .f32⟩
  | .hbm, ⟨82, _⟩ => ⟨S1024x4096, .f32⟩
  | .hbm, ⟨83, _⟩ => ⟨S1024x4096, .bf16⟩
  | .hbm, ⟨84, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== MixBwd.lean ====
abbrev S1x4096x1024 : Shape := ⟨3, ![1, 4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S1024x4x512 : Shape := ⟨3, ![1024, 4, 512]⟩
abbrev S4x1024x512 : Shape := ⟨3, ![4, 1024, 512]⟩
abbrev S4x256x1024 : Shape := ⟨3, ![4, 256, 1024]⟩
abbrev S_ : Shape := ⟨0, ![]⟩
abbrev S32x512 : Shape := ⟨2, ![32, 512]⟩
abbrev S4x128x1 : Shape := ⟨3, ![4, 128, 1]⟩
abbrev S4096x1024 : Shape := ⟨2, ![4096, 1024]⟩
abbrev S1x1024 : Shape := ⟨2, ![1, 1024]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S4096x128 : Shape := ⟨2, ![4096, 128]⟩
abbrev S4126x512 : Shape := ⟨2, ![4126, 512]⟩
abbrev S31 : Shape := ⟨1, ![31]⟩
abbrev S1x31 : Shape := ⟨2, ![1, 31]⟩
abbrev S4096x31 : Shape := ⟨2, ![4096, 31]⟩
abbrev S4096x31x1 : Shape := ⟨3, ![4096, 31, 1]⟩
abbrev S4096x31x512 : Shape := ⟨3, ![4096, 31, 512]⟩
abbrev S1x31x512 : Shape := ⟨3, ![1, 31, 512]⟩
abbrev S1x512 : Shape := ⟨2, ![1, 512]⟩
abbrev S1024x4096 : Shape := ⟨2, ![1024, 4096]⟩
abbrev S256x1024 : Shape := ⟨2, ![256, 1024]⟩
abbrev S256x512 : Shape := ⟨2, ![256, 512]⟩
abbrev S256x2048 : Shape := ⟨2, ![256, 2048]⟩
abbrev S256x128 : Shape := ⟨2, ![256, 128]⟩
abbrev S1024x256 : Shape := ⟨2, ![1024, 256]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S288x512 : Shape := ⟨2, ![288, 512]⟩
abbrev S512x256 : Shape := ⟨2, ![512, 256]⟩
abbrev S1x256x1024 : Shape := ⟨3, ![1, 256, 1024]⟩
abbrev S256x256 : Shape := ⟨2, ![256, 256]⟩
abbrev S128 : Shape := ⟨1, ![128]⟩
abbrev S128x1 : Shape := ⟨2, ![128, 1]⟩
abbrev S1x1024x512 : Shape := ⟨3, ![1, 1024, 512]⟩
abbrev S1024x512 : Shape := ⟨2, ![1024, 512]⟩

abbrev nBuf : Space → Nat
  | .hbm => 195
  | .vmem => 52
  | .smem => 0
  | _ => 0

abbrev hbmTy0_0 (i : Nat) : BufTy := match i % 128 with
  | 0 => ⟨S1x4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S1x4096x1024, .f32⟩
  | 13 => ⟨S1024x4x512, .f32⟩
  | 14 => ⟨S4x1024x512, .f32⟩
  | 15 => ⟨S4x1024x512, .bf16⟩
  | 16 => ⟨S4x256x1024, .f32⟩
  | 17 => ⟨S4x256x1024, .bf16⟩
  | 18 => ⟨S_, .i32⟩
  | 19 => ⟨S_, .f32⟩
  | 20 => ⟨S32x512, .f32⟩
  | 21 => ⟨S4x128x128, .f32⟩
  | 22 => ⟨S4x128x1, .f32⟩
  | 23 => ⟨S4x128x128, .f32⟩
  | 24 => ⟨S4096x1024, .f32⟩
  | 25 => ⟨S1x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S4096x1024, .f32⟩
  | 41 => ⟨S4096x2048, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .i1⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .i1⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S4096x512, .f32⟩
  | 111 => ⟨S4096x512, .f32⟩
  | 112 => ⟨S_, .f32⟩
  | 113 => ⟨S4096, .f32⟩
  | 114 => ⟨S4096x1, .f32⟩
  | 115 => ⟨S_, .f32⟩
  | 116 => ⟨S4096x1, .f32⟩
  | 117 => ⟨S4096x1, .f32⟩
  | 118 => ⟨S4096x512, .f32⟩
  | 119 => ⟨S4096x512, .f32⟩
  | 120 => ⟨S4096x512, .f32⟩
  | 121 => ⟨S_, .f32⟩
  | 122 => ⟨S4096, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S1x4096x1024, .f32⟩

abbrev hbmTy0_1 (i : Nat) : BufTy := match i % 128 with
  | 0 => ⟨S4096x1, .f32⟩
  | 1 => ⟨S4096x1, .f32⟩
  | 2 => ⟨S4096x1, .f32⟩
  | 3 => ⟨S4096x512, .f32⟩
  | 4 => ⟨S4096x512, .f32⟩
  | 5 => ⟨S4096x2048, .f32⟩
  | 6 => ⟨S4096x128, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S_, .i32⟩
  | 19 => ⟨S_, .f32⟩
  | 20 => ⟨S4126x512, .f32⟩
  | 21 => ⟨S4096, .i32⟩
  | 22 => ⟨S4096x1, .i32⟩
  | 23 => ⟨S31, .i32⟩
  | 24 => ⟨S1x31, .i32⟩
  | 25 => ⟨S4096x31, .i32⟩
  | 26 => ⟨S4096x31, .i32⟩
  | 27 => ⟨S4096x31, .i32⟩
  | 28 => ⟨S_, .i32⟩
  | 29 => ⟨S4096x31, .i32⟩
  | 30 => ⟨S4096x31, .i1⟩
  | 31 => ⟨S_, .i32⟩
  | 32 => ⟨S4096x31, .i32⟩
  | 33 => ⟨S4096x31, .i32⟩
  | 34 => ⟨S4096x31, .i32⟩
  | 35 => ⟨S4096x31x1, .i32⟩
  | 36 => ⟨S4096x31x512, .f32⟩
  | 37 => ⟨S1x31x512, .f32⟩
  | 38 => ⟨S4096x31x512, .f32⟩
  | 39 => ⟨S4096x31x512, .f32⟩
  | 40 => ⟨S_, .f32⟩
  | 41 => ⟨S4096x512, .f32⟩
  | 42 => ⟨S1x512, .f32⟩
  | 43 => ⟨S4096x512, .f32⟩
  | 44 => ⟨S4096x512, .f32⟩
  | 45 => ⟨S4096x1024, .f32⟩
  | 46 => ⟨S4096x1024, .bf16⟩
  | 47 => ⟨S1x1024, .f32⟩
  | 48 => ⟨S1x512, .f32⟩
  | 49 => ⟨S1x512, .f32⟩
  | 50 => ⟨S1x512, .f32⟩
  | 51 => ⟨S1x512, .f32⟩
  | 52 => ⟨S1x512, .f32⟩
  | 53 => ⟨S4096x1024, .f32⟩
  | 54 => ⟨S4096x1024, .bf16⟩
  | 55 => ⟨S4096x2048, .bf16⟩
  | 56 => ⟨S1024x4096, .bf16⟩
  | 57 => ⟨S1024x4096, .bf16⟩
  | 58 => ⟨S1x1024, .f32⟩
  | 59 => ⟨S1x512, .f32⟩
  | 60 => ⟨S1x512, .f32⟩
  | 61 => ⟨S4x128x128, .f32⟩
  | 62 => ⟨S4x128x128, .f32⟩
  | 63 => ⟨S32x512, .f32⟩
  | 64 => ⟨S1x512, .f32⟩
  | 65 => ⟨S1x512, .f32⟩
  | 66 => ⟨S1x512, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S256x512, .f32⟩
  | .local _ .vmem, ⟨13, _⟩ => ⟨S256x512, .f32⟩
  | .local _ .vmem, ⟨14, _⟩ => ⟨S256x2048, .f32⟩
  | .local _ .vmem, ⟨15, _⟩ => ⟨S256x2048, .f32⟩
  | .local _ .vmem, ⟨16, _⟩ => ⟨S256x128, .f32⟩
  | .local _ .vmem, ⟨17, _⟩ => ⟨S256x128, .f32⟩
  | .local _ .vmem, ⟨18, _⟩ => ⟨S1x1024, .f32⟩
  | .local _ .vmem, ⟨19, _⟩ => ⟨S4x1024x512, .bf16⟩
  | .local _ .vmem, ⟨20, _⟩ => ⟨S1x512, .f32⟩
  | .local _ .vmem, ⟨21, _⟩ => ⟨S1x512, .f32⟩
  | .local _ .vmem, ⟨22, _⟩ => ⟨S4x128x128, .f32⟩
  | .local _ .vmem, ⟨23, _⟩ => ⟨S4x128x128, .f32⟩
  | .local _ .vmem, ⟨24, _⟩ => ⟨S4x128x128, .f32⟩
  | .local _ .vmem, ⟨25, _⟩ => ⟨S32x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S4x256x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x2048, .bf16⟩
  | .local _ .vmem, ⟨35, _⟩ => ⟨S256x2048, .bf16⟩
  | .local _ .vmem, ⟨36, _⟩ => ⟨S1024x256, .bf16⟩
  | .local _ .vmem, ⟨37, _⟩ => ⟨S1024x256, .bf16⟩
  | .local _ .vmem, ⟨38, _⟩ => ⟨S1024x256, .bf16⟩
  | .local _ .vmem, ⟨39, _⟩ => ⟨S1024x256, .bf16⟩
  | .local _ .vmem, ⟨40, _⟩ => ⟨S1x1024, .f32⟩
  | .local _ .vmem, ⟨41, _⟩ => ⟨S1x512, .f32⟩
  | .local _ .vmem, ⟨42, _⟩ => ⟨S1x512, .f32⟩
  | .local _ .vmem, ⟨43, _⟩ => ⟨S4x128x128, .f32⟩
  | .local _ .vmem, ⟨44, _⟩ => ⟨S4x128x128, .f32⟩
  | .local _ .vmem, ⟨45, _⟩ => ⟨S32x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S32x512, .f32⟩
  | .local _ .vmem, ⟨50, _⟩ => ⟨S256x512, .f32⟩
  | .local _ .vmem, ⟨51, _⟩ => ⟨S256x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_20 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_cst_22 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_cst_24 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_25 : Ref sig .tc := ⟨.hbm, 146, rfl⟩
abbrev main_call3_v0 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_26 : Ref sig .tc := ⟨.hbm, 156, rfl⟩
abbrev main_v113 : Ref sig .tc := ⟨.hbm, 157, rfl⟩
abbrev main_v114 : Ref sig .tc := ⟨.hbm, 158, rfl⟩
abbrev main_c_27 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_28 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135_0 : Ref sig .tc := ⟨.hbm, 181, rfl⟩
abbrev main_v135_1 : Ref sig .tc := ⟨.hbm, 182, rfl⟩
abbrev main_v135_2 : Ref sig .tc := ⟨.hbm, 183, rfl⟩
abbrev main_v135_3 : Ref sig .tc := ⟨.hbm, 184, rfl⟩
abbrev main_v135_4 : Ref sig .tc := ⟨.hbm, 185, rfl⟩
abbrev main_v135_5 : Ref sig .tc := ⟨.hbm, 186, rfl⟩
abbrev main_v135_6 : Ref sig .tc := ⟨.hbm, 187, rfl⟩
abbrev main_v135_7 : Ref sig .tc := ⟨.hbm, 188, rfl⟩
abbrev main_v135_8 : Ref sig .tc := ⟨.hbm, 189, rfl⟩
abbrev main_v135_9 : Ref sig .tc := ⟨.hbm, 190, rfl⟩
abbrev main_v135_10 : Ref sig .tc := ⟨.hbm, 191, rfl⟩
abbrev main_v135_11 : Ref sig .tc := ⟨.hbm, 192, rfl⟩
abbrev main_v135_12 : Ref sig .tc := ⟨.hbm, 193, rfl⟩
abbrev main_v135_13 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg28_0 : Ref sig .tc := ⟨.vmem, 42, rfl⟩
abbrev cc0_stg29_0 : Ref sig .tc := ⟨.vmem, 43, rfl⟩
abbrev cc0_stg30_0 : Ref sig .tc := ⟨.vmem, 44, rfl⟩
abbrev cc0_stg31_0 : Ref sig .tc := ⟨.vmem, 45, rfl⟩
abbrev cc0_stg32_0 : Ref sig .tc := ⟨.vmem, 46, rfl⟩
abbrev cc0_stg33_0 : Ref sig .tc := ⟨.vmem, 47, rfl⟩
abbrev cc0_stg34_0 : Ref sig .tc := ⟨.vmem, 48, rfl⟩
abbrev cc0_scratch0 : Ref sig .tc := ⟨.vmem, 49, rfl⟩
abbrev cc0_scratch1 : Ref sig .tc := ⟨.vmem, 50, rfl⟩
abbrev cc0_scratch2 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem27_0 : DmaSem sig := 41
abbrev cc0_sem28_0 : DmaSem sig := 42
abbrev cc0_sem29_0 : DmaSem sig := 43
abbrev cc0_sem30_0 : DmaSem sig := 44
abbrev cc0_sem31_0 : DmaSem sig := 45
abbrev cc0_sem32_0 : DmaSem sig := 46
abbrev cc0_sem33_0 : DmaSem sig := 47
abbrev cc0_sem34_0 : DmaSem sig := 48

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_25 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S4x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S4x128x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S32x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== MixBwdRefIdeal.lean ====
abbrev S1x4096x1024 : Shape := ⟨3, ![1, 4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2048 : Shape := ⟨3, ![1, 4096, 2048]⟩
abbrev S1x4096x512 : Shape := ⟨3, ![1, 4096, 512]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x4096x31 : Shape := ⟨3, ![4096, 4096, 31]⟩
abbrev S1x512x4096x31 : Shape := ⟨4, ![1, 512, 4096, 31]⟩
abbrev S1x4096x31x512 : Shape := ⟨4, ![1, 4096, 31, 512]⟩
abbrev S1x1x31x512 : Shape := ⟨4, ![1, 1, 31, 512]⟩
abbrev S1x4096x4x128 : Shape := ⟨4, ![1, 4096, 4, 128]⟩
abbrev S1x4096x4 : Shape := ⟨3, ![1, 4096, 4]⟩
abbrev S1x4096x4x1 : Shape := ⟨4, ![1, 4096, 4, 1]⟩
abbrev S1x1x4x128 : Shape := ⟨4, ![1, 1, 4, 128]⟩
abbrev S1x4x128 : Shape := ⟨3, ![1, 4, 128]⟩
abbrev S4096x4 : Shape := ⟨2, ![4096, 4]⟩
abbrev S1x512 : Shape := ⟨2, ![1, 512]⟩
abbrev S1x31x512 : Shape := ⟨3, ![1, 31, 512]⟩
abbrev S1x512x4096 : Shape := ⟨3, ![1, 512, 4096]⟩
abbrev S1x128x4 : Shape := ⟨3, ![1, 128, 4]⟩
abbrev S4096 : Shape := ⟨1, ![4096]⟩
abbrev S1x1024 : Shape := ⟨2, ![1, 1024]⟩
abbrev S4096x1024 : Shape := ⟨2, ![4096, 1024]⟩
abbrev S4096x2048 : Shape := ⟨2, ![4096, 2048]⟩
abbrev S1024x4096 : Shape := ⟨2, ![1024, 4096]⟩
abbrev S4x128x1 : Shape := ⟨3, ![4, 128, 1]⟩
abbrev S32x512 : Shape := ⟨2, ![32, 512]⟩

abbrev nBuf : Space → Nat
  | .hbm => 440
  | .vmem => 0
  | .smem => 0
  | _ => 0

abbrev hbmTy0_0 (i : Nat) : BufTy := match i % 128 with
  | 0 => ⟨S1x4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S1x4096x1024, .f32⟩
  | 13 => ⟨S1x4096x1024, .f32⟩
  | 14 => ⟨S_, .f32⟩
  | 15 => ⟨S1x4096, .f32⟩
  | 16 => ⟨S1x4096x1, .f32⟩
  | 17 => ⟨S_, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1, .f32⟩
  | 24 => ⟨S1x4096x1, .f32⟩
  | 25 => ⟨S_, .f32⟩
  | 26 => ⟨S1x4096x1, .f32⟩
  | 27 => ⟨S1x4096x1, .f32⟩
  | 28 => ⟨S1x4096x1024, .f32⟩
  | 29 => ⟨S1x4096x1024, .f32⟩
  | 30 => ⟨S1x1x1024, .f32⟩
  | 31 => ⟨S1x4096x1024, .f32⟩
  | 32 => ⟨S1x4096x1024, .f32⟩
  | 33 => ⟨S1x4096x2048, .f32⟩
  | 34 => ⟨S1x4096x512, .f32⟩
  | 35 => ⟨S1x4096x512, .f32⟩
  | 36 => ⟨S1x4096x512, .f32⟩
  | 37 => ⟨S1x4096x512, .f32⟩
  | 38 => ⟨S_, .f32⟩
  | 39 => ⟨S1x4096x512, .f32⟩
  | 40 => ⟨S1x4096x512, .f32⟩
  | 41 => ⟨S1x4096x512, .f32⟩
  | 42 => ⟨S_, .f32⟩
  | 43 => ⟨S1x4096x512, .f32⟩
  | 44 => ⟨S1x4096x512, .f32⟩
  | 45 => ⟨S1x4096x512, .f32⟩
  | 46 => ⟨S1x4096x512, .f32⟩
  | 47 => ⟨S1x4096x512, .f32⟩
  | 48 => ⟨S1x4096x512, .f32⟩
  | 49 => ⟨S1x4096x512, .f32⟩
  | 50 => ⟨S_, .f32⟩
  | 51 => ⟨S1x4096x512, .f32⟩
  | 52 => ⟨S1x4096x512, .f32⟩
  | 53 => ⟨S1x4096x512, .f32⟩
  | 54 => ⟨S_, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x4096x512, .f32⟩
  | 61 => ⟨S1x4096x512, .f32⟩
  | 62 => ⟨S_, .f32⟩
  | 63 => ⟨S1x4096, .f32⟩
  | 64 => ⟨S1x4096x1, .f32⟩
  | 65 => ⟨S_, .f32⟩
  | 66 => ⟨S1x4096x1, .f32⟩
  | 67 => ⟨S1x4096x1, .f32⟩
  | 68 => ⟨S1x4096x512, .f32⟩
  | 69 => ⟨S1x4096x512, .f32⟩
  | 70 => ⟨S1x4096x512, .f32⟩
  | 71 => ⟨S_, .f32⟩
  | 72 => ⟨S1x4096x512, .f32⟩
  | 73 => ⟨S1x4096x512, .f32⟩
  | 74 => ⟨S_, .f32⟩
  | 75 => ⟨S1x4096, .f32⟩
  | 76 => ⟨S1x4096x1, .f32⟩
  | 77 => ⟨S_, .f32⟩
  | 78 => ⟨S1x4096x1, .f32⟩
  | 79 => ⟨S1x4096x1, .f32⟩
  | 80 => ⟨S1x4096x512, .f32⟩
  | 81 => ⟨S1x4096x512, .f32⟩
  | 82 => ⟨S_, .f32⟩
  | 83 => ⟨S1x4096x1, .f32⟩
  | 84 => ⟨S1x4096x1, .f32⟩
  | 85 => ⟨S1x4096x1, .f32⟩
  | 86 => ⟨S1x4096x1, .f32⟩
  | 87 => ⟨S_, .f32⟩
  | 88 => ⟨S1x4096x1, .f32⟩
  | 89 => ⟨S1x4096x1, .f32⟩
  | 90 => ⟨S1x4096x512, .f32⟩
  | 91 => ⟨S1x4096x512, .f32⟩
  | 92 => ⟨S1x1x512, .f32⟩
  | 93 => ⟨S1x4096x512, .f32⟩
  | 94 => ⟨S1x4096x512, .f32⟩
  | 95 => ⟨S1x1x512, .f32⟩
  | 96 => ⟨S1x4096x512, .f32⟩
  | 97 => ⟨S1x4096x512, .f32⟩
  | 98 => ⟨S1x32x128x4x128, .f32⟩
  | 99 => ⟨S_, .f32⟩
  | 100 => ⟨S128x128, .f32⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .f32⟩
  | 108 => ⟨S128x128, .f32⟩
  | 109 => ⟨S128x128, .f32⟩
  | 110 => ⟨S1x128x128, .f32⟩
  | 111 => ⟨S4x128x128, .f32⟩
  | 112 => ⟨S4x128x128, .f32⟩
  | 113 => ⟨S4x1x32x128x128, .f32⟩
  | 114 => ⟨S1x32x128x4x128, .f32⟩
  | 115 => ⟨S128x4, .f32⟩
  | 116 => ⟨S1x1x128x4x1, .f32⟩
  | 117 => ⟨S1x32x128x4x128, .f32⟩
  | 118 => ⟨S1x32x128x4x128, .f32⟩
  | 119 => ⟨S1x4096x512, .f32⟩
  | 120 => ⟨S1x4096x512, .f32⟩
  | 121 => ⟨S1x4096x512, .f32⟩
  | 122 => ⟨S1x4096x512, .f32⟩
  | 123 => ⟨S_, .f32⟩
  | 124 => ⟨S1x4096x512, .f32⟩
  | 125 => ⟨S1x4096x512, .f32⟩
  | 126 => ⟨S_, .f32⟩
  | 127 => ⟨S1x4096x512, .f32⟩
  | _ => ⟨S1x4096x1024, .f32⟩

abbrev hbmTy0_1 (i : Nat) : BufTy := match i % 128 with
  | 0 => ⟨S1x4096x512, .f32⟩
  | 1 => ⟨S_, .f32⟩
  | 2 => ⟨S1x4096x512, .f32⟩
  | 3 => ⟨S1x4096x512, .f32⟩
  | 4 => ⟨S1x4096x512, .f32⟩
  | 5 => ⟨S1x4096x512, .f32⟩
  | 6 => ⟨S4096x4096x31, .i32⟩
  | 7 => ⟨S4096x4096x31, .i32⟩
  | 8 => ⟨S4096x4096x31, .i32⟩
  | 9 => ⟨S_, .i32⟩
  | 10 => ⟨S4096x4096x31, .i32⟩
  | 11 => ⟨S4096x4096x31, .i32⟩
  | 12 => ⟨S4096x4096x31, .i32⟩
  | 13 => ⟨S4096x4096x31, .i1⟩
  | 14 => ⟨S4096x4096x31, .f32⟩
  | 15 => ⟨S1x512x4096x31, .f32⟩
  | 16 => ⟨S1x4096x31x512, .f32⟩
  | 17 => ⟨S1x1x31x512, .f32⟩
  | 18 => ⟨S1x4096x31x512, .f32⟩
  | 19 => ⟨S1x4096x31x512, .f32⟩
  | 20 => ⟨S_, .f32⟩
  | 21 => ⟨S1x4096x512, .f32⟩
  | 22 => ⟨S1x1x512, .f32⟩
  | 23 => ⟨S1x4096x512, .f32⟩
  | 24 => ⟨S1x4096x512, .f32⟩
  | 25 => ⟨S1x4096x4x128, .f32⟩
  | 26 => ⟨S4x128, .f32⟩
  | 27 => ⟨S4x128, .f32⟩
  | 28 => ⟨S_, .f32⟩
  | 29 => ⟨S1x4096x4, .f32⟩
  | 30 => ⟨S1x4096x4x1, .f32⟩
  | 31 => ⟨S_, .f32⟩
  | 32 => ⟨S1x4096x4x1, .f32⟩
  | 33 => ⟨S1x4096x4x1, .f32⟩
  | 34 => ⟨S1x4096x4x128, .f32⟩
  | 35 => ⟨S1x4096x4x128, .f32⟩
  | 36 => ⟨S1x4096x4x128, .f32⟩
  | 37 => ⟨S_, .f32⟩
  | 38 => ⟨S1x4096x4x128, .f32⟩
  | 39 => ⟨S1x4096x4x128, .f32⟩
  | 40 => ⟨S_, .f32⟩
  | 41 => ⟨S1x4096x4, .f32⟩
  | 42 => ⟨S1x4096x4x1, .f32⟩
  | 43 => ⟨S_, .f32⟩
  | 44 => ⟨S1x4096x4x1, .f32⟩
  | 45 => ⟨S1x4096x4x1, .f32⟩
  | 46 => ⟨S1x4096x4x128, .f32⟩
  | 47 => ⟨S1x4096x4x128, .f32⟩
  | 48 => ⟨S_, .f32⟩
  | 49 => ⟨S1x4096x4x1, .f32⟩
  | 50 => ⟨S1x4096x4x1, .f32⟩
  | 51 => ⟨S1x4096x4x1, .f32⟩
  | 52 => ⟨S1x4096x4x1, .f32⟩
  | 53 => ⟨S_, .f32⟩
  | 54 => ⟨S1x4096x4x1, .f32⟩
  | 55 => ⟨S1x4096x4x1, .f32⟩
  | 56 => ⟨S1x4096x4x128, .f32⟩
  | 57 => ⟨S1x4096x4x128, .f32⟩
  | 58 => ⟨S1x1x4x128, .f32⟩
  | 59 => ⟨S1x4096x4x128, .f32⟩
  | 60 => ⟨S1x4096x4x128, .f32⟩
  | 61 => ⟨S1x1x4x128, .f32⟩
  | 62 => ⟨S1x4096x4x128, .f32⟩
  | 63 => ⟨S1x4096x4x128, .f32⟩
  | 64 => ⟨S1x4096x4x128, .f32⟩
  | 65 => ⟨S1x4096x4x128, .f32⟩
  | 66 => ⟨S_, .f32⟩
  | 67 => ⟨S1x4096x4x128, .f32⟩
  | 68 => ⟨S1x4096x4x128, .f32⟩
  | 69 => ⟨S_, .f32⟩
  | 70 => ⟨S1x4096x4x128, .f32⟩
  | 71 => ⟨S1x4096x4x128, .f32⟩
  | 72 => ⟨S_, .f32⟩
  | 73 => ⟨S1x4096x4x128, .f32⟩
  | 74 => ⟨S1x4096x4x128, .f32⟩
  | 75 => ⟨S1x4096x4x128, .f32⟩
  | 76 => ⟨S1x4096x4x128, .f32⟩
  | 77 => ⟨S1x4096x512, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x512, .f32⟩
  | 84 => ⟨S1x4096x512, .f32⟩
  | 85 => ⟨S1x4096x4x128, .f32⟩
  | 86 => ⟨S1x4096x4x128, .f32⟩
  | 87 => ⟨S1x4096x4x128, .f32⟩
  | 88 => ⟨S1x4096x4x128, .f32⟩
  | 89 => ⟨S1x4096x4x128, .f32⟩
  | 90 => ⟨S_, .f32⟩
  | 91 => ⟨S1x4x128, .f32⟩
  | 92 => ⟨S1x1x4x128, .f32⟩
  | 93 => ⟨S_, .f32⟩
  | 94 => ⟨S4x128, .f32⟩
  | 95 => ⟨S1x4096x4x128, .f32⟩
  | 96 => ⟨S_, .f32⟩
  | 97 => ⟨S1x4x128, .f32⟩
  | 98 => ⟨S1x1x4x128, .f32⟩
  | 99 => ⟨S1x4096x4x128, .f32⟩
  | 100 => ⟨S1x4096x4x128, .f32⟩
  | 101 => ⟨S_, .f32⟩
  | 102 => ⟨S4x128, .f32⟩
  | 103 => ⟨S1x4096x4x128, .f32⟩
  | 104 => ⟨S_, .f32⟩
  | 105 => ⟨S1x4096x4, .f32⟩
  | 106 => ⟨S1x4096x4x1, .f32⟩
  | 107 => ⟨S1x4096x4x128, .f32⟩
  | 108 => ⟨S1x4096x4x128, .f32⟩
  | 109 => ⟨S1x4096x4x1, .f32⟩
  | 110 => ⟨S1x4096x4x128, .f32⟩
  | 111 => ⟨S_, .f32⟩
  | 112 => ⟨S1x4096x4, .f32⟩
  | 113 => ⟨S1x4096x4x1, .f32⟩
  | 114 => ⟨S_, .f32⟩
  | 115 => ⟨S1x4096x4x1, .f32⟩
  | 116 => ⟨S1x4096x4x1, .f32⟩
  | 117 => ⟨S_, .f32⟩
  | 118 => ⟨S4096x4, .f32⟩
  | 119 => ⟨S1x4096x4, .f32⟩
  | 120 => ⟨S1x4096x4x128, .f32⟩
  | 121 => ⟨S1x4096x4x128, .f32⟩
  | 122 => ⟨S1x4096x4x128, .f32⟩
  | 123 => ⟨S_, .f32⟩
  | 124 => ⟨S1x4096x4, .f32⟩
  | 125 => ⟨S1x4096x4x1, .f32⟩
  | 126 => ⟨S1x4096x4x128, .f32⟩
  | 127 => ⟨S1x4096x4x1, .f32⟩
  | _ => ⟨S1x4096x1024, .f32⟩

abbrev hbmTy0_2 (i : Nat) : BufTy := match i % 128 with
  | 0 => ⟨S_, .f32⟩
  | 1 => ⟨S1x4096x4x1, .f32⟩
  | 2 => ⟨S1x4096x4x1, .f32⟩
  | 3 => ⟨S_, .f32⟩
  | 4 => ⟨S4096x4, .f32⟩
  | 5 => ⟨S1x4096x4, .f32⟩
  | 6 => ⟨S1x4096x4x128, .f32⟩
  | 7 => ⟨S1x4096x4x128, .f32⟩
  | 8 => ⟨S512, .f32⟩
  | 9 => ⟨S512, .f32⟩
  | 10 => ⟨S1x4096x512, .f32⟩
  | 11 => ⟨S_, .f32⟩
  | 12 => ⟨S1x512, .f32⟩
  | 13 => ⟨S1x1x512, .f32⟩
  | 14 => ⟨S_, .f32⟩
  | 15 => ⟨S512, .f32⟩
  | 16 => ⟨S1x4096x31x512, .f32⟩
  | 17 => ⟨S1x4096x31x512, .f32⟩
  | 18 => ⟨S_, .f32⟩
  | 19 => ⟨S1x31x512, .f32⟩
  | 20 => ⟨S1x1x31x512, .f32⟩
  | 21 => ⟨S1x4096x31x512, .f32⟩
  | 22 => ⟨S1x4096x31x512, .f32⟩
  | 23 => ⟨S_, .f32⟩
  | 24 => ⟨S31x512, .f32⟩
  | 25 => ⟨S1x512x4096x31, .f32⟩
  | 26 => ⟨S1x512x4096, .f32⟩
  | 27 => ⟨S1x4096x512, .f32⟩
  | 28 => ⟨S1x4096x512, .f32⟩
  | 29 => ⟨S1x4096x512, .f32⟩
  | 30 => ⟨S1x4096x512, .f32⟩
  | 31 => ⟨S1x4096x512, .f32⟩
  | 32 => ⟨S1x4096x512, .f32⟩
  | 33 => ⟨S1x32x128x4x128, .f32⟩
  | 34 => ⟨S_, .f32⟩
  | 35 => ⟨S1x128x4, .f32⟩
  | 36 => ⟨S1x1x128x4x1, .f32⟩
  | 37 => ⟨S_, .f32⟩
  | 38 => ⟨S128x4, .f32⟩
  | 39 => ⟨S4x128, .f32⟩
  | 40 => ⟨S4x1x32x128x128, .f32⟩
  | 41 => ⟨S4x128x128, .f32⟩
  | 42 => ⟨S4x1x32x128x128, .f32⟩
  | 43 => ⟨S1x32x128x4x128, .f32⟩
  | 44 => ⟨S4x128x128, .f32⟩
  | 45 => ⟨S4x128x128, .f32⟩
  | 46 => ⟨S1x4096x512, .f32⟩
  | 47 => ⟨S_, .f32⟩
  | 48 => ⟨S1x512, .f32⟩
  | 49 => ⟨S1x1x512, .f32⟩
  | 50 => ⟨S_, .f32⟩
  | 51 => ⟨S512, .f32⟩
  | 52 => ⟨S1x4096x512, .f32⟩
  | 53 => ⟨S_, .f32⟩
  | 54 => ⟨S1x512, .f32⟩
  | 55 => ⟨S1x1x512, .f32⟩
  | 56 => ⟨S1x4096x512, .f32⟩
  | 57 => ⟨S1x4096x512, .f32⟩
  | 58 => ⟨S_, .f32⟩
  | 59 => ⟨S512, .f32⟩
  | 60 => ⟨S1x4096x512, .f32⟩
  | 61 => ⟨S_, .f32⟩
  | 62 => ⟨S1x4096, .f32⟩
  | 63 => ⟨S1x4096x1, .f32⟩
  | 64 => ⟨S1x4096x512, .f32⟩
  | 65 => ⟨S1x4096x512, .f32⟩
  | 66 => ⟨S1x4096x1, .f32⟩
  | 67 => ⟨S1x4096x512, .f32⟩
  | 68 => ⟨S_, .f32⟩
  | 69 => ⟨S1x4096, .f32⟩
  | 70 => ⟨S1x4096x1, .f32⟩
  | 71 => ⟨S_, .f32⟩
  | 72 => ⟨S1x4096x1, .f32⟩
  | 73 => ⟨S1x4096x1, .f32⟩
  | 74 => ⟨S_, .f32⟩
  | 75 => ⟨S4096, .f32⟩
  | 76 => ⟨S1x4096, .f32⟩
  | 77 => ⟨S1x4096x512, .f32⟩
  | 78 => ⟨S1x4096x512, .f32⟩
  | 79 => ⟨S1x4096x512, .f32⟩
  | 80 => ⟨S_, .f32⟩
  | 81 => ⟨S1x4096, .f32⟩
  | 82 => ⟨S1x4096x1, .f32⟩
  | 83 => ⟨S1x4096x512, .f32⟩
  | 84 => ⟨S1x4096x1, .f32⟩
  | 85 => ⟨S_, .f32⟩
  | 86 => ⟨S1x4096x1, .f32⟩
  | 87 => ⟨S1x4096x1, .f32⟩
  | 88 => ⟨S_, .f32⟩
  | 89 => ⟨S4096, .f32⟩
  | 90 => ⟨S1x4096, .f32⟩
  | 91 => ⟨S1x4096x512, .f32⟩
  | 92 => ⟨S1x4096x512, .f32⟩
  | 93 => ⟨S1x4096x512, .f32⟩
  | 94 => ⟨S1x4096x512, .f32⟩
  | 95 => ⟨S_, .f32⟩
  | 96 => ⟨S1x4096x512, .f32⟩
  | 97 => ⟨S1x4096x512, .f32⟩
  | 98 => ⟨S1x4096x512, .f32⟩
  | 99 => ⟨S_, .f32⟩
  | 100 => ⟨S1x4096x512, .f32⟩
  | 101 => ⟨S1x4096x512, .f32⟩
  | 102 => ⟨S1x4096x512, .f32⟩
  | 103 => ⟨S_, .f32⟩
  | 104 => ⟨S1x4096x512, .f32⟩
  | 105 => ⟨S1x4096x512, .f32⟩
  | 106 => ⟨S1x4096x512, .f32⟩
  | 107 => ⟨S1x4096x512, .f32⟩
  | 108 => ⟨S1x4096x512, .f32⟩
  | 109 => ⟨S_, .f32⟩
  | 110 => ⟨S1x4096x512, .f32⟩
  | 111 => ⟨S1x4096x512, .f32⟩
  | 112 => ⟨S1x4096x512, .f32⟩
  | 113 => ⟨S_, .f32⟩
  | 114 => ⟨S1x4096x512, .f32⟩
  | 115 => ⟨S1x4096x512, .f32⟩
  | 116 => ⟨S1x4096x512, .f32⟩
  | 117 => ⟨S_, .f32⟩
  | 118 => ⟨S1x4096x512, .f32⟩
  | 119 => ⟨S1x4096x512, .f32⟩
  | 120 => ⟨S1x4096x512, .f32⟩
  | 121 => ⟨S_, .f32⟩
  | 122 => ⟨S1x4096x2048, .f32⟩
  | 123 => ⟨S_, .f32⟩
  | 124 => ⟨S1x4096x2048, .f32⟩
  | 125 => ⟨S1x4096x2048, .f32⟩
  | 126 => ⟨S_, .f32⟩
  | 127 => ⟨S1x4096x2048, .f32⟩
  | _ => ⟨S1x4096x1024, .f32⟩

abbrev hbmTy0_3 (i : Nat) : BufTy := match i % 128 with
  | 0 => ⟨S1x4096x2048, .f32⟩
  | 1 => ⟨S_, .f32⟩
  | 2 => ⟨S1x4096x2048, .f32⟩
  | 3 => ⟨S1x4096x2048, .f32⟩
  | 4 => ⟨S_, .f32⟩
  | 5 => ⟨S1x4096x1024, .f32⟩
  | 6 => ⟨S1x4096x1024, .f32⟩
  | 7 => ⟨S1x4096x1024, .f32⟩
  | 8 => ⟨S1x4096x1024, .f32⟩
  | 9 => ⟨S_, .f32⟩
  | 10 => ⟨S1x1024, .f32⟩
  | 11 => ⟨S1x1x1024, .f32⟩
  | 12 => ⟨S1x4096x1024, .f32⟩
  | 13 => ⟨S1x4096x1024, .f32⟩
  | 14 => ⟨S_, .f32⟩
  | 15 => ⟨S1024, .f32⟩
  | 16 => ⟨S1x4096x1024, .f32⟩
  | 17 => ⟨S_, .f32⟩
  | 18 => ⟨S1x4096, .f32⟩
  | 19 => ⟨S1x4096x1, .f32⟩
  | 20 => ⟨S1x4096x1024, .f32⟩
  | 21 => ⟨S1x4096x1024, .f32⟩
  | 22 => ⟨S1x4096x1, .f32⟩
  | 23 => ⟨S_, .f32⟩
  | 24 => ⟨S1x4096x1, .f32⟩
  | 25 => ⟨S1x4096x1, .f32⟩
  | 26 => ⟨S_, .f32⟩
  | 27 => ⟨S4096, .f32⟩
  | 28 => ⟨S1x4096, .f32⟩
  | 29 => ⟨S1x4096x1024, .f32⟩
  | 30 => ⟨S1x4096x1024, .f32⟩
  | 31 => ⟨S1x4096x1024, .f32⟩
  | 32 => ⟨S1x4096x1024, .f32⟩
  | 33 => ⟨S1x4096x1024, .f32⟩
  | 34 => ⟨S1x4096x1024, .f32⟩
  | 35 => ⟨S4096x1024, .f32⟩
  | 36 => ⟨S4096x1024, .bf16⟩
  | 37 => ⟨S4096x2048, .f32⟩
  | 38 => ⟨S4096x2048, .bf16⟩
  | 39 => ⟨S4096x1024, .f32⟩
  | 40 => ⟨S1024x4096, .f32⟩
  | 41 => ⟨S1024x4096, .bf16⟩
  | 42 => ⟨S4096x1024, .f32⟩
  | 43 => ⟨S1024x4096, .f32⟩
  | 44 => ⟨S1024x4096, .bf16⟩
  | 45 => ⟨S1x1024, .f32⟩
  | 46 => ⟨S1x512, .f32⟩
  | 47 => ⟨S1x512, .f32⟩
  | 48 => ⟨S4x128x1, .f32⟩
  | 49 => ⟨S4x128x128, .f32⟩
  | 50 => ⟨S_, .i32⟩
  | 51 => ⟨S_, .f32⟩
  | 52 => ⟨S32x512, .f32⟩
  | 53 => ⟨S1x512, .f32⟩
  | 54 => ⟨S1x512, .f32⟩
  | 55 => ⟨S1x512, .f32⟩
  | _ => ⟨S1x4096x1024, .f32⟩

abbrev hbmTy (i : Nat) : BufTy := match i / 128 with
  | 0 => hbmTy0_0 i
  | 1 => hbmTy0_1 i
  | 2 => hbmTy0_2 i
  | 3 => hbmTy0_3 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_cst : Ref sig .tc := ⟨.hbm, 107, rfl⟩
abbrev main_call0_v5 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_18 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_19 : Ref sig .tc := ⟨.hbm, 156, rfl⟩
abbrev main_v114 : Ref sig .tc := ⟨.hbm, 157, rfl⟩
abbrev main_v115 : Ref sig .tc := ⟨.hbm, 158, rfl⟩
abbrev main_cst_20 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_21 : Ref sig .tc := ⟨.hbm, 165, rfl⟩
abbrev main_v121 : Ref sig .tc := ⟨.hbm, 166, rfl⟩
abbrev main_v122 : Ref sig .tc := ⟨.hbm, 167, rfl⟩
abbrev main_cst_22 : Ref sig .tc := ⟨.hbm, 168, rfl⟩
abbrev main_v123 : Ref sig .tc := ⟨.hbm, 169, rfl⟩
abbrev main_v124 : Ref sig .tc := ⟨.hbm, 170, rfl⟩
abbrev main_cst_23 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_24 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_25 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_call1_v0 : Ref sig .tc := ⟨.hbm, 192, rfl⟩
abbrev main_call1_v1 : Ref sig .tc := ⟨.hbm, 193, rfl⟩
abbrev main_call1_cst : Ref sig .tc := ⟨.hbm, 194, rfl⟩
abbrev main_call1_v2 : Ref sig .tc := ⟨.hbm, 195, rfl⟩
abbrev main_call1_v3 : Ref sig .tc := ⟨.hbm, 196, rfl⟩
abbrev main_call1_cst_0 : Ref sig .tc := ⟨.hbm, 197, rfl⟩
abbrev main_call1_v4 : Ref sig .tc := ⟨.hbm, 198, rfl⟩
abbrev main_v143_2 : Ref sig .tc := ⟨.hbm, 199, rfl⟩
abbrev main_call1_cst_1 : Ref sig .tc := ⟨.hbm, 200, rfl⟩
abbrev main_call1_v6 : Ref sig .tc := ⟨.hbm, 201, rfl⟩
abbrev main_call1_v7 : Ref sig .tc := ⟨.hbm, 202, rfl⟩
abbrev main_v143_1 : Ref sig .tc := ⟨.hbm, 203, rfl⟩
abbrev main_v143_0 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_call2_v0 : Ref sig .tc := ⟨.hbm, 214, rfl⟩
abbrev main_call2_v1 : Ref sig .tc := ⟨.hbm, 215, rfl⟩
abbrev main_call2_v2 : Ref sig .tc := ⟨.hbm, 216, rfl⟩
abbrev main_v153 : Ref sig .tc := ⟨.hbm, 217, rfl⟩
abbrev main_cst_26 : Ref sig .tc := ⟨.hbm, 218, rfl⟩
abbrev main_v154 : Ref sig .tc := ⟨.hbm, 219, rfl⟩
abbrev main_v155 : Ref sig .tc := ⟨.hbm, 220, rfl⟩
abbrev main_cst_27 : Ref sig .tc := ⟨.hbm, 221, rfl⟩
abbrev main_v156 : Ref sig .tc := ⟨.hbm, 222, rfl⟩
abbrev main_v157 : Ref sig .tc := ⟨.hbm, 223, rfl⟩
abbrev main_cst_28 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_29 : Ref sig .tc := ⟨.hbm, 229, rfl⟩
abbrev main_v162 : Ref sig .tc := ⟨.hbm, 230, rfl⟩
abbrev main_v163 : Ref sig .tc := ⟨.hbm, 231, rfl⟩
abbrev main_cst_30 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_cst_31 : Ref sig .tc := ⟨.hbm, 239, rfl⟩
abbrev main_v170 : Ref sig .tc := ⟨.hbm, 240, rfl⟩
abbrev main_v171 : Ref sig .tc := ⟨.hbm, 241, rfl⟩
abbrev main_cst_32 : Ref sig .tc := ⟨.hbm, 242, rfl⟩
abbrev main_v172 : Ref sig .tc := ⟨.hbm, 243, rfl⟩
abbrev main_v173 : Ref sig .tc := ⟨.hbm, 244, rfl⟩
abbrev main_cst_33 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_34 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_cst_35 : Ref sig .tc := ⟨.hbm, 256, rfl⟩
abbrev main_v183 : Ref sig .tc := ⟨.hbm, 257, rfl⟩
abbrev main_v184 : Ref sig .tc := ⟨.hbm, 258, rfl⟩
abbrev main_cst_36 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_cst_37 : Ref sig .tc := ⟨.hbm, 267, rfl⟩
abbrev main_v192 : Ref sig .tc := ⟨.hbm, 268, rfl⟩
abbrev main_v193 : Ref sig .tc := ⟨.hbm, 269, rfl⟩
abbrev main_cst_38 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_cst_39 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_cst_40 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_cst_41 : Ref sig .tc := ⟨.hbm, 290, rfl⟩
abbrev main_v211 : Ref sig .tc := ⟨.hbm, 291, rfl⟩
abbrev main_v212 : Ref sig .tc := ⟨.hbm, 292, rfl⟩
abbrev main_cst_42 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_cst_43 : Ref sig .tc := ⟨.hbm, 303, rfl⟩
abbrev main_v222 : Ref sig .tc := ⟨.hbm, 304, rfl⟩
abbrev main_v223 : Ref sig .tc := ⟨.hbm, 305, rfl⟩
abbrev main_cst_44 : Ref sig .tc := ⟨.hbm, 306, rfl⟩
abbrev main_v224 : Ref sig .tc := ⟨.hbm, 307, rfl⟩
abbrev main_v225 : Ref sig .tc := ⟨.hbm, 308, rfl⟩
abbrev main_cst_45 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_cst_46 : Ref sig .tc := ⟨.hbm, 314, rfl⟩
abbrev main_v230 : Ref sig .tc := ⟨.hbm, 315, rfl⟩
abbrev main_v231 : Ref sig .tc := ⟨.hbm, 316, rfl⟩
abbrev main_cst_47 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_cst_48 : Ref sig .tc := ⟨.hbm, 324, rfl⟩
abbrev main_v238 : Ref sig .tc := ⟨.hbm, 325, rfl⟩
abbrev main_v239 : Ref sig .tc := ⟨.hbm, 326, rfl⟩
abbrev main_cst_49 : Ref sig .tc := ⟨.hbm, 327, rfl⟩
abbrev main_v240 : Ref sig .tc := ⟨.hbm, 328, rfl⟩
abbrev main_v241 : Ref sig .tc := ⟨.hbm, 329, rfl⟩
abbrev main_cst_50 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_cst_51 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_cst_52 : Ref sig .tc := ⟨.hbm, 341, rfl⟩
abbrev main_v251 : Ref sig .tc := ⟨.hbm, 342, rfl⟩
abbrev main_v252 : Ref sig .tc := ⟨.hbm, 343, rfl⟩
abbrev main_cst_53 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_cst_54 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_cst_55 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_cst_56 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_cst_57 : Ref sig .tc := ⟨.hbm, 365, rfl⟩
abbrev main_v270 : Ref sig .tc := ⟨.hbm, 366, rfl⟩
abbrev main_v271 : Ref sig .tc := ⟨.hbm, 367, rfl⟩
abbrev main_v272 : Ref sig .tc := ⟨.hbm, 368, rfl⟩
abbrev main_cst_58 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_cst_59 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_cst_60 : Ref sig .tc := ⟨.hbm, 377, rfl⟩
abbrev main_v279 : Ref sig .tc := ⟨.hbm, 378, rfl⟩
abbrev main_cst_61 : Ref sig .tc := ⟨.hbm, 379, rfl⟩
abbrev main_v280 : Ref sig .tc := ⟨.hbm, 380, rfl⟩
abbrev main_v281 : Ref sig .tc := ⟨.hbm, 381, rfl⟩
abbrev main_cst_62 : Ref sig .tc := ⟨.hbm, 382, rfl⟩
abbrev main_v282 : Ref sig .tc := ⟨.hbm, 383, rfl⟩
abbrev main_v283 : Ref sig .tc := ⟨.hbm, 384, rfl⟩
abbrev main_cst_63 : Ref sig .tc := ⟨.hbm, 385, rfl⟩
abbrev main_v284 : Ref sig .tc := ⟨.hbm, 386, rfl⟩
abbrev main_v285 : Ref sig .tc := ⟨.hbm, 387, rfl⟩
abbrev main_cst_64 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_v289 : Ref sig .tc := ⟨.hbm, 392, rfl⟩
abbrev main_cst_65 : Ref sig .tc := ⟨.hbm, 393, rfl⟩
abbrev main_v290 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_cst_66 : Ref sig .tc := ⟨.hbm, 398, rfl⟩
abbrev main_v294 : Ref sig .tc := ⟨.hbm, 399, rfl⟩
abbrev main_v295 : Ref sig .tc := ⟨.hbm, 400, rfl⟩
abbrev main_cst_67 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_cst_68 : Ref sig .tc := ⟨.hbm, 407, rfl⟩
abbrev main_v301 : Ref sig .tc := ⟨.hbm, 408, rfl⟩
abbrev main_v302 : Ref sig .tc := ⟨.hbm, 409, rfl⟩
abbrev main_cst_69 : Ref sig .tc := ⟨.hbm, 410, rfl⟩
abbrev main_v303 : Ref sig .tc := ⟨.hbm, 411, rfl⟩
abbrev main_v304 : Ref sig .tc := ⟨.hbm, 412, rfl⟩
abbrev main_v305 : Ref sig .tc := ⟨.hbm, 413, rfl⟩
abbrev main_v306 : Ref sig .tc := ⟨.hbm, 414, rfl⟩
abbrev main_v307 : Ref sig .tc := ⟨.hbm, 415, rfl⟩
abbrev main_v308 : Ref sig .tc := ⟨.hbm, 416, rfl⟩
abbrev main_v309 : Ref sig .tc := ⟨.hbm, 417, rfl⟩
abbrev main_v310 : Ref sig .tc := ⟨.hbm, 418, rfl⟩
abbrev main_v311 : Ref sig .tc := ⟨.hbm, 419, rfl⟩
abbrev main_v312 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_c_70 : Ref sig .tc := ⟨.hbm, 434, rfl⟩
abbrev main_call3_v0 : Ref sig .tc := ⟨.hbm, 435, rfl⟩
abbrev main_v326 : Ref sig .tc := ⟨.hbm, 436, rfl⟩
abbrev main_v327 : Ref sig .tc := ⟨.hbm, 437, rfl⟩
abbrev main_v328 : Ref sig .tc := ⟨.hbm, 438, rfl⟩
abbrev main_v329 : Ref sig .tc := ⟨.hbm, 439, rfl⟩

abbrev nD : Nat := 1
abbrev τ : Topo := Topo.v7x

variable {F : FTy → Type} [FloatOps F]
-- ==== FfnFwd.lean ====
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4x1024x1024, .f32⟩
  | .hbm, ⟨8, _⟩ => ⟨S4x1024x1024, .bf16⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFwdRefIdeal.lean ====
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x4096, .f32⟩
  | .hbm, ⟨21, _⟩ => ⟨S_, .f32⟩
  | .hbm, ⟨22, _⟩ => ⟨S1x4096x4096, .f32⟩
  | .hbm, ⟨23, _⟩ => ⟨S1x4096x4096, .f32⟩
  | .hbm, ⟨24, _⟩ => ⟨S1x4096x4096, .f32⟩
  | .hbm, ⟨25, _⟩ => ⟨S1x4096x1024, .f32⟩
  | .hbm, ⟨26, _⟩ => ⟨S1x4096x1024, .f32⟩
  | .hbm, ⟨27, _⟩ => ⟨S4096x1024, .f32⟩
  | .hbm, ⟨28, _⟩ => ⟨S4096x4096, .f32⟩
  | .hbm, ⟨29, _⟩ => ⟨S4096x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== MixFwd.lean ====
abbrev S1x4096x1024 : Shape := ⟨3, ![1, 4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S1024x4x512 : Shape := ⟨3, ![1024, 4, 512]⟩
abbrev S4x1024x512 : Shape := ⟨3, ![4, 1024, 512]⟩
abbrev S4x256x1024 : Shape := ⟨3, ![4, 256, 1024]⟩
abbrev S_ : Shape := ⟨0, ![]⟩
abbrev S32x512 : Shape := ⟨2, ![32, 512]⟩
abbrev S4x128x1 : Shape := ⟨3, ![4, 128, 1]⟩
abbrev S4096x1024 : Shape := ⟨2, ![4096, 1024]⟩
abbrev S1x1024 : Shape := ⟨2, ![1, 1024]⟩
abbrev S1x512 : Shape := ⟨2, ![1, 512]⟩
abbrev S4096x2048 : Shape := ⟨2, ![4096, 2048]⟩
abbrev S4096x512 : Shape := ⟨2, ![4096, 512]⟩
abbrev S4096x128 : Shape := ⟨2, ![4096, 128]⟩
abbrev S256x1024 : Shape := ⟨2, ![256, 1024]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S128x128 : Shape := ⟨2, ![128, 128]⟩
abbrev S1x128x128 : Shape := ⟨3, ![1, 128, 128]⟩
abbrev S288x512 : Shape := ⟨2, ![288, 512]⟩
abbrev S256x256 : Shape := ⟨2, ![256, 256]⟩
abbrev S1x256x1024 : Shape := ⟨3, ![1, 256, 1024]⟩

abbrev nBuf : Space → Nat
  | .hbm => 34
  | .vmem => 25
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x2048, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024x4x512, .f32⟩
  | .hbm, ⟨13, _⟩ => ⟨S4x1024x512, .f32⟩
  | .hbm, ⟨14, _⟩ => ⟨S4x1024x512, .bf16⟩
  | .hbm, ⟨15, _⟩ => ⟨S4x256x1024, .f32⟩
  | .hbm, ⟨16, _⟩ => ⟨S4x256x1024, .bf16⟩
  | .hbm, ⟨17, _⟩ => ⟨S_, .i32⟩
  | .hbm, ⟨18, _⟩ => ⟨S_, .f32⟩
  | .hbm, ⟨19, _⟩ => ⟨S32x512, .f32⟩
  | .hbm, ⟨20, _⟩ => ⟨S4x128x1, .f32⟩
  | .hbm, ⟨21, _⟩ => ⟨S4x128x128, .f32⟩
  | .hbm, ⟨22, _⟩ => ⟨S4096x1024, .f32⟩
  | .hbm, ⟨23, _⟩ => ⟨S1x1024, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S4096x1024, .f32⟩
  | .hbm, ⟨30, _⟩ => ⟨S4096x2048, .f32⟩
  | .hbm, ⟨31, _⟩ => ⟨S4096x512, .f32⟩
  | .hbm, ⟨32, _⟩ => ⟨S4096x2048, .f32⟩
  | .hbm, ⟨33, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x512, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x128, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S4x256x1024, .bf16⟩
  | .local _ .vmem, ⟨13, _⟩ => ⟨S256x1024, .f32⟩
  | .local _ .vmem, ⟨14, _⟩ => ⟨S256x1024, .f32⟩
  | .local _ .vmem, ⟨15, _⟩ => ⟨S256x2048, .f32⟩
  | .local _ .vmem, ⟨16, _⟩ => ⟨S256x2048, .f32⟩
  | .local _ .vmem, ⟨17, _⟩ => ⟨S256x512, .f32⟩
  | .local _ .vmem, ⟨18, _⟩ => ⟨S256x512, .f32⟩
  | .local _ .vmem, ⟨19, _⟩ => ⟨S256x2048, .f32⟩
  | .local _ .vmem, ⟨20, _⟩ => ⟨S256x2048, .f32⟩
  | .local _ .vmem, ⟨21, _⟩ => ⟨S256x128, .f32⟩
  | .local _ .vmem, ⟨22, _⟩ => ⟨S256x128, .f32⟩
  | .local _ .vmem, ⟨23, _⟩ => ⟨S32x512, .f32⟩
  | .local _ .vmem, ⟨24, _⟩ => ⟨S256x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixFwdRefIdeal.lean ====
abbrev S1x4096x1024 : Shape := ⟨3, ![1, 4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2048 : Shape := ⟨3, ![1, 4096, 2048]⟩
abbrev S1x4096x512 : Shape := ⟨3, ![1, 4096, 512]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x4096x31 : Shape := ⟨3, ![4096, 4096, 31]⟩
abbrev S1x512x4096x31 : Shape := ⟨4, ![1, 512, 4096, 31]⟩
abbrev S1x4096x31x512 : Shape := ⟨4, ![1, 4096, 31, 512]⟩
abbrev S1x1x31x512 : Shape := ⟨4, ![1, 1, 31, 512]⟩
abbrev S1x4096x4x128 : Shape := ⟨4, ![1, 4096, 4, 128]⟩
abbrev S1x4096x4 : Shape := ⟨3, ![1, 4096, 4]⟩
abbrev S1x4096x4x1 : Shape := ⟨4, ![1, 4096, 4, 1]⟩
abbrev S1x1x4x128 : Shape := ⟨4, ![1, 1, 4, 128]⟩
abbrev S4096x1024 : Shape := ⟨2, ![4096, 1024]⟩
abbrev S4096x2048 : Shape := ⟨2, ![4096, 2048]⟩
abbrev S4096x512 : Shape := ⟨2, ![4096, 512]⟩
abbrev S4096x1 : Shape := ⟨2, ![4096, 1]⟩
abbrev S4096x128 : Shape := ⟨2, ![4096, 128]⟩

abbrev nBuf : Space → Nat
  | .hbm => 294
  | .vmem => 0
  | .smem => 0
  | _ => 0

abbrev hbmTy0_0 (i : Nat) : BufTy := match i % 128 with
  | 0 => ⟨S1x4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S1x4096x1024, .f32⟩
  | 13 => ⟨S_, .f32⟩
  | 14 => ⟨S1x4096, .f32⟩
  | 15 => ⟨S1x4096x1, .f32⟩
  | 16 => ⟨S_, .f32⟩
  | 17 => ⟨S1x4096x1, .f32⟩
  | 18 => ⟨S1x4096x1, .f32⟩
  | 19 => ⟨S_, .f32⟩
  | 20 => ⟨S1x4096x1, .f32⟩
  | 21 => ⟨S1x4096x1, .f32⟩
  | 22 => ⟨S1x4096x1, .f32⟩
  | 23 => ⟨S1x4096x1024, .f32⟩
  | 24 => ⟨S1x4096x1024, .f32⟩
  | 25 => ⟨S1x1x1024, .f32⟩
  | 26 => ⟨S1x4096x1024, .f32⟩
  | 27 => ⟨S1x4096x1024, .f32⟩
  | 28 => ⟨S1x4096x2048, .f32⟩
  | 29 => ⟨S1x4096x512, .f32⟩
  | 30 => ⟨S1x4096x512, .f32⟩
  | 31 => ⟨S1x4096x512, .f32⟩
  | 32 => ⟨S1x4096x512, .f32⟩
  | 33 => ⟨S_, .f32⟩
  | 34 => ⟨S1x4096x512, .f32⟩
  | 35 => ⟨S1x4096x512, .f32⟩
  | 36 => ⟨S1x4096x512, .f32⟩
  | 37 => ⟨S_, .f32⟩
  | 38 => ⟨S1x4096x512, .f32⟩
  | 39 => ⟨S1x4096x512, .f32⟩
  | 40 => ⟨S1x4096x512, .f32⟩
  | 41 => ⟨S1x4096x512, .f32⟩
  | 42 => ⟨S_, .f32⟩
  | 43 => ⟨S1x4096x512, .f32⟩
  | 44 => ⟨S1x4096x512, .f32⟩
  | 45 => ⟨S1x4096x512, .f32⟩
  | 46 => ⟨S_, .f32⟩
  | 47 => ⟨S1x4096x512, .f32⟩
  | 48 => ⟨S1x4096x512, .f32⟩
  | 49 => ⟨S1x4096x512, .f32⟩
  | 50 => ⟨S1x4096x512, .f32⟩
  | 51 => ⟨S_, .f32⟩
  | 52 => ⟨S1x4096, .f32⟩
  | 53 => ⟨S1x4096x1, .f32⟩
  | 54 => ⟨S_, .f32⟩
  | 55 => ⟨S1x4096x1, .f32⟩
  | 56 => ⟨S1x4096x1, .f32⟩
  | 57 => ⟨S1x4096x512, .f32⟩
  | 58 => ⟨S1x4096x512, .f32⟩
  | 59 => ⟨S1x4096x512, .f32⟩
  | 60 => ⟨S_, .f32⟩
  | 61 => ⟨S1x4096, .f32⟩
  | 62 => ⟨S1x4096x1, .f32⟩
  | 63 => ⟨S_, .f32⟩
  | 64 => ⟨S1x4096x1, .f32⟩
  | 65 => ⟨S1x4096x1, .f32⟩
  | 66 => ⟨S1x4096x512, .f32⟩
  | 67 => ⟨S1x4096x512, .f32⟩
  | 68 => ⟨S_, .f32⟩
  | 69 => ⟨S1x4096x1, .f32⟩
  | 70 => ⟨S1x4096x1, .f32⟩
  | 71 => ⟨S1x4096x1, .f32⟩
  | 72 => ⟨S1x4096x512, .f32⟩
  | 73 => ⟨S1x4096x512, .f32⟩
  | 74 => ⟨S1x1x512, .f32⟩
  | 75 => ⟨S1x4096x512, .f32⟩
  | 76 => ⟨S1x4096x512, .f32⟩
  | 77 => ⟨S1x1x512, .f32⟩
  | 78 => ⟨S1x4096x512, .f32⟩
  | 79 => ⟨S1x4096x512, .f32⟩
  | 80 => ⟨S1x32x128x4x128, .f32⟩
  | 81 => ⟨S_, .f32⟩
  | 82 => ⟨S128x128, .f32⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .f32⟩
  | 90 => ⟨S128x128, .f32⟩
  | 91 => ⟨S128x128, .f32⟩
  | 92 => ⟨S1x128x128, .f32⟩
  | 93 => ⟨S4x128x128, .f32⟩
  | 94 => ⟨S4x128x128, .f32⟩
  | 95 => ⟨S4x1x32x128x128, .f32⟩
  | 96 => ⟨S1x32x128x4x128, .f32⟩
  | 97 => ⟨S128x4, .f32⟩
  | 98 => ⟨S1x1x128x4x1, .f32⟩
  | 99 => ⟨S1x32x128x4x128, .f32⟩
  | 100 => ⟨S1x32x128x4x128, .f32⟩
  | 101 => ⟨S1x4096x512, .f32⟩
  | 102 => ⟨S1x4096x512, .f32⟩
  | 103 => ⟨S1x4096x512, .f32⟩
  | 104 => ⟨S1x4096x512, .f32⟩
  | 105 => ⟨S_, .f32⟩
  | 106 => ⟨S1x4096x512, .f32⟩
  | 107 => ⟨S1x4096x512, .f32⟩
  | 108 => ⟨S_, .f32⟩
  | 109 => ⟨S1x4096x512, .f32⟩
  | 110 => ⟨S1x4096x512, .f32⟩
  | 111 => ⟨S1x4096x512, .f32⟩
  | 112 => ⟨S4096x4096x31, .i32⟩
  | 113 => ⟨S4096x4096x31, .i32⟩
  | 114 => ⟨S4096x4096x31, .i32⟩
  | 115 => ⟨S_, .i32⟩
  | 116 => ⟨S4096x4096x31, .i32⟩
  | 117 => ⟨S4096x4096x31, .i32⟩
  | 118 => ⟨S4096x4096x31, .i32⟩
  | 119 => ⟨S4096x4096x31, .i1⟩
  | 120 => ⟨S4096x4096x31, .f32⟩
  | 121 => ⟨S1x512x4096x31, .f32⟩
  | 122 => ⟨S1x4096x31x512, .f32⟩
  | 123 => ⟨S1x1x31x512, .f32⟩
  | 124 => ⟨S1x4096x31x512, .f32⟩
  | 125 => ⟨S1x4096x31x512, .f32⟩
  | 126 => ⟨S_, .f32⟩
  | 127 => ⟨S1x4096x512, .f32⟩
  | _ => ⟨S1x4096x1024, .f32⟩

abbrev hbmTy0_1 (i : Nat) : BufTy := match i % 128 with
  | 0 => ⟨S1x1x512, .f32⟩
  | 1 => ⟨S1x4096x512, .f32⟩
  | 2 => ⟨S1x4096x512, .f32⟩
  | 3 => ⟨S1x4096x4x128, .f32⟩
  | 4 => ⟨S4x128, .f32⟩
  | 5 => ⟨S4x128, .f32⟩
  | 6 => ⟨S_, .f32⟩
  | 7 => ⟨S1x4096x4, .f32⟩
  | 8 => ⟨S1x4096x4x1, .f32⟩
  | 9 => ⟨S_, .f32⟩
  | 10 => ⟨S1x4096x4x1, .f32⟩
  | 11 => ⟨S1x4096x4x1, .f32⟩
  | 12 => ⟨S1x4096x4x128, .f32⟩
  | 13 => ⟨S1x4096x4x128, .f32⟩
  | 14 => ⟨S1x4096x4x128, .f32⟩
  | 15 => ⟨S_, .f32⟩
  | 16 => ⟨S1x4096x4, .f32⟩
  | 17 => ⟨S1x4096x4x1, .f32⟩
  | 18 => ⟨S_, .f32⟩
  | 19 => ⟨S1x4096x4x1, .f32⟩
  | 20 => ⟨S1x4096x4x1, .f32⟩
  | 21 => ⟨S1x4096x4x128, .f32⟩
  | 22 => ⟨S1x4096x4x128, .f32⟩
  | 23 => ⟨S_, .f32⟩
  | 24 => ⟨S1x4096x4x1, .f32⟩
  | 25 => ⟨S1x4096x4x1, .f32⟩
  | 26 => ⟨S1x4096x4x1, .f32⟩
  | 27 => ⟨S1x4096x4x128, .f32⟩
  | 28 => ⟨S1x4096x4x128, .f32⟩
  | 29 => ⟨S1x1x4x128, .f32⟩
  | 30 => ⟨S1x4096x4x128, .f32⟩
  | 31 => ⟨S1x4096x4x128, .f32⟩
  | 32 => ⟨S1x1x4x128, .f32⟩
  | 33 => ⟨S1x4096x4x128, .f32⟩
  | 34 => ⟨S1x4096x4x128, .f32⟩
  | 35 => ⟨S1x4096x4x128, .f32⟩
  | 36 => ⟨S1x4096x4x128, .f32⟩
  | 37 => ⟨S_, .f32⟩
  | 38 => ⟨S1x4096x4x128, .f32⟩
  | 39 => ⟨S1x4096x4x128, .f32⟩
  | 40 => ⟨S_, .f32⟩
  | 41 => ⟨S1x4096x4x128, .f32⟩
  | 42 => ⟨S1x4096x4x128, .f32⟩
  | 43 => ⟨S1x4096x4x128, .f32⟩
  | 44 => ⟨S1x4096x512, .f32⟩
  | 45 => ⟨S1x4096x1024, .f32⟩
  | 46 => ⟨S1x4096x1024, .f32⟩
  | 47 => ⟨S1x4096x1024, .f32⟩
  | 48 => ⟨S1x4096x512, .f32⟩
  | 49 => ⟨S_, .f32⟩
  | 50 => ⟨S1x4096x512, .f32⟩
  | 51 => ⟨S1x4096x512, .f32⟩
  | 52 => ⟨S1x4096x512, .f32⟩
  | 53 => ⟨S_, .f32⟩
  | 54 => ⟨S1x4096x512, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x4096x512, .f32⟩
  | 61 => ⟨S1x4096x512, .f32⟩
  | 62 => ⟨S_, .f32⟩
  | 63 => ⟨S1x4096x512, .f32⟩
  | 64 => ⟨S1x4096x512, .f32⟩
  | 65 => ⟨S1x4096x512, .f32⟩
  | 66 => ⟨S_, .f32⟩
  | 67 => ⟨S1x4096x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S_, .f32⟩
  | 75 => ⟨S1x4096x512, .f32⟩
  | 76 => ⟨S1x4096x512, .f32⟩
  | 77 => ⟨S1x4096x512, .f32⟩
  | 78 => ⟨S_, .f32⟩
  | 79 => ⟨S1x4096x512, .f32⟩
  | 80 => ⟨S1x4096x512, .f32⟩
  | 81 => ⟨S1x4096x512, .f32⟩
  | 82 => ⟨S_, .f32⟩
  | 83 => ⟨S1x4096x512, .f32⟩
  | 84 => ⟨S1x4096x512, .f32⟩
  | 85 => ⟨S1x4096x512, .f32⟩
  | 86 => ⟨S_, .f32⟩
  | 87 => ⟨S1x4096x512, .f32⟩
  | 88 => ⟨S1x4096x512, .f32⟩
  | 89 => ⟨S1x4096x512, .f32⟩
  | 90 => ⟨S_, .f32⟩
  | 91 => ⟨S1x4096x512, .f32⟩
  | 92 => ⟨S1x4096x512, .f32⟩
  | 93 => ⟨S1x4096x512, .f32⟩
  | 94 => ⟨S_, .f32⟩
  | 95 => ⟨S1x4096x512, .f32⟩
  | 96 => ⟨S1x4096x512, .f32⟩
  | 97 => ⟨S1x4096x512, .f32⟩
  | 98 => ⟨S_, .f32⟩
  | 99 => ⟨S1x4096x512, .f32⟩
  | 100 => ⟨S1x4096x512, .f32⟩
  | 101 => ⟨S1x4096x512, .f32⟩
  | 102 => ⟨S_, .f32⟩
  | 103 => ⟨S1x4096x512, .f32⟩
  | 104 => ⟨S1x4096x512, .f32⟩
  | 105 => ⟨S1x4096x512, .f32⟩
  | 106 => ⟨S_, .f32⟩
  | 107 => ⟨S1x4096, .f32⟩
  | 108 => ⟨S1x4096x1, .f32⟩
  | 109 => ⟨S_, .f32⟩
  | 110 => ⟨S1x4096x1, .f32⟩
  | 111 => ⟨S1x4096x1, .f32⟩
  | 112 => ⟨S1x4096x512, .f32⟩
  | 113 => ⟨S1x4096x512, .f32⟩
  | 114 => ⟨S1x4096x512, .f32⟩
  | 115 => ⟨S_, .f32⟩
  | 116 => ⟨S1x4096, .f32⟩
  | 117 => ⟨S1x4096x1, .f32⟩
  | 118 => ⟨S_, .f32⟩
  | 119 => ⟨S1x4096x1, .f32⟩
  | 120 => ⟨S1x4096x1, .f32⟩
  | 121 => ⟨S_, .f32⟩
  | 122 => ⟨S1x4096x1, .f32⟩
  | 123 => ⟨S1x4096x1, .f32⟩
  | 124 => ⟨S1x4096x1, .f32⟩
  | 125 => ⟨S1x4096x512, .f32⟩
  | 126 => ⟨S1x4096x512, .f32⟩
  | 127 => ⟨S1x4096x512, .f32⟩
  | _ => ⟨S1x4096x1024, .f32⟩

abbrev hbmTy0_2 (i : Nat) : BufTy := match i % 128 with
  | 0 => ⟨S1x4096x512, .f32⟩
  | 1 => ⟨S1x4096x2048, .f32⟩
  | 2 => ⟨S1x4096x512, .f32⟩
  | 3 => ⟨S1x4096x512, .f32⟩
  | 4 => ⟨S1x4096x512, .f32⟩
  | 5 => ⟨S1x4096x512, .f32⟩
  | 6 => ⟨S_, .f32⟩
  | 7 => ⟨S1x4096x512, .f32⟩
  | 8 => ⟨S1x4096x512, .f32⟩
  | 9 => ⟨S_, .f32⟩
  | 10 => ⟨S1x4096x512, .f32⟩
  | 11 => ⟨S1x4096x512, .f32⟩
  | 12 => ⟨S1x4096x512, .f32⟩
  | 13 => ⟨S4096x4096x31, .i32⟩
  | 14 => ⟨S4096x4096x31, .i32⟩
  | 15 => ⟨S4096x4096x31, .i32⟩
  | 16 => ⟨S_, .i32⟩
  | 17 => ⟨S4096x4096x31, .i32⟩
  | 18 => ⟨S4096x4096x31, .i32⟩
  | 19 => ⟨S4096x4096x31, .i32⟩
  | 20 => ⟨S4096x4096x31, .i1⟩
  | 21 => ⟨S4096x4096x31, .f32⟩
  | 22 => ⟨S1x512x4096x31, .f32⟩
  | 23 => ⟨S1x4096x31x512, .f32⟩
  | 24 => ⟨S1x1x31x512, .f32⟩
  | 25 => ⟨S1x4096x31x512, .f32⟩
  | 26 => ⟨S1x4096x31x512, .f32⟩
  | 27 => ⟨S_, .f32⟩
  | 28 => ⟨S1x4096x512, .f32⟩
  | 29 => ⟨S1x1x512, .f32⟩
  | 30 => ⟨S1x4096x512, .f32⟩
  | 31 => ⟨S1x4096x512, .f32⟩
  | 32 => ⟨S4096x1024, .f32⟩
  | 33 => ⟨S4096x2048, .f32⟩
  | 34 => ⟨S4096x512, .f32⟩
  | 35 => ⟨S4096x2048, .f32⟩
  | 36 => ⟨S4096x1, .f32⟩
  | 37 => ⟨S4096x128, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_cst : Ref sig .tc := ⟨.hbm, 89, rfl⟩
abbrev main_call0_v5 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_14 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_15 : Ref sig .tc := ⟨.hbm, 134, rfl⟩
abbrev main_v97 : Ref sig .tc := ⟨.hbm, 135, rfl⟩
abbrev main_v98 : Ref sig .tc := ⟨.hbm, 136, rfl⟩
abbrev main_cst_16 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_17 : Ref sig .tc := ⟨.hbm, 143, rfl⟩
abbrev main_v104 : Ref sig .tc := ⟨.hbm, 144, rfl⟩
abbrev main_v105 : Ref sig .tc := ⟨.hbm, 145, rfl⟩
abbrev main_cst_18 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_call1_v0 : Ref sig .tc := ⟨.hbm, 163, rfl⟩
abbrev main_call1_v1 : Ref sig .tc := ⟨.hbm, 164, rfl⟩
abbrev main_call1_cst : Ref sig .tc := ⟨.hbm, 165, rfl⟩
abbrev main_call1_v2 : Ref sig .tc := ⟨.hbm, 166, rfl⟩
abbrev main_call1_v3 : Ref sig .tc := ⟨.hbm, 167, rfl⟩
abbrev main_call1_cst_0 : Ref sig .tc := ⟨.hbm, 168, rfl⟩
abbrev main_call1_v4 : Ref sig .tc := ⟨.hbm, 169, rfl⟩
abbrev main_call1_v5 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_20 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_21 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_22 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_23 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_24 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_25 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_26 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_27 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_28 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_29 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_cst_30 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_cst_31 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_32 : Ref sig .tc := ⟨.hbm, 234, rfl⟩
abbrev main_v172 : Ref sig .tc := ⟨.hbm, 235, rfl⟩
abbrev main_v173 : Ref sig .tc := ⟨.hbm, 236, rfl⟩
abbrev main_cst_33 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_34 : Ref sig .tc := ⟨.hbm, 243, rfl⟩
abbrev main_v179 : Ref sig .tc := ⟨.hbm, 244, rfl⟩
abbrev main_v180 : Ref sig .tc := ⟨.hbm, 245, rfl⟩
abbrev main_cst_35 : Ref sig .tc := ⟨.hbm, 246, rfl⟩
abbrev main_v181 : Ref sig .tc := ⟨.hbm, 247, rfl⟩
abbrev main_v182 : Ref sig .tc := ⟨.hbm, 248, rfl⟩
abbrev main_cst_36 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_37 : Ref sig .tc := ⟨.hbm, 262, rfl⟩
abbrev main_v195 : Ref sig .tc := ⟨.hbm, 263, rfl⟩
abbrev main_v196 : Ref sig .tc := ⟨.hbm, 264, rfl⟩
abbrev main_cst_38 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_c_39 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_40 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩

abbrev nD : Nat := 1
abbrev τ : Topo := Topo.v7x

variable {F : FTy → Type} [FloatOps F]
-- ==== Proof.Whole.lean ====
/- Loads and stores through a rectangle as large as the buffer, with the extents left out of the simplifier's index, so
   that the rules apply where the extents are written as literals. -/
module

public import Idealize.ShloMosaic.Lib.VecWindow
public import Idealize.ShloMosaic.Lib.Pipeline.FrameBody

@[expose] public section

namespace Cert.Whole

open Idealize.ShloMosaic

variable {sig : RefSig} {κ : Kind} {sp : Space} {s : Shape} {e : EltTy} {Val : EltTy → Type}

/-- A whole load reads the buffer. -/
theorem load (v : View sig κ sp s e) (f : v.ty.Contents Val) {off : Fin s.rank → ℕ} (inb : ∀ a, off a + s.size a ≤ s.size a) :
    v.readAt Val (Rect.unit off (no_index s.size) inb).toLoadRect f = v.read Val f :=
  View.readAt_full v f inb

/-- After a whole store the buffer reads the stored vector. -/
theorem store (v : View sig κ sp s e) (f : v.ty.Contents Val) {off : Fin s.rank → ℕ} (inb : ∀ a, off a + s.size a ≤ s.size a)
    (w : s.Idx → Val e) (L : List (View.Piece Val s e)) :
    v.read Val (v.writes Val f ((⟨Rect.unit off (no_index s.size) inb, w⟩ : View.Piece Val s e) :: L)) = w :=
  View.read_writes_full v f inb w L

/-- A whole load after a whole store reads the stored vector. -/
theorem reload [∀ e, Nonempty (Val e)] (v : View sig κ sp s e) {off off' : Fin s.rank → ℕ} (inb : ∀ a, off a + s.size a ≤ s.size a)
    (inb' : ∀ a, off' a + s.size a ≤ s.size a) (w : s.Idx → Val e) (L : List (View.Piece Val s e)) :
    v.readCov ((⟨Rect.unit off' (no_index s.size) inb', w⟩ : View.Piece Val s e) :: L) (Rect.unit off (no_index s.size) inb).toLoadRect = w :=
  View.readCov_full v inb inb' w L

/-- A buffer's contents `X` after one piece `w` is stored at `r`. -/
abbrev put {F : FTy → Type} (X : Vec F s e) (r : Rect s) (w : Vec F r.shape e) : Vec F s e := r.overlay X w

/-- What a buffer reads after the stores of a list of pieces, the last first. -/
theorem read_writes (v : View sig κ sp s e) (f : v.ty.Contents Val) (L : List (View.Piece Val s e)) :
    v.read Val (v.writes Val f L) = L.foldr (fun p X => p.1.overlay X p.2) (v.read Val f) := by
  induction L with
  | nil => rfl
  | cons p L ih =>
    obtain ⟨r, w⟩ := p
    rw [List.foldr_cons, ← ih]
    funext y
    by_cases hy : y ∈ r.set
    · obtain ⟨x, rfl⟩ : ∃ x, r.emb x = y := r.exists_idx_of_mem hy
      rw [View.read_writes_cons_emb, Rect.overlay_emb]
    · rw [View.writes_cons, View.read_slice_write_of_not_mem r _ _ _ (by rwa [Rect.map_emb_univ]), Rect.overlay_of_not_mem _ _ _ hy]

/-- Where the pieces cover the buffer nothing of its earlier contents is left. -/
theorem overs_eq_canon [∀ e, Nonempty (Val e)] (L : List (View.Piece Val s e)) (X : s.Idx → Val e)
    (hL : ∀ y : s.Idx, ∃ p ∈ L, y ∈ p.1.set) :
    L.foldr (fun p X => p.1.overlay X p.2) X = View.canon L := by
  funext y
  have h := hL y
  clear hL
  induction L with
  | nil => obtain ⟨_, hm, _⟩ := h; exact absurd hm List.not_mem_nil
  | cons p L ih =>
    obtain ⟨r, w⟩ := p
    rw [List.foldr_cons]
    by_cases hy : y ∈ r.set
    · obtain ⟨x, rfl⟩ : ∃ x, r.emb x = y := r.exists_idx_of_mem hy
      rw [View.canon_cons_emb, Rect.overlay_emb]
    · rw [Rect.overlay_of_not_mem _ _ _ hy, View.canon_cons_of_not_mem _ _ hy]
      refine ih ?_
      obtain ⟨q, hm, hq⟩ := h
      rcases List.mem_cons.mp hm with rfl | hm
      · exact absurd hq hy
      · exact ⟨q, hm, hq⟩

end Cert.Whole
-- ==== Proof.FfnRun.lean ====
/- The feed-forward layer's backward body at one grid point, over any float values: what each buffer holds afterwards,
   as a function of what the buffers held before. The body has three branches (first point of the grid, first and
   last point of a row block's run over the four weight blocks); each result below is an `if` on the same conditions,
   so that one statement serves every point. -/
module

public import proofs.«01_k».proof.Proof.Gen.FfnBwdIdeal.Skeleton
public import proofs.«01_k».proof.Proof.Gen.FfnBwdIdeal.Frame
public import proofs.«01_k».proof.Proof.Whole

@[expose] public section

set_option maxRecDepth 16384

noncomputable section

namespace Cert.FfnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnBwdIdeal.Gen

variable {F : FTy → Type} [FloatOps F]

local notation "𝕄" => MT nD τ sig Unit (Elt F) ℕ (UR sig nD τ) ℕ

/-- The gain's gradient as the point's accumulation finds it: zero at the grid's first point. -/
def dgIn (i : grid0.Coords) (d : Vec F S1x1024 .f32) : Vec F S1x1024 .f32 :=
  if k0_cond1 i = 1#1 then k0_pay8 else d

/-- The transposed normalised input: written at a row block's first point. -/
def hOut (i : grid0.Coords) (x1 : Vec F S512x1024 .f32) (g : Vec F S1x1024 .f32) (h : Vec F S1024x512 .bf16) :
    Vec F S1024x512 .bf16 :=
  if k0_cond2 i = 1#1 then k0_pay9 x1 g else h

/-- The accumulated gradient at the normalised input: one weight block's share more, from zero at a row block's first point. -/
def accOut (i : grid0.Coords) (dxb z : Vec F S512x1024 .bf16) (w1 w2 : Vec F S1x1024x1024 .bf16) (s : Vec F S512x1024 .f32) :
    Vec F S512x1024 .f32 :=
  k0_pay1 (k0_pay13 z dxb w2) (if k0_cond2 i = 1#1 then k0_pay10 else s) (k0_pay14 w1)

/-- The gain's gradient after the point: a row block's share more at its last point. -/
def dgOut (i : grid0.Coords) (x1 : Vec F S512x1024 .f32) (s : Vec F S512x1024 .f32) (d : Vec F S1x1024 .f32) : Vec F S1x1024 .f32 :=
  if k0_cond3 i = 1#1 then k0_pay6 x1 s (dgIn i d) else dgIn i d

/-- The gradient at the layer's input, written at a row block's last point. -/
def dxOut (i : grid0.Coords) (dx2 x1 : Vec F S512x1024 .f32) (g : Vec F S1x1024 .f32) (s y : Vec F S512x1024 .f32) : Vec F S512x1024 .f32 :=
  if k0_cond3 i = 1#1 then k0_pay7 g x1 s dx2 else y

/-- The same gradient in bf16. -/
def dxbOut (i : grid0.Coords) (dx2 x1 : Vec F S512x1024 .f32) (g : Vec F S1x1024 .f32) (s : Vec F S512x1024 .f32) (y : Vec F S512x1024 .bf16) :
    Vec F S512x1024 .bf16 :=
  if k0_cond3 i = 1#1 then k0_pay2 (k0_pay7 g x1 s dx2) else y

set_option maxHeartbeats 4000000 in
/-- The body on whole buffers: it returns every input as it was and every output as the functions above say. -/
theorem run (c : Dev nD) (i : grid0.Coords)
    (a2 : Memref sig .tc .vmem S512x1024 .f32) (h2 : a2.IsWhole) (a3 : Memref sig .tc .vmem S512x1024 .bf16) (h3 : a3.IsWhole)
    (a4 : Memref sig .tc .vmem S512x1024 .f32) (h4 : a4.IsWhole) (a5 : Memref sig .tc .vmem S512x1024 .bf16) (h5 : a5.IsWhole)
    (a6 : Memref sig .tc .vmem S1x1024 .f32) (h6 : a6.IsWhole) (a7 : Memref sig .tc .vmem S1x1024x1024 .bf16) (h7 : a7.IsWhole)
    (a8 : Memref sig .tc .vmem S1x1024x1024 .bf16) (h8 : a8.IsWhole) (a9 : Memref sig .tc .vmem S512x1024 .f32) (h9 : a9.IsWhole)
    (a10 : Memref sig .tc .vmem S512x1024 .bf16) (h10 : a10.IsWhole) (a11 : Memref sig .tc .vmem S512x1024 .bf16) (h11 : a11.IsWhole)
    (a12 : Memref sig .tc .vmem S1024x512 .bf16) (h12 : a12.IsWhole) (a13 : Memref sig .tc .vmem S1024x512 .bf16) (h13 : a13.IsWhole)
    (a14 : Memref sig .tc .vmem S1x1024 .f32) (h14 : a14.IsWhole) (a15 : Memref sig .tc .vmem S512x1024 .f32) (h15 : a15.IsWhole)
    (dx2 : Vec F S512x1024 .f32) (dxb : Vec F S512x1024 .bf16) (x1 : Vec F S512x1024 .f32) (z : Vec F S512x1024 .bf16)
    (g : Vec F S1x1024 .f32) (w1 w2 : Vec F S1x1024x1024 .bf16) (y : Vec F S512x1024 .f32) (yb : Vec F S512x1024 .bf16)
    (h : Vec F S1024x512 .bf16) (d : Vec F S1x1024 .f32) (s : Vec F S512x1024 .f32) (E : Set ℕ) (K : PUnit → sProp 𝕄) :
    iprop(owns (c : Thread nD τ) a2 fullShare dx2 ∗ owns (c : Thread nD τ) a3 fullShare dxb ∗ owns (c : Thread nD τ) a4 fullShare x1
        ∗ owns (c : Thread nD τ) a5 fullShare z ∗ owns (c : Thread nD τ) a6 fullShare g ∗ owns (c : Thread nD τ) a7 fullShare w1
        ∗ owns (c : Thread nD τ) a8 fullShare w2 ∗ owns (c : Thread nD τ) a9 fullShare y ∗ owns (c : Thread nD τ) a10 fullShare yb
        ∗ (∃ v, owns (c : Thread nD τ) a11 fullShare v) ∗ (∃ v, owns (c : Thread nD τ) a12 fullShare v)
        ∗ owns (c : Thread nD τ) a13 fullShare h ∗ owns (c : Thread nD τ) a14 fullShare d ∗ owns (c : Thread nD τ) a15 fullShare s
        ∗ (iprop(owns (c : Thread nD τ) a2 fullShare dx2 ∗ owns (c : Thread nD τ) a3 fullShare dxb ∗ owns (c : Thread nD τ) a4 fullShare x1
          ∗ owns (c : Thread nD τ) a5 fullShare z ∗ owns (c : Thread nD τ) a6 fullShare g ∗ owns (c : Thread nD τ) a7 fullShare w1
          ∗ owns (c : Thread nD τ) a8 fullShare w2
          ∗ owns (c : Thread nD τ) a9 fullShare (dxOut i dx2 x1 g (accOut i dxb z w1 w2 s) y)
          ∗ owns (c : Thread nD τ) a10 fullShare (dxbOut i dx2 x1 g (accOut i dxb z w1 w2 s) yb)
          ∗ owns (c : Thread nD τ) a11 fullShare (k0_pay13 z dxb w2) ∗ owns (c : Thread nD τ) a12 fullShare (k0_pay12 z)
          ∗ owns (c : Thread nD τ) a13 fullShare (hOut i x1 g h)
          ∗ owns (c : Thread nD τ) a14 fullShare (dgOut i x1 (accOut i dxb z w1 w2 s) d)
          ∗ owns (c : Thread nD τ) a15 fullShare (accOut i dxb z w1 w2 s)) -∗ K ⟨⟩))
      ⊢ wp frame (wpE (defs₀ (F := F)) Variants.none c none) E
          (cc0_ffn_bwd_l1 i a2 h2 a3 h3 a4 h4 a5 h5 a6 h6 a7 h7 a8 h8 a9 h9 a10 h10 a11 h11 a12 h12 a13 h13 a14 h14 a15 h15) K := by
  unfold accOut dxOut dxbOut dgOut hOut dgIn
  simp only [cc0_ffn_bwd_l1_eq_skeleton]
  unfold cc0_ffn_bwd_l1_skel
  simp only [k0_part1_eq_skeleton, k0_part2_eq_skeleton]
  unfold k0_part1_skel k0_part2_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%v11, %f11, -, H11⟩, ⟨%v12, %f12, -, H12⟩, ⟨%f13, %e13, H13⟩, ⟨%f14, %e14, H14⟩, ⟨%f15, %e15, H15⟩, Hk⟩
  subst e2 e3 e4 e5 e6 e7 e8 e9 e10 e13 e14 e15
  by_cases hc1 : k0_cond1 i = 1#1 <;> by_cases hc2 : k0_cond2 i = 1#1 <;> by_cases hc3 : k0_cond3 i = 1#1
  all_goals
    sl_exec (disch := first | sl_exact hc1 | sl_exact hc2 | sl_exact hc3)
    sl_step
    simp only [hc1, hc2, hc3, if_true, if_false]
    iapply Hk
    isplitl [H2]
    · iexists _; isplitr; swap; · iexact H2
      ipureintro; first | rfl | (sl_unfold_run_names; simp only [Cert.Whole.load, Cert.Whole.reload, Cert.Whole.store])
    isplitl [H3]
    · iexists _; isplitr; swap; · iexact H3
      ipureintro; first | rfl | (sl_unfold_run_names; simp only [Cert.Whole.load, Cert.Whole.reload, Cert.Whole.store])
    isplitl [H4]
    · iexists _; isplitr; swap; · iexact H4
      ipureintro; first | rfl | (sl_unfold_run_names; simp only [Cert.Whole.load, Cert.Whole.reload, Cert.Whole.store])
    isplitl [H5]
    · iexists _; isplitr; swap; · iexact H5
      ipureintro; first | rfl | (sl_unfold_run_names; simp only [Cert.Whole.load, Cert.Whole.reload, Cert.Whole.store])
    isplitl [H6]
    · iexists _; isplitr; swap; · iexact H6
      ipureintro; first | rfl | (sl_unfold_run_names; simp only [Cert.Whole.load, Cert.Whole.reload, Cert.Whole.store])
    isplitl [H7]
    · iexists _; isplitr; swap; · iexact H7
      ipureintro; first | rfl | (sl_unfold_run_names; simp only [Cert.Whole.load, Cert.Whole.reload, Cert.Whole.store])
    isplitl [H8]
    · iexists _; isplitr; swap; · iexact H8
      ipureintro; first | rfl | (sl_unfold_run_names; simp only [Cert.Whole.load, Cert.Whole.reload, Cert.Whole.store])
    isplitl [H9]
    · iexists _; isplitr; swap; · iexact H9
      ipureintro; first | rfl | (sl_unfold_run_names; simp only [Cert.Whole.load, Cert.Whole.reload, Cert.Whole.store])
    isplitl [H10]
    · iexists _; isplitr; swap; · iexact H10
      ipureintro; first | rfl | (sl_unfold_run_names; simp only [Cert.Whole.load, Cert.Whole.reload, Cert.Whole.store])
    isplitl [H11]
    · iexists _; isplitr; swap; · iexact H11
      ipureintro; first | rfl | (sl_unfold_run_names; simp only [Cert.Whole.load, Cert.Whole.reload, Cert.Whole.store])
    isplitl [H12]
    · iexists _; isplitr; swap; · iexact H12
      ipureintro; first | rfl | (sl_unfold_run_names; simp only [Cert.Whole.load, Cert.Whole.reload, Cert.Whole.store])
    isplitl [H13]
    · iexists _; isplitr; swap; · iexact H13
      ipureintro; first | rfl | (sl_unfold_run_names; simp only [Cert.Whole.load, Cert.Whole.reload, Cert.Whole.store])
    isplitl [H14]
    · iexists _; isplitr; swap; · iexact H14
      ipureintro; first | rfl | (sl_unfold_run_names; simp only [Cert.Whole.load, Cert.Whole.reload, Cert.Whole.store])
    iexists _; isplitr; swap; · iexact H15
    ipureintro; first | rfl | (sl_unfold_run_names; simp only [Cert.Whole.load, Cert.Whole.reload, Cert.Whole.store])

end Cert.FfnBwdIdeal.Hand

end
-- ==== Proof.Leaves.lean ====
/- What a grid point's body must leave in a window's buffer, from one condition on the buffer's contents. -/
module

public import Idealize.ShloMosaic.Lib.Pipeline.FrameBody
public import Idealize.ShloMosaic.Lib.Pipeline.TableIdle

@[expose] public section

namespace Cert.Leaves

open Idealize.ShloMosaic Idealize.SL Idealize.SL.RA Idealize.SL.BI
open Idealize.ShloMosaic.TcCoe
open Idealize.SL.BI.BIBase Idealize.SL.BI.Laws Idealize.SL.ProofMode
open Idealize.ShloMosaic.Pipeline (Dat Cfg)

variable {nD : ℕ} {τ : Topo} {sig : RefSig} {Val : EltTy → Type} {Ix : Type} [DecidableEq Ix]
  {Name : Type} [DecidableEq Name] {U : Type} [URA U] {Lvl : Type} [∀ e, Nonempty (Val e)]
  {Λ₀ : Idealize.SL.Sem.Labels} {cfg : Cfg sig Λ₀} {c : Dev nD}

/-- A buffer holding `X` is left as the pipeline asks: where the point writes the window, or the pipeline copies it out,
    `X` is what the proof data say; where neither, `X` is what the point found. -/
theorem intro (dat : Dat τ Val Ix Name U Lvl cfg c) (w : Fin cfg.W) (t : Fin cfg.N)
    (X : (cfg.win w).block.Idx → Val (cfg.win w).elt)
    (hX : (cfg.idle w (cfg.grid.coords t) = false ∨ (cfg.win w).flush t = true) → X = dat.after w t)
    (hB : cfg.idle w (cfg.grid.coords t) = true → (cfg.win w).flush t = false → ∃ d, X = dat.before w t d) :
    (owns (c : Thread nD τ) ((cfg.win w).stage (cfg.slots t w)) fullShare X : sProp (MT nD τ sig Ix Val Name U Lvl)) ⊢ dat.leavesExact w t := by
  unfold Dat.leavesExact
  cases hi : cfg.idle w (cfg.grid.coords t) with
  | false => rw [hX (.inl hi)]
  | true =>
    cases hf : (cfg.win w).flush t with
    | true => rw [hX (.inr hf)]
    | false =>
      obtain ⟨d, hd⟩ := hB hi hf
      rw [hd]; iintro H; iexists d; iexact H

end Cert.Leaves
-- ==== Proof.FfnFrame.lean ====
/- The feed-forward layer's backward call, over any float values: what its buffers hold after each grid point, that the
   whole call runs, terminates and leaves its arguments and the semaphores as they were. -/
module

public import proofs.«01_k».proof.Proof.FfnRun
public import proofs.«01_k».proof.Proof.Leaves
public import Idealize.ShloMosaic.Lib.Claim

@[expose] public section

set_option maxRecDepth 16384

noncomputable section

namespace Cert.FfnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions as arithmetic of the point -/

/-- The first branch is taken at the grid's first point only. -/
theorem cond1_iff (t : Fin cfg0.N) : k0_cond1 (grid0.coords t) = 1#1 ↔ t.val = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond1, e0, e1]
  word_cmp

/-- The second is taken at the first point of each row block. -/
theorem cond2_iff (t : Fin cfg0.N) : k0_cond2 (grid0.coords t) = 1#1 ↔ t.val % 4 = 0 := by
  have ht : t.val < 32 := Nat.lt_of_lt_of_eq t.isLt N_0
  have e1 : (grid0.coords t 1).val = t.val / 1 % 4 := Pipeline.Grid.coords_val t 1 (by decide) rfl
  simp only [k0_cond2, e1]
  word_cmp

/-- The third is taken at the last point of each row block. -/
theorem cond3_iff (t : Fin cfg0.N) : k0_cond3 (grid0.coords t) = 1#1 ↔ t.val % 4 = 3 := by
  have ht : t.val < 32 := Nat.lt_of_lt_of_eq t.isLt N_0
  have e1 : (grid0.coords t 1).val = t.val / 1 % 4 := Pipeline.Grid.coords_val t 1 (by decide) rfl
  simp only [k0_cond3, e1]
  word_cmp

/-! ## The buffers after each point -/

/-- What is carried from point to point: the transposed normalised input, the gain's gradient, the accumulator. -/
abbrev St (F : FTy → Type) : Type := Vec F S1024x512 .bf16 × Vec F S1x1024 .f32 × Vec F S512x1024 .f32

/-- One point's step of the carried buffers. -/
def step (c : Dev nD) (t : Fin cfg0.N) (p : St F) : St F :=
  let a : Vec F S512x1024 .f32 := accOut (grid0.coords t) (iblk m c 1 t) (iblk m c 3 t) (iblk m c 5 t) (iblk m c 6 t) p.2.2
  (hOut (grid0.coords t) (iblk m c 2 t) (iblk m c 4 t) p.1, dgOut (grid0.coords t) (iblk m c 2 t) a p.2.1, a)

/-- The carried buffers after point `n`. -/
def st (c : Dev nD) : (n : ℕ) → n < cfg0.N → St F
  | 0, h => step m c ⟨0, h⟩ ((Memref.whole cc0_stg11_0).view.read (Elt F) (Memref.whole cc0_stg11_0).view.junk, k0_pay8, k0_pay10)
  | n + 1, h => step m c ⟨n + 1, h⟩ (st c n (Nat.lt_of_succ_lt h))

/-- At a point after the first the carried buffers step from the point before. -/
theorem st_pos (c : Dev nD) (t : Fin cfg0.N) (h : t.val ≠ 0) :
    st m c t.val t.isLt = step m c t (st m c (t.val - 1) (by omega)) := by
  obtain ⟨n, hn⟩ := t
  cases n with
  | zero => exact absurd rfl h
  | succ n => rfl

/-- At a row block's first point what the accumulator and the transposed input held before does not matter; at the grid's first point, nor
    what the gain's gradient held. -/
theorem st_reset (c : Dev nD) (t : Fin cfg0.N) (h : t.val % 4 = 0) (p : St F) (hd : t.val ≠ 0 → p.2.1 = (st m c (t.val - 1) (by omega)).2.1) :
    st m c t.val t.isLt = step m c t p := by
  have h2 := (cond2_iff t).mpr h
  obtain ⟨n, hn⟩ := t
  cases n with
  | zero =>
    have h1 := (cond1_iff ⟨0, hn⟩).mpr rfl
    show step m c ⟨0, hn⟩ _ = _
    simp only [step, hOut, accOut, dgOut, dgIn, h1, h2, if_true]
  | succ n =>
    show step m c ⟨n + 1, hn⟩ _ = _
    have hd' : p.2.1 = (st m c n (Nat.lt_of_succ_lt hn)).2.1 := hd (Nat.succ_ne_zero n)
    simp only [step, hOut, accOut, dgOut, dgIn, h2, if_true, hd']

/-- The invariant before position `n`: the accumulator at what the point before left in it. -/
def PhiS (c : Dev nD) : (n : ℕ) → n ≤ cfg0.N → sProp 𝕄
  | 0, _ => Pipeline.ΦA spec0 c
  | n + 1, h => iprop(owns (c : Thread nD τ) (Memref.whole cc0_scratch0 : Memref sig .tc .vmem S512x1024 .f32) fullShare (st m c n h).2.2 ∗ (∃ r, prngReg c r))

/-- Before the first point the accumulator holds anything. -/
theorem PhiA0_eq (c : Dev nD) :
    (Pipeline.ΦA spec0 c : sProp 𝕄)
      = iprop((∃ d, owns (c : Thread nD τ) (Memref.whole cc0_scratch0 : Memref sig .tc .vmem S512x1024 .f32) fullShare d) ∗ (∃ r, prngReg c r)) := by
  unfold Pipeline.ΦA; rw [scopedRest0_eq]; simp only [owns_whole]; try rfl

theorem PhiS_pos (c : Dev nD) (n : ℕ) (h : n ≤ cfg0.N) (hz : n ≠ 0) :
    PhiS m c n h = iprop(owns (c : Thread nD τ) (Memref.whole cc0_scratch0 : Memref sig .tc .vmem S512x1024 .f32) fullShare (st m c (n - 1) (by omega)).2.2 ∗ (∃ r, prngReg c r)) := by
  cases n with
  | zero => exact absurd rfl hz
  | succ n => rfl

/-- The proof data: the arrays as the region finds them, every input's buffer at its block, every output's at what the
    body's run says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay7 (iblk m c 4 t) (iblk m c 2 t) (st m c t.val t.isLt).2.2 (iblk m c 0 t)
    | ⟨8, _⟩ => k0_pay2 (k0_pay7 (iblk m c 4 t) (iblk m c 2 t) (st m c t.val t.isLt).2.2 (iblk m c 0 t))
    | ⟨9, _⟩ => k0_pay13 (iblk m c 3 t) (iblk m c 1 t) (iblk m c 6 t)
    | ⟨10, _⟩ => k0_pay12 (iblk m c 3 t)
    | ⟨11, _⟩ => (st m c t.val t.isLt).1
    | ⟨12, _⟩ => (st m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay7 (iblk m c 4 t) (iblk m c 2 t) (st m c t.val t.isLt).2.2 (iblk m c 0 t) := by dsimp only [dats]
theorem after0_8 (c : Dev nD) (t : Fin cfg0.N) : (dats m 0 c).after 8 t = k0_pay2 (k0_pay7 (iblk m c 4 t) (iblk m c 2 t) (st m c t.val t.isLt).2.2 (iblk m c 0 t)) := by dsimp only [dats]
theorem after0_9 (c : Dev nD) (t : Fin cfg0.N) : (dats m 0 c).after 9 t = k0_pay13 (iblk m c 3 t) (iblk m c 1 t) (iblk m c 6 t) := by dsimp only [dats]
theorem after0_10 (c : Dev nD) (t : Fin cfg0.N) : (dats m 0 c).after 10 t = k0_pay12 (iblk m c 3 t) := by dsimp only [dats]
theorem after0_11 (c : Dev nD) (t : Fin cfg0.N) : (dats m 0 c).after 11 t = (st m c t.val t.isLt).1 := by dsimp only [dats]
theorem after0_12 (c : Dev nD) (t : Fin cfg0.N) : (dats m 0 c).after 12 t = (st m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## Where the transposed input's and the gain's windows are written, and what a point finds in them -/

theorem idle11 : ∀ t : Fin cfg0.N, cfg0.idle 11 (grid0.coords t) = !decide (t.val % 4 = 0) := by decide +kernel
theorem idle12 : ∀ t : Fin cfg0.N, cfg0.idle 12 (grid0.coords t) = (!decide (t.val = 0) && !decide (t.val % 4 = 3)) := by decide +kernel
theorem idle7 : ∀ t : Fin cfg0.N, cfg0.idle 7 (grid0.coords t) = !decide (t.val % 4 = 3) := by decide +kernel
theorem idle8 : ∀ t : Fin cfg0.N, cfg0.idle 8 (grid0.coords t) = !decide (t.val % 4 = 3) := by decide +kernel
theorem flush7 : ∀ t : Fin cfg0.N, (cfg0.win 7).flush t = decide (t.val % 4 = 3) := by decide +kernel
theorem flush8 : ∀ t : Fin cfg0.N, (cfg0.win 8).flush t = decide (t.val % 4 = 3) := by decide +kernel

theorem flush11 : ∀ t : Fin cfg0.N, (cfg0.win 11).flush t = decide (t.val % 4 = 3) := by decide +kernel

theorem fresh11 (n : ℕ) (h : n ≤ cfg0.N) : cfg0.fresh 11 n = decide (n % 4 = 0) :=
  cfg0.fresh_tab 11 (fun n => decide (n % 4 = 0)) rfl (by decide +kernel) n h

theorem fresh12 (n : ℕ) (h : n ≤ cfg0.N) : cfg0.fresh 12 n = decide (n % 32 = 0) :=
  cfg0.fresh_tab 12 (fun n => decide (n % 32 = 0)) rfl (by decide +kernel) n h

/-- Inside a row block the transposed input is carried. -/
theorem carry11 (c : Dev nD) (t : Fin cfg0.N) (h : t.val % 4 ≠ 0) :
    (st m c t.val t.isLt).1 = (st m c (t.val - 1) (by omega)).1 := by
  rw [st_pos m c t (by omega)]
  exact if_neg fun e => h ((cond2_iff t).mp e)

/-- At a point that neither starts the grid nor ends a row block the gain's gradient is carried. -/
theorem carry12 (c : Dev nD) (t : Fin cfg0.N) (h : t.val ≠ 0) (h3 : t.val % 4 ≠ 3) :
    (st m c t.val t.isLt).2.1 = (st m c (t.val - 1) (by omega)).2.1 := by
  rw [st_pos m c t h]
  exact (if_neg fun e => h3 ((cond3_iff t).mp e)).trans (if_neg fun e => h ((cond1_iff t).mp e))

theorem before11 (c : Dev nD) (t : Fin cfg0.N) (d) :
    (dats m 0 c).before 11 t d = if t.val % 4 = 0 then d else (st m c (t.val - 1) (by omega)).1 := by
  refine ((dats m 0 c).before_out_traj 11 rfl (fun _ _ => rfl) (fun t _ hi hf => ?_) t.val t rfl d).trans ?_
  · rw [after0_11, after0_11]
    exact carry11 m c t (by rw [fresh11 _ t.isLt.le] at hf; simpa using hf)
  · rw [fresh11 _ t.isLt.le, after0_11]; simp only [decide_eq_true_eq]

theorem before12 (c : Dev nD) (t : Fin cfg0.N) (d) :
    (dats m 0 c).before 12 t d = if t.val = 0 then d else (st m c (t.val - 1) (by omega)).2.1 := by
  have hN : t.val < 32 := lt_of_lt_of_eq t.isLt N_0
  refine ((dats m 0 c).before_out_traj 12 rfl (fun _ _ => rfl) (fun t hz hi hf => ?_) t.val t rfl d).trans ?_
  · rw [after0_12, after0_12]
    refine carry12 m c t hz ?_
    rw [idle12] at hi; simp only [Bool.and_eq_true, Bool.not_eq_true', decide_eq_false_iff_not] at hi; exact hi.2
  · rw [fresh12 _ t.isLt.le, after0_12, Nat.mod_eq_of_lt hN]; simp only [decide_eq_true_eq]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S512x1024 .f32) fullShare ((dats m 0 c).before 0 t d))
    ∗ (∃ d, owns (c : Thread nD τ) (win0_1.stage (cfg0.slots t 1) : Memref sig .tc .vmem S512x1024 .bf16) fullShare ((dats m 0 c).before 1 t d))
    ∗ (∃ d, owns (c : Thread nD τ) (win0_2.stage (cfg0.slots t 2) : Memref sig .tc .vmem S512x1024 .f32) fullShare ((dats m 0 c).before 2 t d))
    ∗ (∃ d, owns (c : Thread nD τ) (win0_3.stage (cfg0.slots t 3) : Memref sig .tc .vmem S512x1024 .bf16) fullShare ((dats m 0 c).before 3 t d))
    ∗ (∃ d, owns (c : Thread nD τ) (win0_4.stage (cfg0.slots t 4) : Memref sig .tc .vmem S1x1024 .f32) fullShare ((dats m 0 c).before 4 t d))
    ∗ (∃ d, owns (c : Thread nD τ) (win0_5.stage (cfg0.slots t 5) : Memref sig .tc .vmem S1x1024x1024 .bf16) fullShare ((dats m 0 c).before 5 t d))
    ∗ (∃ d, owns (c : Thread nD τ) (win0_6.stage (cfg0.slots t 6) : Memref sig .tc .vmem S1x1024x1024 .bf16) fullShare ((dats m 0 c).before 6 t d))
    ∗ (∃ d, owns (c : Thread nD τ) (win0_7.stage (cfg0.slots t 7) : Memref sig .tc .vmem S512x1024 .f32) fullShare ((dats m 0 c).before 7 t d))
    ∗ (∃ d, owns (c : Thread nD τ) (win0_8.stage (cfg0.slots t 8) : Memref sig .tc .vmem S512x1024 .bf16) fullShare ((dats m 0 c).before 8 t d))
    ∗ (∃ d, owns (c : Thread nD τ) (win0_9.stage (cfg0.slots t 9) : Memref sig .tc .vmem S512x1024 .bf16) fullShare ((dats m 0 c).before 9 t d))
    ∗ (∃ d, owns (c : Thread nD τ) (win0_10.stage (cfg0.slots t 10) : Memref sig .tc .vmem S1024x512 .bf16) fullShare ((dats m 0 c).before 10 t d))
    ∗ (∃ d, owns (c : Thread nD τ) (win0_11.stage (cfg0.slots t 11) : Memref sig .tc .vmem S1024x512 .bf16) fullShare ((dats m 0 c).before 11 t d))
    ∗ (∃ d, owns (c : Thread nD τ) (win0_12.stage (cfg0.slots t 12) : Memref sig .tc .vmem S1x1024 .f32) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The carried buffers after the point, from what the point finds: `h`, `d` in the windows, `s` in the accumulator. -/
theorem st_found (c : Dev nD) (t : Fin cfg0.N) (e11) (e12) (s : Vec F S512x1024 .f32)
    (hs : ∀ hz : t.val ≠ 0, s = (st m c (t.val - 1) (by omega)).2.2) :
    st m c t.val t.isLt = step m c t ((dats m 0 c).before 11 t e11, (dats m 0 c).before 12 t e12, s) := by
  by_cases h : t.val % 4 = 0
  · exact st_reset m c t h _ fun hz => by rw [before12, if_neg hz]
  · have hz : t.val ≠ 0 := fun e => h (by rw [e])
    rw [st_pos m c t hz, before11, if_neg h, before12, if_neg hz, hs hz]

set_option maxHeartbeats 4000000 in
/-- The body's run at a point, the accumulator holding `s`: every buffer is left as the proof data say. -/
theorem body_at (c : Dev nD) (t : Fin cfg0.N) (s : Vec F S512x1024 .f32)
    (hs : ∀ hz : t.val ≠ 0, s = (st m c (t.val - 1) (by omega)).2.2) :
    iprop((owns (c : Thread nD τ) (Memref.whole cc0_scratch0 : Memref sig .tc .vmem S512x1024 .f32) fullShare s ∗ (∃ r, prngReg c r))
      ∗ (dats m 0 c).owesAt () t.castSucc
    ∗ (∃ d, owns (c : Thread nD τ) (win0_0.stage (cfg0.slots t 0) : Memref sig .tc .vmem S512x1024 .f32) fullShare ((dats m 0 c).before 0 t d))
    ∗ (∃ d, owns (c : Thread nD τ) (win0_1.stage (cfg0.slots t 1) : Memref sig .tc .vmem S512x1024 .bf16) fullShare ((dats m 0 c).before 1 t d))
    ∗ (∃ d, owns (c : Thread nD τ) (win0_2.stage (cfg0.slots t 2) : Memref sig .tc .vmem S512x1024 .f32) fullShare ((dats m 0 c).before 2 t d))
    ∗ (∃ d, owns (c : Thread nD τ) (win0_3.stage (cfg0.slots t 3) : Memref sig .tc .vmem S512x1024 .bf16) fullShare ((dats m 0 c).before 3 t d))
    ∗ (∃ d, owns (c : Thread nD τ) (win0_4.stage (cfg0.slots t 4) : Memref sig .tc .vmem S1x1024 .f32) fullShare ((dats m 0 c).before 4 t d))
    ∗ (∃ d, owns (c : Thread nD τ) (win0_5.stage (cfg0.slots t 5) : Memref sig .tc .vmem S1x1024x1024 .bf16) fullShare ((dats m 0 c).before 5 t d))
    ∗ (∃ d, owns (c : Thread nD τ) (win0_6.stage (cfg0.slots t 6) : Memref sig .tc .vmem S1x1024x1024 .bf16) fullShare ((dats m 0 c).before 6 t d))
    ∗ (∃ d, owns (c : Thread nD τ) (win0_7.stage (cfg0.slots t 7) : Memref sig .tc .vmem S512x1024 .f32) fullShare ((dats m 0 c).before 7 t d))
    ∗ (∃ d, owns (c : Thread nD τ) (win0_8.stage (cfg0.slots t 8) : Memref sig .tc .vmem S512x1024 .bf16) fullShare ((dats m 0 c).before 8 t d))
    ∗ (∃ d, owns (c : Thread nD τ) (win0_9.stage (cfg0.slots t 9) : Memref sig .tc .vmem S512x1024 .bf16) fullShare ((dats m 0 c).before 9 t d))
    ∗ (∃ d, owns (c : Thread nD τ) (win0_10.stage (cfg0.slots t 10) : Memref sig .tc .vmem S1024x512 .bf16) fullShare ((dats m 0 c).before 10 t d))
    ∗ (∃ d, owns (c : Thread nD τ) (win0_11.stage (cfg0.slots t 11) : Memref sig .tc .vmem S1024x512 .bf16) fullShare ((dats m 0 c).before 11 t d))
    ∗ (∃ d, owns (c : Thread nD τ) (win0_12.stage (cfg0.slots t 12) : Memref sig .tc .vmem S1x1024 .f32) fullShare ((dats m 0 c).before 12 t d)))
      ⊢ wp frame (wpE (defs₀ (F := F)) Variants.none c none) Set.univ (bodyAt0 t) (fun _ => bodyPost m c t) := by
  unfold bodyPost bodyAt0
  rw [show (dats m 0 c).owesAt () t.succ = (dats m 0 c).owesAt () t.castSucc from rfl]
  rw [show (dats m 0 c).Φ t.succ = PhiS m c (t.val + 1) t.isLt from rfl]
  simp only [PhiS]
  iintro ⟨⟨HS, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  simp only [before0_0, before0_1, before0_2, before0_3, before0_4, before0_5, before0_6]
  have hst := st_found m c t e11 e12 s hs
  iapply (run c (grid0.coords t) _ _ _ _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) ((dats m 0 c).before 7 t e7) ((dats m 0 c).before 8 t e8) ((dats m 0 c).before 11 t e11)
    ((dats m 0 c).before 12 t e12) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  have ha : accOut (grid0.coords t) (iblk m c 1 t) (iblk m c 3 t) (iblk m c 5 t) (iblk m c 6 t) s = (st m c t.val t.isLt).2.2 := by rw [hst]; rfl
  rw [ha]
  isplitl [HS Hg]
  · isplitl [HS]; · iexact HS
    iexact Hg
  isplitl [Ho]; · iexact Ho
  isplitl [H0]; · iapply (Cert.Leaves.intro (dats m 0 c) 0 t (iblk m c 0 t) (fun _ => (after0_0 m c t).symm) (fun h => Bool.noConfusion h)); iexact H0
  isplitl [H1]; · iapply (Cert.Leaves.intro (dats m 0 c) 1 t (iblk m c 1 t) (fun _ => (after0_1 m c t).symm) (fun h => Bool.noConfusion h)); iexact H1
  isplitl [H2]; · iapply (Cert.Leaves.intro (dats m 0 c) 2 t (iblk m c 2 t) (fun _ => (after0_2 m c t).symm) (fun h => Bool.noConfusion h)); iexact H2
  isplitl [H3]; · iapply (Cert.Leaves.intro (dats m 0 c) 3 t (iblk m c 3 t) (fun _ => (after0_3 m c t).symm) (fun h => Bool.noConfusion h)); iexact H3
  isplitl [H4]; · iapply (Cert.Leaves.intro (dats m 0 c) 4 t (iblk m c 4 t) (fun _ => (after0_4 m c t).symm) (fun h => Bool.noConfusion h)); iexact H4
  isplitl [H5]; · iapply (Cert.Leaves.intro (dats m 0 c) 5 t (iblk m c 5 t) (fun _ => (after0_5 m c t).symm) (fun h => Bool.noConfusion h)); iexact H5
  isplitl [H6]; · iapply (Cert.Leaves.intro (dats m 0 c) 6 t (iblk m c 6 t) (fun _ => (after0_6 m c t).symm) (fun h => Bool.noConfusion h)); iexact H6
  have L7 := Cert.Leaves.intro (dats m 0 c) 7 t (dxOut (grid0.coords t) (iblk m c 0 t) (iblk m c 2 t) (iblk m c 4 t) (st m c t.val t.isLt).2.2 ((dats m 0 c).before 7 t e7))
    (fun h => (if_pos ((cond3_iff t).mpr (by rw [idle7, flush7] at h; simpa using h))).trans (after0_7 m c t).symm)
    (fun h _ => ⟨e7, if_neg fun e => by rw [idle7] at h; simp [(cond3_iff t).mp e] at h⟩)
  have L8 := Cert.Leaves.intro (dats m 0 c) 8 t (dxbOut (grid0.coords t) (iblk m c 0 t) (iblk m c 2 t) (iblk m c 4 t) (st m c t.val t.isLt).2.2 ((dats m 0 c).before 8 t e8))
    (fun h => (if_pos ((cond3_iff t).mpr (by rw [idle8, flush8] at h; simpa using h))).trans (after0_8 m c t).symm)
    (fun h _ => ⟨e8, if_neg fun e => by rw [idle8] at h; simp [(cond3_iff t).mp e] at h⟩)
  have L11 := Cert.Leaves.intro (dats m 0 c) 11 t (hOut (grid0.coords t) (iblk m c 2 t) (iblk m c 4 t) ((dats m 0 c).before 11 t e11))
    (fun _ => by rw [after0_11, hst]; rfl)
    (fun h _ => ⟨e11, if_neg fun e => by rw [idle11] at h; simp [(cond2_iff t).mp e] at h⟩)
  have L12 := Cert.Leaves.intro (dats m 0 c) 12 t (dgOut (grid0.coords t) (iblk m c 2 t) (st m c t.val t.isLt).2.2 ((dats m 0 c).before 12 t e12))
    (fun _ => by rw [after0_12, ← ha, hst]; rfl)
    (fun h _ => ⟨e12, by
      rw [idle12] at h
      simp only [Bool.and_eq_true, Bool.not_eq_true', decide_eq_false_iff_not] at h
      exact (if_neg fun e => h.2 ((cond3_iff t).mp e)).trans (if_neg fun e => h.1 ((cond1_iff t).mp e))⟩)
  isplitl [H7]; · iapply L7; iexact H7
  isplitl [H8]; · iapply L8; iexact H8
  isplitl [H9]; · iapply (Cert.Leaves.intro (dats m 0 c) 9 t (k0_pay13 (iblk m c 3 t) (iblk m c 1 t) (iblk m c 6 t)) (fun _ => (after0_9 m c t).symm) (fun h => Bool.noConfusion h)); iexact H9
  isplitl [H10]; · iapply (Cert.Leaves.intro (dats m 0 c) 10 t (k0_pay12 (iblk m c 3 t)) (fun _ => (after0_10 m c t).symm) (fun h => Bool.noConfusion h)); iexact H10
  isplitl [H11]; · iapply L11; iexact H11
  iapply L12; iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc]
  by_cases hz : t.val = 0
  · rw [show PhiS m c t.val (Nat.le_of_lt t.isLt) = Pipeline.ΦA spec0 c from by obtain ⟨n, hn⟩ := t; subst hz; rfl, PhiA0_eq]
    iintro ⟨⟨⟨%s, HS⟩, Hg⟩, H⟩
    iapply (body_at m c t s (fun h => absurd hz h))
    isplitl [HS Hg]
    · isplitl [HS]; · iexact HS
      iexact Hg
    iexact H
  · rw [PhiS_pos m c _ _ hz]
    exact body_at m c t _ fun _ => rfl

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨HS, Hg⟩
  isplitl [HS]; · iexists _; iexact HS
  iexact Hg

/-! ## The whole call -/

set_option backward.isDefEq.respectTransparency.types false in
/-- The call runs to its end, every array holding what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the call runs and terminates, its arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnBwdIdeal.Hand

end
-- ==== Proof.FfnBits.lean ====
/- The frame of the feed-forward layer's backward call at the machine's floats: the call's text is the idealized call's,
   so the run over any float values is its run. -/
module

public import proofs.«01_k».proof.Defs
public import proofs.«01_k».proof.Proof.FfnFrame
public import proofs.«01_k».proof.Proof.Gen.FfnBwd.Launch

@[expose] public section

set_option maxRecDepth 16384

namespace Cert.FfnBwd.Hand

open Idealize.ShloMosaic Idealize.ShloMosaic.TcCoe

/-- At the machine's floats the call runs, terminates, leaves its arguments as they were and every semaphore at zero. -/
theorem frame [hFfnBwd : Cert.FfnBwd.Facts] : Cert.quiescent_FfnBwd := fun m ρ _ =>
  Eq.mp (by sl_kernel_rfl) (Cert.FfnBwdIdeal.Hand.frame (F := Bits) m ρ)

end Cert.FfnBwd.Hand
-- ==== Proof.MixPoint.lean ====
/- One grid point of the token mixers' backward body, in names: the buffers it is given, what they hold, the values its
   parts pass on (each named as in the body's skeleton) and what the buffers hold after each part. -/
module

public import proofs.«01_k».proof.Proof.Gen.MixBwdIdeal.Skeleton
public import proofs.«01_k».proof.Proof.Gen.MixBwdIdeal.Launch
public import proofs.«01_k».proof.Proof.Whole
public import Idealize.ShloMosaic.Lib.Ring
public import Idealize.ShloMosaic.Lib.Tactic

@[expose] public section

set_option maxRecDepth 16384

noncomputable section

namespace Cert.MixBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixBwdIdeal.Gen

/-- The buffers the body is called with, each a whole buffer. -/
structure Refs where
  a1 : Memref sig .tc .vmem S256x1024 .f32
  h1 : a1.IsWhole
  a2 : Memref sig .tc .vmem S256x1024 .bf16
  h2 : a2.IsWhole
  a3 : Memref sig .tc .vmem S256x1024 .f32
  h3 : a3.IsWhole
  a4 : Memref sig .tc .vmem S256x1024 .f32
  h4 : a4.IsWhole
  a5 : Memref sig .tc .vmem S32x512 .f32
  h5 : a5.IsWhole
  a6 : Memref sig .tc .vmem S32x512 .f32
  h6 : a6.IsWhole
  a7 : Memref sig .tc .vmem S256x512 .f32
  h7 : a7.IsWhole
  a8 : Memref sig .tc .vmem S256x2048 .f32
  h8 : a8.IsWhole
  a9 : Memref sig .tc .vmem S256x128 .f32
  h9 : a9.IsWhole
  a10 : Memref sig .tc .vmem S1x1024 .f32
  h10 : a10.IsWhole
  a11 : Memref sig .tc .vmem S4x1024x512 .bf16
  h11 : a11.IsWhole
  a12 : Memref sig .tc .vmem S1x512 .f32
  h12 : a12.IsWhole
  a13 : Memref sig .tc .vmem S1x512 .f32
  h13 : a13.IsWhole
  a14 : Memref sig .tc .vmem S4x128x128 .f32
  h14 : a14.IsWhole
  a15 : Memref sig .tc .vmem S4x128x128 .f32
  h15 : a15.IsWhole
  a16 : Memref sig .tc .vmem S4x128x128 .f32
  h16 : a16.IsWhole
  a17 : Memref sig .tc .vmem S32x512 .f32
  h17 : a17.IsWhole
  a18 : Memref sig .tc .vmem S1x512 .f32
  h18 : a18.IsWhole
  a19 : Memref sig .tc .vmem S1x512 .f32
  h19 : a19.IsWhole
  a20 : Memref sig .tc .vmem S1x512 .f32
  h20 : a20.IsWhole
  a21 : Memref sig .tc .vmem S4x256x1024 .bf16
  h21 : a21.IsWhole
  a22 : Memref sig .tc .vmem S256x1024 .f32
  h22 : a22.IsWhole
  a23 : Memref sig .tc .vmem S256x1024 .bf16
  h23 : a23.IsWhole
  a24 : Memref sig .tc .vmem S256x2048 .bf16
  h24 : a24.IsWhole
  a25 : Memref sig .tc .vmem S1024x256 .bf16
  h25 : a25.IsWhole
  a26 : Memref sig .tc .vmem S1024x256 .bf16
  h26 : a26.IsWhole
  a27 : Memref sig .tc .vmem S1x1024 .f32
  h27 : a27.IsWhole
  a28 : Memref sig .tc .vmem S1x512 .f32
  h28 : a28.IsWhole
  a29 : Memref sig .tc .vmem S1x512 .f32
  h29 : a29.IsWhole
  a30 : Memref sig .tc .vmem S4x128x128 .f32
  h30 : a30.IsWhole
  a31 : Memref sig .tc .vmem S4x128x128 .f32
  h31 : a31.IsWhole
  a32 : Memref sig .tc .vmem S32x512 .f32
  h32 : a32.IsWhole
  a33 : Memref sig .tc .vmem S1x512 .f32
  h33 : a33.IsWhole
  a34 : Memref sig .tc .vmem S1x512 .f32
  h34 : a34.IsWhole
  a35 : Memref sig .tc .vmem S1x512 .f32
  h35 : a35.IsWhole
  a36 : Memref sig .tc .vmem S32x512 .f32
  h36 : a36.IsWhole
  a37 : Memref sig .tc .vmem S256x512 .f32
  h37 : a37.IsWhole
  a38 : Memref sig .tc .vmem S256x512 .f32
  h38 : a38.IsWhole

/-- A part of the body on the buffers. -/
abbrev Refs.call {α : Type 1} (A : Refs) (f : (a1 : Memref sig .tc .vmem S256x1024 .f32) → a1.IsWhole → (a2 : Memref sig .tc .vmem S256x1024 .bf16) → a2.IsWhole → (a3 : Memref sig .tc .vmem S256x1024 .f32) → a3.IsWhole → (a4 : Memref sig .tc .vmem S256x1024 .f32) → a4.IsWhole → (a5 : Memref sig .tc .vmem S32x512 .f32) → a5.IsWhole → (a6 : Memref sig .tc .vmem S32x512 .f32) → a6.IsWhole → (a7 : Memref sig .tc .vmem S256x512 .f32) → a7.IsWhole → (a8 : Memref sig .tc .vmem S256x2048 .f32) → a8.IsWhole → (a9 : Memref sig .tc .vmem S256x128 .f32) → a9.IsWhole → (a10 : Memref sig .tc .vmem S1x1024 .f32) → a10.IsWhole → (a11 : Memref sig .tc .vmem S4x1024x512 .bf16) → a11.IsWhole → (a12 : Memref sig .tc .vmem S1x512 .f32) → a12.IsWhole → (a13 : Memref sig .tc .vmem S1x512 .f32) → a13.IsWhole → (a14 : Memref sig .tc .vmem S4x128x128 .f32) → a14.IsWhole → (a15 : Memref sig .tc .vmem S4x128x128 .f32) → a15.IsWhole → (a16 : Memref sig .tc .vmem S4x128x128 .f32) → a16.IsWhole → (a17 : Memref sig .tc .vmem S32x512 .f32) → a17.IsWhole → (a18 : Memref sig .tc .vmem S1x512 .f32) → a18.IsWhole → (a19 : Memref sig .tc .vmem S1x512 .f32) → a19.IsWhole → (a20 : Memref sig .tc .vmem S1x512 .f32) → a20.IsWhole → (a21 : Memref sig .tc .vmem S4x256x1024 .bf16) → a21.IsWhole → (a22 : Memref sig .tc .vmem S256x1024 .f32) → a22.IsWhole → (a23 : Memref sig .tc .vmem S256x1024 .bf16) → a23.IsWhole → (a24 : Memref sig .tc .vmem S256x2048 .bf16) → a24.IsWhole → (a25 : Memref sig .tc .vmem S1024x256 .bf16) → a25.IsWhole → (a26 : Memref sig .tc .vmem S1024x256 .bf16) → a26.IsWhole → (a27 : Memref sig .tc .vmem S1x1024 .f32) → a27.IsWhole → (a28 : Memref sig .tc .vmem S1x512 .f32) → a28.IsWhole → (a29 : Memref sig .tc .vmem S1x512 .f32) → a29.IsWhole → (a30 : Memref sig .tc .vmem S4x128x128 .f32) → a30.IsWhole → (a31 : Memref sig .tc .vmem S4x128x128 .f32) → a31.IsWhole → (a32 : Memref sig .tc .vmem S32x512 .f32) → a32.IsWhole → (a33 : Memref sig .tc .vmem S1x512 .f32) → a33.IsWhole → (a34 : Memref sig .tc .vmem S1x512 .f32) → a34.IsWhole → (a35 : Memref sig .tc .vmem S1x512 .f32) → a35.IsWhole → (a36 : Memref sig .tc .vmem S32x512 .f32) → a36.IsWhole → (a37 : Memref sig .tc .vmem S256x512 .f32) → a37.IsWhole → (a38 : Memref sig .tc .vmem S256x512 .f32) → a38.IsWhole → α) : α :=
  f A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 A.a37 A.h37 A.a38 A.h38

/-- A grid point and what the buffers it reads hold; the carried ones as they are after the first point's reset. -/
structure Pt (F : FTy → Type) where
  i : grid0.Coords
  dx1 : Vec F S256x1024 .f32
  dxb : Vec F S256x1024 .bf16
  x : Vec F S256x1024 .f32
  pj : Vec F S256x1024 .f32
  vbh : Vec F S32x512 .f32
  gbh : Vec F S32x512 .f32
  cpre : Vec F S256x512 .f32
  kept : Vec F S256x2048 .f32
  rs : Vec F S256x128 .f32
  g1 : Vec F S1x1024 .f32
  win : Vec F S4x1024x512 .bf16
  lng : Vec F S1x512 .f32
  lnb : Vec F S1x512 .f32
  ws : Vec F S4x128x128 .f32
  wst : Vec F S4x128x128 .f32
  bf : Vec F S4x128x128 .f32
  cw : Vec F S32x512 .f32
  cb : Vec F S1x512 .f32
  cg : Vec F S1x512 .f32
  cbeta : Vec F S1x512 .f32
  wout : Vec F S4x256x1024 .bf16
  dg1 : Vec F S1x1024 .f32
  dlng : Vec F S1x512 .f32
  dlnb : Vec F S1x512 .f32
  dws : Vec F S4x128x128 .f32
  dbs : Vec F S4x128x128 .f32
  dcw : Vec F S32x512 .f32
  dcb : Vec F S1x512 .f32
  dcg : Vec F S1x512 .f32
  dcbeta : Vec F S1x512 .f32
  carry : Vec F S32x512 .f32

/-- The grid's first point, where the body resets what it carries. -/
abbrev reset (i : grid0.Coords) : Prop :=
  (Scalar.cmpi .ne (Scalar.extui (Scalar.cmpi .eq (BitVec.ofNat 32 (i 0).val) 0#32)) 0#32 : BitVec 1) = 1#1

namespace Pt

variable {F : FTy → Type} [FloatOps F]

/-- What is stored in buffer 25. -/
def h1t (p : Pt F) : Vec F S1024x256 .bf16 := (k0_pay15 (View.ld p.g1 (Rect.unit (s := S1x1024) ![0, 0] S1x1024.size inb_S1x1024_S1x1024_0_0)) (View.ld p.x (Rect.unit (s := S256x1024) ![0, 0] S256x1024.size inb_S256x1024_S256x1024_0_0)))
def v5 (p : Pt F) : FVec F S1x1024 .f32 := k0_pay11 (View.ld p.g1 (Rect.unit (s := S1x1024) ![0, 0] S1x1024.size inb_S1x1024_S1x1024_0_0))
def v15 (p : Pt F) : FVec F S256x1 .f32 := k0_pay13 (View.ld p.x (Rect.unit (s := S256x1024) ![0, 0] S256x1024.size inb_S256x1024_S256x1024_0_0))
def v17 (p : Pt F) : FVec F S256x1024 .f32 := k0_pay14 (View.ld p.x (Rect.unit (s := S256x1024) ![0, 0] S256x1024.size inb_S256x1024_S256x1024_0_0))
def v24 (p : Pt F) : FVec F S256x512 .f32 := k0_pay16 (View.ld p.pj (Rect.unit (s := S256x1024) ![0, 0] S256x512.size inb_S256x1024_S256x512_0_0))
def v26 (p : Pt F) : FVec F S256x512 .f32 := k0_pay17 (View.ld p.pj (Rect.unit (s := S256x1024) ![0, 512] S256x512.size inb_S256x1024_S256x512_0_512))
def v27 (p : Pt F) : BitVec 1 := Scalar.cmpi .sgt (Scalar.subi 15#32 (BitVec.ofNat 32 (p.i 0).val)) 0#32
def v29 (p : Pt F) : FVec F S32x512 .f32 := k0_pay18 (View.ld p.vbh (Rect.unit (s := S32x512) ![0, 0] S32x512.size inb_S32x512_S32x512_0_0))
def v34 (p : Pt F) : FVec F S32x512 .f32 := k0_pay19 (View.ld p.gbh (Rect.unit (s := S32x512) ![0, 0] S32x512.size inb_S32x512_S32x512_0_0))
def v41 (p : Pt F) : FVec F S32x512 .f32 := k0_pay20 p.v27 p.v29 p.v34
def v43 (p : Pt F) : FVec F S1x512 .f32 := k0_pay21 (View.ld p.lng (Rect.unit (s := S1x512) ![0, 0] S1x512.size inb_S1x512_S1x512_0_0))
def v45 (p : Pt F) : FVec F S1x512 .f32 := k0_pay22 (View.ld p.cg (Rect.unit (s := S1x512) ![0, 0] S1x512.size inb_S1x512_S1x512_0_0))
def v47 (p : Pt F) : FVec F S256x512 .f32 := k0_pay23 (View.ld p.kept (Rect.unit (s := S256x2048) ![0, 0] S256x512.size inb_S256x2048_S256x512_0_0))
def v49 (p : Pt F) : FVec F S256x512 .f32 := k0_pay24 (View.ld p.kept (Rect.unit (s := S256x2048) ![0, 512] S256x512.size inb_S256x2048_S256x512_0_512))
def v51 (p : Pt F) : FVec F S256x512 .f32 := k0_pay25 (View.ld p.kept (Rect.unit (s := S256x2048) ![0, 1024] S256x512.size inb_S256x2048_S256x512_0_1024))
def v53 (p : Pt F) : FVec F S256x512 .f32 := k0_pay26 (View.ld p.kept (Rect.unit (s := S256x2048) ![0, 1536] S256x512.size inb_S256x2048_S256x512_0_1536))
def v55 (p : Pt F) : FVec F S256x1 .f32 := k0_pay27 (View.ld p.rs (Rect.unit (s := S256x128) ![0, 0] S256x1.size inb_S256x128_S256x1_0_0))
def v59 (p : Pt F) : FVec F S1x512 .f32 := k0_pay28 (View.ld p.cbeta (Rect.unit (s := S1x512) ![0, 0] S1x512.size inb_S1x512_S1x512_0_0))
def v61 (p : Pt F) : FVec F S256x512 .f32 := k0_pay29 (View.ld p.cpre (Rect.unit (s := S256x512) ![0, 0] S256x512.size inb_S256x512_S256x512_0_0))
def v65 (p : Pt F) : FVec F S256x512 .f32 := k0_pay30 (View.ld p.lng (Rect.unit (s := S1x512) ![0, 0] S1x512.size inb_S1x512_S1x512_0_0)) (View.ld p.kept (Rect.unit (s := S256x2048) ![0, 1536] S256x512.size inb_S256x2048_S256x512_0_1536)) (View.ld p.lnb (Rect.unit (s := S1x512) ![0, 0] S1x512.size inb_S1x512_S1x512_0_0))
def v68 (p : Pt F) : IVec S128x128 1 := k0_pay31
def mx4 (p : Pt F) (y : Vec F S256x512 .f32) : Vec F S256x512 .f32 := Cert.Whole.put y (Rect.unit (s := S256x512) ![0, 0] S128x128.size inb_S256x512_S128x128_0_0) (k0_pay37 p.v65 p.v68 (View.ld p.ws (Rect.unit (s := S4x128x128) ![0, 0, 0] S1x128x128.size inb_S4x128x128_S1x128x128_0_0_0)) (View.ld p.bf (Rect.unit (s := S4x128x128) ![0, 0, 0] S1x128x128.size inb_S4x128x128_S1x128x128_0_0_0)))
def v73 (p : Pt F) : FVec F S128x128 .bf16 := k0_pay32 p.v68 (View.ld p.ws (Rect.unit (s := S4x128x128) ![0, 0, 0] S1x128x128.size inb_S4x128x128_S1x128x128_0_0_0))
def v78 (p : Pt F) : FVec F S128x128 .bf16 := k0_pay33 p.v68 (View.ld p.ws (Rect.unit (s := S4x128x128) ![1, 0, 0] S1x128x128.size inb_S4x128x128_S1x128x128_1_0_0))
def v83 (p : Pt F) : FVec F S128x128 .bf16 := k0_pay34 p.v68 (View.ld p.ws (Rect.unit (s := S4x128x128) ![2, 0, 0] S1x128x128.size inb_S4x128x128_S1x128x128_2_0_0))
def v88 (p : Pt F) : FVec F S128x128 .bf16 := k0_pay35 p.v68 (View.ld p.ws (Rect.unit (s := S4x128x128) ![3, 0, 0] S1x128x128.size inb_S4x128x128_S1x128x128_3_0_0))
def v89 (p : Pt F) : FVec F S256x512 .bf16 := k0_pay36 p.v65
def v102 (p : Pt F) : FVec F S128x128 .f32 := k0_pay38 p.v65 p.v68 (View.ld p.ws (Rect.unit (s := S4x128x128) ![1, 0, 0] S1x128x128.size inb_S4x128x128_S1x128x128_1_0_0)) (View.ld p.bf (Rect.unit (s := S4x128x128) ![1, 0, 0] S1x128x128.size inb_S4x128x128_S1x128x128_1_0_0))
def mx5 (p : Pt F) (y : Vec F S256x512 .f32) : Vec F S256x512 .f32 := Cert.Whole.put (Cert.Whole.put (Cert.Whole.put (Cert.Whole.put ((p.mx4 y)) (Rect.unit (s := S256x512) ![0, 128] S128x128.size inb_S256x512_S128x128_0_128) (k0_pay39 p.v102)) (Rect.unit (s := S256x512) ![0, 256] S128x128.size inb_S256x512_S128x128_0_256) (k0_pay40 p.v83 p.v89 (View.ld p.bf (Rect.unit (s := S4x128x128) ![2, 0, 0] S1x128x128.size inb_S4x128x128_S1x128x128_2_0_0)))) (Rect.unit (s := S256x512) ![0, 384] S128x128.size inb_S256x512_S128x128_0_384) (k0_pay41 p.v88 p.v89 (View.ld p.bf (Rect.unit (s := S4x128x128) ![3, 0, 0] S1x128x128.size inb_S4x128x128_S1x128x128_3_0_0)))) (Rect.unit (s := S256x512) ![128, 0] S128x128.size inb_S256x512_S128x128_128_0) (k0_pay42 p.v73 p.v89 (View.ld p.bf (Rect.unit (s := S4x128x128) ![0, 0, 0] S1x128x128.size inb_S4x128x128_S1x128x128_0_0_0)))
def v134 (p : Pt F) : FVec F S128x128 .f32 := (k0_pay43 p.v78 p.v89 (View.ld p.bf (Rect.unit (s := S4x128x128) ![1, 0, 0] S1x128x128.size inb_S4x128x128_S1x128x128_1_0_0)))
def mx6 (p : Pt F) (y : Vec F S256x512 .f32) : Vec F S256x512 .f32 := Cert.Whole.put (Cert.Whole.put (Cert.Whole.put ((p.mx5 y)) (Rect.unit (s := S256x512) ![128, 128] S128x128.size inb_S256x512_S128x128_128_128) (k0_pay44 p.v134)) (Rect.unit (s := S256x512) ![128, 256] S128x128.size inb_S256x512_S128x128_128_256) (k0_pay45 p.v83 p.v89 (View.ld p.bf (Rect.unit (s := S4x128x128) ![2, 0, 0] S1x128x128.size inb_S4x128x128_S1x128x128_2_0_0)))) (Rect.unit (s := S256x512) ![128, 384] S128x128.size inb_S256x512_S128x128_128_384) (k0_pay46 p.v88 p.v89 (View.ld p.bf (Rect.unit (s := S4x128x128) ![3, 0, 0] S1x128x128.size inb_S4x128x128_S1x128x128_3_0_0)))
/-- Buffer 37 once its pieces are all stored. -/
def mx (p : Pt F) : Vec F S256x512 .f32 := View.canon (Val := Elt F) (s := S256x512) (e := .f32) [⟨Rect.unit (s := S256x512) ![128, 384] S128x128.size inb_S256x512_S128x128_128_384, (k0_pay46 p.v88 p.v89 (View.ld p.bf (Rect.unit (s := S4x128x128) ![3, 0, 0] S1x128x128.size inb_S4x128x128_S1x128x128_3_0_0)))⟩, ⟨Rect.unit (s := S256x512) ![128, 256] S128x128.size inb_S256x512_S128x128_128_256, (k0_pay45 p.v83 p.v89 (View.ld p.bf (Rect.unit (s := S4x128x128) ![2, 0, 0] S1x128x128.size inb_S4x128x128_S1x128x128_2_0_0)))⟩, ⟨Rect.unit (s := S256x512) ![128, 128] S128x128.size inb_S256x512_S128x128_128_128, (k0_pay44 p.v134)⟩, ⟨Rect.unit (s := S256x512) ![128, 0] S128x128.size inb_S256x512_S128x128_128_0, (k0_pay42 p.v73 p.v89 (View.ld p.bf (Rect.unit (s := S4x128x128) ![0, 0, 0] S1x128x128.size inb_S4x128x128_S1x128x128_0_0_0)))⟩, ⟨Rect.unit (s := S256x512) ![0, 384] S128x128.size inb_S256x512_S128x128_0_384, (k0_pay41 p.v88 p.v89 (View.ld p.bf (Rect.unit (s := S4x128x128) ![3, 0, 0] S1x128x128.size inb_S4x128x128_S1x128x128_3_0_0)))⟩, ⟨Rect.unit (s := S256x512) ![0, 256] S128x128.size inb_S256x512_S128x128_0_256, (k0_pay40 p.v83 p.v89 (View.ld p.bf (Rect.unit (s := S4x128x128) ![2, 0, 0] S1x128x128.size inb_S4x128x128_S1x128x128_2_0_0)))⟩, ⟨Rect.unit (s := S256x512) ![0, 128] S128x128.size inb_S256x512_S128x128_0_128, (k0_pay39 p.v102)⟩, ⟨Rect.unit (s := S256x512) ![0, 0] S128x128.size inb_S256x512_S128x128_0_0, (k0_pay37 p.v65 p.v68 (View.ld p.ws (Rect.unit (s := S4x128x128) ![0, 0, 0] S1x128x128.size inb_S4x128x128_S1x128x128_0_0_0)) (View.ld p.bf (Rect.unit (s := S4x128x128) ![0, 0, 0] S1x128x128.size inb_S4x128x128_S1x128x128_0_0_0)))⟩]
def v154 (p : Pt F) : Vec F S256x512 .f32 := View.ld p.mx (Rect.unit (s := S256x512) ![0, 0] S256x512.size inb_S256x512_S256x512_0_0)
def v155 (p : Pt F) : FVec F S256x512 .f32 := k0_pay47 p.v47 p.v154
def v162 (p : Pt F) : FVec F S256x512 .f32 := k0_pay48 p.v26
def v164 (p : Pt F) : FVec F S288x512 .f32 := k0_pay49 p.v24 p.v26 p.v41
def v165 (p : Pt F) : FVec F S288x512 .f32 := k0_pay50 p.v24 p.v26 p.v41
def v166 (p : Pt F) : FVec F S288x512 .f32 := k0_pay51 p.v24 p.v26 p.v41
def v167 (p : Pt F) : FVec F S288x512 .f32 := k0_pay52 p.v24 p.v26 p.v41
def v168 (p : Pt F) : FVec F S288x512 .f32 := k0_pay53 p.v24 p.v26 p.v41
def v169 (p : Pt F) : FVec F S288x512 .f32 := k0_pay54 p.v24 p.v26 p.v41
def v170 (p : Pt F) : FVec F S288x512 .f32 := k0_pay55 p.v164
def v171 (p : Pt F) : FVec F S288x512 .f32 := k0_pay56 p.v164
def v186 (p : Pt F) : FVec F S256x1 .f32 := k0_pay58 p.v61
def v188 (p : Pt F) : FVec F S256x128 .f32 := k0_pay59 p.v61
def v203 (p : Pt F) : FVec F S256x1 .f32 := k0_pay61 p.v61
def v205 (p : Pt F) : FVec F S256x128 .f32 := k0_pay62 p.v61
def v212 (p : Pt F) : FVec F S256x128 .f32 := k0_pay63 p.v61
def v214 (p : Pt F) : FVec F S256 .f32 := k0_pay64 p.v61
def mixt (p : Pt F) : Vec F S1024x256 .bf16 := View.canon (Val := Elt F) (s := S1024x256) (e := .bf16) [⟨Rect.unit (s := S1024x256) ![512, 0] S512x256.size inb_S1024x256_S512x256_512_0, (k0_pay72 p.v45 p.v59 p.v61 p.v188 p.v205 p.v212 p.v214)⟩, ⟨Rect.unit (s := S1024x256) ![0, 0] S512x256.size inb_S1024x256_S512x256_0_0, (k0_pay71 p.v155)⟩]
def v220 (p : Pt F) : FVec F S256x1 .f32 := k0_pay65 p.v214
def v237 (p : Pt F) : FVec F S256x1 .f32 := k0_pay67 p.v61
def v240 (p : Pt F) : FVec F S256x512 .f32 := k0_pay68 p.v61 p.v188 p.v205 p.v212 p.v214
def v244 (p : Pt F) : FVec F S256x512 .f32 := k0_pay69 p.v45 p.v59 p.v61 p.v188 p.v205 p.v212 p.v214
def v251 (p : Pt F) : FVec F S256x512 .f32 := k0_pay70 p.v45 p.v59 p.v61 p.v188 p.v205 p.v212 p.v214
def v275 (p : Pt F) : FVec F S256x512 .f32 := k0_pay75 (View.ld p.dxb (Rect.unit (s := S256x1024) ![0, 0] S256x1024.size inb_S256x1024_S256x1024_0_0)) (View.ld p.wout (Rect.unit (s := S4x256x1024) ![0, 0, 0] S1x256x1024.size inb_S4x256x1024_S1x256x1024_0_0_0)) (View.ld p.wout (Rect.unit (s := S4x256x1024) ![1, 0, 0] S1x256x1024.size inb_S4x256x1024_S1x256x1024_1_0_0)) (View.ld p.wout (Rect.unit (s := S4x256x1024) ![2, 0, 0] S1x256x1024.size inb_S4x256x1024_S1x256x1024_2_0_0)) (View.ld p.wout (Rect.unit (s := S4x256x1024) ![3, 0, 0] S1x256x1024.size inb_S4x256x1024_S1x256x1024_3_0_0))
def v277 (p : Pt F) : FVec F S256x512 .f32 := k0_pay76 p.v49 p.v154 (View.ld p.dxb (Rect.unit (s := S256x1024) ![0, 0] S256x1024.size inb_S256x1024_S256x1024_0_0)) (View.ld p.wout (Rect.unit (s := S4x256x1024) ![0, 0, 0] S1x256x1024.size inb_S4x256x1024_S1x256x1024_0_0_0)) (View.ld p.wout (Rect.unit (s := S4x256x1024) ![1, 0, 0] S1x256x1024.size inb_S4x256x1024_S1x256x1024_1_0_0)) (View.ld p.wout (Rect.unit (s := S4x256x1024) ![2, 0, 0] S1x256x1024.size inb_S4x256x1024_S1x256x1024_2_0_0)) (View.ld p.wout (Rect.unit (s := S4x256x1024) ![3, 0, 0] S1x256x1024.size inb_S4x256x1024_S1x256x1024_3_0_0))
def v279 (p : Pt F) : FVec F S256x512 .bf16 := k0_pay77 p.v47 (View.ld p.dxb (Rect.unit (s := S256x1024) ![0, 0] S256x1024.size inb_S256x1024_S256x1024_0_0)) (View.ld p.wout (Rect.unit (s := S4x256x1024) ![0, 0, 0] S1x256x1024.size inb_S4x256x1024_S1x256x1024_0_0_0)) (View.ld p.wout (Rect.unit (s := S4x256x1024) ![1, 0, 0] S1x256x1024.size inb_S4x256x1024_S1x256x1024_1_0_0)) (View.ld p.wout (Rect.unit (s := S4x256x1024) ![2, 0, 0] S1x256x1024.size inb_S4x256x1024_S1x256x1024_2_0_0)) (View.ld p.wout (Rect.unit (s := S4x256x1024) ![3, 0, 0] S1x256x1024.size inb_S4x256x1024_S1x256x1024_3_0_0))
def v282 (p : Pt F) : IVec S128x128 1 := k0_pay78
def v287 (p : Pt F) : FVec F S128x128 .bf16 := k0_pay79 (View.ld p.wst (Rect.unit (s := S4x128x128) ![0, 0, 0] S1x128x128.size inb_S4x128x128_S1x128x128_0_0_0))
def v292 (p : Pt F) : FVec F S128x128 .bf16 := k0_pay80 (View.ld p.wst (Rect.unit (s := S4x128x128) ![1, 0, 0] S1x128x128.size inb_S4x128x128_S1x128x128_1_0_0))
def dvs10 (p : Pt F) (y : Vec F S256x512 .f32) : Vec F S256x512 .f32 := Cert.Whole.put (Cert.Whole.put y (Rect.unit (s := S256x512) ![0, 0] S128x128.size inb_S256x512_S128x128_0_0) (k0_pay85 p.v279 p.v287)) (Rect.unit (s := S256x512) ![128, 0] S128x128.size inb_S256x512_S128x128_128_0) (k0_pay87 p.v279 p.v287)
def v297 (p : Pt F) : FVec F S128x128 .bf16 := k0_pay81 p.v282 (View.ld p.wst (Rect.unit (s := S4x128x128) ![2, 0, 0] S1x128x128.size inb_S4x128x128_S1x128x128_2_0_0))
def v302 (p : Pt F) : FVec F S128x128 .bf16 := k0_pay82 p.v282 (View.ld p.wst (Rect.unit (s := S4x128x128) ![3, 0, 0] S1x128x128.size inb_S4x128x128_S1x128x128_3_0_0))
def v305 (p : Pt F) : IVec S128x128 1 := k0_pay83
def v325 (p : Pt F) : FVec F S128x128 .f32 := k0_pay88 p.v89 p.v279
def v327 (p : Pt F) : FVec F S128x128 .f32 := k0_pay89 p.v279
def v329 (p : Pt F) : FVec F S128x128 .f32 := k0_pay90 (View.ld p.dws (Rect.unit (s := S4x128x128) ![0, 0, 0] S1x128x128.size inb_S4x128x128_S1x128x128_0_0_0))
def ws11 (p : Pt F) : Vec F S4x128x128 .f32 := Cert.Whole.put p.dws (Rect.unit (s := S4x128x128) ![0, 0, 0] S1x128x128.size inb_S4x128x128_S1x128x128_0_0_0) (k0_pay91 p.v305 p.v325 p.v329)
def bs11 (p : Pt F) : Vec F S4x128x128 .f32 := Cert.Whole.put p.dbs (Rect.unit (s := S4x128x128) ![0, 0, 0] S1x128x128.size inb_S4x128x128_S1x128x128_0_0_0) (k0_pay92 p.v327 (View.ld p.dbs (Rect.unit (s := S4x128x128) ![0, 0, 0] S1x128x128.size inb_S4x128x128_S1x128x128_0_0_0)))
def dvs11 (p : Pt F) (y : Vec F S256x512 .f32) : Vec F S256x512 .f32 := Cert.Whole.put (Cert.Whole.put ((p.dvs10 y)) (Rect.unit (s := S256x512) ![0, 128] S128x128.size inb_S256x512_S128x128_0_128) (k0_pay94 p.v279 p.v292)) (Rect.unit (s := S256x512) ![128, 128] S128x128.size inb_S256x512_S128x128_128_128) (k0_pay98 p.v279 p.v292)
def v355 (p : Pt F) : FVec F S128x128 .f32 := k0_pay95 p.v89 p.v279
def v357 (p : Pt F) : FVec F S128x128 .f32 := k0_pay96 p.v279
def v358 (p : Pt F) : FVec F S128x128 .bf16 := k0_pay97 p.v279
def v364 (p : Pt F) : FVec F S128x128 .f32 := k0_pay99 p.v89 p.v279
def ws12 (p : Pt F) : Vec F S4x128x128 .f32 := Cert.Whole.put p.ws11 (Rect.unit (s := S4x128x128) ![1, 0, 0] S1x128x128.size inb_S4x128x128_S1x128x128_1_0_0) (k0_pay100 p.v305 p.v355 p.v364 (View.ld p.ws11 (Rect.unit (s := S4x128x128) ![1, 0, 0] S1x128x128.size inb_S4x128x128_S1x128x128_1_0_0)))
def bs12 (p : Pt F) : Vec F S4x128x128 .f32 := Cert.Whole.put p.bs11 (Rect.unit (s := S4x128x128) ![1, 0, 0] S1x128x128.size inb_S4x128x128_S1x128x128_1_0_0) (k0_pay101 p.v357 p.v358 (View.ld p.bs11 (Rect.unit (s := S4x128x128) ![1, 0, 0] S1x128x128.size inb_S4x128x128_S1x128x128_1_0_0)))
def dvs12 (p : Pt F) (y : Vec F S256x512 .f32) : Vec F S256x512 .f32 := Cert.Whole.put ((p.dvs11 y)) (Rect.unit (s := S256x512) ![0, 256] S128x128.size inb_S256x512_S128x128_0_256) (k0_pay103 p.v279 p.v297)
def v395 (p : Pt F) : FVec F S128x128 .f32 := k0_pay104 p.v89 p.v279
def v397 (p : Pt F) : FVec F S128x128 .f32 := k0_pay105 p.v279
def v398 (p : Pt F) : FVec F S128x128 .bf16 := k0_pay106 p.v279
def v399 (p : Pt F) : FVec F S128x128 .f32 := k0_pay107 p.v279 p.v297
def dvs13 (p : Pt F) (y : Vec F S256x512 .f32) : Vec F S256x512 .f32 := Cert.Whole.put (Cert.Whole.put ((p.dvs12 y)) (Rect.unit (s := S256x512) ![128, 256] S128x128.size inb_S256x512_S128x128_128_256) (k0_pay108 p.v399)) (Rect.unit (s := S256x512) ![0, 384] S128x128.size inb_S256x512_S128x128_0_384) (k0_pay114 p.v279 p.v302)
def ws13 (p : Pt F) : Vec F S4x128x128 .f32 := Cert.Whole.put p.ws12 (Rect.unit (s := S4x128x128) ![2, 0, 0] S1x128x128.size inb_S4x128x128_S1x128x128_2_0_0) (k0_pay109 p.v89 p.v305 p.v395 p.v398 (View.ld p.ws12 (Rect.unit (s := S4x128x128) ![2, 0, 0] S1x128x128.size inb_S4x128x128_S1x128x128_2_0_0)))
def bs13 (p : Pt F) : Vec F S4x128x128 .f32 := Cert.Whole.put p.bs12 (Rect.unit (s := S4x128x128) ![2, 0, 0] S1x128x128.size inb_S4x128x128_S1x128x128_2_0_0) (k0_pay110 p.v397 p.v398 (View.ld p.bs12 (Rect.unit (s := S4x128x128) ![2, 0, 0] S1x128x128.size inb_S4x128x128_S1x128x128_2_0_0)))
def v426 (p : Pt F) : FVec F S128x128 .f32 := k0_pay111 (F := F)
def v427 (p : Pt F) : FVec F S128x128 .f32 := k0_pay112 (F := F)
def v428 (p : Pt F) : FVec F S128x128 .bf16 := k0_pay113 p.v279
def v433 (p : Pt F) : FVec F S128x128 .bf16 := k0_pay115 p.v89
def cst_239 (p : Pt F) : FVec F S128x128 .f32 := constant S128x128 .f32 0x00000000#32
def dvs14 (p : Pt F) (y : Vec F S256x512 .f32) : Vec F S256x512 .f32 := Cert.Whole.put ((p.dvs13 y)) (Rect.unit (s := S256x512) ![128, 384] S128x128.size inb_S256x512_S128x128_128_384) (k0_pay117 p.v279 p.v302)
def ws14 (p : Pt F) : Vec F S4x128x128 .f32 := Cert.Whole.put p.ws13 (Rect.unit (s := S4x128x128) ![3, 0, 0] S1x128x128.size inb_S4x128x128_S1x128x128_3_0_0) (k0_pay118 p.v89 p.v279 p.v305 p.v426 p.v428 p.v433 p.cst_239 (View.ld p.ws13 (Rect.unit (s := S4x128x128) ![3, 0, 0] S1x128x128.size inb_S4x128x128_S1x128x128_3_0_0)))
def bs14 (p : Pt F) : Vec F S4x128x128 .f32 := Cert.Whole.put p.bs13 (Rect.unit (s := S4x128x128) ![3, 0, 0] S1x128x128.size inb_S4x128x128_S1x128x128_3_0_0) (k0_pay119 p.v279 p.v427 p.v428 (View.ld p.bs13 (Rect.unit (s := S4x128x128) ![3, 0, 0] S1x128x128.size inb_S4x128x128_S1x128x128_3_0_0)))
/-- Buffer 38 once its pieces are all stored. -/
def dvs (p : Pt F) : Vec F S256x512 .f32 := View.canon (Val := Elt F) (s := S256x512) (e := .f32) [⟨Rect.unit (s := S256x512) ![128, 384] S128x128.size inb_S256x512_S128x128_128_384, (k0_pay117 p.v279 p.v302)⟩, ⟨Rect.unit (s := S256x512) ![0, 384] S128x128.size inb_S256x512_S128x128_0_384, (k0_pay114 p.v279 p.v302)⟩, ⟨Rect.unit (s := S256x512) ![128, 256] S128x128.size inb_S256x512_S128x128_128_256, (k0_pay108 p.v399)⟩, ⟨Rect.unit (s := S256x512) ![0, 256] S128x128.size inb_S256x512_S128x128_0_256, (k0_pay103 p.v279 p.v297)⟩, ⟨Rect.unit (s := S256x512) ![128, 128] S128x128.size inb_S256x512_S128x128_128_128, (k0_pay98 p.v279 p.v292)⟩, ⟨Rect.unit (s := S256x512) ![0, 128] S128x128.size inb_S256x512_S128x128_0_128, (k0_pay94 p.v279 p.v292)⟩, ⟨Rect.unit (s := S256x512) ![128, 0] S128x128.size inb_S256x512_S128x128_128_0, (k0_pay87 p.v279 p.v287)⟩, ⟨Rect.unit (s := S256x512) ![0, 0] S128x128.size inb_S256x512_S128x128_0_0, (k0_pay85 p.v279 p.v287)⟩]
def v466 (p : Pt F) : Vec F S256x512 .f32 := View.ld p.dvs (Rect.unit (s := S256x512) ![0, 0] S256x512.size inb_S256x512_S256x512_0_0)
def v468 (p : Pt F) : FVec F S1x512 .f32 := k0_pay120 (View.ld p.dlng (Rect.unit (s := S1x512) ![0, 0] S1x512.size inb_S1x512_S1x512_0_0))
/-- What is stored in buffer 28. -/
def dlng' (p : Pt F) : Vec F S1x512 .f32 := (k0_pay121 p.v53 p.v466 p.v468)
/-- What is stored in buffer 29. -/
def dlnb' (p : Pt F) : Vec F S1x512 .f32 := (k0_pay122 p.v466 (View.ld p.dlnb (Rect.unit (s := S1x512) ![0, 0] S1x512.size inb_S1x512_S1x512_0_0)))
def v498 (p : Pt F) : FVec F S256x512 .f32 := k0_pay123 p.v43 p.v51 p.v53 p.v55 p.v466
def v505 (p : Pt F) : FVec F S256x512 .f32 := k0_pay124 p.v244 p.v251 p.v275
def v507 (p : Pt F) : FVec F S1x512 .f32 := k0_pay125 (View.ld p.dcg (Rect.unit (s := S1x512) ![0, 0] S1x512.size inb_S1x512_S1x512_0_0))
def v509 (p : Pt F) : FVec F S512 .f32 := k0_pay126 p.v240 p.v244 p.v251 p.v275
/-- What is stored in buffer 34. -/
def dcg' (p : Pt F) : Vec F S1x512 .f32 := (k0_pay127 p.v507 p.v509)
/-- What is stored in buffer 35. -/
def dcbeta' (p : Pt F) : Vec F S1x512 .f32 := (k0_pay128 p.v505 (View.ld p.dcbeta (Rect.unit (s := S1x512) ![0, 0] S1x512.size inb_S1x512_S1x512_0_0)))
def v520 (p : Pt F) : FVec F S256x512 .f32 := k0_pay129 p.v45 p.v505
def v538 (p : Pt F) : FVec F S256x128 .f32 := k0_pay130 p.v45 p.v186 p.v240 p.v505
def v540 (p : Pt F) : FVec F S256x128 .f32 := k0_pay132 p.v240
def v546 (p : Pt F) : FVec F S256x128 .f32 := k0_pay133 p.v45 p.v505
def v552 (p : Pt F) : FVec F S256x128 .f32 := k0_pay134 p.v45 p.v240 p.v505
def v593 (p : Pt F) : FVec F S256x512 .f32 := k0_pay135 p.v203 p.v220 p.v237 p.v240 p.v520 p.v538 p.v540 p.v546 p.v552
def v598 (p : Pt F) : FVec F S1x512 .f32 := k0_pay136 p.v203 p.v220 p.v237 p.v240 p.v520 p.v538 p.v540 p.v546 p.v552 (View.ld p.dcb (Rect.unit (s := S1x512) ![0, 0] S1x512.size inb_S1x512_S1x512_0_0))
/-- What is stored in buffer 33. -/
def dcb' (p : Pt F) : Vec F S1x512 .f32 := p.v598
def cwt18 (p : Pt F) : Vec F S32x512 .f32 := Cert.Whole.put (Cert.Whole.put p.dcw (Rect.unit (s := S32x512) ![0, 0] S1x512.size inb_S32x512_S1x512_0_0) (k0_pay145 p.v166 p.v593 (View.ld p.dcw (Rect.unit (s := S32x512) ![0, 0] S1x512.size inb_S32x512_S1x512_0_0)))) (Rect.unit (s := S32x512) ![1, 0] S1x512.size inb_S32x512_S1x512_1_0) (k0_pay147 p.v167 p.v593 (View.ld p.dcw (Rect.unit (s := S32x512) ![1, 0] S1x512.size inb_S32x512_S1x512_1_0)))
def v601 (p : Pt F) : FVec F S288x512 .f32 := k0_pay137 p.v593 (View.ld p.carry (Rect.unit (s := S32x512) ![0, 0] S32x512.size inb_S32x512_S32x512_0_0))
def v602 (p : Pt F) : FVec F S288x512 .f32 := k0_pay138 p.v593 (View.ld p.carry (Rect.unit (s := S32x512) ![0, 0] S32x512.size inb_S32x512_S32x512_0_0))
def v603 (p : Pt F) : FVec F S288x512 .f32 := k0_pay139 p.v593 (View.ld p.carry (Rect.unit (s := S32x512) ![0, 0] S32x512.size inb_S32x512_S32x512_0_0))
def v604 (p : Pt F) : FVec F S288x512 .f32 := k0_pay140 p.v593 (View.ld p.carry (Rect.unit (s := S32x512) ![0, 0] S32x512.size inb_S32x512_S32x512_0_0))
def v605 (p : Pt F) : FVec F S288x512 .f32 := k0_pay141 p.v593 (View.ld p.carry (Rect.unit (s := S32x512) ![0, 0] S32x512.size inb_S32x512_S32x512_0_0))
def v606 (p : Pt F) : FVec F S288x512 .f32 := k0_pay142 p.v593 (View.ld p.carry (Rect.unit (s := S32x512) ![0, 0] S32x512.size inb_S32x512_S32x512_0_0))
def v607 (p : Pt F) : FVec F S288x512 .f32 := k0_pay143 p.v593 (View.ld p.carry (Rect.unit (s := S32x512) ![0, 0] S32x512.size inb_S32x512_S32x512_0_0))
def v608 (p : Pt F) : FVec F S288x512 .f32 := k0_pay144 p.v593 (View.ld p.carry (Rect.unit (s := S32x512) ![0, 0] S32x512.size inb_S32x512_S32x512_0_0))
def v623 (p : Pt F) : FVec F S256x512 .f32 := k0_pay146 p.v593 (View.ld p.carry (Rect.unit (s := S32x512) ![0, 0] S32x512.size inb_S32x512_S32x512_0_0)) (View.ld p.cw (Rect.unit (s := S32x512) ![0, 0] S1x512.size inb_S32x512_S1x512_0_0))
def v632 (p : Pt F) : FVec F S256x512 .f32 := k0_pay148 p.v593 (View.ld p.carry (Rect.unit (s := S32x512) ![0, 0] S32x512.size inb_S32x512_S32x512_0_0))
def cwt19 (p : Pt F) : Vec F S32x512 .f32 := Cert.Whole.put (Cert.Whole.put p.cwt18 (Rect.unit (s := S32x512) ![2, 0] S1x512.size inb_S32x512_S1x512_2_0) (k0_pay149 p.v168 p.v593 (View.ld p.cwt18 (Rect.unit (s := S32x512) ![2, 0] S1x512.size inb_S32x512_S1x512_2_0)))) (Rect.unit (s := S32x512) ![3, 0] S1x512.size inb_S32x512_S1x512_3_0) (k0_pay150 p.v169 p.v593 (View.ld p.cwt18 (Rect.unit (s := S32x512) ![3, 0] S1x512.size inb_S32x512_S1x512_3_0)))
def v665 (p : Pt F) : FVec F S256x512 .f32 := k0_pay151 p.v604 p.v605 p.v623 p.v632 (View.ld p.cw (Rect.unit (s := S32x512) ![1, 0] S1x512.size inb_S32x512_S1x512_1_0)) (View.ld p.cw (Rect.unit (s := S32x512) ![2, 0] S1x512.size inb_S32x512_S1x512_2_0)) (View.ld p.cw (Rect.unit (s := S32x512) ![3, 0] S1x512.size inb_S32x512_S1x512_3_0))
def v672 (p : Pt F) : FVec F S1x512 .f32 := k0_pay152 p.v170 p.v593 (View.ld p.cwt18 (Rect.unit (s := S32x512) ![4, 0] S1x512.size inb_S32x512_S1x512_4_0))
def cwt20 (p : Pt F) : Vec F S32x512 .f32 := Cert.Whole.put (Cert.Whole.put (Cert.Whole.put p.cwt19 (Rect.unit (s := S32x512) ![4, 0] S1x512.size inb_S32x512_S1x512_4_0) p.v672) (Rect.unit (s := S32x512) ![5, 0] S1x512.size inb_S32x512_S1x512_5_0) (k0_pay153 p.v171 p.v593 (View.ld p.cwt19 (Rect.unit (s := S32x512) ![5, 0] S1x512.size inb_S32x512_S1x512_5_0)))) (Rect.unit (s := S32x512) ![6, 0] S1x512.size inb_S32x512_S1x512_6_0) (k0_pay154 p.v164 p.v593 (View.ld p.cwt19 (Rect.unit (s := S32x512) ![6, 0] S1x512.size inb_S32x512_S1x512_6_0)))
def v707 (p : Pt F) : FVec F S256x512 .f32 := k0_pay155 p.v601 p.v602 p.v603 p.v665 (View.ld p.cw (Rect.unit (s := S32x512) ![4, 0] S1x512.size inb_S32x512_S1x512_4_0)) (View.ld p.cw (Rect.unit (s := S32x512) ![5, 0] S1x512.size inb_S32x512_S1x512_5_0)) (View.ld p.cw (Rect.unit (s := S32x512) ![6, 0] S1x512.size inb_S32x512_S1x512_6_0))
def v708 (p : Pt F) : FVec F S256x512 .f32 := k0_pay156 p.v165
def v710 (p : Pt F) : FVec F S1x512 .f32 := k0_pay157 (View.ld p.cwt19 (Rect.unit (s := S32x512) ![7, 0] S1x512.size inb_S32x512_S1x512_7_0))
def cwt21 (p : Pt F) : Vec F S32x512 .f32 := Cert.Whole.put (Cert.Whole.put (Cert.Whole.put p.cwt20 (Rect.unit (s := S32x512) ![7, 0] S1x512.size inb_S32x512_S1x512_7_0) (k0_pay158 p.v593 p.v708 p.v710)) (Rect.unit (s := S32x512) ![8, 0] S1x512.size inb_S32x512_S1x512_8_0) (k0_pay159 p.v166 p.v593 (View.ld p.cwt20 (Rect.unit (s := S32x512) ![8, 0] S1x512.size inb_S32x512_S1x512_8_0)))) (Rect.unit (s := S32x512) ![9, 0] S1x512.size inb_S32x512_S1x512_9_0) (k0_pay161 p.v167 p.v593 (View.ld p.cwt20 (Rect.unit (s := S32x512) ![9, 0] S1x512.size inb_S32x512_S1x512_9_0)))
def v735 (p : Pt F) : FVec F S256x512 .f32 := k0_pay160 p.v607 p.v608 p.v707 (View.ld p.cw (Rect.unit (s := S32x512) ![7, 0] S1x512.size inb_S32x512_S1x512_7_0)) (View.ld p.cw (Rect.unit (s := S32x512) ![8, 0] S1x512.size inb_S32x512_S1x512_8_0))
def v748 (p : Pt F) : FVec F S256x512 .f32 := k0_pay162 p.v606 (View.ld p.cw (Rect.unit (s := S32x512) ![9, 0] S1x512.size inb_S32x512_S1x512_9_0))
def cwt22 (p : Pt F) : Vec F S32x512 .f32 := Cert.Whole.put (Cert.Whole.put (Cert.Whole.put p.cwt21 (Rect.unit (s := S32x512) ![10, 0] S1x512.size inb_S32x512_S1x512_10_0) (k0_pay163 p.v168 p.v593 (View.ld p.cwt21 (Rect.unit (s := S32x512) ![10, 0] S1x512.size inb_S32x512_S1x512_10_0)))) (Rect.unit (s := S32x512) ![11, 0] S1x512.size inb_S32x512_S1x512_11_0) (k0_pay164 p.v169 p.v593 (View.ld p.cwt21 (Rect.unit (s := S32x512) ![11, 0] S1x512.size inb_S32x512_S1x512_11_0)))) (Rect.unit (s := S32x512) ![12, 0] S1x512.size inb_S32x512_S1x512_12_0) (k0_pay166 p.v170 p.v593 (View.ld p.cwt21 (Rect.unit (s := S32x512) ![12, 0] S1x512.size inb_S32x512_S1x512_12_0)))
def v777 (p : Pt F) : FVec F S256x512 .f32 := k0_pay165 p.v604 p.v605 p.v735 p.v748 (View.ld p.cw (Rect.unit (s := S32x512) ![10, 0] S1x512.size inb_S32x512_S1x512_10_0)) (View.ld p.cw (Rect.unit (s := S32x512) ![11, 0] S1x512.size inb_S32x512_S1x512_11_0))
def v786 (p : Pt F) : FVec F S256x512 .f32 := k0_pay167 p.v603
def cwt23 (p : Pt F) : Vec F S32x512 .f32 := Cert.Whole.put (Cert.Whole.put p.cwt22 (Rect.unit (s := S32x512) ![13, 0] S1x512.size inb_S32x512_S1x512_13_0) (k0_pay168 p.v171 p.v593 (View.ld p.cwt22 (Rect.unit (s := S32x512) ![13, 0] S1x512.size inb_S32x512_S1x512_13_0)))) (Rect.unit (s := S32x512) ![14, 0] S1x512.size inb_S32x512_S1x512_14_0) (k0_pay169 p.v164 p.v593 (View.ld p.cwt22 (Rect.unit (s := S32x512) ![14, 0] S1x512.size inb_S32x512_S1x512_14_0)))
def v819 (p : Pt F) : FVec F S256x512 .f32 := k0_pay170 p.v601 p.v602 p.v777 p.v786 (View.ld p.cw (Rect.unit (s := S32x512) ![12, 0] S1x512.size inb_S32x512_S1x512_12_0)) (View.ld p.cw (Rect.unit (s := S32x512) ![13, 0] S1x512.size inb_S32x512_S1x512_13_0)) (View.ld p.cw (Rect.unit (s := S32x512) ![14, 0] S1x512.size inb_S32x512_S1x512_14_0))
def v822 (p : Pt F) : FVec F S1x512 .f32 := k0_pay171 (View.ld p.cwt22 (Rect.unit (s := S32x512) ![15, 0] S1x512.size inb_S32x512_S1x512_15_0))
def v825 (p : Pt F) : FVec F S1x512 .f32 := k0_pay172 p.v165 p.v593
def cwt24 (p : Pt F) : Vec F S32x512 .f32 := Cert.Whole.put (Cert.Whole.put (Cert.Whole.put p.cwt23 (Rect.unit (s := S32x512) ![15, 0] S1x512.size inb_S32x512_S1x512_15_0) (k0_pay173 p.v822 p.v825)) (Rect.unit (s := S32x512) ![16, 0] S1x512.size inb_S32x512_S1x512_16_0) (k0_pay174 p.v166 p.v593 (View.ld p.cwt23 (Rect.unit (s := S32x512) ![16, 0] S1x512.size inb_S32x512_S1x512_16_0)))) (Rect.unit (s := S32x512) ![17, 0] S1x512.size inb_S32x512_S1x512_17_0) (k0_pay175 p.v167 p.v593 (View.ld p.cwt23 (Rect.unit (s := S32x512) ![17, 0] S1x512.size inb_S32x512_S1x512_17_0)))
def v861 (p : Pt F) : FVec F S256x512 .f32 := k0_pay176 p.v606 p.v607 p.v608 p.v819 (View.ld p.cw (Rect.unit (s := S32x512) ![15, 0] S1x512.size inb_S32x512_S1x512_15_0)) (View.ld p.cw (Rect.unit (s := S32x512) ![16, 0] S1x512.size inb_S32x512_S1x512_16_0)) (View.ld p.cw (Rect.unit (s := S32x512) ![17, 0] S1x512.size inb_S32x512_S1x512_17_0))
def v862 (p : Pt F) : FVec F S256x512 .f32 := k0_pay177 p.v168
def cwt25 (p : Pt F) : Vec F S32x512 .f32 := Cert.Whole.put (Cert.Whole.put (Cert.Whole.put p.cwt24 (Rect.unit (s := S32x512) ![18, 0] S1x512.size inb_S32x512_S1x512_18_0) (k0_pay178 p.v593 p.v862 (View.ld p.cwt24 (Rect.unit (s := S32x512) ![18, 0] S1x512.size inb_S32x512_S1x512_18_0)))) (Rect.unit (s := S32x512) ![19, 0] S1x512.size inb_S32x512_S1x512_19_0) (k0_pay179 p.v169 p.v593 (View.ld p.cwt24 (Rect.unit (s := S32x512) ![19, 0] S1x512.size inb_S32x512_S1x512_19_0)))) (Rect.unit (s := S32x512) ![20, 0] S1x512.size inb_S32x512_S1x512_20_0) (k0_pay181 p.v170 p.v593 (View.ld p.cwt24 (Rect.unit (s := S32x512) ![20, 0] S1x512.size inb_S32x512_S1x512_20_0)))
def v889 (p : Pt F) : FVec F S256x512 .f32 := k0_pay180 p.v604 p.v605 p.v861 (View.ld p.cw (Rect.unit (s := S32x512) ![18, 0] S1x512.size inb_S32x512_S1x512_18_0)) (View.ld p.cw (Rect.unit (s := S32x512) ![19, 0] S1x512.size inb_S32x512_S1x512_19_0))
def v898 (p : Pt F) : FVec F S256x512 .f32 := k0_pay182 p.v603
def v900 (p : Pt F) : FVec F S1x512 .f32 := k0_pay183 (View.ld p.cw (Rect.unit (s := S32x512) ![20, 0] S1x512.size inb_S32x512_S1x512_20_0))
def cwt26 (p : Pt F) : Vec F S32x512 .f32 := Cert.Whole.put (Cert.Whole.put p.cwt25 (Rect.unit (s := S32x512) ![21, 0] S1x512.size inb_S32x512_S1x512_21_0) (k0_pay184 p.v171 p.v593 (View.ld p.cwt25 (Rect.unit (s := S32x512) ![21, 0] S1x512.size inb_S32x512_S1x512_21_0)))) (Rect.unit (s := S32x512) ![22, 0] S1x512.size inb_S32x512_S1x512_22_0) (k0_pay185 p.v164 p.v593 (View.ld p.cwt25 (Rect.unit (s := S32x512) ![22, 0] S1x512.size inb_S32x512_S1x512_22_0)))
def v931 (p : Pt F) : FVec F S256x512 .f32 := k0_pay186 p.v601 p.v602 p.v889 p.v898 p.v900 (View.ld p.cw (Rect.unit (s := S32x512) ![21, 0] S1x512.size inb_S32x512_S1x512_21_0)) (View.ld p.cw (Rect.unit (s := S32x512) ![22, 0] S1x512.size inb_S32x512_S1x512_22_0))
def v938 (p : Pt F) : FVec F S1x512 .f32 := k0_pay187 p.v165 p.v593 (View.ld p.cwt25 (Rect.unit (s := S32x512) ![23, 0] S1x512.size inb_S32x512_S1x512_23_0))
def cwt27 (p : Pt F) : Vec F S32x512 .f32 := Cert.Whole.put (Cert.Whole.put (Cert.Whole.put p.cwt26 (Rect.unit (s := S32x512) ![23, 0] S1x512.size inb_S32x512_S1x512_23_0) p.v938) (Rect.unit (s := S32x512) ![24, 0] S1x512.size inb_S32x512_S1x512_24_0) (k0_pay188 p.v166 p.v593 (View.ld p.cwt26 (Rect.unit (s := S32x512) ![24, 0] S1x512.size inb_S32x512_S1x512_24_0)))) (Rect.unit (s := S32x512) ![25, 0] S1x512.size inb_S32x512_S1x512_25_0) (k0_pay189 p.v167 p.v593 (View.ld p.cwt26 (Rect.unit (s := S32x512) ![25, 0] S1x512.size inb_S32x512_S1x512_25_0)))
def v973 (p : Pt F) : FVec F S256x512 .f32 := k0_pay190 p.v606 p.v607 p.v608 p.v931 (View.ld p.cw (Rect.unit (s := S32x512) ![23, 0] S1x512.size inb_S32x512_S1x512_23_0)) (View.ld p.cw (Rect.unit (s := S32x512) ![24, 0] S1x512.size inb_S32x512_S1x512_24_0)) (View.ld p.cw (Rect.unit (s := S32x512) ![25, 0] S1x512.size inb_S32x512_S1x512_25_0))
def v976 (p : Pt F) : FVec F S1x512 .f32 := k0_pay191 (View.ld p.cwt26 (Rect.unit (s := S32x512) ![26, 0] S1x512.size inb_S32x512_S1x512_26_0))
def v977 (p : Pt F) : FVec F S256x512 .f32 := k0_pay192 p.v168 p.v593
def cwt28 (p : Pt F) : Vec F S32x512 .f32 := Cert.Whole.put (Cert.Whole.put (Cert.Whole.put p.cwt27 (Rect.unit (s := S32x512) ![26, 0] S1x512.size inb_S32x512_S1x512_26_0) (k0_pay193 p.v976 p.v977)) (Rect.unit (s := S32x512) ![27, 0] S1x512.size inb_S32x512_S1x512_27_0) (k0_pay194 p.v169 p.v593 (View.ld p.cwt27 (Rect.unit (s := S32x512) ![27, 0] S1x512.size inb_S32x512_S1x512_27_0)))) (Rect.unit (s := S32x512) ![28, 0] S1x512.size inb_S32x512_S1x512_28_0) (k0_pay195 p.v170 p.v593 (View.ld p.cwt27 (Rect.unit (s := S32x512) ![28, 0] S1x512.size inb_S32x512_S1x512_28_0)))
def v1015 (p : Pt F) : FVec F S256x512 .f32 := k0_pay196 p.v603 p.v604 p.v605 p.v973 (View.ld p.cw (Rect.unit (s := S32x512) ![26, 0] S1x512.size inb_S32x512_S1x512_26_0)) (View.ld p.cw (Rect.unit (s := S32x512) ![27, 0] S1x512.size inb_S32x512_S1x512_27_0)) (View.ld p.cw (Rect.unit (s := S32x512) ![28, 0] S1x512.size inb_S32x512_S1x512_28_0))
def v1016 (p : Pt F) : FVec F S256x512 .f32 := k0_pay197 p.v171
def cwt29 (p : Pt F) : Vec F S32x512 .f32 := Cert.Whole.put (Cert.Whole.put p.cwt28 (Rect.unit (s := S32x512) ![29, 0] S1x512.size inb_S32x512_S1x512_29_0) (k0_pay198 p.v593 p.v1016 (View.ld p.cwt28 (Rect.unit (s := S32x512) ![29, 0] S1x512.size inb_S32x512_S1x512_29_0)))) (Rect.unit (s := S32x512) ![30, 0] S1x512.size inb_S32x512_S1x512_30_0) (k0_pay199 p.v164 p.v593 (View.ld p.cwt28 (Rect.unit (s := S32x512) ![30, 0] S1x512.size inb_S32x512_S1x512_30_0)))
/-- What is stored in buffer 36. -/
def carry' (p : Pt F) : Vec F S32x512 .f32 := (k0_pay201 p.v593)
def v1053 (p : Pt F) : FVec F S256x512 .f32 := k0_pay202 p.v24 p.v162 p.v601 p.v602 p.v1015 (View.ld p.cw (Rect.unit (s := S32x512) ![29, 0] S1x512.size inb_S32x512_S1x512_29_0)) (View.ld p.cw (Rect.unit (s := S32x512) ![30, 0] S1x512.size inb_S32x512_S1x512_30_0))
def v1054 (p : Pt F) : FVec F S256x512 .bf16 := k0_pay203 p.v277
def v1055 (p : Pt F) : FVec F S256x512 .bf16 := k0_pay204 p.v498
def v1056 (p : Pt F) : FVec F S256x512 .bf16 := k0_pay205 p.v162 p.v601 p.v602 p.v1015 (View.ld p.cw (Rect.unit (s := S32x512) ![29, 0] S1x512.size inb_S32x512_S1x512_29_0)) (View.ld p.cw (Rect.unit (s := S32x512) ![30, 0] S1x512.size inb_S32x512_S1x512_30_0))
def dpr (p : Pt F) : Vec F S256x2048 .bf16 := View.canon (Val := Elt F) (s := S256x2048) (e := .bf16) [⟨Rect.unit (s := S256x2048) ![0, 1536] S256x512.size inb_S256x2048_S256x512_0_1536, (k0_pay206 p.v1053)⟩, ⟨Rect.unit (s := S256x2048) ![0, 1024] S256x512.size inb_S256x2048_S256x512_0_1024, p.v1056⟩, ⟨Rect.unit (s := S256x2048) ![0, 512] S256x512.size inb_S256x2048_S256x512_0_512, p.v1055⟩, ⟨Rect.unit (s := S256x2048) ![0, 0] S256x512.size inb_S256x2048_S256x512_0_0, p.v1054⟩]
def v1078 (p : Pt F) : FVec F S256x1024 .f32 := k0_pay207 p.v1053 p.v1054 p.v1055 p.v1056 (View.ld p.win (Rect.unit (s := S4x1024x512) ![0, 0, 0] S1x1024x512.size inb_S4x1024x512_S1x1024x512_0_0_0)) (View.ld p.win (Rect.unit (s := S4x1024x512) ![1, 0, 0] S1x1024x512.size inb_S4x1024x512_S1x1024x512_1_0_0)) (View.ld p.win (Rect.unit (s := S4x1024x512) ![2, 0, 0] S1x1024x512.size inb_S4x1024x512_S1x1024x512_2_0_0)) (View.ld p.win (Rect.unit (s := S4x1024x512) ![3, 0, 0] S1x1024x512.size inb_S4x1024x512_S1x1024x512_3_0_0))
def v1084 (p : Pt F) : FVec F S1x1024 .f32 := k0_pay208 p.v17 p.v1053 p.v1054 p.v1055 p.v1056 (View.ld p.win (Rect.unit (s := S4x1024x512) ![0, 0, 0] S1x1024x512.size inb_S4x1024x512_S1x1024x512_0_0_0)) (View.ld p.win (Rect.unit (s := S4x1024x512) ![1, 0, 0] S1x1024x512.size inb_S4x1024x512_S1x1024x512_1_0_0)) (View.ld p.win (Rect.unit (s := S4x1024x512) ![2, 0, 0] S1x1024x512.size inb_S4x1024x512_S1x1024x512_2_0_0)) (View.ld p.win (Rect.unit (s := S4x1024x512) ![3, 0, 0] S1x1024x512.size inb_S4x1024x512_S1x1024x512_3_0_0)) (View.ld p.dg1 (Rect.unit (s := S1x1024) ![0, 0] S1x1024.size inb_S1x1024_S1x1024_0_0))
def dg1' (p : Pt F) : Vec F S1x1024 .f32 := p.v1084
def dx' (p : Pt F) : Vec F S256x1024 .f32 := (k0_pay209 p.v5 p.v15 p.v17 p.v1078 (View.ld p.dx1 (Rect.unit (s := S256x1024) ![0, 0] S256x1024.size inb_S256x1024_S256x1024_0_0)))
def dxb' (p : Pt F) : Vec F S256x1024 .bf16 := (k0_pay210 p.v5 p.v15 p.v17 p.v1078 (View.ld p.dx1 (Rect.unit (s := S256x1024) ![0, 0] S256x1024.size inb_S256x1024_S256x1024_0_0)))

/-- Once every piece is stored nothing of the earlier contents is left. -/
theorem mx_eq (p : Pt F) (y : Vec F S256x512 .f32) : p.mx6 y = p.mx := by
  unfold mx6 mx5 mx4 mx
  refine Eq.trans ?_ (Cert.Whole.overs_eq_canon _ y (View.cover_of_tiledL _ S128x128.size (by sl_kernel_rfl)))
  rfl

/-- Once every piece is stored nothing of the earlier contents is left. -/
theorem dvs_eq (p : Pt F) (y : Vec F S256x512 .f32) : p.dvs14 y = p.dvs := by
  unfold dvs14 dvs13 dvs12 dvs11 dvs10 dvs
  refine Eq.trans ?_ (Cert.Whole.overs_eq_canon _ y (View.cover_of_tiledL _ S128x128.size (by sl_kernel_rfl)))
  rfl

end Pt

end Cert.MixBwdIdeal.Hand
-- ==== Proof.MixRun.lean ====
/- The token mixers' backward body at one grid point, over any float values: part by part, what the buffers it touches hold
   afterwards and the values it passes on. -/
module

public import proofs.«01_k».proof.Proof.MixPoint
public import proofs.«01_k».proof.Proof.Gen.MixBwdIdeal.Points

@[expose] public section

set_option maxRecDepth 16384

noncomputable section

namespace Cert.MixBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixBwdIdeal.Gen

variable {F : FTy → Type} [FloatOps F]

local notation "𝕄" => MT nD τ sig Unit (Elt F) ℕ (UR sig nD τ) ℕ

/-- What is owed for a returned value is owed for an equal one. -/
theorem kont {T : Type} {K : T → sProp 𝕄} {Z : sProp 𝕄} {a b : T} (h : K a = Z) (e : a = b) : Z ⊢ K b := by
  subst e; subst h; exact Entails.refl _

/-- The first part: the reset at the grid's first point, the normalised input, the halves of the projection. -/
theorem part2 (A : Refs) (p : Pt F) (c : Dev nD) (y25 : Vec F S1024x256 .bf16) (d27 : Vec F S1x1024 .f32) (d28 : Vec F S1x512 .f32) (d29 : Vec F S1x512 .f32) (d30 : Vec F S4x128x128 .f32) (d31 : Vec F S4x128x128 .f32) (d32 : Vec F S32x512 .f32) (d33 : Vec F S1x512 .f32) (d34 : Vec F S1x512 .f32) (d35 : Vec F S1x512 .f32) (d36 : Vec F S32x512 .f32)
    (r27 : p.dg1 = if reset p.i then k0_pay2 else d27) (r28 : p.dlng = if reset p.i then k0_pay3 else d28) (r29 : p.dlnb = if reset p.i then k0_pay4 else d29) (r30 : p.dws = if reset p.i then k0_pay5 else d30) (r31 : p.dbs = if reset p.i then k0_pay6 else d31) (r32 : p.dcw = if reset p.i then k0_pay7 else d32) (r33 : p.dcb = if reset p.i then k0_pay8 else d33) (r34 : p.dcg = if reset p.i then k0_pay9 else d34) (r35 : p.dcbeta = if reset p.i then k0_pay10 else d35) (r36 : p.carry = if reset p.i then k0_pay1 else d36) (E : Set ℕ) (K : (Σ' (v5 : FVec F S1x1024 .f32) (v15 : FVec F S256x1 .f32) (v17 : FVec F S256x1024 .f32) (v24 : FVec F S256x512 .f32) (v26 : FVec F S256x512 .f32) (v27 : BitVec 1) (v29 : FVec F S32x512 .f32), FVec F S32x512 .f32) → sProp 𝕄) :
    iprop(owns (c : Thread nD τ) A.a3 fullShare p.x ∗ owns (c : Thread nD τ) A.a4 fullShare p.pj ∗ owns (c : Thread nD τ) A.a5 fullShare p.vbh ∗ owns (c : Thread nD τ) A.a6 fullShare p.gbh ∗ owns (c : Thread nD τ) A.a10 fullShare p.g1 ∗ owns (c : Thread nD τ) A.a25 fullShare y25 ∗ owns (c : Thread nD τ) A.a27 fullShare d27 ∗ owns (c : Thread nD τ) A.a28 fullShare d28 ∗ owns (c : Thread nD τ) A.a29 fullShare d29 ∗ owns (c : Thread nD τ) A.a30 fullShare d30 ∗ owns (c : Thread nD τ) A.a31 fullShare d31 ∗ owns (c : Thread nD τ) A.a32 fullShare d32 ∗ owns (c : Thread nD τ) A.a33 fullShare d33 ∗ owns (c : Thread nD τ) A.a34 fullShare d34 ∗ owns (c : Thread nD τ) A.a35 fullShare d35 ∗ owns (c : Thread nD τ) A.a36 fullShare d36
      ∗ (iprop(owns (c : Thread nD τ) A.a3 fullShare p.x ∗ owns (c : Thread nD τ) A.a4 fullShare p.pj ∗ owns (c : Thread nD τ) A.a5 fullShare p.vbh ∗ owns (c : Thread nD τ) A.a6 fullShare p.gbh ∗ owns (c : Thread nD τ) A.a10 fullShare p.g1 ∗ owns (c : Thread nD τ) A.a25 fullShare p.h1t ∗ owns (c : Thread nD τ) A.a27 fullShare p.dg1 ∗ owns (c : Thread nD τ) A.a28 fullShare p.dlng ∗ owns (c : Thread nD τ) A.a29 fullShare p.dlnb ∗ owns (c : Thread nD τ) A.a30 fullShare p.dws ∗ owns (c : Thread nD τ) A.a31 fullShare p.dbs ∗ owns (c : Thread nD τ) A.a32 fullShare p.dcw ∗ owns (c : Thread nD τ) A.a33 fullShare p.dcb ∗ owns (c : Thread nD τ) A.a34 fullShare p.dcg ∗ owns (c : Thread nD τ) A.a35 fullShare p.dcbeta ∗ owns (c : Thread nD τ) A.a36 fullShare p.carry) -∗ K ⟨p.v5, p.v15, p.v17, p.v24, p.v26, p.v27, p.v29, p.v34⟩))
      ⊢ wp frame (wpE (defs₀ (F := F)) Variants.none c none) E (A.call (k0_part2 p.i)) K := by
  cases A
  rw [r27, r28, r29, r30, r31, r32, r33, r34, r35, r36]
  clear r27 r28 r29 r30 r31 r32 r33 r34 r35 r36
  unfold Pt.h1t Pt.v5 Pt.v15 Pt.v17 Pt.v24 Pt.v26 Pt.v27 Pt.v29 Pt.v34 reset
  generalize p.x = x, p.pj = pj, p.vbh = vbh, p.gbh = gbh, p.g1 = g1, p.i = i
  generalize hK : K _ = Z
  simp only [k0_part2_eq_skeleton]
  unfold k0_part2_skel
  simp only [k0_part1_eq_skeleton]
  unfold k0_part1_skel
  unfold owns
  iintro ⟨⟨%f3, %e3, H3⟩, ⟨%f4, %e4, H4⟩, ⟨%f5, %e5, H5⟩, ⟨%f6, %e6, H6⟩, ⟨%f10, %e10, H10⟩, ⟨%f25, %e25, H25⟩, ⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, ⟨%f34, %e34, H34⟩, ⟨%f35, %e35, H35⟩, ⟨%f36, %e36, H36⟩, Hk⟩
  subst e3; subst e4; subst e5; subst e6; subst e10; subst e25; subst e27; subst e28; subst e29; subst e30; subst e31; subst e32; subst e33; subst e34; subst e35; subst e36
  by_cases hc : (Scalar.cmpi .ne (Scalar.extui (Scalar.cmpi .eq (BitVec.ofNat 32 (i 0).val) 0#32)) 0#32 : BitVec 1) = 1#1
  all_goals
    sl_exec (disch := sl_exact hc)
    sl_step
    simp only [hc, if_true, if_false]
    refine BIBase.Entails.trans ?_ (kont hK (by (try sl_unfold_run_names); rfl))
    iintro ⟨⟨⟨⟨⟨⟨⟨⟨⟨⟨⟨⟨⟨⟨⟨⟨H3, H4⟩, H5⟩, H6⟩, H10⟩, H25⟩, H27⟩, H28⟩, H29⟩, H30⟩, H31⟩, H32⟩, H33⟩, H34⟩, H35⟩, H36⟩, Hk⟩
    iapply Hk
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H10]
    · iexists _; isplitr; swap; · iexact H10
      ipureintro; rfl
    isplitl [H25]
    · iexists _; isplitr; swap; · iexact H25
      ipureintro; (try sl_unfold_run_names); first | rfl | exact Cert.Whole.store _ _ _ _ _
    isplitl [H27]
    · iexists _; isplitr; swap; · iexact H27
      ipureintro; (try sl_unfold_run_names); first | rfl | exact Cert.Whole.store _ _ _ _ _
    isplitl [H28]
    · iexists _; isplitr; swap; · iexact H28
      ipureintro; (try sl_unfold_run_names); first | rfl | exact Cert.Whole.store _ _ _ _ _
    isplitl [H29]
    · iexists _; isplitr; swap; · iexact H29
      ipureintro; (try sl_unfold_run_names); first | rfl | exact Cert.Whole.store _ _ _ _ _
    isplitl [H30]
    · iexists _; isplitr; swap; · iexact H30
      ipureintro; (try sl_unfold_run_names); first | rfl | exact Cert.Whole.store _ _ _ _ _
    isplitl [H31]
    · iexists _; isplitr; swap; · iexact H31
      ipureintro; (try sl_unfold_run_names); first | rfl | exact Cert.Whole.store _ _ _ _ _
    isplitl [H32]
    · iexists _; isplitr; swap; · iexact H32
      ipureintro; (try sl_unfold_run_names); first | rfl | exact Cert.Whole.store _ _ _ _ _
    isplitl [H33]
    · iexists _; isplitr; swap; · iexact H33
      ipureintro; (try sl_unfold_run_names); first | rfl | exact Cert.Whole.store _ _ _ _ _
    isplitl [H34]
    · iexists _; isplitr; swap; · iexact H34
      ipureintro; (try sl_unfold_run_names); first | rfl | exact Cert.Whole.store _ _ _ _ _
    isplitl [H35]
    · iexists _; isplitr; swap; · iexact H35
      ipureintro; (try sl_unfold_run_names); first | rfl | exact Cert.Whole.store _ _ _ _ _
    iexists _; isplitr; swap; · iexact H36
    ipureintro; (try sl_unfold_run_names); first | rfl | exact Cert.Whole.store _ _ _ _ _

theorem part3 (A : Refs) (p : Pt F) (c : Dev nD) (E : Set ℕ) (K : (Σ' (v41 : FVec F S32x512 .f32) (v43 : FVec F S1x512 .f32) (v45 : FVec F S1x512 .f32) (v47 : FVec F S256x512 .f32) (v49 : FVec F S256x512 .f32) (v51 : FVec F S256x512 .f32) (v53 : FVec F S256x512 .f32) (v55 : FVec F S256x1 .f32) (v59 : FVec F S1x512 .f32) (v61 : FVec F S256x512 .f32) (v65 : FVec F S256x512 .f32), IVec S128x128 1) → sProp 𝕄) :
    iprop(owns (c : Thread nD τ) A.a7 fullShare p.cpre ∗ owns (c : Thread nD τ) A.a8 fullShare p.kept ∗ owns (c : Thread nD τ) A.a9 fullShare p.rs ∗ owns (c : Thread nD τ) A.a12 fullShare p.lng ∗ owns (c : Thread nD τ) A.a13 fullShare p.lnb ∗ owns (c : Thread nD τ) A.a19 fullShare p.cg ∗ owns (c : Thread nD τ) A.a20 fullShare p.cbeta
      ∗ (iprop(owns (c : Thread nD τ) A.a7 fullShare p.cpre ∗ owns (c : Thread nD τ) A.a8 fullShare p.kept ∗ owns (c : Thread nD τ) A.a9 fullShare p.rs ∗ owns (c : Thread nD τ) A.a12 fullShare p.lng ∗ owns (c : Thread nD τ) A.a13 fullShare p.lnb ∗ owns (c : Thread nD τ) A.a19 fullShare p.cg ∗ owns (c : Thread nD τ) A.a20 fullShare p.cbeta) -∗ K ⟨p.v41, p.v43, p.v45, p.v47, p.v49, p.v51, p.v53, p.v55, p.v59, p.v61, p.v65, p.v68⟩))
      ⊢ wp frame (wpE (defs₀ (F := F)) Variants.none c none) E (A.call (k0_part3 p.i) p.v27 p.v29 p.v34) K := by
  cases A
  unfold Pt.v41 Pt.v43 Pt.v45 Pt.v47 Pt.v49 Pt.v51 Pt.v53 Pt.v55 Pt.v59 Pt.v61 Pt.v65 Pt.v68
  generalize p.cbeta = cbeta, p.cg = cg, p.cpre = cpre, p.kept = kept, p.lnb = lnb, p.lng = lng, p.rs = rs, p.v27 = v27, p.v29 = v29, p.v34 = v34
  generalize hK : K _ = Z
  simp only [k0_part3_eq_skeleton]
  unfold k0_part3_skel
  unfold owns
  iintro ⟨⟨%f7, %e7, H7⟩, ⟨%f8, %e8, H8⟩, ⟨%f9, %e9, H9⟩, ⟨%f12, %e12, H12⟩, ⟨%f13, %e13, H13⟩, ⟨%f19, %e19, H19⟩, ⟨%f20, %e20, H20⟩, Hk⟩
  subst e7; subst e8; subst e9; subst e12; subst e13; subst e19; subst e20
  sl_exec
  sl_step
  refine BIBase.Entails.trans ?_ (kont hK (by (try sl_unfold_run_names); rfl))
  iintro ⟨⟨⟨⟨⟨⟨⟨H7, H8⟩, H9⟩, H12⟩, H13⟩, H19⟩, H20⟩, Hk⟩
  iapply Hk
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H12]
  · iexists _; isplitr; swap; · iexact H12
    ipureintro; rfl
  isplitl [H13]
  · iexists _; isplitr; swap; · iexact H13
    ipureintro; rfl
  isplitl [H19]
  · iexists _; isplitr; swap; · iexact H19
    ipureintro; rfl
  iexists _; isplitr; swap; · iexact H20
  ipureintro; rfl

theorem part4 (A : Refs) (p : Pt F) (c : Dev nD) (y37 : Vec F S256x512 .f32) (E : Set ℕ) (K : (Σ' (v73 : FVec F S128x128 .bf16) (v78 : FVec F S128x128 .bf16) (v83 : FVec F S128x128 .bf16) (v88 : FVec F S128x128 .bf16) (v89 : FVec F S256x512 .bf16), FVec F S128x128 .f32) → sProp 𝕄) :
    iprop(owns (c : Thread nD τ) A.a14 fullShare p.ws ∗ owns (c : Thread nD τ) A.a16 fullShare p.bf ∗ owns (c : Thread nD τ) A.a37 fullShare y37
      ∗ (iprop(owns (c : Thread nD τ) A.a14 fullShare p.ws ∗ owns (c : Thread nD τ) A.a16 fullShare p.bf ∗ owns (c : Thread nD τ) A.a37 fullShare (p.mx4 y37)) -∗ K ⟨p.v73, p.v78, p.v83, p.v88, p.v89, p.v102⟩))
      ⊢ wp frame (wpE (defs₀ (F := F)) Variants.none c none) E (A.call (k0_part4 p.i) p.v65 p.v68) K := by
  cases A
  unfold Pt.mx4 Pt.v73 Pt.v78 Pt.v83 Pt.v88 Pt.v89 Pt.v102
  generalize p.bf = bf, p.v65 = v65, p.v68 = v68, p.ws = ws
  generalize hK : K _ = Z
  simp only [k0_part4_eq_skeleton]
  unfold k0_part4_skel
  unfold owns
  iintro ⟨⟨%f14, %e14, H14⟩, ⟨%f16, %e16, H16⟩, ⟨%f37, %e37, H37⟩, Hk⟩
  subst e14; subst e16; subst e37
  sl_exec
  sl_step
  refine BIBase.Entails.trans ?_ (kont hK (by (try sl_unfold_run_names); rfl))
  iintro ⟨⟨⟨H14, H16⟩, H37⟩, Hk⟩
  iapply Hk
  isplitl [H14]
  · iexists _; isplitr; swap; · iexact H14
    ipureintro; rfl
  isplitl [H16]
  · iexists _; isplitr; swap; · iexact H16
    ipureintro; rfl
  iexists _; isplitr; swap; · iexact H37
  ipureintro; (try sl_unfold_run_names); rw [Cert.Whole.read_writes]; simp only [List.foldr, View.readAt_eq_ld]

theorem part5 (A : Refs) (p : Pt F) (c : Dev nD) (y37 : Vec F S256x512 .f32) (E : Set ℕ) (K : FVec F S128x128 .f32 → sProp 𝕄) :
    iprop(owns (c : Thread nD τ) A.a16 fullShare p.bf ∗ owns (c : Thread nD τ) A.a37 fullShare (p.mx4 y37)
      ∗ (iprop(owns (c : Thread nD τ) A.a16 fullShare p.bf ∗ owns (c : Thread nD τ) A.a37 fullShare (p.mx5 y37)) -∗ K p.v134))
      ⊢ wp frame (wpE (defs₀ (F := F)) Variants.none c none) E (A.call (k0_part5 p.i) p.v73 p.v78 p.v83 p.v88 p.v89 p.v102) K := by
  cases A
  unfold Pt.mx5 Pt.v134
  generalize (p.mx4 y37) = X37, p.bf = bf, p.v102 = v102, p.v73 = v73, p.v78 = v78, p.v83 = v83, p.v88 = v88, p.v89 = v89
  generalize hK : K _ = Z
  simp only [k0_part5_eq_skeleton]
  unfold k0_part5_skel
  unfold owns
  iintro ⟨⟨%f16, %e16, H16⟩, ⟨%f37, %e37, H37⟩, Hk⟩
  subst e16; subst e37
  sl_exec
  sl_step
  refine BIBase.Entails.trans ?_ (kont hK (by (try sl_unfold_run_names); rfl))
  iintro ⟨⟨H16, H37⟩, Hk⟩
  iapply Hk
  isplitl [H16]
  · iexists _; isplitr; swap; · iexact H16
    ipureintro; rfl
  iexists _; isplitr; swap; · iexact H37
  ipureintro; (try sl_unfold_run_names); rw [Cert.Whole.read_writes]; simp only [List.foldr, View.readAt_eq_ld]

theorem part6 (A : Refs) (p : Pt F) (c : Dev nD) (y37 : Vec F S256x512 .f32) (E : Set ℕ) (K : (Σ' (v154 : Vec F S256x512 .f32) (v155 : FVec F S256x512 .f32) (v162 : FVec F S256x512 .f32) (v164 : FVec F S288x512 .f32) (v165 : FVec F S288x512 .f32) (v166 : FVec F S288x512 .f32) (v167 : FVec F S288x512 .f32) (v168 : FVec F S288x512 .f32), FVec F S288x512 .f32) → sProp 𝕄) :
    iprop(owns (c : Thread nD τ) A.a16 fullShare p.bf ∗ owns (c : Thread nD τ) A.a37 fullShare (p.mx5 y37)
      ∗ (iprop(owns (c : Thread nD τ) A.a16 fullShare p.bf ∗ owns (c : Thread nD τ) A.a37 fullShare p.mx) -∗ K ⟨p.v154, p.v155, p.v162, p.v164, p.v165, p.v166, p.v167, p.v168, p.v169⟩))
      ⊢ wp frame (wpE (defs₀ (F := F)) Variants.none c none) E (A.call (k0_part6 p.i) p.v24 p.v26 p.v41 p.v47 p.v83 p.v88 p.v89 p.v134) K := by
  cases A
  unfold Pt.v155 Pt.v162 Pt.v164 Pt.v165 Pt.v166 Pt.v167 Pt.v168 Pt.v169
  unfold Pt.v154
  rw [← p.mx_eq y37]
  unfold Pt.mx6
  generalize (p.mx5 y37) = X37, p.bf = bf, p.v134 = v134, p.v24 = v24, p.v26 = v26, p.v41 = v41, p.v47 = v47, p.v83 = v83, p.v88 = v88, p.v89 = v89
  generalize hK : K _ = Z
  simp only [k0_part6_eq_skeleton]
  unfold k0_part6_skel
  unfold owns
  iintro ⟨⟨%f16, %e16, H16⟩, ⟨%f37, %e37, H37⟩, Hk⟩
  subst e16; subst e37
  sl_exec
  sl_step
  refine BIBase.Entails.trans ?_ (kont hK (by (try sl_unfold_run_names); simp only [View.readAt_eq_ld, Cert.Whole.read_writes, List.foldr]))
  iintro ⟨⟨H16, H37⟩, Hk⟩
  iapply Hk
  isplitl [H16]
  · iexists _; isplitr; swap; · iexact H16
    ipureintro; rfl
  iexists _; isplitr; swap; · iexact H37
  ipureintro; (try sl_unfold_run_names); rw [Cert.Whole.read_writes]; simp only [List.foldr, View.readAt_eq_ld]

theorem part7 (A : Refs) (p : Pt F) (c : Dev nD) (E : Set ℕ) (K : (Σ' (v170 : FVec F S288x512 .f32) (v171 : FVec F S288x512 .f32) (v186 : FVec F S256x1 .f32) (v188 : FVec F S256x128 .f32) (v203 : FVec F S256x1 .f32) (v205 : FVec F S256x128 .f32) (v212 : FVec F S256x128 .f32), FVec F S256 .f32) → sProp 𝕄) :
    K ⟨p.v170, p.v171, p.v186, p.v188, p.v203, p.v205, p.v212, p.v214⟩
      ⊢ wp frame (wpE (defs₀ (F := F)) Variants.none c none) E (A.call (k0_part7 p.i) p.v61 p.v164) K := by
  cases A
  unfold Pt.v170 Pt.v171 Pt.v186 Pt.v188 Pt.v203 Pt.v205 Pt.v212 Pt.v214
  generalize p.v164 = v164, p.v61 = v61
  generalize hK : K _ = Z
  simp only [k0_part7_eq_skeleton]
  unfold k0_part7_skel
  iintro Hk
  sl_exec
  sl_step
  refine BIBase.Entails.trans ?_ (kont hK (by (try sl_unfold_run_names); rfl))
  exact .rfl

theorem part8 (A : Refs) (p : Pt F) (c : Dev nD) (y26 : Vec F S1024x256 .bf16) (E : Set ℕ) (K : (Σ' (v220 : FVec F S256x1 .f32) (v237 : FVec F S256x1 .f32) (v240 : FVec F S256x512 .f32) (v244 : FVec F S256x512 .f32), FVec F S256x512 .f32) → sProp 𝕄) :
    iprop(owns (c : Thread nD τ) A.a26 fullShare y26
      ∗ (iprop(owns (c : Thread nD τ) A.a26 fullShare p.mixt) -∗ K ⟨p.v220, p.v237, p.v240, p.v244, p.v251⟩))
      ⊢ wp frame (wpE (defs₀ (F := F)) Variants.none c none) E (A.call (k0_part8 p.i) p.v45 p.v59 p.v61 p.v155 p.v188 p.v205 p.v212 p.v214) K := by
  cases A
  unfold Pt.mixt Pt.v220 Pt.v237 Pt.v240 Pt.v244 Pt.v251
  generalize p.v155 = v155, p.v188 = v188, p.v205 = v205, p.v212 = v212, p.v214 = v214, p.v45 = v45, p.v59 = v59, p.v61 = v61
  generalize hK : K _ = Z
  simp only [k0_part8_eq_skeleton]
  unfold k0_part8_skel
  unfold owns
  iintro ⟨⟨%f26, %e26, H26⟩, Hk⟩
  subst e26
  sl_exec
  sl_step
  refine BIBase.Entails.trans ?_ (kont hK (by (try sl_unfold_run_names); rfl))
  iintro ⟨H26, Hk⟩
  iapply Hk
  iexists _; isplitr; swap; · iexact H26
  ipureintro; (try sl_unfold_run_names); exact View.read_writes_eq_canon _ _ _ (View.cover_of_tiledL _ S512x256.size (by sl_kernel_rfl))

theorem part9 (A : Refs) (p : Pt F) (c : Dev nD) (E : Set ℕ) (K : (Σ' (v275 : FVec F S256x512 .f32) (v277 : FVec F S256x512 .f32) (v279 : FVec F S256x512 .bf16) (v282 : IVec S128x128 1) (v287 : FVec F S128x128 .bf16), FVec F S128x128 .bf16) → sProp 𝕄) :
    iprop(owns (c : Thread nD τ) A.a2 fullShare p.dxb ∗ owns (c : Thread nD τ) A.a15 fullShare p.wst ∗ owns (c : Thread nD τ) A.a21 fullShare p.wout
      ∗ (iprop(owns (c : Thread nD τ) A.a2 fullShare p.dxb ∗ owns (c : Thread nD τ) A.a15 fullShare p.wst ∗ owns (c : Thread nD τ) A.a21 fullShare p.wout) -∗ K ⟨p.v275, p.v277, p.v279, p.v282, p.v287, p.v292⟩))
      ⊢ wp frame (wpE (defs₀ (F := F)) Variants.none c none) E (A.call (k0_part9 p.i) p.v47 p.v49 p.v154) K := by
  cases A
  unfold Pt.v275 Pt.v277 Pt.v279 Pt.v282 Pt.v287 Pt.v292
  generalize p.dxb = dxb, p.v154 = v154, p.v47 = v47, p.v49 = v49, p.wout = wout, p.wst = wst
  generalize hK : K _ = Z
  simp only [k0_part9_eq_skeleton]
  unfold k0_part9_skel
  unfold owns
  iintro ⟨⟨%f2, %e2, H2⟩, ⟨%f15, %e15, H15⟩, ⟨%f21, %e21, H21⟩, Hk⟩
  subst e2; subst e15; subst e21
  sl_exec
  sl_step
  refine BIBase.Entails.trans ?_ (kont hK (by (try sl_unfold_run_names); rfl))
  iintro ⟨⟨⟨H2, H15⟩, H21⟩, Hk⟩
  iapply Hk
  isplitl [H2]
  · iexists _; isplitr; swap; · iexact H2
    ipureintro; rfl
  isplitl [H15]
  · iexists _; isplitr; swap; · iexact H15
    ipureintro; rfl
  iexists _; isplitr; swap; · iexact H21
  ipureintro; rfl

theorem part10 (A : Refs) (p : Pt F) (c : Dev nD) (y38 : Vec F S256x512 .f32) (E : Set ℕ) (K : (Σ' (v297 : FVec F S128x128 .bf16) (v302 : FVec F S128x128 .bf16) (v305 : IVec S128x128 1) (v325 : FVec F S128x128 .f32) (v327 : FVec F S128x128 .f32), FVec F S128x128 .f32) → sProp 𝕄) :
    iprop(owns (c : Thread nD τ) A.a15 fullShare p.wst ∗ owns (c : Thread nD τ) A.a30 fullShare p.dws ∗ owns (c : Thread nD τ) A.a38 fullShare y38
      ∗ (iprop(owns (c : Thread nD τ) A.a15 fullShare p.wst ∗ owns (c : Thread nD τ) A.a30 fullShare p.dws ∗ owns (c : Thread nD τ) A.a38 fullShare (p.dvs10 y38)) -∗ K ⟨p.v297, p.v302, p.v305, p.v325, p.v327, p.v329⟩))
      ⊢ wp frame (wpE (defs₀ (F := F)) Variants.none c none) E (A.call (k0_part10 p.i) p.v89 p.v279 p.v282 p.v287) K := by
  cases A
  unfold Pt.dvs10 Pt.v297 Pt.v302 Pt.v305 Pt.v325 Pt.v327 Pt.v329
  generalize p.dws = dws, p.v279 = v279, p.v282 = v282, p.v287 = v287, p.v89 = v89, p.wst = wst
  generalize hK : K _ = Z
  simp only [k0_part10_eq_skeleton]
  unfold k0_part10_skel
  unfold owns
  iintro ⟨⟨%f15, %e15, H15⟩, ⟨%f30, %e30, H30⟩, ⟨%f38, %e38, H38⟩, Hk⟩
  subst e15; subst e30; subst e38
  sl_exec
  sl_step
  refine BIBase.Entails.trans ?_ (kont hK (by (try sl_unfold_run_names); rfl))
  iintro ⟨⟨⟨H15, H30⟩, H38⟩, Hk⟩
  iapply Hk
  isplitl [H15]
  · iexists _; isplitr; swap; · iexact H15
    ipureintro; rfl
  isplitl [H30]
  · iexists _; isplitr; swap; · iexact H30
    ipureintro; rfl
  iexists _; isplitr; swap; · iexact H38
  ipureintro; (try sl_unfold_run_names); rw [Cert.Whole.read_writes]; simp only [List.foldr, View.readAt_eq_ld]

theorem part11 (A : Refs) (p : Pt F) (c : Dev nD) (y38 : Vec F S256x512 .f32) (E : Set ℕ) (K : (Σ' (v355 : FVec F S128x128 .f32) (v357 : FVec F S128x128 .f32) (v358 : FVec F S128x128 .bf16), FVec F S128x128 .f32) → sProp 𝕄) :
    iprop(owns (c : Thread nD τ) A.a30 fullShare p.dws ∗ owns (c : Thread nD τ) A.a31 fullShare p.dbs ∗ owns (c : Thread nD τ) A.a38 fullShare (p.dvs10 y38)
      ∗ (iprop(owns (c : Thread nD τ) A.a30 fullShare p.ws11 ∗ owns (c : Thread nD τ) A.a31 fullShare p.bs11 ∗ owns (c : Thread nD τ) A.a38 fullShare (p.dvs11 y38)) -∗ K ⟨p.v355, p.v357, p.v358, p.v364⟩))
      ⊢ wp frame (wpE (defs₀ (F := F)) Variants.none c none) E (A.call (k0_part11 p.i) p.v89 p.v279 p.v292 p.v305 p.v325 p.v327 p.v329) K := by
  cases A
  unfold Pt.ws11 Pt.bs11 Pt.dvs11 Pt.v355 Pt.v357 Pt.v358 Pt.v364
  generalize (p.dvs10 y38) = X38, p.dbs = dbs, p.dws = dws, p.v279 = v279, p.v292 = v292, p.v305 = v305, p.v325 = v325, p.v327 = v327, p.v329 = v329, p.v89 = v89
  generalize hK : K _ = Z
  simp only [k0_part11_eq_skeleton]
  unfold k0_part11_skel
  unfold owns
  iintro ⟨⟨%f30, %e30, H30⟩, ⟨%f31, %e31, H31⟩, ⟨%f38, %e38, H38⟩, Hk⟩
  subst e30; subst e31; subst e38
  sl_exec
  sl_step
  refine BIBase.Entails.trans ?_ (kont hK (by (try sl_unfold_run_names); rfl))
  iintro ⟨⟨⟨H30, H31⟩, H38⟩, Hk⟩
  iapply Hk
  isplitl [H30]
  · iexists _; isplitr; swap; · iexact H30
    ipureintro; (try sl_unfold_run_names); rw [Cert.Whole.read_writes]; simp only [List.foldr, View.readAt_eq_ld]
  isplitl [H31]
  · iexists _; isplitr; swap; · iexact H31
    ipureintro; (try sl_unfold_run_names); rw [Cert.Whole.read_writes]; simp only [List.foldr, View.readAt_eq_ld]
  iexists _; isplitr; swap; · iexact H38
  ipureintro; (try sl_unfold_run_names); rw [Cert.Whole.read_writes]; simp only [List.foldr, View.readAt_eq_ld]

theorem part12 (A : Refs) (p : Pt F) (c : Dev nD) (y38 : Vec F S256x512 .f32) (E : Set ℕ) (K : (Σ' (v395 : FVec F S128x128 .f32) (v397 : FVec F S128x128 .f32) (v398 : FVec F S128x128 .bf16), FVec F S128x128 .f32) → sProp 𝕄) :
    iprop(owns (c : Thread nD τ) A.a30 fullShare p.ws11 ∗ owns (c : Thread nD τ) A.a31 fullShare p.bs11 ∗ owns (c : Thread nD τ) A.a38 fullShare (p.dvs11 y38)
      ∗ (iprop(owns (c : Thread nD τ) A.a30 fullShare p.ws12 ∗ owns (c : Thread nD τ) A.a31 fullShare p.bs12 ∗ owns (c : Thread nD τ) A.a38 fullShare (p.dvs12 y38)) -∗ K ⟨p.v395, p.v397, p.v398, p.v399⟩))
      ⊢ wp frame (wpE (defs₀ (F := F)) Variants.none c none) E (A.call (k0_part12 p.i) p.v89 p.v279 p.v297 p.v305 p.v355 p.v357 p.v358 p.v364) K := by
  cases A
  unfold Pt.ws12 Pt.bs12 Pt.dvs12 Pt.v395 Pt.v397 Pt.v398 Pt.v399
  generalize (p.dvs11 y38) = X38, p.bs11 = bs11, p.v279 = v279, p.v297 = v297, p.v305 = v305, p.v355 = v355, p.v357 = v357, p.v358 = v358, p.v364 = v364, p.v89 = v89, p.ws11 = ws11
  generalize hK : K _ = Z
  simp only [k0_part12_eq_skeleton]
  unfold k0_part12_skel
  unfold owns
  iintro ⟨⟨%f30, %e30, H30⟩, ⟨%f31, %e31, H31⟩, ⟨%f38, %e38, H38⟩, Hk⟩
  subst e30; subst e31; subst e38
  sl_exec
  sl_step
  refine BIBase.Entails.trans ?_ (kont hK (by (try sl_unfold_run_names); rfl))
  iintro ⟨⟨⟨H30, H31⟩, H38⟩, Hk⟩
  iapply Hk
  isplitl [H30]
  · iexists _; isplitr; swap; · iexact H30
    ipureintro; (try sl_unfold_run_names); rw [Cert.Whole.read_writes]; simp only [List.foldr, View.readAt_eq_ld]
  isplitl [H31]
  · iexists _; isplitr; swap; · iexact H31
    ipureintro; (try sl_unfold_run_names); rw [Cert.Whole.read_writes]; simp only [List.foldr, View.readAt_eq_ld]
  iexists _; isplitr; swap; · iexact H38
  ipureintro; (try sl_unfold_run_names); rw [Cert.Whole.read_writes]; simp only [List.foldr, View.readAt_eq_ld]

theorem part13 (A : Refs) (p : Pt F) (c : Dev nD) (y38 : Vec F S256x512 .f32) (E : Set ℕ) (K : (Σ' (v426 : FVec F S128x128 .f32) (v427 : FVec F S128x128 .f32) (v428 : FVec F S128x128 .bf16) (v433 : FVec F S128x128 .bf16), FVec F S128x128 .f32) → sProp 𝕄) :
    iprop(owns (c : Thread nD τ) A.a30 fullShare p.ws12 ∗ owns (c : Thread nD τ) A.a31 fullShare p.bs12 ∗ owns (c : Thread nD τ) A.a38 fullShare (p.dvs12 y38)
      ∗ (iprop(owns (c : Thread nD τ) A.a30 fullShare p.ws13 ∗ owns (c : Thread nD τ) A.a31 fullShare p.bs13 ∗ owns (c : Thread nD τ) A.a38 fullShare (p.dvs13 y38)) -∗ K ⟨p.v426, p.v427, p.v428, p.v433, p.cst_239⟩))
      ⊢ wp frame (wpE (defs₀ (F := F)) Variants.none c none) E (A.call (k0_part13 p.i) p.v89 p.v279 p.v302 p.v305 p.v395 p.v397 p.v398 p.v399) K := by
  cases A
  unfold Pt.dvs13 Pt.ws13 Pt.bs13 Pt.v426 Pt.v427 Pt.v428 Pt.v433 Pt.cst_239
  generalize (p.dvs12 y38) = X38, p.bs12 = bs12, p.v279 = v279, p.v302 = v302, p.v305 = v305, p.v395 = v395, p.v397 = v397, p.v398 = v398, p.v399 = v399, p.v89 = v89, p.ws12 = ws12
  generalize hK : K _ = Z
  simp only [k0_part13_eq_skeleton]
  unfold k0_part13_skel
  unfold owns
  iintro ⟨⟨%f30, %e30, H30⟩, ⟨%f31, %e31, H31⟩, ⟨%f38, %e38, H38⟩, Hk⟩
  subst e30; subst e31; subst e38
  sl_exec
  sl_step
  refine BIBase.Entails.trans ?_ (kont hK (by (try sl_unfold_run_names); rfl))
  iintro ⟨⟨⟨H30, H31⟩, H38⟩, Hk⟩
  iapply Hk
  isplitl [H30]
  · iexists _; isplitr; swap; · iexact H30
    ipureintro; (try sl_unfold_run_names); rw [Cert.Whole.read_writes]; simp only [List.foldr, View.readAt_eq_ld]
  isplitl [H31]
  · iexists _; isplitr; swap; · iexact H31
    ipureintro; (try sl_unfold_run_names); rw [Cert.Whole.read_writes]; simp only [List.foldr, View.readAt_eq_ld]
  iexists _; isplitr; swap; · iexact H38
  ipureintro; (try sl_unfold_run_names); rw [Cert.Whole.read_writes]; simp only [List.foldr, View.readAt_eq_ld]

theorem part14 (A : Refs) (p : Pt F) (c : Dev nD) (y38 : Vec F S256x512 .f32) (E : Set ℕ) (K : (Σ' (v466 : Vec F S256x512 .f32), FVec F S1x512 .f32) → sProp 𝕄) :
    iprop(owns (c : Thread nD τ) A.a28 fullShare p.dlng ∗ owns (c : Thread nD τ) A.a30 fullShare p.ws13 ∗ owns (c : Thread nD τ) A.a31 fullShare p.bs13 ∗ owns (c : Thread nD τ) A.a38 fullShare (p.dvs13 y38)
      ∗ (iprop(owns (c : Thread nD τ) A.a28 fullShare p.dlng ∗ owns (c : Thread nD τ) A.a30 fullShare p.ws14 ∗ owns (c : Thread nD τ) A.a31 fullShare p.bs14 ∗ owns (c : Thread nD τ) A.a38 fullShare p.dvs) -∗ K ⟨p.v466, p.v468⟩))
      ⊢ wp frame (wpE (defs₀ (F := F)) Variants.none c none) E (A.call (k0_part14 p.i) p.v89 p.v279 p.v302 p.v305 p.v426 p.v427 p.v428 p.v433 p.cst_239) K := by
  cases A
  unfold Pt.ws14 Pt.bs14 Pt.v468
  unfold Pt.v466
  rw [← p.dvs_eq y38]
  unfold Pt.dvs14
  generalize (p.dvs13 y38) = X38, p.bs13 = bs13, p.cst_239 = cst_239, p.dlng = dlng, p.v279 = v279, p.v302 = v302, p.v305 = v305, p.v426 = v426, p.v427 = v427, p.v428 = v428, p.v433 = v433, p.v89 = v89, p.ws13 = ws13
  generalize hK : K _ = Z
  simp only [k0_part14_eq_skeleton]
  unfold k0_part14_skel
  unfold owns
  iintro ⟨⟨%f28, %e28, H28⟩, ⟨%f30, %e30, H30⟩, ⟨%f31, %e31, H31⟩, ⟨%f38, %e38, H38⟩, Hk⟩
  subst e28; subst e30; subst e31; subst e38
  sl_exec
  sl_step
  refine BIBase.Entails.trans ?_ (kont hK (by (try sl_unfold_run_names); simp only [View.readAt_eq_ld, Cert.Whole.read_writes, List.foldr]))
  iintro ⟨⟨⟨⟨H28, H30⟩, H31⟩, H38⟩, Hk⟩
  iapply Hk
  isplitl [H28]
  · iexists _; isplitr; swap; · iexact H28
    ipureintro; rfl
  isplitl [H30]
  · iexists _; isplitr; swap; · iexact H30
    ipureintro; (try sl_unfold_run_names); rw [Cert.Whole.read_writes]; simp only [List.foldr, View.readAt_eq_ld]
  isplitl [H31]
  · iexists _; isplitr; swap; · iexact H31
    ipureintro; (try sl_unfold_run_names); rw [Cert.Whole.read_writes]; simp only [List.foldr, View.readAt_eq_ld]
  iexists _; isplitr; swap; · iexact H38
  ipureintro; (try sl_unfold_run_names); rw [Cert.Whole.read_writes]; simp only [List.foldr, View.readAt_eq_ld]

theorem part15 (A : Refs) (p : Pt F) (c : Dev nD) (E : Set ℕ) (K : (Σ' (v498 : FVec F S256x512 .f32) (v505 : FVec F S256x512 .f32) (v507 : FVec F S1x512 .f32), FVec F S512 .f32) → sProp 𝕄) :
    iprop(owns (c : Thread nD τ) A.a28 fullShare p.dlng ∗ owns (c : Thread nD τ) A.a29 fullShare p.dlnb ∗ owns (c : Thread nD τ) A.a34 fullShare p.dcg
      ∗ (iprop(owns (c : Thread nD τ) A.a28 fullShare p.dlng' ∗ owns (c : Thread nD τ) A.a29 fullShare p.dlnb' ∗ owns (c : Thread nD τ) A.a34 fullShare p.dcg) -∗ K ⟨p.v498, p.v505, p.v507, p.v509⟩))
      ⊢ wp frame (wpE (defs₀ (F := F)) Variants.none c none) E (A.call (k0_part15 p.i) p.v43 p.v51 p.v53 p.v55 p.v240 p.v244 p.v251 p.v275 p.v466 p.v468) K := by
  cases A
  unfold Pt.dlng' Pt.dlnb' Pt.v498 Pt.v505 Pt.v507 Pt.v509
  generalize p.dcg = dcg, p.dlnb = dlnb, p.dlng = dlng, p.v240 = v240, p.v244 = v244, p.v251 = v251, p.v275 = v275, p.v43 = v43, p.v466 = v466, p.v468 = v468, p.v51 = v51, p.v53 = v53, p.v55 = v55
  generalize hK : K _ = Z
  simp only [k0_part15_eq_skeleton]
  unfold k0_part15_skel
  unfold owns
  iintro ⟨⟨%f28, %e28, H28⟩, ⟨%f29, %e29, H29⟩, ⟨%f34, %e34, H34⟩, Hk⟩
  subst e28; subst e29; subst e34
  sl_exec
  sl_step
  refine BIBase.Entails.trans ?_ (kont hK (by (try sl_unfold_run_names); rfl))
  iintro ⟨⟨⟨H28, H29⟩, H34⟩, Hk⟩
  iapply Hk
  isplitl [H28]
  · iexists _; isplitr; swap; · iexact H28
    ipureintro; (try sl_unfold_run_names); exact Cert.Whole.store _ _ _ _ _
  isplitl [H29]
  · iexists _; isplitr; swap; · iexact H29
    ipureintro; (try sl_unfold_run_names); exact Cert.Whole.store _ _ _ _ _
  iexists _; isplitr; swap; · iexact H34
  ipureintro; rfl

theorem part16 (A : Refs) (p : Pt F) (c : Dev nD) (E : Set ℕ) (K : (Σ' (v520 : FVec F S256x512 .f32) (v538 : FVec F S256x128 .f32) (v540 : FVec F S256x128 .f32) (v546 : FVec F S256x128 .f32), FVec F S256x128 .f32) → sProp 𝕄) :
    iprop(owns (c : Thread nD τ) A.a34 fullShare p.dcg ∗ owns (c : Thread nD τ) A.a35 fullShare p.dcbeta
      ∗ (iprop(owns (c : Thread nD τ) A.a34 fullShare p.dcg' ∗ owns (c : Thread nD τ) A.a35 fullShare p.dcbeta') -∗ K ⟨p.v520, p.v538, p.v540, p.v546, p.v552⟩))
      ⊢ wp frame (wpE (defs₀ (F := F)) Variants.none c none) E (A.call (k0_part16 p.i) p.v45 p.v186 p.v240 p.v505 p.v507 p.v509) K := by
  cases A
  unfold Pt.dcg' Pt.dcbeta' Pt.v520 Pt.v538 Pt.v540 Pt.v546 Pt.v552
  generalize p.dcbeta = dcbeta, p.dcg = dcg, p.v186 = v186, p.v240 = v240, p.v45 = v45, p.v505 = v505, p.v507 = v507, p.v509 = v509
  generalize hK : K _ = Z
  simp only [k0_part16_eq_skeleton]
  unfold k0_part16_skel
  unfold owns
  iintro ⟨⟨%f34, %e34, H34⟩, ⟨%f35, %e35, H35⟩, Hk⟩
  subst e34; subst e35
  sl_exec
  sl_step
  refine BIBase.Entails.trans ?_ (kont hK (by (try sl_unfold_run_names); rfl))
  iintro ⟨⟨H34, H35⟩, Hk⟩
  iapply Hk
  isplitl [H34]
  · iexists _; isplitr; swap; · iexact H34
    ipureintro; (try sl_unfold_run_names); exact Cert.Whole.store _ _ _ _ _
  iexists _; isplitr; swap; · iexact H35
  ipureintro; (try sl_unfold_run_names); exact Cert.Whole.store _ _ _ _ _

theorem part17 (A : Refs) (p : Pt F) (c : Dev nD) (E : Set ℕ) (K : (Σ' (v593 : FVec F S256x512 .f32), FVec F S1x512 .f32) → sProp 𝕄) :
    iprop(owns (c : Thread nD τ) A.a33 fullShare p.dcb
      ∗ (iprop(owns (c : Thread nD τ) A.a33 fullShare p.dcb) -∗ K ⟨p.v593, p.v598⟩))
      ⊢ wp frame (wpE (defs₀ (F := F)) Variants.none c none) E (A.call (k0_part17 p.i) p.v203 p.v220 p.v237 p.v240 p.v520 p.v538 p.v540 p.v546 p.v552) K := by
  cases A
  unfold Pt.v593 Pt.v598
  generalize p.dcb = dcb, p.v203 = v203, p.v220 = v220, p.v237 = v237, p.v240 = v240, p.v520 = v520, p.v538 = v538, p.v540 = v540, p.v546 = v546, p.v552 = v552
  generalize hK : K _ = Z
  simp only [k0_part17_eq_skeleton]
  unfold k0_part17_skel
  unfold owns
  iintro ⟨⟨%f33, %e33, H33⟩, Hk⟩
  subst e33
  sl_exec
  sl_step
  refine BIBase.Entails.trans ?_ (kont hK (by (try sl_unfold_run_names); rfl))
  iintro ⟨H33, Hk⟩
  iapply Hk
  iexists _; isplitr; swap; · iexact H33
  ipureintro; rfl

theorem part18 (A : Refs) (p : Pt F) (c : Dev nD) (E : Set ℕ) (K : (Σ' (v601 : FVec F S288x512 .f32) (v602 : FVec F S288x512 .f32) (v603 : FVec F S288x512 .f32) (v604 : FVec F S288x512 .f32) (v605 : FVec F S288x512 .f32) (v606 : FVec F S288x512 .f32) (v607 : FVec F S288x512 .f32) (v608 : FVec F S288x512 .f32) (v623 : FVec F S256x512 .f32), FVec F S256x512 .f32) → sProp 𝕄) :
    iprop(owns (c : Thread nD τ) A.a17 fullShare p.cw ∗ owns (c : Thread nD τ) A.a32 fullShare p.dcw ∗ owns (c : Thread nD τ) A.a33 fullShare p.dcb ∗ owns (c : Thread nD τ) A.a36 fullShare p.carry
      ∗ (iprop(owns (c : Thread nD τ) A.a17 fullShare p.cw ∗ owns (c : Thread nD τ) A.a32 fullShare p.cwt18 ∗ owns (c : Thread nD τ) A.a33 fullShare p.dcb' ∗ owns (c : Thread nD τ) A.a36 fullShare p.carry) -∗ K ⟨p.v601, p.v602, p.v603, p.v604, p.v605, p.v606, p.v607, p.v608, p.v623, p.v632⟩))
      ⊢ wp frame (wpE (defs₀ (F := F)) Variants.none c none) E (A.call (k0_part18 p.i) p.v166 p.v167 p.v593 p.v598) K := by
  cases A
  unfold Pt.dcb' Pt.cwt18 Pt.v601 Pt.v602 Pt.v603 Pt.v604 Pt.v605 Pt.v606 Pt.v607 Pt.v608 Pt.v623 Pt.v632
  generalize p.carry = carry, p.cw = cw, p.dcb = dcb, p.dcw = dcw, p.v166 = v166, p.v167 = v167, p.v593 = v593, p.v598 = v598
  generalize hK : K _ = Z
  simp only [k0_part18_eq_skeleton]
  unfold k0_part18_skel
  unfold owns
  iintro ⟨⟨%f17, %e17, H17⟩, ⟨%f32, %e32, H32⟩, ⟨%f33, %e33, H33⟩, ⟨%f36, %e36, H36⟩, Hk⟩
  subst e17; subst e32; subst e33; subst e36
  sl_exec
  sl_step
  refine BIBase.Entails.trans ?_ (kont hK (by (try sl_unfold_run_names); rfl))
  iintro ⟨⟨⟨⟨H17, H32⟩, H33⟩, H36⟩, Hk⟩
  iapply Hk
  isplitl [H17]
  · iexists _; isplitr; swap; · iexact H17
    ipureintro; rfl
  isplitl [H32]
  · iexists _; isplitr; swap; · iexact H32
    ipureintro; (try sl_unfold_run_names); rw [Cert.Whole.read_writes]; simp only [List.foldr, View.readAt_eq_ld]
  isplitl [H33]
  · iexists _; isplitr; swap; · iexact H33
    ipureintro; (try sl_unfold_run_names); exact Cert.Whole.store _ _ _ _ _
  iexists _; isplitr; swap; · iexact H36
  ipureintro; rfl

theorem part19 (A : Refs) (p : Pt F) (c : Dev nD) (E : Set ℕ) (K : (Σ' (v665 : FVec F S256x512 .f32), FVec F S1x512 .f32) → sProp 𝕄) :
    iprop(owns (c : Thread nD τ) A.a17 fullShare p.cw ∗ owns (c : Thread nD τ) A.a32 fullShare p.cwt18
      ∗ (iprop(owns (c : Thread nD τ) A.a17 fullShare p.cw ∗ owns (c : Thread nD τ) A.a32 fullShare p.cwt19) -∗ K ⟨p.v665, p.v672⟩))
      ⊢ wp frame (wpE (defs₀ (F := F)) Variants.none c none) E (A.call (k0_part19 p.i) p.v168 p.v169 p.v170 p.v593 p.v604 p.v605 p.v623 p.v632) K := by
  cases A
  unfold Pt.cwt19 Pt.v665 Pt.v672
  generalize p.cw = cw, p.cwt18 = cwt18, p.v168 = v168, p.v169 = v169, p.v170 = v170, p.v593 = v593, p.v604 = v604, p.v605 = v605, p.v623 = v623, p.v632 = v632
  generalize hK : K _ = Z
  simp only [k0_part19_eq_skeleton]
  unfold k0_part19_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part20 (A : Refs) (p : Pt F) (c : Dev nD) (E : Set ℕ) (K : (Σ' (v707 : FVec F S256x512 .f32) (v708 : FVec F S256x512 .f32), FVec F S1x512 .f32) → sProp 𝕄) :
    iprop(owns (c : Thread nD τ) A.a17 fullShare p.cw ∗ owns (c : Thread nD τ) A.a32 fullShare p.cwt19
      ∗ (iprop(owns (c : Thread nD τ) A.a17 fullShare p.cw ∗ owns (c : Thread nD τ) A.a32 fullShare p.cwt20) -∗ K ⟨p.v707, p.v708, p.v710⟩))
      ⊢ wp frame (wpE (defs₀ (F := F)) Variants.none c none) E (A.call (k0_part20 p.i) p.v164 p.v165 p.v171 p.v593 p.v601 p.v602 p.v603 p.v665 p.v672) K := by
  cases A
  unfold Pt.cwt20 Pt.v707 Pt.v708 Pt.v710
  generalize p.cw = cw, p.cwt19 = cwt19, p.v164 = v164, p.v165 = v165, p.v171 = v171, p.v593 = v593, p.v601 = v601, p.v602 = v602, p.v603 = v603, p.v665 = v665, p.v672 = v672
  generalize hK : K _ = Z
  simp only [k0_part20_eq_skeleton]
  unfold k0_part20_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part21 (A : Refs) (p : Pt F) (c : Dev nD) (E : Set ℕ) (K : (Σ' (v735 : FVec F S256x512 .f32), FVec F S256x512 .f32) → sProp 𝕄) :
    iprop(owns (c : Thread nD τ) A.a17 fullShare p.cw ∗ owns (c : Thread nD τ) A.a32 fullShare p.cwt20
      ∗ (iprop(owns (c : Thread nD τ) A.a17 fullShare p.cw ∗ owns (c : Thread nD τ) A.a32 fullShare p.cwt21) -∗ K ⟨p.v735, p.v748⟩))
      ⊢ wp frame (wpE (defs₀ (F := F)) Variants.none c none) E (A.call (k0_part21 p.i) p.v166 p.v167 p.v593 p.v606 p.v607 p.v608 p.v707 p.v708 p.v710) K := by
  cases A
  unfold Pt.cwt21 Pt.v735 Pt.v748
  generalize p.cw = cw, p.cwt20 = cwt20, p.v166 = v166, p.v167 = v167, p.v593 = v593, p.v606 = v606, p.v607 = v607, p.v608 = v608, p.v707 = v707, p.v708 = v708, p.v710 = v710
  generalize hK : K _ = Z
  simp only [k0_part21_eq_skeleton]
  unfold k0_part21_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part22 (A : Refs) (p : Pt F) (c : Dev nD) (E : Set ℕ) (K : (Σ' (v777 : FVec F S256x512 .f32), FVec F S256x512 .f32) → sProp 𝕄) :
    iprop(owns (c : Thread nD τ) A.a17 fullShare p.cw ∗ owns (c : Thread nD τ) A.a32 fullShare p.cwt21
      ∗ (iprop(owns (c : Thread nD τ) A.a17 fullShare p.cw ∗ owns (c : Thread nD τ) A.a32 fullShare p.cwt22) -∗ K ⟨p.v777, p.v786⟩))
      ⊢ wp frame (wpE (defs₀ (F := F)) Variants.none c none) E (A.call (k0_part22 p.i) p.v168 p.v169 p.v170 p.v593 p.v603 p.v604 p.v605 p.v735 p.v748) K := by
  cases A
  unfold Pt.cwt22 Pt.v777 Pt.v786
  generalize p.cw = cw, p.cwt21 = cwt21, p.v168 = v168, p.v169 = v169, p.v170 = v170, p.v593 = v593, p.v603 = v603, p.v604 = v604, p.v605 = v605, p.v735 = v735, p.v748 = v748
  generalize hK : K _ = Z
  simp only [k0_part22_eq_skeleton]
  unfold k0_part22_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part23 (A : Refs) (p : Pt F) (c : Dev nD) (E : Set ℕ) (K : (Σ' (v819 : FVec F S256x512 .f32) (v822 : FVec F S1x512 .f32), FVec F S1x512 .f32) → sProp 𝕄) :
    iprop(owns (c : Thread nD τ) A.a17 fullShare p.cw ∗ owns (c : Thread nD τ) A.a32 fullShare p.cwt22
      ∗ (iprop(owns (c : Thread nD τ) A.a17 fullShare p.cw ∗ owns (c : Thread nD τ) A.a32 fullShare p.cwt23) -∗ K ⟨p.v819, p.v822, p.v825⟩))
      ⊢ wp frame (wpE (defs₀ (F := F)) Variants.none c none) E (A.call (k0_part23 p.i) p.v164 p.v165 p.v171 p.v593 p.v601 p.v602 p.v777 p.v786) K := by
  cases A
  unfold Pt.cwt23 Pt.v819 Pt.v822 Pt.v825
  generalize p.cw = cw, p.cwt22 = cwt22, p.v164 = v164, p.v165 = v165, p.v171 = v171, p.v593 = v593, p.v601 = v601, p.v602 = v602, p.v777 = v777, p.v786 = v786
  generalize hK : K _ = Z
  simp only [k0_part23_eq_skeleton]
  unfold k0_part23_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part24 (A : Refs) (p : Pt F) (c : Dev nD) (E : Set ℕ) (K : (Σ' (v861 : FVec F S256x512 .f32), FVec F S256x512 .f32) → sProp 𝕄) :
    iprop(owns (c : Thread nD τ) A.a17 fullShare p.cw ∗ owns (c : Thread nD τ) A.a32 fullShare p.cwt23
      ∗ (iprop(owns (c : Thread nD τ) A.a17 fullShare p.cw ∗ owns (c : Thread nD τ) A.a32 fullShare p.cwt24) -∗ K ⟨p.v861, p.v862⟩))
      ⊢ wp frame (wpE (defs₀ (F := F)) Variants.none c none) E (A.call (k0_part24 p.i) p.v166 p.v167 p.v168 p.v593 p.v606 p.v607 p.v608 p.v819 p.v822 p.v825) K := by
  cases A
  unfold Pt.cwt24 Pt.v861 Pt.v862
  generalize p.cw = cw, p.cwt23 = cwt23, p.v166 = v166, p.v167 = v167, p.v168 = v168, p.v593 = v593, p.v606 = v606, p.v607 = v607, p.v608 = v608, p.v819 = v819, p.v822 = v822, p.v825 = v825
  generalize hK : K _ = Z
  simp only [k0_part24_eq_skeleton]
  unfold k0_part24_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part25 (A : Refs) (p : Pt F) (c : Dev nD) (E : Set ℕ) (K : (Σ' (v889 : FVec F S256x512 .f32) (v898 : FVec F S256x512 .f32), FVec F S1x512 .f32) → sProp 𝕄) :
    iprop(owns (c : Thread nD τ) A.a17 fullShare p.cw ∗ owns (c : Thread nD τ) A.a32 fullShare p.cwt24
      ∗ (iprop(owns (c : Thread nD τ) A.a17 fullShare p.cw ∗ owns (c : Thread nD τ) A.a32 fullShare p.cwt25) -∗ K ⟨p.v889, p.v898, p.v900⟩))
      ⊢ wp frame (wpE (defs₀ (F := F)) Variants.none c none) E (A.call (k0_part25 p.i) p.v169 p.v170 p.v593 p.v603 p.v604 p.v605 p.v861 p.v862) K := by
  cases A
  unfold Pt.cwt25 Pt.v889 Pt.v898 Pt.v900
  generalize p.cw = cw, p.cwt24 = cwt24, p.v169 = v169, p.v170 = v170, p.v593 = v593, p.v603 = v603, p.v604 = v604, p.v605 = v605, p.v861 = v861, p.v862 = v862
  generalize hK : K _ = Z
  simp only [k0_part25_eq_skeleton]
  unfold k0_part25_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part26 (A : Refs) (p : Pt F) (c : Dev nD) (E : Set ℕ) (K : (Σ' (v931 : FVec F S256x512 .f32), FVec F S1x512 .f32) → sProp 𝕄) :
    iprop(owns (c : Thread nD τ) A.a17 fullShare p.cw ∗ owns (c : Thread nD τ) A.a32 fullShare p.cwt25
      ∗ (iprop(owns (c : Thread nD τ) A.a17 fullShare p.cw ∗ owns (c : Thread nD τ) A.a32 fullShare p.cwt26) -∗ K ⟨p.v931, p.v938⟩))
      ⊢ wp frame (wpE (defs₀ (F := F)) Variants.none c none) E (A.call (k0_part26 p.i) p.v164 p.v165 p.v171 p.v593 p.v601 p.v602 p.v889 p.v898 p.v900) K := by
  cases A
  unfold Pt.cwt26 Pt.v931 Pt.v938
  generalize p.cw = cw, p.cwt25 = cwt25, p.v164 = v164, p.v165 = v165, p.v171 = v171, p.v593 = v593, p.v601 = v601, p.v602 = v602, p.v889 = v889, p.v898 = v898, p.v900 = v900
  generalize hK : K _ = Z
  simp only [k0_part26_eq_skeleton]
  unfold k0_part26_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part27 (A : Refs) (p : Pt F) (c : Dev nD) (E : Set ℕ) (K : (Σ' (v973 : FVec F S256x512 .f32) (v976 : FVec F S1x512 .f32), FVec F S256x512 .f32) → sProp 𝕄) :
    iprop(owns (c : Thread nD τ) A.a17 fullShare p.cw ∗ owns (c : Thread nD τ) A.a32 fullShare p.cwt26
      ∗ (iprop(owns (c : Thread nD τ) A.a17 fullShare p.cw ∗ owns (c : Thread nD τ) A.a32 fullShare p.cwt27) -∗ K ⟨p.v973, p.v976, p.v977⟩))
      ⊢ wp frame (wpE (defs₀ (F := F)) Variants.none c none) E (A.call (k0_part27 p.i) p.v166 p.v167 p.v168 p.v593 p.v606 p.v607 p.v608 p.v931 p.v938) K := by
  cases A
  unfold Pt.cwt27 Pt.v973 Pt.v976 Pt.v977
  generalize p.cw = cw, p.cwt26 = cwt26, p.v166 = v166, p.v167 = v167, p.v168 = v168, p.v593 = v593, p.v606 = v606, p.v607 = v607, p.v608 = v608, p.v931 = v931, p.v938 = v938
  generalize hK : K _ = Z
  simp only [k0_part27_eq_skeleton]
  unfold k0_part27_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part28 (A : Refs) (p : Pt F) (c : Dev nD) (E : Set ℕ) (K : (Σ' (v1015 : FVec F S256x512 .f32), FVec F S256x512 .f32) → sProp 𝕄) :
    iprop(owns (c : Thread nD τ) A.a17 fullShare p.cw ∗ owns (c : Thread nD τ) A.a32 fullShare p.cwt27
      ∗ (iprop(owns (c : Thread nD τ) A.a17 fullShare p.cw ∗ owns (c : Thread nD τ) A.a32 fullShare p.cwt28) -∗ K ⟨p.v1015, p.v1016⟩))
      ⊢ wp frame (wpE (defs₀ (F := F)) Variants.none c none) E (A.call (k0_part28 p.i) p.v169 p.v170 p.v171 p.v593 p.v603 p.v604 p.v605 p.v973 p.v976 p.v977) K := by
  cases A
  unfold Pt.cwt28 Pt.v1015 Pt.v1016
  generalize p.cw = cw, p.cwt27 = cwt27, p.v169 = v169, p.v170 = v170, p.v171 = v171, p.v593 = v593, p.v603 = v603, p.v604 = v604, p.v605 = v605, p.v973 = v973, p.v976 = v976, p.v977 = v977
  generalize hK : K _ = Z
  simp only [k0_part28_eq_skeleton]
  unfold k0_part28_skel
  unfold owns
  iintro ⟨⟨%f17, %e17, H17⟩, ⟨%f32, %e32, H32⟩, Hk⟩
  subst e17; subst e32
  sl_exec
  sl_step
  refine BIBase.Entails.trans ?_ (kont hK (by (try sl_unfold_run_names); rfl))
  iintro ⟨⟨H17, H32⟩, Hk⟩
  iapply Hk
  isplitl [H17]
  · iexists _; isplitr; swap; · iexact H17
    ipureintro; rfl
  iexists _; isplitr; swap; · iexact H32
  ipureintro; (try sl_unfold_run_names); rw [Cert.Whole.read_writes]; simp only [List.foldr, View.readAt_eq_ld]

theorem part29 (A : Refs) (p : Pt F) (c : Dev nD) (E : Set ℕ) (K : (Σ' (v1053 : FVec F S256x512 .f32) (v1054 : FVec F S256x512 .bf16) (v1055 : FVec F S256x512 .bf16), FVec F S256x512 .bf16) → sProp 𝕄) :
    iprop(owns (c : Thread nD τ) A.a17 fullShare p.cw ∗ owns (c : Thread nD τ) A.a32 fullShare p.cwt28 ∗ owns (c : Thread nD τ) A.a36 fullShare p.carry
      ∗ (iprop(owns (c : Thread nD τ) A.a17 fullShare p.cw ∗ owns (c : Thread nD τ) A.a32 fullShare p.cwt29 ∗ owns (c : Thread nD τ) A.a36 fullShare p.carry') -∗ K ⟨p.v1053, p.v1054, p.v1055, p.v1056⟩))
      ⊢ wp frame (wpE (defs₀ (F := F)) Variants.none c none) E (A.call (k0_part29 p.i) p.v24 p.v162 p.v164 p.v277 p.v498 p.v593 p.v601 p.v602 p.v1015 p.v1016) K := by
  cases A
  unfold Pt.cwt29 Pt.carry' Pt.v1053 Pt.v1054 Pt.v1055 Pt.v1056
  generalize p.carry = carry, p.cw = cw, p.cwt28 = cwt28, p.v1015 = v1015, p.v1016 = v1016, p.v162 = v162, p.v164 = v164, p.v24 = v24, p.v277 = v277, p.v498 = v498, p.v593 = v593, p.v601 = v601, p.v602 = v602
  generalize hK : K _ = Z
  simp only [k0_part29_eq_skeleton]
  unfold k0_part29_skel
  unfold owns
  iintro ⟨⟨%f17, %e17, H17⟩, ⟨%f32, %e32, H32⟩, ⟨%f36, %e36, H36⟩, Hk⟩
  subst e17; subst e32; subst e36
  sl_exec
  sl_step
  refine BIBase.Entails.trans ?_ (kont hK (by (try sl_unfold_run_names); rfl))
  iintro ⟨⟨⟨H17, H32⟩, H36⟩, Hk⟩
  iapply Hk
  isplitl [H17]
  · iexists _; isplitr; swap; · iexact H17
    ipureintro; rfl
  isplitl [H32]
  · iexists _; isplitr; swap; · iexact H32
    ipureintro; (try sl_unfold_run_names); rw [Cert.Whole.read_writes]; simp only [List.foldr, View.readAt_eq_ld]
  iexists _; isplitr; swap; · iexact H36
  ipureintro; (try sl_unfold_run_names); exact Cert.Whole.store _ _ _ _ _

theorem part30 (A : Refs) (p : Pt F) (c : Dev nD) (y24 : Vec F S256x2048 .bf16) (E : Set ℕ) (K : (Σ' (v1078 : FVec F S256x1024 .f32), FVec F S1x1024 .f32) → sProp 𝕄) :
    iprop(owns (c : Thread nD τ) A.a11 fullShare p.win ∗ owns (c : Thread nD τ) A.a24 fullShare y24 ∗ owns (c : Thread nD τ) A.a27 fullShare p.dg1
      ∗ (iprop(owns (c : Thread nD τ) A.a11 fullShare p.win ∗ owns (c : Thread nD τ) A.a24 fullShare p.dpr ∗ owns (c : Thread nD τ) A.a27 fullShare p.dg1) -∗ K ⟨p.v1078, p.v1084⟩))
      ⊢ wp frame (wpE (defs₀ (F := F)) Variants.none c none) E (A.call (k0_part30 p.i) p.v17 p.v1053 p.v1054 p.v1055 p.v1056) K := by
  cases A
  unfold Pt.dpr Pt.v1078 Pt.v1084
  generalize p.dg1 = dg1, p.v1053 = v1053, p.v1054 = v1054, p.v1055 = v1055, p.v1056 = v1056, p.v17 = v17, p.win = win
  generalize hK : K _ = Z
  simp only [k0_part30_eq_skeleton]
  unfold k0_part30_skel
  unfold owns
  iintro ⟨⟨%f11, %e11, H11⟩, ⟨%f24, %e24, H24⟩, ⟨%f27, %e27, H27⟩, Hk⟩
  subst e11; subst e24; subst e27
  sl_exec
  sl_step
  refine BIBase.Entails.trans ?_ (kont hK (by (try sl_unfold_run_names); rfl))
  iintro ⟨⟨⟨H11, H24⟩, H27⟩, Hk⟩
  iapply Hk
  isplitl [H11]
  · iexists _; isplitr; swap; · iexact H11
    ipureintro; rfl
  isplitl [H24]
  · iexists _; isplitr; swap; · iexact H24
    ipureintro; (try sl_unfold_run_names); exact View.read_writes_eq_canon _ _ _ (View.cover_of_tiledL _ S256x512.size (by sl_kernel_rfl))
  iexists _; isplitr; swap; · iexact H27
  ipureintro; rfl

set_option maxHeartbeats 4000000 in
/-- The body on whole buffers: it returns every input as it was and every other buffer as named at the point. -/
theorem run (A : Refs) (p : Pt F) (c : Dev nD) (y22 : Vec F S256x1024 .f32) (y23 : Vec F S256x1024 .bf16) (y24 : Vec F S256x2048 .bf16) (y25 : Vec F S1024x256 .bf16) (y26 : Vec F S1024x256 .bf16) (y37 : Vec F S256x512 .f32) (y38 : Vec F S256x512 .f32)
    (d27 : Vec F S1x1024 .f32) (d28 : Vec F S1x512 .f32) (d29 : Vec F S1x512 .f32) (d30 : Vec F S4x128x128 .f32) (d31 : Vec F S4x128x128 .f32) (d32 : Vec F S32x512 .f32) (d33 : Vec F S1x512 .f32) (d34 : Vec F S1x512 .f32) (d35 : Vec F S1x512 .f32) (d36 : Vec F S32x512 .f32)
    (r27 : p.dg1 = if reset p.i then k0_pay2 else d27) (r28 : p.dlng = if reset p.i then k0_pay3 else d28) (r29 : p.dlnb = if reset p.i then k0_pay4 else d29) (r30 : p.dws = if reset p.i then k0_pay5 else d30) (r31 : p.dbs = if reset p.i then k0_pay6 else d31) (r32 : p.dcw = if reset p.i then k0_pay7 else d32) (r33 : p.dcb = if reset p.i then k0_pay8 else d33) (r34 : p.dcg = if reset p.i then k0_pay9 else d34) (r35 : p.dcbeta = if reset p.i then k0_pay10 else d35) (r36 : p.carry = if reset p.i then k0_pay1 else d36)
    (E : Set ℕ) (K : PUnit → sProp 𝕄) :
    iprop(owns (c : Thread nD τ) A.a1 fullShare p.dx1 ∗ owns (c : Thread nD τ) A.a2 fullShare p.dxb
       ∗ owns (c : Thread nD τ) A.a3 fullShare p.x ∗ owns (c : Thread nD τ) A.a4 fullShare p.pj
       ∗ owns (c : Thread nD τ) A.a5 fullShare p.vbh ∗ owns (c : Thread nD τ) A.a6 fullShare p.gbh
       ∗ owns (c : Thread nD τ) A.a7 fullShare p.cpre ∗ owns (c : Thread nD τ) A.a8 fullShare p.kept
       ∗ owns (c : Thread nD τ) A.a9 fullShare p.rs ∗ owns (c : Thread nD τ) A.a10 fullShare p.g1
       ∗ owns (c : Thread nD τ) A.a11 fullShare p.win ∗ owns (c : Thread nD τ) A.a12 fullShare p.lng
       ∗ owns (c : Thread nD τ) A.a13 fullShare p.lnb ∗ owns (c : Thread nD τ) A.a14 fullShare p.ws
       ∗ owns (c : Thread nD τ) A.a15 fullShare p.wst ∗ owns (c : Thread nD τ) A.a16 fullShare p.bf
       ∗ owns (c : Thread nD τ) A.a17 fullShare p.cw ∗ owns (c : Thread nD τ) A.a18 fullShare p.cb
       ∗ owns (c : Thread nD τ) A.a19 fullShare p.cg ∗ owns (c : Thread nD τ) A.a20 fullShare p.cbeta
       ∗ owns (c : Thread nD τ) A.a21 fullShare p.wout ∗ owns (c : Thread nD τ) A.a22 fullShare y22
       ∗ owns (c : Thread nD τ) A.a23 fullShare y23 ∗ owns (c : Thread nD τ) A.a24 fullShare y24
       ∗ owns (c : Thread nD τ) A.a25 fullShare y25 ∗ owns (c : Thread nD τ) A.a26 fullShare y26
       ∗ owns (c : Thread nD τ) A.a27 fullShare d27 ∗ owns (c : Thread nD τ) A.a28 fullShare d28
       ∗ owns (c : Thread nD τ) A.a29 fullShare d29 ∗ owns (c : Thread nD τ) A.a30 fullShare d30
       ∗ owns (c : Thread nD τ) A.a31 fullShare d31 ∗ owns (c : Thread nD τ) A.a32 fullShare d32
       ∗ owns (c : Thread nD τ) A.a33 fullShare d33 ∗ owns (c : Thread nD τ) A.a34 fullShare d34
       ∗ owns (c : Thread nD τ) A.a35 fullShare d35 ∗ owns (c : Thread nD τ) A.a36 fullShare d36
       ∗ owns (c : Thread nD τ) A.a37 fullShare y37 ∗ owns (c : Thread nD τ) A.a38 fullShare y38
      ∗ (iprop(owns (c : Thread nD τ) A.a1 fullShare p.dx1 ∗ owns (c : Thread nD τ) A.a2 fullShare p.dxb
         ∗ owns (c : Thread nD τ) A.a3 fullShare p.x ∗ owns (c : Thread nD τ) A.a4 fullShare p.pj
         ∗ owns (c : Thread nD τ) A.a5 fullShare p.vbh ∗ owns (c : Thread nD τ) A.a6 fullShare p.gbh
         ∗ owns (c : Thread nD τ) A.a7 fullShare p.cpre ∗ owns (c : Thread nD τ) A.a8 fullShare p.kept
         ∗ owns (c : Thread nD τ) A.a9 fullShare p.rs ∗ owns (c : Thread nD τ) A.a10 fullShare p.g1
         ∗ owns (c : Thread nD τ) A.a11 fullShare p.win ∗ owns (c : Thread nD τ) A.a12 fullShare p.lng
         ∗ owns (c : Thread nD τ) A.a13 fullShare p.lnb ∗ owns (c : Thread nD τ) A.a14 fullShare p.ws
         ∗ owns (c : Thread nD τ) A.a15 fullShare p.wst ∗ owns (c : Thread nD τ) A.a16 fullShare p.bf
         ∗ owns (c : Thread nD τ) A.a17 fullShare p.cw ∗ owns (c : Thread nD τ) A.a18 fullShare p.cb
         ∗ owns (c : Thread nD τ) A.a19 fullShare p.cg ∗ owns (c : Thread nD τ) A.a20 fullShare p.cbeta
         ∗ owns (c : Thread nD τ) A.a21 fullShare p.wout ∗ owns (c : Thread nD τ) A.a22 fullShare p.dx'
         ∗ owns (c : Thread nD τ) A.a23 fullShare p.dxb' ∗ owns (c : Thread nD τ) A.a24 fullShare p.dpr
         ∗ owns (c : Thread nD τ) A.a25 fullShare p.h1t ∗ owns (c : Thread nD τ) A.a26 fullShare p.mixt
         ∗ owns (c : Thread nD τ) A.a27 fullShare p.dg1' ∗ owns (c : Thread nD τ) A.a28 fullShare p.dlng'
         ∗ owns (c : Thread nD τ) A.a29 fullShare p.dlnb' ∗ owns (c : Thread nD τ) A.a30 fullShare p.ws14
         ∗ owns (c : Thread nD τ) A.a31 fullShare p.bs14 ∗ owns (c : Thread nD τ) A.a32 fullShare p.cwt29
         ∗ owns (c : Thread nD τ) A.a33 fullShare p.dcb' ∗ owns (c : Thread nD τ) A.a34 fullShare p.dcg'
         ∗ owns (c : Thread nD τ) A.a35 fullShare p.dcbeta' ∗ owns (c : Thread nD τ) A.a36 fullShare p.carry'
         ∗ owns (c : Thread nD τ) A.a37 fullShare p.mx ∗ owns (c : Thread nD τ) A.a38 fullShare p.dvs) -∗ K ⟨⟩))
      ⊢ wp frame (wpE (defs₀ (F := F)) Variants.none c none) E (A.call (cc0_mix_bwd_l0 p.i)) K := by
  simp only [Refs.call, cc0_mix_bwd_l0_eq_skeleton]
  unfold cc0_mix_bwd_l0_skel
  simp only [k0_part31_eq_skeleton]
  unfold k0_part31_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, Hk⟩
  simp only [wp_bind]
  iapply (part2 A p c y25 d27 d28 d29 d30 d31 d32 d33 d34 d35 d36 r27 r28 r29 r30 r31 r32 r33 r34 r35 r36 E _)
  isplitl [H3]; · iexact H3
  isplitl [H4]; · iexact H4
  isplitl [H5]; · iexact H5
  isplitl [H6]; · iexact H6
  isplitl [H10]; · iexact H10
  isplitl [H25]; · iexact H25
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  iintro ⟨H3, H4, H5, H6, H10, H25, H27, H28, H29, H30, H31, H32, H33, H34, H35, H36⟩
  dsimp only
  iapply (part3 A p c E _)
  isplitl [H7]; · iexact H7
  isplitl [H8]; · iexact H8
  isplitl [H9]; · iexact H9
  isplitl [H12]; · iexact H12
  isplitl [H13]; · iexact H13
  isplitl [H19]; · iexact H19
  isplitl [H20]; · iexact H20
  iintro ⟨H7, H8, H9, H12, H13, H19, H20⟩
  dsimp only
  iapply (part4 A p c y37 E _)
  isplitl [H14]; · iexact H14
  isplitl [H16]; · iexact H16
  isplitl [H37]; · iexact H37
  iintro ⟨H14, H16, H37⟩
  dsimp only
  iapply (part5 A p c y37 E _)
  isplitl [H16]; · iexact H16
  isplitl [H37]; · iexact H37
  iintro ⟨H16, H37⟩
  iapply (part6 A p c y37 E _)
  isplitl [H16]; · iexact H16
  isplitl [H37]; · iexact H37
  iintro ⟨H16, H37⟩
  dsimp only
  iapply (part7 A p c E _)
  dsimp only
  iapply (part8 A p c y26 E _)
  isplitl [H26]; · iexact H26
  iintro H26
  dsimp only
  iapply (part9 A p c E _)
  isplitl [H2]; · iexact H2
  isplitl [H15]; · iexact H15
  isplitl [H21]; · iexact H21
  iintro ⟨H2, H15, H21⟩
  dsimp only
  iapply (part10 A p c y38 E _)
  isplitl [H15]; · iexact H15
  isplitl [H30]; · iexact H30
  isplitl [H38]; · iexact H38
  iintro ⟨H15, H30, H38⟩
  dsimp only
  iapply (part11 A p c y38 E _)
  isplitl [H30]; · iexact H30
  isplitl [H31]; · iexact H31
  isplitl [H38]; · iexact H38
  iintro ⟨H30, H31, H38⟩
  dsimp only
  iapply (part12 A p c y38 E _)
  isplitl [H30]; · iexact H30
  isplitl [H31]; · iexact H31
  isplitl [H38]; · iexact H38
  iintro ⟨H30, H31, H38⟩
  dsimp only
  iapply (part13 A p c y38 E _)
  isplitl [H30]; · iexact H30
  isplitl [H31]; · iexact H31
  isplitl [H38]; · iexact H38
  iintro ⟨H30, H31, H38⟩
  dsimp only
  iapply (part14 A p c y38 E _)
  isplitl [H28]; · iexact H28
  isplitl [H30]; · iexact H30
  isplitl [H31]; · iexact H31
  isplitl [H38]; · iexact H38
  iintro ⟨H28, H30, H31, H38⟩
  dsimp only
  iapply (part15 A p c E _)
  isplitl [H28]; · iexact H28
  isplitl [H29]; · iexact H29
  isplitl [H34]; · iexact H34
  iintro ⟨H28, H29, H34⟩
  dsimp only
  iapply (part16 A p c E _)
  isplitl [H34]; · iexact H34
  isplitl [H35]; · iexact H35
  iintro ⟨H34, H35⟩
  dsimp only
  iapply (part17 A p c E _)
  isplitl [H33]; · iexact H33
  iintro H33
  dsimp only
  iapply (part18 A p c E _)
  isplitl [H17]; · iexact H17
  isplitl [H32]; · iexact H32
  isplitl [H33]; · iexact H33
  isplitl [H36]; · iexact H36
  iintro ⟨H17, H32, H33, H36⟩
  dsimp only
  iapply (part19 A p c E _)
  isplitl [H17]; · iexact H17
  isplitl [H32]; · iexact H32
  iintro ⟨H17, H32⟩
  dsimp only
  iapply (part20 A p c E _)
  isplitl [H17]; · iexact H17
  isplitl [H32]; · iexact H32
  iintro ⟨H17, H32⟩
  dsimp only
  iapply (part21 A p c E _)
  isplitl [H17]; · iexact H17
  isplitl [H32]; · iexact H32
  iintro ⟨H17, H32⟩
  dsimp only
  iapply (part22 A p c E _)
  isplitl [H17]; · iexact H17
  isplitl [H32]; · iexact H32
  iintro ⟨H17, H32⟩
  dsimp only
  iapply (part23 A p c E _)
  isplitl [H17]; · iexact H17
  isplitl [H32]; · iexact H32
  iintro ⟨H17, H32⟩
  dsimp only
  iapply (part24 A p c E _)
  isplitl [H17]; · iexact H17
  isplitl [H32]; · iexact H32
  iintro ⟨H17, H32⟩
  dsimp only
  iapply (part25 A p c E _)
  isplitl [H17]; · iexact H17
  isplitl [H32]; · iexact H32
  iintro ⟨H17, H32⟩
  dsimp only
  iapply (part26 A p c E _)
  isplitl [H17]; · iexact H17
  isplitl [H32]; · iexact H32
  iintro ⟨H17, H32⟩
  dsimp only
  iapply (part27 A p c E _)
  isplitl [H17]; · iexact H17
  isplitl [H32]; · iexact H32
  iintro ⟨H17, H32⟩
  dsimp only
  iapply (part28 A p c E _)
  isplitl [H17]; · iexact H17
  isplitl [H32]; · iexact H32
  iintro ⟨H17, H32⟩
  dsimp only
  iapply (part29 A p c E _)
  isplitl [H17]; · iexact H17
  isplitl [H32]; · iexact H32
  isplitl [H36]; · iexact H36
  iintro ⟨H17, H32, H36⟩
  dsimp only
  iapply (part30 A p c y24 E _)
  isplitl [H11]; · iexact H11
  isplitl [H24]; · iexact H24
  isplitl [H27]; · iexact H27
  iintro ⟨H11, H24, H27⟩
  dsimp only
  unfold owns
  icases H1 with ⟨%f1, %e1, H1⟩
  icases H22 with ⟨%f22, %e22, H22⟩
  icases H23 with ⟨%f23, %e23, H23⟩
  icases H27 with ⟨%f27, %e27, H27⟩
  sl_exec
  sl_step
  iapply Hk
  isplitl [H1]
  · iexists _; isplitr; swap; · iexact H1
    ipureintro; exact e1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexists _; isplitr; swap; · iexact H22
    ipureintro; (try sl_unfold_run_names); rw [Cert.Whole.store, View.readAt_eq_ld, e1]; rfl
  isplitl [H23]
  · iexists _; isplitr; swap; · iexact H23
    ipureintro; (try sl_unfold_run_names); rw [Cert.Whole.store, View.readAt_eq_ld, e1]; rfl
  isplitl [H24]
  · iexact H24
  isplitl [H25]
  · iexact H25
  isplitl [H26]
  · iexact H26
  isplitl [H27]
  · iexists _; isplitr; swap; · iexact H27
    ipureintro; exact Cert.Whole.store _ _ _ _ _
  isplitl [H28]
  · iexact H28
  isplitl [H29]
  · iexact H29
  isplitl [H30]
  · iexact H30
  isplitl [H31]
  · iexact H31
  isplitl [H32]
  · iexact H32
  isplitl [H33]
  · iexact H33
  isplitl [H34]
  · iexact H34
  isplitl [H35]
  · iexact H35
  isplitl [H36]
  · iexact H36
  isplitl [H37]
  · iexact H37
  iexact H38

end Cert.MixBwdIdeal.Hand
-- ==== Proof.MixFrame.lean ====
/- The token mixers' backward call, over any float values: what its buffers hold after each grid point, that the whole
   call runs, terminates and leaves its arguments and the semaphores as they were. -/
module

public import proofs.«01_k».proof.Proof.MixRun
public import proofs.«01_k».proof.Proof.Leaves
public import proofs.«01_k».proof.Proof.Gen.MixBwdIdeal.Frame.Runs
public import Idealize.ShloMosaic.Lib.Claim

@[expose] public section

set_option maxRecDepth 16384

noncomputable section

namespace Cert.MixBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixBwdIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset is taken at the grid's first point only. -/
theorem reset_iff (t : Fin cfg0.N) : reset (grid0.coords t) ↔ t.val = 0 := by
  have ht : t.val < 16 := Nat.lt_of_lt_of_eq t.isLt N_0
  have e0 : (grid0.coords t 0).val = t.val / 1 % 16 := Pipeline.Grid.coords_val t 0 (by decide) rfl
  simp only [reset, e0]
  word_cmp

/-! ## The buffers after each point -/

/-- What is carried from point to point: the parameters' gradients so far and the convolution gradient's first rows. -/
structure St (F : FTy → Type) where
  dg1 : Vec F S1x1024 .f32
  dlng : Vec F S1x512 .f32
  dlnb : Vec F S1x512 .f32
  dws : Vec F S4x128x128 .f32
  dbs : Vec F S4x128x128 .f32
  dcw : Vec F S32x512 .f32
  dcb : Vec F S1x512 .f32
  dcg : Vec F S1x512 .f32
  dcbeta : Vec F S1x512 .f32
  carry : Vec F S32x512 .f32

/-- The carried buffers as the reset leaves them. -/
def zeroSt : St F where
  dg1 := k0_pay2
  dlng := k0_pay3
  dlnb := k0_pay4
  dws := k0_pay5
  dbs := k0_pay6
  dcw := k0_pay7
  dcb := k0_pay8
  dcg := k0_pay9
  dcbeta := k0_pay10
  carry := k0_pay1

/-- A grid point on the carried buffers `s`. -/
def point (c : Dev nD) (t : Fin cfg0.N) (s : St F) : Pt F where
  i := grid0.coords t
  dx1 := iblk m c 0 t
  dxb := iblk m c 1 t
  x := iblk m c 2 t
  pj := iblk m c 3 t
  vbh := iblk m c 4 t
  gbh := iblk m c 5 t
  cpre := iblk m c 6 t
  kept := iblk m c 7 t
  rs := iblk m c 8 t
  g1 := iblk m c 9 t
  win := iblk m c 10 t
  lng := iblk m c 11 t
  lnb := iblk m c 12 t
  ws := iblk m c 13 t
  wst := iblk m c 14 t
  bf := iblk m c 15 t
  cw := iblk m c 16 t
  cb := iblk m c 17 t
  cg := iblk m c 18 t
  cbeta := iblk m c 19 t
  wout := iblk m c 20 t
  dg1 := if reset (grid0.coords t) then k0_pay2 else s.dg1
  dlng := if reset (grid0.coords t) then k0_pay3 else s.dlng
  dlnb := if reset (grid0.coords t) then k0_pay4 else s.dlnb
  dws := if reset (grid0.coords t) then k0_pay5 else s.dws
  dbs := if reset (grid0.coords t) then k0_pay6 else s.dbs
  dcw := if reset (grid0.coords t) then k0_pay7 else s.dcw
  dcb := if reset (grid0.coords t) then k0_pay8 else s.dcb
  dcg := if reset (grid0.coords t) then k0_pay9 else s.dcg
  dcbeta := if reset (grid0.coords t) then k0_pay10 else s.dcbeta
  carry := if reset (grid0.coords t) then k0_pay1 else s.carry

/-- What the point leaves in them. -/
def out (p : Pt F) : St F where
  dg1 := p.dg1'
  dlng := p.dlng'
  dlnb := p.dlnb'
  dws := p.ws14
  dbs := p.bs14
  dcw := p.cwt29
  dcb := p.dcb'
  dcg := p.dcg'
  dcbeta := p.dcbeta'
  carry := p.carry'

/-- The carried buffers after point `n`. -/
def st (c : Dev nD) : (n : ℕ) → n < cfg0.N → St F
  | 0, h => out (point m c ⟨0, h⟩ zeroSt)
  | n + 1, h => out (point m c ⟨n + 1, h⟩ (st c n (Nat.lt_of_succ_lt h)))

/-- The carried buffers before point `t`. -/
def prev (c : Dev nD) (t : Fin cfg0.N) : St F :=
  if h : t.val = 0 then zeroSt else st m c (t.val - 1) (by omega)

/-- The grid point on what it finds. -/
def pt (c : Dev nD) (t : Fin cfg0.N) : Pt F := point m c t (prev m c t)

theorem st_eq (c : Dev nD) (t : Fin cfg0.N) : st m c t.val t.isLt = out (pt m c t) := by
  obtain ⟨n, hn⟩ := t
  cases n <;> rfl

/-- A carried buffer as the body's accumulation finds it: zero at the first point, else what the point before left. -/
theorem found {α : Type} (c : Dev nD) (t : Fin cfg0.N) (g : St F → α) (z d : α) (hz : g zeroSt = z)
    (hd : ∀ h : t.val ≠ 0, d = g (st m c (t.val - 1) (by omega))) :
    (if reset (grid0.coords t) then z else g (prev m c t)) = if reset (grid0.coords t) then z else d := by
  by_cases h : t.val = 0
  · rw [if_pos ((reset_iff t).mpr h), if_pos ((reset_iff t).mpr h)]
  · rw [if_neg (fun e => h ((reset_iff t).mp e)), if_neg (fun e => h ((reset_iff t).mp e)), hd h]
    unfold prev; rw [dif_neg h]

/-- The scratch buffers, the first at `X`. -/
def scratch (c : Dev nD) (X : Vec F S32x512 .f32) : sProp 𝕄 :=
  iprop(owns (c : Thread nD τ) (Memref.whole cc0_scratch0 : Memref sig .tc .vmem S32x512 .f32) fullShare X
    ∗ (∃ d, owns (c : Thread nD τ) (Memref.whole cc0_scratch1 : Memref sig .tc .vmem S256x512 .f32) fullShare d)
    ∗ (∃ d, owns (c : Thread nD τ) (Memref.whole cc0_scratch2 : Memref sig .tc .vmem S256x512 .f32) fullShare d))

/-- The invariant before position `n`: the carried rows at what the point before left in them. -/
def PhiS (c : Dev nD) : (n : ℕ) → n ≤ cfg0.N → sProp 𝕄
  | 0, _ => Pipeline.ΦA spec0 c
  | n + 1, h => iprop(scratch c (st m c n h).carry ∗ (∃ r, prngReg c r))

/-- Before the first point the scratch holds anything. -/
theorem PhiA0_eq (c : Dev nD) :
    (Pipeline.ΦA spec0 c : sProp 𝕄)
      = iprop(((∃ d, owns (c : Thread nD τ) (Memref.whole cc0_scratch0 : Memref sig .tc .vmem S32x512 .f32) fullShare d)
        ∗ (∃ d, owns (c : Thread nD τ) (Memref.whole cc0_scratch1 : Memref sig .tc .vmem S256x512 .f32) fullShare d)
        ∗ (∃ d, owns (c : Thread nD τ) (Memref.whole cc0_scratch2 : Memref sig .tc .vmem S256x512 .f32) fullShare d)) ∗ (∃ r, prngReg c r)) := by
  unfold Pipeline.ΦA; rw [scopedRest0_eq]; simp only [owns_whole]; try rfl

theorem PhiS_pos (c : Dev nD) (n : ℕ) (h : n ≤ cfg0.N) (hz : n ≠ 0) :
    PhiS m c n h = iprop(scratch c (st m c (n - 1) (by omega)).carry ∗ (∃ r, prngReg c r)) := by
  cases n with
  | zero => exact absurd rfl hz
  | succ n => rfl

/-- The proof data: the arrays as the region finds them, every input's buffer at its block, every output's at what the
    body's run says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (pt m c t).dx'
    | ⟨22, _⟩ => (pt m c t).dxb'
    | ⟨23, _⟩ => (pt m c t).dpr
    | ⟨24, _⟩ => (pt m c t).h1t
    | ⟨25, _⟩ => (pt m c t).mixt
    | ⟨26, _⟩ => (st m c t.val t.isLt).dg1
    | ⟨27, _⟩ => (st m c t.val t.isLt).dlng
    | ⟨28, _⟩ => (st m c t.val t.isLt).dlnb
    | ⟨29, _⟩ => (st m c t.val t.isLt).dws
    | ⟨30, _⟩ => (st m c t.val t.isLt).dbs
    | ⟨31, _⟩ => (st m c t.val t.isLt).dcw
    | ⟨32, _⟩ => (st m c t.val t.isLt).dcb
    | ⟨33, _⟩ => (st m c t.val t.isLt).dcg
    | ⟨34, _⟩ => (st m c t.val t.isLt).dcbeta
    | ⟨_ + 35, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (pt m c t).dx' := by dsimp only [dats]
theorem after0_22 (c : Dev nD) (t : Fin cfg0.N) : (dats m 0 c).after 22 t = (pt m c t).dxb' := by dsimp only [dats]
theorem after0_23 (c : Dev nD) (t : Fin cfg0.N) : (dats m 0 c).after 23 t = (pt m c t).dpr := by dsimp only [dats]
theorem after0_24 (c : Dev nD) (t : Fin cfg0.N) : (dats m 0 c).after 24 t = (pt m c t).h1t := by dsimp only [dats]
theorem after0_25 (c : Dev nD) (t : Fin cfg0.N) : (dats m 0 c).after 25 t = (pt m c t).mixt := by dsimp only [dats]
theorem after0_26 (c : Dev nD) (t : Fin cfg0.N) : (dats m 0 c).after 26 t = (st m c t.val t.isLt).dg1 := by dsimp only [dats]
theorem after0_27 (c : Dev nD) (t : Fin cfg0.N) : (dats m 0 c).after 27 t = (st m c t.val t.isLt).dlng := by dsimp only [dats]
theorem after0_28 (c : Dev nD) (t : Fin cfg0.N) : (dats m 0 c).after 28 t = (st m c t.val t.isLt).dlnb := by dsimp only [dats]
theorem after0_29 (c : Dev nD) (t : Fin cfg0.N) : (dats m 0 c).after 29 t = (st m c t.val t.isLt).dws := by dsimp only [dats]
theorem after0_30 (c : Dev nD) (t : Fin cfg0.N) : (dats m 0 c).after 30 t = (st m c t.val t.isLt).dbs := by dsimp only [dats]
theorem after0_31 (c : Dev nD) (t : Fin cfg0.N) : (dats m 0 c).after 31 t = (st m c t.val t.isLt).dcw := by dsimp only [dats]
theorem after0_32 (c : Dev nD) (t : Fin cfg0.N) : (dats m 0 c).after 32 t = (st m c t.val t.isLt).dcb := by dsimp only [dats]
theorem after0_33 (c : Dev nD) (t : Fin cfg0.N) : (dats m 0 c).after 33 t = (st m c t.val t.isLt).dcg := by dsimp only [dats]
theorem after0_34 (c : Dev nD) (t : Fin cfg0.N) : (dats m 0 c).after 34 t = (st m c t.val t.isLt).dcbeta := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## What a point finds in the gradients' windows: what the point before left -/

theorem before0_26 (c : Dev nD) (t : Fin cfg0.N) (d) (h : t.val ≠ 0) :
    (dats m 0 c).before 26 t d = (st m c (t.val - 1) (by omega)).dg1 := by
  refine ((dats m 0 c).before_out_traj 26 rfl (fun _ _ => rfl) (fun t _ hi _ => Bool.noConfusion hi) t.val t rfl d).trans ?_
  rw [cfg0.fresh_tab 26 (fun n => decide (n % 16 = 0)) rfl (by decide +kernel) _ t.isLt.le, after0_26, Nat.mod_eq_of_lt (Nat.lt_of_lt_of_eq t.isLt N_0)]
  simp only [decide_eq_true_eq, if_neg h]
theorem before0_27 (c : Dev nD) (t : Fin cfg0.N) (d) (h : t.val ≠ 0) :
    (dats m 0 c).before 27 t d = (st m c (t.val - 1) (by omega)).dlng := by
  refine ((dats m 0 c).before_out_traj 27 rfl (fun _ _ => rfl) (fun t _ hi _ => Bool.noConfusion hi) t.val t rfl d).trans ?_
  rw [cfg0.fresh_tab 27 (fun n => decide (n % 16 = 0)) rfl (by decide +kernel) _ t.isLt.le, after0_27, Nat.mod_eq_of_lt (Nat.lt_of_lt_of_eq t.isLt N_0)]
  simp only [decide_eq_true_eq, if_neg h]
theorem before0_28 (c : Dev nD) (t : Fin cfg0.N) (d) (h : t.val ≠ 0) :
    (dats m 0 c).before 28 t d = (st m c (t.val - 1) (by omega)).dlnb := by
  refine ((dats m 0 c).before_out_traj 28 rfl (fun _ _ => rfl) (fun t _ hi _ => Bool.noConfusion hi) t.val t rfl d).trans ?_
  rw [cfg0.fresh_tab 28 (fun n => decide (n % 16 = 0)) rfl (by decide +kernel) _ t.isLt.le, after0_28, Nat.mod_eq_of_lt (Nat.lt_of_lt_of_eq t.isLt N_0)]
  simp only [decide_eq_true_eq, if_neg h]
theorem before0_29 (c : Dev nD) (t : Fin cfg0.N) (d) (h : t.val ≠ 0) :
    (dats m 0 c).before 29 t d = (st m c (t.val - 1) (by omega)).dws := by
  refine ((dats m 0 c).before_out_traj 29 rfl (fun _ _ => rfl) (fun t _ hi _ => Bool.noConfusion hi) t.val t rfl d).trans ?_
  rw [cfg0.fresh_tab 29 (fun n => decide (n % 16 = 0)) rfl (by decide +kernel) _ t.isLt.le, after0_29, Nat.mod_eq_of_lt (Nat.lt_of_lt_of_eq t.isLt N_0)]
  simp only [decide_eq_true_eq, if_neg h]
theorem before0_30 (c : Dev nD) (t : Fin cfg0.N) (d) (h : t.val ≠ 0) :
    (dats m 0 c).before 30 t d = (st m c (t.val - 1) (by omega)).dbs := by
  refine ((dats m 0 c).before_out_traj 30 rfl (fun _ _ => rfl) (fun t _ hi _ => Bool.noConfusion hi) t.val t rfl d).trans ?_
  rw [cfg0.fresh_tab 30 (fun n => decide (n % 16 = 0)) rfl (by decide +kernel) _ t.isLt.le, after0_30, Nat.mod_eq_of_lt (Nat.lt_of_lt_of_eq t.isLt N_0)]
  simp only [decide_eq_true_eq, if_neg h]
theorem before0_31 (c : Dev nD) (t : Fin cfg0.N) (d) (h : t.val ≠ 0) :
    (dats m 0 c).before 31 t d = (st m c (t.val - 1) (by omega)).dcw := by
  refine ((dats m 0 c).before_out_traj 31 rfl (fun _ _ => rfl) (fun t _ hi _ => Bool.noConfusion hi) t.val t rfl d).trans ?_
  rw [cfg0.fresh_tab 31 (fun n => decide (n % 16 = 0)) rfl (by decide +kernel) _ t.isLt.le, after0_31, Nat.mod_eq_of_lt (Nat.lt_of_lt_of_eq t.isLt N_0)]
  simp only [decide_eq_true_eq, if_neg h]
theorem before0_32 (c : Dev nD) (t : Fin cfg0.N) (d) (h : t.val ≠ 0) :
    (dats m 0 c).before 32 t d = (st m c (t.val - 1) (by omega)).dcb := by
  refine ((dats m 0 c).before_out_traj 32 rfl (fun _ _ => rfl) (fun t _ hi _ => Bool.noConfusion hi) t.val t rfl d).trans ?_
  rw [cfg0.fresh_tab 32 (fun n => decide (n % 16 = 0)) rfl (by decide +kernel) _ t.isLt.le, after0_32, Nat.mod_eq_of_lt (Nat.lt_of_lt_of_eq t.isLt N_0)]
  simp only [decide_eq_true_eq, if_neg h]
theorem before0_33 (c : Dev nD) (t : Fin cfg0.N) (d) (h : t.val ≠ 0) :
    (dats m 0 c).before 33 t d = (st m c (t.val - 1) (by omega)).dcg := by
  refine ((dats m 0 c).before_out_traj 33 rfl (fun _ _ => rfl) (fun t _ hi _ => Bool.noConfusion hi) t.val t rfl d).trans ?_
  rw [cfg0.fresh_tab 33 (fun n => decide (n % 16 = 0)) rfl (by decide +kernel) _ t.isLt.le, after0_33, Nat.mod_eq_of_lt (Nat.lt_of_lt_of_eq t.isLt N_0)]
  simp only [decide_eq_true_eq, if_neg h]
theorem before0_34 (c : Dev nD) (t : Fin cfg0.N) (d) (h : t.val ≠ 0) :
    (dats m 0 c).before 34 t d = (st m c (t.val - 1) (by omega)).dcbeta := by
  refine ((dats m 0 c).before_out_traj 34 rfl (fun _ _ => rfl) (fun t _ hi _ => Bool.noConfusion hi) t.val t rfl d).trans ?_
  rw [cfg0.fresh_tab 34 (fun n => decide (n % 16 = 0)) rfl (by decide +kernel) _ t.isLt.le, after0_34, Nat.mod_eq_of_lt (Nat.lt_of_lt_of_eq t.isLt N_0)]
  simp only [decide_eq_true_eq, if_neg h]

/-! ## The body at any point -/

/-- The buffers the body is called with at point `t`. -/
def refs (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := win0_20.stage (cfg0.slots t 20)
  h21 := hstage0_20 ((cfg0.slots t 20).cast nbuf0_20)
  a22 := win0_21.stage (cfg0.slots t 21)
  h22 := hstage0_21 ((cfg0.slots t 21).cast nbuf0_21)
  a23 := win0_22.stage (cfg0.slots t 22)
  h23 := hstage0_22 ((cfg0.slots t 22).cast nbuf0_22)
  a24 := win0_23.stage (cfg0.slots t 23)
  h24 := hstage0_23 ((cfg0.slots t 23).cast nbuf0_23)
  a25 := win0_24.stage (cfg0.slots t 24)
  h25 := hstage0_24 ((cfg0.slots t 24).cast nbuf0_24)
  a26 := win0_25.stage (cfg0.slots t 25)
  h26 := hstage0_25 ((cfg0.slots t 25).cast nbuf0_25)
  a27 := win0_26.stage (cfg0.slots t 26)
  h27 := hstage0_26 ((cfg0.slots t 26).cast nbuf0_26)
  a28 := win0_27.stage (cfg0.slots t 27)
  h28 := hstage0_27 ((cfg0.slots t 27).cast nbuf0_27)
  a29 := win0_28.stage (cfg0.slots t 28)
  h29 := hstage0_28 ((cfg0.slots t 28).cast nbuf0_28)
  a30 := win0_29.stage (cfg0.slots t 29)
  h30 := hstage0_29 ((cfg0.slots t 29).cast nbuf0_29)
  a31 := win0_30.stage (cfg0.slots t 30)
  h31 := hstage0_30 ((cfg0.slots t 30).cast nbuf0_30)
  a32 := win0_31.stage (cfg0.slots t 31)
  h32 := hstage0_31 ((cfg0.slots t 31).cast nbuf0_31)
  a33 := win0_32.stage (cfg0.slots t 32)
  h33 := hstage0_32 ((cfg0.slots t 32).cast nbuf0_32)
  a34 := win0_33.stage (cfg0.slots t 33)
  h34 := hstage0_33 ((cfg0.slots t 33).cast nbuf0_33)
  a35 := win0_34.stage (cfg0.slots t 34)
  h35 := hstage0_34 ((cfg0.slots t 34).cast nbuf0_34)
  a36 := Memref.whole cc0_scratch0
  h36 := (Memref.isWhole_whole _)
  a37 := Memref.whole cc0_scratch1
  h37 := (Memref.isWhole_whole _)
  a38 := Memref.whole cc0_scratch2
  h38 := (Memref.isWhole_whole _)

/-- The windows' buffers as the body finds them at point `t`, -/
def winPre (c : Dev nD) (t : Fin cfg0.N) : sProp 𝕄 :=
  iprop((∃ d, owns (c : Thread nD τ) (win0_0.stage (cfg0.slots t 0) : Memref sig .tc .vmem S256x1024 .f32) fullShare ((dats m 0 c).before 0 t d))
    ∗ (∃ d, owns (c : Thread nD τ) (win0_1.stage (cfg0.slots t 1) : Memref sig .tc .vmem S256x1024 .bf16) fullShare ((dats m 0 c).before 1 t d))
    ∗ (∃ d, owns (c : Thread nD τ) (win0_2.stage (cfg0.slots t 2) : Memref sig .tc .vmem S256x1024 .f32) fullShare ((dats m 0 c).before 2 t d))
    ∗ (∃ d, owns (c : Thread nD τ) (win0_3.stage (cfg0.slots t 3) : Memref sig .tc .vmem S256x1024 .f32) fullShare ((dats m 0 c).before 3 t d))
    ∗ (∃ d, owns (c : Thread nD τ) (win0_4.stage (cfg0.slots t 4) : Memref sig .tc .vmem S32x512 .f32) fullShare ((dats m 0 c).before 4 t d))
    ∗ (∃ d, owns (c : Thread nD τ) (win0_5.stage (cfg0.slots t 5) : Memref sig .tc .vmem S32x512 .f32) fullShare ((dats m 0 c).before 5 t d))
    ∗ (∃ d, owns (c : Thread nD τ) (win0_6.stage (cfg0.slots t 6) : Memref sig .tc .vmem S256x512 .f32) fullShare ((dats m 0 c).before 6 t d))
    ∗ (∃ d, owns (c : Thread nD τ) (win0_7.stage (cfg0.slots t 7) : Memref sig .tc .vmem S256x2048 .f32) fullShare ((dats m 0 c).before 7 t d))
    ∗ (∃ d, owns (c : Thread nD τ) (win0_8.stage (cfg0.slots t 8) : Memref sig .tc .vmem S256x128 .f32) fullShare ((dats m 0 c).before 8 t d))
    ∗ (∃ d, owns (c : Thread nD τ) (win0_9.stage (cfg0.slots t 9) : Memref sig .tc .vmem S1x1024 .f32) fullShare ((dats m 0 c).before 9 t d))
    ∗ (∃ d, owns (c : Thread nD τ) (win0_10.stage (cfg0.slots t 10) : Memref sig .tc .vmem S4x1024x512 .bf16) fullShare ((dats m 0 c).before 10 t d))
    ∗ (∃ d, owns (c : Thread nD τ) (win0_11.stage (cfg0.slots t 11) : Memref sig .tc .vmem S1x512 .f32) fullShare ((dats m 0 c).before 11 t d))
    ∗ (∃ d, owns (c : Thread nD τ) (win0_12.stage (cfg0.slots t 12) : Memref sig .tc .vmem S1x512 .f32) fullShare ((dats m 0 c).before 12 t d))
    ∗ (∃ d, owns (c : Thread nD τ) (win0_13.stage (cfg0.slots t 13) : Memref sig .tc .vmem S4x128x128 .f32) fullShare ((dats m 0 c).before 13 t d))
    ∗ (∃ d, owns (c : Thread nD τ) (win0_14.stage (cfg0.slots t 14) : Memref sig .tc .vmem S4x128x128 .f32) fullShare ((dats m 0 c).before 14 t d))
    ∗ (∃ d, owns (c : Thread nD τ) (win0_15.stage (cfg0.slots t 15) : Memref sig .tc .vmem S4x128x128 .f32) fullShare ((dats m 0 c).before 15 t d))
    ∗ (∃ d, owns (c : Thread nD τ) (win0_16.stage (cfg0.slots t 16) : Memref sig .tc .vmem S32x512 .f32) fullShare ((dats m 0 c).before 16 t d))
    ∗ (∃ d, owns (c : Thread nD τ) (win0_17.stage (cfg0.slots t 17) : Memref sig .tc .vmem S1x512 .f32) fullShare ((dats m 0 c).before 17 t d))
    ∗ (∃ d, owns (c : Thread nD τ) (win0_18.stage (cfg0.slots t 18) : Memref sig .tc .vmem S1x512 .f32) fullShare ((dats m 0 c).before 18 t d))
    ∗ (∃ d, owns (c : Thread nD τ) (win0_19.stage (cfg0.slots t 19) : Memref sig .tc .vmem S1x512 .f32) fullShare ((dats m 0 c).before 19 t d))
    ∗ (∃ d, owns (c : Thread nD τ) (win0_20.stage (cfg0.slots t 20) : Memref sig .tc .vmem S4x256x1024 .bf16) fullShare ((dats m 0 c).before 20 t d))
    ∗ (∃ d, owns (c : Thread nD τ) (win0_21.stage (cfg0.slots t 21) : Memref sig .tc .vmem S256x1024 .f32) fullShare ((dats m 0 c).before 21 t d))
    ∗ (∃ d, owns (c : Thread nD τ) (win0_22.stage (cfg0.slots t 22) : Memref sig .tc .vmem S256x1024 .bf16) fullShare ((dats m 0 c).before 22 t d))
    ∗ (∃ d, owns (c : Thread nD τ) (win0_23.stage (cfg0.slots t 23) : Memref sig .tc .vmem S256x2048 .bf16) fullShare ((dats m 0 c).before 23 t d))
    ∗ (∃ d, owns (c : Thread nD τ) (win0_24.stage (cfg0.slots t 24) : Memref sig .tc .vmem S1024x256 .bf16) fullShare ((dats m 0 c).before 24 t d))
    ∗ (∃ d, owns (c : Thread nD τ) (win0_25.stage (cfg0.slots t 25) : Memref sig .tc .vmem S1024x256 .bf16) fullShare ((dats m 0 c).before 25 t d))
    ∗ (∃ d, owns (c : Thread nD τ) (win0_26.stage (cfg0.slots t 26) : Memref sig .tc .vmem S1x1024 .f32) fullShare ((dats m 0 c).before 26 t d))
    ∗ (∃ d, owns (c : Thread nD τ) (win0_27.stage (cfg0.slots t 27) : Memref sig .tc .vmem S1x512 .f32) fullShare ((dats m 0 c).before 27 t d))
    ∗ (∃ d, owns (c : Thread nD τ) (win0_28.stage (cfg0.slots t 28) : Memref sig .tc .vmem S1x512 .f32) fullShare ((dats m 0 c).before 28 t d))
    ∗ (∃ d, owns (c : Thread nD τ) (win0_29.stage (cfg0.slots t 29) : Memref sig .tc .vmem S4x128x128 .f32) fullShare ((dats m 0 c).before 29 t d))
    ∗ (∃ d, owns (c : Thread nD τ) (win0_30.stage (cfg0.slots t 30) : Memref sig .tc .vmem S4x128x128 .f32) fullShare ((dats m 0 c).before 30 t d))
    ∗ (∃ d, owns (c : Thread nD τ) (win0_31.stage (cfg0.slots t 31) : Memref sig .tc .vmem S32x512 .f32) fullShare ((dats m 0 c).before 31 t d))
    ∗ (∃ d, owns (c : Thread nD τ) (win0_32.stage (cfg0.slots t 32) : Memref sig .tc .vmem S1x512 .f32) fullShare ((dats m 0 c).before 32 t d))
    ∗ (∃ d, owns (c : Thread nD τ) (win0_33.stage (cfg0.slots t 33) : Memref sig .tc .vmem S1x512 .f32) fullShare ((dats m 0 c).before 33 t d))
    ∗ (∃ d, owns (c : Thread nD τ) (win0_34.stage (cfg0.slots t 34) : Memref sig .tc .vmem S1x512 .f32) fullShare ((dats m 0 c).before 34 t d)))

/-- what it is called with, -/
def bodyPre (c : Dev nD) (t : Fin cfg0.N) : sProp 𝕄 :=
  iprop((dats m 0 c).Φ t.castSucc ∗ (dats m 0 c).owesAt () t.castSucc ∗ winPre m c t)

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t ∗ (dats m 0 c).leavesExact 24 t ∗ (dats m 0 c).leavesExact 25 t ∗ (dats m 0 c).leavesExact 26 t ∗ (dats m 0 c).leavesExact 27 t ∗ (dats m 0 c).leavesExact 28 t ∗ (dats m 0 c).leavesExact 29 t ∗ (dats m 0 c).leavesExact 30 t ∗ (dats m 0 c).leavesExact 31 t ∗ (dats m 0 c).leavesExact 32 t ∗ (dats m 0 c).leavesExact 33 t ∗ (dats m 0 c).leavesExact 34 t)

set_option maxHeartbeats 4000000 in
/-- The body's run at a point, the carried rows being `s`: every buffer is left as the proof data say. -/
theorem body_at (c : Dev nD) (t : Fin cfg0.N) (s : Vec F S32x512 .f32)
    (hs : ∀ hz : t.val ≠ 0, s = (st m c (t.val - 1) (by omega)).carry) :
    iprop((scratch c s ∗ (∃ r, prngReg c r)) ∗ (dats m 0 c).owesAt () t.castSucc ∗ winPre m c t)
      ⊢ wp frame (wpE (defs₀ (F := F)) Variants.none c none) Set.univ (bodyAt0 t) (fun _ => bodyPost m c t) := by
  unfold bodyPost bodyAt0 winPre
  rw [show (dats m 0 c).owesAt () t.succ = (dats m 0 c).owesAt () t.castSucc from rfl]
  rw [show (dats m 0 c).Φ t.succ = PhiS m c (t.val + 1) t.isLt from rfl]
  simp only [PhiS, scratch]
  iintro ⟨⟨⟨HS, ⟨%y1, HY1⟩, ⟨%y2, HY2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩⟩
  simp only [before0_0, before0_1, before0_2, before0_3, before0_4, before0_5, before0_6, before0_7, before0_8, before0_9, before0_10, before0_11, before0_12, before0_13, before0_14, before0_15, before0_16, before0_17, before0_18, before0_19, before0_20]
  have hst := st_eq m c t
  iapply (run (refs t) (pt m c t) c ((dats m 0 c).before 21 t e21) ((dats m 0 c).before 22 t e22) ((dats m 0 c).before 23 t e23) ((dats m 0 c).before 24 t e24) ((dats m 0 c).before 25 t e25) y1 y2
    ((dats m 0 c).before 26 t e26) ((dats m 0 c).before 27 t e27) ((dats m 0 c).before 28 t e28) ((dats m 0 c).before 29 t e29) ((dats m 0 c).before 30 t e30) ((dats m 0 c).before 31 t e31) ((dats m 0 c).before 32 t e32) ((dats m 0 c).before 33 t e33) ((dats m 0 c).before 34 t e34) s
    (found m c t St.dg1 k0_pay2 _ rfl fun h => before0_26 m c t e26 h)
    (found m c t St.dlng k0_pay3 _ rfl fun h => before0_27 m c t e27 h)
    (found m c t St.dlnb k0_pay4 _ rfl fun h => before0_28 m c t e28 h)
    (found m c t St.dws k0_pay5 _ rfl fun h => before0_29 m c t e29 h)
    (found m c t St.dbs k0_pay6 _ rfl fun h => before0_30 m c t e30 h)
    (found m c t St.dcw k0_pay7 _ rfl fun h => before0_31 m c t e31 h)
    (found m c t St.dcb k0_pay8 _ rfl fun h => before0_32 m c t e32 h)
    (found m c t St.dcg k0_pay9 _ rfl fun h => before0_33 m c t e33 h)
    (found m c t St.dcbeta k0_pay10 _ rfl fun h => before0_34 m c t e34 h)
    (found m c t St.carry k0_pay1 _ rfl hs) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [HS]; · iexact HS
  isplitl [HY1]; · iexact HY1
  isplitl [HY2]; · iexact HY2
  iintro ⟨H0, H1, H2, H3, H4, H5, H6, H7, H8, H9, H10, H11, H12, H13, H14, H15, H16, H17, H18, H19, H20, H21, H22, H23, H24, H25, H26, H27, H28, H29, H30, H31, H32, H33, H34, HS, HY1, HY2⟩
  rw [hst]
  isplitl [HS HY1 HY2 Hg]
  · isplitl [HS HY1 HY2]
    · isplitl [HS]; · iexact HS
      isplitl [HY1]; · iexists _; iexact HY1
      iexists _; iexact HY2
    iexact Hg
  isplitl [Ho]; · iexact Ho
  isplitl [H0]; · iapply (Cert.Leaves.intro (dats m 0 c) 0 t (iblk m c 0 t) (fun _ => (after0_0 m c t).symm) (fun h => Bool.noConfusion h)); iexact H0
  isplitl [H1]; · iapply (Cert.Leaves.intro (dats m 0 c) 1 t (iblk m c 1 t) (fun _ => (after0_1 m c t).symm) (fun h => Bool.noConfusion h)); iexact H1
  isplitl [H2]; · iapply (Cert.Leaves.intro (dats m 0 c) 2 t (iblk m c 2 t) (fun _ => (after0_2 m c t).symm) (fun h => Bool.noConfusion h)); iexact H2
  isplitl [H3]; · iapply (Cert.Leaves.intro (dats m 0 c) 3 t (iblk m c 3 t) (fun _ => (after0_3 m c t).symm) (fun h => Bool.noConfusion h)); iexact H3
  isplitl [H4]; · iapply (Cert.Leaves.intro (dats m 0 c) 4 t (iblk m c 4 t) (fun _ => (after0_4 m c t).symm) (fun h => Bool.noConfusion h)); iexact H4
  isplitl [H5]; · iapply (Cert.Leaves.intro (dats m 0 c) 5 t (iblk m c 5 t) (fun _ => (after0_5 m c t).symm) (fun h => Bool.noConfusion h)); iexact H5
  isplitl [H6]; · iapply (Cert.Leaves.intro (dats m 0 c) 6 t (iblk m c 6 t) (fun _ => (after0_6 m c t).symm) (fun h => Bool.noConfusion h)); iexact H6
  isplitl [H7]; · iapply (Cert.Leaves.intro (dats m 0 c) 7 t (iblk m c 7 t) (fun _ => (after0_7 m c t).symm) (fun h => Bool.noConfusion h)); iexact H7
  isplitl [H8]; · iapply (Cert.Leaves.intro (dats m 0 c) 8 t (iblk m c 8 t) (fun _ => (after0_8 m c t).symm) (fun h => Bool.noConfusion h)); iexact H8
  isplitl [H9]; · iapply (Cert.Leaves.intro (dats m 0 c) 9 t (iblk m c 9 t) (fun _ => (after0_9 m c t).symm) (fun h => Bool.noConfusion h)); iexact H9
  isplitl [H10]; · iapply (Cert.Leaves.intro (dats m 0 c) 10 t (iblk m c 10 t) (fun _ => (after0_10 m c t).symm) (fun h => Bool.noConfusion h)); iexact H10
  isplitl [H11]; · iapply (Cert.Leaves.intro (dats m 0 c) 11 t (iblk m c 11 t) (fun _ => (after0_11 m c t).symm) (fun h => Bool.noConfusion h)); iexact H11
  isplitl [H12]; · iapply (Cert.Leaves.intro (dats m 0 c) 12 t (iblk m c 12 t) (fun _ => (after0_12 m c t).symm) (fun h => Bool.noConfusion h)); iexact H12
  isplitl [H13]; · iapply (Cert.Leaves.intro (dats m 0 c) 13 t (iblk m c 13 t) (fun _ => (after0_13 m c t).symm) (fun h => Bool.noConfusion h)); iexact H13
  isplitl [H14]; · iapply (Cert.Leaves.intro (dats m 0 c) 14 t (iblk m c 14 t) (fun _ => (after0_14 m c t).symm) (fun h => Bool.noConfusion h)); iexact H14
  isplitl [H15]; · iapply (Cert.Leaves.intro (dats m 0 c) 15 t (iblk m c 15 t) (fun _ => (after0_15 m c t).symm) (fun h => Bool.noConfusion h)); iexact H15
  isplitl [H16]; · iapply (Cert.Leaves.intro (dats m 0 c) 16 t (iblk m c 16 t) (fun _ => (after0_16 m c t).symm) (fun h => Bool.noConfusion h)); iexact H16
  isplitl [H17]; · iapply (Cert.Leaves.intro (dats m 0 c) 17 t (iblk m c 17 t) (fun _ => (after0_17 m c t).symm) (fun h => Bool.noConfusion h)); iexact H17
  isplitl [H18]; · iapply (Cert.Leaves.intro (dats m 0 c) 18 t (iblk m c 18 t) (fun _ => (after0_18 m c t).symm) (fun h => Bool.noConfusion h)); iexact H18
  isplitl [H19]; · iapply (Cert.Leaves.intro (dats m 0 c) 19 t (iblk m c 19 t) (fun _ => (after0_19 m c t).symm) (fun h => Bool.noConfusion h)); iexact H19
  isplitl [H20]; · iapply (Cert.Leaves.intro (dats m 0 c) 20 t (iblk m c 20 t) (fun _ => (after0_20 m c t).symm) (fun h => Bool.noConfusion h)); iexact H20
  isplitl [H21]; · iapply (Cert.Leaves.intro (dats m 0 c) 21 t ((pt m c t).dx') (fun _ => (after0_21 m c t).symm) (fun h => Bool.noConfusion h)); iexact H21
  isplitl [H22]; · iapply (Cert.Leaves.intro (dats m 0 c) 22 t ((pt m c t).dxb') (fun _ => (after0_22 m c t).symm) (fun h => Bool.noConfusion h)); iexact H22
  isplitl [H23]; · iapply (Cert.Leaves.intro (dats m 0 c) 23 t ((pt m c t).dpr) (fun _ => (after0_23 m c t).symm) (fun h => Bool.noConfusion h)); iexact H23
  isplitl [H24]; · iapply (Cert.Leaves.intro (dats m 0 c) 24 t ((pt m c t).h1t) (fun _ => (after0_24 m c t).symm) (fun h => Bool.noConfusion h)); iexact H24
  isplitl [H25]; · iapply (Cert.Leaves.intro (dats m 0 c) 25 t ((pt m c t).mixt) (fun _ => (after0_25 m c t).symm) (fun h => Bool.noConfusion h)); iexact H25
  isplitl [H26]; · iapply (Cert.Leaves.intro (dats m 0 c) 26 t ((pt m c t).dg1') (fun _ => ((after0_26 m c t).trans (congrArg St.dg1 (st_eq m c t))).symm) (fun h => Bool.noConfusion h)); iexact H26
  isplitl [H27]; · iapply (Cert.Leaves.intro (dats m 0 c) 27 t ((pt m c t).dlng') (fun _ => ((after0_27 m c t).trans (congrArg St.dlng (st_eq m c t))).symm) (fun h => Bool.noConfusion h)); iexact H27
  isplitl [H28]; · iapply (Cert.Leaves.intro (dats m 0 c) 28 t ((pt m c t).dlnb') (fun _ => ((after0_28 m c t).trans (congrArg St.dlnb (st_eq m c t))).symm) (fun h => Bool.noConfusion h)); iexact H28
  isplitl [H29]; · iapply (Cert.Leaves.intro (dats m 0 c) 29 t ((pt m c t).ws14) (fun _ => ((after0_29 m c t).trans (congrArg St.dws (st_eq m c t))).symm) (fun h => Bool.noConfusion h)); iexact H29
  isplitl [H30]; · iapply (Cert.Leaves.intro (dats m 0 c) 30 t ((pt m c t).bs14) (fun _ => ((after0_30 m c t).trans (congrArg St.dbs (st_eq m c t))).symm) (fun h => Bool.noConfusion h)); iexact H30
  isplitl [H31]; · iapply (Cert.Leaves.intro (dats m 0 c) 31 t ((pt m c t).cwt29) (fun _ => ((after0_31 m c t).trans (congrArg St.dcw (st_eq m c t))).symm) (fun h => Bool.noConfusion h)); iexact H31
  isplitl [H32]; · iapply (Cert.Leaves.intro (dats m 0 c) 32 t ((pt m c t).dcb') (fun _ => ((after0_32 m c t).trans (congrArg St.dcb (st_eq m c t))).symm) (fun h => Bool.noConfusion h)); iexact H32
  isplitl [H33]; · iapply (Cert.Leaves.intro (dats m 0 c) 33 t ((pt m c t).dcg') (fun _ => ((after0_33 m c t).trans (congrArg St.dcg (st_eq m c t))).symm) (fun h => Bool.noConfusion h)); iexact H33
  iapply (Cert.Leaves.intro (dats m 0 c) 34 t ((pt m c t).dcbeta') (fun _ => ((after0_34 m c t).trans (congrArg St.dcbeta (st_eq m c t))).symm) (fun h => Bool.noConfusion h)); iexact H34

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc]
  by_cases hz : t.val = 0
  · rw [show PhiS m c t.val (Nat.le_of_lt t.isLt) = Pipeline.ΦA spec0 c from by obtain ⟨n, hn⟩ := t; subst hz; rfl, PhiA0_eq]
    iintro ⟨⟨⟨⟨%s, HS⟩, HY⟩, Hg⟩, H⟩
    iapply (body_at m c t s (fun h => absurd hz h))
    isplitl [HS HY Hg]
    · isplitl [HS HY]
      · unfold scratch
        isplitl [HS]; · iexact HS
        iexact HY
      iexact Hg
    iexact H
  · rw [PhiS_pos m c _ _ hz]
    exact body_at m c t _ fun _ => rfl

theorem row (t : Fin cfg0.N) : defs₀ (F := F) .tc cfg0.body (cfg0.bodyArgs t (cfg0.slots t)) = bodyAt0 t := by
  unfold defs₀; rw [Defs.onTc_tc]

set_option maxHeartbeats 20000000 in
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  unfold scratch
  iintro ⟨⟨HS, HY⟩, Hg⟩
  isplitl [HS HY]
  · isplitl [HS]; · iexists _; iexact HS
    iexact HY
  iexact Hg

/-! ## The whole call -/

set_option backward.isDefEq.respectTransparency.types false in
/-- The call runs to its end, every array holding what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the call runs and terminates, its arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.MixBwdIdeal.Hand

end
-- ==== Proof.MixBits.lean ====
/- The frame of the token mixers' backward call at the machine's floats: the call's text is the idealized call's,
   so the run over any float values is its run. -/
module

public import proofs.«01_k».proof.Defs
public import proofs.«01_k».proof.Proof.MixFrame
public import proofs.«01_k».proof.Proof.Gen.MixBwd.Launch

@[expose] public section

set_option maxRecDepth 16384

namespace Cert.MixBwd.Hand

open Idealize.ShloMosaic Idealize.ShloMosaic.TcCoe

/-- At the machine's floats the call runs, terminates, leaves its arguments as they were and every semaphore at zero. -/
theorem frame [hMixBwd : Cert.MixBwd.Facts] : Cert.quiescent_MixBwd := fun m ρ _ =>
  Eq.mp (by sl_kernel_rfl) (Cert.MixBwdIdeal.Hand.frame (F := Bits) m ρ)

end Cert.MixBwd.Hand
-- ==== Proof.Reals.lean ====
/- Real numbers inside the extended reals. A program run over the ideal floats on finite arguments computes with real
   numbers: the lemmas here carry each operation from `((r : ℝ) : EReal)` to the real operation, read the
   constants the programs use, and turn the precondition `|a| < inf` into real values of the argument. -/
module

public import Idealize.ShloMosaic.PureOps.Ideal
public import Idealize.ShloMosaic.PureOps.Ideal.Laws
public import Idealize.ShloMosaic.Lib.IdealHost
public import Idealize.ShloMosaic.Lib.ValueIdx

@[expose] public section

noncomputable section

namespace Cert.Reals

open Idealize.ShloMosaic

/-! ## Operations on real values -/

theorem add_real (a b : ℝ) : (a : EReal) + (b : EReal) = ((a + b : ℝ) : EReal) := (EReal.coe_add a b).symm
theorem sub_real (a b : ℝ) : (a : EReal) - (b : EReal) = ((a - b : ℝ) : EReal) := (EReal.coe_sub a b).symm
theorem mul_real (a b : ℝ) : (a : EReal) * (b : EReal) = ((a * b : ℝ) : EReal) := (EReal.coe_mul a b).symm
theorem neg_real (a : ℝ) : -(a : EReal) = ((-a : ℝ) : EReal) := (EReal.coe_neg a).symm

theorem max_real (a b : ℝ) : max (a : EReal) (b : EReal) = ((max a b : ℝ) : EReal) :=
  (EReal.coe_strictMono.monotone.map_max).symm

/-- A finite sum of real values is the sum of the reals. -/
theorem sum_real {ι : Type*} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, add_real]

/-- A quotient of reals by a divisor that is not zero. -/
theorem div_real {a b : ℝ} (h : b ≠ 0) : Ideal.div (a : EReal) (b : EReal) = ((a / b : ℝ) : EReal) := by
  rw [Ideal.div_coe h, mul_real, mul_one_div]

/-- The reciprocal square root of a positive real. -/
theorem rsqrt_real {a : ℝ} (h : 0 < a) : Ideal.rsqrt (a : EReal) = (((Real.sqrt a)⁻¹ : ℝ) : EReal) := by
  rw [Ideal.rsqrt_coe, if_neg h.not_gt, if_neg h.ne']

/-- The terms of the rows of every block are the terms of all rows. -/
theorem sum_blocks {M : Type*} [AddCommMonoid M] {N n L : ℕ} (hL : L = N * n) (f : Fin L → M) :
    ∑ t : Fin N, ∑ a : Fin n, f ⟨t.val * n + a.val, hL ▸ Nat.lt_of_lt_of_le (Nat.add_lt_add_left a.isLt _)
      (by rw [← Nat.succ_mul]; exact Nat.mul_le_mul_right n t.isLt)⟩ = ∑ l : Fin L, f l := by
  subst hL
  rw [← Fintype.sum_prod_type' (f := fun (t : Fin N) (a : Fin n) => f ⟨t.val * n + a.val, _⟩)]
  refine Fintype.sum_equiv finProdFinEquiv _ _ fun x => congrArg f (Fin.ext ?_)
  simp [finProdFinEquiv, Nat.mul_comm, Nat.add_comm]

/-! ## Constants -/

theorem c0 : Ideal.ofBits .f32 0x00000000#32 = ((0 : ℝ) : EReal) := by simp
theorem c1 : Ideal.ofBits .f32 0x3F800000#32 = ((1 : ℝ) : EReal) := by simp
theorem c2 : Ideal.ofBits .f32 0x40000000#32 = ((2 : ℝ) : EReal) := by
  simp [Ideal.ofBits, Ideal.ieee, -EReal.coe_mul, -EReal.coe_neg]; norm_num
theorem chalf : Ideal.ofBits .f32 0x3F000000#32 = ((1 / 2 : ℝ) : EReal) := by
  simp [Ideal.ofBits, Ideal.ieee, -EReal.coe_mul, -EReal.coe_neg]; norm_num
theorem cneghalf : Ideal.ofBits .f32 0xBF000000#32 = ((-(1 / 2) : ℝ) : EReal) := by
  simp [Ideal.ofBits, Ideal.ieee, -EReal.coe_mul, -EReal.coe_neg]; norm_num
theorem c1024 : Ideal.ofBits .f32 0x44800000#32 = ((1024 : ℝ) : EReal) := by
  simp [Ideal.ofBits, Ideal.ieee, -EReal.coe_mul, -EReal.coe_neg]; norm_num
theorem c1024inv : Ideal.ofBits .f32 0x3A800000#32 = ((1 / 1024 : ℝ) : EReal) := by
  simp [Ideal.ofBits, Ideal.ieee, -EReal.coe_mul, -EReal.coe_neg]; norm_num

/-- The norms' epsilon, the float next to `1e-6`. -/
def eps : ℝ := 0x8637BD * (2 ^ 43)⁻¹

theorem ceps : Ideal.ofBits .f32 0x358637BD#32 = (eps : EReal) := by
  simp [Ideal.ofBits, Ideal.ieee, eps]

theorem eps_pos : 0 < eps := by unfold eps; positivity

/-! ## The precondition -/

/-- An extended real whose absolute value is below infinity is a real. -/
theorem real_of_abs_lt {x : EReal} (h : max x (-x) < ⊤) : ∃ r : ℝ, x = (r : EReal) := by
  induction x with
  | bot => simp at h
  | top => simp at h
  | coe r => exact ⟨r, rfl⟩

theorem cinf : Ideal.ofBits .f32 0x7F800000#32 = (⊤ : EReal) := by
  simp [Ideal.ofBits, Ideal.ieee]

/-- The precondition's test at every index gives the array as a real array. -/
theorem real_of_finite {s : Shape} (x : FVec Ideal s .f32) (b : FVec Ideal s .f32)
    (hb : ∀ i, b i = Ideal.ofBits .f32 0x7F800000#32) (h : cmpf .olt (Host.absf x) b = fun _ => 1#1) :
    ∃ X : s.Idx → ℝ, x = fun i => (X i : EReal) := by
  have hx : ∀ i, ∃ r : ℝ, x i = (r : EReal) := fun i => by
    have hi : Ideal.cmp .olt (max (x i) (-(x i))) (b i) = 1#1 := congrFun h i
    rw [hb i, cinf] at hi
    refine real_of_abs_lt ?_
    by_contra hc
    simp [Ideal.cmp, hc] at hi
  choose X hX using hx
  exact ⟨X, funext hX⟩

end Cert.Reals

end
-- ==== Proof.Norms.lean ====
/- The real functions of one row that the norms compute, and the derivative of the root-mean-square norm in the two
   forms the programs use. -/
module

public import proofs.«01_k».proof.Proof.Reals
public import Idealize.ShloMosaic.Lib.Pointwise

@[expose] public section

noncomputable section

namespace Cert.Reals

open Idealize.ShloMosaic

/-- An index into an array of one row. -/
theorem eq_ix2_row {n : ℕ} (i : (⟨2, ![1, n]⟩ : Idealize.ShloMosaic.Shape).Idx) :
    i = Idealize.ShloMosaic.ix2 0 (i 1) := by
  rw [Idealize.ShloMosaic.eq_ix2 i]
  exact congrArg (Idealize.ShloMosaic.ix2 · (i 1)) (Subsingleton.elim (α := Fin 1) _ _)

/-! ## Root-mean-square norm of a row of 1024 -/

/-- The mean square of a row plus epsilon. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg (x k)) (by norm_num)) eps_pos

/-- The reciprocal root of the mean square: the factor of the norm. -/
def rn (x : Fin 1024 → ℝ) : ℝ := (Real.sqrt (ms x))⁻¹

/-- The kernel's and the reference's reciprocal square root of the mean square are `rn`. -/
theorem rsqrt_ms (x : Fin 1024 → ℝ) : Ideal.rsqrt (((∑ k, x k * x k) / 1024 + eps : ℝ) : EReal) = (rn x : EReal) :=
  rsqrt_real (ms_pos x)

theorem rn_sq (x : Fin 1024 → ℝ) : rn x * rn x = (ms x)⁻¹ := by
  unfold rn
  rw [← mul_inv, Real.mul_self_sqrt (ms_pos x).le]

theorem rn_div_ms (x : Fin 1024 → ℝ) : rn x / ms x = rn x * (rn x * rn x) := by
  rw [rn_sq, div_eq_mul_inv]

/-- The cotangent of the row `x` under the norm without its gain, for the cotangent `d` of the normed row. -/
def rmsBwd (x d : Fin 1024 → ℝ) (j : Fin 1024) : ℝ :=
  rn x * (d j - x j * rn x * ((∑ k, d k * (x k * rn x)) / 1024))

/-- The same cotangent as differentiating the norm's lines one by one gives it: the product's factor, and twice the
    square's, the latter through the mean and the reciprocal root. -/
theorem rmsBwd_eq (x d : Fin 1024 → ℝ) (j : Fin 1024) :
    rmsBwd x d j = d j * rn x + (x j * ((∑ k, x k * d k) * (rn x / ms x * (-(1 / 2))) / 1024)
      + x j * ((∑ k, x k * d k) * (rn x / ms x * (-(1 / 2))) / 1024)) := by
  have h : ∑ k, d k * (x k * rn x) = (∑ k, x k * d k) * rn x := by
    rw [Finset.sum_mul]
    exact Finset.sum_congr rfl fun k _ => by ring
  unfold rmsBwd
  rw [h, rn_div_ms]
  ring

end Cert.Reals

end
-- ==== Proof.LossKernel.lean ====
/- The arrays that the loss head's kernel leaves, over the ideal floats and finite arguments: the real numbers that each
   grid point stores, and the loss and the gain's gradient that its points add up. -/
module

public import proofs.«01_k».proof.Proof.Gen.LossIdeal.Value
public import proofs.«01_k».proof.Proof.Norms
public import Idealize.ShloMosaic.Lib.Pipeline.ValueKit
public import Idealize.ShloMosaic.Lib.Pointwise

@[expose] public section

set_option maxRecDepth 16384

noncomputable section

namespace Cert.Reals

/-- The error of one element: the normed row with its gain, less the target. -/
def lossErr (x g y : Fin 1024 → ℝ) (j : Fin 1024) : ℝ := x j * rn x * g j - y j

/-- The cotangent of the normed row with its gain. -/
def lossDy (x g y : Fin 1024 → ℝ) (j : Fin 1024) : ℝ := lossErr x g y j * (1 / 1024)

/-- The gradient of the loss in one row. -/
def lossDx (x g y : Fin 1024 → ℝ) (j : Fin 1024) : ℝ := rmsBwd x (fun k => lossDy x g y k * g k) j

/-- One row's share of the loss. -/
def lossRow (x g y : Fin 1024 → ℝ) : ℝ := 1 / 2 * ((∑ k, lossErr x g y k * lossErr x g y k) * (1 / 1024))

/-- One row's share of the gain's gradient. -/
def lossDg (x g y : Fin 1024 → ℝ) (j : Fin 1024) : ℝ := lossDy x g y j * (x j * rn x)

end Cert.Reals

namespace Cert.LossIdeal.Hand

open Cert.LossIdeal Cert.LossIdeal.Gen Idealize.ShloMosaic Idealize.ShloMosaic.TcCoe Idealize.SL.Sem Cert.Reals

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] := by
  decide +kernel

/-- Row `a` of the block of grid point `t`, as a row of the array. -/
def row (t : Fin cfg0.N) (a : Fin 512) : Fin 4096 :=
  ⟨t.val * 512 + a.val, by have := t.isLt; have : cfg0.N = 8 := rfl; omega⟩

section Real

variable (c : Dev nD) (X Y : Fin 4096 → Fin 1024 → ℝ) (G : Fin 1024 → ℝ)

/-- The arguments are the real arrays `X`, `G`, `Y`. -/
structure Args : Prop where
  x : ∀ t k, m ((c : Thread nD τ).loc main_arg0) (ix3 0 t k) = (X t k : EReal)
  g : ∀ k, m ((c : Thread nD τ).loc main_arg1) (ix1 k) = (G k : EReal)
  y : ∀ t k, m ((c : Thread nD τ).loc main_arg2) (ix3 0 t k) = (Y t k : EReal)

variable {m c X Y G} (h : Args m c X Y G) (t : Fin cfg0.N) (a : Fin 512)
include h

theorem blk_x (k : Fin 1024) : iblk m c 0 t (ix2 a k) = (X (row t a) k : EReal) :=
  (show iblk m c 0 t (ix2 a k) = m ((c : Thread nD τ).loc main_arg0) (ix3 0 (row t a) k) by
    unfold row; blk_ext! [iblk, idx t]).trans (h.x _ _)

theorem blk_g (k : Fin 1024) : iblk m c 1 t (ix2 0 k) = (G k : EReal) :=
  (show iblk m c 1 t (ix2 0 k) = m ((c : Thread nD τ).loc main_arg1) (ix1 k) by blk_ext! [iblk, idx t]).trans (h.g _)

theorem blk_y (k : Fin 1024) : iblk m c 2 t (ix2 a k) = (Y (row t a) k : EReal) :=
  (show iblk m c 2 t (ix2 a k) = m ((c : Thread nD τ).loc main_arg2) (ix3 0 (row t a) k) by
    unfold row; blk_ext! [iblk, idx t]).trans (h.y _ _)

/-- What a point stores for the gradient of its rows. -/
theorem pay_dx (j : Fin 1024) : k0_pay2 (k0_pay6 (iblk m c 1 t)) (k0_pay8 (iblk m c 0 t)) (k0_pay9 (iblk m c 0 t))
    (k0_pay12 (iblk m c 1 t) (iblk m c 0 t) (iblk m c 2 t)) (ix2 a j) = (lossDx (X (row t a)) G (Y (row t a)) j : EReal) := by
  unfold_payloads
  pointwise
  simp (disch := norm_num) only [blk_x h, blk_g h, blk_y h, c1024, c1024inv, ceps, add_real, mul_real, sub_real, sum_real,
    div_real, rsqrt_ms]
  rfl

/-- What a point adds to the loss. -/
theorem pay_loss (v : Vec Ideal S1x1 .f32) (i : S1x1.Idx) :
    k0_pay11 (iblk m c 1 t) (iblk m c 0 t) (iblk m c 2 t) v i
      = v i + ((1 / 2 * ∑ a : Fin 512, (∑ k, lossErr (X (row t a)) G (Y (row t a)) k * lossErr (X (row t a)) G (Y (row t a)) k)
        * (1 / 1024) : ℝ) : EReal) := by
  rw [eq_ix2 i]
  unfold_payloads
  pointwise
  simp (disch := norm_num) only [blk_x h, blk_g h, blk_y h, c1024, c1024inv, chalf, ceps, add_real, mul_real, sub_real, sum_real,
    div_real, rsqrt_ms]
  rfl

/-- What a point adds to the gain's gradient. -/
theorem pay_dg (v : Vec Ideal S1x1024 .f32) (j : Fin 1024) :
    k0_pay1 (k0_pay9 (iblk m c 0 t)) (k0_pay12 (iblk m c 1 t) (iblk m c 0 t) (iblk m c 2 t)) v (ix2 0 j)
      = v (ix2 0 j) + ((∑ a : Fin 512, lossDg (X (row t a)) G (Y (row t a)) j : ℝ) : EReal) := by
  unfold_payloads
  pointwise
  simp (disch := norm_num) only [blk_x h, blk_g h, blk_y h, c1024, c1024inv, chalf, ceps, add_real, mul_real, sub_real, sum_real,
    div_real, rsqrt_ms]
  rfl

/-- The rows' gradient stands in the window's buffer after every point. -/
theorem after_dx (j : Fin 1024) : (outsAt0 m c t.val t.isLt).1 (ix2 a j) = (lossDx (X (row t a)) G (Y (row t a)) j : EReal) := by
  by_cases h0 : t.val % 8 = 0
  · rw [outsAt0_A m c t h0]
    frame_out
    exact pay_dx h t a j
  · rw [outsAt0_B m c t h0]
    frame_out
    exact pay_dx h t a j

/-- So does the same gradient in the narrow format, over the ideal floats the same numbers. -/
theorem after_dxb (j : Fin 1024) : (outsAt0 m c t.val t.isLt).2.1 (ix2 a j) = (lossDx (X (row t a)) G (Y (row t a)) j : EReal) := by
  by_cases h0 : t.val % 8 = 0
  · rw [outsAt0_A m c t h0]
    frame_out
    exact pay_dx h t a j
  · rw [outsAt0_B m c t h0]
    frame_out
    exact pay_dx h t a j

omit a

/-- The first result: the gradient of every row. -/
theorem out_dx : (dats m 0 c).arrAt 3 cfg0.N = fun i => (lossDx (X (i 0)) G (Y (i 0)) (i 1) : EReal) := by
  refine (dats m 0 c).arrAt_eq_of_covers 3 _ (by decide +kernel) fun t hf y => ?_
  blk_simp
  rw [after0_3, eq_ix2 y]
  refine (after_dx h t _ _).trans ?_
  have e0 : (((View.whole main_v3_0).slice (win0_3.rect t)).emb y 0) = row t (y 0) := Fin.ext (by blk_simp [idx t]; rfl)
  have e1 : (((View.whole main_v3_0).slice (win0_3.rect t)).emb y 1) = y 1 := Fin.ext (by blk_simp [idx t])
  rw [← eq_ix2 y, e0, e1]

/-- The second result: the same gradient in the narrow format. -/
theorem out_dxb : (dats m 0 c).arrAt 4 cfg0.N = fun i => (lossDx (X (i 0)) G (Y (i 0)) (i 1) : EReal) := by
  refine (dats m 0 c).arrAt_eq_of_covers 4 _ (by decide +kernel) fun t hf y => ?_
  blk_simp
  rw [after0_4, eq_ix2 y]
  refine (after_dxb h t _ _).trans ?_
  have e0 : (((View.whole main_v3_1).slice (win0_4.rect t)).emb y 0) = row t (y 0) := Fin.ext (by blk_simp [idx t]; rfl)
  have e1 : (((View.whole main_v3_1).slice (win0_4.rect t)).emb y 1) = y 1 := Fin.ext (by blk_simp [idx t])
  rw [← eq_ix2 y, e0, e1]

/-- The loss as its points add it up. -/
theorem acc_loss (i : S1x1.Idx) : (outsAt0 m c t0_7.val t0_7.isLt).2.2.1 i = ((∑ t, lossRow (X t) G (Y t) : ℝ) : EReal) := by
  refine (Pipeline.eq_sum_fin_of_reset_step_apply_last (fun n hn => (outsAt0 m c n hn).2.2.1) 8 (fun _ => (0 : EReal))
    (fun t _ => ((1 / 2 * ∑ a : Fin 512, (∑ k, lossErr (X (row t a)) G (Y (row t a)) k * lossErr (X (row t a)) G (Y (row t a)) k)
        * (1 / 1024) : ℝ) : EReal)) (fun t h0 i => ?_) (fun t h0 i => ?_) (by decide) t0_7 rfl i).trans ?_
  · rw [outsAt0_A m c t h0]
    frame_out
    refine (pay_loss h t _ i).trans ?_
    unfold_payloads
    pointwise
  · rw [outsAt0_B m c t h0]
    frame_out
    exact pay_loss h t _ i
  · rw [sum_real, zero_add]
    congr 1
    rw [← sum_blocks (N := 8) (n := 512) rfl]
    exact Finset.sum_congr rfl fun t _ => Finset.mul_sum _ _ _

/-- The gain's gradient as its points add it up. -/
theorem acc_dg (j : Fin 1024) :
    (outsAt0 m c t0_7.val t0_7.isLt).2.2.2 (ix2 0 j) = ((∑ t, lossDg (X t) G (Y t) j : ℝ) : EReal) := by
  refine (Pipeline.eq_sum_fin_of_reset_step_apply_last (ι := Fin 1024) (M := EReal) (fun n hn j => (outsAt0 m c n hn).2.2.2 (ix2 0 j)) 8
    (fun _ => (0 : EReal)) (fun t j => ((∑ a : Fin 512, lossDg (X (row t a)) G (Y (row t a)) j : ℝ) : EReal))
    (fun t h0 i => ?_) (fun t h0 i => ?_) (by decide) t0_7 rfl j).trans ?_
  · beta_reduce
    rw [outsAt0_A m c t h0]
    frame_out
    refine (pay_dg h t _ i).trans ?_
    unfold_payloads
    pointwise
  · beta_reduce
    rw [outsAt0_B m c t h0]
    frame_out
    exact pay_dg h t _ i
  · rw [sum_real, zero_add]
    congr 1
    exact sum_blocks (N := 8) (n := 512) rfl fun t => lossDg (X t) G (Y t) j

/-- The third result: the loss. -/
theorem out_loss : (dats m 0 c).arrAt 5 cfg0.N = fun _ => ((∑ t, lossRow (X t) G (Y t) : ℝ) : EReal) := by
  refine (dats m 0 c).arrAt_eq_of_after_last 5 t0_7 (by decide +kernel) _ fun j => ?_
  blk_simp
  rw [after0_5]
  exact acc_loss h j

/-- The fourth result: the gain's gradient. -/
theorem out_dg : (dats m 0 c).arrAt 6 cfg0.N = fun i => ((∑ t, lossDg (X t) G (Y t) (i 1) : ℝ) : EReal) := by
  refine (dats m 0 c).arrAt_eq_of_after_last 6 t0_7 (by decide +kernel) _ fun j => ?_
  blk_simp
  rw [after0_6, eq_ix2_row j]
  exact acc_dg h (j 1)

end Real

end Cert.LossIdeal.Hand

end
-- ==== Proof.Reduce.lean ====
/- The host's sums over several axes that are not next to each other, or not the last ones. -/
module

public import Idealize.ShloMosaic.Lib.Pointwise

@[expose] public section

noncomputable section

namespace Cert.Reals

open Idealize.ShloMosaic

/-- A host sum over whatever axes is the sum over any family that runs once through the positions that drop to the output's. -/
theorem hostSum_family {ι : Type*} [Fintype ι] {s t : Shape} {axes : List (Fin s.rank)} (h : s.ReducesTo axes t) (v : s.Idx → EReal)
    (init : EReal) (j : t.Idx) (e : ι → s.Idx) (inj : Function.Injective e) (hj : ∀ k, h.drop (e k) = j)
    (hit : ∀ i, h.drop i = j → ∃ k, e k = i) : Ideal.hostReduceAdd h v init j = init + ∑ k, v (e k) := by
  unfold Ideal.hostReduceAdd
  congr 1
  refine (Finset.sum_nbij (fun k => e k) (fun k _ => ?_) (fun a _ b _ hab => inj hab) (fun i hi => ?_) fun _ _ => rfl).symm
  · exact Finset.mem_filter.mpr ⟨Finset.mem_univ _, hj k⟩
  · obtain ⟨k, hk⟩ := hit i (Finset.mem_filter.mp hi).2
    exact ⟨k, Finset.mem_coe.mpr (Finset.mem_univ k), hk⟩

theorem eq_ix3_first {a b : ℕ} (i : (⟨3, ![1, a, b]⟩ : Shape).Idx) : i = ix3 0 (i 1) (i 2) := by
  funext k
  match k with
  | ⟨0, _⟩ => exact Subsingleton.elim (α := Fin 1) _ _
  | ⟨1, _⟩ => rfl
  | ⟨2, _⟩ => rfl

/-- Axes 0 and 1. -/
@[pointwise] theorem hostSum_outer {a b : ℕ} (h : (⟨3, ![1, a, b]⟩ : Shape).ReducesTo [0, 1] ⟨1, ![b]⟩)
    (v : (⟨3, ![1, a, b]⟩ : Shape).Idx → EReal) (init : EReal) (j : Fin b) :
    Ideal.hostReduceAdd h v init (ix1 j) = init + ∑ k : Fin a, v (ix3 0 k j) := by
  refine hostSum_family h v init _ (fun k : Fin a => ix3 0 k j) (fun x y e => congrFun e 1) (fun k => ?_) (fun i hi => ⟨i 1, ?_⟩)
  · funext q
    match q with
    | ⟨0, _⟩ => rfl
  · have h2 : i 2 = j := Fin.ext (congrArg Fin.val (congrFun hi 0))
    rw [eq_ix3_first i, ← h2]
    rfl

/-- Axes 0 and 2. -/
@[pointwise] theorem hostSum_ends {a b : ℕ} (h : (⟨3, ![1, a, b]⟩ : Shape).ReducesTo [0, 2] ⟨1, ![a]⟩)
    (v : (⟨3, ![1, a, b]⟩ : Shape).Idx → EReal) (init : EReal) (j : Fin a) :
    Ideal.hostReduceAdd h v init (ix1 j) = init + ∑ k : Fin b, v (ix3 0 j k) := by
  refine hostSum_family h v init _ (fun k : Fin b => ix3 0 j k) (fun x y e => congrFun e 2) (fun k => ?_) (fun i hi => ⟨i 2, ?_⟩)
  · funext q
    match q with
    | ⟨0, _⟩ => rfl
  · have h2 : i 1 = j := Fin.ext (congrArg Fin.val (congrFun hi 0))
    rw [eq_ix3_first i, ← h2]
    rfl

/-- Axes 0 and 1 of four. -/
@[pointwise] theorem hostSum4_outer {a b c : ℕ} (h : (⟨4, ![1, a, b, c]⟩ : Shape).ReducesTo [0, 1] ⟨2, ![b, c]⟩)
    (v : (⟨4, ![1, a, b, c]⟩ : Shape).Idx → EReal) (init : EReal) (i : Fin b) (j : Fin c) :
    Ideal.hostReduceAdd h v init (ix2 i j) = init + ∑ k : Fin a, v (ix4 0 k i j) := by
  refine hostSum_family h v init _ (fun k : Fin a => ix4 0 k i j) (fun x y e => congrFun e 1) (fun k => ?_) (fun w hw => ⟨w 1, ?_⟩)
  · funext q
    match q with
    | ⟨0, _⟩ => rfl
    | ⟨1, _⟩ => rfl
  · have h2 : w 2 = i := Fin.ext (congrArg Fin.val (congrFun hw 0))
    have h3 : w 3 = j := Fin.ext (congrArg Fin.val (congrFun hw 1))
    rw [← h2, ← h3]
    funext q
    match q with
    | ⟨0, _⟩ => exact Subsingleton.elim (α := Fin 1) _ _
    | ⟨1, _⟩ => rfl
    | ⟨2, _⟩ => rfl
    | ⟨3, _⟩ => rfl

/-- Axes 0 and 3 of four. -/
@[pointwise] theorem hostSum4_ends {a b c : ℕ} (h : (⟨4, ![1, a, b, c]⟩ : Shape).ReducesTo [0, 3] ⟨2, ![a, b]⟩)
    (v : (⟨4, ![1, a, b, c]⟩ : Shape).Idx → EReal) (init : EReal) (i : Fin a) (j : Fin b) :
    Ideal.hostReduceAdd h v init (ix2 i j) = init + ∑ k : Fin c, v (ix4 0 i j k) := by
  refine hostSum_family h v init _ (fun k : Fin c => ix4 0 i j k) (fun x y e => congrFun e 3) (fun k => ?_) (fun w hw => ⟨w 3, ?_⟩)
  · funext q
    match q with
    | ⟨0, _⟩ => rfl
    | ⟨1, _⟩ => rfl
  · have h2 : w 1 = i := Fin.ext (congrArg Fin.val (congrFun hw 0))
    have h3 : w 2 = j := Fin.ext (congrArg Fin.val (congrFun hw 1))
    rw [← h2, ← h3]
    funext q
    match q with
    | ⟨0, _⟩ => exact Subsingleton.elim (α := Fin 1) _ _
    | ⟨1, _⟩ => rfl
    | ⟨2, _⟩ => rfl
    | ⟨3, _⟩ => rfl

/-- Axes 1 and 4 of five. -/
@[pointwise] theorem hostSum5_inner {a b c d : ℕ} (h : (⟨5, ![1, a, b, c, d]⟩ : Shape).ReducesTo [1, 4] ⟨3, ![1, b, c]⟩)
    (v : (⟨5, ![1, a, b, c, d]⟩ : Shape).Idx → EReal) (init : EReal) (z : Fin 1) (i : Fin b) (j : Fin c) :
    Ideal.hostReduceAdd h v init (ix3 z i j) = init + ∑ k : Fin a, ∑ l : Fin d, v (ix5 z k i j l) := by
  rw [hostSum_family h v init _ (fun k : Fin a × Fin d => ix5 z k.1 i j k.2) (fun x y e => Prod.ext (congrFun e 1) (congrFun e 4)) (fun k => ?_)
    (fun w hw => ⟨(w 1, w 4), ?_⟩), Fintype.sum_prod_type]
  · funext q
    match q with
    | ⟨0, _⟩ => rfl
    | ⟨1, _⟩ => rfl
    | ⟨2, _⟩ => rfl
  · have h2 : w 2 = i := Fin.ext (congrArg Fin.val (congrFun hw 1))
    have h3 : w 3 = j := Fin.ext (congrArg Fin.val (congrFun hw 2))
    rw [← h2, ← h3]
    funext q
    match q with
    | ⟨0, _⟩ => exact Subsingleton.elim (α := Fin 1) _ _
    | ⟨1, _⟩ => rfl
    | ⟨2, _⟩ => rfl
    | ⟨3, _⟩ => rfl
    | ⟨4, _⟩ => rfl

/-- Axes 0, 1 and 4 of five. -/
@[pointwise] theorem hostSum5_ends {b c d : ℕ} (h : (⟨5, ![1, 1, b, c, d]⟩ : Shape).ReducesTo [0, 1, 4] ⟨2, ![b, c]⟩)
    (v : (⟨5, ![1, 1, b, c, d]⟩ : Shape).Idx → EReal) (init : EReal) (i : Fin b) (j : Fin c) :
    Ideal.hostReduceAdd h v init (ix2 i j) = init + ∑ l : Fin d, v (ix5 0 0 i j l) := by
  refine hostSum_family h v init _ (fun k : Fin d => ix5 0 0 i j k) (fun x y e => congrFun e 4) (fun k => ?_) (fun w hw => ⟨w 4, ?_⟩)
  · funext q
    match q with
    | ⟨0, _⟩ => rfl
    | ⟨1, _⟩ => rfl
  · have h2 : w 2 = i := Fin.ext (congrArg Fin.val (congrFun hw 0))
    have h3 : w 3 = j := Fin.ext (congrArg Fin.val (congrFun hw 1))
    rw [← h2, ← h3]
    funext q
    match q with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => rfl

end Cert.Reals

end
-- ==== Proof.LossRef.lean ====
/- The loss head's reference over the ideal floats and finite arguments: the real numbers its results are. -/
module

public import proofs.«01_k».proof.Proof.Gen.LossRefIdeal.Read
public import proofs.«01_k».proof.Proof.LossKernel
public import proofs.«01_k».proof.Proof.Reduce

@[expose] public section

set_option maxRecDepth 16384

noncomputable section

namespace Cert.LossRefIdeal.Hand

open Cert.LossRefIdeal Cert.LossRefIdeal.Gen Cert.LossRefIdeal.Read Idealize.ShloMosaic Idealize.ShloMosaic.TcCoe Cert.Reals

variable {X Y : Fin 4096 → Fin 1024 → ℝ} {G : Fin 1024 → ℝ}
variable {x0 x2 : FVec Ideal S1x4096x1024 .f32} {x1 : FVec Ideal S1024 .f32}

section
variable (hx : ∀ t k, x0 (ix3 0 t k) = (X t k : EReal))
include hx

theorem r_v6 (t : Fin 4096) : val_main_v6 (F := Ideal) x0 (ix3 0 t 0) = (ms (X t) : EReal) := by
  unfold val_main_v6 val_main_v5 val_main_v4 val_main_v3 val_main_v2 val_main_v1 val_main_v0 val_main_cst val_main_cst_0 val_main_cst_1
  pointwise
  simp (disch := norm_num) only [hx, c1024, ceps, add_real, mul_real, sum_real, div_real]
  rfl

theorem r_v7 (t : Fin 4096) : val_main_v7 (F := Ideal) x0 (ix3 0 t 0) = (rn (X t) : EReal) := by
  unfold val_main_v7
  pointwise
  rw [r_v6 hx]
  exact rsqrt_ms _

theorem r_v10 (t : Fin 4096) : val_main_v10 (F := Ideal) x0 (ix3 0 t 0) = (-(1 / 2) * (rn (X t) / ms (X t)) : ℝ) := by
  unfold val_main_v10 val_main_v9 val_main_cst_2 val_main_v8
  pointwise
  rw [r_v6 hx, r_v7 hx, div_real (ms_pos _).ne', cneghalf, mul_real]

variable (hg : ∀ k, x1 (ix1 k) = (G k : EReal)) (hy : ∀ t k, x2 (ix3 0 t k) = (Y t k : EReal))
include hg hy

theorem r_v16 (t : Fin 4096) (j : Fin 1024) : val_main_v16 (F := Ideal) x0 x1 x2 (ix3 0 t j) = (lossErr (X t) G (Y t) j : EReal) := by
  unfold val_main_v16 val_main_v15 val_main_v14 val_main_v13 val_main_v12 val_main_v11
  pointwise
  simp only [hx, hg, hy, r_v7 hx, mul_real, sub_real]
  rfl

theorem r_v30 (t : Fin 4096) (j : Fin 1024) : val_main_v30 (F := Ideal) x0 x1 x2 (ix3 0 t j) = (lossDy (X t) G (Y t) j : EReal) := by
  unfold val_main_v30 val_main_v29 val_main_v28 val_main_v27 val_main_v26 val_main_v25 val_main_v19 val_main_v18 val_main_cst_10 val_main_cst_8 val_main_cst_9 val_main_cst_3
  pointwise
  simp (disch := norm_num) only [r_v16 hx hg hy, chalf, c1, c2, c1024, mul_real, sub_real, div_real]
  congr 1
  unfold lossDy
  ring

theorem r_v44 (t : Fin 4096) : val_main_v44 (F := Ideal) x0 x1 x2 (ix3 0 t 0)
    = ((∑ k, X t k * (lossDy (X t) G (Y t) k * G k)) * (rn (X t) / ms (X t) * (-(1 / 2))) / 1024 : ℝ) := by
  unfold val_main_v44 val_main_v43 val_main_v42 val_main_v39 val_main_v38 val_main_v37 val_main_v35 val_main_v34 val_main_v13 val_main_cst_13 val_main_cst_14
  pointwise
  simp (disch := norm_num) only [hx, hg, r_v30 hx hg hy, r_v10 hx, c1024, mul_real, sum_real, div_real]
  congr 1
  ring

theorem r_v45 (t : Fin 4096) : val_main_v45 (F := Ideal) x0 x1 x2 (ix1 t) = val_main_v44 (F := Ideal) x0 x1 x2 (ix3 0 t 0) := by
  unfold val_main_v45 val_main_cst_15
  pointwise
  exact Fin.sum_univ_one _

theorem r_v36 (j : Fin 1024) : val_main_v36 (F := Ideal) x0 x1 x2 (ix1 j) = (∑ t, lossDg (X t) G (Y t) j : ℝ) := by
  unfold val_main_v36 val_main_v33 val_main_v32 val_main_v31 val_main_v12 val_main_v11 val_main_cst_11 val_main_cst_12
  pointwise
  refine (Fin.sum_univ_one _).trans ?_
  simp only [hx, r_v7 hx, r_v30 hx hg hy, mul_real, sum_real]
  congr 1
  refine Finset.sum_congr rfl fun t _ => ?_
  rw [lossDg]
  ring

/-- The first result. -/
theorem r_v52 (t : Fin 4096) (j : Fin 1024) : val_main_v52 (F := Ideal) x0 x1 x2 (ix2 t j) = (lossDx (X t) G (Y t) j : EReal) := by
  unfold val_main_v52 val_main_v51 val_main_v50 val_main_v49 val_main_v48 val_main_v47 val_main_v46 val_main_v41 val_main_v40 val_main_v35 val_main_v34 val_main_v13
  pointwise
  simp only [hx, hg, r_v7 hx, r_v30 hx hg hy, r_v45 hx hg hy, r_v44 hx hg hy, add_real, mul_real]
  rw [lossDx, rmsBwd_eq]
  congr 1
  ring

theorem r_v54 (i : S1x1.Idx) : val_main_v54 (F := Ideal) x0 x1 x2 i = (∑ t, lossRow (X t) G (Y t) : ℝ) := by
  unfold val_main_v54 val_main_v24 val_main_v23 val_main_v22 val_main_v21 val_main_v20 val_main_v17 val_main_cst_4 val_main_cst_5 val_main_cst_6 val_main_cst_7
  pointwise
  simp (disch := norm_num) only [r_v16 hx hg hy, chalf, c1024, mul_real, sum_real, div_real]
  congr 1
  simp only [Fin.sum_univ_one, Finset.mul_sum]
  rw [Finset.sum_congr rfl fun t _ => ?_]
  unfold lossRow
  ring

theorem r_v55 (j : Fin 1024) : val_main_v55 (F := Ideal) x0 x1 x2 (ix2 0 j) = (∑ t, lossDg (X t) G (Y t) j : ℝ) := by
  unfold val_main_v55
  pointwise
  exact r_v36 hx hg hy j

theorem r_v53 : val_main_v53 (F := Ideal) x0 x1 x2 = val_main_v52 (F := Ideal) x0 x1 x2 := rfl

end

end Cert.LossRefIdeal.Hand

end
-- ==== Proof.LossClaim.lean ====
/- The loss head: on finite arguments the kernel and the reference end with the same real numbers. -/
module

public import proofs.«01_k».proof.Defs
public import proofs.«01_k».proof.Proof.LossRef
public import proofs.«01_k».proof.Proof.Gen.LossRefIdeal.Run
public import proofs.«01_k».proof.Proof.Gen.Pre_loss_finite

@[expose] public section

set_option maxRecDepth 16384

noncomputable section

namespace Cert.LossClaim

open Idealize.ShloMosaic Idealize.ShloMosaic.TcCoe Idealize.SL.Sem Cert.Reals

/-- Finite arguments are real numbers. -/
theorem args_real (m : (ℓ : Loc LossIdeal.nD LossIdeal.τ LossIdeal.sig) → Buf (Elt Ideal) ℓ) (h : Cert.Pre_LossIdeal_loss_finite m)
    (c : Dev LossIdeal.nD) : ∃ X Y G, LossIdeal.Hand.Args m c X Y G := by
  obtain ⟨X, hX⟩ := real_of_finite _ _ (fun _ => rfl) (h c).1
  obtain ⟨G, hG⟩ := real_of_finite _ _ (fun _ => rfl) (h c).2.1
  obtain ⟨Y, hY⟩ := real_of_finite _ _ (fun _ => rfl) (h c).2.2
  exact ⟨fun t k => X (ix3 0 t k), fun t k => Y (ix3 0 t k), fun k => G (ix1 k),
    ⟨fun t k => congrFun hX _, fun k => congrFun hG _, fun t k => congrFun hY _⟩⟩

/-- The two programs' results agree. -/
theorem algebraic : Cert.algebraic_LossIdeal_LossRefIdeal_pre_loss_finite := by
  intro m g m' g' hpre hagree
  choose X Y G h using args_real m hpre
  refine ⟨fun c i => (lossDx (X c (i 0)) (G c) (Y c (i 0)) (i 1) : EReal), fun c i => (lossDx (X c (i 0)) (G c) (Y c (i 0)) (i 1) : EReal),
    fun c _ => ((∑ t, lossRow (X c t) (G c) (Y c t) : ℝ) : EReal), fun c i => ((∑ t, lossDg (X c t) (G c) (Y c t) (i 1) : ℝ) : EReal), ?_, ?_⟩
  · refine (θ_run LossIdeal.defs _ _).mono (fun r hr c => ?_) (LossIdeal.Value.run_blocks (F := Ideal) m g)
    obtain ⟨h0, h1, h2, h3, hk⟩ := hr c
    exact ⟨h0.trans (LossIdeal.Hand.out_dx (h c)), h1.trans (LossIdeal.Hand.out_dxb (h c)), h2.trans (LossIdeal.Hand.out_loss (h c)),
      h3.trans (LossIdeal.Hand.out_dg (h c)), hk⟩
  · refine (θ_run LossRefIdeal.defs _ _).mono (fun r hr c => ?_) (LossRefIdeal.Value.run (F := Ideal) m' g')
    obtain ⟨h0, h1, h2, h3, hk⟩ := hr c
    obtain ⟨e0, e1, e2⟩ := hagree c
    have hx : ∀ t k, (m' ((c.tc : Thread _ _).loc LossRefIdeal.main_arg0)) (ix3 0 t k) = (X c t k : EReal) := fun t k =>
      (congrFun e0 _).trans ((h c).x t k)
    have hg : ∀ k, (m' ((c.tc : Thread _ _).loc LossRefIdeal.main_arg1)) (ix1 k) = (G c k : EReal) := fun k =>
      (congrFun e1 _).trans ((h c).g k)
    have hy : ∀ t k, (m' ((c.tc : Thread _ _).loc LossRefIdeal.main_arg2)) (ix3 0 t k) = (Y c t k : EReal) := fun t k =>
      (congrFun e2 _).trans ((h c).y t k)
    have hdx : LossRefIdeal.Read.val_main_v52 (F := Ideal) _ _ _ = fun i => (lossDx (X c (i 0)) (G c) (Y c (i 0)) (i 1) : EReal) :=
      funext fun i => (congrArg _ (eq_ix2 i)).trans (LossRefIdeal.Hand.r_v52 hx hg hy (i 0) (i 1))
    refine ⟨h0.trans ((LossRefIdeal.Read.val_main_v52_eq m' c).trans hdx), h1.trans ((LossRefIdeal.Read.val_main_v53_eq m' c).trans hdx),
      h2.trans ((LossRefIdeal.Read.val_main_v54_eq _ _ _).trans (funext fun i => LossRefIdeal.Hand.r_v54 hx hg hy i)),
      h3.trans ((LossRefIdeal.Read.val_main_v55_eq _ _ _).trans (funext fun i => ?_)), hk⟩
    exact (congrArg _ (eq_ix2_row i)).trans (LossRefIdeal.Hand.r_v55 hx hg hy (i 1))

end Cert.LossClaim

end
-- ==== Proof.FfnKernel.lean ====
/- The arrays that the feed-forward layer's backward call leaves, over the ideal floats and finite arguments: the real
   numbers that each grid point stores, and the sums over the four slices of the hidden width and over the row blocks. -/
module

public import proofs.«01_k».proof.Proof.FfnFrame
public import proofs.«01_k».proof.Proof.Norms
public import Idealize.ShloMosaic.Lib.Pipeline.ValueKit
public import Idealize.ShloMosaic.Lib.Pointwise

@[expose] public section

set_option maxRecDepth 16384

noncomputable section

namespace Cert.Reals

section Ffn

variable (X DY : Fin 4096 → Fin 1024 → ℝ) (G : Fin 1024 → ℝ) (W1 : Fin 1024 → Fin 4096 → ℝ) (W2 : Fin 4096 → Fin 1024 → ℝ)

/-- The normed input with its gain. -/
def ffnH (t : Fin 4096) (k : Fin 1024) : ℝ := X t k * rn (X t) * G k

/-- The hidden layer before its squared relu. -/
def ffnZ (t f : Fin 4096) : ℝ := ∑ k, ffnH X G t k * W1 k f

/-- The hidden layer. -/
def ffnF (t f : Fin 4096) : ℝ := max (ffnZ X G W1 t f) 0 * max (ffnZ X G W1 t f) 0

/-- The cotangent of the hidden layer before its squared relu. -/
def ffnDz (t f : Fin 4096) : ℝ := (∑ k, DY t k * W2 f k) * (2 * max (ffnZ X G W1 t f) 0)

/-- The cotangent of the normed input with its gain. -/
def ffnDh (t : Fin 4096) (k : Fin 1024) : ℝ := ∑ f, ffnDz X DY G W1 W2 t f * W1 k f

/-- The cotangent of the layer's input. -/
def ffnDx (t : Fin 4096) (j : Fin 1024) : ℝ := DY t j + rmsBwd (X t) (fun k => ffnDh X DY G W1 W2 t k * G k) j

/-- The gain's gradient. -/
def ffnDg (j : Fin 1024) : ℝ := ∑ t, ffnDh X DY G W1 W2 t j * (X t j * rn (X t))

end Ffn

end Cert.Reals

namespace Cert.FfnBwdIdeal.Hand

open Cert.FfnBwdIdeal Cert.FfnBwdIdeal.Gen Idealize.ShloMosaic Idealize.ShloMosaic.TcCoe Idealize.SL.Sem Cert.Reals

variable (m : (ℓ : Loc nD τ sig) → Buf (Elt Ideal) ℓ)

/-- The block of each window at a grid point. -/
theorem idx : ∀ t : Fin cfg0.N, win0_0.index t = ![t.val / 4, 0] ∧ win0_1.index t = ![t.val / 4, 0]
    ∧ win0_2.index t = ![t.val / 4, 0] ∧ win0_3.index t = ![t.val / 4, t.val % 4] ∧ win0_4.index t = ![0, 0]
    ∧ win0_5.index t = ![t.val % 4, 0, 0] ∧ win0_6.index t = ![t.val % 4, 0, 0] ∧ win0_7.index t = ![t.val / 4, 0]
    ∧ win0_8.index t = ![t.val / 4, 0] ∧ win0_9.index t = ![t.val / 4, t.val % 4]
    ∧ win0_10.index t = ![t.val % 4, t.val / 4] ∧ win0_11.index t = ![0, t.val / 4] ∧ win0_12.index t = ![0, 0] := by
  decide +kernel

/-- The grid's last point. -/
def tLast : Fin cfg0.N := ⟨31, by decide⟩

/-- Row `a` of the row block of grid point `t`, as a row of the array. -/
def rowOf (t : Fin cfg0.N) (a : Fin 512) : Fin 4096 :=
  ⟨t.val / 4 * 512 + a.val, by have := t.isLt; have : cfg0.N = 32 := rfl; omega⟩

/-- Column `b` of the slice of the hidden width of grid point `t`. -/
def colOf (t : Fin cfg0.N) (b : Fin 1024) : Fin 4096 :=
  ⟨t.val % 4 * 1024 + b.val, by omega⟩

/-- A point's share of the cotangent of the normed input. -/
def dhPart (X DY : Fin 4096 → Fin 1024 → ℝ) (G : Fin 1024 → ℝ) (W1 : Fin 1024 → Fin 4096 → ℝ) (W2 : Fin 4096 → Fin 1024 → ℝ)
    (t : Fin cfg0.N) (a : Fin 512) (j : Fin 1024) : ℝ :=
  ∑ f : Fin 1024, ffnDz X DY G W1 W2 (rowOf t a) (colOf t f) * W1 j (colOf t f)

section Real

variable (c : Dev nD) (X DY : Fin 4096 → Fin 1024 → ℝ) (G : Fin 1024 → ℝ) (W1 : Fin 1024 → Fin 4096 → ℝ)
  (W2 : Fin 4096 → Fin 1024 → ℝ)

/-- The arguments are real arrays. -/
structure Args : Prop where
  x : ∀ t k, m ((c : Thread nD τ).loc main_arg0) (ix3 0 t k) = (X t k : EReal)
  g : ∀ k, m ((c : Thread nD τ).loc main_arg1) (ix1 k) = (G k : EReal)
  w1 : ∀ k f, m ((c : Thread nD τ).loc main_arg2) (ix2 k f) = (W1 k f : EReal)
  w2 : ∀ f k, m ((c : Thread nD τ).loc main_arg3) (ix2 f k) = (W2 f k : EReal)
  dy : ∀ t k, m ((c : Thread nD τ).loc main_arg4) (ix3 0 t k) = (DY t k : EReal)

variable {m c X DY G W1 W2} (h : Args m c X DY G W1 W2) (t : Fin cfg0.N) (a : Fin 512)
include h

theorem blk_dy (k : Fin 1024) : iblk m c 0 t (ix2 a k) = (DY (rowOf t a) k : EReal) :=
  (show iblk m c 0 t (ix2 a k) = m ((c : Thread nD τ).loc main_arg4) (ix3 0 (rowOf t a) k) by
    unfold rowOf; blk_ext! [iblk, idx t]).trans (h.dy _ _)

theorem blk_dyb (k : Fin 1024) : iblk m c 1 t (ix2 a k) = (DY (rowOf t a) k : EReal) :=
  (show iblk m c 1 t (ix2 a k) = m ((c : Thread nD τ).loc main_arg4) (ix3 0 (rowOf t a) k) by
    unfold rowOf; blk_ext! [iblk, idx t]).trans (h.dy _ _)

theorem blk_x (k : Fin 1024) : iblk m c 2 t (ix2 a k) = (X (rowOf t a) k : EReal) :=
  (show iblk m c 2 t (ix2 a k) = m ((c : Thread nD τ).loc main_arg0) (ix3 0 (rowOf t a) k) by
    unfold rowOf; blk_ext! [iblk, idx t]).trans (h.x _ _)

theorem blk_g (k : Fin 1024) : iblk m c 4 t (ix2 0 k) = (G k : EReal) :=
  (show iblk m c 4 t (ix2 0 k) = m ((c : Thread nD τ).loc main_arg1) (ix1 k) by blk_ext! [iblk, idx t]).trans (h.g _)

theorem blk_w1 (k f : Fin 1024) : iblk m c 5 t (ix3 0 k f) = (W1 k (colOf t f) : EReal) :=
  (show iblk m c 5 t (ix3 0 k f) = m ((c : Thread nD τ).loc main_arg2) (ix2 k (colOf t f)) by
    unfold colOf; blk_ext! [iblk, idx t]).trans (h.w1 _ _)

theorem blk_w2 (f k : Fin 1024) : iblk m c 6 t (ix3 0 f k) = (W2 (colOf t f) k : EReal) :=
  (show iblk m c 6 t (ix3 0 f k) = m ((c : Thread nD τ).loc main_arg3) (ix2 (colOf t f) k) by
    unfold colOf; blk_ext! [iblk, idx t]).trans (h.w2 _ _)

omit t a in
/-- The hidden layer before its squared relu, as the host computes it for the call. -/
theorem entry_z (t f : Fin 4096) : V m c main_v20 (ix2 t f) = (ffnZ X G W1 t f : EReal) := by
  entry_read
  pointwise
  simp (disch := norm_num) only [h.x, h.g, h.w1, c0, c1024, ceps, add_real, mul_real, sub_real, sum_real, div_real, zero_add, rsqrt_ms]
  rfl

theorem blk_z (f : Fin 1024) : iblk m c 3 t (ix2 a f) = (ffnZ X G W1 (rowOf t a) (colOf t f) : EReal) :=
  (show iblk m c 3 t (ix2 a f) = V m c main_v20 (ix2 (rowOf t a) (colOf t f)) by
    unfold rowOf colOf; blk_ext [iblk, idx t]).trans (entry_z h _ _)

/-- What a point stores for its part of the hidden layer's cotangent. -/
theorem pay_dz (f : Fin 1024) : k0_pay13 (iblk m c 3 t) (iblk m c 1 t) (iblk m c 6 t) (ix2 a f)
    = (ffnDz X DY G W1 W2 (rowOf t a) (colOf t f) : EReal) := by
  unfold_payloads
  pointwise
  simp (disch := norm_num) only [blk_z h, blk_dyb h, blk_w2 h, c0, c2, add_real, mul_real, max_real, sum_real, zero_add]
  rfl

/-- What a point stores for its part of the hidden layer, transposed. -/
theorem pay_f (f : Fin 1024) : k0_pay12 (iblk m c 3 t) (ix2 f a)
    = (ffnF X G W1 (rowOf t a) (colOf t f) : EReal) := by
  unfold_payloads
  pointwise
  simp (disch := norm_num) only [blk_z h, c0, mul_real, max_real]
  rfl

/-- What a row block's first point stores for the normed input, transposed. -/
theorem pay_h (k : Fin 1024) : k0_pay9 (iblk m c 2 t) (iblk m c 4 t) (ix2 k a)
    = (ffnH X G (rowOf t a) k : EReal) := by
  unfold_payloads
  pointwise
  simp (disch := norm_num) only [blk_x h, blk_g h, c0, c1024, ceps, add_real, mul_real, sum_real, div_real, zero_add, rsqrt_ms]
  rfl

/-- What a row block's last point stores for the layer's input, for the accumulated cotangent `s`. -/
theorem pay_dx (s : Vec Ideal S512x1024 .f32) (S : Fin 1024 → ℝ) (hs : ∀ k, s (ix2 a k) = (S k : EReal)) (j : Fin 1024) :
    k0_pay7 (iblk m c 4 t) (iblk m c 2 t) s (iblk m c 0 t) (ix2 a j)
      = (DY (rowOf t a) j + rmsBwd (X (rowOf t a)) (fun k => S k * G k) j : ℝ) := by
  unfold_payloads
  pointwise
  simp (disch := norm_num) only [blk_x h, blk_g h, blk_dy h, hs, c0, c1024, ceps, add_real, mul_real, sub_real, sum_real, div_real, zero_add, rsqrt_ms]
  rfl

omit a in
/-- What a row block's last point adds to the gain's gradient. -/
theorem pay_dg (s : Vec Ideal S512x1024 .f32) (S : Fin 512 → Fin 1024 → ℝ) (hs : ∀ a k, s (ix2 a k) = (S a k : EReal))
    (v : Vec Ideal S1x1024 .f32) (j : Fin 1024) :
    k0_pay6 (iblk m c 2 t) s v (ix2 0 j)
      = v (ix2 0 j) + ((∑ a : Fin 512, S a j * (X (rowOf t a) j * rn (X (rowOf t a))) : ℝ) : EReal) := by
  unfold_payloads
  pointwise
  simp (disch := norm_num) only [blk_x h, hs, c0, c1024, ceps, add_real, mul_real, sub_real, sum_real, div_real, zero_add, rsqrt_ms]

/-- What a point adds to the accumulator. -/
theorem pay_acc (v : Vec Ideal S512x1024 .f32) (j : Fin 1024) :
    k0_pay1 (k0_pay13 (iblk m c 3 t) (iblk m c 1 t) (iblk m c 6 t)) v (k0_pay14 (iblk m c 5 t)) (ix2 a j)
      = v (ix2 a j) + (dhPart X DY G W1 W2 t a j : EReal) := by
  have e : k0_pay1 (k0_pay13 (iblk m c 3 t) (iblk m c 1 t) (iblk m c 6 t)) v (k0_pay14 (iblk m c 5 t)) (ix2 a j)
      = v (ix2 a j) + ∑ f : Fin 1024, (ffnDz X DY G W1 W2 (rowOf t a) (colOf t f) : EReal) * (W1 j (colOf t f) : EReal) := by
    unfold k0_pay1 k0_pay14
    pointwise
    simp only [pay_dz h, blk_w1 h]
  rw [e]
  simp only [mul_real, sum_real]
  rfl

/-- The accumulator after a row block's first point. -/
theorem acc_first (h0 : t.val % 4 = 0) (j : Fin 1024) :
    (st m c t.val t.isLt).2.2 (ix2 a j) = (dhPart X DY G W1 W2 t a j : EReal) := by
  have e : (st m c t.val t.isLt).2.2
      = k0_pay1 (k0_pay13 (iblk m c 3 t) (iblk m c 1 t) (iblk m c 6 t)) (k0_pay10 (F := Ideal)) (k0_pay14 (iblk m c 5 t)) := by
    by_cases hz : t.val = 0
    · rw [st_reset m c t h0 (st m c t.val t.isLt) fun hn => absurd hz hn]
      simp only [step, accOut, (cond2_iff t).mpr h0, if_true]
    · rw [st_pos m c t hz]
      simp only [step, accOut, (cond2_iff t).mpr h0, if_true]
  rw [e, pay_acc h]
  unfold k0_pay10
  pointwise

/-- The accumulator after a later point of the row block. -/
theorem acc_next (h0 : t.val % 4 ≠ 0) (j : Fin 1024) :
    (st m c t.val t.isLt).2.2 (ix2 a j)
      = (st m c (t.val - 1) (by omega)).2.2 (ix2 a j) + (dhPart X DY G W1 W2 t a j : EReal) := by
  rw [st_pos m c t fun hz => h0 (by rw [hz])]
  simp only [step, accOut, mt (cond2_iff t).mp h0, if_false]
  exact pay_acc h t a _ j

/-- The accumulator after a row block's last point: the cotangent of the block's normed rows. -/
theorem acc_last (h3 : t.val % 4 = 3) (j : Fin 1024) :
    (st m c t.val t.isLt).2.2 (ix2 a j) = (ffnDh X DY G W1 W2 (rowOf t a) j : EReal) := by
  have hN : cfg0.N = 32 := rfl
  have ht := t.isLt
  have e3 := acc_next h t a (by omega) j
  have e2 := acc_next h ⟨t.val - 1, by omega⟩ a (show (t.val - 1) % 4 ≠ 0 by omega) j
  have e1 := acc_next h ⟨t.val - 1 - 1, by omega⟩ a (show (t.val - 1 - 1) % 4 ≠ 0 by omega) j
  have e0 := acc_first h ⟨t.val - 1 - 1 - 1, by omega⟩ a (show (t.val - 1 - 1 - 1) % 4 = 0 by omega) j
  dsimp only at e2 e1 e0
  rw [e3, e2, e1, e0, add_real, add_real, add_real]
  refine congrArg _ ?_
  unfold ffnDh
  rw [← sum_blocks (N := 4) (n := 1024) rfl, Fin.sum_univ_four]
  have r : ∀ k : ℕ, k ≤ 3 → ∀ hk, rowOf ⟨t.val - k, hk⟩ a = rowOf t a := fun k hk _ => Fin.ext (by
    show (t.val - k) / 4 * 512 + a.val = t.val / 4 * 512 + a.val
    rw [show (t.val - k) / 4 = t.val / 4 by omega])
  have q : ∀ s : Fin cfg0.N, ∀ (p : Fin 4) (hp : s.val % 4 = p.val), rowOf s a = rowOf t a →
      dhPart X DY G W1 W2 s a j = ∑ f : Fin 1024, ffnDz X DY G W1 W2 (rowOf t a) ⟨p.val * 1024 + f.val, by omega⟩
        * W1 j ⟨p.val * 1024 + f.val, by omega⟩ := fun s p hp hr => by
    unfold dhPart
    refine Finset.sum_congr rfl fun f _ => ?_
    have : colOf s f = ⟨p.val * 1024 + f.val, by omega⟩ := Fin.ext (by
      show s.val % 4 * 1024 + f.val = _
      rw [hp])
    rw [this, hr]
  rw [q ⟨t.val - 1 - 1 - 1, by omega⟩ 0 (show (t.val - 1 - 1 - 1) % 4 = 0 by omega) (r 3 (by omega) _),
    q ⟨t.val - 1 - 1, by omega⟩ 1 (show (t.val - 1 - 1) % 4 = 1 by omega) (r 2 (by omega) _),
    q ⟨t.val - 1, by omega⟩ 2 (show (t.val - 1) % 4 = 2 by omega) (r 1 (by omega) _),
    q t 3 h3 rfl]

/-- The transposed normed input, from a row block's first point to its last. -/
theorem h_last (h3 : t.val % 4 = 3) (k : Fin 1024) : (st m c t.val t.isLt).1 (ix2 k a) = (ffnH X G (rowOf t a) k : EReal) := by
  have hN : cfg0.N = 32 := rfl
  have ht := t.isLt
  have up : ∀ s : Fin cfg0.N, s.val % 4 ≠ 0 → (st m c s.val s.isLt).1 = (st m c (s.val - 1) (by omega)).1 := fun s hs => by
    rw [st_pos m c s fun hz => hs (by rw [hz])]
    simp only [step, hOut, mt (cond2_iff s).mp hs, if_false]
  have e3 := up t (by omega)
  have e2 := up ⟨t.val - 1, by omega⟩ (show (t.val - 1) % 4 ≠ 0 by omega)
  have e1 := up ⟨t.val - 1 - 1, by omega⟩ (show (t.val - 1 - 1) % 4 ≠ 0 by omega)
  have h0 : (t.val - 1 - 1 - 1) % 4 = 0 := by omega
  have e0 : (st m c (t.val - 1 - 1 - 1) (by omega)).1
      = k0_pay9 (iblk m c 2 ⟨t.val - 1 - 1 - 1, by omega⟩) (iblk m c 4 ⟨t.val - 1 - 1 - 1, by omega⟩) := by
    rw [st_reset m c ⟨t.val - 1 - 1 - 1, by omega⟩ h0 ((st m c t.val t.isLt).1, (st m c (t.val - 1 - 1 - 1 - 1) (by omega)).2) fun _ => rfl]
    simp only [step, hOut, (cond2_iff ⟨t.val - 1 - 1 - 1, by omega⟩).mpr h0, if_true]
  dsimp only at e2 e1
  rw [e3, e2, e1, e0, pay_h h]
  have : rowOf ⟨t.val - 1 - 1 - 1, by omega⟩ a = rowOf t a := Fin.ext (by
    show (t.val - 1 - 1 - 1) / 4 * 512 + a.val = t.val / 4 * 512 + a.val
    rw [show (t.val - 1 - 1 - 1) / 4 = t.val / 4 by omega])
  rw [this]

omit a

/-- A row block's share of the gain's gradient, at the block's last point. -/
theorem dg_last (h3 : t.val % 4 = 3) (j : Fin 1024) :
    (st m c t.val t.isLt).2.1 (ix2 0 j) = (if t.val = 3 then ((0 : ℝ) : EReal) else (st m c (t.val - 4) (by omega)).2.1 (ix2 0 j))
      + ((∑ a : Fin 512, ffnDh X DY G W1 W2 (rowOf t a) j * (X (rowOf t a) j * rn (X (rowOf t a))) : ℝ) : EReal) := by
  have hN : cfg0.N = 32 := rfl
  have ht := t.isLt
  have hz : t.val ≠ 0 := fun hz => by omega
  have e : (st m c t.val t.isLt).2.1
      = k0_pay6 (iblk m c 2 t) (st m c t.val t.isLt).2.2 (st m c (t.val - 1) (by omega)).2.1 := by
    rw [st_pos m c t hz]
    simp only [step, dgOut, dgIn, (cond3_iff t).mpr h3, mt (cond1_iff t).mp hz, if_true, if_false]
  have up : ∀ s : Fin cfg0.N, s.val ≠ 0 → s.val % 4 ≠ 3 → (st m c s.val s.isLt).2.1 = (st m c (s.val - 1) (by omega)).2.1 := fun s hs h3 => by
    rw [st_pos m c s hs]
    simp only [step, dgOut, dgIn, mt (cond3_iff s).mp h3, mt (cond1_iff s).mp hs, if_false]
  have e2 := up ⟨t.val - 1, by omega⟩ (show t.val - 1 ≠ 0 by omega) (show (t.val - 1) % 4 ≠ 3 by omega)
  have e1 := up ⟨t.val - 1 - 1, by omega⟩ (show t.val - 1 - 1 ≠ 0 by omega) (show (t.val - 1 - 1) % 4 ≠ 3 by omega)
  dsimp only at e2 e1
  rw [e, pay_dg h t _ (fun a k => ffnDh X DY G W1 W2 (rowOf t a) k) (fun a k => acc_last h t a h3 k), e2, e1]
  congr 1
  split
  · next h33 =>
    have e0 : (st m c (t.val - 1 - 1 - 1) (by omega)).2.1 = k0_pay8 (F := Ideal) := by
      have h0 : t.val - 1 - 1 - 1 = 0 := by omega
      rw [st_reset m c ⟨t.val - 1 - 1 - 1, by omega⟩ (show (t.val - 1 - 1 - 1) % 4 = 0 by omega) (st m c t.val t.isLt) fun hn => absurd h0 hn]
      simp only [step, dgOut, dgIn, (cond1_iff ⟨t.val - 1 - 1 - 1, by omega⟩).mpr h0,
        mt (cond3_iff ⟨t.val - 1 - 1 - 1, by omega⟩).mp (show (t.val - 1 - 1 - 1) % 4 ≠ 3 by omega), if_true, if_false]
    rw [e0]
    unfold k0_pay8
    pointwise
    exact EReal.coe_zero.symm
  · next h33 =>
    have e0 := up ⟨t.val - 1 - 1 - 1, by omega⟩ (show t.val - 1 - 1 - 1 ≠ 0 by omega) (show (t.val - 1 - 1 - 1) % 4 ≠ 3 by omega)
    dsimp only at e0
    have q : ∀ n hn n' hn', n = n' → st m c n hn = st m c n' hn' := by rintro n _ _ _ rfl; rfl
    rw [e0]
    exact congrArg (fun p => p.2.1 (ix2 0 j)) (q (t.val - 1 - 1 - 1 - 1) _ (t.val - 4) _ (by omega))

/-- The gain's gradient after the last point. -/
theorem dg_all (j : Fin 1024) : (st m c 31 (by decide)).2.1 (ix2 0 j) = (ffnDg X DY G W1 W2 j : EReal) := by
  have e : ∀ t : Fin cfg0.N, ∀ h3 : t.val % 4 = 3, _ := fun t h3 => dg_last h t h3 j
  have e0 := e ⟨3, by decide⟩ rfl
  have e1 := e ⟨7, by decide⟩ rfl
  have e2 := e ⟨11, by decide⟩ rfl
  have e3 := e ⟨15, by decide⟩ rfl
  have e4 := e ⟨19, by decide⟩ rfl
  have e5 := e ⟨23, by decide⟩ rfl
  have e6 := e ⟨27, by decide⟩ rfl
  have e7 := e ⟨31, by decide⟩ rfl
  simp only [Nat.reduceSub, Nat.reduceEqDiff, if_true, if_false] at e0 e1 e2 e3 e4 e5 e6 e7
  rw [e7, e6, e5, e4, e3, e2, e1, e0]
  simp only [add_real]
  refine congrArg _ ?_
  unfold ffnDg
  rw [← sum_blocks (N := 8) (n := 512) rfl, Fin.sum_univ_eight, zero_add]
  rfl

/-- The first result: the cotangent of the layer's input. -/
theorem out_dx : (dats m 0 c).arrAt 7 cfg0.N = fun i => (ffnDx X DY G W1 W2 (i 0) (i 1) : EReal) := by
  refine (dats m 0 c).arrAt_eq_of_covers 7 _ (by decide +kernel) fun t hf y => ?_
  have h3 : t.val % 4 = 3 := of_decide_eq_true ((flush7 t).symm.trans hf)
  blk_simp
  rw [after0_7, eq_ix2 y]
  refine (pay_dx h t _ _ _ (fun k => acc_last h t _ h3 k) _).trans ?_
  have e0 : (((View.whole main_v25_0).slice (win0_7.rect t)).emb y 0) = rowOf t (y 0) := Fin.ext (by blk_simp [idx t]; rfl)
  have e1 : (((View.whole main_v25_0).slice (win0_7.rect t)).emb y 1) = y 1 := Fin.ext (by blk_simp [idx t])
  rw [← eq_ix2 y, e0, e1]
  rfl

/-- The second result: the same cotangent in the narrow format. -/
theorem out_dxb : (dats m 0 c).arrAt 8 cfg0.N = fun i => (ffnDx X DY G W1 W2 (i 0) (i 1) : EReal) := by
  refine (dats m 0 c).arrAt_eq_of_covers 8 _ (by decide +kernel) fun t hf y => ?_
  have h3 : t.val % 4 = 3 := of_decide_eq_true ((flush8 t).symm.trans hf)
  blk_simp
  rw [after0_8, eq_ix2 y]
  refine (pay_dx h t _ _ _ (fun k => acc_last h t _ h3 k) _).trans ?_
  have e0 : (((View.whole main_v25_1).slice (win0_8.rect t)).emb y 0) = rowOf t (y 0) := Fin.ext (by blk_simp [idx t]; rfl)
  have e1 : (((View.whole main_v25_1).slice (win0_8.rect t)).emb y 1) = y 1 := Fin.ext (by blk_simp [idx t])
  rw [← eq_ix2 y, e0, e1]
  rfl

/-- The third result: the cotangent of the hidden layer before its squared relu. -/
theorem out_dz : (dats m 0 c).arrAt 9 cfg0.N = fun i => (ffnDz X DY G W1 W2 (i 0) (i 1) : EReal) := by
  refine (dats m 0 c).arrAt_eq_of_covers 9 _ (by decide +kernel) fun t hf y => ?_
  blk_simp
  rw [after0_9, eq_ix2 y]
  refine (pay_dz h t _ _).trans ?_
  have e0 : (((View.whole main_v25_2).slice (win0_9.rect t)).emb y 0) = rowOf t (y 0) := Fin.ext (by blk_simp [idx t]; rfl)
  have e1 : (((View.whole main_v25_2).slice (win0_9.rect t)).emb y 1) = colOf t (y 1) := Fin.ext (by blk_simp [idx t]; rfl)
  rw [← eq_ix2 y, e0, e1]

/-- The fourth result: the hidden layer, transposed. -/
theorem out_f : (dats m 0 c).arrAt 10 cfg0.N = fun i => (ffnF X G W1 (i 1) (i 0) : EReal) := by
  refine (dats m 0 c).arrAt_eq_of_covers 10 _ (by decide +kernel) fun t hf y => ?_
  blk_simp
  rw [after0_10, eq_ix2 y]
  refine (pay_f h t _ _).trans ?_
  have e0 : (((View.whole main_v25_3).slice (win0_10.rect t)).emb y 0) = colOf t (y 0) := Fin.ext (by blk_simp [idx t]; rfl)
  have e1 : (((View.whole main_v25_3).slice (win0_10.rect t)).emb y 1) = rowOf t (y 1) := Fin.ext (by blk_simp [idx t]; rfl)
  rw [← eq_ix2 y, e0, e1]

/-- The fifth result: the normed input with its gain, transposed. -/
theorem out_h : (dats m 0 c).arrAt 11 cfg0.N = fun i => (ffnH X G (i 1) (i 0) : EReal) := by
  refine (dats m 0 c).arrAt_eq_of_covers 11 _ (by decide +kernel) fun t hf y => ?_
  have h3 : t.val % 4 = 3 := of_decide_eq_true ((flush11 t).symm.trans hf)
  blk_simp
  rw [after0_11, eq_ix2 y]
  refine (h_last h t _ h3 _).trans ?_
  have e0 : (((View.whole main_v25_4).slice (win0_11.rect t)).emb y 0) = y 0 := Fin.ext (by blk_simp [idx t])
  have e1 : (((View.whole main_v25_4).slice (win0_11.rect t)).emb y 1) = rowOf t (y 1) := Fin.ext (by blk_simp [idx t]; rfl)
  rw [← eq_ix2 y, e0, e1]

/-- The sixth result: the gain's gradient. -/
theorem out_dg : (dats m 0 c).arrAt 12 cfg0.N = fun i => (ffnDg X DY G W1 W2 (i 1) : EReal) := by
  refine (dats m 0 c).arrAt_eq_of_after_last 12 tLast (by decide +kernel) _ fun j => ?_
  blk_simp
  rw [after0_12, eq_ix2_row j]
  exact dg_all h (j 1)

end Real

end Cert.FfnBwdIdeal.Hand

end
-- ==== Proof.FfnRef.lean ====
/- The reference of the feed-forward layer's backward call over the ideal floats and finite arguments: the real numbers
   its results are. -/
module

public import proofs.«01_k».proof.Proof.Gen.FfnBwdRefIdeal.Read
public import proofs.«01_k».proof.Proof.FfnKernel
public import proofs.«01_k».proof.Proof.Reduce

@[expose] public section

set_option maxRecDepth 16384

noncomputable section

namespace Cert.FfnBwdRefIdeal.Hand

open Cert.FfnBwdRefIdeal Cert.FfnBwdRefIdeal.Gen Cert.FfnBwdRefIdeal.Read Idealize.ShloMosaic Idealize.ShloMosaic.TcCoe Cert.Reals

variable {X DY : Fin 4096 → Fin 1024 → ℝ} {G : Fin 1024 → ℝ} {W1 : Fin 1024 → Fin 4096 → ℝ} {W2 : Fin 4096 → Fin 1024 → ℝ}
variable {x0 x4 : FVec Ideal S1x4096x1024 .f32} {x1 : FVec Ideal S1024 .f32} {x2 : FVec Ideal S1024x4096 .f32}
  {x3 : FVec Ideal S4096x1024 .f32}

section
variable (hx : ∀ t k, x0 (ix3 0 t k) = (X t k : EReal))
include hx

theorem r_v6 (t : Fin 4096) : val_main_v6 (F := Ideal) x0 (ix3 0 t 0) = (ms (X t) : EReal) := by
  unfold val_main_v6 val_main_v5 val_main_v4 val_main_v3 val_main_v2 val_main_v1 val_main_v0 val_main_cst val_main_cst_0 val_main_cst_1
  pointwise
  simp (disch := norm_num) only [hx, c1024, ceps, add_real, mul_real, sum_real, div_real]
  rfl

theorem r_v7 (t : Fin 4096) : val_main_v7 (F := Ideal) x0 (ix3 0 t 0) = (rn (X t) : EReal) := by
  unfold val_main_v7
  pointwise
  rw [r_v6 hx]
  exact rsqrt_ms _

theorem r_v10 (t : Fin 4096) : val_main_v10 (F := Ideal) x0 (ix3 0 t 0) = (-(1 / 2) * (rn (X t) / ms (X t)) : ℝ) := by
  unfold val_main_v10 val_main_v9 val_main_cst_2 val_main_v8
  pointwise
  rw [r_v6 hx, r_v7 hx, div_real (ms_pos _).ne', cneghalf, mul_real]

variable (hg : ∀ k, x1 (ix1 k) = (G k : EReal))
include hg

theorem r_v15 (t : Fin 4096) (j : Fin 1024) : val_main_v15 (F := Ideal) x0 x1 (ix3 0 t j) = (ffnH X G t j : EReal) := by
  unfold val_main_v15 val_main_v14 val_main_v13 val_main_v12 val_main_v11
  pointwise
  simp only [hx, hg, r_v7 hx, mul_real]
  rfl

variable (hw1 : ∀ k f, x2 (ix2 k f) = (W1 k f : EReal))
include hw1

theorem r_v16 (t f : Fin 4096) : val_main_v16 (F := Ideal) x0 x1 x2 (ix3 0 t f) = (ffnZ X G W1 t f : EReal) := by
  unfold val_main_v16
  pointwise
  simp only [hw1, r_v15 hx hg, mul_real, sum_real]
  rfl

theorem r_v17 (t f : Fin 4096) : val_main_v17 (F := Ideal) x0 x1 x2 (ix3 0 t f) = (max (ffnZ X G W1 t f) 0 : ℝ) := by
  unfold val_main_v17 val_main_call0_v0 val_main_call0_cst
  pointwise
  simp only [r_v16 hx hg hw1]
  rw [← EReal.coe_zero, max_real]

theorem r_v21 (t f : Fin 4096) : val_main_v21 (F := Ideal) x0 x1 x2 (ix3 0 t f) = (ffnF X G W1 t f : EReal) := by
  unfold val_main_v21
  pointwise
  simp only [r_v17 hx hg hw1, mul_real]
  rfl

variable (hw2 : ∀ f k, x3 (ix2 f k) = (W2 f k : EReal)) (hy : ∀ t k, x4 (ix3 0 t k) = (DY t k : EReal))
include hw2 hy

theorem r_v28 (t f : Fin 4096) : val_main_v28 (F := Ideal) x0 x1 x2 x3 x4 (ix3 0 t f) = (ffnDz X DY G W1 W2 t f : EReal) := by
  unfold val_main_v28 val_main_v27 val_main_v26 val_main_v23 val_main_v22 val_main_cst_5
  pointwise
  simp only [r_v17 hx hg hw1, hw2, hy, c2, mul_real, sum_real]
  rfl

/-- The product's cotangent where the relu is positive, zero elsewhere: twice the relu is zero there as well. -/
theorem r_v30 (t f : Fin 4096) : val_main_v30 (F := Ideal) x0 x1 x2 x3 x4 (ix3 0 t f) = (ffnDz X DY G W1 W2 t f : EReal) := by
  unfold val_main_v30 val_main_v29 val_main_cst_6 val_main_v19 val_main_v18 val_main_cst_3
  pointwise
  simp only [r_v16 hx hg hw1, r_v28 hx hg hw1 hw2 hy, c0]
  split
  · rfl
  · next hz =>
    have h0 : ffnZ X G W1 t f ≤ 0 := not_lt.mp fun h => hz (EReal.coe_pos.mpr h)
    rw [ffnDz, max_eq_right h0, mul_zero, mul_zero, EReal.coe_zero]

theorem r_v31 (t : Fin 4096) (j : Fin 1024) : val_main_v31 (F := Ideal) x0 x1 x2 x3 x4 (ix3 0 t j) = (ffnDh X DY G W1 W2 t j : EReal) := by
  unfold val_main_v31
  pointwise
  simp only [hw1, r_v30 hx hg hw1 hw2 hy, mul_real, sum_real]
  rfl

theorem r_v43 (t : Fin 4096) : val_main_v45 (F := Ideal) x0 x1 x2 x3 x4 (ix3 0 t 0)
    = ((∑ k, X t k * (ffnDh X DY G W1 W2 t k * G k)) * (rn (X t) / ms (X t) * (-(1 / 2))) / 1024 : ℝ) := by
  unfold val_main_v45 val_main_v44 val_main_cst_10 val_main_v43 val_main_v40 val_main_v39 val_main_cst_9 val_main_v38 val_main_v36 val_main_v35 val_main_v13
  pointwise
  simp (disch := norm_num) only [hx, hg, r_v31 hx hg hw1 hw2 hy, r_v10 hx, c1024, mul_real, sum_real, div_real]
  congr 1
  ring

theorem r_v46 (t : Fin 4096) : val_main_v46 (F := Ideal) x0 x1 x2 x3 x4 (ix1 t) = val_main_v45 (F := Ideal) x0 x1 x2 x3 x4 (ix3 0 t 0) := by
  unfold val_main_v46 val_main_cst_11
  pointwise
  exact Fin.sum_univ_one _

theorem r_v37 (j : Fin 1024) : val_main_v37 (F := Ideal) x0 x1 x2 x3 x4 (ix1 j) = (ffnDg X DY G W1 W2 j : EReal) := by
  unfold val_main_v37 val_main_v34 val_main_v33 val_main_v32 val_main_v12 val_main_v11 val_main_cst_7 val_main_cst_8
  pointwise
  refine (Fin.sum_univ_one _).trans ?_
  simp only [hx, r_v7 hx, r_v31 hx hg hw1 hw2 hy, mul_real, sum_real]
  congr 1
  refine Finset.sum_congr rfl fun t _ => ?_
  ring

/-- The first result. -/
theorem r_v54 (t : Fin 4096) (j : Fin 1024) : val_main_v54 (F := Ideal) x0 x1 x2 x3 x4 (ix2 t j) = (ffnDx X DY G W1 W2 t j : EReal) := by
  unfold val_main_v54 val_main_v53 val_main_v52 val_main_v51 val_main_v50 val_main_v49 val_main_v48 val_main_v47 val_main_v42 val_main_v41 val_main_v36 val_main_v35 val_main_v13
  pointwise
  simp only [hx, hg, hy, r_v7 hx, r_v31 hx hg hw1 hw2 hy, r_v46 hx hg hw1 hw2 hy, r_v43 hx hg hw1 hw2 hy, add_real, mul_real]
  rw [ffnDx, rmsBwd_eq]
  congr 1
  ring

/-- The second result, over the ideal floats the same numbers. -/
theorem r_v55 : val_main_v55 (F := Ideal) x0 x1 x2 x3 x4 = val_main_v54 (F := Ideal) x0 x1 x2 x3 x4 := rfl

/-- The third result. -/
theorem r_v57 (t f : Fin 4096) : val_main_v57 (F := Ideal) x0 x1 x2 x3 x4 (ix2 t f) = (ffnDz X DY G W1 W2 t f : EReal) := by
  unfold val_main_v57 val_main_v56
  pointwise
  exact r_v30 hx hg hw1 hw2 hy t f

omit hw2 hy in
/-- The fourth result. -/
theorem r_v60 (f t : Fin 4096) : val_main_v60 (F := Ideal) x0 x1 x2 (ix2 f t) = (ffnF X G W1 t f : EReal) := by
  unfold val_main_v60 val_main_v59 val_main_v58
  pointwise
  exact r_v21 hx hg hw1 t f

omit hw1 hw2 hy in
/-- The fifth result. -/
theorem r_v63 (k : Fin 1024) (t : Fin 4096) : val_main_v63 (F := Ideal) x0 x1 (ix2 k t) = (ffnH X G t k : EReal) := by
  unfold val_main_v63 val_main_v62 val_main_v61
  pointwise
  exact r_v15 hx hg t k

/-- The sixth result. -/
theorem r_v64 (j : Fin 1024) : val_main_v64 (F := Ideal) x0 x1 x2 x3 x4 (ix2 0 j) = (ffnDg X DY G W1 W2 j : EReal) := by
  unfold val_main_v64
  pointwise
  exact r_v37 hx hg hw1 hw2 hy j

end

end Cert.FfnBwdRefIdeal.Hand

end
-- ==== Proof.FfnClaim.lean ====
/- The feed-forward layer's backward call: on finite arguments the kernel and the reference end with the same real numbers. -/
module

public import proofs.«01_k».proof.Defs
public import proofs.«01_k».proof.Proof.FfnRef
public import proofs.«01_k».proof.Proof.Gen.FfnBwdRefIdeal.Run
public import proofs.«01_k».proof.Proof.Gen.Pre_ffn_bwd_finite

@[expose] public section

set_option maxRecDepth 16384

noncomputable section

namespace Cert.FfnClaim

open Idealize.ShloMosaic Idealize.ShloMosaic.TcCoe Idealize.SL.Sem Cert.Reals

/-- Finite arguments are real numbers. -/
theorem args_real (m : (ℓ : Loc FfnBwdIdeal.nD FfnBwdIdeal.τ FfnBwdIdeal.sig) → Buf (Elt Ideal) ℓ)
    (h : Cert.Pre_FfnBwdIdeal_ffn_bwd_finite m) (c : Dev FfnBwdIdeal.nD) :
    ∃ X DY G W1 W2, FfnBwdIdeal.Hand.Args m c X DY G W1 W2 := by
  obtain ⟨X, hX⟩ := real_of_finite _ _ (fun _ => rfl) (h c).1
  obtain ⟨G, hG⟩ := real_of_finite _ _ (fun _ => rfl) (h c).2.1
  obtain ⟨W1, hW1⟩ := real_of_finite _ _ (fun _ => rfl) (h c).2.2.1
  obtain ⟨W2, hW2⟩ := real_of_finite _ _ (fun _ => rfl) (h c).2.2.2.1
  obtain ⟨Y, hY⟩ := real_of_finite _ _ (fun _ => rfl) (h c).2.2.2.2
  exact ⟨fun t k => X (ix3 0 t k), fun t k => Y (ix3 0 t k), fun k => G (ix1 k), fun k f => W1 (ix2 k f), fun f k => W2 (ix2 f k),
    ⟨fun t k => congrFun hX _, fun k => congrFun hG _, fun k f => congrFun hW1 _, fun f k => congrFun hW2 _, fun t k => congrFun hY _⟩⟩

set_option maxHeartbeats 4000000 in
/-- The two programs' results agree. -/
theorem algebraic : Cert.algebraic_FfnBwdIdeal_FfnBwdRefIdeal_pre_ffn_bwd_finite := by
  intro m g m' g' hpre hagree
  choose X DY G W1 W2 h using args_real m hpre
  refine ⟨fun c i => (ffnDx (X c) (DY c) (G c) (W1 c) (W2 c) (i 0) (i 1) : EReal),
    fun c i => (ffnDx (X c) (DY c) (G c) (W1 c) (W2 c) (i 0) (i 1) : EReal),
    fun c i => (ffnDz (X c) (DY c) (G c) (W1 c) (W2 c) (i 0) (i 1) : EReal), fun c i => (ffnF (X c) (G c) (W1 c) (i 1) (i 0) : EReal),
    fun c i => (ffnH (X c) (G c) (i 1) (i 0) : EReal), fun c i => (ffnDg (X c) (DY c) (G c) (W1 c) (W2 c) (i 1) : EReal), ?_, ?_⟩
  · refine (θ_run FfnBwdIdeal.defs _ _).mono (fun r hr c => ?_)
      (θ_run_and (FfnBwdIdeal.Hand.run_main (F := Ideal) m g) (FfnBwdIdeal.Hand.frame (F := Ideal) m g))
    have a := (hr.1 c).1
    exact ⟨(a 7).trans (FfnBwdIdeal.Hand.out_dx (h c)), (a 8).trans (FfnBwdIdeal.Hand.out_dxb (h c)),
      (a 9).trans (FfnBwdIdeal.Hand.out_dz (h c)), (a 10).trans (FfnBwdIdeal.Hand.out_f (h c)),
      (a 11).trans (FfnBwdIdeal.Hand.out_h (h c)), (a 12).trans (FfnBwdIdeal.Hand.out_dg (h c)), hr.2.1 c⟩
  · refine (θ_run FfnBwdRefIdeal.defs _ _).mono (fun r hr c => ?_) (FfnBwdRefIdeal.Value.run (F := Ideal) m' g')
    obtain ⟨h0, h1, h2, h3, h4, h5, hk⟩ := hr c
    obtain ⟨e0, e1, e2, e3, e4⟩ := hagree c
    have hx : ∀ t k, (m' ((c.tc : Thread _ _).loc FfnBwdRefIdeal.main_arg0)) (ix3 0 t k) = (X c t k : EReal) := fun t k =>
      (congrFun e0 _).trans ((h c).x t k)
    have hg : ∀ k, (m' ((c.tc : Thread _ _).loc FfnBwdRefIdeal.main_arg1)) (ix1 k) = (G c k : EReal) := fun k =>
      (congrFun e1 _).trans ((h c).g k)
    have hw1 : ∀ k f, (m' ((c.tc : Thread _ _).loc FfnBwdRefIdeal.main_arg2)) (ix2 k f) = (W1 c k f : EReal) := fun k f =>
      (congrFun e2 _).trans ((h c).w1 k f)
    have hw2 : ∀ f k, (m' ((c.tc : Thread _ _).loc FfnBwdRefIdeal.main_arg3)) (ix2 f k) = (W2 c f k : EReal) := fun f k =>
      (congrFun e3 _).trans ((h c).w2 f k)
    have hy : ∀ t k, (m' ((c.tc : Thread _ _).loc FfnBwdRefIdeal.main_arg4)) (ix3 0 t k) = (DY c t k : EReal) := fun t k =>
      (congrFun e4 _).trans ((h c).dy t k)
    have hdx : FfnBwdRefIdeal.Read.val_main_v54 (F := Ideal) _ _ _ _ _
        = fun i => (ffnDx (X c) (DY c) (G c) (W1 c) (W2 c) (i 0) (i 1) : EReal) :=
      funext fun i => (congrArg _ (eq_ix2 i)).trans (FfnBwdRefIdeal.Hand.r_v54 hx hg hw1 hw2 hy (i 0) (i 1))
    have hdz : FfnBwdRefIdeal.Read.val_main_v57 (F := Ideal) _ _ _ _ _
        = fun i => (ffnDz (X c) (DY c) (G c) (W1 c) (W2 c) (i 0) (i 1) : EReal) :=
      funext fun i => (congrArg _ (eq_ix2 i)).trans (FfnBwdRefIdeal.Hand.r_v57 hx hg hw1 hw2 hy (i 0) (i 1))
    have hf : FfnBwdRefIdeal.Read.val_main_v60 (F := Ideal) _ _ _ = fun i => (ffnF (X c) (G c) (W1 c) (i 1) (i 0) : EReal) :=
      funext fun i => (congrArg _ (eq_ix2 i)).trans (FfnBwdRefIdeal.Hand.r_v60 hx hg hw1 (i 0) (i 1))
    have hh : FfnBwdRefIdeal.Read.val_main_v63 (F := Ideal) _ _ = fun i => (ffnH (X c) (G c) (i 1) (i 0) : EReal) :=
      funext fun i => (congrArg _ (eq_ix2 i)).trans (FfnBwdRefIdeal.Hand.r_v63 hx hg (i 0) (i 1))
    have hdg : FfnBwdRefIdeal.Read.val_main_v64 (F := Ideal) _ _ _ _ _
        = fun i => (ffnDg (X c) (DY c) (G c) (W1 c) (W2 c) (i 1) : EReal) :=
      funext fun i => (congrArg _ (eq_ix2_row i)).trans (FfnBwdRefIdeal.Hand.r_v64 hx hg hw1 hw2 hy (i 1))
    exact ⟨h0.trans ((FfnBwdRefIdeal.Read.val_main_v54_eq m' c).trans hdx), h1.trans ((FfnBwdRefIdeal.Read.val_main_v55_eq m' c).trans hdx),
      h2.trans ((FfnBwdRefIdeal.Read.val_main_v57_eq _ _ _ _ _).trans hdz),
      h3.trans ((FfnBwdRefIdeal.Read.val_main_v60_eq _ _ _).trans hf),
      h4.trans ((FfnBwdRefIdeal.Read.val_main_v63_eq _ _).trans hh),
      h5.trans ((FfnBwdRefIdeal.Read.val_main_v64_eq _ _ _ _ _).trans hdg), hk⟩

end Cert.FfnClaim

end
-- ==== Proof.MixReal.lean ====
/- The token mixers over the real numbers: the forward lines, and their derivative for a cotangent of the layer's output. -/
module

public import proofs.«01_k».proof.Proof.Norms

@[expose] public section

noncomputable section

namespace Cert.Reals

open Idealize.ShloMosaic

/-! ## Functions of one number -/

/-- The error function. -/
def erfR (r : ℝ) : ℝ := 2 / Real.sqrt Real.pi * ∫ t in (0 : ℝ)..r, Real.exp (-(t ^ 2))

theorem erf_real (r : ℝ) : Ideal.erf (r : EReal) = (erfR r : EReal) := Ideal.erf_coe r

theorem erfR_neg (r : ℝ) : erfR (-r) = -erfR r := by
  have h := Ideal.erf_neg (r : EReal)
  rw [neg_real, erf_real, erf_real, neg_real] at h
  exact EReal.coe_injective h

theorem erfc_real (r : ℝ) : Ideal.erfc (-(r : EReal)) = ((1 + erfR r : ℝ) : EReal) := by
  rw [Ideal.erfc_neg, erf_real, show (1 : EReal) = ((1 : ℝ) : EReal) from EReal.coe_one.symm, add_real]

theorem exp_real (r : ℝ) : Ideal.exp (r : EReal) = (Real.exp r : EReal) := Ideal.exp_coe r

/-- The float next to the reciprocal root of two. -/
def cr : ℝ := 0x3504F3 * (2 ^ 24)⁻¹ + (2 : ℝ)⁻¹

/-- The float next to the error function's slope at zero. -/
def ck : ℝ := 0x106EBB * (2 ^ 23)⁻¹ + 1

/-- The Gaussian's distribution function, with the float `cr` for the reciprocal root of two. -/
def cdf (x : ℝ) : ℝ := 1 / 2 * (1 + erfR (cr * x))

/-- The Gaussian's bell as the error function's floats give it. -/
def bell (x : ℝ) : ℝ := 1 / 2 * (Real.exp (-(cr * x * (cr * x))) * ck) * cr

/-- The gated linear unit by the Gaussian. -/
def gl (x : ℝ) : ℝ := x * cdf x

/-- Its derivative. -/
def gd (x : ℝ) : ℝ := cdf x + x * bell x

/-- The logistic function. -/
def sig (x : ℝ) : ℝ := 1 / (1 + Real.exp (-x))

theorem sig_pos (x : ℝ) : 1 + Real.exp (-x) ≠ 0 := (add_pos one_pos (Real.exp_pos _)).ne'

/-! ## The layer norm of one row -/

section Ln

variable {n : ℕ} (d : ℝ) (x dy : Fin n → ℝ)

/-- The row's distance from its mean. -/
def cen (j : Fin n) : ℝ := x j - (∑ k, x k) / d

/-- The row's variance plus epsilon. -/
def var : ℝ := (∑ k, cen d x k * cen d x k) / d + eps

/-- The reciprocal root of the variance. -/
def lrs : ℝ := (Real.sqrt (var d x))⁻¹

/-- The normed row. -/
def hat (j : Fin n) : ℝ := cen d x j * lrs d x

/-- The cotangent of the row for the cotangent `dy` of the normed row. -/
def lnBwd (j : Fin n) : ℝ := lrs d x * (dy j - (∑ k, dy k) / d - hat d x j * ((∑ k, dy k * hat d x k) / d))

variable {d}

theorem var_pos (hd : 0 < d) : 0 < var d x :=
  add_pos_of_nonneg_of_pos (div_nonneg (Finset.sum_nonneg fun k _ => mul_self_nonneg _) hd.le) eps_pos

theorem rsqrt_var (hd : 0 < d) : Ideal.rsqrt (((∑ k, cen d x k * cen d x k) / d + eps : ℝ) : EReal) = (lrs d x : EReal) :=
  rsqrt_real (var_pos x hd)

/-- The same with the distances written out. -/
theorem rsqrt_lines (hd : 0 < d) :
    Ideal.rsqrt (((∑ k, (x k - (∑ k, x k) / d) * (x k - (∑ k, x k) / d)) / d + eps : ℝ) : EReal) = (lrs d x : EReal) := rsqrt_var x hd

theorem var_ne (hd : 0 < d) : (∑ k, cen d x k * cen d x k) / d + eps ≠ 0 := (var_pos x hd).ne'

theorem lrs_div_var (hd : 0 < d) : lrs d x / var d x = lrs d x * (lrs d x * lrs d x) := by
  have h : lrs d x * lrs d x = (var d x)⁻¹ := by
    unfold lrs
    rw [← mul_inv, Real.mul_self_sqrt (var_pos x hd).le]
  rw [h, div_eq_mul_inv]

/-- The distances from the mean sum to zero. -/
theorem sum_cen (hn : (n : ℝ) = d) (hd : 0 < d) : ∑ k, cen d x k = 0 := by
  unfold cen
  rw [Finset.sum_sub_distrib, Finset.sum_const, Finset.card_univ, Fintype.card_fin, nsmul_eq_mul, hn, mul_div_cancel₀ _ hd.ne', sub_self]

/-- The same cotangent as differentiating the norm's lines one by one gives it: through the factor, the variance and the
    mean. -/
theorem lnBwd_eq (hn : (n : ℝ) = d) (hd : 0 < d) (j : Fin n) :
    lnBwd d x dy j
      = dy j * lrs d x + (∑ k, cen d x k * dy k) * (-(1 / 2) * (lrs d x / var d x)) / d * (2 * cen d x j)
        + (∑ k, -(dy k * lrs d x)
          + ∑ k, -((∑ k, cen d x k * dy k) * (-(1 / 2) * (lrs d x / var d x)) / d * (2 * cen d x k))) / d := by
  have h1 : ∑ k, dy k * hat d x k = (∑ k, cen d x k * dy k) * lrs d x := by
    rw [Finset.sum_mul]
    exact Finset.sum_congr rfl fun k _ => by unfold hat; ring
  have h2 : ∀ C : ℝ, ∑ k, -(C * (2 * cen d x k)) = 0 := fun C => by
    rw [Finset.sum_neg_distrib, ← Finset.mul_sum, ← Finset.mul_sum, sum_cen x hn hd]
    ring
  have h3 : ∑ k, -(dy k * lrs d x) = -((∑ k, dy k) * lrs d x) := by
    rw [Finset.sum_neg_distrib, Finset.sum_mul]
  rw [h2, h3, lrs_div_var x hd]
  unfold lnBwd
  rw [h1]
  unfold hat
  ring

end Ln

/-! ## The layer -/

/-- The call's arguments: the layer's input and parameters and the cotangent of its output. -/
structure Mix where
  x : Fin 4096 → Fin 1024 → ℝ
  g1 : Fin 1024 → ℝ
  win : Fin 1024 → Fin 2048 → ℝ
  lg : Fin 512 → ℝ
  lb : Fin 512 → ℝ
  ws : Fin 4 → Fin 128 → Fin 128 → ℝ
  bs : Fin 4 → Fin 128 → ℝ
  cw : Fin 31 → Fin 512 → ℝ
  cb : Fin 512 → ℝ
  cg : Fin 512 → ℝ
  ce : Fin 512 → ℝ
  wo : Fin 1024 → Fin 1024 → ℝ
  dy : Fin 4096 → Fin 1024 → ℝ

/-- Column `j` of part `p` of the projection. -/
def col (p : Fin 4) (j : Fin 512) : Fin 2048 := ⟨p.val * 512 + j.val, by omega⟩

theorem col0 (j : Fin 512) : (⟨j.val, by omega⟩ : Fin 2048) = col 0 j := Fin.ext (by simp [col])
theorem col1 (j : Fin 512) (h) : (⟨512 + j.val, h⟩ : Fin 2048) = col 1 j := Fin.ext (by simp [col])
theorem col2 (j : Fin 512) (h) : (⟨1024 + j.val, h⟩ : Fin 2048) = col 2 j := Fin.ext (by simp [col])
theorem col3 (j : Fin 512) (h) : (⟨1536 + j.val, h⟩ : Fin 2048) = col 3 j := Fin.ext (by simp [col])

/-- Column `j` of half `p` of the mixers' output. -/
def half (p : Fin 2) (j : Fin 512) : Fin 1024 := ⟨p.val * 512 + j.val, by omega⟩

/-- The head of a column. -/
def head (j : Fin 512) : Fin 4 := ⟨j.val / 128, by omega⟩

/-- A column's place in its head. -/
def lane (j : Fin 512) : Fin 128 := ⟨j.val % 128, by omega⟩

/-- Column `r` of head `q`. -/
def headCol (q : Fin 4) (r : Fin 128) : Fin 512 := ⟨q.val * 128 + r.val, by omega⟩

/-- A row's place in its chunk. -/
def place (t : Fin 4096) : Fin 128 := ⟨t.val % 128, by omega⟩

/-- A row's chunk. -/
def chunk (t : Fin 4096) : Fin 32 := ⟨t.val / 128, by omega⟩

/-- Row `s` of chunk `q`. -/
def chunkRow (q : Fin 32) (s : Fin 128) : Fin 4096 := ⟨q.val * 128 + s.val, by omega⟩

@[simp] theorem headCol_head_lane (j : Fin 512) : headCol (head j) (lane j) = j := Fin.ext (Nat.div_add_mod' _ _)
@[simp] theorem chunkRow_chunk_place (t : Fin 4096) : chunkRow (chunk t) (place t) = t := Fin.ext (Nat.div_add_mod' _ _)
@[simp] theorem head_headCol (q : Fin 4) (r : Fin 128) : head (headCol q r) = q := Fin.ext (by simp only [head, headCol]; omega)
@[simp] theorem lane_headCol (q : Fin 4) (r : Fin 128) : lane (headCol q r) = r := Fin.ext (by simp only [lane, headCol]; omega)
@[simp] theorem chunk_chunkRow (q : Fin 32) (r : Fin 128) : chunk (chunkRow q r) = q := Fin.ext (by simp only [chunk, chunkRow]; omega)
@[simp] theorem place_chunkRow (q : Fin 32) (r : Fin 128) : place (chunkRow q r) = r := Fin.ext (by simp only [place, chunkRow]; omega)

namespace Mix

variable (A : Mix)

/-! ### Forward -/

/-- The normed input with its gain. -/
def h (t : Fin 4096) (k : Fin 1024) : ℝ := A.x t k * rn (A.x t) * A.g1 k

/-- The projection. -/
def pj (t : Fin 4096) (f : Fin 2048) : ℝ := ∑ k, A.h t k * A.win k f

def u (t : Fin 4096) (j : Fin 512) : ℝ := gl (A.pj t (col 0 j))
def du (t : Fin 4096) (j : Fin 512) : ℝ := gd (A.pj t (col 0 j))
def vg (t : Fin 4096) (j : Fin 512) : ℝ := gl (A.pj t (col 1 j))
def dvg (t : Fin 4096) (j : Fin 512) : ℝ := gd (A.pj t (col 1 j))

/-- The spatial gate's normed rows, and with gain and offset. -/
def vh (t : Fin 4096) (j : Fin 512) : ℝ := hat 512 (A.vg t) j
def v (t : Fin 4096) (j : Fin 512) : ℝ := A.vh t j * A.lg j + A.lb j

/-- The spatial weights on and below the diagonal. -/
def wm (q : Fin 4) (r s : Fin 128) : ℝ := if s ≤ r then A.ws q r s else 0

/-- The spatial gate: the rows of a chunk mixed. -/
def mixed (t : Fin 4096) (j : Fin 512) : ℝ :=
  ∑ s, A.wm (head j) (place t) s * A.v (chunkRow (chunk t) s) j + A.bs (head j) (place t)

def a (t : Fin 4096) (j : Fin 512) : ℝ := A.u t j * A.mixed t j

/-- The convolution's gate and its input. -/
def sg (t : Fin 4096) (j : Fin 512) : ℝ := sig (A.pj t (col 3 j))
def gv (t : Fin 4096) (j : Fin 512) : ℝ := A.pj t (col 2 j) * A.sg t j

/-- The convolution's input after thirty rows of zeros. -/
def gAt (n : ℕ) (j : Fin 512) : ℝ := if h : 30 ≤ n ∧ n < 4126 then A.gv ⟨n - 30, by omega⟩ j else 0

/-- The causal convolution. -/
def cpre (t : Fin 4096) (j : Fin 512) : ℝ := ∑ k : Fin 31, A.gAt (t.val + k.val) j * A.cw k j + A.cb j

/-- A row of one head of the convolution. -/
def cgrp (t : Fin 4096) (q : Fin 4) (r : Fin 128) : ℝ := A.cpre t (headCol q r)

/-- The normed rows of every head, with gain and offset, and their logistic gate. -/
def chh (t : Fin 4096) (j : Fin 512) : ℝ := hat 128 (A.cgrp t (head j)) (lane j)
def cn (t : Fin 4096) (j : Fin 512) : ℝ := A.chh t j * A.cg j + A.ce j
def sc (t : Fin 4096) (j : Fin 512) : ℝ := sig (A.cn t j)
def cout (t : Fin 4096) (j : Fin 512) : ℝ := A.cn t j * A.sc t j

/-- Both mixers' outputs side by side. -/
def mix (t : Fin 4096) (i : Fin 1024) : ℝ :=
  if h : i.val < 512 then A.a t ⟨i.val, h⟩ else A.cout t ⟨i.val - 512, by omega⟩

/-! ### Backward -/

/-- The cotangent of both mixers' outputs. -/
def dmix (t : Fin 4096) (i : Fin 1024) : ℝ := ∑ k, A.dy t k * A.wo i k

def dua (t : Fin 4096) (j : Fin 512) : ℝ := A.dmix t (half 0 j) * A.mixed t j * A.du t j
def dmx (t : Fin 4096) (j : Fin 512) : ℝ := A.dmix t (half 0 j) * A.u t j

/-- The spatial weights' and offsets' gradients. -/
def dws (q : Fin 4) (r s : Fin 128) : ℝ :=
  if s ≤ r then ∑ i : Fin 32, ∑ k : Fin 128, A.dmx (chunkRow i r) (headCol q k) * A.v (chunkRow i s) (headCol q k) else 0
def dbs (q : Fin 4) (r : Fin 128) : ℝ := ∑ i : Fin 32, ∑ k : Fin 128, A.dmx (chunkRow i r) (headCol q k)

def dv (t : Fin 4096) (j : Fin 512) : ℝ := ∑ r, A.wm (head j) r (place t) * A.dmx (chunkRow (chunk t) r) j
def dlg (j : Fin 512) : ℝ := ∑ t, A.dv t j * A.vh t j
def dlb (j : Fin 512) : ℝ := ∑ t, A.dv t j
def dva (t : Fin 4096) (j : Fin 512) : ℝ := lnBwd 512 (A.vg t) (fun k => A.dv t k * A.lg k) j * A.dvg t j

def dcn (t : Fin 4096) (j : Fin 512) : ℝ := A.dmix t (half 1 j) * (A.sc t j * (1 + A.cn t j * (1 - A.sc t j)))
def dcg (j : Fin 512) : ℝ := ∑ t, A.dcn t j * A.chh t j
def dce (j : Fin 512) : ℝ := ∑ t, A.dcn t j
def dcpre (t : Fin 4096) (j : Fin 512) : ℝ :=
  lnBwd 128 (A.cgrp t (head j)) (fun r => A.dcn t (headCol (head j) r) * A.cg (headCol (head j) r)) (lane j)
def dcb (j : Fin 512) : ℝ := ∑ t, A.dcpre t j

/-- The convolution's cotangent, with zeros after the last row. -/
def dcAt (n : ℕ) (j : Fin 512) : ℝ := if h : n < 4096 then A.dcpre ⟨n, h⟩ j else 0

def dcw (k : Fin 31) (j : Fin 512) : ℝ := ∑ t : Fin 4096, A.dcpre t j * A.gAt (t.val + k.val) j
def dg (t : Fin 4096) (j : Fin 512) : ℝ := ∑ k : Fin 31, A.dcAt (t.val + (30 - k.val)) j * A.cw k j
def dvb (t : Fin 4096) (j : Fin 512) : ℝ := A.dg t j * A.sg t j
def dgb (t : Fin 4096) (j : Fin 512) : ℝ := A.dg t j * A.pj t (col 2 j) * A.sg t j * (1 - A.sg t j)

/-- The cotangent of part `p` of the projection. -/
def dpart (p : Fin 4) (t : Fin 4096) (j : Fin 512) : ℝ := ![A.dua t j, A.dva t j, A.dvb t j, A.dgb t j] p

/-- The projection's cotangent. -/
def dpj (t : Fin 4096) (f : Fin 2048) : ℝ := A.dpart ⟨f.val / 512, by omega⟩ t ⟨f.val % 512, by omega⟩

def dh (t : Fin 4096) (k : Fin 1024) : ℝ := ∑ f, A.dpj t f * A.win k f
def dg1 (k : Fin 1024) : ℝ := ∑ t, A.dh t k * (A.x t k * rn (A.x t))
def dx (t : Fin 4096) (k : Fin 1024) : ℝ := A.dy t k + rmsBwd (A.x t) (fun i => A.dh t i * A.g1 i) k

end Mix

end Cert.Reals

end
-- ==== Proof.MixHost.lean ====
/- The arrays that the host computes for the token mixers' backward call, over the ideal floats and finite arguments. -/
module

public import proofs.«01_k».proof.Proof.MixReal
public import proofs.«01_k».proof.Proof.Gen.MixBwdIdeal.Launch
public import proofs.«01_k».proof.Proof.Gen.MixBwdIdeal.Frame.Runs
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.Routing.Ops

@[expose] public section

set_option maxRecDepth 16384

noncomputable section

namespace Cert.Reals

open Idealize.ShloMosaic

theorem c128 : Ideal.ofBits .f32 0x43000000#32 = ((128 : ℝ) : EReal) := by
  simp [Ideal.ofBits, Ideal.ieee, -EReal.coe_mul, -EReal.coe_neg]; norm_num
theorem c512 : Ideal.ofBits .f32 0x44000000#32 = ((512 : ℝ) : EReal) := by
  simp [Ideal.ofBits, Ideal.ieee, -EReal.coe_mul, -EReal.coe_neg]; norm_num
theorem c128inv : Ideal.ofBits .f32 0x3C000000#32 = ((1 / 128 : ℝ) : EReal) := by
  simp [Ideal.ofBits, Ideal.ieee, -EReal.coe_mul, -EReal.coe_neg]; norm_num
theorem c512inv : Ideal.ofBits .f32 0x3B000000#32 = ((1 / 512 : ℝ) : EReal) := by
  simp [Ideal.ofBits, Ideal.ieee, -EReal.coe_mul, -EReal.coe_neg]; norm_num
theorem ccr : Ideal.ofBits .f32 0x3F3504F3#32 = (cr : EReal) := by
  simp [Ideal.ofBits, Ideal.ieee, cr, -EReal.coe_mul, -EReal.coe_add]; norm_num
theorem cck : Ideal.ofBits .f32 0x3F906EBB#32 = (ck : EReal) := by
  simp [Ideal.ofBits, Ideal.ieee, ck, -EReal.coe_mul, -EReal.coe_add]; norm_num

/-- `table[idx]` over the rows of a table: where `idx` holds at `(a, k, 0)` a row number `b`, entry `(a, k, y)` of the result is the
    table's entry `(b, y)`. -/
theorem gather_rows {α : Type} {N B n K : ℕ} (d : GatherDims ⟨2, ![N, B]⟩ ⟨3, ![n, K, 1]⟩ ⟨3, ![n, K, B]⟩) (hoff : d.offsetDims = [2])
    (hcoll : d.collapsedSliceDims = [0]) (hob : d.operandBatchingDims = []) (hsim : d.startIndexMap = [0]) (hivd : d.indexVectorDim = 2)
    (hb0 : d.batchDims = [0, 1])
    (hsk : d.siKept = [0, 1]) (x : (⟨2, ![N, B]⟩ : Shape).Idx → α) (idx : IVec ⟨3, ![n, K, 1]⟩ 32) (a : Fin n) (k : Fin K) (y : Fin B) (b : Fin N)
    (hb : idx (ix3 a k (0 : Fin 1)) = BitVec.ofNat 32 b.val) (hN : N < 2 ^ 31) :
    Host.gather d x idx (ix3 a k y) = x (ix2 b y) := by
  unfold Host.gather
  refine congrArg x (funext fun i => Fin.ext ?_)
  have hbN : ∀ i, i ∉ d.operandBatchingDims := fun i => by rw [hob]; exact List.not_mem_nil
  have e2 : ∀ X : Fin 3, X = 2 → (ix3 a k y X).val = y.val := fun X h => by subst h; rfl
  have e1 : ∀ X : Fin 3, X = 1 → (ix3 a k y X).val = k.val := fun X h => by subst h; rfl
  have e0 : ∀ X : Fin 3, X = 0 → (ix3 a k y X).val = a.val := fun X h => by subst h; rfl
  match i with
  | ⟨0, _⟩ =>
    have hk : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    show d.start (ix3 a k y) idx 0 + d.batchCoord (ix3 a k y) 0 + d.offCoord (ix3 a k y) 0 = b.val
    rw [d.batchCoord_eq_zero _ _ (hbN 0), d.offCoord_eq_zero _ _ hk]
    simp only [Nat.add_zero]
    unfold GatherDims.start
    rw [dif_pos hm]
    have hsi : d.siIdx (ix3 a k y) ⟨d.startIndexMap.idxOf 0, List.idxOf_lt_length_iff.2 hm⟩ = ix3 a k (0 : Fin 1) := by
      funext z
      apply Fin.ext
      match z with
      | ⟨0, _⟩ =>
        unfold GatherDims.siIdx
        rw [dif_neg (by rw [hivd]; exact of_decide_eq_true rfl)]
        unfold GatherDims.siCoord
        simp only [Fin.val_cast]
        exact e0 _ (by simp [hb0, hsk])
      | ⟨1, _⟩ =>
        unfold GatherDims.siIdx
        rw [dif_neg (by rw [hivd]; exact of_decide_eq_true rfl)]
        unfold GatherDims.siCoord
        simp only [Fin.val_cast]
        exact e1 _ (by simp [hb0, hsk])
      | ⟨2, _⟩ =>
        unfold GatherDims.siIdx
        rw [dif_pos (by rw [hivd])]
        show List.idxOf (0 : Fin 2) d.startIndexMap = 0
        rw [hsim]; simp
    have hbl := b.isLt
    rw [hsi, hb, hsl, StableHlo.Predicate.toInt_ofNat_small _ (by omega)]
    show min ((b.val : Int)).toNat (N - 1) = b.val
    omega
  | ⟨1, _⟩ =>
    have n1 : ∀ l : List (Fin 2), l = [0] → (1 : Fin 2) ∉ l := fun l h => by rw [h]; decide
    have hk : (1 : Fin 2) ∈ d.sKept := (d.mem_sKept 1).2 ⟨n1 _ hcoll, hbN 1⟩
    have hm : (1 : Fin 2) ∉ d.startIndexMap := n1 _ hsim
    show d.start (ix3 a k y) idx 1 + d.batchCoord (ix3 a k y) 1 + d.offCoord (ix3 a k y) 1 = y.val
    rw [d.batchCoord_eq_zero _ _ (hbN 1), Nat.add_zero]
    unfold GatherDims.start GatherDims.offCoord
    rw [dif_neg hm, dif_pos hk, Nat.zero_add]
    exact e2 _ (by simp [hoff])

theorem abs_real (x : ℝ) : FloatOps.absf (F := Ideal) (φ := .f32) (x : EReal) = ((|x| : ℝ) : EReal) := by
  rw [Ideal.absf_def, neg_real, max_real]; rfl

/-- The error function, taken of the argument's size with the sign put back. -/
theorem erf_size (s x : ℝ) :
    (if (x : EReal) < 0 then -Ideal.erf ((s * |x| : ℝ) : EReal) else Ideal.erf ((s * |x| : ℝ) : EReal)) = (erfR (s * x) : EReal) := by
  have e : ((x : EReal) < 0) ↔ x < 0 := EReal.coe_neg'
  by_cases h : x < 0
  · rw [if_pos (e.2 h), abs_of_neg h, mul_neg, erf_real, erfR_neg, neg_real, neg_neg]
  · rw [if_neg fun g => h (e.1 g), abs_of_nonneg (not_lt.1 h), erf_real]

theorem one_div_real {x : ℝ} (h : x ≠ 0) : Ideal.div (1 : EReal) (x : EReal) = ((1 / x : ℝ) : EReal) := by
  rw [show (1 : EReal) = ((1 : ℝ) : EReal) from EReal.coe_one.symm, div_real h]

theorem one_add_real (x : ℝ) : (1 : EReal) + (x : EReal) = ((1 + x : ℝ) : EReal) := by
  rw [show (1 : EReal) = ((1 : ℝ) : EReal) from EReal.coe_one.symm, add_real]

end Cert.Reals

namespace Cert.MixBwdIdeal.Hand

open Cert.MixBwdIdeal Cert.MixBwdIdeal.Gen Idealize.ShloMosaic Idealize.ShloMosaic.TcCoe Idealize.SL.Sem Cert.Reals

variable (m : (ℓ : Loc nD τ sig) → Buf (Elt Ideal) ℓ) (c : Dev nD) (A : Mix)

/-- The arguments are real arrays. -/
structure Args : Prop where
  x : ∀ t k, m ((c : Thread nD τ).loc main_arg0) (ix3 0 t k) = (A.x t k : EReal)
  g1 : ∀ k, m ((c : Thread nD τ).loc main_arg1) (ix1 k) = (A.g1 k : EReal)
  win : ∀ k f, m ((c : Thread nD τ).loc main_arg2) (ix2 k f) = (A.win k f : EReal)
  lg : ∀ j, m ((c : Thread nD τ).loc main_arg3) (ix1 j) = (A.lg j : EReal)
  lb : ∀ j, m ((c : Thread nD τ).loc main_arg4) (ix1 j) = (A.lb j : EReal)
  ws : ∀ q r s, m ((c : Thread nD τ).loc main_arg5) (ix3 q r s) = (A.ws q r s : EReal)
  bs : ∀ q r, m ((c : Thread nD τ).loc main_arg6) (ix2 q r) = (A.bs q r : EReal)
  cw : ∀ k j, m ((c : Thread nD τ).loc main_arg7) (ix2 k j) = (A.cw k j : EReal)
  cb : ∀ j, m ((c : Thread nD τ).loc main_arg8) (ix1 j) = (A.cb j : EReal)
  cg : ∀ j, m ((c : Thread nD τ).loc main_arg9) (ix1 j) = (A.cg j : EReal)
  ce : ∀ j, m ((c : Thread nD τ).loc main_arg10) (ix1 j) = (A.ce j : EReal)
  wo : ∀ i k, m ((c : Thread nD τ).loc main_arg11) (ix2 i k) = (A.wo i k : EReal)
  dy : ∀ t k, m ((c : Thread nD τ).loc main_arg12) (ix3 0 t k) = (A.dy t k : EReal)

variable {m c A} (h : Args m c A)
include h

theorem entry_pj (t : Fin 4096) (f : Fin 2048) : V m c main_v23 (ix2 t f) = (A.pj t f : EReal) := by
  unfold V
  after_reads_simp
  pointwise
  simp (disch := norm_num) only [h.x, h.g1, h.win, c0, c1024, ceps, add_real, mul_real, sub_real, sum_real, div_real, zero_add, rsqrt_ms]
  rfl

theorem entry_u (t : Fin 4096) (j : Fin 512) : V m c main_v44 (ix2 t j) = (A.u t j : EReal) := by
  have hk := entry_pj h
  obtain ⟨P, hP⟩ : ∃ P, P = V m c main_v23 := ⟨_, rfl⟩
  rw [← hP] at hk
  revert hP
  unfold V
  after_reads_simp
  intro hP
  rw [← hP]
  clear hP
  simp -implicitDefEqProofs only [StableHlo.TRef.toBuf, StableHlo.TRef.ofBuf, cast_cast, cast_eq]
  pointwise
  simp (disch := norm_num) only [hk, c0, c1, chalf, ccr, abs_real, mul_real, erf_size, one_add_real]
  rw [col0]
  rfl

theorem entry_du (t : Fin 4096) (j : Fin 512) : V m c main_v50 (ix2 t j) = (A.du t j : EReal) := by
  have hk := entry_pj h
  obtain ⟨P, hP⟩ : ∃ P, P = V m c main_v23 := ⟨_, rfl⟩
  rw [← hP] at hk
  revert hP
  unfold V
  after_reads_simp
  intro hP
  rw [← hP]
  clear hP
  simp -implicitDefEqProofs only [StableHlo.TRef.toBuf, StableHlo.TRef.ofBuf, cast_cast, cast_eq]
  pointwise
  simp (disch := norm_num) only [hk, c0, c1, chalf, ccr, cck, abs_real, mul_real, erf_size, one_add_real, neg_real, exp_real, add_real]
  rw [col0]
  rfl

theorem entry_vg (t : Fin 4096) (j : Fin 512) : V m c main_v71 (ix2 t j) = (A.vg t j : EReal) := by
  have hk := entry_pj h
  obtain ⟨P, hP⟩ : ∃ P, P = V m c main_v23 := ⟨_, rfl⟩
  rw [← hP] at hk
  revert hP
  unfold V
  after_reads_simp
  intro hP
  rw [← hP]
  clear hP
  simp -implicitDefEqProofs only [StableHlo.TRef.toBuf, StableHlo.TRef.ofBuf, cast_cast, cast_eq]
  pointwise
  simp (disch := norm_num) only [hk, c0, c1, chalf, ccr, abs_real, mul_real, erf_size, one_add_real]
  rw [col1]
  rfl

theorem entry_dvg (t : Fin 4096) (j : Fin 512) : V m c main_v77 (ix2 t j) = (A.dvg t j : EReal) := by
  have hk := entry_pj h
  obtain ⟨P, hP⟩ : ∃ P, P = V m c main_v23 := ⟨_, rfl⟩
  rw [← hP] at hk
  revert hP
  unfold V
  after_reads_simp
  intro hP
  rw [← hP]
  clear hP
  simp -implicitDefEqProofs only [StableHlo.TRef.toBuf, StableHlo.TRef.ofBuf, cast_cast, cast_eq]
  pointwise
  simp (disch := norm_num) only [hk, c0, c1, chalf, ccr, cck, abs_real, mul_real, erf_size, one_add_real, neg_real, exp_real, add_real]
  rw [col1]
  rfl

theorem entry_vh (t : Fin 4096) (j : Fin 512) : V m c main_v93 (ix2 t j) = (A.vh t j : EReal) := by
  have hk := entry_vg h
  obtain ⟨P, hP⟩ : ∃ P, P = V m c main_v71 := ⟨_, rfl⟩
  rw [← hP] at hk
  revert hP
  unfold V
  after_reads_simp
  intro hP
  rw [← hP]
  clear hP
  pointwise
  simp (disch := norm_num) only [hk, c0, c512, ceps, add_real, mul_real, sub_real, sum_real, div_real, zero_add]
  rw [rsqrt_lines (A.vg t) (by norm_num : (0 : ℝ) < 512), mul_real]
  rfl

theorem entry_rs (t : Fin 4096) (l : Fin 128) : V m c main_v95 (ix2 t l) = (lrs 512 (A.vg t) : EReal) := by
  have hk := entry_vg h
  obtain ⟨P, hP⟩ : ∃ P, P = V m c main_v71 := ⟨_, rfl⟩
  rw [← hP] at hk
  revert hP
  unfold V
  after_reads_simp
  intro hP
  rw [← hP]
  clear hP
  pointwise
  simp (disch := norm_num) only [hk, c0, c512, ceps, add_real, mul_real, sub_real, sum_real, div_real, zero_add]
  exact rsqrt_var (A.vg t) (by norm_num)

theorem entry_g (t : Fin 4096) (j : Fin 512) : V m c main_v104 (ix2 t j) = (A.gv t j : EReal) := by
  have hk := entry_pj h
  obtain ⟨P, hP⟩ : ∃ P, P = V m c main_v23 := ⟨_, rfl⟩
  rw [← hP] at hk
  revert hP
  unfold V
  after_reads_simp
  intro hP
  rw [← hP]
  clear hP
  pointwise
  simp (disch := norm_num) only [hk, c0, c1, neg_real, exp_real, one_add_real]
  rw [one_div_real (sig_pos _), mul_real, col2, col3]
  rfl

omit h in
theorem concat_0 (a b d e : S4096x512.Idx → Elt Ideal .f32) (hc) (t : Fin 4096) (j : Fin 512) :
    concatenate S4096x2048 1 [⟨S4096x512, a⟩, ⟨S4096x512, b⟩, ⟨S4096x512, d⟩, ⟨S4096x512, e⟩] hc (ix2 t (col 0 j)) = a (ix2 t j) := by
  unfold col
  pointwise

theorem entry_kept0 (t : Fin 4096) (j : Fin 512) : V m c main_v94 (ix2 t (col 0 j)) = (A.u t j : EReal) := by
  refine Eq.trans ?_ (entry_u h t j)
  unfold V
  after_reads_simp
  refine (concat_0 _ _ _ _ _ t j).trans ?_
  dsimp only [Matrix.cons_val]
  after_reads_simp

omit h in
theorem concat_1 (a b d e : S4096x512.Idx → Elt Ideal .f32) (hc) (t : Fin 4096) (j : Fin 512) :
    concatenate S4096x2048 1 [⟨S4096x512, a⟩, ⟨S4096x512, b⟩, ⟨S4096x512, d⟩, ⟨S4096x512, e⟩] hc (ix2 t (col 1 j)) = b (ix2 t j) := by
  unfold col
  pointwise

theorem entry_kept1 (t : Fin 4096) (j : Fin 512) : V m c main_v94 (ix2 t (col 1 j)) = (A.du t j : EReal) := by
  refine Eq.trans ?_ (entry_du h t j)
  unfold V
  after_reads_simp
  refine (concat_1 _ _ _ _ _ t j).trans ?_
  dsimp only [Matrix.cons_val]
  after_reads_simp

omit h in
theorem concat_2 (a b d e : S4096x512.Idx → Elt Ideal .f32) (hc) (t : Fin 4096) (j : Fin 512) :
    concatenate S4096x2048 1 [⟨S4096x512, a⟩, ⟨S4096x512, b⟩, ⟨S4096x512, d⟩, ⟨S4096x512, e⟩] hc (ix2 t (col 2 j)) = d (ix2 t j) := by
  unfold col
  pointwise
  rw [dif_neg (by omega), dif_neg (by omega), dif_pos (by omega)]
  exact congrArg d (congrArg (ix2 t) (Fin.ext (by show 1024 + j.val - 512 - 512 = j.val; omega)))

theorem entry_kept2 (t : Fin 4096) (j : Fin 512) : V m c main_v94 (ix2 t (col 2 j)) = (A.dvg t j : EReal) := by
  refine Eq.trans ?_ (entry_dvg h t j)
  unfold V
  after_reads_simp
  refine (concat_2 _ _ _ _ _ t j).trans ?_
  dsimp only [Matrix.cons_val]
  after_reads_simp

omit h in
theorem concat_3 (a b d e : S4096x512.Idx → Elt Ideal .f32) (hc) (t : Fin 4096) (j : Fin 512) :
    concatenate S4096x2048 1 [⟨S4096x512, a⟩, ⟨S4096x512, b⟩, ⟨S4096x512, d⟩, ⟨S4096x512, e⟩] hc (ix2 t (col 3 j)) = e (ix2 t j) := by
  unfold col
  pointwise
  rw [dif_neg (by omega), dif_neg (by omega), dif_neg (by omega)]
  exact congrArg e (congrArg (ix2 t) (Fin.ext (by show 1536 + j.val - 512 - 512 - 512 = j.val; omega)))

theorem entry_kept3 (t : Fin 4096) (j : Fin 512) : V m c main_v94 (ix2 t (col 3 j)) = (A.vh t j : EReal) := by
  refine Eq.trans ?_ (entry_vh h t j)
  unfold V
  after_reads_simp
  refine (concat_3 _ _ _ _ _ t j).trans ?_
  dsimp only [Matrix.cons_val]
  after_reads_simp

omit h in
theorem row_word (t : Fin 4096) (k : Fin 31) :
    Scalar.select (IntOp.cmpi CmpIPredicate.slt (IntOp.addi (BitVec.ofNat 32 t.val) (BitVec.ofNat 32 k.val)) 0#32)
      (IntOp.addi (IntOp.addi (BitVec.ofNat 32 t.val) (BitVec.ofNat 32 k.val)) 4126#32)
      (IntOp.addi (BitVec.ofNat 32 t.val) (BitVec.ofNat 32 k.val)) = BitVec.ofNat 32 (t.val + k.val) := by
  have e : IntOp.addi (BitVec.ofNat 32 t.val) (BitVec.ofNat 32 k.val) = BitVec.ofNat 32 (t.val + k.val) := (BitVec.ofNat_add _ _).symm
  rw [e]
  have n : IntOp.cmpi CmpIPredicate.slt (BitVec.ofNat 32 (t.val + k.val)) 0#32 = 0#1 := by
    have : (BitVec.ofNat 32 (t.val + k.val)).toInt = ((t.val + k.val : ℕ) : ℤ) := StableHlo.Predicate.toInt_ofNat_small _ (by omega)
    unfold IntOp.cmpi
    dsimp only
    rw [BitVec.slt, this]
    rw [decide_eq_false (by simp; omega)]
    rfl
  rw [n]
  rfl

theorem entry_idx (t : Fin 4096) (k : Fin 31) : V m c main_v118 (ix3 t k 0) = BitVec.ofNat 32 (t.val + k.val) := by
  unfold V
  after_reads_simp
  pointwise
  exact row_word t k

theorem entry_pad (n : Fin 4126) (j : Fin 512) : V m c main_v105 (ix2 n j) = (A.gAt n j : EReal) := by
  have hk := entry_g h
  obtain ⟨P, hP⟩ : ∃ P, P = V m c main_v104 := ⟨_, rfl⟩
  rw [← hP] at hk
  revert hP
  unfold V
  after_reads_simp
  intro hP
  rw [← hP]
  clear hP
  simp -implicitDefEqProofs only [StableHlo.TRef.toBuf, StableHlo.TRef.ofBuf, cast_cast, cast_eq]
  pointwise
  simp (disch := norm_num) only [hk, c0, c1]
  unfold Mix.gAt
  have e : (30 ≤ n.val ∧ n.val - 30 < 4096) ↔ (30 ≤ n.val ∧ n.val < 4126) := by omega
  by_cases g : 30 ≤ n.val ∧ n.val < 4126
  · rw [dif_pos (e.2 g), dif_pos g]
  · rw [dif_neg fun g' => g (e.1 g'), dif_neg g]
    show ((((0#32 : BitVec 32).toInt : ℤ) : ℝ) : EReal) = ((0 : ℝ) : EReal)
    norm_num

theorem entry_cpre (t : Fin 4096) (j : Fin 512) : V m c main_v126 (ix2 t j) = (A.cpre t j : EReal) := by
  have hk := entry_pad h
  have hi := entry_idx h
  obtain ⟨Q, hQ⟩ : ∃ Q, Q = V m c main_v118 := ⟨_, rfl⟩
  rw [← hQ] at hi
  obtain ⟨P, hP⟩ : ∃ P, P = V m c main_v105 := ⟨_, rfl⟩
  rw [← hP] at hk
  revert hP hQ
  unfold V
  after_reads_simp
  intro hQ hP
  simp -implicitDefEqProofs only [StableHlo.TRef.toBuf, StableHlo.TRef.ofBuf, cast_cast, cast_eq] at hQ hP ⊢
  rw [← hP, ← hQ]
  clear hP hQ
  pointwise
  have hg : ∀ k : Fin 31, Host.gather gather_S4126x512_S4096x31x1_S4096x31x512_2_0_n_n_0_2_1512 P Q (ix3 t k j) = (A.gAt (t.val + k.val) j : EReal) :=
    fun k => (gather_rows _ rfl rfl rfl rfl rfl (by decide) (by decide) P Q t k j ⟨t.val + k.val, by omega⟩ (hi t k) (by norm_num)).trans (hk _ j)
  simp only [hg, h.cw, h.cb, c0]
  simp only [mul_real, sum_real, add_real]
  rfl

theorem entry_win (p : Fin 4) (k : Fin 1024) (j : Fin 512) : V m c main_v2 (ix3 p k j) = (A.win k (col p j) : EReal) := by
  unfold V
  after_reads_simp
  pointwise
  exact h.win _ _

theorem entry_wo (q : Fin 4) (r : Fin 256) (k : Fin 1024) : V m c main_v4 (ix3 q r k) = (A.wo ⟨q.val * 256 + r.val, by omega⟩ k : EReal) := by
  unfold V
  after_reads_simp
  pointwise
  exact h.wo _ _

theorem entry_cw (k : Fin 31) (j : Fin 512) : V m c main_v5 (ix2 ⟨k.val, by omega⟩ j) = (A.cw k j : EReal) := by
  unfold V
  after_reads_simp
  simp -implicitDefEqProofs only [StableHlo.TRef.toBuf, StableHlo.TRef.ofBuf, cast_cast, cast_eq]
  pointwise
  exact h.cw _ _

theorem entry_wst (q : Fin 4) (r s : Fin 128) : V m c main_v6 (ix3 q r s) = (A.ws q s r : EReal) := by
  unfold V
  after_reads_simp
  pointwise
  exact h.ws q s r

theorem entry_bf (q : Fin 4) (r s : Fin 128) : V m c main_v8 (ix3 q r s) = (A.bs q r : EReal) := by
  unfold V
  after_reads_simp
  pointwise
  exact h.bs q r

theorem entry_x (t : Fin 4096) (k : Fin 1024) : V m c main_v9 (ix2 t k) = (A.x t k : EReal) := by
  unfold V
  after_reads_simp
  pointwise
  exact h.x t k

theorem entry_dy (t : Fin 4096) (k : Fin 1024) : V m c main_v127 (ix2 t k) = (A.dy t k : EReal) := by
  unfold V
  after_reads_simp
  pointwise
  exact h.dy t k

theorem entry_dyb (t : Fin 4096) (k : Fin 1024) : V m c main_v128 (ix2 t k) = (A.dy t k : EReal) := by
  unfold V
  after_reads_simp
  pointwise
  exact h.dy t k

theorem entry_g1 (k : Fin 1024) : V m c main_v129 (ix2 0 k) = (A.g1 k : EReal) := by
  unfold V
  after_reads_simp
  pointwise
  exact h.g1 k

theorem entry_lg (j : Fin 512) : V m c main_v130 (ix2 0 j) = (A.lg j : EReal) := by
  unfold V
  after_reads_simp
  pointwise
  exact h.lg j

theorem entry_lb (j : Fin 512) : V m c main_v131 (ix2 0 j) = (A.lb j : EReal) := by
  unfold V
  after_reads_simp
  pointwise
  exact h.lb j

theorem entry_cb (j : Fin 512) : V m c main_v132 (ix2 0 j) = (A.cb j : EReal) := by
  unfold V
  after_reads_simp
  pointwise
  exact h.cb j

theorem entry_cg (j : Fin 512) : V m c main_v133 (ix2 0 j) = (A.cg j : EReal) := by
  unfold V
  after_reads_simp
  pointwise
  exact h.cg j

theorem entry_ce (j : Fin 512) : V m c main_v134 (ix2 0 j) = (A.ce j : EReal) := by
  unfold V
  after_reads_simp
  pointwise
  exact h.ce j

end Cert.MixBwdIdeal.Hand

end
-- ==== Proof.MixIns.lean ====
/- What one grid point of the token mixers' backward call is given, over the ideal floats and finite arguments. -/
module

public import proofs.«01_k».proof.Proof.MixHost
public import proofs.«01_k».proof.Proof.MixFrame

@[expose] public section

set_option maxRecDepth 16384

noncomputable section

namespace Cert.MixBwdIdeal.Hand

open Cert.MixBwdIdeal Cert.MixBwdIdeal.Gen Idealize.ShloMosaic Idealize.ShloMosaic.TcCoe Idealize.SL.Sem Cert.Reals

/-- The row block of each window at a grid point: they come in reverse. -/
theorem idx : ∀ t : Fin cfg0.N, win0_0.index t = ![15 - t.val, 0] ∧ win0_1.index t = ![15 - t.val, 0]
    ∧ win0_2.index t = ![15 - t.val, 0] ∧ win0_3.index t = ![15 - t.val, 1] ∧ win0_4.index t = ![(15 - t.val) * 8 - 1, 2]
    ∧ win0_5.index t = ![(15 - t.val) * 8 - 1, 3] ∧ win0_6.index t = ![15 - t.val, 0] ∧ win0_7.index t = ![15 - t.val, 0]
    ∧ win0_8.index t = ![15 - t.val, 0] := by
  decide +kernel

/-- The windows that hold their whole array. -/
theorem idx_whole : ∀ t : Fin cfg0.N, win0_9.index t = ![0, 0] ∧ win0_10.index t = ![0, 0, 0] ∧ win0_11.index t = ![0, 0]
    ∧ win0_12.index t = ![0, 0] ∧ win0_13.index t = ![0, 0, 0] ∧ win0_14.index t = ![0, 0, 0] ∧ win0_15.index t = ![0, 0, 0]
    ∧ win0_16.index t = ![0, 0] ∧ win0_18.index t = ![0, 0] ∧ win0_19.index t = ![0, 0] ∧ win0_20.index t = ![0, 0, 0] := by
  decide +kernel

/-- The blocks of the outputs written at each grid point. -/
theorem idx_out : ∀ t : Fin cfg0.N, win0_21.index t = ![15 - t.val, 0] ∧ win0_22.index t = ![15 - t.val, 0]
    ∧ win0_23.index t = ![15 - t.val, 0] ∧ win0_24.index t = ![0, 15 - t.val] ∧ win0_25.index t = ![0, 15 - t.val] := by
  decide +kernel

/-- Row `a` of the row block of grid point `t`, as a row of the array. -/
def rowOf (t : Fin 16) (a : Fin 256) : Fin 4096 := ⟨(15 - t.val) * 256 + a.val, by omega⟩

/-- Row `r` of the block before that of grid point `t`, thirty-two rows long; at the array's start a block of its own. -/
def haloOf (t : Fin 16) (r : Fin 32) : Fin 4096 := ⟨((15 - t.val) * 8 - 1) * 32 + r.val, by omega⟩

/-- What a grid point is given. -/
structure Ins (A : Mix) (t : Fin 16) (p : Pt Ideal) : Prop where
  x : ∀ a k, p.x (ix2 a k) = (A.x (rowOf t a) k : EReal)
  dx1 : ∀ a k, p.dx1 (ix2 a k) = (A.dy (rowOf t a) k : EReal)
  dxb : ∀ a k, p.dxb (ix2 a k) = (A.dy (rowOf t a) k : EReal)
  vb : ∀ a (j : Fin 512), p.pj (ix2 a ⟨j.val, by omega⟩) = (A.pj (rowOf t a) (col 2 j) : EReal)
  gb : ∀ a (j : Fin 512), p.pj (ix2 a ⟨512 + j.val, by omega⟩) = (A.pj (rowOf t a) (col 3 j) : EReal)
  vbh : ∀ r j, p.vbh (ix2 r j) = (A.pj (haloOf t r) (col 2 j) : EReal)
  gbh : ∀ r j, p.gbh (ix2 r j) = (A.pj (haloOf t r) (col 3 j) : EReal)
  cpre : ∀ a j, p.cpre (ix2 a j) = (A.cpre (rowOf t a) j : EReal)
  u : ∀ a (j : Fin 512), p.kept (ix2 a ⟨j.val, by omega⟩) = (A.u (rowOf t a) j : EReal)
  du : ∀ a (j : Fin 512), p.kept (ix2 a ⟨512 + j.val, by omega⟩) = (A.du (rowOf t a) j : EReal)
  dvg : ∀ a (j : Fin 512), p.kept (ix2 a ⟨1024 + j.val, by omega⟩) = (A.dvg (rowOf t a) j : EReal)
  vh : ∀ a (j : Fin 512), p.kept (ix2 a ⟨1536 + j.val, by omega⟩) = (A.vh (rowOf t a) j : EReal)
  rs : ∀ a l, p.rs (ix2 a l) = (lrs 512 (A.vg (rowOf t a)) : EReal)
  g1 : ∀ k, p.g1 (ix2 0 k) = (A.g1 k : EReal)
  win : ∀ q k j, p.win (ix3 q k j) = (A.win k (col q j) : EReal)
  lng : ∀ j, p.lng (ix2 0 j) = (A.lg j : EReal)
  lnb : ∀ j, p.lnb (ix2 0 j) = (A.lb j : EReal)
  ws : ∀ q r s, p.ws (ix3 q r s) = (A.ws q r s : EReal)
  wst : ∀ q r s, p.wst (ix3 q r s) = (A.ws q s r : EReal)
  bf : ∀ q r s, p.bf (ix3 q r s) = (A.bs q r : EReal)
  cw : ∀ (k : Fin 31) j, p.cw (ix2 ⟨k.val, by omega⟩ j) = (A.cw k j : EReal)
  cg : ∀ j, p.cg (ix2 0 j) = (A.cg j : EReal)
  cbeta : ∀ j, p.cbeta (ix2 0 j) = (A.ce j : EReal)
  wout : ∀ (q : Fin 4) (r : Fin 256) k, p.wout (ix3 q r k) = (A.wo ⟨q.val * 256 + r.val, by omega⟩ k : EReal)
  v27 : p.v27 = if t.val < 15 then 1#1 else 0#1

/-- The kernel's own test whether rows come before the block. -/
theorem first_tile : ∀ t : Fin cfg0.N, Scalar.cmpi .sgt (Scalar.subi 15#32 (BitVec.ofNat 32 (grid0.coords t 0).val)) 0#32
    = if t.val < 15 then 1#1 else 0#1 := by decide +kernel

variable {m : (ℓ : Loc nD τ sig) → Buf (Elt Ideal) ℓ} {c : Dev nD} {A : Mix} (h : Args m c A) (t : Fin cfg0.N)
include h

theorem blk_x a k : iblk m c 2 t (ix2 a k) = (A.x (rowOf t a) k : EReal) :=
  (show iblk m c 2 t (ix2 a k) = V m c main_v9 (ix2 (rowOf t a) k) by unfold rowOf; blk_ext [iblk, idx t]).trans (entry_x h _ _)

theorem blk_dx1 a k : iblk m c 0 t (ix2 a k) = (A.dy (rowOf t a) k : EReal) :=
  (show iblk m c 0 t (ix2 a k) = V m c main_v127 (ix2 (rowOf t a) k) by unfold rowOf; blk_ext [iblk, idx t]).trans (entry_dy h _ _)

theorem blk_dxb a k : iblk m c 1 t (ix2 a k) = (A.dy (rowOf t a) k : EReal) :=
  (show iblk m c 1 t (ix2 a k) = V m c main_v128 (ix2 (rowOf t a) k) by unfold rowOf; blk_ext [iblk, idx t]).trans (entry_dyb h _ _)

theorem blk_vb a (j : Fin 512) : iblk m c 3 t (ix2 a ⟨j.val, by omega⟩) = (A.pj (rowOf t a) (col 2 j) : EReal) :=
  (show iblk m c 3 t (ix2 a ⟨j.val, by omega⟩) = V m c main_v23 (ix2 (rowOf t a) (col 2 j)) by unfold rowOf col; blk_ext [iblk, idx t]).trans (entry_pj h _ _)

theorem blk_gb a (j : Fin 512) : iblk m c 3 t (ix2 a ⟨512 + j.val, by omega⟩) = (A.pj (rowOf t a) (col 3 j) : EReal) :=
  (show iblk m c 3 t (ix2 a ⟨512 + j.val, by omega⟩) = V m c main_v23 (ix2 (rowOf t a) (col 3 j)) by unfold rowOf col; blk_ext [iblk, idx t]).trans (entry_pj h _ _)

theorem blk_vbh r j : iblk m c 4 t (ix2 r j) = (A.pj (haloOf t r) (col 2 j) : EReal) :=
  (show iblk m c 4 t (ix2 r j) = V m c main_v23 (ix2 (haloOf t r) (col 2 j)) by unfold haloOf col; blk_ext [iblk, idx t]).trans (entry_pj h _ _)

theorem blk_gbh r j : iblk m c 5 t (ix2 r j) = (A.pj (haloOf t r) (col 3 j) : EReal) :=
  (show iblk m c 5 t (ix2 r j) = V m c main_v23 (ix2 (haloOf t r) (col 3 j)) by unfold haloOf col; blk_ext [iblk, idx t]).trans (entry_pj h _ _)

theorem blk_cpre a j : iblk m c 6 t (ix2 a j) = (A.cpre (rowOf t a) j : EReal) :=
  (show iblk m c 6 t (ix2 a j) = V m c main_v126 (ix2 (rowOf t a) j) by unfold rowOf; blk_ext [iblk, idx t]).trans (entry_cpre h _ _)

theorem blk_u a (j : Fin 512) : iblk m c 7 t (ix2 a ⟨j.val, by omega⟩) = (A.u (rowOf t a) j : EReal) :=
  (show iblk m c 7 t (ix2 a ⟨j.val, by omega⟩) = V m c main_v94 (ix2 (rowOf t a) (col 0 j)) by unfold rowOf col; blk_ext [iblk, idx t]).trans (entry_kept0 h _ _)

theorem blk_du a (j : Fin 512) : iblk m c 7 t (ix2 a ⟨512 + j.val, by omega⟩) = (A.du (rowOf t a) j : EReal) :=
  (show iblk m c 7 t (ix2 a ⟨512 + j.val, by omega⟩) = V m c main_v94 (ix2 (rowOf t a) (col 1 j)) by unfold rowOf col; blk_ext [iblk, idx t]).trans (entry_kept1 h _ _)

theorem blk_dvg a (j : Fin 512) : iblk m c 7 t (ix2 a ⟨1024 + j.val, by omega⟩) = (A.dvg (rowOf t a) j : EReal) :=
  (show iblk m c 7 t (ix2 a ⟨1024 + j.val, by omega⟩) = V m c main_v94 (ix2 (rowOf t a) (col 2 j)) by unfold rowOf col; blk_ext [iblk, idx t]).trans (entry_kept2 h _ _)

theorem blk_vh a (j : Fin 512) : iblk m c 7 t (ix2 a ⟨1536 + j.val, by omega⟩) = (A.vh (rowOf t a) j : EReal) :=
  (show iblk m c 7 t (ix2 a ⟨1536 + j.val, by omega⟩) = V m c main_v94 (ix2 (rowOf t a) (col 3 j)) by unfold rowOf col; blk_ext [iblk, idx t]).trans (entry_kept3 h _ _)

theorem blk_rs a l : iblk m c 8 t (ix2 a l) = (lrs 512 (A.vg (rowOf t a)) : EReal) :=
  (show iblk m c 8 t (ix2 a l) = V m c main_v95 (ix2 (rowOf t a) l) by unfold rowOf; blk_ext [iblk, idx t]).trans (entry_rs h _ _)

theorem blk_g1 k : iblk m c 9 t (ix2 0 k) = (A.g1 k : EReal) :=
  (show iblk m c 9 t (ix2 0 k) = V m c main_v129 (ix2 0 k) by blk_ext [iblk, idx_whole t]).trans (entry_g1 h _)

theorem blk_win q k j : iblk m c 10 t (ix3 q k j) = (A.win k (col q j) : EReal) :=
  (show iblk m c 10 t (ix3 q k j) = V m c main_v2 (ix3 q k j) by blk_ext [iblk, idx_whole t]).trans (entry_win h _ _ _)

theorem blk_lng j : iblk m c 11 t (ix2 0 j) = (A.lg j : EReal) :=
  (show iblk m c 11 t (ix2 0 j) = V m c main_v130 (ix2 0 j) by blk_ext [iblk, idx_whole t]).trans (entry_lg h _)

theorem blk_lnb j : iblk m c 12 t (ix2 0 j) = (A.lb j : EReal) :=
  (show iblk m c 12 t (ix2 0 j) = V m c main_v131 (ix2 0 j) by blk_ext [iblk, idx_whole t]).trans (entry_lb h _)

theorem blk_ws q r s : iblk m c 13 t (ix3 q r s) = (A.ws q r s : EReal) :=
  (show iblk m c 13 t (ix3 q r s) = V m c main_arg5 (ix3 q r s) by blk_ext [iblk, idx_whole t]).trans ((congrFun (V_main_arg5 m c) _).trans (h.ws _ _ _))

theorem blk_wst q r s : iblk m c 14 t (ix3 q r s) = (A.ws q s r : EReal) :=
  (show iblk m c 14 t (ix3 q r s) = V m c main_v6 (ix3 q r s) by blk_ext [iblk, idx_whole t]).trans (entry_wst h _ _ _)

theorem blk_bf q r s : iblk m c 15 t (ix3 q r s) = (A.bs q r : EReal) :=
  (show iblk m c 15 t (ix3 q r s) = V m c main_v8 (ix3 q r s) by blk_ext [iblk, idx_whole t]).trans (entry_bf h _ _ _)

theorem blk_cw (k : Fin 31) j : iblk m c 16 t (ix2 ⟨k.val, by omega⟩ j) = (A.cw k j : EReal) :=
  (show iblk m c 16 t (ix2 ⟨k.val, by omega⟩ j) = V m c main_v5 (ix2 ⟨k.val, by omega⟩ j) by blk_ext [iblk, idx_whole t]).trans (entry_cw h _ _)

theorem blk_cg j : iblk m c 18 t (ix2 0 j) = (A.cg j : EReal) :=
  (show iblk m c 18 t (ix2 0 j) = V m c main_v133 (ix2 0 j) by blk_ext [iblk, idx_whole t]).trans (entry_cg h _)

theorem blk_cbeta j : iblk m c 19 t (ix2 0 j) = (A.ce j : EReal) :=
  (show iblk m c 19 t (ix2 0 j) = V m c main_v134 (ix2 0 j) by blk_ext [iblk, idx_whole t]).trans (entry_ce h _)

theorem blk_wout (q : Fin 4) (r : Fin 256) k : iblk m c 20 t (ix3 q r k) = (A.wo ⟨q.val * 256 + r.val, by omega⟩ k : EReal) :=
  (show iblk m c 20 t (ix3 q r k) = V m c main_v4 (ix3 q r k) by blk_ext [iblk, idx_whole t]).trans (entry_wo h _ _ _)

/-- The grid point on what it finds is given these. -/
theorem ins (s : St Ideal) : Ins A t (point m c t s) := by
  unfold point
  constructor <;> try dsimp only
  · exact blk_x h t
  · exact blk_dx1 h t
  · exact blk_dxb h t
  · exact blk_vb h t
  · exact blk_gb h t
  · exact blk_vbh h t
  · exact blk_gbh h t
  · exact blk_cpre h t
  · exact blk_u h t
  · exact blk_du h t
  · exact blk_dvg h t
  · exact blk_vh h t
  · exact blk_rs h t
  · exact blk_g1 h t
  · exact blk_win h t
  · exact blk_lng h t
  · exact blk_lnb h t
  · exact blk_ws h t
  · exact blk_wst h t
  · exact blk_bf h t
  · exact blk_cw h t
  · exact blk_cg h t
  · exact blk_cbeta h t
  · exact blk_wout h t
  · exact first_tile t

end Cert.MixBwdIdeal.Hand

end
-- ==== Proof.MixGate.lean ====
/- One grid point of the token mixers' backward call, over the ideal floats and finite arguments: the values the point reads
   back from the forward and the spatial gate's mixed rows. -/
module

public import proofs.«01_k».proof.Proof.MixIns

@[expose] public section

set_option maxRecDepth 16384

noncomputable section

namespace Cert.MixBwdIdeal.Hand

open Cert.MixBwdIdeal Cert.MixBwdIdeal.Gen Idealize.ShloMosaic Idealize.ShloMosaic.TcCoe Idealize.SL.Sem Cert.Reals

theorem hc0 (r : Fin 128) (h) : (⟨r.val, h⟩ : Fin 512) = headCol 0 r := Fin.ext (by simp [headCol])
theorem hc1 (r : Fin 128) (h) : (⟨128 + r.val, h⟩ : Fin 512) = headCol 1 r := Fin.ext (by simp [headCol])
theorem hc2 (r : Fin 128) (h) : (⟨256 + r.val, h⟩ : Fin 512) = headCol 2 r := Fin.ext (by simp [headCol])
theorem hc3 (r : Fin 128) (h) : (⟨384 + r.val, h⟩ : Fin 512) = headCol 3 r := Fin.ext (by simp [headCol])

theorem hf0 (j : Fin 512) (h) : (⟨j.val, h⟩ : Fin 1024) = half 0 j := Fin.ext (by simp [half])
theorem hf1 (j : Fin 512) (h) : (⟨512 + j.val, h⟩ : Fin 1024) = half 1 j := Fin.ext (by simp [half])

/-- Row `r` of chunk `q` of a row block. -/
def crow (q : Fin 2) (r : Fin 128) : Fin 256 := ⟨q.val * 128 + r.val, by omega⟩

theorem cr0 (r : Fin 128) (h) : (⟨r.val, h⟩ : Fin 256) = crow 0 r := Fin.ext (by simp [crow])
theorem cr1 (r : Fin 128) (h) : (⟨128 + r.val, h⟩ : Fin 256) = crow 1 r := Fin.ext (by simp [crow])

theorem place_crow (t : Fin 16) (q : Fin 2) (r : Fin 128) : place (rowOf t (crow q r)) = r :=
  Fin.ext (by simp only [place, rowOf, crow]; omega)

theorem chunk_crow (t : Fin 16) (q : Fin 2) (r s : Fin 128) : chunkRow (chunk (rowOf t (crow q r))) s = rowOf t (crow q s) :=
  Fin.ext (by simp only [chunk, chunkRow, rowOf, crow]; omega)

/-- The mixed rows of one chunk and head. -/
theorem mixed_at (A : Mix) (t : Fin 16) (q : Fin 2) (r l : Fin 128) (b : Fin 4) :
    A.mixed (rowOf t (crow q r)) (headCol b l) = ∑ s, A.wm b r s * A.v (rowOf t (crow q s)) (headCol b l) + A.bs b r := by
  unfold Mix.mixed
  simp only [place_crow, chunk_crow, head_headCol]

/-- The cotangent of the normed rows of one chunk and head. -/
theorem dv_at (A : Mix) (t : Fin 16) (q : Fin 2) (r l : Fin 128) (b : Fin 4) :
    A.dv (rowOf t (crow q r)) (headCol b l) = ∑ s, A.wm b s r * A.dmx (rowOf t (crow q s)) (headCol b l) := by
  unfold Mix.dv
  simp only [place_crow, chunk_crow, head_headCol]

/-- What a grid point adds to the spatial weights' and offsets' gradients. -/
def wsPart (A : Mix) (t : Fin 16) (b : Fin 4) (r s : Fin 128) : ℝ :=
  if s ≤ r then ∑ l, A.dmx (rowOf t (crow 0 r)) (headCol b l) * A.v (rowOf t (crow 0 s)) (headCol b l)
    + ∑ l, A.dmx (rowOf t (crow 1 r)) (headCol b l) * A.v (rowOf t (crow 1 s)) (headCol b l) else 0
def bsPart (A : Mix) (t : Fin 16) (b : Fin 4) (r : Fin 128) : ℝ :=
  ∑ l, (A.dmx (rowOf t (crow 0 r)) (headCol b l) + A.dmx (rowOf t (crow 1 r)) (headCol b l))

/-- What pieces that agree with `f` and cover an index leave there. -/
theorem canon_of_pieces {s : Shape} {e : EltTy} (L : List (View.Piece (Elt Ideal) s e)) (f : s.Idx → Elt Ideal e)
    (h : ∀ q ∈ L, ∀ x, q.2 x = f (q.1.emb x)) (y : s.Idx) (hy : ∃ q ∈ L, y ∈ q.1.set) : View.canon L y = f y := by
  induction L with
  | nil => obtain ⟨q, hq, _⟩ := hy; exact absurd hq List.not_mem_nil
  | cons q L ih =>
    by_cases m : y ∈ q.1.set
    · obtain ⟨x, rfl⟩ := q.1.exists_idx_of_mem m
      exact (View.canon_cons_emb q.1 q.2 L x).trans (h q List.mem_cons_self x)
    · rw [View.canon_cons_of_not_mem q L m]
      obtain ⟨q', hq', hm⟩ := hy
      rcases List.mem_cons.1 hq' with rfl | hq'
      · exact absurd hm m
      · exact ih (fun q h' => h q (List.mem_cons_of_mem _ h')) ⟨q', hq', hm⟩

/-- A piece of one chunk and head that agrees with `f` row for row. -/
theorem head_piece {o0 o1 : ℕ} {inb} {w : (Rect.unit (s := S256x512) ![o0, o1] ![128, 128] inb).shape.Idx → EReal} (f : Fin 256 → Fin 512 → ℝ)
    (q : Fin 2) (b : Fin 4) (h0 : o0 = q.val * 128) (h1 : o1 = b.val * 128)
    (h : ∀ r l : Fin 128, w (ix2 r l) = (f (crow q r) (headCol b l) : EReal)) (x) :
    w x = ((f ((Rect.unit (s := S256x512) ![o0, o1] ![128, 128] inb).emb x 0)
      ((Rect.unit (s := S256x512) ![o0, o1] ![128, 128] inb).emb x 1) : ℝ) : EReal) := by
  refine ((congrArg w (eq_ix2 x)).trans (h _ _)).trans (congrArg (fun z : ℝ => (z : EReal)) (congrArg₂ f (Fin.ext ?_) (Fin.ext ?_)))
  · show q.val * 128 + (x 0).val = o0 + 1 * (x 0).val
    omega
  · show b.val * 128 + (x 1).val = o1 + 1 * (x 1).val
    omega

/-- A buffer of four heads, changed so far by `part` at the heads before head `o`, after head `o`'s rows are stored with the same
    change. -/
theorem head_step {o : ℕ} {inb} {D X X' : Vec Ideal S4x128x128 .f32} {w : Vec Ideal S1x128x128 .f32} {part : Fin 4 → Fin 128 → Fin 128 → ℝ}
    (q : Fin 4) (ho : q.val = o) (hX' : X' = Cert.Whole.put X (Rect.unit (s := S4x128x128) ![o, 0, 0] S1x128x128.size inb) w)
    (hw : ∀ r s, w (ix3 0 r s) = D (ix3 q r s) + (part q r s : EReal))
    (h : ∀ b r s, X (ix3 b r s) = D (ix3 b r s) + ((if b.val < o then part b r s else 0 : ℝ) : EReal)) (b : Fin 4) (r s : Fin 128) :
    X' (ix3 b r s) = D (ix3 b r s) + ((if b.val < o + 1 then part b r s else 0 : ℝ) : EReal) := by
  subst hX' ho
  by_cases hb : b = q
  · subst hb
    have e : (Rect.unit (s := S4x128x128) ![b.val, 0, 0] S1x128x128.size inb).emb (ix3 0 r s) = ix3 b r s := by
      funext a
      apply Fin.ext
      match a with
      | ⟨0, _⟩ => exact Nat.add_zero _
      | ⟨1, _⟩ => show 0 + 1 * r.val = r.val; omega
      | ⟨2, _⟩ => show 0 + 1 * s.val = s.val; omega
    rw [if_pos (Nat.lt_succ_self _), ← hw, ← e]
    exact Rect.overlay_emb _ _ _ _
  · have hn : b.val ≠ q.val := fun e => hb (Fin.ext e)
    have e : (b.val < q.val + 1) = (b.val < q.val) := propext (by omega)
    simp only [e]
    rw [← h]
    refine Rect.overlay_of_not_mem _ _ _ fun hm => ?_
    obtain ⟨x, hx⟩ := (Rect.unit (s := S4x128x128) ![q.val, 0, 0] S1x128x128.size inb).exists_idx_of_mem hm
    have h0 : q.val + 1 * (x 0).val = b.val := congrArg (fun y : S4x128x128.Idx => (y 0).val) hx
    have h1 : (x 0).val < 1 := (x 0).isLt
    omega

/-- The comparison of two row numbers as the mask's bit. -/
theorem sge_ix (r s : Fin 128) : IntOp.cmpi CmpIPredicate.sge (BitVec.ofNat 32 r.val) (BitVec.ofNat 32 s.val) = if s ≤ r then 1#1 else 0#1 := by
  have e : ∀ n : Fin 128, (BitVec.ofNat 32 n.val).toInt = n.val := fun n => StableHlo.Predicate.toInt_ofNat_small _ (by omega)
  simp only [IntOp.cmpi, BitVec.sle, e, Int.ofNat_le, Fin.le_def]
  by_cases h : s.val ≤ r.val
  · simp only [h, decide_true, if_true]; rfl
  · simp only [h, decide_false, if_false]; rfl

/-- A bit's choice between a real and zero. -/
theorem below_real (q : Prop) [Decidable q] (x : ℝ) : Scalar.select (if q then 1#1 else 0#1) (x : EReal) 0 = ((if q then x else 0 : ℝ) : EReal) := by
  split <;> simp [Scalar.select]

/-- The logistic function as the kernel computes it. -/
theorem sigmoid_real (x : ℝ) : Ideal.div 1 (1 + Ideal.exp (0 - (x : EReal))) = (Cert.Reals.sig x : EReal) := by
  rw [show (0 : EReal) = ((0 : ℝ) : EReal) from rfl, sub_real, exp_real, one_add_real, one_div_real (by have := Real.exp_pos (0 - x); positivity)]
  unfold Cert.Reals.sig
  rw [zero_sub]

variable {A : Mix} {t : Fin 16} {p : Pt Ideal} (hp : Ins A t p)
include hp

theorem key_v24 (a : Fin 256) (j : Fin 512) : p.v24 (ix2 a j) = (A.pj (rowOf t a) (col 2 j) : EReal) := by
  unfold Pt.v24; unfold_payloads; pointwise; simp only [hp.vb]

theorem key_v26 (a : Fin 256) (j : Fin 512) : p.v26 (ix2 a j) = (A.pj (rowOf t a) (col 3 j) : EReal) := by
  unfold Pt.v26; unfold_payloads; pointwise; simp only [hp.gb]

theorem key_v43 (j : Fin 512) : p.v43 (ix2 0 j) = (A.lg j : EReal) := by
  unfold Pt.v43; unfold_payloads; pointwise; simp only [hp.lng]

theorem key_v45 (j : Fin 512) : p.v45 (ix2 0 j) = (A.cg j : EReal) := by
  unfold Pt.v45; unfold_payloads; pointwise; simp only [hp.cg]

theorem key_v47 (a : Fin 256) (j : Fin 512) : p.v47 (ix2 a j) = (A.u (rowOf t a) j : EReal) := by
  unfold Pt.v47; unfold_payloads; pointwise; simp only [hp.u]

theorem key_v49 (a : Fin 256) (j : Fin 512) : p.v49 (ix2 a j) = (A.du (rowOf t a) j : EReal) := by
  unfold Pt.v49; unfold_payloads; pointwise; simp only [hp.du]

theorem key_v51 (a : Fin 256) (j : Fin 512) : p.v51 (ix2 a j) = (A.dvg (rowOf t a) j : EReal) := by
  unfold Pt.v51; unfold_payloads; pointwise; simp only [hp.dvg]

theorem key_v53 (a : Fin 256) (j : Fin 512) : p.v53 (ix2 a j) = (A.vh (rowOf t a) j : EReal) := by
  unfold Pt.v53; unfold_payloads; pointwise; simp only [hp.vh]

theorem key_v55 (a : Fin 256) : p.v55 (ix2 a 0) = (lrs 512 (A.vg (rowOf t a)) : EReal) := by
  unfold Pt.v55; unfold_payloads; pointwise; simp only [hp.rs]

theorem key_v59 (j : Fin 512) : p.v59 (ix2 0 j) = (A.ce j : EReal) := by
  unfold Pt.v59; unfold_payloads; pointwise; simp only [hp.cbeta]

theorem key_v61 (a : Fin 256) (j : Fin 512) : p.v61 (ix2 a j) = (A.cpre (rowOf t a) j : EReal) := by
  unfold Pt.v61; unfold_payloads; pointwise; simp only [hp.cpre]

theorem key_v65 (a : Fin 256) (j : Fin 512) : p.v65 (ix2 a j) = (A.v (rowOf t a) j : EReal) := by
  unfold Pt.v65; unfold_payloads; pointwise
  simp only [hp.lng, hp.lnb, hp.vh, mul_real, add_real]; rfl

theorem key_v89 (a : Fin 256) (j : Fin 512) : p.v89 (ix2 a j) = (A.v (rowOf t a) j : EReal) := by
  unfold Pt.v89; unfold_payloads; pointwise; simp only [key_v65 hp]

theorem key_v73 (r s : Fin 128) : p.v73 (ix2 r s) = (A.wm 0 r s : EReal) := by
  unfold Pt.v73 Pt.v68; unfold_payloads; pointwise
  simp only [hp.ws, sge_ix, below_real]; rfl

theorem key_v162 (a : Fin 256) (j : Fin 512) : p.v162 (ix2 a j) = (A.sg (rowOf t a) j : EReal) := by
  unfold Pt.v162; unfold_payloads; pointwise
  simp only [key_v26 hp, sigmoid_real]; rfl

theorem key_v188 (a : Fin 256) (r : Fin 128) : p.v188 (ix2 a r) = (hat 128 (A.cgrp (rowOf t a) 0) r : EReal) := by
  unfold Pt.v188; unfold_payloads; pointwise
  simp (disch := norm_num) only [key_v61 hp, hc0, c128, ceps, sub_real, add_real, mul_real, sum_real, div_real, rsqrt_lines]
  rfl

theorem key_v78 (r s : Fin 128) : p.v78 (ix2 r s) = (A.wm 1 r s : EReal) := by
  unfold Pt.v78 Pt.v68; unfold_payloads; pointwise
  simp only [hp.ws, sge_ix, below_real]; rfl

theorem key_v83 (r s : Fin 128) : p.v83 (ix2 r s) = (A.wm 2 r s : EReal) := by
  unfold Pt.v83 Pt.v68; unfold_payloads; pointwise
  simp only [hp.ws, sge_ix, below_real]; rfl

theorem key_v88 (r s : Fin 128) : p.v88 (ix2 r s) = (A.wm 3 r s : EReal) := by
  unfold Pt.v88 Pt.v68; unfold_payloads; pointwise
  simp only [hp.ws, sge_ix, below_real]; rfl

theorem key_v102 (r l : Fin 128) : p.v102 (ix2 r l) = (A.mixed (rowOf t (crow 0 r)) (headCol 1 l) : EReal) := by
  unfold Pt.v102 Pt.v68; unfold_payloads; pointwise
  simp only [key_v65 hp, hp.ws, hp.bf, sge_ix, below_real, cr0, hc1, mul_real, sum_real, add_real, mixed_at, Mix.wm, ite_mul, zero_mul]

theorem key_v134 (r l : Fin 128) : p.v134 (ix2 r l) = (A.mixed (rowOf t (crow 1 r)) (headCol 1 l) : EReal) := by
  unfold Pt.v134; unfold_payloads; pointwise
  simp only [key_v78 hp, key_v89 hp, hp.bf, cr1, hc1, mul_real, sum_real, add_real, mixed_at]

/-- The mixed rows, put together from their eight pieces. -/
theorem key_mx (a : Fin 256) (j : Fin 512) : p.mx (ix2 a j) = (A.mixed (rowOf t a) j : EReal) := by
  unfold Pt.mx
  refine canon_of_pieces (s := S256x512) (e := .f32) _ (fun y => ((A.mixed (rowOf t (y 0)) (y 1) : ℝ) : EReal)) ?_ _
    (View.cover_of_tiledL (s := S256x512) _ ![128, 128] (by sl_kernel_rfl) _)
  simp only [List.forall_mem_cons, List.not_mem_nil, false_imp_iff, implies_true, and_true]
  refine ⟨head_piece (fun a j => A.mixed (rowOf t a) j) 1 3 rfl rfl fun r l => ?_, head_piece (fun a j => A.mixed (rowOf t a) j) 1 2 rfl rfl fun r l => ?_,
    head_piece (fun a j => A.mixed (rowOf t a) j) 1 1 rfl rfl fun r l => ?_, head_piece (fun a j => A.mixed (rowOf t a) j) 1 0 rfl rfl fun r l => ?_,
    head_piece (fun a j => A.mixed (rowOf t a) j) 0 3 rfl rfl fun r l => ?_, head_piece (fun a j => A.mixed (rowOf t a) j) 0 2 rfl rfl fun r l => ?_,
    head_piece (fun a j => A.mixed (rowOf t a) j) 0 1 rfl rfl fun r l => ?_, head_piece (fun a j => A.mixed (rowOf t a) j) 0 0 rfl rfl fun r l => ?_⟩ <;>
    rw [mixed_at] <;> unfold_payloads <;> pointwise
  · simp only [key_v88 hp, key_v89 hp, hp.bf, cr1, hc3, mul_real, sum_real, add_real]
  · simp only [key_v83 hp, key_v89 hp, hp.bf, cr1, hc2, mul_real, sum_real, add_real]
  · rw [key_v134 hp, mixed_at]
  · simp only [key_v73 hp, key_v89 hp, hp.bf, cr1, hc0, mul_real, sum_real, add_real]
  · simp only [key_v88 hp, key_v89 hp, hp.bf, cr0, hc3, mul_real, sum_real, add_real]
  · simp only [key_v83 hp, key_v89 hp, hp.bf, cr0, hc2, mul_real, sum_real, add_real]
  · rw [key_v102 hp, mixed_at]
  · unfold Pt.v68; unfold_payloads; pointwise
    simp only [key_v65 hp, hp.ws, hp.bf, sge_ix, below_real, cr0, hc0, mul_real, sum_real, add_real, Mix.wm, ite_mul, zero_mul]

theorem key_v154 (a : Fin 256) (j : Fin 512) : p.v154 (ix2 a j) = (A.mixed (rowOf t a) j : EReal) := by
  unfold Pt.v154; pointwise; rw [key_mx hp]

theorem key_v155 (a : Fin 256) (j : Fin 512) : p.v155 (ix2 a j) = (A.a (rowOf t a) j : EReal) := by
  unfold Pt.v155; unfold_payloads; pointwise; simp only [key_v154 hp, key_v47 hp, mul_real]; rfl

theorem key_v41 (r : Fin 32) (j : Fin 512) : p.v41 (ix2 r j) = ((if t.val < 15 then A.gv (haloOf t r) j else 0 : ℝ) : EReal) := by
  unfold Pt.v41 Pt.v29 Pt.v34; unfold_payloads; pointwise
  simp only [hp.v27, hp.vbh, hp.gbh, sigmoid_real, mul_real, below_real]
  rfl

theorem key_v164 (n : Fin 288) (j : Fin 512) : p.v164 (ix2 n j) = (A.gAt ((15 - t.val) * 256 + n.val - 2) j : EReal) := by
  unfold Pt.v164; unfold_payloads; pointwise
  by_cases h : n.val < 32
  · rw [dif_pos h, key_v41 hp]
    refine congrArg _ ?_
    unfold Mix.gAt haloOf
    split_ifs with h1 h2 h2
    · exact congrArg (A.gv · j) (Fin.ext (by show ((15 - t.val) * 8 - 1) * 32 + n.val = (15 - t.val) * 256 + n.val - 2 - 30; omega))
    · omega
    · omega
    · rfl
  · rw [dif_neg h]
    refine (congrArg₂ (fun x y : EReal => x * Ideal.div 1 (1 + Ideal.exp (0 - y))) (key_v24 hp _ _) (key_v26 hp _ _)).trans ?_
    rw [sigmoid_real, mul_real]
    refine congrArg _ ?_
    unfold Mix.gAt
    rw [dif_pos (by omega)]
    exact congrArg (A.gv · j) (Fin.ext (by show (15 - t.val) * 256 + (n.val - 32) = (15 - t.val) * 256 + n.val - 2 - 30; omega))

theorem key_v165 (n : Fin 288) (j : Fin 512) (h : n.val + 1 < 288) : p.v165 (ix2 n j) = (A.gAt ((15 - t.val) * 256 + (n.val + 1) - 2) j : EReal) := by
  have e : p.v165 = dynamicRotate 0 287#32 none p.v164 rotates_S288x512_d0 := rfl
  rw [e]; pointwise
  rw [key_v164 hp]
  congr 2
  show (15 - t.val) * 256 + (n.val + 288 - 287) % 288 - 2 = _
  omega

theorem key_dmix (a : Fin 256) (i : Fin 1024) :
    k0_pay73 (View.ld p.dxb (Rect.unit (s := S256x1024) ![0, 0] S256x1024.size inb_S256x1024_S256x1024_0_0))
      (View.ld p.wout (Rect.unit (s := S4x256x1024) ![0, 0, 0] S1x256x1024.size inb_S4x256x1024_S1x256x1024_0_0_0))
      (View.ld p.wout (Rect.unit (s := S4x256x1024) ![1, 0, 0] S1x256x1024.size inb_S4x256x1024_S1x256x1024_1_0_0))
      (View.ld p.wout (Rect.unit (s := S4x256x1024) ![2, 0, 0] S1x256x1024.size inb_S4x256x1024_S1x256x1024_2_0_0))
      (View.ld p.wout (Rect.unit (s := S4x256x1024) ![3, 0, 0] S1x256x1024.size inb_S4x256x1024_S1x256x1024_3_0_0)) (ix2 a i)
      = (A.dmix (rowOf t a) i : EReal) := by
  unfold_payloads; pointwise
  simp only [hp.dxb, hp.wout, mul_real, sum_real]
  unfold Mix.dmix
  split_ifs <;> refine congrArg _ (Finset.sum_congr rfl fun k _ => congrArg (fun i => A.dy _ k * A.wo i k) (Fin.ext ?_)) <;> norm_num <;> omega

theorem key_v275 (a : Fin 256) (j : Fin 512) : p.v275 (ix2 a j) = (A.dmix (rowOf t a) (half 1 j) : EReal) := by
  unfold Pt.v275 k0_pay75; pointwise
  rw [key_dmix hp, hf1]

theorem key_v279 (a : Fin 256) (j : Fin 512) : p.v279 (ix2 a j) = (A.dmx (rowOf t a) j : EReal) := by
  unfold Pt.v279 k0_pay77 k0_pay74; pointwise
  simp only [key_dmix hp, key_v47 hp, hf0, mul_real]; rfl

theorem key_v277 (a : Fin 256) (j : Fin 512) : p.v277 (ix2 a j) = (A.dua (rowOf t a) j : EReal) := by
  unfold Pt.v277 k0_pay76 k0_pay74; pointwise
  simp only [key_dmix hp, key_v154 hp, key_v49 hp, hf0, mul_real]; rfl

/-! ### The normed rows' cotangent -/

theorem key_v287 (s r : Fin 128) : p.v287 (ix2 s r) = (A.wm 0 r s : EReal) := by
  unfold Pt.v287; unfold_payloads; pointwise
  simp only [hp.wst, sge_ix, below_real]; rfl

theorem key_v292 (s r : Fin 128) : p.v292 (ix2 s r) = (A.wm 1 r s : EReal) := by
  unfold Pt.v292; unfold_payloads; pointwise
  simp only [hp.wst, sge_ix, below_real]; rfl

theorem key_v297 (s r : Fin 128) : p.v297 (ix2 s r) = (A.wm 2 r s : EReal) := by
  unfold Pt.v297 Pt.v282; unfold_payloads; pointwise
  simp only [hp.wst, sge_ix, below_real]; rfl

theorem key_v302 (s r : Fin 128) : p.v302 (ix2 s r) = (A.wm 3 r s : EReal) := by
  unfold Pt.v302 Pt.v282; unfold_payloads; pointwise
  simp only [hp.wst, sge_ix, below_real]; rfl

theorem key_dvs (a : Fin 256) (j : Fin 512) : p.dvs (ix2 a j) = (A.dv (rowOf t a) j : EReal) := by
  unfold Pt.dvs
  refine canon_of_pieces (s := S256x512) (e := .f32) _ (fun y => ((A.dv (rowOf t (y 0)) (y 1) : ℝ) : EReal)) ?_ _
    (View.cover_of_tiledL (s := S256x512) _ ![128, 128] (by sl_kernel_rfl) _)
  simp only [List.forall_mem_cons, List.not_mem_nil, false_imp_iff, implies_true, and_true]
  refine ⟨head_piece (fun a j => A.dv (rowOf t a) j) 1 3 rfl rfl fun r l => ?_, head_piece (fun a j => A.dv (rowOf t a) j) 0 3 rfl rfl fun r l => ?_,
    head_piece (fun a j => A.dv (rowOf t a) j) 1 2 rfl rfl fun r l => ?_, head_piece (fun a j => A.dv (rowOf t a) j) 0 2 rfl rfl fun r l => ?_,
    head_piece (fun a j => A.dv (rowOf t a) j) 1 1 rfl rfl fun r l => ?_, head_piece (fun a j => A.dv (rowOf t a) j) 0 1 rfl rfl fun r l => ?_,
    head_piece (fun a j => A.dv (rowOf t a) j) 1 0 rfl rfl fun r l => ?_, head_piece (fun a j => A.dv (rowOf t a) j) 0 0 rfl rfl fun r l => ?_⟩ <;>
    rw [dv_at] <;> (try unfold Pt.v399) <;> unfold_payloads <;> pointwise <;>
    simp only [key_v287 hp, key_v292 hp, key_v297 hp, key_v302 hp, key_v279 hp, cr0, cr1, hc0, hc1, hc2, hc3, mul_real, sum_real]

theorem key_v466 (a : Fin 256) (j : Fin 512) : p.v466 (ix2 a j) = (A.dv (rowOf t a) j : EReal) := by
  unfold Pt.v466; pointwise; rw [key_dvs hp]

theorem key_v498 (a : Fin 256) (j : Fin 512) : p.v498 (ix2 a j) = (A.dva (rowOf t a) j : EReal) := by
  unfold Pt.v498; unfold_payloads; pointwise
  simp (disch := norm_num) only [key_v466 hp, key_v43 hp, key_v51 hp, key_v53 hp, key_v55 hp, c512, mul_real, sub_real, sum_real, div_real]
  rfl

/-! ### What the point adds to the spatial weights' and offsets' gradients -/

theorem key_ws0 (X : Vec Ideal S4x128x128 .f32) (r s : Fin 128) :
    k0_pay91 p.v305 p.v325 (k0_pay90 (View.ld X (Rect.unit (s := S4x128x128) ![0, 0, 0] S1x128x128.size inb_S4x128x128_S1x128x128_0_0_0))) (ix3 0 r s)
      = X (ix3 0 r s) + (wsPart A t 0 r s : EReal) := by
  unfold Pt.v305 Pt.v325; unfold_payloads; pointwise
  simp only [key_v279 hp, key_v89 hp, sge_ix, below_real, cr0, cr1, hc0, hc1, hc2, hc3, zero_add, mul_real, sum_real, add_real]
  rfl

theorem key_ws1 (X : Vec Ideal S4x128x128 .f32) (r s : Fin 128) :
    k0_pay100 p.v305 p.v355 p.v364 (View.ld X (Rect.unit (s := S4x128x128) ![1, 0, 0] S1x128x128.size inb_S4x128x128_S1x128x128_1_0_0)) (ix3 0 r s)
      = X (ix3 1 r s) + (wsPart A t 1 r s : EReal) := by
  unfold Pt.v305 Pt.v355 Pt.v364; unfold_payloads; pointwise
  simp only [key_v279 hp, key_v89 hp, sge_ix, below_real, cr0, cr1, hc0, hc1, hc2, hc3, zero_add, mul_real, sum_real, add_real]
  rfl

theorem key_ws2 (X : Vec Ideal S4x128x128 .f32) (r s : Fin 128) :
    k0_pay109 p.v89 p.v305 p.v395 p.v398 (View.ld X (Rect.unit (s := S4x128x128) ![2, 0, 0] S1x128x128.size inb_S4x128x128_S1x128x128_2_0_0)) (ix3 0 r s)
      = X (ix3 2 r s) + (wsPart A t 2 r s : EReal) := by
  unfold Pt.v305 Pt.v395 Pt.v398; unfold_payloads; pointwise
  simp only [key_v279 hp, key_v89 hp, sge_ix, below_real, cr0, cr1, hc0, hc1, hc2, hc3, zero_add, mul_real, sum_real, add_real]
  rfl

theorem key_ws3 (X : Vec Ideal S4x128x128 .f32) (r s : Fin 128) :
    k0_pay118 p.v89 p.v279 p.v305 p.v426 p.v428 p.v433 p.cst_239 (View.ld X (Rect.unit (s := S4x128x128) ![3, 0, 0] S1x128x128.size inb_S4x128x128_S1x128x128_3_0_0)) (ix3 0 r s)
      = X (ix3 3 r s) + (wsPart A t 3 r s : EReal) := by
  unfold Pt.v305 Pt.v426 Pt.v428 Pt.v433 Pt.cst_239; unfold_payloads; pointwise
  simp only [key_v279 hp, key_v89 hp, sge_ix, below_real, cr0, cr1, hc0, hc1, hc2, hc3, zero_add, mul_real, sum_real, add_real]
  rfl

theorem key_bs0 (X : Vec Ideal S4x128x128 .f32) (r s : Fin 128) :
    k0_pay92 p.v327 (View.ld X (Rect.unit (s := S4x128x128) ![0, 0, 0] S1x128x128.size inb_S4x128x128_S1x128x128_0_0_0)) (ix3 0 r s)
      = X (ix3 0 r s) + (bsPart A t 0 r : EReal) := by
  unfold Pt.v327; unfold_payloads; pointwise
  simp only [key_v279 hp, key_v89 hp, sge_ix, below_real, cr0, cr1, hc0, hc1, hc2, hc3, zero_add, mul_real, sum_real, add_real]
  rfl

theorem key_bs1 (X : Vec Ideal S4x128x128 .f32) (r s : Fin 128) :
    k0_pay101 p.v357 p.v358 (View.ld X (Rect.unit (s := S4x128x128) ![1, 0, 0] S1x128x128.size inb_S4x128x128_S1x128x128_1_0_0)) (ix3 0 r s)
      = X (ix3 1 r s) + (bsPart A t 1 r : EReal) := by
  unfold Pt.v357 Pt.v358; unfold_payloads; pointwise
  simp only [key_v279 hp, key_v89 hp, sge_ix, below_real, cr0, cr1, hc0, hc1, hc2, hc3, zero_add, mul_real, sum_real, add_real]
  rfl

theorem key_bs2 (X : Vec Ideal S4x128x128 .f32) (r s : Fin 128) :
    k0_pay110 p.v397 p.v398 (View.ld X (Rect.unit (s := S4x128x128) ![2, 0, 0] S1x128x128.size inb_S4x128x128_S1x128x128_2_0_0)) (ix3 0 r s)
      = X (ix3 2 r s) + (bsPart A t 2 r : EReal) := by
  unfold Pt.v397 Pt.v398; unfold_payloads; pointwise
  simp only [key_v279 hp, key_v89 hp, sge_ix, below_real, cr0, cr1, hc0, hc1, hc2, hc3, zero_add, mul_real, sum_real, add_real]
  rfl

theorem key_bs3 (X : Vec Ideal S4x128x128 .f32) (r s : Fin 128) :
    k0_pay119 p.v279 p.v427 p.v428 (View.ld X (Rect.unit (s := S4x128x128) ![3, 0, 0] S1x128x128.size inb_S4x128x128_S1x128x128_3_0_0)) (ix3 0 r s)
      = X (ix3 3 r s) + (bsPart A t 3 r : EReal) := by
  unfold Pt.v427 Pt.v428; unfold_payloads; pointwise
  simp only [key_v279 hp, key_v89 hp, sge_ix, below_real, cr0, cr1, hc0, hc1, hc2, hc3, zero_add, mul_real, sum_real, add_real]
  rfl

theorem key_dws (b : Fin 4) (r s : Fin 128) : p.ws14 (ix3 b r s) = p.dws (ix3 b r s) + (wsPart A t b r s : EReal) := by
  have z : ∀ x : EReal, x + ((0 : ℝ) : EReal) = x := fun x => by rw [EReal.coe_zero, add_zero]
  have s1 := head_step (D := p.dws) (X' := p.ws11) (part := wsPart A t) 0 rfl rfl (fun r s => key_ws0 hp _ r s)
    (fun b r s => by simp)
  have s2 := head_step (D := p.dws) (X' := p.ws12) (part := wsPart A t) 1 rfl rfl
    (fun r s => by refine (key_ws1 hp _ r s).trans ?_; rw [s1, if_neg (by decide), z]) s1
  have s3 := head_step (D := p.dws) (X' := p.ws13) (part := wsPart A t) 2 rfl rfl
    (fun r s => by refine (key_ws2 hp _ r s).trans ?_; rw [s2, if_neg (by decide), z]) s2
  have s4 := head_step (D := p.dws) (X' := p.ws14) (part := wsPart A t) 3 rfl rfl
    (fun r s => by refine (key_ws3 hp _ r s).trans ?_; rw [s3, if_neg (by decide), z]) s3
  rw [s4, if_pos (by omega)]

theorem key_dbs (b : Fin 4) (r s : Fin 128) : p.bs14 (ix3 b r s) = p.dbs (ix3 b r s) + (bsPart A t b r : EReal) := by
  have z : ∀ x : EReal, x + ((0 : ℝ) : EReal) = x := fun x => by rw [EReal.coe_zero, add_zero]
  have s1 := head_step (D := p.dbs) (X' := p.bs11) (part := (fun b r _ => bsPart A t b r)) 0 rfl rfl (fun r s => key_bs0 hp _ r s)
    (fun b r s => by simp)
  have s2 := head_step (D := p.dbs) (X' := p.bs12) (part := (fun b r _ => bsPart A t b r)) 1 rfl rfl
    (fun r s => by refine (key_bs1 hp _ r s).trans ?_; rw [s1, if_neg (by decide), z]) s1
  have s3 := head_step (D := p.dbs) (X' := p.bs13) (part := (fun b r _ => bsPart A t b r)) 2 rfl rfl
    (fun r s => by refine (key_bs2 hp _ r s).trans ?_; rw [s2, if_neg (by decide), z]) s2
  have s4 := head_step (D := p.dbs) (X' := p.bs14) (part := (fun b r _ => bsPart A t b r)) 3 rfl rfl
    (fun r s => by refine (key_bs3 hp _ r s).trans ?_; rw [s3, if_neg (by decide), z]) s3
  rw [s4, if_pos (by omega)]

theorem key_dlng (j : Fin 512) : p.dlng' (ix2 0 j) = p.dlng (ix2 0 j) + ((∑ a, A.dv (rowOf t a) j * A.vh (rowOf t a) j : ℝ) : EReal) := by
  unfold Pt.dlng' Pt.v468; unfold_payloads; pointwise
  simp only [key_v466 hp, key_v53 hp, mul_real, sum_real]

theorem key_dlnb (j : Fin 512) : p.dlnb' (ix2 0 j) = p.dlnb (ix2 0 j) + ((∑ a, A.dv (rowOf t a) j : ℝ) : EReal) := by
  unfold Pt.dlnb'; unfold_payloads; pointwise
  simp only [key_v466 hp, sum_real]

end Cert.MixBwdIdeal.Hand

end
-- ==== Proof.MixConv.lean ====
/- One grid point of the token mixers' backward call, over the ideal floats and finite arguments: the convolution's gate, its
   heads' norm and the convolution's own cotangents. -/
module

public import proofs.«01_k».proof.Proof.MixGate

@[expose] public section

set_option maxRecDepth 16384

noncomputable section

namespace Cert.MixBwdIdeal.Hand

open Cert.MixBwdIdeal Cert.MixBwdIdeal.Gen Idealize.ShloMosaic Idealize.ShloMosaic.TcCoe Idealize.SL.Sem Cert.Reals

/-- A column belongs to one of four heads. -/
theorem four_heads {P : Fin 512 → Prop} (h : ∀ b r, P (headCol b r)) (j : Fin 512) : P j := headCol_head_lane j ▸ h (head j) (lane j)

/-- A head's normed row. -/
theorem chh_at (A : Mix) (n : Fin 4096) (b : Fin 4) (r : Fin 128) : A.chh n (headCol b r) = hat 128 (A.cgrp n b) r := by
  unfold Mix.chh; rw [head_headCol, lane_headCol]

/-- A head's cotangent. -/
theorem dcpre_at (A : Mix) (n : Fin 4096) (b : Fin 4) (r : Fin 128) :
    A.dcpre n (headCol b r) = lnBwd 128 (A.cgrp n b) (fun r => A.dcn n (headCol b r) * A.cg (headCol b r)) r := by
  unfold Mix.dcpre; rw [head_headCol, lane_headCol]

/-- A tap of the convolution's filters; past the last, zero. -/
def cwAt (A : Mix) (k : ℕ) (j : Fin 512) : ℝ := if h : k < 31 then A.cw ⟨k, h⟩ j else 0

/-- What the taps before the `n`-th give of the convolution's input's cotangent. -/
def taps (A : Mix) (t : Fin 16) (a : Fin 256) (j : Fin 512) (n : ℕ) : ℝ :=
  ∑ k ∈ Finset.range n, A.dcAt ((rowOf t a).val + (30 - k)) j * cwAt A k j

theorem taps_succ (A : Mix) (t : Fin 16) (a : Fin 256) (j : Fin 512) (n : ℕ) :
    taps A t a j (n + 1) = taps A t a j n + A.dcAt ((rowOf t a).val + (30 - n)) j * cwAt A n j := Finset.sum_range_succ _ _

theorem taps_zero (A : Mix) (t : Fin 16) (a : Fin 256) (j : Fin 512) : taps A t a j 0 = 0 := Finset.sum_range_zero _

theorem taps_all (A : Mix) (t : Fin 16) (a : Fin 256) (j : Fin 512) : taps A t a j 31 = A.dg (rowOf t a) j := by
  unfold taps Mix.dg
  rw [← Fin.sum_univ_eq_sum_range (fun k => A.dcAt ((rowOf t a).val + (30 - k)) j * cwAt A k j)]
  exact Finset.sum_congr rfl fun k _ => by unfold cwAt; rw [dif_pos k.isLt]

/-- What a grid point adds to the filters' gradients. -/
def cwPart (A : Mix) (t : Fin 16) (k : ℕ) (j : Fin 512) : ℝ := ∑ a, A.dcpre (rowOf t a) j * A.gAt ((rowOf t a).val + k) j

/-- One step of a buffer filled by rows: a row's write turns "the rows before it have their part" into the next such statement. -/
theorem row_step {o : ℕ} {inb} {D X X' : Vec Ideal S32x512 .f32} {w : Vec Ideal S1x512 .f32} {part : ℕ → Fin 512 → ℝ}
    (q : Fin 32) (ho : q.val = o) (hX' : X' = Cert.Whole.put X (Rect.unit (s := S32x512) ![o, 0] S1x512.size inb) w)
    (hw : ∀ j, w (ix2 0 j) = D (ix2 q j) + (part o j : EReal))
    (h : ∀ (b : Fin 32) j, X (ix2 b j) = D (ix2 b j) + ((if b.val < o then part b.val j else 0 : ℝ) : EReal)) (b : Fin 32) (j : Fin 512) :
    X' (ix2 b j) = D (ix2 b j) + ((if b.val < o + 1 then part b.val j else 0 : ℝ) : EReal) := by
  subst hX' ho
  by_cases hb : b = q
  · subst hb
    have e : (Rect.unit (s := S32x512) ![b.val, 0] S1x512.size inb).emb (ix2 0 j) = ix2 b j := by
      funext a
      apply Fin.ext
      match a with
      | ⟨0, _⟩ => exact Nat.add_zero _
      | ⟨1, _⟩ => show 0 + 1 * j.val = j.val; omega
    rw [if_pos (Nat.lt_succ_self _), ← hw, ← e]
    exact Rect.overlay_emb _ _ _ _
  · have hn : b.val ≠ q.val := fun e => hb (Fin.ext e)
    have e : (b.val < q.val + 1) = (b.val < q.val) := propext (by omega)
    simp only [e]
    rw [← h]
    refine Rect.overlay_of_not_mem _ _ _ fun hm => ?_
    obtain ⟨x, hx⟩ := (Rect.unit (s := S32x512) ![q.val, 0] S1x512.size inb).exists_idx_of_mem hm
    have h0 : q.val + 1 * (x 0).val = b.val := congrArg (fun y : S32x512.Idx => (y 0).val) hx
    have h1 : (x 0).val < 1 := (x 0).isLt
    omega

/-- Nothing is added before the first row. -/
theorem no_rows (x : EReal) {P : Prop} [Decidable P] (h : ¬P) (y : ℝ) : x + ((if P then y else 0 : ℝ) : EReal) = x := by
  rw [if_neg h, EReal.coe_zero, add_zero]

variable {A : Mix} {t : Fin 16} {p : Pt Ideal} (hp : Ins A t p)
include hp

/-! ### The convolution's input, shifted -/

theorem key_v166 (n : ℕ) (hn : n < 288) (j : Fin 512) (h : n + 2 < 288) :
    p.v166 (ix2 ⟨n, hn⟩ j) = (A.gAt ((15 - t.val) * 256 + (n + 2) - 2) j : EReal) := by
  have e : p.v166 = dynamicRotate 0 286#32 none p.v164 rotates_S288x512_d0 := rfl
  rw [e]; pointwise
  rw [key_v164 hp]
  refine congrArg (fun n => ((A.gAt n j : ℝ) : EReal)) ?_
  show (15 - t.val) * 256 + (n + 288 - 286) % 288 - 2 = _
  omega

theorem key_v167 (n : ℕ) (hn : n < 288) (j : Fin 512) (h : n + 3 < 288) :
    p.v167 (ix2 ⟨n, hn⟩ j) = (A.gAt ((15 - t.val) * 256 + (n + 3) - 2) j : EReal) := by
  have e : p.v167 = dynamicRotate 0 285#32 none p.v164 rotates_S288x512_d0 := rfl
  rw [e]; pointwise
  rw [key_v164 hp]
  refine congrArg (fun n => ((A.gAt n j : ℝ) : EReal)) ?_
  show (15 - t.val) * 256 + (n + 288 - 285) % 288 - 2 = _
  omega

theorem key_v168 (n : ℕ) (hn : n < 288) (j : Fin 512) (h : n + 4 < 288) :
    p.v168 (ix2 ⟨n, hn⟩ j) = (A.gAt ((15 - t.val) * 256 + (n + 4) - 2) j : EReal) := by
  have e : p.v168 = dynamicRotate 0 284#32 none p.v164 rotates_S288x512_d0 := rfl
  rw [e]; pointwise
  rw [key_v164 hp]
  refine congrArg (fun n => ((A.gAt n j : ℝ) : EReal)) ?_
  show (15 - t.val) * 256 + (n + 288 - 284) % 288 - 2 = _
  omega

theorem key_v169 (n : ℕ) (hn : n < 288) (j : Fin 512) (h : n + 5 < 288) :
    p.v169 (ix2 ⟨n, hn⟩ j) = (A.gAt ((15 - t.val) * 256 + (n + 5) - 2) j : EReal) := by
  have e : p.v169 = dynamicRotate 0 283#32 none p.v164 rotates_S288x512_d0 := rfl
  rw [e]; pointwise
  rw [key_v164 hp]
  refine congrArg (fun n => ((A.gAt n j : ℝ) : EReal)) ?_
  show (15 - t.val) * 256 + (n + 288 - 283) % 288 - 2 = _
  omega

theorem key_v170 (n : ℕ) (hn : n < 288) (j : Fin 512) (h : n + 6 < 288) :
    p.v170 (ix2 ⟨n, hn⟩ j) = (A.gAt ((15 - t.val) * 256 + (n + 6) - 2) j : EReal) := by
  have e : p.v170 = dynamicRotate 0 282#32 none p.v164 rotates_S288x512_d0 := rfl
  rw [e]; pointwise
  rw [key_v164 hp]
  refine congrArg (fun n => ((A.gAt n j : ℝ) : EReal)) ?_
  show (15 - t.val) * 256 + (n + 288 - 282) % 288 - 2 = _
  omega

theorem key_v171 (n : ℕ) (hn : n < 288) (j : Fin 512) (h : n + 7 < 288) :
    p.v171 (ix2 ⟨n, hn⟩ j) = (A.gAt ((15 - t.val) * 256 + (n + 7) - 2) j : EReal) := by
  have e : p.v171 = dynamicRotate 0 281#32 none p.v164 rotates_S288x512_d0 := rfl
  rw [e]; pointwise
  rw [key_v164 hp]
  refine congrArg (fun n => ((A.gAt n j : ℝ) : EReal)) ?_
  show (15 - t.val) * 256 + (n + 288 - 281) % 288 - 2 = _
  omega

/-- The same by the row they belong to. -/
theorem off_v164 (o : ℕ) (a : Fin 256) (j : Fin 512) (h) (h2 : 8 ≤ o) (h3 : o + 0 ≤ 32) :
    p.v164 (ix2 ⟨o + a.val, h⟩ j) = (A.gAt ((rowOf t a).val + (o + 0 - 2)) j : EReal) := by
  refine (key_v164 hp _ _).trans (congrArg (fun n => ((A.gAt n j : ℝ) : EReal)) ?_)
  unfold rowOf; dsimp only; omega

theorem off_v165 (o : ℕ) (a : Fin 256) (j : Fin 512) (h) (h2 : 8 ≤ o) (h3 : o + 1 ≤ 32) :
    p.v165 (ix2 ⟨o + a.val, h⟩ j) = (A.gAt ((rowOf t a).val + (o + 1 - 2)) j : EReal) := by
  refine (key_v165 hp _ _ (by dsimp only; omega)).trans (congrArg (fun n => ((A.gAt n j : ℝ) : EReal)) ?_)
  unfold rowOf; dsimp only; omega

theorem at_v166 (a : Fin 256) (j : Fin 512) (h) : p.v166 (ix2 ⟨a.val, h⟩ j) = (A.gAt ((rowOf t a).val + (2 - 2)) j : EReal) := by
  refine (key_v166 hp _ _ _ (by omega)).trans (congrArg (fun n => ((A.gAt n j : ℝ) : EReal)) ?_)
  unfold rowOf; dsimp only; omega

theorem off_v166 (o : ℕ) (a : Fin 256) (j : Fin 512) (h) (h2 : 8 ≤ o) (h3 : o + 2 ≤ 32) :
    p.v166 (ix2 ⟨o + a.val, h⟩ j) = (A.gAt ((rowOf t a).val + (o + 2 - 2)) j : EReal) := by
  refine (key_v166 hp _ _ _ (by omega)).trans (congrArg (fun n => ((A.gAt n j : ℝ) : EReal)) ?_)
  unfold rowOf; dsimp only; omega

theorem at_v167 (a : Fin 256) (j : Fin 512) (h) : p.v167 (ix2 ⟨a.val, h⟩ j) = (A.gAt ((rowOf t a).val + (3 - 2)) j : EReal) := by
  refine (key_v167 hp _ _ _ (by omega)).trans (congrArg (fun n => ((A.gAt n j : ℝ) : EReal)) ?_)
  unfold rowOf; dsimp only; omega

theorem off_v167 (o : ℕ) (a : Fin 256) (j : Fin 512) (h) (h2 : 8 ≤ o) (h3 : o + 3 ≤ 32) :
    p.v167 (ix2 ⟨o + a.val, h⟩ j) = (A.gAt ((rowOf t a).val + (o + 3 - 2)) j : EReal) := by
  refine (key_v167 hp _ _ _ (by omega)).trans (congrArg (fun n => ((A.gAt n j : ℝ) : EReal)) ?_)
  unfold rowOf; dsimp only; omega

theorem at_v168 (a : Fin 256) (j : Fin 512) (h) : p.v168 (ix2 ⟨a.val, h⟩ j) = (A.gAt ((rowOf t a).val + (4 - 2)) j : EReal) := by
  refine (key_v168 hp _ _ _ (by omega)).trans (congrArg (fun n => ((A.gAt n j : ℝ) : EReal)) ?_)
  unfold rowOf; dsimp only; omega

theorem off_v168 (o : ℕ) (a : Fin 256) (j : Fin 512) (h) (h2 : 8 ≤ o) (h3 : o + 4 ≤ 32) :
    p.v168 (ix2 ⟨o + a.val, h⟩ j) = (A.gAt ((rowOf t a).val + (o + 4 - 2)) j : EReal) := by
  refine (key_v168 hp _ _ _ (by omega)).trans (congrArg (fun n => ((A.gAt n j : ℝ) : EReal)) ?_)
  unfold rowOf; dsimp only; omega

theorem at_v169 (a : Fin 256) (j : Fin 512) (h) : p.v169 (ix2 ⟨a.val, h⟩ j) = (A.gAt ((rowOf t a).val + (5 - 2)) j : EReal) := by
  refine (key_v169 hp _ _ _ (by omega)).trans (congrArg (fun n => ((A.gAt n j : ℝ) : EReal)) ?_)
  unfold rowOf; dsimp only; omega

theorem off_v169 (o : ℕ) (a : Fin 256) (j : Fin 512) (h) (h2 : 8 ≤ o) (h3 : o + 5 ≤ 32) :
    p.v169 (ix2 ⟨o + a.val, h⟩ j) = (A.gAt ((rowOf t a).val + (o + 5 - 2)) j : EReal) := by
  refine (key_v169 hp _ _ _ (by omega)).trans (congrArg (fun n => ((A.gAt n j : ℝ) : EReal)) ?_)
  unfold rowOf; dsimp only; omega

theorem at_v170 (a : Fin 256) (j : Fin 512) (h) : p.v170 (ix2 ⟨a.val, h⟩ j) = (A.gAt ((rowOf t a).val + (6 - 2)) j : EReal) := by
  refine (key_v170 hp _ _ _ (by omega)).trans (congrArg (fun n => ((A.gAt n j : ℝ) : EReal)) ?_)
  unfold rowOf; dsimp only; omega

theorem off_v170 (o : ℕ) (a : Fin 256) (j : Fin 512) (h) (h2 : 8 ≤ o) (h3 : o + 6 ≤ 32) :
    p.v170 (ix2 ⟨o + a.val, h⟩ j) = (A.gAt ((rowOf t a).val + (o + 6 - 2)) j : EReal) := by
  refine (key_v170 hp _ _ _ (by omega)).trans (congrArg (fun n => ((A.gAt n j : ℝ) : EReal)) ?_)
  unfold rowOf; dsimp only; omega

theorem at_v171 (a : Fin 256) (j : Fin 512) (h) : p.v171 (ix2 ⟨a.val, h⟩ j) = (A.gAt ((rowOf t a).val + (7 - 2)) j : EReal) := by
  refine (key_v171 hp _ _ _ (by omega)).trans (congrArg (fun n => ((A.gAt n j : ℝ) : EReal)) ?_)
  unfold rowOf; dsimp only; omega

theorem off_v171 (o : ℕ) (a : Fin 256) (j : Fin 512) (h) (h2 : 8 ≤ o) (h3 : o + 7 ≤ 32) :
    p.v171 (ix2 ⟨o + a.val, h⟩ j) = (A.gAt ((rowOf t a).val + (o + 7 - 2)) j : EReal) := by
  refine (key_v171 hp _ _ _ (by omega)).trans (congrArg (fun n => ((A.gAt n j : ℝ) : EReal)) ?_)
  unfold rowOf; dsimp only; omega

/-! ### The heads' norm and its gate -/

theorem key_v186 (a : Fin 256) : p.v186 (ix2 a 0) = (lrs 128 (A.cgrp (rowOf t a) 0) : EReal) := by
  unfold Pt.v186; unfold_payloads; pointwise
  simp (disch := norm_num) only [key_v61 hp, hc0, c128, ceps, sub_real, add_real, mul_real, sum_real, div_real, rsqrt_lines]
  rfl

theorem key_v203 (a : Fin 256) : p.v203 (ix2 a 0) = (lrs 128 (A.cgrp (rowOf t a) 1) : EReal) := by
  unfold Pt.v203; unfold_payloads; pointwise
  simp (disch := norm_num) only [key_v61 hp, hc1, c128, ceps, sub_real, add_real, mul_real, sum_real, div_real, rsqrt_lines]
  rfl

theorem key_v220 (a : Fin 256) : p.v220 (ix2 a 0) = (lrs 128 (A.cgrp (rowOf t a) 2) : EReal) := by
  unfold Pt.v220 Pt.v214; unfold_payloads; pointwise
  simp (disch := norm_num) only [key_v61 hp, hc2, c128, ceps, sub_real, add_real, mul_real, sum_real, div_real, rsqrt_lines]
  rfl

theorem key_v237 (a : Fin 256) : p.v237 (ix2 a 0) = (lrs 128 (A.cgrp (rowOf t a) 3) : EReal) := by
  unfold Pt.v237; unfold_payloads; pointwise
  simp (disch := norm_num) only [key_v61 hp, hc3, c128, ceps, sub_real, add_real, mul_real, sum_real, div_real, rsqrt_lines]
  rfl

theorem key_v205 (a : Fin 256) (r : Fin 128) : p.v205 (ix2 a r) = (hat 128 (A.cgrp (rowOf t a) 1) r : EReal) := by
  unfold Pt.v205; unfold_payloads; pointwise
  simp (disch := norm_num) only [key_v61 hp, hc1, c128, ceps, sub_real, add_real, mul_real, sum_real, div_real, rsqrt_lines]
  rfl

theorem key_v240 (a : Fin 256) : ∀ j : Fin 512, p.v240 (ix2 a j) = (A.chh (rowOf t a) j : EReal) := by
  refine four_heads fun b r => ?_
  rw [chh_at]
  unfold Pt.v240
  match b with
  | 0 =>
    rw [← hc0 r (by omega)]; unfold k0_pay68; pointwise
    exact key_v188 hp a r
  | 1 =>
    rw [← hc1 r (by omega)]; unfold k0_pay68; pointwise
    exact key_v205 hp a r
  | 2 =>
    rw [← hc2 r (by omega)]; unfold Pt.v212 Pt.v214; unfold_payloads; pointwise
    rw [dif_neg (by omega), dif_neg (by omega), dif_pos (by omega)]
    simp only [show 256 + r.val - 128 - 128 = r.val by omega]
    simp (disch := norm_num) only [key_v61 hp, hc2, c128, ceps, sub_real, add_real, mul_real, sum_real, div_real, rsqrt_lines]
    rfl
  | 3 =>
    rw [← hc3 r (by omega)]; unfold_payloads; pointwise
    rw [dif_neg (by omega), dif_neg (by omega), dif_neg (by omega)]
    simp only [show 384 + r.val - 128 - 128 - 128 = r.val by omega]
    simp (disch := norm_num) only [key_v61 hp, hc3, c128, ceps, sub_real, add_real, mul_real, sum_real, div_real, rsqrt_lines]
    rfl

theorem key_v244 (a : Fin 256) (j : Fin 512) : p.v244 (ix2 a j) = (A.cn (rowOf t a) j : EReal) := by
  have e : p.v244 (ix2 a j) = p.v240 (ix2 a j) * p.v45 (ix2 0 j) + p.v59 (ix2 0 j) := by
    unfold Pt.v244 Pt.v240 k0_pay69; pointwise
  rw [e, key_v240 hp, key_v45 hp, key_v59 hp, mul_real, add_real]; rfl

theorem key_v251 (a : Fin 256) (j : Fin 512) : p.v251 (ix2 a j) = (A.sc (rowOf t a) j : EReal) := by
  have e : p.v251 (ix2 a j) = Ideal.div 1 (1 + Ideal.exp (0 - p.v244 (ix2 a j))) := by
    unfold Pt.v251 Pt.v244 k0_pay70; pointwise
  rw [e, key_v244 hp, sigmoid_real]; rfl

theorem key_v505 (a : Fin 256) (j : Fin 512) : p.v505 (ix2 a j) = (A.dcn (rowOf t a) j : EReal) := by
  unfold Pt.v505; unfold_payloads; pointwise
  simp only [key_v244 hp, key_v251 hp, key_v275 hp, ← EReal.coe_one, mul_real, sub_real, add_real]; rfl

theorem key_dcg (j : Fin 512) : p.dcg' (ix2 0 j) = p.dcg (ix2 0 j) + ((∑ a, A.dcn (rowOf t a) j * A.chh (rowOf t a) j : ℝ) : EReal) := by
  have e : p.v509 = multiReduction .add [0] S512 (mulf p.v505 p.v240) 0x00000000#32 reduces_S256x512_S512 (.inl rfl) rfl := rfl
  unfold Pt.dcg' Pt.v507; rw [e]; unfold_payloads; pointwise
  simp only [key_v505 hp, key_v240 hp, mul_real, sum_real]

theorem key_dcbeta (j : Fin 512) : p.dcbeta' (ix2 0 j) = p.dcbeta (ix2 0 j) + ((∑ a, A.dcn (rowOf t a) j : ℝ) : EReal) := by
  unfold Pt.dcbeta'; unfold_payloads; pointwise
  simp only [key_v505 hp, sum_real]

theorem key_v520 (a : Fin 256) (j : Fin 512) : p.v520 (ix2 a j) = ((A.dcn (rowOf t a) j * A.cg j : ℝ) : EReal) := by
  unfold Pt.v520; unfold_payloads; pointwise
  simp only [key_v505 hp, key_v45 hp, mul_real]

theorem key_v593 (a : Fin 256) : ∀ j : Fin 512, p.v593 (ix2 a j) = (A.dcpre (rowOf t a) j : EReal) := by
  refine four_heads fun b r => ?_
  rw [dcpre_at]
  unfold Pt.v593
  match b with
  | 0 =>
    rw [← hc0 r (by omega)]; unfold Pt.v538; unfold_payloads; pointwise
    simp (disch := norm_num) only [key_v520 hp, key_v505 hp, key_v45 hp, key_v240 hp, key_v186 hp, key_v203 hp, key_v220 hp, key_v237 hp, hc0, chh_at, c128, sub_real, mul_real, sum_real, div_real]
    rfl
  | 1 =>
    rw [← hc1 r (by omega)]; unfold Pt.v540 Pt.v546 Pt.v552; unfold_payloads; pointwise
    simp (disch := norm_num) only [key_v520 hp, key_v505 hp, key_v45 hp, key_v240 hp, key_v186 hp, key_v203 hp, key_v220 hp, key_v237 hp, hc1, chh_at, c128, sub_real, mul_real, sum_real, div_real]
    rfl
  | 2 =>
    rw [← hc2 r (by omega)]; unfold_payloads; pointwise
    rw [dif_neg (by omega), dif_neg (by omega), dif_pos (by omega)]
    simp only [show 256 + r.val - 128 - 128 = r.val by omega]
    simp (disch := norm_num) only [key_v520 hp, key_v505 hp, key_v45 hp, key_v240 hp, key_v186 hp, key_v203 hp, key_v220 hp, key_v237 hp, hc2, chh_at, c128, sub_real, mul_real, sum_real, div_real]
    rfl
  | 3 =>
    rw [← hc3 r (by omega)]; unfold_payloads; pointwise
    rw [dif_neg (by omega), dif_neg (by omega), dif_neg (by omega)]
    simp only [show 384 + r.val - 128 - 128 - 128 = r.val by omega]
    simp (disch := norm_num) only [key_v520 hp, key_v505 hp, key_v45 hp, key_v240 hp, key_v186 hp, key_v203 hp, key_v220 hp, key_v237 hp, hc3, chh_at, c128, sub_real, mul_real, sum_real, div_real]
    rfl

theorem key_dcb (j : Fin 512) : p.dcb' (ix2 0 j) = p.dcb (ix2 0 j) + ((∑ a, A.dcpre (rowOf t a) j : ℝ) : EReal) := by
  have e : p.dcb' (ix2 0 j) = p.dcb (ix2 0 j) + ∑ a, p.v593 (ix2 a j) := by
    unfold Pt.dcb' Pt.v598 Pt.v593 k0_pay136; pointwise
  rw [e]
  simp only [key_v593 hp, sum_real]

theorem key_carry (r : Fin 32) (j : Fin 512) : p.carry' (ix2 r j) = (A.dcAt ((15 - t.val) * 256 + r.val) j : EReal) := by
  unfold Pt.carry'; unfold_payloads; pointwise
  rw [key_v593 hp]
  unfold Mix.dcAt rowOf
  rw [dif_pos (by omega)]

end Cert.MixBwdIdeal.Hand

end
-- ==== Proof.MixTaps.lean ====
/- One grid point of the token mixers' backward call: the convolution's thirty-one taps, into its filters' gradients and back into
   its input's cotangent. -/
module

public import proofs.«01_k».proof.Proof.MixConv

@[expose] public section

set_option maxRecDepth 16384

noncomputable section

namespace Cert.MixBwdIdeal.Hand

open Cert.MixBwdIdeal Cert.MixBwdIdeal.Gen Idealize.ShloMosaic Idealize.ShloMosaic.TcCoe Idealize.SL.Sem Cert.Reals

variable {A : Mix} {t : Fin 16} {p : Pt Ideal} (hp : Ins A t p)
include hp

/-! ### The convolution's output's cotangent, shifted -/

theorem key_v601 (hc : ∀ (r : Fin 32) j, p.carry (ix2 r j) = (A.dcAt ((15 - t.val) * 256 + 256 + r.val) j : EReal)) (n : Fin 288) (j : Fin 512) :
    p.v601 (ix2 n j) = (A.dcAt ((15 - t.val) * 256 + n.val) j : EReal) := by
  unfold Pt.v601; unfold_payloads; pointwise
  split
  · rw [key_v593 hp]
    unfold Mix.dcAt rowOf
    rw [dif_pos (by omega)]
  · rw [hc]
    refine congrArg (fun n => ((A.dcAt n j : ℝ) : EReal)) ?_
    dsimp only; omega

theorem at_v601 (hc : ∀ (r : Fin 32) j, p.carry (ix2 r j) = (A.dcAt ((15 - t.val) * 256 + 256 + r.val) j : EReal)) (a : Fin 256) (j : Fin 512) (h) :
    p.v601 (ix2 ⟨a.val, h⟩ j) = (A.dcAt ((rowOf t a).val + 0) j : EReal) := by
  refine (key_v601 hp hc _ _).trans (congrArg (fun n => ((A.dcAt n j : ℝ) : EReal)) ?_)
  unfold rowOf; dsimp only; omega

theorem off_v601 (hc : ∀ (r : Fin 32) j, p.carry (ix2 r j) = (A.dcAt ((15 - t.val) * 256 + 256 + r.val) j : EReal)) (o : ℕ) (a : Fin 256) (j : Fin 512) (h) (h3 : o + 0 ≤ 32) :
    p.v601 (ix2 ⟨o + a.val, h⟩ j) = (A.dcAt ((rowOf t a).val + (o + 0)) j : EReal) := by
  refine (key_v601 hp hc _ _).trans (congrArg (fun n => ((A.dcAt n j : ℝ) : EReal)) ?_)
  unfold rowOf; dsimp only; omega

theorem key_v602 (hc : ∀ (r : Fin 32) j, p.carry (ix2 r j) = (A.dcAt ((15 - t.val) * 256 + 256 + r.val) j : EReal)) (n : ℕ) (hn : n < 288) (j : Fin 512) (h : n + 1 < 288) :
    p.v602 (ix2 ⟨n, hn⟩ j) = (A.dcAt ((15 - t.val) * 256 + (n + 1)) j : EReal) := by
  have e : p.v602 = dynamicRotate 0 287#32 none p.v601 rotates_S288x512_d0 := rfl
  rw [e]; pointwise
  rw [key_v601 hp hc]
  refine congrArg (fun n => ((A.dcAt n j : ℝ) : EReal)) ?_
  show (15 - t.val) * 256 + (n + 288 - 287) % 288 = _
  omega

theorem at_v602 (hc : ∀ (r : Fin 32) j, p.carry (ix2 r j) = (A.dcAt ((15 - t.val) * 256 + 256 + r.val) j : EReal)) (a : Fin 256) (j : Fin 512) (h) :
    p.v602 (ix2 ⟨a.val, h⟩ j) = (A.dcAt ((rowOf t a).val + 1) j : EReal) := by
  refine (key_v602 hp hc _ _ _ (by omega)).trans (congrArg (fun n => ((A.dcAt n j : ℝ) : EReal)) ?_)
  unfold rowOf; dsimp only; omega

theorem off_v602 (hc : ∀ (r : Fin 32) j, p.carry (ix2 r j) = (A.dcAt ((15 - t.val) * 256 + 256 + r.val) j : EReal)) (o : ℕ) (a : Fin 256) (j : Fin 512) (h) (h3 : o + 1 ≤ 32) :
    p.v602 (ix2 ⟨o + a.val, h⟩ j) = (A.dcAt ((rowOf t a).val + (o + 1)) j : EReal) := by
  refine (key_v602 hp hc _ _ _ (by omega)).trans (congrArg (fun n => ((A.dcAt n j : ℝ) : EReal)) ?_)
  unfold rowOf; dsimp only; omega

theorem key_v603 (hc : ∀ (r : Fin 32) j, p.carry (ix2 r j) = (A.dcAt ((15 - t.val) * 256 + 256 + r.val) j : EReal)) (n : ℕ) (hn : n < 288) (j : Fin 512) (h : n + 2 < 288) :
    p.v603 (ix2 ⟨n, hn⟩ j) = (A.dcAt ((15 - t.val) * 256 + (n + 2)) j : EReal) := by
  have e : p.v603 = dynamicRotate 0 286#32 none p.v601 rotates_S288x512_d0 := rfl
  rw [e]; pointwise
  rw [key_v601 hp hc]
  refine congrArg (fun n => ((A.dcAt n j : ℝ) : EReal)) ?_
  show (15 - t.val) * 256 + (n + 288 - 286) % 288 = _
  omega

theorem at_v603 (hc : ∀ (r : Fin 32) j, p.carry (ix2 r j) = (A.dcAt ((15 - t.val) * 256 + 256 + r.val) j : EReal)) (a : Fin 256) (j : Fin 512) (h) :
    p.v603 (ix2 ⟨a.val, h⟩ j) = (A.dcAt ((rowOf t a).val + 2) j : EReal) := by
  refine (key_v603 hp hc _ _ _ (by omega)).trans (congrArg (fun n => ((A.dcAt n j : ℝ) : EReal)) ?_)
  unfold rowOf; dsimp only; omega

theorem off_v603 (hc : ∀ (r : Fin 32) j, p.carry (ix2 r j) = (A.dcAt ((15 - t.val) * 256 + 256 + r.val) j : EReal)) (o : ℕ) (a : Fin 256) (j : Fin 512) (h) (h3 : o + 2 ≤ 32) :
    p.v603 (ix2 ⟨o + a.val, h⟩ j) = (A.dcAt ((rowOf t a).val + (o + 2)) j : EReal) := by
  refine (key_v603 hp hc _ _ _ (by omega)).trans (congrArg (fun n => ((A.dcAt n j : ℝ) : EReal)) ?_)
  unfold rowOf; dsimp only; omega

theorem key_v604 (hc : ∀ (r : Fin 32) j, p.carry (ix2 r j) = (A.dcAt ((15 - t.val) * 256 + 256 + r.val) j : EReal)) (n : ℕ) (hn : n < 288) (j : Fin 512) (h : n + 3 < 288) :
    p.v604 (ix2 ⟨n, hn⟩ j) = (A.dcAt ((15 - t.val) * 256 + (n + 3)) j : EReal) := by
  have e : p.v604 = dynamicRotate 0 285#32 none p.v601 rotates_S288x512_d0 := rfl
  rw [e]; pointwise
  rw [key_v601 hp hc]
  refine congrArg (fun n => ((A.dcAt n j : ℝ) : EReal)) ?_
  show (15 - t.val) * 256 + (n + 288 - 285) % 288 = _
  omega

theorem at_v604 (hc : ∀ (r : Fin 32) j, p.carry (ix2 r j) = (A.dcAt ((15 - t.val) * 256 + 256 + r.val) j : EReal)) (a : Fin 256) (j : Fin 512) (h) :
    p.v604 (ix2 ⟨a.val, h⟩ j) = (A.dcAt ((rowOf t a).val + 3) j : EReal) := by
  refine (key_v604 hp hc _ _ _ (by omega)).trans (congrArg (fun n => ((A.dcAt n j : ℝ) : EReal)) ?_)
  unfold rowOf; dsimp only; omega

theorem off_v604 (hc : ∀ (r : Fin 32) j, p.carry (ix2 r j) = (A.dcAt ((15 - t.val) * 256 + 256 + r.val) j : EReal)) (o : ℕ) (a : Fin 256) (j : Fin 512) (h) (h3 : o + 3 ≤ 32) :
    p.v604 (ix2 ⟨o + a.val, h⟩ j) = (A.dcAt ((rowOf t a).val + (o + 3)) j : EReal) := by
  refine (key_v604 hp hc _ _ _ (by omega)).trans (congrArg (fun n => ((A.dcAt n j : ℝ) : EReal)) ?_)
  unfold rowOf; dsimp only; omega

theorem key_v605 (hc : ∀ (r : Fin 32) j, p.carry (ix2 r j) = (A.dcAt ((15 - t.val) * 256 + 256 + r.val) j : EReal)) (n : ℕ) (hn : n < 288) (j : Fin 512) (h : n + 4 < 288) :
    p.v605 (ix2 ⟨n, hn⟩ j) = (A.dcAt ((15 - t.val) * 256 + (n + 4)) j : EReal) := by
  have e : p.v605 = dynamicRotate 0 284#32 none p.v601 rotates_S288x512_d0 := rfl
  rw [e]; pointwise
  rw [key_v601 hp hc]
  refine congrArg (fun n => ((A.dcAt n j : ℝ) : EReal)) ?_
  show (15 - t.val) * 256 + (n + 288 - 284) % 288 = _
  omega

theorem at_v605 (hc : ∀ (r : Fin 32) j, p.carry (ix2 r j) = (A.dcAt ((15 - t.val) * 256 + 256 + r.val) j : EReal)) (a : Fin 256) (j : Fin 512) (h) :
    p.v605 (ix2 ⟨a.val, h⟩ j) = (A.dcAt ((rowOf t a).val + 4) j : EReal) := by
  refine (key_v605 hp hc _ _ _ (by omega)).trans (congrArg (fun n => ((A.dcAt n j : ℝ) : EReal)) ?_)
  unfold rowOf; dsimp only; omega

theorem off_v605 (hc : ∀ (r : Fin 32) j, p.carry (ix2 r j) = (A.dcAt ((15 - t.val) * 256 + 256 + r.val) j : EReal)) (o : ℕ) (a : Fin 256) (j : Fin 512) (h) (h3 : o + 4 ≤ 32) :
    p.v605 (ix2 ⟨o + a.val, h⟩ j) = (A.dcAt ((rowOf t a).val + (o + 4)) j : EReal) := by
  refine (key_v605 hp hc _ _ _ (by omega)).trans (congrArg (fun n => ((A.dcAt n j : ℝ) : EReal)) ?_)
  unfold rowOf; dsimp only; omega

theorem key_v606 (hc : ∀ (r : Fin 32) j, p.carry (ix2 r j) = (A.dcAt ((15 - t.val) * 256 + 256 + r.val) j : EReal)) (n : ℕ) (hn : n < 288) (j : Fin 512) (h : n + 5 < 288) :
    p.v606 (ix2 ⟨n, hn⟩ j) = (A.dcAt ((15 - t.val) * 256 + (n + 5)) j : EReal) := by
  have e : p.v606 = dynamicRotate 0 283#32 none p.v601 rotates_S288x512_d0 := rfl
  rw [e]; pointwise
  rw [key_v601 hp hc]
  refine congrArg (fun n => ((A.dcAt n j : ℝ) : EReal)) ?_
  show (15 - t.val) * 256 + (n + 288 - 283) % 288 = _
  omega

theorem at_v606 (hc : ∀ (r : Fin 32) j, p.carry (ix2 r j) = (A.dcAt ((15 - t.val) * 256 + 256 + r.val) j : EReal)) (a : Fin 256) (j : Fin 512) (h) :
    p.v606 (ix2 ⟨a.val, h⟩ j) = (A.dcAt ((rowOf t a).val + 5) j : EReal) := by
  refine (key_v606 hp hc _ _ _ (by omega)).trans (congrArg (fun n => ((A.dcAt n j : ℝ) : EReal)) ?_)
  unfold rowOf; dsimp only; omega

theorem off_v606 (hc : ∀ (r : Fin 32) j, p.carry (ix2 r j) = (A.dcAt ((15 - t.val) * 256 + 256 + r.val) j : EReal)) (o : ℕ) (a : Fin 256) (j : Fin 512) (h) (h3 : o + 5 ≤ 32) :
    p.v606 (ix2 ⟨o + a.val, h⟩ j) = (A.dcAt ((rowOf t a).val + (o + 5)) j : EReal) := by
  refine (key_v606 hp hc _ _ _ (by omega)).trans (congrArg (fun n => ((A.dcAt n j : ℝ) : EReal)) ?_)
  unfold rowOf; dsimp only; omega

theorem key_v607 (hc : ∀ (r : Fin 32) j, p.carry (ix2 r j) = (A.dcAt ((15 - t.val) * 256 + 256 + r.val) j : EReal)) (n : ℕ) (hn : n < 288) (j : Fin 512) (h : n + 6 < 288) :
    p.v607 (ix2 ⟨n, hn⟩ j) = (A.dcAt ((15 - t.val) * 256 + (n + 6)) j : EReal) := by
  have e : p.v607 = dynamicRotate 0 282#32 none p.v601 rotates_S288x512_d0 := rfl
  rw [e]; pointwise
  rw [key_v601 hp hc]
  refine congrArg (fun n => ((A.dcAt n j : ℝ) : EReal)) ?_
  show (15 - t.val) * 256 + (n + 288 - 282) % 288 = _
  omega

theorem at_v607 (hc : ∀ (r : Fin 32) j, p.carry (ix2 r j) = (A.dcAt ((15 - t.val) * 256 + 256 + r.val) j : EReal)) (a : Fin 256) (j : Fin 512) (h) :
    p.v607 (ix2 ⟨a.val, h⟩ j) = (A.dcAt ((rowOf t a).val + 6) j : EReal) := by
  refine (key_v607 hp hc _ _ _ (by omega)).trans (congrArg (fun n => ((A.dcAt n j : ℝ) : EReal)) ?_)
  unfold rowOf; dsimp only; omega

theorem off_v607 (hc : ∀ (r : Fin 32) j, p.carry (ix2 r j) = (A.dcAt ((15 - t.val) * 256 + 256 + r.val) j : EReal)) (o : ℕ) (a : Fin 256) (j : Fin 512) (h) (h3 : o + 6 ≤ 32) :
    p.v607 (ix2 ⟨o + a.val, h⟩ j) = (A.dcAt ((rowOf t a).val + (o + 6)) j : EReal) := by
  refine (key_v607 hp hc _ _ _ (by omega)).trans (congrArg (fun n => ((A.dcAt n j : ℝ) : EReal)) ?_)
  unfold rowOf; dsimp only; omega

theorem key_v608 (hc : ∀ (r : Fin 32) j, p.carry (ix2 r j) = (A.dcAt ((15 - t.val) * 256 + 256 + r.val) j : EReal)) (n : ℕ) (hn : n < 288) (j : Fin 512) (h : n + 7 < 288) :
    p.v608 (ix2 ⟨n, hn⟩ j) = (A.dcAt ((15 - t.val) * 256 + (n + 7)) j : EReal) := by
  have e : p.v608 = dynamicRotate 0 281#32 none p.v601 rotates_S288x512_d0 := rfl
  rw [e]; pointwise
  rw [key_v601 hp hc]
  refine congrArg (fun n => ((A.dcAt n j : ℝ) : EReal)) ?_
  show (15 - t.val) * 256 + (n + 288 - 281) % 288 = _
  omega

theorem at_v608 (hc : ∀ (r : Fin 32) j, p.carry (ix2 r j) = (A.dcAt ((15 - t.val) * 256 + 256 + r.val) j : EReal)) (a : Fin 256) (j : Fin 512) (h) :
    p.v608 (ix2 ⟨a.val, h⟩ j) = (A.dcAt ((rowOf t a).val + 7) j : EReal) := by
  refine (key_v608 hp hc _ _ _ (by omega)).trans (congrArg (fun n => ((A.dcAt n j : ℝ) : EReal)) ?_)
  unfold rowOf; dsimp only; omega

theorem off_v608 (hc : ∀ (r : Fin 32) j, p.carry (ix2 r j) = (A.dcAt ((15 - t.val) * 256 + 256 + r.val) j : EReal)) (o : ℕ) (a : Fin 256) (j : Fin 512) (h) (h3 : o + 7 ≤ 32) :
    p.v608 (ix2 ⟨o + a.val, h⟩ j) = (A.dcAt ((rowOf t a).val + (o + 7)) j : EReal) := by
  refine (key_v608 hp hc _ _ _ (by omega)).trans (congrArg (fun n => ((A.dcAt n j : ℝ) : EReal)) ?_)
  unfold rowOf; dsimp only; omega

theorem key_cw (k : Fin 32) (j : Fin 512) (h : k.val < 31) : p.cw (ix2 k j) = (cwAt A k.val j : EReal) := by
  refine (hp.cw ⟨k.val, h⟩ j).trans ?_
  unfold cwAt; rw [dif_pos h]

/-! ### The filters' gradients, tap by tap -/

theorem row_cwt18 : ∀ (b : Fin 32) (j : Fin 512), p.cwt18 (ix2 b j)
    = p.dcw (ix2 b j) + ((if b.val < 2 then cwPart A t b.val j else 0 : ℝ) : EReal) := by
  unfold Pt.cwt18
  refine row_step 1 rfl rfl (fun j => ?_)
    (row_step 0 rfl rfl (fun j => ?_)
    (by intro b j; rw [no_rows _ (by omega)]))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real]
    rfl

theorem old_cwt18 (q : Fin 32) (h : 2 ≤ q.val) (j : Fin 512) : p.cwt18 (ix2 q j) = p.dcw (ix2 q j) := by
  rw [row_cwt18 hp, no_rows _ (by omega)]

theorem row_cwt19 : ∀ (b : Fin 32) (j : Fin 512), p.cwt19 (ix2 b j)
    = p.dcw (ix2 b j) + ((if b.val < 4 then cwPart A t b.val j else 0 : ℝ) : EReal) := by
  unfold Pt.cwt19
  refine row_step 3 rfl rfl (fun j => ?_)
    (row_step 2 rfl rfl (fun j => ?_)
    (row_cwt18 hp))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp]
    rfl

theorem old_cwt19 (q : Fin 32) (h : 4 ≤ q.val) (j : Fin 512) : p.cwt19 (ix2 q j) = p.dcw (ix2 q j) := by
  rw [row_cwt19 hp, no_rows _ (by omega)]

theorem row_cwt20 : ∀ (b : Fin 32) (j : Fin 512), p.cwt20 (ix2 b j)
    = p.dcw (ix2 b j) + ((if b.val < 7 then cwPart A t b.val j else 0 : ℝ) : EReal) := by
  unfold Pt.cwt20 Pt.v672
  refine row_step 6 rfl rfl (fun j => ?_)
    (row_step 5 rfl rfl (fun j => ?_)
    (row_step 4 rfl rfl (fun j => ?_)
    (row_cwt19 hp)))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp]
    rfl

theorem old_cwt20 (q : Fin 32) (h : 7 ≤ q.val) (j : Fin 512) : p.cwt20 (ix2 q j) = p.dcw (ix2 q j) := by
  rw [row_cwt20 hp, no_rows _ (by omega)]

theorem row_cwt21 : ∀ (b : Fin 32) (j : Fin 512), p.cwt21 (ix2 b j)
    = p.dcw (ix2 b j) + ((if b.val < 10 then cwPart A t b.val j else 0 : ℝ) : EReal) := by
  unfold Pt.cwt21 Pt.v708 Pt.v710
  refine row_step 9 rfl rfl (fun j => ?_)
    (row_step 8 rfl rfl (fun j => ?_)
    (row_step 7 rfl rfl (fun j => ?_)
    (row_cwt20 hp)))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp]
    rfl

theorem old_cwt21 (q : Fin 32) (h : 10 ≤ q.val) (j : Fin 512) : p.cwt21 (ix2 q j) = p.dcw (ix2 q j) := by
  rw [row_cwt21 hp, no_rows _ (by omega)]

theorem row_cwt22 : ∀ (b : Fin 32) (j : Fin 512), p.cwt22 (ix2 b j)
    = p.dcw (ix2 b j) + ((if b.val < 13 then cwPart A t b.val j else 0 : ℝ) : EReal) := by
  unfold Pt.cwt22
  refine row_step 12 rfl rfl (fun j => ?_)
    (row_step 11 rfl rfl (fun j => ?_)
    (row_step 10 rfl rfl (fun j => ?_)
    (row_cwt21 hp)))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp]
    rfl

theorem old_cwt22 (q : Fin 32) (h : 13 ≤ q.val) (j : Fin 512) : p.cwt22 (ix2 q j) = p.dcw (ix2 q j) := by
  rw [row_cwt22 hp, no_rows _ (by omega)]

theorem row_cwt23 : ∀ (b : Fin 32) (j : Fin 512), p.cwt23 (ix2 b j)
    = p.dcw (ix2 b j) + ((if b.val < 15 then cwPart A t b.val j else 0 : ℝ) : EReal) := by
  unfold Pt.cwt23
  refine row_step 14 rfl rfl (fun j => ?_)
    (row_step 13 rfl rfl (fun j => ?_)
    (row_cwt22 hp))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp, old_cwt22 hp]
    rfl

theorem old_cwt23 (q : Fin 32) (h : 15 ≤ q.val) (j : Fin 512) : p.cwt23 (ix2 q j) = p.dcw (ix2 q j) := by
  rw [row_cwt23 hp, no_rows _ (by omega)]

theorem row_cwt24 : ∀ (b : Fin 32) (j : Fin 512), p.cwt24 (ix2 b j)
    = p.dcw (ix2 b j) + ((if b.val < 18 then cwPart A t b.val j else 0 : ℝ) : EReal) := by
  unfold Pt.cwt24 Pt.v822 Pt.v825
  refine row_step 17 rfl rfl (fun j => ?_)
    (row_step 16 rfl rfl (fun j => ?_)
    (row_step 15 rfl rfl (fun j => ?_)
    (row_cwt23 hp)))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp, old_cwt22 hp, old_cwt23 hp]
    rfl

theorem old_cwt24 (q : Fin 32) (h : 18 ≤ q.val) (j : Fin 512) : p.cwt24 (ix2 q j) = p.dcw (ix2 q j) := by
  rw [row_cwt24 hp, no_rows _ (by omega)]

theorem row_cwt25 : ∀ (b : Fin 32) (j : Fin 512), p.cwt25 (ix2 b j)
    = p.dcw (ix2 b j) + ((if b.val < 21 then cwPart A t b.val j else 0 : ℝ) : EReal) := by
  unfold Pt.cwt25 Pt.v862
  refine row_step 20 rfl rfl (fun j => ?_)
    (row_step 19 rfl rfl (fun j => ?_)
    (row_step 18 rfl rfl (fun j => ?_)
    (row_cwt24 hp)))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp, old_cwt22 hp, old_cwt23 hp, old_cwt24 hp]
    rfl

theorem old_cwt25 (q : Fin 32) (h : 21 ≤ q.val) (j : Fin 512) : p.cwt25 (ix2 q j) = p.dcw (ix2 q j) := by
  rw [row_cwt25 hp, no_rows _ (by omega)]

theorem row_cwt26 : ∀ (b : Fin 32) (j : Fin 512), p.cwt26 (ix2 b j)
    = p.dcw (ix2 b j) + ((if b.val < 23 then cwPart A t b.val j else 0 : ℝ) : EReal) := by
  unfold Pt.cwt26
  refine row_step 22 rfl rfl (fun j => ?_)
    (row_step 21 rfl rfl (fun j => ?_)
    (row_cwt25 hp))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp, old_cwt22 hp, old_cwt23 hp, old_cwt24 hp, old_cwt25 hp]
    rfl

theorem old_cwt26 (q : Fin 32) (h : 23 ≤ q.val) (j : Fin 512) : p.cwt26 (ix2 q j) = p.dcw (ix2 q j) := by
  rw [row_cwt26 hp, no_rows _ (by omega)]

theorem row_cwt27 : ∀ (b : Fin 32) (j : Fin 512), p.cwt27 (ix2 b j)
    = p.dcw (ix2 b j) + ((if b.val < 26 then cwPart A t b.val j else 0 : ℝ) : EReal) := by
  unfold Pt.cwt27 Pt.v938
  refine row_step 25 rfl rfl (fun j => ?_)
    (row_step 24 rfl rfl (fun j => ?_)
    (row_step 23 rfl rfl (fun j => ?_)
    (row_cwt26 hp)))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp, old_cwt22 hp, old_cwt23 hp, old_cwt24 hp, old_cwt25 hp, old_cwt26 hp]
    rfl

theorem old_cwt27 (q : Fin 32) (h : 26 ≤ q.val) (j : Fin 512) : p.cwt27 (ix2 q j) = p.dcw (ix2 q j) := by
  rw [row_cwt27 hp, no_rows _ (by omega)]

theorem row_cwt28 : ∀ (b : Fin 32) (j : Fin 512), p.cwt28 (ix2 b j)
    = p.dcw (ix2 b j) + ((if b.val < 29 then cwPart A t b.val j else 0 : ℝ) : EReal) := by
  unfold Pt.cwt28 Pt.v976 Pt.v977
  refine row_step 28 rfl rfl (fun j => ?_)
    (row_step 27 rfl rfl (fun j => ?_)
    (row_step 26 rfl rfl (fun j => ?_)
    (row_cwt27 hp)))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp, old_cwt22 hp, old_cwt23 hp, old_cwt24 hp, old_cwt25 hp, old_cwt26 hp, old_cwt27 hp]
    rfl

theorem old_cwt28 (q : Fin 32) (h : 29 ≤ q.val) (j : Fin 512) : p.cwt28 (ix2 q j) = p.dcw (ix2 q j) := by
  rw [row_cwt28 hp, no_rows _ (by omega)]

theorem row_cwt29 : ∀ (b : Fin 32) (j : Fin 512), p.cwt29 (ix2 b j)
    = p.dcw (ix2 b j) + ((if b.val < 31 then cwPart A t b.val j else 0 : ℝ) : EReal) := by
  unfold Pt.cwt29 Pt.v1016
  refine row_step 30 rfl rfl (fun j => ?_)
    (row_step 29 rfl rfl (fun j => ?_)
    (row_cwt28 hp))
  all_goals
    unfold_payloads; pointwise
    simp (disch := first | decide | omega) only [key_v593 hp, off_v164 hp, off_v165 hp, off_v166 hp, off_v167 hp, off_v168 hp, off_v169 hp, off_v170 hp, off_v171 hp, at_v166 hp, at_v167 hp, at_v168 hp, at_v169 hp, at_v170 hp, at_v171 hp, mul_real, sum_real, old_cwt18 hp, old_cwt19 hp, old_cwt20 hp, old_cwt21 hp, old_cwt22 hp, old_cwt23 hp, old_cwt24 hp, old_cwt25 hp, old_cwt26 hp, old_cwt27 hp, old_cwt28 hp]
    rfl

theorem old_cwt29 (q : Fin 32) (h : 31 ≤ q.val) (j : Fin 512) : p.cwt29 (ix2 q j) = p.dcw (ix2 q j) := by
  rw [row_cwt29 hp, no_rows _ (by omega)]

/-- A grid point adds its part to the filters' gradients. -/
theorem key_dcw (k : Fin 31) (j : Fin 512) :
    p.cwt29 (ix2 ⟨k.val, by omega⟩ j) = p.dcw (ix2 ⟨k.val, by omega⟩ j) + (cwPart A t k.val j : EReal) := by
  rw [row_cwt29 hp]
  simp only [k.isLt, if_true]

/-! ### The convolution's input's cotangent, tap by tap -/

theorem key_v623 (hc : ∀ (r : Fin 32) j, p.carry (ix2 r j) = (A.dcAt ((15 - t.val) * 256 + 256 + r.val) j : EReal)) (a : Fin 256) (j : Fin 512) : p.v623 (ix2 a j) = (taps A t a j 1 : EReal) := by
  have e : p.v623 (ix2 a j) = Ideal.ofBits .f32 0x00000000#32 + p.v607 (ix2 ⟨24 + a.val, by omega⟩ j) * p.cw (ix2 0 j) := by
    unfold Pt.v623 Pt.v607 k0_pay146; pointwise
  rw [e]
  simp (disch := first | decide | omega) only [off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v665 (hc : ∀ (r : Fin 32) j, p.carry (ix2 r j) = (A.dcAt ((15 - t.val) * 256 + 256 + r.val) j : EReal)) (a : Fin 256) (j : Fin 512) : p.v665 (ix2 a j) = (taps A t a j 4 : EReal) := by
  have e : ∀ a : Fin 256, p.v632 (ix2 a j) = p.v606 (ix2 ⟨24 + a.val, by omega⟩ j) := fun a => by
    unfold Pt.v632 Pt.v606 k0_pay148; pointwise
  unfold Pt.v665; unfold_payloads; pointwise
  rw [e]
  simp (disch := first | decide | omega) only [key_v623 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v707 (hc : ∀ (r : Fin 32) j, p.carry (ix2 r j) = (A.dcAt ((15 - t.val) * 256 + 256 + r.val) j : EReal)) (a : Fin 256) (j : Fin 512) : p.v707 (ix2 a j) = (taps A t a j 7 : EReal) := by
  unfold Pt.v707 ; unfold_payloads; pointwise
  simp (disch := first | decide | omega) only [key_v665 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v735 (hc : ∀ (r : Fin 32) j, p.carry (ix2 r j) = (A.dcAt ((15 - t.val) * 256 + 256 + r.val) j : EReal)) (a : Fin 256) (j : Fin 512) : p.v735 (ix2 a j) = (taps A t a j 9 : EReal) := by
  unfold Pt.v735 ; unfold_payloads; pointwise
  simp (disch := first | decide | omega) only [key_v707 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v777 (hc : ∀ (r : Fin 32) j, p.carry (ix2 r j) = (A.dcAt ((15 - t.val) * 256 + 256 + r.val) j : EReal)) (a : Fin 256) (j : Fin 512) : p.v777 (ix2 a j) = (taps A t a j 12 : EReal) := by
  unfold Pt.v777 Pt.v748; unfold_payloads; pointwise
  simp (disch := first | decide | omega) only [key_v735 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v819 (hc : ∀ (r : Fin 32) j, p.carry (ix2 r j) = (A.dcAt ((15 - t.val) * 256 + 256 + r.val) j : EReal)) (a : Fin 256) (j : Fin 512) : p.v819 (ix2 a j) = (taps A t a j 15 : EReal) := by
  unfold Pt.v819 Pt.v786; unfold_payloads; pointwise
  simp (disch := first | decide | omega) only [key_v777 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v861 (hc : ∀ (r : Fin 32) j, p.carry (ix2 r j) = (A.dcAt ((15 - t.val) * 256 + 256 + r.val) j : EReal)) (a : Fin 256) (j : Fin 512) : p.v861 (ix2 a j) = (taps A t a j 18 : EReal) := by
  unfold Pt.v861 ; unfold_payloads; pointwise
  simp (disch := first | decide | omega) only [key_v819 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v889 (hc : ∀ (r : Fin 32) j, p.carry (ix2 r j) = (A.dcAt ((15 - t.val) * 256 + 256 + r.val) j : EReal)) (a : Fin 256) (j : Fin 512) : p.v889 (ix2 a j) = (taps A t a j 20 : EReal) := by
  unfold Pt.v889 ; unfold_payloads; pointwise
  simp (disch := first | decide | omega) only [key_v861 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v931 (hc : ∀ (r : Fin 32) j, p.carry (ix2 r j) = (A.dcAt ((15 - t.val) * 256 + 256 + r.val) j : EReal)) (a : Fin 256) (j : Fin 512) : p.v931 (ix2 a j) = (taps A t a j 23 : EReal) := by
  unfold Pt.v931 Pt.v898 Pt.v900; unfold_payloads; pointwise
  simp (disch := first | decide | omega) only [key_v889 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v973 (hc : ∀ (r : Fin 32) j, p.carry (ix2 r j) = (A.dcAt ((15 - t.val) * 256 + 256 + r.val) j : EReal)) (a : Fin 256) (j : Fin 512) : p.v973 (ix2 a j) = (taps A t a j 26 : EReal) := by
  unfold Pt.v973 ; unfold_payloads; pointwise
  simp (disch := first | decide | omega) only [key_v931 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

theorem key_v1015 (hc : ∀ (r : Fin 32) j, p.carry (ix2 r j) = (A.dcAt ((15 - t.val) * 256 + 256 + r.val) j : EReal)) (a : Fin 256) (j : Fin 512) : p.v1015 (ix2 a j) = (taps A t a j 29 : EReal) := by
  unfold Pt.v1015 ; unfold_payloads; pointwise
  simp (disch := first | decide | omega) only [key_v973 hp hc, off_v601 hp hc, off_v602 hp hc, off_v603 hp hc, off_v604 hp hc, off_v605 hp hc, off_v606 hp hc, off_v607 hp hc, off_v608 hp hc, at_v601 hp hc, at_v602 hp hc, at_v603 hp hc, at_v604 hp hc, at_v605 hp hc, at_v606 hp hc, at_v607 hp hc, at_v608 hp hc, key_cw hp, c0, mul_real, add_real]
  simp only [taps_succ, taps_zero]; rfl

end Cert.MixBwdIdeal.Hand

end
-- ==== Proof.MixOut.lean ====
/- One grid point of the token mixers' backward call: what it writes out, over the ideal floats and finite arguments. -/
module

public import proofs.«01_k».proof.Proof.MixTaps

@[expose] public section

set_option maxRecDepth 16384

noncomputable section

namespace Cert.MixBwdIdeal.Hand

open Cert.MixBwdIdeal Cert.MixBwdIdeal.Gen Idealize.ShloMosaic Idealize.ShloMosaic.TcCoe Idealize.SL.Sem Cert.Reals

/-- A part of the projection's cotangent. -/
theorem dpj_col (A : Mix) (n : Fin 4096) (q : Fin 4) (j : Fin 512) : A.dpj n (col q j) = A.dpart q n j := by
  unfold Mix.dpj
  have e : (⟨(col q j).val / 512, by omega⟩ : Fin 4) = q := Fin.ext (by simp only [col]; omega)
  have e' : (⟨(col q j).val % 512, by omega⟩ : Fin 512) = j := Fin.ext (by simp only [col]; omega)
  rw [e, e']

/-- The normed input's cotangent, part by part. -/
theorem dh_parts (A : Mix) (n : Fin 4096) (k : Fin 1024) :
    A.dh n k = ∑ j, A.dua n j * A.win k (col 0 j) + ∑ j, A.dva n j * A.win k (col 1 j) + ∑ j, A.dvb n j * A.win k (col 2 j)
      + ∑ j, A.dgb n j * A.win k (col 3 j) := by
  unfold Mix.dh
  rw [← sum_blocks (N := 4) (n := 512) rfl, Fin.sum_univ_four]
  exact congrArg₂ (· + ·) (congrArg₂ (· + ·) (congrArg₂ (· + ·) (Finset.sum_congr rfl fun j _ => congrArg (· * _) (dpj_col A n 0 j))
    (Finset.sum_congr rfl fun j _ => congrArg (· * _) (dpj_col A n 1 j))) (Finset.sum_congr rfl fun j _ => congrArg (· * _) (dpj_col A n 2 j)))
    (Finset.sum_congr rfl fun j _ => congrArg (· * _) (dpj_col A n 3 j))

/-- The mixers' outputs by halves. -/
theorem mix_half0 (A : Mix) (n : Fin 4096) (j : Fin 512) : A.mix n (half 0 j) = A.a n j := by
  have h : (half 0 j).val < 512 := by simp only [half]; omega
  unfold Mix.mix; rw [dif_pos h]
  exact congrArg (A.a n) (Fin.ext (by simp only [half]; omega))

theorem mix_half1 (A : Mix) (n : Fin 4096) (j : Fin 512) : A.mix n (half 1 j) = A.cout n j := by
  have h : ¬(half 1 j).val < 512 := by simp only [half]; omega
  unfold Mix.mix; rw [dif_neg h]
  exact congrArg (A.cout n) (Fin.ext (by simp only [half]; omega))

/-- A piece of one part of the projection's columns. -/
theorem col_piece {o : ℕ} {inb} {w : (Rect.unit (s := S256x2048) ![0, o] ![256, 512] inb).shape.Idx → EReal} (f : Fin 256 → Fin 2048 → ℝ)
    (q : Fin 4) (ho : o = q.val * 512) (h : ∀ (a : Fin 256) (j : Fin 512), w (ix2 a j) = (f a (col q j) : EReal)) (x) :
    w x = ((f ((Rect.unit (s := S256x2048) ![0, o] ![256, 512] inb).emb x 0)
      ((Rect.unit (s := S256x2048) ![0, o] ![256, 512] inb).emb x 1) : ℝ) : EReal) := by
  refine ((congrArg w (eq_ix2 x)).trans (h _ _)).trans (congrArg (fun z : ℝ => (z : EReal)) (congrArg₂ f (Fin.ext ?_) (Fin.ext ?_)))
  · show (x 0).val = 0 + 1 * (x 0).val
    omega
  · show q.val * 512 + (x 1).val = o + 1 * (x 1).val
    omega

/-- A piece of one half of the mixers' outputs, columns first. -/
theorem half_piece {o : ℕ} {inb} {w : (Rect.unit (s := S1024x256) ![o, 0] ![512, 256] inb).shape.Idx → EReal} (f : Fin 1024 → Fin 256 → ℝ)
    (q : Fin 2) (ho : o = q.val * 512) (h : ∀ (j : Fin 512) (a : Fin 256), w (ix2 j a) = (f (half q j) a : EReal)) (x) :
    w x = ((f ((Rect.unit (s := S1024x256) ![o, 0] ![512, 256] inb).emb x 0)
      ((Rect.unit (s := S1024x256) ![o, 0] ![512, 256] inb).emb x 1) : ℝ) : EReal) := by
  refine ((congrArg w (eq_ix2 x)).trans (h _ _)).trans (congrArg (fun z : ℝ => (z : EReal)) (congrArg₂ f (Fin.ext ?_) (Fin.ext ?_)))
  · show q.val * 512 + (x 0).val = o + 1 * (x 0).val
    omega
  · show (x 1).val = 0 + 1 * (x 1).val
    omega

variable {A : Mix} {t : Fin 16} {p : Pt Ideal} (hp : Ins A t p)
include hp

theorem key_v5 (k : Fin 1024) : p.v5 (ix2 0 k) = (A.g1 k : EReal) := by
  unfold Pt.v5; unfold_payloads; pointwise; simp only [hp.g1]

theorem key_v15 (a : Fin 256) : p.v15 (ix2 a 0) = (rn (A.x (rowOf t a)) : EReal) := by
  unfold Pt.v15; unfold_payloads; pointwise
  simp (disch := norm_num) only [hp.x, c1024, ceps, mul_real, sum_real, div_real, add_real]
  exact rsqrt_ms _

theorem key_v17 (a : Fin 256) (k : Fin 1024) : p.v17 (ix2 a k) = ((A.x (rowOf t a) k * rn (A.x (rowOf t a)) : ℝ) : EReal) := by
  have e : p.v17 (ix2 a k) = p.x (ix2 a k) * p.v15 (ix2 a 0) := by
    unfold Pt.v17 Pt.v15 k0_pay14 k0_pay12; pointwise
  rw [e, key_v15 hp, hp.x, mul_real]

theorem key_h1t (k : Fin 1024) (a : Fin 256) : p.h1t (ix2 k a) = (A.h (rowOf t a) k : EReal) := by
  have e : p.h1t (ix2 k a) = p.v17 (ix2 a k) * p.v5 (ix2 0 k) := by
    unfold Pt.h1t Pt.v17 Pt.v5 k0_pay15; pointwise
  rw [e, key_v17 hp, key_v5 hp, mul_real]; rfl

theorem key_mixt (f : Fin 1024) (a : Fin 256) : p.mixt (ix2 f a) = (A.mix (rowOf t a) f : EReal) := by
  unfold Pt.mixt
  refine canon_of_pieces (s := S1024x256) (e := .bf16) _ (fun y => ((A.mix (rowOf t (y 1)) (y 0) : ℝ) : EReal)) ?_ _
    (View.cover_of_tiledL (s := S1024x256) _ ![512, 256] (by sl_kernel_rfl) _)
  simp only [List.forall_mem_cons, List.not_mem_nil, false_imp_iff, implies_true, and_true]
  refine ⟨half_piece (fun f a => A.mix (rowOf t a) f) 1 rfl fun j a => ?_, half_piece (fun f a => A.mix (rowOf t a) f) 0 rfl fun j a => ?_⟩
  · have e : k0_pay72 p.v45 p.v59 p.v61 p.v188 p.v205 p.v212 p.v214 (ix2 j a) = p.v244 (ix2 a j) * p.v251 (ix2 a j) := by
      unfold Pt.v244 Pt.v251 k0_pay72; pointwise
    refine e.trans ?_
    rw [key_v244 hp, key_v251 hp, mul_real, mix_half1]; rfl
  · have e : k0_pay71 p.v155 (ix2 j a) = p.v155 (ix2 a j) := by
      unfold k0_pay71; pointwise
    refine e.trans ?_
    rw [key_v155 hp, mix_half0]

section
variable (hc : ∀ (r : Fin 32) j, p.carry (ix2 r j) = (A.dcAt ((15 - t.val) * 256 + 256 + r.val) j : EReal))
include hc

theorem key_dg (a : Fin 256) (j : Fin 512) :
    k0_pay200 p.v601 p.v602 p.v1015 (View.ld p.cw (Rect.unit (s := S32x512) ![29, 0] S1x512.size inb_S32x512_S1x512_29_0))
      (View.ld p.cw (Rect.unit (s := S32x512) ![30, 0] S1x512.size inb_S32x512_S1x512_30_0)) (ix2 a j) = (A.dg (rowOf t a) j : EReal) := by
  unfold k0_pay200; pointwise
  simp (disch := first | decide | omega) only [key_v1015 hp hc, at_v601 hp hc, at_v602 hp hc, key_cw hp, mul_real, add_real]
  rw [← taps_all]
  simp only [taps_succ _ _ _ _ 30, taps_succ _ _ _ _ 29]; rfl

theorem key_v1053 (a : Fin 256) (j : Fin 512) : p.v1053 (ix2 a j) = (A.dgb (rowOf t a) j : EReal) := by
  unfold Pt.v1053 k0_pay202; pointwise
  rw [key_dg hp hc, key_v24 hp, key_v162 hp]
  simp only [c1, mul_real, sub_real]; rfl

theorem key_v1056 (a : Fin 256) (j : Fin 512) : p.v1056 (ix2 a j) = (A.dvb (rowOf t a) j : EReal) := by
  unfold Pt.v1056 k0_pay205; pointwise
  rw [key_dg hp hc, key_v162 hp, mul_real]; rfl

omit hc in
theorem key_v1054 (a : Fin 256) (j : Fin 512) : p.v1054 (ix2 a j) = (A.dua (rowOf t a) j : EReal) := by
  unfold Pt.v1054 k0_pay203; pointwise; rw [key_v277 hp]

omit hc in
theorem key_v1055 (a : Fin 256) (j : Fin 512) : p.v1055 (ix2 a j) = (A.dva (rowOf t a) j : EReal) := by
  unfold Pt.v1055 k0_pay204; pointwise; rw [key_v498 hp]

theorem key_dpr (a : Fin 256) (f : Fin 2048) : p.dpr (ix2 a f) = (A.dpj (rowOf t a) f : EReal) := by
  unfold Pt.dpr
  refine canon_of_pieces (s := S256x2048) (e := .bf16) _ (fun y => ((A.dpj (rowOf t (y 0)) (y 1) : ℝ) : EReal)) ?_ _
    (View.cover_of_tiledL (s := S256x2048) _ ![256, 512] (by sl_kernel_rfl) _)
  simp only [List.forall_mem_cons, List.not_mem_nil, false_imp_iff, implies_true, and_true]
  refine ⟨col_piece (fun a f => A.dpj (rowOf t a) f) 3 rfl fun a j => ?_, col_piece (fun a f => A.dpj (rowOf t a) f) 2 rfl fun a j => ?_,
    col_piece (fun a f => A.dpj (rowOf t a) f) 1 rfl fun a j => ?_, col_piece (fun a f => A.dpj (rowOf t a) f) 0 rfl fun a j => ?_⟩ <;>
    rw [dpj_col]
  · refine Eq.trans ?_ (key_v1053 hp hc a j)
    unfold k0_pay206; pointwise
  · exact key_v1056 hp hc a j
  · exact key_v1055 hp a j
  · exact key_v1054 hp a j

theorem key_v1078 (a : Fin 256) (k : Fin 1024) : p.v1078 (ix2 a k) = (A.dh (rowOf t a) k : EReal) := by
  unfold Pt.v1078 k0_pay207 k0_pay206; pointwise
  simp only [key_v1053 hp hc, key_v1054 hp, key_v1055 hp, key_v1056 hp hc, hp.win, mul_real, sum_real, add_real, c0]
  rw [dh_parts]

theorem key_dg1 (k : Fin 1024) : p.dg1' (ix2 0 k)
    = p.dg1 (ix2 0 k) + ((∑ a, A.dh (rowOf t a) k * (A.x (rowOf t a) k * rn (A.x (rowOf t a))) : ℝ) : EReal) := by
  have e : p.dg1' (ix2 0 k) = p.dg1 (ix2 0 k) + ∑ a, p.v1078 (ix2 a k) * p.v17 (ix2 a k) := by
    unfold Pt.dg1' Pt.v1084 Pt.v1078 k0_pay208; pointwise
  rw [e]
  simp only [key_v1078 hp hc, key_v17 hp, mul_real, sum_real]

theorem key_dx (a : Fin 256) (k : Fin 1024) : p.dx' (ix2 a k) = (A.dx (rowOf t a) k : EReal) := by
  unfold Pt.dx'; unfold_payloads; pointwise
  simp (disch := norm_num) only [key_v1078 hp hc, key_v17 hp, key_v15 hp, key_v5 hp, hp.dx1, c1024, mul_real, sum_real, add_real, sub_real, div_real]
  rfl

theorem key_dxb (a : Fin 256) (k : Fin 1024) : p.dxb' (ix2 a k) = (A.dx (rowOf t a) k : EReal) := by
  unfold Pt.dxb'; unfold_payloads; pointwise
  simp (disch := norm_num) only [key_v1078 hp hc, key_v17 hp, key_v15 hp, key_v5 hp, hp.dx1, c1024, mul_real, sum_real, add_real, sub_real, div_real]
  rfl

end

end Cert.MixBwdIdeal.Hand

end
-- ==== Proof.MixKernel.lean ====
/- The token mixers' backward call on finite arguments: what its sixteen grid points, from the last rows to the first, leave in its
   results. -/
module

public import proofs.«01_k».proof.Proof.MixOut

@[expose] public section

set_option maxRecDepth 16384

noncomputable section

namespace Cert.MixBwdIdeal.Hand

open Cert.MixBwdIdeal Cert.MixBwdIdeal.Gen Idealize.ShloMosaic Idealize.ShloMosaic.TcCoe Idealize.SL.Sem Cert.Reals

/-- The sum of the row blocks' sums, last block first, is the sum of all rows. -/
theorem sum_rows (f : Fin 4096 → ℝ) : ∑ t : Fin 16, ∑ a : Fin 256, f (rowOf t a) = ∑ n, f n := by
  rw [← sum_blocks (N := 16) (n := 256) rfl f, ← Equiv.sum_comp Fin.revPerm]
  refine Finset.sum_congr rfl fun t _ => Finset.sum_congr rfl fun a _ => congrArg f (Fin.ext ?_)
  show (15 - t.rev.val) * 256 + a.val = t.val * 256 + a.val
  rw [Fin.val_rev]
  omega

/-- A row of a chunk of a row block. -/
theorem row_crow (t : Fin 16) (i : Fin 2) (r : Fin 128) : rowOf t (crow i r) = chunkRow ⟨t.rev.val * 2 + i.val, by omega⟩ r := by
  refine Fin.ext ?_
  show (15 - t.val) * 256 + (i.val * 128 + r.val) = (t.rev.val * 2 + i.val) * 128 + r.val
  rw [Fin.val_rev]
  omega

/-- The sum of the row blocks' chunks, last block first, is the sum of all chunks. -/
theorem sum_chunks (f : Fin 32 → ℝ) : ∑ t : Fin 16, ∑ i : Fin 2, f ⟨t.rev.val * 2 + i.val, by omega⟩ = ∑ n, f n := by
  rw [← sum_blocks (N := 16) (n := 2) rfl f, ← Equiv.sum_comp Fin.revPerm]
  refine Finset.sum_congr rfl fun t _ => Finset.sum_congr rfl fun a _ => congrArg f (Fin.ext ?_)
  show (Fin.rev (Fin.rev t)).val * 2 + a.val = t.val * 2 + a.val
  rw [Fin.rev_rev]

theorem ws_all (A : Mix) (q : Fin 4) (r s : Fin 128) : ∑ t, wsPart A t q r s = A.dws q r s := by
  unfold wsPart Mix.dws
  split
  · simp only [row_crow]
    rw [← sum_chunks (fun i => ∑ k : Fin 128, A.dmx (chunkRow i r) (headCol q k) * A.v (chunkRow i s) (headCol q k))]
    simp only [Fin.sum_univ_two, Finset.sum_add_distrib]
  · exact Finset.sum_const_zero

theorem bs_all (A : Mix) (q : Fin 4) (r : Fin 128) : ∑ t, bsPart A t q r = A.dbs q r := by
  unfold bsPart Mix.dbs
  simp only [row_crow]
  rw [← sum_chunks (fun i => ∑ k : Fin 128, A.dmx (chunkRow i r) (headCol q k))]
  simp only [Fin.sum_univ_two, Finset.sum_add_distrib]

theorem cw_all (A : Mix) (k : Fin 31) (j : Fin 512) : ∑ t, cwPart A t k.val j = A.dcw k j :=
  sum_rows (fun n => A.dcpre n j * A.gAt (n.val + k.val) j)

/-- The last grid point. -/
def tLast : Fin cfg0.N := ⟨15, by decide⟩

section Real

variable {m : (ℓ : Loc nD τ sig) → Buf (Elt Ideal) ℓ} {c : Dev nD} {A : Mix}

/-- A number every grid point adds its part to. -/
theorem accum (φ : St Ideal → EReal) (part : Fin 16 → ℝ)
    (hs : ∀ t : Fin cfg0.N, φ (out (pt m c t)) = (if t.val = 0 then 0 else φ (prev m c t)) + (part t : EReal)) :
    φ (st m c 15 (by decide)) = ((∑ t, part t : ℝ) : EReal) := by
  have q : ∀ (n : ℕ) (hn : n < cfg0.N), φ (st m c n hn)
      = ((∑ k ∈ Finset.range (n + 1), (if h : k < 16 then part ⟨k, h⟩ else 0) : ℝ) : EReal) := by
    intro n
    induction n with
    | zero =>
      intro hn
      refine (congrArg φ (st_eq m c ⟨0, hn⟩)).trans ((hs ⟨0, hn⟩).trans ?_)
      rw [if_pos rfl, zero_add, Finset.sum_range_one, dif_pos (by omega)]
      rfl
    | succ n ih =>
      intro hn
      refine (congrArg φ (st_eq m c ⟨n + 1, hn⟩)).trans ((hs ⟨n + 1, hn⟩).trans ?_)
      have e : prev m c ⟨n + 1, hn⟩ = st m c n (by omega) := by
        unfold prev; rw [dif_neg (Nat.succ_ne_zero n)]; rfl
      rw [if_neg (Nat.succ_ne_zero n), e, ih, add_real, Finset.sum_range_succ _ (n + 1), dif_pos (Nat.lt_of_lt_of_eq hn N_0)]
      rfl
  rw [q, ← Fin.sum_univ_eq_sum_range (fun k => if h : k < 16 then part ⟨k, h⟩ else 0) 16]
  exact congrArg _ (Finset.sum_congr rfl fun t _ => dif_pos t.isLt)

/-- What a grid point finds in a carried buffer: zeros, or what the point before left. -/
theorem old_dg1 (t : Fin cfg0.N) (k : Fin 1024) :
    (pt m c t).dg1 (ix2 0 k) = if t.val = 0 then 0 else (prev m c t).dg1 (ix2 0 k) := by
  have e : (pt m c t).dg1 = if reset (grid0.coords t) then k0_pay2 (F := Ideal) else (prev m c t).dg1 := rfl
  rw [e]
  by_cases h : t.val = 0
  · rw [if_pos ((reset_iff t).mpr h), if_pos h]
    unfold k0_pay2; pointwise
  · rw [if_neg (fun e => h ((reset_iff t).mp e)), if_neg h]

theorem old_dlng (t : Fin cfg0.N) (j : Fin 512) :
    (pt m c t).dlng (ix2 0 j) = if t.val = 0 then 0 else (prev m c t).dlng (ix2 0 j) := by
  have e : (pt m c t).dlng = if reset (grid0.coords t) then k0_pay3 (F := Ideal) else (prev m c t).dlng := rfl
  rw [e]
  by_cases h : t.val = 0
  · rw [if_pos ((reset_iff t).mpr h), if_pos h]
    unfold k0_pay3; pointwise
  · rw [if_neg (fun e => h ((reset_iff t).mp e)), if_neg h]

theorem old_dlnb (t : Fin cfg0.N) (j : Fin 512) :
    (pt m c t).dlnb (ix2 0 j) = if t.val = 0 then 0 else (prev m c t).dlnb (ix2 0 j) := by
  have e : (pt m c t).dlnb = if reset (grid0.coords t) then k0_pay4 (F := Ideal) else (prev m c t).dlnb := rfl
  rw [e]
  by_cases h : t.val = 0
  · rw [if_pos ((reset_iff t).mpr h), if_pos h]
    unfold k0_pay4; pointwise
  · rw [if_neg (fun e => h ((reset_iff t).mp e)), if_neg h]

theorem old_dws (t : Fin cfg0.N) (q : Fin 4) (r s : Fin 128) :
    (pt m c t).dws (ix3 q r s) = if t.val = 0 then 0 else (prev m c t).dws (ix3 q r s) := by
  have e : (pt m c t).dws = if reset (grid0.coords t) then k0_pay5 (F := Ideal) else (prev m c t).dws := rfl
  rw [e]
  by_cases h : t.val = 0
  · rw [if_pos ((reset_iff t).mpr h), if_pos h]
    unfold k0_pay5; pointwise
  · rw [if_neg (fun e => h ((reset_iff t).mp e)), if_neg h]

theorem old_dbs (t : Fin cfg0.N) (q : Fin 4) (r s : Fin 128) :
    (pt m c t).dbs (ix3 q r s) = if t.val = 0 then 0 else (prev m c t).dbs (ix3 q r s) := by
  have e : (pt m c t).dbs = if reset (grid0.coords t) then k0_pay6 (F := Ideal) else (prev m c t).dbs := rfl
  rw [e]
  by_cases h : t.val = 0
  · rw [if_pos ((reset_iff t).mpr h), if_pos h]
    unfold k0_pay6; pointwise
  · rw [if_neg (fun e => h ((reset_iff t).mp e)), if_neg h]

theorem old_dcw (t : Fin cfg0.N) (k : Fin 32) (j : Fin 512) :
    (pt m c t).dcw (ix2 k j) = if t.val = 0 then 0 else (prev m c t).dcw (ix2 k j) := by
  have e : (pt m c t).dcw = if reset (grid0.coords t) then k0_pay7 (F := Ideal) else (prev m c t).dcw := rfl
  rw [e]
  by_cases h : t.val = 0
  · rw [if_pos ((reset_iff t).mpr h), if_pos h]
    unfold k0_pay7; pointwise
  · rw [if_neg (fun e => h ((reset_iff t).mp e)), if_neg h]

theorem old_dcb (t : Fin cfg0.N) (j : Fin 512) :
    (pt m c t).dcb (ix2 0 j) = if t.val = 0 then 0 else (prev m c t).dcb (ix2 0 j) := by
  have e : (pt m c t).dcb = if reset (grid0.coords t) then k0_pay8 (F := Ideal) else (prev m c t).dcb := rfl
  rw [e]
  by_cases h : t.val = 0
  · rw [if_pos ((reset_iff t).mpr h), if_pos h]
    unfold k0_pay8; pointwise
  · rw [if_neg (fun e => h ((reset_iff t).mp e)), if_neg h]

theorem old_dcg (t : Fin cfg0.N) (j : Fin 512) :
    (pt m c t).dcg (ix2 0 j) = if t.val = 0 then 0 else (prev m c t).dcg (ix2 0 j) := by
  have e : (pt m c t).dcg = if reset (grid0.coords t) then k0_pay9 (F := Ideal) else (prev m c t).dcg := rfl
  rw [e]
  by_cases h : t.val = 0
  · rw [if_pos ((reset_iff t).mpr h), if_pos h]
    unfold k0_pay9; pointwise
  · rw [if_neg (fun e => h ((reset_iff t).mp e)), if_neg h]

theorem old_dcbeta (t : Fin cfg0.N) (j : Fin 512) :
    (pt m c t).dcbeta (ix2 0 j) = if t.val = 0 then 0 else (prev m c t).dcbeta (ix2 0 j) := by
  have e : (pt m c t).dcbeta = if reset (grid0.coords t) then k0_pay10 (F := Ideal) else (prev m c t).dcbeta := rfl
  rw [e]
  by_cases h : t.val = 0
  · rw [if_pos ((reset_iff t).mpr h), if_pos h]
    unfold k0_pay10; pointwise
  · rw [if_neg (fun e => h ((reset_iff t).mp e)), if_neg h]

theorem old_carry (t : Fin cfg0.N) (k : Fin 32) (j : Fin 512) :
    (pt m c t).carry (ix2 k j) = if t.val = 0 then 0 else (prev m c t).carry (ix2 k j) := by
  have e : (pt m c t).carry = if reset (grid0.coords t) then k0_pay1 (F := Ideal) else (prev m c t).carry := rfl
  rw [e]
  by_cases h : t.val = 0
  · rw [if_pos ((reset_iff t).mpr h), if_pos h]
    unfold k0_pay1; pointwise
  · rw [if_neg (fun e => h ((reset_iff t).mp e)), if_neg h]

variable (h : Args m c A)
include h

theorem ins_pt (t : Fin cfg0.N) : Ins A t (pt m c t) := ins h t _

/-- The rows a grid point finds from the block after it: the convolution's cotangent there. -/
theorem carry_at (t : Fin cfg0.N) (r : Fin 32) (j : Fin 512) :
    (pt m c t).carry (ix2 r j) = (A.dcAt ((15 - t.val) * 256 + 256 + r.val) j : EReal) := by
  rw [old_carry]
  split
  · next hz =>
    unfold Mix.dcAt
    rw [dif_neg (by rw [hz]; omega)]; rfl
  · next hz =>
    have ht := Nat.lt_of_lt_of_eq t.isLt N_0
    have e : prev m c t = st m c (t.val - 1) (by omega) := by unfold prev; rw [dif_neg hz]
    have e2 := st_eq m c ⟨t.val - 1, by omega⟩
    rw [e]
    refine (congrArg (fun s : St Ideal => s.carry (ix2 r j)) e2).trans ((key_carry (ins_pt h ⟨t.val - 1, by omega⟩) r j).trans ?_)
    refine congrArg (fun n => ((A.dcAt n j : ℝ) : EReal)) ?_
    show (15 - (t.val - 1)) * 256 + r.val = _
    omega

theorem all_dg1 (k : Fin 1024) : (st m c 15 (by decide)).dg1 (ix2 0 k) = (A.dg1 k : EReal) := by
  refine (accum (m := m) (c := c) (fun S => S.dg1 (ix2 0 k)) (fun t => ∑ a, A.dh (rowOf t a) k * (A.x (rowOf t a) k * rn (A.x (rowOf t a)))) fun t => ?_).trans (congrArg _ (sum_rows (fun n => A.dh n k * (A.x n k * rn (A.x n)))))
  exact (key_dg1 (ins_pt h t) (carry_at h t) k).trans (congrArg (· + _) (old_dg1 t k))

theorem all_dlng (j : Fin 512) : (st m c 15 (by decide)).dlng (ix2 0 j) = (A.dlg j : EReal) := by
  refine (accum (m := m) (c := c) (fun S => S.dlng (ix2 0 j)) (fun t => ∑ a, A.dv (rowOf t a) j * A.vh (rowOf t a) j) fun t => ?_).trans (congrArg _ (sum_rows (fun n => A.dv n j * A.vh n j)))
  exact (key_dlng (ins_pt h t) j).trans (congrArg (· + _) (old_dlng t j))

theorem all_dlnb (j : Fin 512) : (st m c 15 (by decide)).dlnb (ix2 0 j) = (A.dlb j : EReal) := by
  refine (accum (m := m) (c := c) (fun S => S.dlnb (ix2 0 j)) (fun t => ∑ a, A.dv (rowOf t a) j) fun t => ?_).trans (congrArg _ (sum_rows (fun n => A.dv n j)))
  exact (key_dlnb (ins_pt h t) j).trans (congrArg (· + _) (old_dlnb t j))

theorem all_dws (q : Fin 4) (r s : Fin 128) : (st m c 15 (by decide)).dws (ix3 q r s) = (A.dws q r s : EReal) := by
  refine (accum (m := m) (c := c) (fun S => S.dws (ix3 q r s)) (fun t => wsPart A t q r s) fun t => ?_).trans (congrArg _ (ws_all A q r s))
  exact (key_dws (ins_pt h t) q r s).trans (congrArg (· + _) (old_dws t q r s))

theorem all_dbs (q : Fin 4) (r s : Fin 128) : (st m c 15 (by decide)).dbs (ix3 q r s) = (A.dbs q r : EReal) := by
  refine (accum (m := m) (c := c) (fun S => S.dbs (ix3 q r s)) (fun t => bsPart A t q r) fun t => ?_).trans (congrArg _ (bs_all A q r))
  exact (key_dbs (ins_pt h t) q r s).trans (congrArg (· + _) (old_dbs t q r s))

theorem all_dcb (j : Fin 512) : (st m c 15 (by decide)).dcb (ix2 0 j) = (A.dcb j : EReal) := by
  refine (accum (m := m) (c := c) (fun S => S.dcb (ix2 0 j)) (fun t => ∑ a, A.dcpre (rowOf t a) j) fun t => ?_).trans (congrArg _ (sum_rows (fun n => A.dcpre n j)))
  exact (key_dcb (ins_pt h t) j).trans (congrArg (· + _) (old_dcb t j))

theorem all_dcg (j : Fin 512) : (st m c 15 (by decide)).dcg (ix2 0 j) = (A.dcg j : EReal) := by
  refine (accum (m := m) (c := c) (fun S => S.dcg (ix2 0 j)) (fun t => ∑ a, A.dcn (rowOf t a) j * A.chh (rowOf t a) j) fun t => ?_).trans (congrArg _ (sum_rows (fun n => A.dcn n j * A.chh n j)))
  exact (key_dcg (ins_pt h t) j).trans (congrArg (· + _) (old_dcg t j))

theorem all_dcbeta (j : Fin 512) : (st m c 15 (by decide)).dcbeta (ix2 0 j) = (A.dce j : EReal) := by
  refine (accum (m := m) (c := c) (fun S => S.dcbeta (ix2 0 j)) (fun t => ∑ a, A.dcn (rowOf t a) j) fun t => ?_).trans (congrArg _ (sum_rows (fun n => A.dcn n j)))
  exact (key_dcbeta (ins_pt h t) j).trans (congrArg (· + _) (old_dcbeta t j))

theorem all_dcw (k : Fin 32) (j : Fin 512) :
    (st m c 15 (by decide)).dcw (ix2 k j) = ((if hk : k.val < 31 then A.dcw ⟨k.val, hk⟩ j else 0 : ℝ) : EReal) := by
  refine (accum (m := m) (c := c) (fun s => s.dcw (ix2 k j)) (fun t => if k.val < 31 then cwPart A t k.val j else 0) fun t => ?_).trans
    (congrArg _ ?_)
  · exact (row_cwt29 (ins_pt h t) k j).trans (congrArg (· + _) (old_dcw t k j))
  · by_cases hk : k.val < 31
    · simp only [hk, if_true, dif_pos]
      exact cw_all A ⟨k.val, hk⟩ j
    · simp only [hk, if_false, dif_neg, not_false_eq_true, Finset.sum_const_zero]

/-- Result 0: the cotangent of the layer's input. -/
theorem out_dx : (dats m 0 c).arrAt 21 cfg0.N = fun i => (A.dx (i 0) (i 1) : EReal) := by
  refine (dats m 0 c).arrAt_eq_of_covers 21 _ (by decide +kernel) fun t hf y => ?_
  blk_simp
  rw [after0_21, eq_ix2 y]
  refine (key_dx (ins_pt h t) (carry_at h t) _ _).trans ?_
  have e0 : (((View.whole main_v135_0).slice (win0_21.rect t)).emb y 0) = rowOf t (y 0) := Fin.ext (by blk_simp [idx_out t]; rfl)
  have e1 : (((View.whole main_v135_0).slice (win0_21.rect t)).emb y 1) = y 1 := Fin.ext (by blk_simp [idx_out t])
  rw [← eq_ix2 y, e0, e1]

/-- Result 1: the same in the narrow format. -/
theorem out_dxb : (dats m 0 c).arrAt 22 cfg0.N = fun i => (A.dx (i 0) (i 1) : EReal) := by
  refine (dats m 0 c).arrAt_eq_of_covers 22 _ (by decide +kernel) fun t hf y => ?_
  blk_simp
  rw [after0_22, eq_ix2 y]
  refine (key_dxb (ins_pt h t) (carry_at h t) _ _).trans ?_
  have e0 : (((View.whole main_v135_1).slice (win0_22.rect t)).emb y 0) = rowOf t (y 0) := Fin.ext (by blk_simp [idx_out t]; rfl)
  have e1 : (((View.whole main_v135_1).slice (win0_22.rect t)).emb y 1) = y 1 := Fin.ext (by blk_simp [idx_out t])
  rw [← eq_ix2 y, e0, e1]

/-- Result 2: the projection's cotangent. -/
theorem out_dproj : (dats m 0 c).arrAt 23 cfg0.N = fun i => (A.dpj (i 0) (i 1) : EReal) := by
  refine (dats m 0 c).arrAt_eq_of_covers 23 _ (by decide +kernel) fun t hf y => ?_
  blk_simp
  rw [after0_23, eq_ix2 y]
  refine (key_dpr (ins_pt h t) (carry_at h t) _ _).trans ?_
  have e0 : (((View.whole main_v135_2).slice (win0_23.rect t)).emb y 0) = rowOf t (y 0) := Fin.ext (by blk_simp [idx_out t]; rfl)
  have e1 : (((View.whole main_v135_2).slice (win0_23.rect t)).emb y 1) = y 1 := Fin.ext (by blk_simp [idx_out t])
  rw [← eq_ix2 y, e0, e1]

/-- Result 3: the normed input with its gain, transposed. -/
theorem out_h1t : (dats m 0 c).arrAt 24 cfg0.N = fun i => (A.h (i 1) (i 0) : EReal) := by
  refine (dats m 0 c).arrAt_eq_of_covers 24 _ (by decide +kernel) fun t hf y => ?_
  blk_simp
  rw [after0_24, eq_ix2 y]
  refine (key_h1t (ins_pt h t) _ _).trans ?_
  have e0 : (((View.whole main_v135_3).slice (win0_24.rect t)).emb y 0) = y 0 := Fin.ext (by blk_simp [idx_out t])
  have e1 : (((View.whole main_v135_3).slice (win0_24.rect t)).emb y 1) = rowOf t (y 1) := Fin.ext (by blk_simp [idx_out t]; rfl)
  rw [← eq_ix2 y, e0, e1]

/-- Result 4: both mixers' outputs, transposed. -/
theorem out_mixt : (dats m 0 c).arrAt 25 cfg0.N = fun i => (A.mix (i 1) (i 0) : EReal) := by
  refine (dats m 0 c).arrAt_eq_of_covers 25 _ (by decide +kernel) fun t hf y => ?_
  blk_simp
  rw [after0_25, eq_ix2 y]
  refine (key_mixt (ins_pt h t) _ _).trans ?_
  have e0 : (((View.whole main_v135_4).slice (win0_25.rect t)).emb y 0) = y 0 := Fin.ext (by blk_simp [idx_out t])
  have e1 : (((View.whole main_v135_4).slice (win0_25.rect t)).emb y 1) = rowOf t (y 1) := Fin.ext (by blk_simp [idx_out t]; rfl)
  rw [← eq_ix2 y, e0, e1]

/-- Result 5: the norm's gain's gradient. -/
theorem out_dg1 : (dats m 0 c).arrAt 26 cfg0.N = fun i => (A.dg1 (i 1) : EReal) := by
  refine (dats m 0 c).arrAt_eq_of_after_last 26 tLast (by decide +kernel) _ fun j => ?_
  blk_simp
  rw [after0_26, eq_ix2_row j]
  exact all_dg1 h (j 1)

/-- Result 6: the spatial gate's norm's gain's gradient. -/
theorem out_dlng : (dats m 0 c).arrAt 27 cfg0.N = fun i => (A.dlg (i 1) : EReal) := by
  refine (dats m 0 c).arrAt_eq_of_after_last 27 tLast (by decide +kernel) _ fun j => ?_
  blk_simp
  rw [after0_27, eq_ix2_row j]
  exact all_dlng h (j 1)

/-- Result 7: the spatial gate's norm's offset's gradient. -/
theorem out_dlnb : (dats m 0 c).arrAt 28 cfg0.N = fun i => (A.dlb (i 1) : EReal) := by
  refine (dats m 0 c).arrAt_eq_of_after_last 28 tLast (by decide +kernel) _ fun j => ?_
  blk_simp
  rw [after0_28, eq_ix2_row j]
  exact all_dlnb h (j 1)

/-- Result 8: the spatial weights' gradient. -/
theorem out_dws : (dats m 0 c).arrAt 29 cfg0.N = fun i => (A.dws (i 0) (i 1) (i 2) : EReal) := by
  refine (dats m 0 c).arrAt_eq_of_after_last 29 tLast (by decide +kernel) _ fun j => ?_
  blk_simp
  rw [after0_29, eq_ix3 j]
  exact all_dws h (j 0) (j 1) (j 2)

/-- Result 9: the spatial offsets' gradient, in every column. -/
theorem out_dbs : (dats m 0 c).arrAt 30 cfg0.N = fun i => (A.dbs (i 0) (i 1) : EReal) := by
  refine (dats m 0 c).arrAt_eq_of_after_last 30 tLast (by decide +kernel) _ fun j => ?_
  blk_simp
  rw [after0_30, eq_ix3 j]
  exact all_dbs h (j 0) (j 1) (j 2)

/-- Result 10: the filters' gradients, with a row of zeros. -/
theorem out_dcw : (dats m 0 c).arrAt 31 cfg0.N = fun i => ((if hk : (i 0).val < 31 then A.dcw ⟨(i 0).val, hk⟩ (i 1) else 0 : ℝ) : EReal) := by
  refine (dats m 0 c).arrAt_eq_of_after_last 31 tLast (by decide +kernel) _ fun j => ?_
  blk_simp
  rw [after0_31, eq_ix2 j]
  exact all_dcw h (j 0) (j 1)

/-- Result 11: the convolution's offset's gradient. -/
theorem out_dcb : (dats m 0 c).arrAt 32 cfg0.N = fun i => (A.dcb (i 1) : EReal) := by
  refine (dats m 0 c).arrAt_eq_of_after_last 32 tLast (by decide +kernel) _ fun j => ?_
  blk_simp
  rw [after0_32, eq_ix2_row j]
  exact all_dcb h (j 1)

/-- Result 12: the heads' norm's gain's gradient. -/
theorem out_dcg : (dats m 0 c).arrAt 33 cfg0.N = fun i => (A.dcg (i 1) : EReal) := by
  refine (dats m 0 c).arrAt_eq_of_after_last 33 tLast (by decide +kernel) _ fun j => ?_
  blk_simp
  rw [after0_33, eq_ix2_row j]
  exact all_dcg h (j 1)

/-- Result 13: the heads' norm's offset's gradient. -/
theorem out_dcbeta : (dats m 0 c).arrAt 34 cfg0.N = fun i => (A.dce (i 1) : EReal) := by
  refine (dats m 0 c).arrAt_eq_of_after_last 34 tLast (by decide +kernel) _ fun j => ?_
  blk_simp
  rw [after0_34, eq_ix2_row j]
  exact all_dcbeta h (j 1)

end Real

end Cert.MixBwdIdeal.Hand

end
-- ==== Proof.MixRefFwd.lean ====
/- The reference of the token mixers' backward call over the ideal floats and finite arguments: its forward lines. -/
module

public import proofs.«01_k».proof.Proof.Gen.MixBwdRefIdeal.Read
public import proofs.«01_k».proof.Proof.MixConv
public import proofs.«01_k».proof.Proof.Reduce

@[expose] public section

set_option maxRecDepth 16384

noncomputable section

namespace Cert.MixBwdRefIdeal.Hand

open Cert.MixBwdIdeal.Hand (chh_at dcpre_at four_heads sge_ix)
open Cert.MixBwdRefIdeal Cert.MixBwdRefIdeal.Gen Cert.MixBwdRefIdeal.Read Idealize.ShloMosaic Idealize.ShloMosaic.TcCoe Cert.Reals

/-- Finite arguments. -/
structure Args (A : Mix) (x0 x12 : FVec Ideal S1x4096x1024 .f32) (x1 : FVec Ideal S1024 .f32) (x2 : FVec Ideal S1024x2048 .f32)
    (x3 x4 x8 x9 x10 : FVec Ideal S512 .f32) (x5 : FVec Ideal S4x128x128 .f32) (x6 : FVec Ideal S4x128 .f32) (x7 : FVec Ideal S31x512 .f32)
    (x11 : FVec Ideal S1024x1024 .f32) : Prop where
  x : ∀ t k, x0 (ix3 0 t k) = (A.x t k : EReal)
  g1 : ∀ k, x1 (ix1 k) = (A.g1 k : EReal)
  win : ∀ k f, x2 (ix2 k f) = (A.win k f : EReal)
  lg : ∀ j, x3 (ix1 j) = (A.lg j : EReal)
  lb : ∀ j, x4 (ix1 j) = (A.lb j : EReal)
  ws : ∀ q r s, x5 (ix3 q r s) = (A.ws q r s : EReal)
  bs : ∀ q r, x6 (ix2 q r) = (A.bs q r : EReal)
  cw : ∀ k j, x7 (ix2 k j) = (A.cw k j : EReal)
  cb : ∀ j, x8 (ix1 j) = (A.cb j : EReal)
  cg : ∀ j, x9 (ix1 j) = (A.cg j : EReal)
  ce : ∀ j, x10 (ix1 j) = (A.ce j : EReal)
  wo : ∀ i k, x11 (ix2 i k) = (A.wo i k : EReal)
  dy : ∀ t k, x12 (ix3 0 t k) = (A.dy t k : EReal)

/-- The convolution's window: the row a tap reads. -/
theorem tap_sum (A : Mix) (n : ℕ) (j : Fin 512) : ∑ s : Fin 4096, A.gv s j * (if s.val + 30 = n then 1 else 0) = A.gAt n j := by
  unfold Mix.gAt
  split
  · next h =>
    rw [Finset.sum_eq_single (⟨n - 30, by omega⟩ : Fin 4096), if_pos (by dsimp only; omega), mul_one]
    · intro s _ hs
      rw [if_neg (fun e => hs (Fin.ext (by dsimp only; omega))), mul_zero]
    · intro hs; exact absurd (Finset.mem_univ _) hs
  · next h =>
    exact Finset.sum_eq_zero fun s _ => by rw [if_neg (by omega), mul_zero]

/-- The window's mask: row `s + 30` of the padded rows is the one tap `k` of row `t` reads. -/
theorem eq_ix (t s : Fin 4096) (k : Fin 31) :
    IntOp.cmpi CmpIPredicate.eq (IntOp.addi (BitVec.ofNat 32 s.val) 30#32) (IntOp.addi (BitVec.ofNat 32 t.val) (BitVec.ofNat 32 k.val)) =
      if s.val + 30 = t.val + k.val then 1#1 else 0#1 := by
  have e : IntOp.addi (BitVec.ofNat 32 s.val) 30#32 = IntOp.addi (BitVec.ofNat 32 t.val) (BitVec.ofNat 32 k.val) ↔ s.val + 30 = t.val + k.val := by
    simp only [IntOp.addi, ← BitVec.toNat_inj, BitVec.toNat_add, BitVec.toNat_ofNat]
    omega
  by_cases h : s.val + 30 = t.val + k.val
  · rw [if_pos h, e.2 h]; simp [IntOp.cmpi]
  · rw [if_neg h]
    show BitVec.ofBool (_ == _) = _
    rw [beq_eq_false_iff_ne.2 (mt e.1 h)]; rfl

variable {A : Mix} {x0 x12 : FVec Ideal S1x4096x1024 .f32} {x1 : FVec Ideal S1024 .f32} {x2 : FVec Ideal S1024x2048 .f32}
  {x3 x4 x8 x9 x10 : FVec Ideal S512 .f32} {x5 : FVec Ideal S4x128x128 .f32} {x6 : FVec Ideal S4x128 .f32} {x7 : FVec Ideal S31x512 .f32}
  {x11 : FVec Ideal S1024x1024 .f32} (h : Args A x0 x12 x1 x2 x3 x4 x8 x9 x10 x5 x6 x7 x11)
include h

theorem r_v6 (t : Fin 4096) : val_main_v6 (F := Ideal) x0 (ix3 0 t 0) = ((ms (A.x t) : ℝ) : EReal) := by
  unfold val_main_v6 val_main_v4 val_main_v2 val_main_v1 val_main_v0 val_main_cst val_main_v3 val_main_cst_0 val_main_v5 val_main_cst_1
  pointwise
  simp (disch := norm_num) only [h.x, h.g1, h.win, h.lg, h.lb, h.ws, h.bs, h.cw, h.cb, h.cg, h.ce, h.wo, h.dy, c0, c1, c2, chalf, cneghalf, c1024, c512, c128, ceps, ccr, cck, mul_real, sum_real, add_real, sub_real, neg_real, div_real]
  rfl

theorem r_v7 (t : Fin 4096) : val_main_v7 (F := Ideal) x0 (ix3 0 t 0) = ((rn (A.x t) : ℝ) : EReal) := by
  unfold val_main_v7
  pointwise
  rw [r_v6 h]; exact rsqrt_ms _

theorem r_v10 (t : Fin 4096) : val_main_v10 (F := Ideal) x0 (ix3 0 t 0) = ((-(1 / 2) * (rn (A.x t) / ms (A.x t)) : ℝ) : EReal) := by
  unfold val_main_v10 val_main_v9 val_main_cst_2 val_main_v8
  pointwise
  rw [r_v6 h, r_v7 h, div_real (ms_pos _).ne', cneghalf, mul_real]

theorem r_v12 (t : Fin 4096) (k : Fin 1024) : val_main_v12 (F := Ideal) x0 (ix3 0 t k) = ((A.x t k * rn (A.x t) : ℝ) : EReal) := by
  unfold val_main_v12 val_main_v11
  pointwise
  simp (disch := norm_num) only [h.x, h.g1, h.win, h.lg, h.lb, h.ws, h.bs, h.cw, h.cb, h.cg, h.ce, h.wo, h.dy, r_v7 h, c0, c1, c2, chalf, cneghalf, c1024, c512, c128, ceps, ccr, cck, mul_real, sum_real, add_real, sub_real, neg_real, div_real]

theorem r_v15 (t : Fin 4096) (k : Fin 1024) : val_main_v15 (F := Ideal) x0 x1 (ix3 0 t k) = ((A.h t k : ℝ) : EReal) := by
  unfold val_main_v15 val_main_v14 val_main_v13
  pointwise
  simp (disch := norm_num) only [h.x, h.g1, h.win, h.lg, h.lb, h.ws, h.bs, h.cw, h.cb, h.cg, h.ce, h.wo, h.dy, r_v12 h, c0, c1, c2, chalf, cneghalf, c1024, c512, c128, ceps, ccr, cck, mul_real, sum_real, add_real, sub_real, neg_real, div_real]
  rfl

theorem r_v16 (t : Fin 4096) (f : Fin 2048) : val_main_v16 (F := Ideal) x0 x1 x2 (ix3 0 t f) = ((A.pj t f : ℝ) : EReal) := by
  unfold val_main_v16
  pointwise
  simp (disch := norm_num) only [h.x, h.g1, h.win, h.lg, h.lb, h.ws, h.bs, h.cw, h.cb, h.cg, h.ce, h.wo, h.dy, r_v15 h, c0, c1, c2, chalf, cneghalf, c1024, c512, c128, ceps, ccr, cck, mul_real, sum_real, add_real, sub_real, neg_real, div_real]
  rfl

theorem r_v17 (t : Fin 4096) (j : Fin 512) : val_main_v17 (F := Ideal) x0 x1 x2 (ix3 0 t j) = ((A.pj t (col 0 j) : ℝ) : EReal) := by
  unfold val_main_v17
  pointwise
  simp (disch := norm_num) only [h.x, h.g1, h.win, h.lg, h.lb, h.ws, h.bs, h.cw, h.cb, h.cg, h.ce, h.wo, h.dy, r_v16 h, c0, c1, c2, chalf, cneghalf, c1024, c512, c128, ceps, ccr, cck, mul_real, sum_real, add_real, sub_real, neg_real, div_real]
  rw [col0]

theorem r_v18 (t : Fin 4096) (j : Fin 512) : val_main_v18 (F := Ideal) x0 x1 x2 (ix3 0 t j) = ((A.pj t (col 1 j) : ℝ) : EReal) := by
  unfold val_main_v18
  pointwise
  simp (disch := norm_num) only [h.x, h.g1, h.win, h.lg, h.lb, h.ws, h.bs, h.cw, h.cb, h.cg, h.ce, h.wo, h.dy, r_v16 h, col1, c0, c1, c2, chalf, cneghalf, c1024, c512, c128, ceps, ccr, cck, mul_real, sum_real, add_real, sub_real, neg_real, div_real]

theorem r_v19 (t : Fin 4096) (j : Fin 512) : val_main_v19 (F := Ideal) x0 x1 x2 (ix3 0 t j) = ((A.pj t (col 2 j) : ℝ) : EReal) := by
  unfold val_main_v19
  pointwise
  simp (disch := norm_num) only [h.x, h.g1, h.win, h.lg, h.lb, h.ws, h.bs, h.cw, h.cb, h.cg, h.ce, h.wo, h.dy, r_v16 h, col2, c0, c1, c2, chalf, cneghalf, c1024, c512, c128, ceps, ccr, cck, mul_real, sum_real, add_real, sub_real, neg_real, div_real]

theorem r_v20 (t : Fin 4096) (j : Fin 512) : val_main_v20 (F := Ideal) x0 x1 x2 (ix3 0 t j) = ((A.pj t (col 3 j) : ℝ) : EReal) := by
  unfold val_main_v20
  pointwise
  simp (disch := norm_num) only [h.x, h.g1, h.win, h.lg, h.lb, h.ws, h.bs, h.cw, h.cb, h.cg, h.ce, h.wo, h.dy, r_v16 h, col3, c0, c1, c2, chalf, cneghalf, c1024, c512, c128, ceps, ccr, cck, mul_real, sum_real, add_real, sub_real, neg_real, div_real]

theorem r_v26 (t : Fin 4096) (j : Fin 512) : val_main_v26 (F := Ideal) x0 x1 x2 (ix3 0 t j) = ((1 + erfR (cr * A.pj t (col 0 j)) : ℝ) : EReal) := by
  unfold val_main_v26 val_main_v25 val_main_v23 val_main_v24 val_main_cst_4
  pointwise
  rw [r_v17 h, ccr]
  refine Eq.trans (congrArg Ideal.erfc ?_) (erfc_real _)
  simp only [neg_real, mul_real]
  congr 1; ring

theorem r_v36 (t : Fin 4096) (j : Fin 512) : val_main_v36 (F := Ideal) x0 x1 x2 (ix3 0 t j) = ((1 + erfR (cr * A.pj t (col 1 j)) : ℝ) : EReal) := by
  unfold val_main_v36 val_main_v35 val_main_v33 val_main_v34 val_main_cst_6
  pointwise
  rw [r_v18 h, ccr]
  refine Eq.trans (congrArg Ideal.erfc ?_) (erfc_real _)
  simp only [neg_real, mul_real]
  congr 1; ring

theorem r_v29 (t : Fin 4096) (j : Fin 512) : val_main_v29 (F := Ideal) x0 x1 x2 (ix3 0 t j) = ((Real.exp (-(cr * A.pj t (col 0 j) * (cr * A.pj t (col 0 j)))) : ℝ) : EReal) := by
  unfold val_main_v29 val_main_v28 val_main_v27 val_main_v25 val_main_v23 val_main_v24 val_main_cst_4
  pointwise
  simp (disch := norm_num) only [h.x, h.g1, h.win, h.lg, h.lb, h.ws, h.bs, h.cw, h.cb, h.cg, h.ce, h.wo, h.dy, r_v17 h, exp_real, c0, c1, c2, chalf, cneghalf, c1024, c512, c128, ceps, ccr, cck, mul_real, sum_real, add_real, sub_real, neg_real, div_real]
  congr 2; ring

theorem r_v39 (t : Fin 4096) (j : Fin 512) : val_main_v39 (F := Ideal) x0 x1 x2 (ix3 0 t j) = ((Real.exp (-(cr * A.pj t (col 1 j) * (cr * A.pj t (col 1 j)))) : ℝ) : EReal) := by
  unfold val_main_v39 val_main_v38 val_main_v37 val_main_v35 val_main_v33 val_main_v34 val_main_cst_6
  pointwise
  simp (disch := norm_num) only [h.x, h.g1, h.win, h.lg, h.lb, h.ws, h.bs, h.cw, h.cb, h.cg, h.ce, h.wo, h.dy, r_v18 h, exp_real, c0, c1, c2, chalf, cneghalf, c1024, c512, c128, ceps, ccr, cck, mul_real, sum_real, add_real, sub_real, neg_real, div_real]
  congr 2; ring

theorem r_v30 (t : Fin 4096) (j : Fin 512) : val_main_v30 (F := Ideal) x0 x1 x2 (ix3 0 t j) = ((A.u t j : ℝ) : EReal) := by
  unfold val_main_v30 val_main_v22 val_main_v21 val_main_cst_3
  pointwise
  simp (disch := norm_num) only [h.x, h.g1, h.win, h.lg, h.lb, h.ws, h.bs, h.cw, h.cb, h.cg, h.ce, h.wo, h.dy, r_v26 h, r_v17 h, c0, c1, c2, chalf, cneghalf, c1024, c512, c128, ceps, ccr, cck, mul_real, sum_real, add_real, sub_real, neg_real, div_real]
  unfold Mix.u gl cdf
  congr 1; ring

theorem r_v40 (t : Fin 4096) (j : Fin 512) : val_main_v40 (F := Ideal) x0 x1 x2 (ix3 0 t j) = ((A.vg t j : ℝ) : EReal) := by
  unfold val_main_v40 val_main_v32 val_main_v31 val_main_cst_5
  pointwise
  simp (disch := norm_num) only [h.x, h.g1, h.win, h.lg, h.lb, h.ws, h.bs, h.cw, h.cb, h.cg, h.ce, h.wo, h.dy, r_v36 h, r_v18 h, c0, c1, c2, chalf, cneghalf, c1024, c512, c128, ceps, ccr, cck, mul_real, sum_real, add_real, sub_real, neg_real, div_real]
  unfold Mix.vg gl cdf
  congr 1; ring

theorem r_v44 (t : Fin 4096) : val_main_v44 (F := Ideal) x0 x1 x2 (ix3 0 t 0) = (((∑ k, A.vg t k) / 512 : ℝ) : EReal) := by
  unfold val_main_v44 val_main_v42 val_main_v41 val_main_cst_7 val_main_v43 val_main_cst_8
  pointwise
  simp (disch := norm_num) only [h.x, h.g1, h.win, h.lg, h.lb, h.ws, h.bs, h.cw, h.cb, h.cg, h.ce, h.wo, h.dy, r_v40 h, c0, c1, c2, chalf, cneghalf, c1024, c512, c128, ceps, ccr, cck, mul_real, sum_real, add_real, sub_real, neg_real, div_real]

theorem r_v46 (t : Fin 4096) (j : Fin 512) : val_main_v46 (F := Ideal) x0 x1 x2 (ix3 0 t j) = ((cen 512 (A.vg t) j : ℝ) : EReal) := by
  unfold val_main_v46 val_main_v45
  pointwise
  simp (disch := norm_num) only [h.x, h.g1, h.win, h.lg, h.lb, h.ws, h.bs, h.cw, h.cb, h.cg, h.ce, h.wo, h.dy, r_v40 h, r_v44 h, c0, c1, c2, chalf, cneghalf, c1024, c512, c128, ceps, ccr, cck, mul_real, sum_real, add_real, sub_real, neg_real, div_real]
  rfl

theorem r_v55 (t : Fin 4096) (j : Fin 512) : val_main_v55 (F := Ideal) x0 x1 x2 (ix3 0 t j) = ((cen 512 (A.vg t) j : ℝ) : EReal) := by
  unfold val_main_v55 val_main_v54
  pointwise
  simp (disch := norm_num) only [h.x, h.g1, h.win, h.lg, h.lb, h.ws, h.bs, h.cw, h.cb, h.cg, h.ce, h.wo, h.dy, r_v40 h, r_v44 h, c0, c1, c2, chalf, cneghalf, c1024, c512, c128, ceps, ccr, cck, mul_real, sum_real, add_real, sub_real, neg_real, div_real]
  rfl

theorem r_v57 (t : Fin 4096) : val_main_v57 (F := Ideal) x0 x1 x2 (ix3 0 t 0) = ((var 512 (A.vg t) : ℝ) : EReal) := by
  unfold val_main_v57 val_main_v53 val_main_v51 val_main_v50 val_main_v47 val_main_cst_10 val_main_v52 val_main_cst_11 val_main_v56 val_main_cst_12
  pointwise
  simp (disch := norm_num) only [h.x, h.g1, h.win, h.lg, h.lb, h.ws, h.bs, h.cw, h.cb, h.cg, h.ce, h.wo, h.dy, r_v46 h, c0, c1, c2, chalf, cneghalf, c1024, c512, c128, ceps, ccr, cck, mul_real, sum_real, add_real, sub_real, neg_real, div_real]
  rfl

theorem r_v58 (t : Fin 4096) : val_main_v58 (F := Ideal) x0 x1 x2 (ix3 0 t 0) = ((lrs 512 (A.vg t) : ℝ) : EReal) := by
  unfold val_main_v58
  pointwise
  rw [r_v57 h]; exact rsqrt_var _ (by norm_num)

theorem r_v61 (t : Fin 4096) : val_main_v61 (F := Ideal) x0 x1 x2 (ix3 0 t 0) = ((-(1 / 2) * (lrs 512 (A.vg t) / var 512 (A.vg t)) : ℝ) : EReal) := by
  unfold val_main_v61 val_main_v60 val_main_cst_13 val_main_v59
  pointwise
  rw [r_v57 h, r_v58 h, div_real (var_pos _ (by norm_num)).ne', cneghalf, mul_real]

theorem r_v63 (t : Fin 4096) (j : Fin 512) : val_main_v63 (F := Ideal) x0 x1 x2 (ix3 0 t j) = ((A.vh t j : ℝ) : EReal) := by
  unfold val_main_v63 val_main_v62
  pointwise
  simp (disch := norm_num) only [h.x, h.g1, h.win, h.lg, h.lb, h.ws, h.bs, h.cw, h.cb, h.cg, h.ce, h.wo, h.dy, r_v55 h, r_v58 h, c0, c1, c2, chalf, cneghalf, c1024, c512, c128, ceps, ccr, cck, mul_real, sum_real, add_real, sub_real, neg_real, div_real]
  rfl

theorem r_v69 (t : Fin 4096) (j : Fin 512) : val_main_v69 (F := Ideal) x0 x1 x2 x3 x4 (ix3 0 t j) = ((A.v t j : ℝ) : EReal) := by
  unfold val_main_v69 val_main_v66 val_main_v65 val_main_v64 val_main_v68 val_main_v67
  pointwise
  simp (disch := norm_num) only [h.x, h.g1, h.win, h.lg, h.lb, h.ws, h.bs, h.cw, h.cb, h.cg, h.ce, h.wo, h.dy, r_v63 h, c0, c1, c2, chalf, cneghalf, c1024, c512, c128, ceps, ccr, cck, mul_real, sum_real, add_real, sub_real, neg_real, div_real]
  rfl

theorem r_v72 (r s : Fin 128) : val_main_v72 (F := Ideal) (ix2 r s) = ((if s ≤ r then 1 else 0 : ℝ) : EReal) := by
  unfold val_main_v72 val_main_call0_v4 val_main_call0_v2 val_main_call0_v0 val_main_call0_v1 val_main_call0_c val_main_call0_v3 val_main_v71 val_main_cst_14 val_main_call0_v5 val_main_call0_cst
  pointwise
  rw [show IntOp.addi (BitVec.ofNat 32 r.val) 0#32 = BitVec.ofNat 32 r.val from BitVec.add_zero _, sge_ix]
  split <;> simp [Scalar.select]

theorem r_v75 (q : Fin 4) (r s : Fin 128) : val_main_v75 (F := Ideal) x5 (ix3 q r s) = ((A.wm q r s : ℝ) : EReal) := by
  unfold val_main_v75 val_main_v74 val_main_v73
  pointwise
  simp (disch := norm_num) only [h.x, h.g1, h.win, h.lg, h.lb, h.ws, h.bs, h.cw, h.cb, h.cg, h.ce, h.wo, h.dy, r_v72 h, c0, c1, c2, chalf, cneghalf, c1024, c512, c128, ceps, ccr, cck, mul_real, sum_real, add_real, sub_real, neg_real, div_real]
  unfold Mix.wm; simp only [mul_ite, mul_one, mul_zero]

theorem r_v70 (i : Fin 32) (s : Fin 128) (q : Fin 4) (k : Fin 128) : val_main_v70 (F := Ideal) x0 x1 x2 x3 x4 (ix5 0 i s q k) = ((A.v (chunkRow i s) (headCol q k) : ℝ) : EReal) := by
  unfold val_main_v70
  pointwise
  simp (disch := norm_num) only [h.x, h.g1, h.win, h.lg, h.lb, h.ws, h.bs, h.cw, h.cb, h.cg, h.ce, h.wo, h.dy, r_v69 h, c0, c1, c2, chalf, cneghalf, c1024, c512, c128, ceps, ccr, cck, mul_real, sum_real, add_real, sub_real, neg_real, div_real]
  rfl

theorem r_v81 (i : Fin 32) (r : Fin 128) (q : Fin 4) (k : Fin 128) : val_main_v81 (F := Ideal) x0 x1 x2 x3 x4 x5 x6 (ix5 0 i r q k) = ((A.mixed (chunkRow i r) (headCol q k) : ℝ) : EReal) := by
  unfold val_main_v81 val_main_v77 val_main_v76 val_main_v80 val_main_v79 val_main_v78
  pointwise
  simp (disch := norm_num) only [h.x, h.g1, h.win, h.lg, h.lb, h.ws, h.bs, h.cw, h.cb, h.cg, h.ce, h.wo, h.dy, r_v70 h, r_v75 h, c0, c1, c2, chalf, cneghalf, c1024, c512, c128, ceps, ccr, cck, mul_real, sum_real, add_real, sub_real, neg_real, div_real]
  unfold Mix.mixed
  simp only [head_headCol, place_chunkRow, chunk_chunkRow, mul_comm (A.v _ _)]

theorem r_v82 (t : Fin 4096) (j : Fin 512) : val_main_v82 (F := Ideal) x0 x1 x2 x3 x4 x5 x6 (ix3 0 t j) = ((A.mixed t j : ℝ) : EReal) := by
  unfold val_main_v82
  pointwise
  simp (disch := norm_num) only [h.x, h.g1, h.win, h.lg, h.lb, h.ws, h.bs, h.cw, h.cb, h.cg, h.ce, h.wo, h.dy, r_v81 h, c0, c1, c2, chalf, cneghalf, c1024, c512, c128, ceps, ccr, cck, mul_real, sum_real, add_real, sub_real, neg_real, div_real]
  exact congrArg₂ (fun t j => ((A.mixed t j : ℝ) : EReal)) (chunkRow_chunk_place t) (headCol_head_lane j)

theorem r_v83 (t : Fin 4096) (j : Fin 512) : val_main_v83 (F := Ideal) x0 x1 x2 x3 x4 x5 x6 (ix3 0 t j) = ((A.a t j : ℝ) : EReal) := by
  unfold val_main_v83
  pointwise
  simp (disch := norm_num) only [h.x, h.g1, h.win, h.lg, h.lb, h.ws, h.bs, h.cw, h.cb, h.cg, h.ce, h.wo, h.dy, r_v30 h, r_v82 h, c0, c1, c2, chalf, cneghalf, c1024, c512, c128, ceps, ccr, cck, mul_real, sum_real, add_real, sub_real, neg_real, div_real]
  rfl

theorem r_v89 (t : Fin 4096) (j : Fin 512) : val_main_v89 (F := Ideal) x0 x1 x2 (ix3 0 t j) = ((A.sg t j : ℝ) : EReal) := by
  unfold val_main_v89 val_main_v88 val_main_cst_16 val_main_v87 val_main_v86 val_main_cst_15 val_main_v85 val_main_v84
  pointwise
  simp (disch := norm_num) only [h.x, h.g1, h.win, h.lg, h.lb, h.ws, h.bs, h.cw, h.cb, h.cg, h.ce, h.wo, h.dy, r_v20 h, exp_real, one_add_real, c0, c1, c2, chalf, cneghalf, c1024, c512, c128, ceps, ccr, cck, mul_real, sum_real, add_real, sub_real, neg_real, div_real]
  exact one_div_real (sig_pos _)

theorem r_v92 (t : Fin 4096) (j : Fin 512) : val_main_v92 (F := Ideal) x0 x1 x2 (ix3 0 t j) = ((A.sg t j * (1 - A.sg t j) : ℝ) : EReal) := by
  unfold val_main_v92 val_main_v91 val_main_v90 val_main_cst_17
  pointwise
  simp (disch := norm_num) only [h.x, h.g1, h.win, h.lg, h.lb, h.ws, h.bs, h.cw, h.cb, h.cg, h.ce, h.wo, h.dy, r_v89 h, c0, c1, c2, chalf, cneghalf, c1024, c512, c128, ceps, ccr, cck, mul_real, sum_real, add_real, sub_real, neg_real, div_real]
  rfl

theorem r_v93 (t : Fin 4096) (j : Fin 512) : val_main_v93 (F := Ideal) x0 x1 x2 (ix3 0 t j) = ((A.gv t j : ℝ) : EReal) := by
  unfold val_main_v93
  pointwise
  simp (disch := norm_num) only [h.x, h.g1, h.win, h.lg, h.lb, h.ws, h.bs, h.cw, h.cb, h.cg, h.ce, h.wo, h.dy, r_v19 h, r_v89 h, c0, c1, c2, chalf, cneghalf, c1024, c512, c128, ceps, ccr, cck, mul_real, sum_real, add_real, sub_real, neg_real, div_real]
  rfl

theorem r_v101 (t s : Fin 4096) (k : Fin 31) : val_main_v101 (F := Ideal) (ix3 t s k) = ((if s.val + 30 = t.val + k.val then 1 else 0 : ℝ) : EReal) := by
  unfold val_main_v101 val_main_v100 val_main_v98 val_main_v95 val_main_v97 val_main_c val_main_v99 val_main_v94 val_main_v96
  pointwise
  rw [eq_ix]
  split <;> simp [FloatOps.uitofp]

theorem r_v103 (t : Fin 4096) (k : Fin 31) (j : Fin 512) : val_main_v103 (F := Ideal) x0 x1 x2 (ix4 0 t k j) = ((A.gAt (t.val + k.val) j : ℝ) : EReal) := by
  unfold val_main_v103 val_main_v102
  pointwise
  simp (disch := norm_num) only [h.x, h.g1, h.win, h.lg, h.lb, h.ws, h.bs, h.cw, h.cb, h.cg, h.ce, h.wo, h.dy, r_v93 h, r_v101 h, c0, c1, c2, chalf, cneghalf, c1024, c512, c128, ceps, ccr, cck, mul_real, sum_real, add_real, sub_real, neg_real, div_real]
  rw [tap_sum]

theorem r_v110 (t : Fin 4096) (j : Fin 512) : val_main_v110 (F := Ideal) x0 x1 x2 x7 x8 (ix3 0 t j) = ((A.cpre t j : ℝ) : EReal) := by
  unfold val_main_v110 val_main_v107 val_main_v106 val_main_v105 val_main_v104 val_main_cst_18 val_main_v109 val_main_v108
  pointwise
  simp (disch := norm_num) only [h.x, h.g1, h.win, h.lg, h.lb, h.ws, h.bs, h.cw, h.cb, h.cg, h.ce, h.wo, h.dy, r_v103 h, c0, c1, c2, chalf, cneghalf, c1024, c512, c128, ceps, ccr, cck, mul_real, sum_real, add_real, sub_real, neg_real, div_real]
  rfl

theorem r_v111 (t : Fin 4096) (q : Fin 4) (r : Fin 128) : val_main_v111 (F := Ideal) x0 x1 x2 x7 x8 (ix4 0 t q r) = ((A.cgrp t q r : ℝ) : EReal) := by
  unfold val_main_v111
  pointwise
  simp (disch := norm_num) only [h.x, h.g1, h.win, h.lg, h.lb, h.ws, h.bs, h.cw, h.cb, h.cg, h.ce, h.wo, h.dy, r_v110 h, c0, c1, c2, chalf, cneghalf, c1024, c512, c128, ceps, ccr, cck, mul_real, sum_real, add_real, sub_real, neg_real, div_real]
  rfl

theorem r_v117 (t : Fin 4096) (q : Fin 4) : val_main_v117 (F := Ideal) x0 x1 x2 x7 x8 (ix4 0 t q 0) = (((∑ r, A.cgrp t q r) / 128 : ℝ) : EReal) := by
  unfold val_main_v117 val_main_v115 val_main_v114 val_main_cst_19 val_main_v116 val_main_cst_20
  pointwise
  simp (disch := norm_num) only [h.x, h.g1, h.win, h.lg, h.lb, h.ws, h.bs, h.cw, h.cb, h.cg, h.ce, h.wo, h.dy, r_v111 h, c0, c1, c2, chalf, cneghalf, c1024, c512, c128, ceps, ccr, cck, mul_real, sum_real, add_real, sub_real, neg_real, div_real]

theorem r_v119 (t : Fin 4096) (q : Fin 4) (r : Fin 128) : val_main_v119 (F := Ideal) x0 x1 x2 x7 x8 (ix4 0 t q r) = ((cen 128 (A.cgrp t q) r : ℝ) : EReal) := by
  unfold val_main_v119 val_main_v118
  pointwise
  simp (disch := norm_num) only [h.x, h.g1, h.win, h.lg, h.lb, h.ws, h.bs, h.cw, h.cb, h.cg, h.ce, h.wo, h.dy, r_v111 h, r_v117 h, c0, c1, c2, chalf, cneghalf, c1024, c512, c128, ceps, ccr, cck, mul_real, sum_real, add_real, sub_real, neg_real, div_real]
  rfl

theorem r_v128 (t : Fin 4096) (q : Fin 4) (r : Fin 128) : val_main_v128 (F := Ideal) x0 x1 x2 x7 x8 (ix4 0 t q r) = ((cen 128 (A.cgrp t q) r : ℝ) : EReal) := by
  unfold val_main_v128 val_main_v127
  pointwise
  simp (disch := norm_num) only [h.x, h.g1, h.win, h.lg, h.lb, h.ws, h.bs, h.cw, h.cb, h.cg, h.ce, h.wo, h.dy, r_v111 h, r_v117 h, c0, c1, c2, chalf, cneghalf, c1024, c512, c128, ceps, ccr, cck, mul_real, sum_real, add_real, sub_real, neg_real, div_real]
  rfl

theorem r_v130 (t : Fin 4096) (q : Fin 4) : val_main_v130 (F := Ideal) x0 x1 x2 x7 x8 (ix4 0 t q 0) = ((var 128 (A.cgrp t q) : ℝ) : EReal) := by
  unfold val_main_v130 val_main_v126 val_main_v124 val_main_v123 val_main_v120 val_main_cst_22 val_main_v125 val_main_cst_23 val_main_v129 val_main_cst_24
  pointwise
  simp (disch := norm_num) only [h.x, h.g1, h.win, h.lg, h.lb, h.ws, h.bs, h.cw, h.cb, h.cg, h.ce, h.wo, h.dy, r_v119 h, c0, c1, c2, chalf, cneghalf, c1024, c512, c128, ceps, ccr, cck, mul_real, sum_real, add_real, sub_real, neg_real, div_real]
  rfl

theorem r_v131 (t : Fin 4096) (q : Fin 4) : val_main_v131 (F := Ideal) x0 x1 x2 x7 x8 (ix4 0 t q 0) = ((lrs 128 (A.cgrp t q) : ℝ) : EReal) := by
  unfold val_main_v131
  pointwise
  rw [r_v130 h]; exact rsqrt_var _ (by norm_num)

theorem r_v134 (t : Fin 4096) (q : Fin 4) : val_main_v134 (F := Ideal) x0 x1 x2 x7 x8 (ix4 0 t q 0) = ((-(1 / 2) * (lrs 128 (A.cgrp t q) / var 128 (A.cgrp t q)) : ℝ) : EReal) := by
  unfold val_main_v134 val_main_v133 val_main_cst_25 val_main_v132
  pointwise
  rw [r_v130 h, r_v131 h, div_real (var_pos _ (by norm_num)).ne', cneghalf, mul_real]

theorem r_v136 (t : Fin 4096) (q : Fin 4) (r : Fin 128) : val_main_v136 (F := Ideal) x0 x1 x2 x7 x8 (ix4 0 t q r) = ((hat 128 (A.cgrp t q) r : ℝ) : EReal) := by
  unfold val_main_v136 val_main_v135
  pointwise
  simp (disch := norm_num) only [h.x, h.g1, h.win, h.lg, h.lb, h.ws, h.bs, h.cw, h.cb, h.cg, h.ce, h.wo, h.dy, r_v128 h, r_v131 h, c0, c1, c2, chalf, cneghalf, c1024, c512, c128, ceps, ccr, cck, mul_real, sum_real, add_real, sub_real, neg_real, div_real]
  rfl

theorem r_v142 (t : Fin 4096) (q : Fin 4) (r : Fin 128) : val_main_v142 (F := Ideal) x0 x1 x2 x7 x8 x9 x10 (ix4 0 t q r) = ((A.cn t (headCol q r) : ℝ) : EReal) := by
  unfold val_main_v142 val_main_v139 val_main_v138 val_main_v137 val_main_v112 val_main_v141 val_main_v140 val_main_v113
  pointwise
  simp (disch := norm_num) only [h.x, h.g1, h.win, h.lg, h.lb, h.ws, h.bs, h.cw, h.cb, h.cg, h.ce, h.wo, h.dy, r_v136 h, c0, c1, c2, chalf, cneghalf, c1024, c512, c128, ceps, ccr, cck, mul_real, sum_real, add_real, sub_real, neg_real, div_real]
  unfold Mix.cn; rw [chh_at]; rfl

theorem r_v143_2 (t : Fin 4096) (q : Fin 4) (r : Fin 128) : val_main_v143_2 (F := Ideal) x0 x1 x2 x7 x8 x9 x10 (ix4 0 t q r) = ((A.sc t (headCol q r) : ℝ) : EReal) := by
  unfold val_main_v143_2 val_main_call1_v4 val_main_call1_cst_0 val_main_call1_v3 val_main_call1_v2 val_main_call1_cst val_main_call1_v1 val_main_call1_v0
  pointwise
  simp (disch := norm_num) only [h.x, h.g1, h.win, h.lg, h.lb, h.ws, h.bs, h.cw, h.cb, h.cg, h.ce, h.wo, h.dy, r_v142 h, exp_real, one_add_real, c0, c1, c2, chalf, cneghalf, c1024, c512, c128, ceps, ccr, cck, mul_real, sum_real, add_real, sub_real, neg_real, div_real]
  exact one_div_real (sig_pos _)

theorem r_v143_1 (t : Fin 4096) (q : Fin 4) (r : Fin 128) : val_main_v143_1 (F := Ideal) x0 x1 x2 x7 x8 x9 x10 (ix4 0 t q r) = ((A.sc t (headCol q r) * (1 - A.sc t (headCol q r)) : ℝ) : EReal) := by
  unfold val_main_v143_1 val_main_call1_v7 val_main_call1_v6 val_main_call1_cst_1
  pointwise
  simp (disch := norm_num) only [h.x, h.g1, h.win, h.lg, h.lb, h.ws, h.bs, h.cw, h.cb, h.cg, h.ce, h.wo, h.dy, r_v143_2 h, c0, c1, c2, chalf, cneghalf, c1024, c512, c128, ceps, ccr, cck, mul_real, sum_real, add_real, sub_real, neg_real, div_real]
  rfl

theorem r_v143_0 (t : Fin 4096) (q : Fin 4) (r : Fin 128) : val_main_v143_0 (F := Ideal) x0 x1 x2 x7 x8 x9 x10 (ix4 0 t q r) = ((A.cout t (headCol q r) : ℝ) : EReal) := by
  unfold val_main_v143_0
  pointwise
  simp (disch := norm_num) only [h.x, h.g1, h.win, h.lg, h.lb, h.ws, h.bs, h.cw, h.cb, h.cg, h.ce, h.wo, h.dy, r_v142 h, r_v143_2 h, c0, c1, c2, chalf, cneghalf, c1024, c512, c128, ceps, ccr, cck, mul_real, sum_real, add_real, sub_real, neg_real, div_real]
  rfl

theorem r_v145 (t : Fin 4096) (i : Fin 1024) : val_main_v145 (F := Ideal) x0 x1 x2 x3 x4 x5 x6 x7 x8 x9 x10 (ix3 0 t i) = ((A.mix t i : ℝ) : EReal) := by
  unfold val_main_v145 val_main_v144
  pointwise
  simp (disch := norm_num) only [h.x, h.g1, h.win, h.lg, h.lb, h.ws, h.bs, h.cw, h.cb, h.cg, h.ce, h.wo, h.dy, r_v83 h, r_v143_0 h, c0, c1, c2, chalf, cneghalf, c1024, c512, c128, ceps, ccr, cck, mul_real, sum_real, add_real, sub_real, neg_real, div_real]
  unfold Mix.mix
  split
  · rfl
  · exact congrArg (fun j => ((A.cout t j : ℝ) : EReal)) (headCol_head_lane ⟨i.val - 512, by omega⟩)

end Cert.MixBwdRefIdeal.Hand

end
-- ==== Proof.MixRef.lean ====
/- The reference of the token mixers' backward call over the ideal floats and finite arguments: its gradients. -/
module

public import proofs.«01_k».proof.Proof.MixRefFwd
public import proofs.«01_k».proof.Proof.MixOut

@[expose] public section

set_option maxRecDepth 16384

noncomputable section

namespace Cert.MixBwdRefIdeal.Hand

open Cert.MixBwdIdeal.Hand (chh_at dcpre_at four_heads dpj_col)
open Cert.MixBwdRefIdeal Cert.MixBwdRefIdeal.Gen Cert.MixBwdRefIdeal.Read Idealize.ShloMosaic Idealize.ShloMosaic.TcCoe Cert.Reals

theorem cneg : Ideal.ofBits .f32 0xBF906EBB#32 = ((-ck : ℝ) : EReal) := by
  simp [Ideal.ofBits, Ideal.ieee, ck, -EReal.coe_mul, -EReal.coe_add]; norm_num

/-- The projection's cotangent, put together from the four parts' cotangents. -/
theorem parts (A : Mix) (t : Fin 4096) (f : Fin 2048) :
    ((((if h : 1536 ≤ f.val ∧ f.val - 1536 < 512 then ((A.dgb t ⟨f.val - 1536, h.2⟩ : ℝ) : EReal) else 0) +
      (if h : 1024 ≤ f.val ∧ f.val - 1024 < 512 then ((A.dvb t ⟨f.val - 1024, h.2⟩ : ℝ) : EReal) else 0)) +
      (if h : 512 ≤ f.val ∧ f.val - 512 < 512 then ((A.dva t ⟨f.val - 512, h.2⟩ : ℝ) : EReal) else 0)) +
      (if h : f.val < 512 then ((A.dua t ⟨f.val, h⟩ : ℝ) : EReal) else 0)) = ((A.dpj t f : ℝ) : EReal) := by
  obtain ⟨p, j, rfl⟩ : ∃ p j, f = col p j := ⟨⟨f.val / 512, by omega⟩, ⟨f.val % 512, by omega⟩, Fin.ext (Nat.div_add_mod' _ _).symm⟩
  rw [dpj_col]
  fin_cases p
  · rw [dif_neg (by simp [col] <;> omega), dif_neg (by simp [col] <;> omega), dif_neg (by simp [col] <;> omega), dif_pos (by simp [col] <;> omega)]
    simp only [zero_add]
    exact congrArg (fun j => ((A.dua t j : ℝ) : EReal)) (Fin.ext (by simp [col]))
  · rw [dif_neg (by simp [col] <;> omega), dif_neg (by simp [col] <;> omega), dif_pos (by simp [col] <;> omega), dif_neg (by simp [col] <;> omega)]
    simp only [zero_add, add_zero]
    exact congrArg (fun j => ((A.dva t j : ℝ) : EReal)) (Fin.ext (by simp [col]))
  · rw [dif_neg (by simp [col] <;> omega), dif_pos (by simp [col] <;> omega), dif_neg (by simp [col] <;> omega), dif_neg (by simp [col] <;> omega)]
    simp only [zero_add, add_zero]
    exact congrArg (fun j => ((A.dvb t j : ℝ) : EReal)) (Fin.ext (by simp [col]))
  · rw [dif_pos (by simp [col] <;> omega), dif_neg (by simp [col] <;> omega), dif_neg (by simp [col] <;> omega), dif_neg (by simp [col] <;> omega)]
    simp only [add_zero]
    exact congrArg (fun j => ((A.dgb t j : ℝ) : EReal)) (Fin.ext (by simp [col]))

/-- The spatial weights' product: for every head the sum over the chunks and the head's columns. -/
@[pointwise] theorem chunk_dot (lhs : S4x1x32x128x128.Idx → EReal) (rhs : S1x32x128x4x128.Idx → EReal) (acc : S4x128x128.Idx → EReal)
    (q : Fin 4) (r s : Fin 128) :
    Ideal.matmul dot_S4x1x32x128x128_S1x32x128x4x128_S4x128x128_123_014_4_2_0_3 lhs rhs acc (ix3 q r s)
      = acc (ix3 q r s) + ∑ i : Fin 32, ∑ k : Fin 128, lhs (ix5 q 0 i k r) * rhs (ix5 0 i s q k) := by
  let D := dot_S4x1x32x128x128_S1x32x128x4x128_S4x128x128_123_014_4_2_0_3
  let e : Fin 32 × Fin 128 ≃ D.contr.Idx :=
    { toFun := fun k p => match p with
        | ⟨0, _⟩ => (0 : Fin 1)
        | ⟨1, _⟩ => k.1
        | ⟨2, _⟩ => k.2
      invFun := fun x => (x ⟨1, by decide⟩, x ⟨2, by decide⟩)
      left_inv := fun _ => rfl
      right_inv := fun x => by
        funext p
        match p with
        | ⟨0, _⟩ => exact Subsingleton.elim (α := Fin 1) _ _
        | ⟨1, _⟩ => rfl
        | ⟨2, _⟩ => rfl }
  unfold Ideal.matmul
  congr 1
  rw [← Equiv.sum_comp e, Fintype.sum_prod_type]
  refine Finset.sum_congr rfl fun i _ => Finset.sum_congr rfl fun k _ => ?_
  have el : D.lhsIdx (ix3 q r s) (e (i, k)) = ix5 q 0 i k r := by
    funext a; apply Fin.ext
    match a with
    | ⟨0, _⟩ => rfl
    | ⟨1, _⟩ => rfl
    | ⟨2, _⟩ => rfl
    | ⟨3, _⟩ => rfl
    | ⟨4, _⟩ => rfl
  have er : D.rhsIdx (ix3 q r s) (e (i, k)) = ix5 0 i s q k := by
    funext a; apply Fin.ext
    match a with
    | ⟨0, _⟩ => rfl
    | ⟨1, _⟩ => rfl
    | ⟨2, _⟩ => rfl
    | ⟨3, _⟩ => rfl
    | ⟨4, _⟩ => rfl
  exact congrArg₂ (fun a b => lhs a * rhs b) el er

/-- The convolution's cotangent: each row takes from the rows whose window holds it. -/
theorem dg_sum (A : Mix) (t : Fin 4096) (j : Fin 512) :
    ∑ n : Fin 4096, ∑ k : Fin 31, A.dcpre n j * A.cw k j * (if t.val + 30 = n.val + k.val then 1 else 0) = A.dg t j := by
  rw [Finset.sum_comm]
  unfold Mix.dg
  refine Finset.sum_congr rfl fun k _ => ?_
  unfold Mix.dcAt
  split
  · next h =>
    rw [Finset.sum_eq_single (⟨t.val + (30 - k.val), h⟩ : Fin 4096), if_pos (by dsimp only; omega), mul_one]
    · intro n _ hn
      rw [if_neg (fun e => hn (Fin.ext (by dsimp only; omega))), mul_zero]
    · intro hn; exact absurd (Finset.mem_univ _) hn
  · next h =>
    rw [zero_mul]
    exact Finset.sum_eq_zero fun n _ => by rw [if_neg (by omega), mul_zero]

variable {A : Mix} {x0 x12 : FVec Ideal S1x4096x1024 .f32} {x1 : FVec Ideal S1024 .f32} {x2 : FVec Ideal S1024x2048 .f32}
  {x3 x4 x8 x9 x10 : FVec Ideal S512 .f32} {x5 : FVec Ideal S4x128x128 .f32} {x6 : FVec Ideal S4x128 .f32} {x7 : FVec Ideal S31x512 .f32}
  {x11 : FVec Ideal S1024x1024 .f32} (h : Args A x0 x12 x1 x2 x3 x4 x8 x9 x10 x5 x6 x7 x11)
include h

theorem r_v149 (t : Fin 4096) (i : Fin 1024) : val_main_v149 (F := Ideal) x11 x12 (ix3 0 t i) = ((A.dmix t i : ℝ) : EReal) := by
  unfold val_main_v149 val_main_v148
  pointwise
  simp (disch := norm_num) only [h.x, h.g1, h.win, h.lg, h.lb, h.ws, h.bs, h.cw, h.cb, h.cg, h.ce, h.wo, h.dy, c0, c1, c2, chalf, cneghalf, c1024, c512, c128, ceps, ccr, cck, cneg, mul_real, sum_real, add_real, sub_real, neg_real, div_real]
  rfl

theorem r_v150 (t : Fin 4096) (j : Fin 512) : val_main_v150 (F := Ideal) x11 x12 (ix3 0 t j) = ((A.dmix t (half 0 j) : ℝ) : EReal) := by
  unfold val_main_v150
  pointwise
  simp (disch := norm_num) only [h.x, h.g1, h.win, h.lg, h.lb, h.ws, h.bs, h.cw, h.cb, h.cg, h.ce, h.wo, h.dy, r_v149 h, c0, c1, c2, chalf, cneghalf, c1024, c512, c128, ceps, ccr, cck, cneg, mul_real, sum_real, add_real, sub_real, neg_real, div_real]
  exact congrArg (fun i => ((A.dmix t i : ℝ) : EReal)) (Fin.ext (by simp [half]))

theorem r_v152 (t : Fin 4096) (q : Fin 4) (r : Fin 128) : val_main_v152 (F := Ideal) x11 x12 (ix4 0 t q r) = ((A.dmix t (half 1 (headCol q r)) : ℝ) : EReal) := by
  unfold val_main_v152 val_main_v151
  pointwise
  simp (disch := norm_num) only [h.x, h.g1, h.win, h.lg, h.lb, h.ws, h.bs, h.cw, h.cb, h.cg, h.ce, h.wo, h.dy, r_v149 h, c0, c1, c2, chalf, cneghalf, c1024, c512, c128, ceps, ccr, cck, cneg, mul_real, sum_real, add_real, sub_real, neg_real, div_real]
  exact congrArg (fun i => ((A.dmix t i : ℝ) : EReal)) (Fin.ext (by simp only [half, headCol]; omega))

theorem r_v153 (t : Fin 4096) (q : Fin 4) (r : Fin 128) : val_main_v153 (F := Ideal) x0 x1 x2 x7 x8 x9 x10 x11 x12 (ix4 0 t q r) = ((A.dcn t (headCol q r) : ℝ) : EReal) := by
  unfold val_main_v153 val_main_call2_v1 val_main_call2_v2 val_main_call2_v0
  pointwise
  simp (disch := norm_num) only [h.x, h.g1, h.win, h.lg, h.lb, h.ws, h.bs, h.cw, h.cb, h.cg, h.ce, h.wo, h.dy, r_v152 h, r_v143_2 h, r_v143_1 h, r_v142 h, c0, c1, c2, chalf, cneghalf, c1024, c512, c128, ceps, ccr, cck, cneg, mul_real, sum_real, add_real, sub_real, neg_real, div_real]
  unfold Mix.dcn
  congr 1; ring

theorem r_v156 (q : Fin 4) (r : Fin 128) : val_main_v156 (F := Ideal) x0 x1 x2 x7 x8 x9 x10 x11 x12 (ix2 q r) = ((A.dce (headCol q r) : ℝ) : EReal) := by
  unfold val_main_v156 val_main_v155 val_main_v154 val_main_cst_26 val_main_cst_27
  pointwise
  simp (disch := norm_num) only [h.x, h.g1, h.win, h.lg, h.lb, h.ws, h.bs, h.cw, h.cb, h.cg, h.ce, h.wo, h.dy, r_v153 h, Fin.sum_univ_one, c0, c1, c2, chalf, cneghalf, c1024, c512, c128, ceps, ccr, cck, cneg, mul_real, sum_real, add_real, sub_real, neg_real, div_real]
  rfl

theorem r_v162 (q : Fin 4) (r : Fin 128) : val_main_v162 (F := Ideal) x0 x1 x2 x7 x8 x9 x10 x11 x12 (ix2 q r) = ((A.dcg (headCol q r) : ℝ) : EReal) := by
  unfold val_main_v162 val_main_v159 val_main_v158 val_main_v157 val_main_cst_28 val_main_cst_29
  pointwise
  simp (disch := norm_num) only [h.x, h.g1, h.win, h.lg, h.lb, h.ws, h.bs, h.cw, h.cb, h.cg, h.ce, h.wo, h.dy, r_v136 h, r_v153 h, Fin.sum_univ_one, c0, c1, c2, chalf, cneghalf, c1024, c512, c128, ceps, ccr, cck, cneg, mul_real, sum_real, add_real, sub_real, neg_real, div_real]
  unfold Mix.dcg; simp only [chh_at, mul_comm (A.dcn _ _)]

theorem r_v161 (t : Fin 4096) (q : Fin 4) (r : Fin 128) : val_main_v161 (F := Ideal) x0 x1 x2 x7 x8 x9 x10 x11 x12 (ix4 0 t q r) = ((A.dcn t (headCol q r) * A.cg (headCol q r) : ℝ) : EReal) := by
  unfold val_main_v161 val_main_v160 val_main_v137 val_main_v112
  pointwise
  simp (disch := norm_num) only [h.x, h.g1, h.win, h.lg, h.lb, h.ws, h.bs, h.cw, h.cb, h.cg, h.ce, h.wo, h.dy, r_v153 h, c0, c1, c2, chalf, cneghalf, c1024, c512, c128, ceps, ccr, cck, cneg, mul_real, sum_real, add_real, sub_real, neg_real, div_real]
  rfl

theorem r_v165 (t : Fin 4096) (q : Fin 4) : val_main_v165 (F := Ideal) x0 x1 x2 x7 x8 x9 x10 x11 x12 (ix4 0 t q 0) = ((∑ r, cen 128 (A.cgrp t q) r * (A.dcn t (headCol q r) * A.cg (headCol q r)) : ℝ) : EReal) := by
  unfold val_main_v165 val_main_v164 val_main_v163 val_main_cst_30
  pointwise
  simp (disch := norm_num) only [h.x, h.g1, h.win, h.lg, h.lb, h.ws, h.bs, h.cw, h.cb, h.cg, h.ce, h.wo, h.dy, r_v128 h, r_v161 h, c0, c1, c2, chalf, cneghalf, c1024, c512, c128, ceps, ccr, cck, cneg, mul_real, sum_real, add_real, sub_real, neg_real, div_real]

theorem r_v167 (t : Fin 4096) (q : Fin 4) (r : Fin 128) : val_main_v167 (F := Ideal) x0 x1 x2 x7 x8 x9 x10 x11 x12 (ix4 0 t q r) = ((A.dcn t (headCol q r) * A.cg (headCol q r) * lrs 128 (A.cgrp t q) : ℝ) : EReal) := by
  unfold val_main_v167 val_main_v166
  pointwise
  simp (disch := norm_num) only [h.x, h.g1, h.win, h.lg, h.lb, h.ws, h.bs, h.cw, h.cb, h.cg, h.ce, h.wo, h.dy, r_v161 h, r_v131 h, c0, c1, c2, chalf, cneghalf, c1024, c512, c128, ceps, ccr, cck, cneg, mul_real, sum_real, add_real, sub_real, neg_real, div_real]

theorem r_v177 (t : Fin 4096) (q : Fin 4) (r : Fin 128) : val_main_v177 (F := Ideal) x0 x1 x2 x7 x8 x9 x10 x11 x12 (ix4 0 t q r) = (((∑ r, cen 128 (A.cgrp t q) r * (A.dcn t (headCol q r) * A.cg (headCol q r))) * (-(1 / 2) * (lrs 128 (A.cgrp t q) / var 128 (A.cgrp t q))) / 128 * (2 * cen 128 (A.cgrp t q) r) : ℝ) : EReal) := by
  unfold val_main_v177 val_main_v176 val_main_v175 val_main_v174 val_main_v173 val_main_v168 val_main_v172 val_main_cst_32 val_main_cst_33 val_main_v122 val_main_v121 val_main_cst_21
  pointwise
  simp (disch := norm_num) only [h.x, h.g1, h.win, h.lg, h.lb, h.ws, h.bs, h.cw, h.cb, h.cg, h.ce, h.wo, h.dy, r_v165 h, r_v134 h, r_v119 h, Fin.sum_univ_one, c0, c1, c2, chalf, cneghalf, c1024, c512, c128, ceps, ccr, cck, cneg, mul_real, sum_real, add_real, sub_real, neg_real, div_real]

theorem r_v188 (t : Fin 4096) (q : Fin 4) (r : Fin 128) : val_main_v188 (F := Ideal) x0 x1 x2 x7 x8 x9 x10 x11 x12 (ix4 0 t q r) = ((A.dcpre t (headCol q r) : ℝ) : EReal) := by
  unfold val_main_v188 val_main_v181 val_main_v187 val_main_v186 val_main_v185 val_main_v184 val_main_v182 val_main_v171 val_main_v170 val_main_v169 val_main_cst_31 val_main_v180 val_main_v179 val_main_v178 val_main_cst_34 val_main_v183 val_main_cst_35 val_main_cst_36
  pointwise
  simp (disch := norm_num) only [h.x, h.g1, h.win, h.lg, h.lb, h.ws, h.bs, h.cw, h.cb, h.cg, h.ce, h.wo, h.dy, r_v167 h, r_v177 h, Fin.sum_univ_one, c0, c1, c2, chalf, cneghalf, c1024, c512, c128, ceps, ccr, cck, cneg, mul_real, sum_real, add_real, sub_real, neg_real, div_real]
  rw [dcpre_at, lnBwd_eq _ _ (by norm_num) (by norm_num)]

theorem r_v191 (t : Fin 4096) (j : Fin 512) : val_main_v191 (F := Ideal) x0 x1 x2 x7 x8 x9 x10 x11 x12 (ix3 0 t j) = ((A.dcpre t j : ℝ) : EReal) := by
  unfold val_main_v191
  pointwise
  simp (disch := norm_num) only [h.x, h.g1, h.win, h.lg, h.lb, h.ws, h.bs, h.cw, h.cb, h.cg, h.ce, h.wo, h.dy, r_v188 h, c0, c1, c2, chalf, cneghalf, c1024, c512, c128, ceps, ccr, cck, cneg, mul_real, sum_real, add_real, sub_real, neg_real, div_real]
  exact congrArg (fun j => ((A.dcpre t j : ℝ) : EReal)) (headCol_head_lane j)

theorem r_v194 (j : Fin 512) : val_main_v194 (F := Ideal) x0 x1 x2 x7 x8 x9 x10 x11 x12 (ix1 j) = ((A.dcb j : ℝ) : EReal) := by
  unfold val_main_v194 val_main_v193 val_main_v192 val_main_cst_37 val_main_cst_38
  pointwise
  simp (disch := norm_num) only [h.x, h.g1, h.win, h.lg, h.lb, h.ws, h.bs, h.cw, h.cb, h.cg, h.ce, h.wo, h.dy, r_v191 h, Fin.sum_univ_one, c0, c1, c2, chalf, cneghalf, c1024, c512, c128, ceps, ccr, cck, cneg, mul_real, sum_real, add_real, sub_real, neg_real, div_real]
  rfl

theorem r_v201 (k : Fin 31) (j : Fin 512) : val_main_v201 (F := Ideal) x0 x1 x2 x7 x8 x9 x10 x11 x12 (ix2 k j) = ((A.dcw k j : ℝ) : EReal) := by
  unfold val_main_v201 val_main_v198 val_main_v197 val_main_v196 val_main_v195 val_main_cst_39 val_main_cst_40
  pointwise
  simp (disch := norm_num) only [h.x, h.g1, h.win, h.lg, h.lb, h.ws, h.bs, h.cw, h.cb, h.cg, h.ce, h.wo, h.dy, r_v103 h, r_v191 h, Fin.sum_univ_one, c0, c1, c2, chalf, cneghalf, c1024, c512, c128, ceps, ccr, cck, cneg, mul_real, sum_real, add_real, sub_real, neg_real, div_real]
  unfold Mix.dcw; simp only [mul_comm (A.dcpre _ _)]

theorem r_v204 (t : Fin 4096) (j : Fin 512) : val_main_v204 (F := Ideal) x0 x1 x2 x7 x8 x9 x10 x11 x12 (ix3 0 t j) = ((A.dg t j : ℝ) : EReal) := by
  unfold val_main_v204 val_main_v203 val_main_v202 val_main_v200 val_main_v195 val_main_v199 val_main_v104
  pointwise
  simp (disch := norm_num) only [h.x, h.g1, h.win, h.lg, h.lb, h.ws, h.bs, h.cw, h.cb, h.cg, h.ce, h.wo, h.dy, r_v101 h, r_v191 h, c0, c1, c2, chalf, cneghalf, c1024, c512, c128, ceps, ccr, cck, cneg, mul_real, sum_real, add_real, sub_real, neg_real, div_real]
  rw [dg_sum]

theorem r_v206 (t : Fin 4096) (j : Fin 512) : val_main_v206 (F := Ideal) x0 x1 x2 x7 x8 x9 x10 x11 x12 (ix3 0 t j) = ((A.dvb t j : ℝ) : EReal) := by
  unfold val_main_v206
  pointwise
  simp (disch := norm_num) only [h.x, h.g1, h.win, h.lg, h.lb, h.ws, h.bs, h.cw, h.cb, h.cg, h.ce, h.wo, h.dy, r_v204 h, r_v89 h, c0, c1, c2, chalf, cneghalf, c1024, c512, c128, ceps, ccr, cck, cneg, mul_real, sum_real, add_real, sub_real, neg_real, div_real]
  rfl

theorem r_v207 (t : Fin 4096) (j : Fin 512) : val_main_v207 (F := Ideal) x0 x1 x2 x7 x8 x9 x10 x11 x12 (ix3 0 t j) = ((A.dgb t j : ℝ) : EReal) := by
  unfold val_main_v207 val_main_v205
  pointwise
  simp (disch := norm_num) only [h.x, h.g1, h.win, h.lg, h.lb, h.ws, h.bs, h.cw, h.cb, h.cg, h.ce, h.wo, h.dy, r_v92 h, r_v19 h, r_v204 h, c0, c1, c2, chalf, cneghalf, c1024, c512, c128, ceps, ccr, cck, cneg, mul_real, sum_real, add_real, sub_real, neg_real, div_real]
  unfold Mix.dgb
  congr 1; ring

theorem r_v208 (t : Fin 4096) (j : Fin 512) : val_main_v208 (F := Ideal) x0 x1 x2 x11 x12 (ix3 0 t j) = ((A.dmx t j : ℝ) : EReal) := by
  unfold val_main_v208
  pointwise
  simp (disch := norm_num) only [h.x, h.g1, h.win, h.lg, h.lb, h.ws, h.bs, h.cw, h.cb, h.cg, h.ce, h.wo, h.dy, r_v30 h, r_v150 h, c0, c1, c2, chalf, cneghalf, c1024, c512, c128, ceps, ccr, cck, cneg, mul_real, sum_real, add_real, sub_real, neg_real, div_real]
  unfold Mix.dmx; rw [mul_comm]

theorem r_v210 (i : Fin 32) (s : Fin 128) (q : Fin 4) (k : Fin 128) : val_main_v210 (F := Ideal) x0 x1 x2 x11 x12 (ix5 0 i s q k) = ((A.dmx (chunkRow i s) (headCol q k) : ℝ) : EReal) := by
  unfold val_main_v210
  pointwise
  simp (disch := norm_num) only [h.x, h.g1, h.win, h.lg, h.lb, h.ws, h.bs, h.cw, h.cb, h.cg, h.ce, h.wo, h.dy, r_v208 h, c0, c1, c2, chalf, cneghalf, c1024, c512, c128, ceps, ccr, cck, cneg, mul_real, sum_real, add_real, sub_real, neg_real, div_real]
  rfl

theorem r_v214 (q : Fin 4) (r : Fin 128) : val_main_v214 (F := Ideal) x0 x1 x2 x11 x12 (ix2 q r) = ((A.dbs q r : ℝ) : EReal) := by
  unfold val_main_v214 val_main_v213 val_main_v212 val_main_v211 val_main_cst_41 val_main_cst_42
  pointwise
  simp (disch := norm_num) only [h.x, h.g1, h.win, h.lg, h.lb, h.ws, h.bs, h.cw, h.cb, h.cg, h.ce, h.wo, h.dy, r_v210 h, Fin.sum_univ_one, c0, c1, c2, chalf, cneghalf, c1024, c512, c128, ceps, ccr, cck, cneg, mul_real, sum_real, add_real, sub_real, neg_real, div_real]
  rfl

theorem r_v220 (q : Fin 4) (r s : Fin 128) : val_main_v220 (F := Ideal) x0 x1 x2 x3 x4 x11 x12 (ix3 q r s) = ((A.dws q r s : ℝ) : EReal) := by
  unfold val_main_v220 val_main_v216 val_main_v215 val_main_v219 val_main_v73
  pointwise
  simp (disch := norm_num) only [h.x, h.g1, h.win, h.lg, h.lb, h.ws, h.bs, h.cw, h.cb, h.cg, h.ce, h.wo, h.dy, r_v70 h, r_v210 h, r_v72 h, Fin.sum_univ_one, c0, c1, c2, chalf, cneghalf, c1024, c512, c128, ceps, ccr, cck, cneg, mul_real, sum_real, add_real, sub_real, neg_real, div_real]
  unfold Mix.dws; simp only [mul_ite, mul_one, mul_zero]

theorem r_v218 (i : Fin 32) (s : Fin 128) (q : Fin 4) (k : Fin 128) : val_main_v218 (F := Ideal) x0 x1 x2 x5 x11 x12 (ix5 0 i s q k) = ((A.dv (chunkRow i s) (headCol q k) : ℝ) : EReal) := by
  unfold val_main_v218 val_main_v217 val_main_v215
  pointwise
  simp (disch := norm_num) only [h.x, h.g1, h.win, h.lg, h.lb, h.ws, h.bs, h.cw, h.cb, h.cg, h.ce, h.wo, h.dy, r_v75 h, r_v210 h, c0, c1, c2, chalf, cneghalf, c1024, c512, c128, ceps, ccr, cck, cneg, mul_real, sum_real, add_real, sub_real, neg_real, div_real]
  unfold Mix.dv
  simp only [head_headCol, place_chunkRow, chunk_chunkRow, mul_comm (A.dmx _ _)]

theorem r_v221 (t : Fin 4096) (j : Fin 512) : val_main_v221 (F := Ideal) x0 x1 x2 x5 x11 x12 (ix3 0 t j) = ((A.dv t j : ℝ) : EReal) := by
  unfold val_main_v221
  pointwise
  simp (disch := norm_num) only [h.x, h.g1, h.win, h.lg, h.lb, h.ws, h.bs, h.cw, h.cb, h.cg, h.ce, h.wo, h.dy, r_v218 h, c0, c1, c2, chalf, cneghalf, c1024, c512, c128, ceps, ccr, cck, cneg, mul_real, sum_real, add_real, sub_real, neg_real, div_real]
  exact congrArg₂ (fun t j => ((A.dv t j : ℝ) : EReal)) (chunkRow_chunk_place t) (headCol_head_lane j)

theorem r_v224 (j : Fin 512) : val_main_v224 (F := Ideal) x0 x1 x2 x5 x11 x12 (ix1 j) = ((A.dlb j : ℝ) : EReal) := by
  unfold val_main_v224 val_main_v223 val_main_v222 val_main_cst_43 val_main_cst_44
  pointwise
  simp (disch := norm_num) only [h.x, h.g1, h.win, h.lg, h.lb, h.ws, h.bs, h.cw, h.cb, h.cg, h.ce, h.wo, h.dy, r_v221 h, Fin.sum_univ_one, c0, c1, c2, chalf, cneghalf, c1024, c512, c128, ceps, ccr, cck, cneg, mul_real, sum_real, add_real, sub_real, neg_real, div_real]
  rfl

theorem r_v230 (j : Fin 512) : val_main_v230 (F := Ideal) x0 x1 x2 x5 x11 x12 (ix1 j) = ((A.dlg j : ℝ) : EReal) := by
  unfold val_main_v230 val_main_v227 val_main_v226 val_main_v225 val_main_cst_45 val_main_cst_46
  pointwise
  simp (disch := norm_num) only [h.x, h.g1, h.win, h.lg, h.lb, h.ws, h.bs, h.cw, h.cb, h.cg, h.ce, h.wo, h.dy, r_v63 h, r_v221 h, Fin.sum_univ_one, c0, c1, c2, chalf, cneghalf, c1024, c512, c128, ceps, ccr, cck, cneg, mul_real, sum_real, add_real, sub_real, neg_real, div_real]
  unfold Mix.dlg; simp only [mul_comm (A.dv _ _)]

theorem r_v229 (t : Fin 4096) (j : Fin 512) : val_main_v229 (F := Ideal) x0 x1 x2 x3 x5 x11 x12 (ix3 0 t j) = ((A.dv t j * A.lg j : ℝ) : EReal) := by
  unfold val_main_v229 val_main_v228 val_main_v64
  pointwise
  simp (disch := norm_num) only [h.x, h.g1, h.win, h.lg, h.lb, h.ws, h.bs, h.cw, h.cb, h.cg, h.ce, h.wo, h.dy, r_v221 h, c0, c1, c2, chalf, cneghalf, c1024, c512, c128, ceps, ccr, cck, cneg, mul_real, sum_real, add_real, sub_real, neg_real, div_real]

theorem r_v233 (t : Fin 4096) : val_main_v233 (F := Ideal) x0 x1 x2 x3 x5 x11 x12 (ix3 0 t 0) = ((∑ k, cen 512 (A.vg t) k * (A.dv t k * A.lg k) : ℝ) : EReal) := by
  unfold val_main_v233 val_main_v232 val_main_v231 val_main_cst_47
  pointwise
  simp (disch := norm_num) only [h.x, h.g1, h.win, h.lg, h.lb, h.ws, h.bs, h.cw, h.cb, h.cg, h.ce, h.wo, h.dy, r_v55 h, r_v229 h, c0, c1, c2, chalf, cneghalf, c1024, c512, c128, ceps, ccr, cck, cneg, mul_real, sum_real, add_real, sub_real, neg_real, div_real]

theorem r_v235 (t : Fin 4096) (j : Fin 512) : val_main_v235 (F := Ideal) x0 x1 x2 x3 x5 x11 x12 (ix3 0 t j) = ((A.dv t j * A.lg j * lrs 512 (A.vg t) : ℝ) : EReal) := by
  unfold val_main_v235 val_main_v234
  pointwise
  simp (disch := norm_num) only [h.x, h.g1, h.win, h.lg, h.lb, h.ws, h.bs, h.cw, h.cb, h.cg, h.ce, h.wo, h.dy, r_v229 h, r_v58 h, c0, c1, c2, chalf, cneghalf, c1024, c512, c128, ceps, ccr, cck, cneg, mul_real, sum_real, add_real, sub_real, neg_real, div_real]

theorem r_v245 (t : Fin 4096) (j : Fin 512) : val_main_v245 (F := Ideal) x0 x1 x2 x3 x5 x11 x12 (ix3 0 t j) = (((∑ k, cen 512 (A.vg t) k * (A.dv t k * A.lg k)) * (-(1 / 2) * (lrs 512 (A.vg t) / var 512 (A.vg t))) / 512 * (2 * cen 512 (A.vg t) j) : ℝ) : EReal) := by
  unfold val_main_v245 val_main_v244 val_main_v243 val_main_v242 val_main_v241 val_main_v236 val_main_v240 val_main_cst_49 val_main_cst_50 val_main_v49 val_main_v48 val_main_cst_9
  pointwise
  simp (disch := norm_num) only [h.x, h.g1, h.win, h.lg, h.lb, h.ws, h.bs, h.cw, h.cb, h.cg, h.ce, h.wo, h.dy, r_v233 h, r_v61 h, r_v46 h, Fin.sum_univ_one, c0, c1, c2, chalf, cneghalf, c1024, c512, c128, ceps, ccr, cck, cneg, mul_real, sum_real, add_real, sub_real, neg_real, div_real]

theorem r_v256 (t : Fin 4096) (j : Fin 512) : val_main_v256 (F := Ideal) x0 x1 x2 x3 x5 x11 x12 (ix3 0 t j) = ((lnBwd 512 (A.vg t) (fun k => A.dv t k * A.lg k) j : ℝ) : EReal) := by
  unfold val_main_v256 val_main_v249 val_main_v255 val_main_v254 val_main_v253 val_main_v252 val_main_v250 val_main_v239 val_main_v238 val_main_v237 val_main_cst_48 val_main_v248 val_main_v247 val_main_v246 val_main_cst_51 val_main_v251 val_main_cst_52 val_main_cst_53
  pointwise
  simp (disch := norm_num) only [h.x, h.g1, h.win, h.lg, h.lb, h.ws, h.bs, h.cw, h.cb, h.cg, h.ce, h.wo, h.dy, r_v235 h, r_v245 h, Fin.sum_univ_one, c0, c1, c2, chalf, cneghalf, c1024, c512, c128, ceps, ccr, cck, cneg, mul_real, sum_real, add_real, sub_real, neg_real, div_real]
  rw [lnBwd_eq _ _ (by norm_num) (by norm_num)]

theorem r_v267 (t : Fin 4096) (j : Fin 512) : val_main_v267 (F := Ideal) x0 x1 x2 x3 x5 x11 x12 (ix3 0 t j) = ((A.dva t j : ℝ) : EReal) := by
  unfold val_main_v267 val_main_v264 val_main_v263 val_main_v261 val_main_v260 val_main_v259 val_main_cst_54 val_main_v257 val_main_v32 val_main_v31 val_main_cst_5 val_main_v262 val_main_cst_55 val_main_v266 val_main_v265 val_main_cst_56 val_main_v258
  pointwise
  simp (disch := norm_num) only [h.x, h.g1, h.win, h.lg, h.lb, h.ws, h.bs, h.cw, h.cb, h.cg, h.ce, h.wo, h.dy, r_v39 h, r_v256 h, r_v18 h, r_v36 h, c0, c1, c2, chalf, cneghalf, c1024, c512, c128, ceps, ccr, cck, cneg, mul_real, sum_real, add_real, sub_real, neg_real, div_real]
  unfold Mix.dva Mix.dvg gd cdf bell
  congr 1; ring

theorem r_v278 (t : Fin 4096) (j : Fin 512) : val_main_v278 (F := Ideal) x0 x1 x2 x3 x4 x5 x6 x11 x12 (ix3 0 t j) = ((A.dua t j : ℝ) : EReal) := by
  unfold val_main_v278 val_main_v275 val_main_v274 val_main_v272 val_main_v271 val_main_v270 val_main_cst_57 val_main_v268 val_main_v22 val_main_v21 val_main_cst_3 val_main_v273 val_main_cst_58 val_main_v277 val_main_v276 val_main_cst_59 val_main_v269 val_main_v209
  pointwise
  simp (disch := norm_num) only [h.x, h.g1, h.win, h.lg, h.lb, h.ws, h.bs, h.cw, h.cb, h.cg, h.ce, h.wo, h.dy, r_v29 h, r_v17 h, r_v26 h, r_v150 h, r_v82 h, c0, c1, c2, chalf, cneghalf, c1024, c512, c128, ceps, ccr, cck, cneg, mul_real, sum_real, add_real, sub_real, neg_real, div_real]
  unfold Mix.dua Mix.du gd cdf bell
  congr 1; ring

theorem r_v285 (t : Fin 4096) (f : Fin 2048) : val_main_v285 (F := Ideal) x0 x1 x2 x3 x4 x5 x6 x7 x8 x9 x10 x11 x12 (ix3 0 t f) = ((A.dpj t f : ℝ) : EReal) := by
  unfold val_main_v285 val_main_v283 val_main_v281 val_main_v279 val_main_cst_60 val_main_v280 val_main_cst_61 val_main_v282 val_main_cst_62 val_main_v284 val_main_cst_63
  pointwise
  simp (disch := norm_num) only [h.x, h.g1, h.win, h.lg, h.lb, h.ws, h.bs, h.cw, h.cb, h.cg, h.ce, h.wo, h.dy, r_v207 h, r_v206 h, r_v267 h, r_v278 h, c0, c1, c2, chalf, cneghalf, c1024, c512, c128, ceps, ccr, cck, cneg, mul_real, sum_real, add_real, sub_real, neg_real, div_real]
  exact parts A t f

theorem r_v288 (t : Fin 4096) (k : Fin 1024) : val_main_v288 (F := Ideal) x0 x1 x2 x3 x4 x5 x6 x7 x8 x9 x10 x11 x12 (ix3 0 t k) = ((A.dh t k : ℝ) : EReal) := by
  unfold val_main_v288 val_main_v286 val_main_cst_64 val_main_v287
  pointwise
  simp (disch := norm_num) only [h.x, h.g1, h.win, h.lg, h.lb, h.ws, h.bs, h.cw, h.cb, h.cg, h.ce, h.wo, h.dy, r_v285 h, c0, c1, c2, chalf, cneghalf, c1024, c512, c128, ceps, ccr, cck, cneg, mul_real, sum_real, add_real, sub_real, neg_real, div_real]
  rfl

theorem r_v294 (k : Fin 1024) : val_main_v294 (F := Ideal) x0 x1 x2 x3 x4 x5 x6 x7 x8 x9 x10 x11 x12 (ix1 k) = ((A.dg1 k : ℝ) : EReal) := by
  unfold val_main_v294 val_main_v291 val_main_v290 val_main_v289 val_main_cst_65 val_main_cst_66
  pointwise
  simp (disch := norm_num) only [h.x, h.g1, h.win, h.lg, h.lb, h.ws, h.bs, h.cw, h.cb, h.cg, h.ce, h.wo, h.dy, r_v12 h, r_v288 h, Fin.sum_univ_one, c0, c1, c2, chalf, cneghalf, c1024, c512, c128, ceps, ccr, cck, cneg, mul_real, sum_real, add_real, sub_real, neg_real, div_real]
  unfold Mix.dg1; simp only [mul_comm (A.dh _ _)]

theorem r_v310 (t : Fin 4096) (k : Fin 1024) : val_main_v310 (F := Ideal) x0 x1 x2 x3 x4 x5 x6 x7 x8 x9 x10 x11 x12 (ix3 0 t k) = ((A.dx t k : ℝ) : EReal) := by
  unfold val_main_v310 val_main_v309 val_main_v307 val_main_v299 val_main_v298 val_main_v306 val_main_v308 val_main_v305 val_main_v304 val_main_v303 val_main_v302 val_main_v300 val_main_v297 val_main_v296 val_main_v295 val_main_v293 val_main_v292 val_main_v13 val_main_cst_67 val_main_v301 val_main_cst_68 val_main_cst_69
  pointwise
  simp (disch := norm_num) only [h.x, h.g1, h.win, h.lg, h.lb, h.ws, h.bs, h.cw, h.cb, h.cg, h.ce, h.wo, h.dy, r_v7 h, r_v10 h, r_v288 h, Fin.sum_univ_one, c0, c1, c2, chalf, cneghalf, c1024, c512, c128, ceps, ccr, cck, cneg, mul_real, sum_real, add_real, sub_real, neg_real, div_real]
  unfold Mix.dx
  rw [rmsBwd_eq]
  congr 1; ring

theorem r_v311 (t : Fin 4096) (k : Fin 1024) : val_main_v311 (F := Ideal) x0 x1 x2 x3 x4 x5 x6 x7 x8 x9 x10 x11 x12 (ix2 t k) = ((A.dx t k : ℝ) : EReal) := by
  unfold val_main_v311
  pointwise
  simp (disch := norm_num) only [h.x, h.g1, h.win, h.lg, h.lb, h.ws, h.bs, h.cw, h.cb, h.cg, h.ce, h.wo, h.dy, r_v310 h, c0, c1, c2, chalf, cneghalf, c1024, c512, c128, ceps, ccr, cck, cneg, mul_real, sum_real, add_real, sub_real, neg_real, div_real]

theorem r_v312 (t : Fin 4096) (k : Fin 1024) : val_main_v312 (F := Ideal) x0 x1 x2 x3 x4 x5 x6 x7 x8 x9 x10 x11 x12 (ix2 t k) = ((A.dx t k : ℝ) : EReal) := by
  unfold val_main_v312
  pointwise
  simp (disch := norm_num) only [h.x, h.g1, h.win, h.lg, h.lb, h.ws, h.bs, h.cw, h.cb, h.cg, h.ce, h.wo, h.dy, r_v311 h, c0, c1, c2, chalf, cneghalf, c1024, c512, c128, ceps, ccr, cck, cneg, mul_real, sum_real, add_real, sub_real, neg_real, div_real]

theorem r_v314 (t : Fin 4096) (f : Fin 2048) : val_main_v314 (F := Ideal) x0 x1 x2 x3 x4 x5 x6 x7 x8 x9 x10 x11 x12 (ix2 t f) = ((A.dpj t f : ℝ) : EReal) := by
  unfold val_main_v314 val_main_v313
  pointwise
  simp (disch := norm_num) only [h.x, h.g1, h.win, h.lg, h.lb, h.ws, h.bs, h.cw, h.cb, h.cg, h.ce, h.wo, h.dy, r_v285 h, c0, c1, c2, chalf, cneghalf, c1024, c512, c128, ceps, ccr, cck, cneg, mul_real, sum_real, add_real, sub_real, neg_real, div_real]

theorem r_v317 (k : Fin 1024) (t : Fin 4096) : val_main_v317 (F := Ideal) x0 x1 (ix2 k t) = ((A.h t k : ℝ) : EReal) := by
  unfold val_main_v317 val_main_v316 val_main_v315
  pointwise
  simp (disch := norm_num) only [h.x, h.g1, h.win, h.lg, h.lb, h.ws, h.bs, h.cw, h.cb, h.cg, h.ce, h.wo, h.dy, r_v15 h, c0, c1, c2, chalf, cneghalf, c1024, c512, c128, ceps, ccr, cck, cneg, mul_real, sum_real, add_real, sub_real, neg_real, div_real]

theorem r_v320 (i : Fin 1024) (t : Fin 4096) : val_main_v320 (F := Ideal) x0 x1 x2 x3 x4 x5 x6 x7 x8 x9 x10 (ix2 i t) = ((A.mix t i : ℝ) : EReal) := by
  unfold val_main_v320 val_main_v319 val_main_v318
  pointwise
  simp (disch := norm_num) only [h.x, h.g1, h.win, h.lg, h.lb, h.ws, h.bs, h.cw, h.cb, h.cg, h.ce, h.wo, h.dy, r_v145 h, c0, c1, c2, chalf, cneghalf, c1024, c512, c128, ceps, ccr, cck, cneg, mul_real, sum_real, add_real, sub_real, neg_real, div_real]

theorem r_v321 (k : Fin 1024) : val_main_v321 (F := Ideal) x0 x1 x2 x3 x4 x5 x6 x7 x8 x9 x10 x11 x12 (ix2 0 k) = ((A.dg1 k : ℝ) : EReal) := by
  unfold val_main_v321
  pointwise
  simp (disch := norm_num) only [h.x, h.g1, h.win, h.lg, h.lb, h.ws, h.bs, h.cw, h.cb, h.cg, h.ce, h.wo, h.dy, r_v294 h, c0, c1, c2, chalf, cneghalf, c1024, c512, c128, ceps, ccr, cck, cneg, mul_real, sum_real, add_real, sub_real, neg_real, div_real]

theorem r_v322 (j : Fin 512) : val_main_v322 (F := Ideal) x0 x1 x2 x5 x11 x12 (ix2 0 j) = ((A.dlg j : ℝ) : EReal) := by
  unfold val_main_v322
  pointwise
  simp (disch := norm_num) only [h.x, h.g1, h.win, h.lg, h.lb, h.ws, h.bs, h.cw, h.cb, h.cg, h.ce, h.wo, h.dy, r_v230 h, c0, c1, c2, chalf, cneghalf, c1024, c512, c128, ceps, ccr, cck, cneg, mul_real, sum_real, add_real, sub_real, neg_real, div_real]

theorem r_v323 (j : Fin 512) : val_main_v323 (F := Ideal) x0 x1 x2 x5 x11 x12 (ix2 0 j) = ((A.dlb j : ℝ) : EReal) := by
  unfold val_main_v323
  pointwise
  simp (disch := norm_num) only [h.x, h.g1, h.win, h.lg, h.lb, h.ws, h.bs, h.cw, h.cb, h.cg, h.ce, h.wo, h.dy, r_v224 h, c0, c1, c2, chalf, cneghalf, c1024, c512, c128, ceps, ccr, cck, cneg, mul_real, sum_real, add_real, sub_real, neg_real, div_real]

theorem r_v325 (q : Fin 4) (r s : Fin 128) : val_main_v325 (F := Ideal) x0 x1 x2 x11 x12 (ix3 q r s) = ((A.dbs q r : ℝ) : EReal) := by
  unfold val_main_v325 val_main_v324
  pointwise
  simp (disch := norm_num) only [h.x, h.g1, h.win, h.lg, h.lb, h.ws, h.bs, h.cw, h.cb, h.cg, h.ce, h.wo, h.dy, r_v214 h, c0, c1, c2, chalf, cneghalf, c1024, c512, c128, ceps, ccr, cck, cneg, mul_real, sum_real, add_real, sub_real, neg_real, div_real]

theorem r_v326 (k : Fin 32) (j : Fin 512) : val_main_v326 (F := Ideal) x0 x1 x2 x7 x8 x9 x10 x11 x12 (ix2 k j) = ((if hk : k.val < 31 then A.dcw ⟨k.val, hk⟩ j else 0 : ℝ) : EReal) := by
  unfold val_main_v326 val_main_call3_v0 val_main_c_70
  pointwise
  simp (disch := norm_num) only [h.x, h.g1, h.win, h.lg, h.lb, h.ws, h.bs, h.cw, h.cb, h.cg, h.ce, h.wo, h.dy, r_v201 h, c0, c1, c2, chalf, cneghalf, c1024, c512, c128, ceps, ccr, cck, cneg, mul_real, sum_real, add_real, sub_real, neg_real, div_real]
  split
  · rfl
  · simp [FloatOps.sitofp]

theorem r_v327 (j : Fin 512) : val_main_v327 (F := Ideal) x0 x1 x2 x7 x8 x9 x10 x11 x12 (ix2 0 j) = ((A.dcb j : ℝ) : EReal) := by
  unfold val_main_v327
  pointwise
  simp (disch := norm_num) only [h.x, h.g1, h.win, h.lg, h.lb, h.ws, h.bs, h.cw, h.cb, h.cg, h.ce, h.wo, h.dy, r_v194 h, c0, c1, c2, chalf, cneghalf, c1024, c512, c128, ceps, ccr, cck, cneg, mul_real, sum_real, add_real, sub_real, neg_real, div_real]

theorem r_v328 (j : Fin 512) : val_main_v328 (F := Ideal) x0 x1 x2 x7 x8 x9 x10 x11 x12 (ix2 0 j) = ((A.dcg j : ℝ) : EReal) := by
  unfold val_main_v328 val_main_v190
  pointwise
  simp (disch := norm_num) only [h.x, h.g1, h.win, h.lg, h.lb, h.ws, h.bs, h.cw, h.cb, h.cg, h.ce, h.wo, h.dy, r_v162 h, c0, c1, c2, chalf, cneghalf, c1024, c512, c128, ceps, ccr, cck, cneg, mul_real, sum_real, add_real, sub_real, neg_real, div_real]
  exact congrArg (fun j => ((A.dcg j : ℝ) : EReal)) (headCol_head_lane j)

theorem r_v329 (j : Fin 512) : val_main_v329 (F := Ideal) x0 x1 x2 x7 x8 x9 x10 x11 x12 (ix2 0 j) = ((A.dce j : ℝ) : EReal) := by
  unfold val_main_v329 val_main_v189
  pointwise
  simp (disch := norm_num) only [h.x, h.g1, h.win, h.lg, h.lb, h.ws, h.bs, h.cw, h.cb, h.cg, h.ce, h.wo, h.dy, r_v156 h, c0, c1, c2, chalf, cneghalf, c1024, c512, c128, ceps, ccr, cck, cneg, mul_real, sum_real, add_real, sub_real, neg_real, div_real]
  exact congrArg (fun j => ((A.dce j : ℝ) : EReal)) (headCol_head_lane j)

end Cert.MixBwdRefIdeal.Hand

end
-- ==== Proof.MixClaim.lean ====
/- The token mixers' backward call: on finite arguments the kernel and the reference end with the same real numbers. -/
module

public import proofs.«01_k».proof.Defs
public import proofs.«01_k».proof.Proof.MixKernel
public import proofs.«01_k».proof.Proof.MixRef
public import proofs.«01_k».proof.Proof.Gen.MixBwdRefIdeal.Run
public import proofs.«01_k».proof.Proof.Gen.Pre_mix_bwd_finite

@[expose] public section

set_option maxRecDepth 16384

noncomputable section

namespace Cert.MixClaim

open Idealize.ShloMosaic Idealize.ShloMosaic.TcCoe Idealize.SL.Sem Cert.Reals

/-- Finite arguments are real numbers. -/
theorem args_real (m : (ℓ : Loc MixBwdIdeal.nD MixBwdIdeal.τ MixBwdIdeal.sig) → Buf (Elt Ideal) ℓ)
    (h : Cert.Pre_MixBwdIdeal_mix_bwd_finite m) (c : Dev MixBwdIdeal.nD) : ∃ A : Mix, MixBwdIdeal.Hand.Args m c A := by
  obtain ⟨X, hX⟩ := real_of_finite _ _ (fun _ => rfl) (h c).1
  obtain ⟨G, hG⟩ := real_of_finite _ _ (fun _ => rfl) (h c).2.1
  obtain ⟨Win, hWin⟩ := real_of_finite _ _ (fun _ => rfl) (h c).2.2.1
  obtain ⟨Lg, hLg⟩ := real_of_finite _ _ (fun _ => rfl) (h c).2.2.2.1
  obtain ⟨Lb, hLb⟩ := real_of_finite _ _ (fun _ => rfl) (h c).2.2.2.2.1
  obtain ⟨Ws, hWs⟩ := real_of_finite _ _ (fun _ => rfl) (h c).2.2.2.2.2.1
  obtain ⟨Bs, hBs⟩ := real_of_finite _ _ (fun _ => rfl) (h c).2.2.2.2.2.2.1
  obtain ⟨Cw, hCw⟩ := real_of_finite _ _ (fun _ => rfl) (h c).2.2.2.2.2.2.2.1
  obtain ⟨Cb, hCb⟩ := real_of_finite _ _ (fun _ => rfl) (h c).2.2.2.2.2.2.2.2.1
  obtain ⟨Cg, hCg⟩ := real_of_finite _ _ (fun _ => rfl) (h c).2.2.2.2.2.2.2.2.2.1
  obtain ⟨Ce, hCe⟩ := real_of_finite _ _ (fun _ => rfl) (h c).2.2.2.2.2.2.2.2.2.2.1
  obtain ⟨Wo, hWo⟩ := real_of_finite _ _ (fun _ => rfl) (h c).2.2.2.2.2.2.2.2.2.2.2.1
  obtain ⟨Y, hY⟩ := real_of_finite _ _ (fun _ => rfl) (h c).2.2.2.2.2.2.2.2.2.2.2.2
  exact ⟨⟨fun t k => X (ix3 0 t k), fun j => G (ix1 j), fun i j => Win (ix2 i j), fun j => Lg (ix1 j), fun j => Lb (ix1 j), fun q r s => Ws (ix3 q r s), fun i j => Bs (ix2 i j), fun i j => Cw (ix2 i j), fun j => Cb (ix1 j), fun j => Cg (ix1 j), fun j => Ce (ix1 j), fun i j => Wo (ix2 i j), fun t k => Y (ix3 0 t k)⟩,
    ⟨fun _ _ => congrFun hX _, fun _ => congrFun hG _, fun _ _ => congrFun hWin _, fun _ => congrFun hLg _, fun _ => congrFun hLb _, fun _ _ _ => congrFun hWs _, fun _ _ => congrFun hBs _, fun _ _ => congrFun hCw _, fun _ => congrFun hCb _, fun _ => congrFun hCg _, fun _ => congrFun hCe _, fun _ _ => congrFun hWo _, fun _ _ => congrFun hY _⟩⟩

/-- The reference's arguments are the kernel's. -/
theorem ref_args {m : (ℓ : Loc MixBwdIdeal.nD MixBwdIdeal.τ MixBwdIdeal.sig) → Buf (Elt Ideal) ℓ} {c : Dev MixBwdIdeal.nD} {A : Mix}
    (h : MixBwdIdeal.Hand.Args m c A) (V : Valuation MixBwdRefIdeal.τ MixBwdRefIdeal.sig (Elt Ideal))
    (e0 : V (Proc.devRef .tc MixBwdRefIdeal.main_arg0) = m ((c.tc : Thread _ _).loc MixBwdIdeal.main_arg0))
    (e1 : V (Proc.devRef .tc MixBwdRefIdeal.main_arg1) = m ((c.tc : Thread _ _).loc MixBwdIdeal.main_arg1))
    (e2 : V (Proc.devRef .tc MixBwdRefIdeal.main_arg2) = m ((c.tc : Thread _ _).loc MixBwdIdeal.main_arg2))
    (e3 : V (Proc.devRef .tc MixBwdRefIdeal.main_arg3) = m ((c.tc : Thread _ _).loc MixBwdIdeal.main_arg3))
    (e4 : V (Proc.devRef .tc MixBwdRefIdeal.main_arg4) = m ((c.tc : Thread _ _).loc MixBwdIdeal.main_arg4))
    (e5 : V (Proc.devRef .tc MixBwdRefIdeal.main_arg5) = m ((c.tc : Thread _ _).loc MixBwdIdeal.main_arg5))
    (e6 : V (Proc.devRef .tc MixBwdRefIdeal.main_arg6) = m ((c.tc : Thread _ _).loc MixBwdIdeal.main_arg6))
    (e7 : V (Proc.devRef .tc MixBwdRefIdeal.main_arg7) = m ((c.tc : Thread _ _).loc MixBwdIdeal.main_arg7))
    (e8 : V (Proc.devRef .tc MixBwdRefIdeal.main_arg8) = m ((c.tc : Thread _ _).loc MixBwdIdeal.main_arg8))
    (e9 : V (Proc.devRef .tc MixBwdRefIdeal.main_arg9) = m ((c.tc : Thread _ _).loc MixBwdIdeal.main_arg9))
    (e10 : V (Proc.devRef .tc MixBwdRefIdeal.main_arg10) = m ((c.tc : Thread _ _).loc MixBwdIdeal.main_arg10))
    (e11 : V (Proc.devRef .tc MixBwdRefIdeal.main_arg11) = m ((c.tc : Thread _ _).loc MixBwdIdeal.main_arg11))
    (e12 : V (Proc.devRef .tc MixBwdRefIdeal.main_arg12) = m ((c.tc : Thread _ _).loc MixBwdIdeal.main_arg12)) :
    MixBwdRefIdeal.Hand.Args A (V (Proc.devRef .tc MixBwdRefIdeal.main_arg0)) (V (Proc.devRef .tc MixBwdRefIdeal.main_arg12)) (V (Proc.devRef .tc MixBwdRefIdeal.main_arg1)) (V (Proc.devRef .tc MixBwdRefIdeal.main_arg2)) (V (Proc.devRef .tc MixBwdRefIdeal.main_arg3)) (V (Proc.devRef .tc MixBwdRefIdeal.main_arg4)) (V (Proc.devRef .tc MixBwdRefIdeal.main_arg8)) (V (Proc.devRef .tc MixBwdRefIdeal.main_arg9)) (V (Proc.devRef .tc MixBwdRefIdeal.main_arg10)) (V (Proc.devRef .tc MixBwdRefIdeal.main_arg5)) (V (Proc.devRef .tc MixBwdRefIdeal.main_arg6)) (V (Proc.devRef .tc MixBwdRefIdeal.main_arg7)) (V (Proc.devRef .tc MixBwdRefIdeal.main_arg11)) where
  x i j := (congrFun e0 _).trans (h.x i j)
  g1 j := (congrFun e1 _).trans (h.g1 j)
  win i j := (congrFun e2 _).trans (h.win i j)
  lg j := (congrFun e3 _).trans (h.lg j)
  lb j := (congrFun e4 _).trans (h.lb j)
  ws q r s := (congrFun e5 _).trans (h.ws q r s)
  bs i j := (congrFun e6 _).trans (h.bs i j)
  cw i j := (congrFun e7 _).trans (h.cw i j)
  cb j := (congrFun e8 _).trans (h.cb j)
  cg j := (congrFun e9 _).trans (h.cg j)
  ce j := (congrFun e10 _).trans (h.ce j)
  wo i j := (congrFun e11 _).trans (h.wo i j)
  dy i j := (congrFun e12 _).trans (h.dy i j)

set_option maxHeartbeats 4000000 in
/-- The two programs' results agree. -/
theorem algebraic : Cert.algebraic_MixBwdIdeal_MixBwdRefIdeal_pre_mix_bwd_finite := by
  intro m g m' g' hpre hagree
  choose A h using args_real m hpre
  refine ⟨fun c i => ((A c).dx (i 0) (i 1) : EReal),
    fun c i => ((A c).dx (i 0) (i 1) : EReal),
    fun c i => ((A c).dpj (i 0) (i 1) : EReal),
    fun c i => ((A c).h (i 1) (i 0) : EReal),
    fun c i => ((A c).mix (i 1) (i 0) : EReal),
    fun c i => ((A c).dg1 (i 1) : EReal),
    fun c i => ((A c).dlg (i 1) : EReal),
    fun c i => ((A c).dlb (i 1) : EReal),
    fun c i => ((A c).dws (i 0) (i 1) (i 2) : EReal),
    fun c i => ((A c).dbs (i 0) (i 1) : EReal),
    fun c i => ((if hk : (i 0).val < 31 then (A c).dcw ⟨(i 0).val, hk⟩ (i 1) else 0 : ℝ) : EReal),
    fun c i => ((A c).dcb (i 1) : EReal),
    fun c i => ((A c).dcg (i 1) : EReal),
    fun c i => ((A c).dce (i 1) : EReal), ?_, ?_⟩
  · refine (θ_run MixBwdIdeal.defs _ _).mono (fun r hr c => ?_)
      (θ_run_and (MixBwdIdeal.Hand.run_main (F := Ideal) m g) (MixBwdIdeal.Hand.frame (F := Ideal) m g))
    have a := (hr.1 c).1
    exact ⟨(a 21).trans (MixBwdIdeal.Hand.out_dx (h c)),
      (a 22).trans (MixBwdIdeal.Hand.out_dxb (h c)),
      (a 23).trans (MixBwdIdeal.Hand.out_dproj (h c)),
      (a 24).trans (MixBwdIdeal.Hand.out_h1t (h c)),
      (a 25).trans (MixBwdIdeal.Hand.out_mixt (h c)),
      (a 26).trans (MixBwdIdeal.Hand.out_dg1 (h c)),
      (a 27).trans (MixBwdIdeal.Hand.out_dlng (h c)),
      (a 28).trans (MixBwdIdeal.Hand.out_dlnb (h c)),
      (a 29).trans (MixBwdIdeal.Hand.out_dws (h c)),
      (a 30).trans (MixBwdIdeal.Hand.out_dbs (h c)),
      (a 31).trans (MixBwdIdeal.Hand.out_dcw (h c)),
      (a 32).trans (MixBwdIdeal.Hand.out_dcb (h c)),
      (a 33).trans (MixBwdIdeal.Hand.out_dcg (h c)),
      (a 34).trans (MixBwdIdeal.Hand.out_dcbeta (h c)), hr.2.1 c⟩
  · refine (θ_run MixBwdRefIdeal.defs _ _).mono (fun r hr c => ?_) (MixBwdRefIdeal.Value.run (F := Ideal) m' g')
    obtain ⟨h0, h1, h2, h3, h4, h5, h6, h7, h8, h9, h10, h11, h12, h13, hk⟩ := hr c
    obtain ⟨e0, e1, e2, e3, e4, e5, e6, e7, e8, e9, e10, e11, e12⟩ := hagree c
    have H := ref_args (h c) (StableHlo.launchContents m' c) e0 e1 e2 e3 e4 e5 e6 e7 e8 e9 e10 e11 e12
    have w0 : MixBwdRefIdeal.Read.val_main_v311 (F := Ideal) _ _ _ _ _ _ _ _ _ _ _ _ _ = fun i => ((A c).dx (i 0) (i 1) : EReal) :=
      funext fun i => (congrArg _ (eq_ix2 i)).trans (MixBwdRefIdeal.Hand.r_v311 H (i 0) (i 1))
    have w1 : MixBwdRefIdeal.Read.val_main_v312 (F := Ideal) _ _ _ _ _ _ _ _ _ _ _ _ _ = fun i => ((A c).dx (i 0) (i 1) : EReal) :=
      funext fun i => (congrArg _ (eq_ix2 i)).trans (MixBwdRefIdeal.Hand.r_v312 H (i 0) (i 1))
    have w2 : MixBwdRefIdeal.Read.val_main_v314 (F := Ideal) _ _ _ _ _ _ _ _ _ _ _ _ _ = fun i => ((A c).dpj (i 0) (i 1) : EReal) :=
      funext fun i => (congrArg _ (eq_ix2 i)).trans (MixBwdRefIdeal.Hand.r_v314 H (i 0) (i 1))
    have w3 : MixBwdRefIdeal.Read.val_main_v317 (F := Ideal) _ _ = fun i => ((A c).h (i 1) (i 0) : EReal) :=
      funext fun i => (congrArg _ (eq_ix2 i)).trans (MixBwdRefIdeal.Hand.r_v317 H (i 0) (i 1))
    have w4 : MixBwdRefIdeal.Read.val_main_v320 (F := Ideal) _ _ _ _ _ _ _ _ _ _ _ = fun i => ((A c).mix (i 1) (i 0) : EReal) :=
      funext fun i => (congrArg _ (eq_ix2 i)).trans (MixBwdRefIdeal.Hand.r_v320 H (i 0) (i 1))
    have w5 : MixBwdRefIdeal.Read.val_main_v321 (F := Ideal) _ _ _ _ _ _ _ _ _ _ _ _ _ = fun i => ((A c).dg1 (i 1) : EReal) :=
      funext fun i => (congrArg _ (eq_ix2_row i)).trans (MixBwdRefIdeal.Hand.r_v321 H (i 1))
    have w6 : MixBwdRefIdeal.Read.val_main_v322 (F := Ideal) _ _ _ _ _ _ = fun i => ((A c).dlg (i 1) : EReal) :=
      funext fun i => (congrArg _ (eq_ix2_row i)).trans (MixBwdRefIdeal.Hand.r_v322 H (i 1))
    have w7 : MixBwdRefIdeal.Read.val_main_v323 (F := Ideal) _ _ _ _ _ _ = fun i => ((A c).dlb (i 1) : EReal) :=
      funext fun i => (congrArg _ (eq_ix2_row i)).trans (MixBwdRefIdeal.Hand.r_v323 H (i 1))
    have w8 : MixBwdRefIdeal.Read.val_main_v220 (F := Ideal) _ _ _ _ _ _ _ = fun i => ((A c).dws (i 0) (i 1) (i 2) : EReal) :=
      funext fun i => (congrArg _ (eq_ix3 i)).trans (MixBwdRefIdeal.Hand.r_v220 H (i 0) (i 1) (i 2))
    have w9 : MixBwdRefIdeal.Read.val_main_v325 (F := Ideal) _ _ _ _ _ = fun i => ((A c).dbs (i 0) (i 1) : EReal) :=
      funext fun i => (congrArg _ (eq_ix3 i)).trans (MixBwdRefIdeal.Hand.r_v325 H (i 0) (i 1) (i 2))
    have w10 : MixBwdRefIdeal.Read.val_main_v326 (F := Ideal) _ _ _ _ _ _ _ _ _ = fun i => ((if hk : (i 0).val < 31 then (A c).dcw ⟨(i 0).val, hk⟩ (i 1) else 0 : ℝ) : EReal) :=
      funext fun i => (congrArg _ (eq_ix2 i)).trans (MixBwdRefIdeal.Hand.r_v326 H (i 0) (i 1))
    have w11 : MixBwdRefIdeal.Read.val_main_v327 (F := Ideal) _ _ _ _ _ _ _ _ _ = fun i => ((A c).dcb (i 1) : EReal) :=
      funext fun i => (congrArg _ (eq_ix2_row i)).trans (MixBwdRefIdeal.Hand.r_v327 H (i 1))
    have w12 : MixBwdRefIdeal.Read.val_main_v328 (F := Ideal) _ _ _ _ _ _ _ _ _ = fun i => ((A c).dcg (i 1) : EReal) :=
      funext fun i => (congrArg _ (eq_ix2_row i)).trans (MixBwdRefIdeal.Hand.r_v328 H (i 1))
    have w13 : MixBwdRefIdeal.Read.val_main_v329 (F := Ideal) _ _ _ _ _ _ _ _ _ = fun i => ((A c).dce (i 1) : EReal) :=
      funext fun i => (congrArg _ (eq_ix2_row i)).trans (MixBwdRefIdeal.Hand.r_v329 H (i 1))
    exact ⟨h0.trans ((MixBwdRefIdeal.Read.val_main_v311_eq (StableHlo.launchContents m' c)).trans w0),
      h1.trans ((MixBwdRefIdeal.Read.val_main_v312_eq (StableHlo.launchContents m' c)).trans w1),
      h2.trans ((MixBwdRefIdeal.Read.val_main_v314_eq (StableHlo.launchContents m' c)).trans w2),
      h3.trans ((MixBwdRefIdeal.Read.val_main_v317_eq (StableHlo.launchContents m' c)).trans w3),
      h4.trans ((MixBwdRefIdeal.Read.val_main_v320_eq (StableHlo.launchContents m' c)).trans w4),
      h5.trans ((MixBwdRefIdeal.Read.val_main_v321_eq (StableHlo.launchContents m' c)).trans w5),
      h6.trans ((MixBwdRefIdeal.Read.val_main_v322_eq (StableHlo.launchContents m' c)).trans w6),
      h7.trans ((MixBwdRefIdeal.Read.val_main_v323_eq (StableHlo.launchContents m' c)).trans w7),
      h8.trans ((MixBwdRefIdeal.Read.val_main_v220_eq (StableHlo.launchContents m' c)).trans w8),
      h9.trans ((MixBwdRefIdeal.Read.val_main_v325_eq (StableHlo.launchContents m' c)).trans w9),
      h10.trans ((MixBwdRefIdeal.Read.val_main_v326_eq (StableHlo.launchContents m' c)).trans w10),
      h11.trans ((MixBwdRefIdeal.Read.val_main_v327_eq (StableHlo.launchContents m' c)).trans w11),
      h12.trans ((MixBwdRefIdeal.Read.val_main_v328_eq (StableHlo.launchContents m' c)).trans w12),
      h13.trans ((MixBwdRefIdeal.Read.val_main_v329_eq (StableHlo.launchContents m' c)).trans w13), hk⟩

end Cert.MixClaim

end
-- ==== Proof.FfnFwdKernel.lean ====
/- The arrays that the feed-forward layer's forward call leaves, over the ideal floats and any arguments: what each grid
   point stores, and the sum over the four slices of the hidden width. -/
module

public import proofs.«01_k».proof.Proof.Gen.FfnFwdIdeal.Frame
public import proofs.«01_k».proof.Proof.Reals
public import Idealize.ShloMosaic.Lib.Pipeline.ValueKit
public import Idealize.ShloMosaic.Lib.Pointwise

@[expose] public section

set_option maxRecDepth 16384

noncomputable section

namespace Cert.FfnValue

open Idealize.ShloMosaic

variable (X : Fin 4096 → Fin 1024 → EReal) (G : Fin 1024 → EReal) (W1 : Fin 1024 → Fin 4096 → EReal) (W2 : Fin 4096 → Fin 1024 → EReal)

/-- The normed input with its gain. -/
def H (t : Fin 4096) (k : Fin 1024) : EReal :=
  X t k * Ideal.rsqrt (Ideal.div (∑ k, X t k * X t k) (Ideal.ofBits .f32 0x44800000#32) + Ideal.ofBits .f32 0x358637BD#32) * G k

/-- The hidden layer before its squared relu. -/
def Z (t f : Fin 4096) : EReal := ∑ k, H X G t k * W1 k f

/-- The layer's result. -/
def Out (t : Fin 4096) (j : Fin 1024) : EReal := X t j + ∑ f, max (Z X G W1 t f) 0 * max (Z X G W1 t f) 0 * W2 f j

end Cert.FfnValue

namespace Cert.FfnFwdIdeal.Hand

open Cert.FfnFwdIdeal Cert.FfnFwdIdeal.Gen Idealize.ShloMosaic Idealize.ShloMosaic.TcCoe Idealize.SL.Sem Cert.Reals Cert.FfnValue

variable (m : (ℓ : Loc nD τ sig) → Buf (Elt Ideal) ℓ)

/-- The block of each window at a grid point. -/
theorem idx : ∀ t : Fin cfg0.N, win0_0.index t = ![t.val / 4, 0] ∧ win0_1.index t = ![0, 0]
    ∧ win0_2.index t = ![t.val % 4, 0, 0] ∧ win0_3.index t = ![t.val % 4, 0, 0] ∧ win0_4.index t = ![t.val / 4, 0]
    ∧ win0_5.index t = ![t.val / 4, t.val % 4] := by
  decide +kernel

/-- Row `a` of the row block of grid point `t`, as a row of the array. -/
def rowOf (t : Fin cfg0.N) (a : Fin 1024) : Fin 4096 :=
  ⟨t.val / 4 * 1024 + a.val, by have := t.isLt; have : cfg0.N = 16 := rfl; omega⟩

/-- Column `b` of the slice of the hidden width of grid point `t`. -/
def colOf (t : Fin cfg0.N) (b : Fin 1024) : Fin 4096 :=
  ⟨t.val % 4 * 1024 + b.val, by omega⟩

variable (c : Dev nD)

/-- The layer's input, as the arguments hold it. -/
def X (t : Fin 4096) (k : Fin 1024) : EReal := m ((c : Thread nD τ).loc main_arg0) (ix3 0 t k)

/-- The gain. -/
def G (k : Fin 1024) : EReal := m ((c : Thread nD τ).loc main_arg1) (ix1 k)

/-- The first weights. -/
def W1 (k : Fin 1024) (f : Fin 4096) : EReal := m ((c : Thread nD τ).loc main_arg2) (ix2 k f)

/-- The second weights. -/
def W2 (f : Fin 4096) (k : Fin 1024) : EReal := m ((c : Thread nD τ).loc main_arg3) (ix2 f k)

variable (t : Fin cfg0.N) (a : Fin 1024)

theorem blk_x (k : Fin 1024) : iblk m c 0 t (ix2 a k) = X m c (rowOf t a) k := by
  unfold X rowOf; blk_ext! [iblk, idx t]

theorem blk_g (k : Fin 1024) : iblk m c 1 t (ix2 0 k) = G m c k := by
  unfold G; blk_ext! [iblk, idx t]

theorem blk_w1 (k f : Fin 1024) : iblk m c 2 t (ix3 0 k f) = W1 m c k (colOf t f) := by
  unfold W1 colOf; blk_ext! [iblk, idx t]

theorem blk_w2 (f k : Fin 1024) : iblk m c 3 t (ix3 0 f k) = W2 m c (colOf t f) k := by
  unfold W2 colOf; blk_ext! [iblk, idx t]

/-- What a row block's first point stores for the normed input. -/
theorem pay_h (k : Fin 1024) : k0_pay1 (iblk m c 0 t) (iblk m c 1 t) (ix2 a k) = H (X m c) (G m c) (rowOf t a) k := by
  unfold_payloads
  pointwise
  simp only [blk_x, blk_g]
  rfl

variable (v : Vec Ideal S1024x1024 .bf16) (hv : ∀ a k, v (ix2 a k) = H (X m c) (G m c) (rowOf t a) k)
include hv

/-- A slice of the hidden layer before its squared relu. -/
theorem pay_z (f : Fin 1024) : k0_pay3 v (iblk m c 2 t) (ix2 a f) = Z (X m c) (G m c) (W1 m c) (rowOf t a) (colOf t f) := by
  unfold_payloads
  pointwise
  simp only [hv, blk_w1]
  rfl

/-- What a point adds to the accumulator. -/
def part (j : Fin 1024) : EReal :=
  ∑ f : Fin 1024, max (Z (X m c) (G m c) (W1 m c) (rowOf t a) (colOf t f)) 0 * max (Z (X m c) (G m c) (W1 m c) (rowOf t a) (colOf t f)) 0
    * W2 m c (colOf t f) j

theorem pay_acc (s : Vec Ideal S1024x1024 .f32) (j : Fin 1024) :
    k0_pay5 v (iblk m c 2 t) s (iblk m c 3 t) (ix2 a j) = s (ix2 a j) + part m c t a j := by
  unfold k0_pay5
  pointwise
  simp only [pay_z m c t _ v hv, blk_w2, c0, EReal.coe_zero]
  rfl
omit hv v

theorem read_whole0 {h : scM0_0.IsWhole} (v : Vec Ideal S1024x1024 .bf16) :
    View.read (Elt Ideal) (View.whole cc0_scratch0) (h.unread v) = v := h.read_unread v

theorem read_whole1 {h : scM0_1.IsWhole} (v : Vec Ideal S1024x1024 .f32) :
    View.read (Elt Ideal) (View.whole cc0_scratch1) (h.unread v) = v := h.read_unread v

/-- The normed input stands in its buffer after every point. -/
theorem after_h : ∀ (n : ℕ) (hn : n < cfg0.N) (a k : Fin 1024),
    (outsAt0 m c n hn).2.2.1 (ix2 a k) = H (X m c) (G m c) (rowOf ⟨n, hn⟩ a) k := by
  intro n
  induction n with
  | zero =>
    intro hn a k
    rw [outsAt0_A m c ⟨0, hn⟩ rfl (by show ¬0 % 4 = 3; decide)]
    frame_out
    exact pay_h m c ⟨0, hn⟩ a k
  | succ n ih =>
    intro hn a k
    by_cases h0 : (n + 1) % 4 = 0
    · rw [outsAt0_A m c ⟨n + 1, hn⟩ h0 (by dsimp only; omega)]
      frame_out
      exact pay_h m c ⟨n + 1, hn⟩ a k
    · have e : rowOf ⟨n + 1, hn⟩ a = rowOf ⟨n, by omega⟩ a := Fin.ext (by
        show (n + 1) / 4 * 1024 + _ = n / 4 * 1024 + _
        omega)
      rw [e, ← ih (by omega)]
      by_cases h1 : (n + 1) % 4 = 3
      · rw [outsAt0_C m c ⟨n + 1, hn⟩ h0 h1]
        rfl
      · rw [outsAt0_B m c ⟨n + 1, hn⟩ h0 h1]
        rfl

/-- Within a row block it stands there from the point before. -/
theorem before_h (h0 : ¬t.val % 4 = 0) (b k : Fin 1024) :
    (outsAt0 m c (t.val - 1) (by have := t.isLt; omega)).2.2.1 (ix2 b k) = H (X m c) (G m c) (rowOf t b) k := by
  rw [after_h m c _ _ b k]
  refine congrArg (H _ _ · k) (Fin.ext ?_)
  show (t.val - 1) / 4 * 1024 + _ = t.val / 4 * 1024 + _
  omega

/-- A slice of the hidden layer before its squared relu stands in the window's buffer after its point. -/
theorem after_z (f : Fin 1024) : (outsAt0 m c t.val t.isLt).2.1 (ix2 a f) = Z (X m c) (G m c) (W1 m c) (rowOf t a) (colOf t f) := by
  by_cases h0 : t.val % 4 = 0
  · rw [outsAt0_A m c t h0 (by omega)]
    frame_out
    exact pay_z m c t a _ (pay_h m c t) f
  · have e := before_h m c t h0
    by_cases h1 : t.val % 4 = 3
    · rw [outsAt0_C m c t h0 h1]
      frame_out
      rw [read_whole0]
      exact pay_z m c t a _ e f
    · rw [outsAt0_B m c t h0 h1]
      frame_out
      rw [read_whole0]
      exact pay_z m c t a _ e f

/-- The accumulator after a row block's first point. -/
theorem acc_first (h0 : t.val % 4 = 0) (j : Fin 1024) : (outsAt0 m c t.val t.isLt).2.2.2 (ix2 a j) = part m c t a j := by
  rw [outsAt0_A m c t h0 (by omega)]
  frame_out
  refine (pay_acc m c t a _ (pay_h m c t) _ j).trans ?_
  unfold k0_pay2
  pointwise

/-- The accumulator after a later point of the row block. -/
theorem acc_next (h0 : ¬t.val % 4 = 0) (j : Fin 1024) :
    (outsAt0 m c t.val t.isLt).2.2.2 (ix2 a j)
      = (outsAt0 m c (t.val - 1) (by have := t.isLt; omega)).2.2.2 (ix2 a j) + part m c t a j := by
  have e := before_h m c t h0
  by_cases h1 : t.val % 4 = 3
  · rw [outsAt0_C m c t h0 h1]
    frame_out
    rw [read_whole0, read_whole1]
    exact pay_acc m c t a _ e _ j
  · rw [outsAt0_B m c t h0 h1]
    frame_out
    rw [read_whole0, read_whole1]
    exact pay_acc m c t a _ e _ j

/-- The accumulator after a row block's last point: the sum over the hidden width. -/
theorem acc_last (h3 : t.val % 4 = 3) (j : Fin 1024) :
    (outsAt0 m c t.val t.isLt).2.2.2 (ix2 a j)
      = ∑ f, max (Z (X m c) (G m c) (W1 m c) (rowOf t a) f) 0 * max (Z (X m c) (G m c) (W1 m c) (rowOf t a) f) 0 * W2 m c f j := by
  have hN : cfg0.N = 16 := rfl
  have ht := t.isLt
  have e3 := acc_next m c t a (by omega) j
  have e2 := acc_next m c ⟨t.val - 1, by omega⟩ a (show ¬(t.val - 1) % 4 = 0 by omega) j
  have e1 := acc_next m c ⟨t.val - 1 - 1, by omega⟩ a (show ¬(t.val - 1 - 1) % 4 = 0 by omega) j
  have e0 := acc_first m c ⟨t.val - 1 - 1 - 1, by omega⟩ a (show (t.val - 1 - 1 - 1) % 4 = 0 by omega) j
  dsimp only at e2 e1 e0
  rw [e3, e2, e1, e0, ← sum_blocks (N := 4) (n := 1024) rfl, Fin.sum_univ_four]
  have q : ∀ s : Fin cfg0.N, ∀ (p : Fin 4), s.val % 4 = p.val → s.val / 4 = t.val / 4 →
      part m c s a j = ∑ f : Fin 1024, max (Z (X m c) (G m c) (W1 m c) (rowOf t a) ⟨p.val * 1024 + f.val, by omega⟩) 0
        * max (Z (X m c) (G m c) (W1 m c) (rowOf t a) ⟨p.val * 1024 + f.val, by omega⟩) 0
        * W2 m c ⟨p.val * 1024 + f.val, by omega⟩ j := fun s p hp hr => by
    have er : rowOf s a = rowOf t a := Fin.ext (by
      show s.val / 4 * 1024 + _ = t.val / 4 * 1024 + _
      rw [hr])
    unfold part
    refine Finset.sum_congr rfl fun f _ => ?_
    have ec : colOf s f = ⟨p.val * 1024 + f.val, by omega⟩ := Fin.ext (by
      show s.val % 4 * 1024 + f.val = _
      rw [hp])
    rw [er, ec]
  rw [q ⟨t.val - 1 - 1 - 1, by omega⟩ 0 (show (t.val - 1 - 1 - 1) % 4 = 0 by omega) (show (t.val - 1 - 1 - 1) / 4 = _ by omega),
    q ⟨t.val - 1 - 1, by omega⟩ 1 (show (t.val - 1 - 1) % 4 = 1 by omega) (show (t.val - 1 - 1) / 4 = _ by omega),
    q ⟨t.val - 1, by omega⟩ 2 (show (t.val - 1) % 4 = 2 by omega) (show (t.val - 1) / 4 = _ by omega), q t 3 h3 rfl]

/-- What a row block's last point stores for the layer's result. -/
theorem after_out (h3 : t.val % 4 = 3) (j : Fin 1024) :
    (outsAt0 m c t.val t.isLt).1 (ix2 a j) = Out (X m c) (G m c) (W1 m c) (W2 m c) (rowOf t a) j := by
  have e : (outsAt0 m c t.val t.isLt).1 = k0_pay6 (iblk m c 0 t) (outsAt0 m c t.val t.isLt).2.2.2 := by
    rw [outsAt0_C m c t (by omega) h3]
    frame_out
  rw [e]
  unfold k0_pay6
  pointwise
  rw [blk_x, acc_last m c t a h3]
  rfl

/-- The first result: the layer's output. -/
theorem out_x2 : (dats m 0 c).arrAt 4 cfg0.N = fun i => Out (X m c) (G m c) (W1 m c) (W2 m c) (i 0) (i 1) := by
  refine (dats m 0 c).arrAt_eq_of_covers 4 _ (by decide +kernel) fun t hf y => ?_
  have h3 : t.val % 4 = 3 := (flush0_4 t).mp hf
  blk_simp
  rw [after0_4, eq_ix2 y]
  refine (after_out m c t _ h3 _).trans ?_
  have e0 : (((View.whole main_v7_0).slice (win0_4.rect t)).emb y 0) = rowOf t (y 0) := Fin.ext (by blk_simp [idx t]; rfl)
  have e1 : (((View.whole main_v7_0).slice (win0_4.rect t)).emb y 1) = y 1 := Fin.ext (by blk_simp [idx t])
  rw [← eq_ix2 y, e0, e1]

/-- The second result: the hidden layer before its squared relu. -/
theorem out_z : (dats m 0 c).arrAt 5 cfg0.N = fun i => Z (X m c) (G m c) (W1 m c) (i 0) (i 1) := by
  refine (dats m 0 c).arrAt_eq_of_covers 5 _ (by decide +kernel) fun t hf y => ?_
  blk_simp
  rw [after0_5, eq_ix2 y]
  refine (after_z m c t _ _).trans ?_
  have e0 : (((View.whole main_v7_1).slice (win0_5.rect t)).emb y 0) = rowOf t (y 0) := Fin.ext (by blk_simp [idx t]; rfl)
  have e1 : (((View.whole main_v7_1).slice (win0_5.rect t)).emb y 1) = colOf t (y 1) := Fin.ext (by blk_simp [idx t]; rfl)
  rw [← eq_ix2 y, e0, e1]

end Cert.FfnFwdIdeal.Hand

end
-- ==== Proof.FfnFwdRef.lean ====
/- The reference of the feed-forward layer's forward call over the ideal floats: the numbers its results are. -/
module

public import proofs.«01_k».proof.Proof.Gen.FfnFwdRefIdeal.Read
public import proofs.«01_k».proof.Proof.FfnFwdKernel
public import proofs.«01_k».proof.Proof.Reduce

@[expose] public section

set_option maxRecDepth 16384

noncomputable section

namespace Cert.FfnFwdRefIdeal.Hand

open Cert.FfnFwdRefIdeal Cert.FfnFwdRefIdeal.Gen Cert.FfnFwdRefIdeal.Read Idealize.ShloMosaic Idealize.ShloMosaic.TcCoe Cert.Reals
  Cert.FfnValue

variable {X : Fin 4096 → Fin 1024 → EReal} {G : Fin 1024 → EReal} {W1 : Fin 1024 → Fin 4096 → EReal} {W2 : Fin 4096 → Fin 1024 → EReal}
variable {x0 : FVec Ideal S1x4096x1024 .f32} {x1 : FVec Ideal S1024 .f32} {x2 : FVec Ideal S1024x4096 .f32}
  {x3 : FVec Ideal S4096x1024 .f32}
variable (hx : ∀ t k, x0 (ix3 0 t k) = X t k) (hg : ∀ k, x1 (ix1 k) = G k)
include hx hg

theorem r_v12 (t : Fin 4096) (k : Fin 1024) : val_main_v12 (F := Ideal) x0 x1 (ix3 0 t k) = H X G t k := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  simp only [hx, hg]
  rfl

variable (hw1 : ∀ k f, x2 (ix2 k f) = W1 k f)
include hw1

theorem r_v13 (t f : Fin 4096) : val_main_v13 (F := Ideal) x0 x1 x2 (ix3 0 t f) = Z X G W1 t f := by
  unfold val_main_v13
  pointwise
  simp only [r_v12 hx hg, hw1]
  rfl

/-- The second result. -/
theorem r_v20 (t f : Fin 4096) : val_main_v20 (F := Ideal) x0 x1 x2 (ix2 t f) = Z X G W1 t f := by
  unfold val_main_v20 val_main_v19
  pointwise
  simp only [r_v13 hx hg hw1]

variable (hw2 : ∀ f k, x3 (ix2 f k) = W2 f k)
include hw2

/-- The first result. -/
theorem r_v18 (t : Fin 4096) (j : Fin 1024) : val_main_v18 (F := Ideal) x0 x1 x2 x3 (ix2 t j) = Out X G W1 W2 t j := by
  unfold val_main_v18 val_main_v17 val_main_v16 val_main_v15 val_main_v14 val_main_call0_v0 val_main_call0_cst
  pointwise
  simp only [hx, r_v13 hx hg hw1, hw2]
  rfl

end Cert.FfnFwdRefIdeal.Hand

end
-- ==== Proof.FfnFwdClaim.lean ====
/- The feed-forward layer's forward call: on all arguments the kernel and the reference end with the same extended reals. -/
module

public import proofs.«01_k».proof.Defs
public import proofs.«01_k».proof.Proof.FfnFwdRef
public import proofs.«01_k».proof.Proof.Gen.FfnFwdRefIdeal.Run

@[expose] public section

set_option maxRecDepth 16384

noncomputable section

namespace Cert.FfnFwdClaim

open Idealize.ShloMosaic Idealize.ShloMosaic.TcCoe Idealize.SL.Sem Cert.Reals Cert.FfnValue

open FfnFwdIdeal.Hand in
/-- The two programs' results agree. -/
theorem algebraic : Cert.algebraic_FfnFwdIdeal_FfnFwdRefIdeal := by
  intro m g m' g' _ hagree
  refine ⟨fun c i => Out (X m c) (G m c) (W1 m c) (W2 m c) (i 0) (i 1), fun c i => Z (X m c) (G m c) (W1 m c) (i 0) (i 1), ?_, ?_⟩
  · refine (θ_run FfnFwdIdeal.defs _ _).mono (fun r hr c => ?_)
      (θ_run_and (FfnFwdIdeal.Gen.run_main (F := Ideal) m g) (FfnFwdIdeal.Gen.frame (F := Ideal) m g))
    have a := (hr.1 c).1
    exact ⟨(a 4).trans (out_x2 m c), (a 5).trans (out_z m c), hr.2.1 c⟩
  · refine (θ_run FfnFwdRefIdeal.defs _ _).mono (fun r hr c => ?_) (FfnFwdRefIdeal.Value.run (F := Ideal) m' g')
    obtain ⟨h0, h1, hk⟩ := hr c
    obtain ⟨e0, e1, e2, e3⟩ := hagree c
    have hx : ∀ t k, (m' ((c.tc : Thread _ _).loc FfnFwdRefIdeal.main_arg0)) (ix3 0 t k) = X m c t k := fun t k => congrFun e0 _
    have hg : ∀ k, (m' ((c.tc : Thread _ _).loc FfnFwdRefIdeal.main_arg1)) (ix1 k) = G m c k := fun k => congrFun e1 _
    have hw1 : ∀ k f, (m' ((c.tc : Thread _ _).loc FfnFwdRefIdeal.main_arg2)) (ix2 k f) = W1 m c k f := fun k f => congrFun e2 _
    have hw2 : ∀ f k, (m' ((c.tc : Thread _ _).loc FfnFwdRefIdeal.main_arg3)) (ix2 f k) = W2 m c f k := fun f k => congrFun e3 _
    have hout : FfnFwdRefIdeal.Read.val_main_v18 (F := Ideal) _ _ _ _ = fun i => Out (X m c) (G m c) (W1 m c) (W2 m c) (i 0) (i 1) :=
      funext fun i => (congrArg _ (eq_ix2 i)).trans (FfnFwdRefIdeal.Hand.r_v18 hx hg hw1 hw2 (i 0) (i 1))
    have hz : FfnFwdRefIdeal.Read.val_main_v20 (F := Ideal) _ _ _ = fun i => Z (X m c) (G m c) (W1 m c) (i 0) (i 1) :=
      funext fun i => (congrArg _ (eq_ix2 i)).trans (FfnFwdRefIdeal.Hand.r_v20 hx hg hw1 (i 0) (i 1))
    exact ⟨h0.trans ((FfnFwdRefIdeal.Read.val_main_v18_eq _ _ _ _).trans hout),
      h1.trans ((FfnFwdRefIdeal.Read.val_main_v20_eq _ _ _).trans hz), hk⟩

end Cert.FfnFwdClaim

end
-- ==== Proof.MixFwdValue.lean ====
/- The numbers that the token mixers' forward call computes, over the extended reals and any arguments: the projection, the
   spatial gate, the causal convolution and the layer's result. -/
module

public import proofs.«01_k».proof.Proof.FfnFwdKernel
public import proofs.«01_k».proof.Proof.MixReal

@[expose] public section

noncomputable section

namespace Cert.MixValue

open Idealize.ShloMosaic Cert.Reals

/-! ## Functions of one number -/

/-- The floats one half, the reciprocal root of two, the error function's slope at zero, and the norms' epsilon. -/
def half : EReal := Ideal.ofBits .f32 0x3F000000#32
def rt : EReal := Ideal.ofBits .f32 0x3F3504F3#32
def slope : EReal := Ideal.ofBits .f32 0x3F906EBB#32
def eps : EReal := Ideal.ofBits .f32 0x358637BD#32

/-- The Gaussian's distribution function. -/
def cdf (x : EReal) : EReal := half * (1 + Ideal.erf (rt * x))

/-- The gated linear unit by the Gaussian. -/
def gl (x : EReal) : EReal := x * cdf x

/-- Its derivative. -/
def gd (x : EReal) : EReal := cdf x + x * (half * (Ideal.exp (-(rt * x * (rt * x))) * slope) * rt)

/-- The logistic function. -/
def sig (x : EReal) : EReal := Ideal.div 1 (1 + Ideal.exp (-x))

/-- The distribution function from the error function of the absolute value, with the sign put back. -/
theorem cdf_abs (x : EReal) :
    half * (1 + if x < 0 then -Ideal.erf (rt * max x (-x)) else Ideal.erf (rt * max x (-x))) = cdf x := by
  unfold cdf
  by_cases h : x < 0
  · have e : max x (-x) = -x := max_eq_right (h.le.trans (EReal.neg_nonneg.2 h.le))
    rw [if_pos h, e, mul_neg, Ideal.erf_neg, neg_neg]
  · have e : max x (-x) = x := max_eq_left (le_trans (by simpa using EReal.neg_le_neg_iff.2 (not_lt.1 h)) (not_lt.1 h))
    rw [if_neg h, e]

/-- The complementary error function of the negated number. -/
theorem erfc_neg_mul (x : EReal) : Ideal.erfc (-x * rt) = 1 + Ideal.erf (rt * x) := by
  rw [neg_mul, Ideal.erfc_neg, mul_comm]

/-- The gated unit as the complementary error function gives it. -/
theorem gl_eq (x : EReal) : half * x * Ideal.erfc (-x * rt) = gl x := by
  rw [erfc_neg_mul]; unfold gl cdf
  rw [mul_comm half x, mul_assoc]

theorem slope_neg : Ideal.ofBits .f32 0xBF906EBB#32 = -slope := by
  have e : slope = ((ck : ℝ) : EReal) := by
    simp [slope, Ideal.ofBits, Ideal.ieee, ck, -EReal.coe_mul, -EReal.coe_add]; norm_num
  rw [e, ← EReal.coe_neg]
  simp [Ideal.ofBits, Ideal.ieee, ck, -EReal.coe_mul, -EReal.coe_add]; norm_num

/-- Its derivative as differentiating that form gives it. -/
theorem gd_eq (x : EReal) :
    -(-slope * (half * x) * Ideal.exp (-(-x * rt * (-x * rt))) * rt) + half * Ideal.erfc (-x * rt) = gd x := by
  rw [erfc_neg_mul, add_comm]
  unfold gd cdf
  congr 1
  rw [neg_mul, neg_mul, neg_mul, neg_neg, neg_mul, neg_mul_neg, mul_comm x rt]
  generalize Ideal.exp (-(rt * x * (rt * x))) = e
  ac_rfl

/-! ## The layer norm of one row -/

section Ln

variable {n : ℕ} (d : EReal) (x : Fin n → EReal)

/-- The row's distance from its mean. -/
def cen (j : Fin n) : EReal := x j - Ideal.div (∑ k, x k) d

/-- The reciprocal root of the variance. -/
def lrs : EReal := Ideal.rsqrt (Ideal.div (∑ k, cen d x k * cen d x k) d + eps)

/-- The normed row. -/
def hat (j : Fin n) : EReal := cen d x j * lrs d x

end Ln

/-- The floats of the two norms' widths. -/
def d512 : EReal := Ideal.ofBits .f32 0x44000000#32
def d128 : EReal := Ideal.ofBits .f32 0x43000000#32

/-! ## The layer -/

/-- The call's arguments: the layer's input and parameters. -/
structure Args where
  x : Fin 4096 → Fin 1024 → EReal
  g1 : Fin 1024 → EReal
  win : Fin 1024 → Fin 2048 → EReal
  lg : Fin 512 → EReal
  lb : Fin 512 → EReal
  ws : Fin 4 → Fin 128 → Fin 128 → EReal
  bs : Fin 4 → Fin 128 → EReal
  cw : Fin 31 → Fin 512 → EReal
  cb : Fin 512 → EReal
  cg : Fin 512 → EReal
  ce : Fin 512 → EReal
  wo : Fin 1024 → Fin 1024 → EReal

namespace Args

variable (A : Args)

/-- The projection. -/
def pj (t : Fin 4096) (f : Fin 2048) : EReal := ∑ k, FfnValue.H A.x A.g1 t k * A.win k f

def u (t : Fin 4096) (j : Fin 512) : EReal := gl (A.pj t (col 0 j))
def du (t : Fin 4096) (j : Fin 512) : EReal := gd (A.pj t (col 0 j))
def vg (t : Fin 4096) (j : Fin 512) : EReal := gl (A.pj t (col 1 j))
def dvg (t : Fin 4096) (j : Fin 512) : EReal := gd (A.pj t (col 1 j))

/-- The spatial gate's normed rows, their factor, and the rows with gain and offset. -/
def rs (t : Fin 4096) : EReal := lrs d512 (A.vg t)
def vh (t : Fin 4096) (j : Fin 512) : EReal := hat d512 (A.vg t) j
def v (t : Fin 4096) (j : Fin 512) : EReal := A.vh t j * A.lg j + A.lb j

/-- The spatial weights on and below the diagonal. -/
def wm (q : Fin 4) (r s : Fin 128) : EReal := if s ≤ r then A.ws q r s else 0

/-- The spatial gate: the rows of a chunk mixed. -/
def mixed (t : Fin 4096) (j : Fin 512) : EReal :=
  ∑ s, A.wm (head j) (place t) s * A.v (chunkRow (chunk t) s) j + A.bs (head j) (place t)

def a (t : Fin 4096) (j : Fin 512) : EReal := A.u t j * A.mixed t j

/-- The convolution's input. -/
def gv (t : Fin 4096) (j : Fin 512) : EReal := A.pj t (col 2 j) * sig (A.pj t (col 3 j))

/-- The convolution's input after thirty-two rows of zeros. -/
def gAt (n : ℕ) (j : Fin 512) : EReal := if h : 32 ≤ n ∧ n < 4128 then A.gv ⟨n - 32, by omega⟩ j else 0

/-- A filter's tap, zero past the last. -/
def cwAt (k : ℕ) (j : Fin 512) : EReal := if h : k < 31 then A.cw ⟨k, h⟩ j else 0

/-- What a tap adds to a row of the convolution. -/
def tap (t : Fin 4096) (j : Fin 512) (k : ℕ) : EReal := A.gAt (t.val + (k + 2)) j * A.cwAt k j

/-- The causal convolution's offset and first taps. -/
def conv (t : Fin 4096) (j : Fin 512) : ℕ → EReal
  | 0 => A.cb j
  | n + 1 => conv t j n + A.tap t j n

/-- The causal convolution. -/
def cpre (t : Fin 4096) (j : Fin 512) : EReal := A.conv t j 31

/-- A row of one head of the convolution. -/
def cgrp (t : Fin 4096) (q : Fin 4) (r : Fin 128) : EReal := A.cpre t (headCol q r)

/-- The normed rows of every head, with gain and offset, and times their logistic gate. -/
def chh (t : Fin 4096) (j : Fin 512) : EReal := hat d128 (A.cgrp t (head j)) (lane j)
def cn (t : Fin 4096) (j : Fin 512) : EReal := A.chh t j * A.cg j + A.ce j
def cout (t : Fin 4096) (j : Fin 512) : EReal := A.cn t j * sig (A.cn t j)

/-- Both mixers' outputs side by side. -/
def mix (t : Fin 4096) (i : Fin 1024) : EReal :=
  if h : i.val < 512 then A.a t ⟨i.val, h⟩ else A.cout t ⟨i.val - 512, by omega⟩

/-- The layer's result. -/
def out (t : Fin 4096) (k : Fin 1024) : EReal := A.x t k + ∑ i, A.mix t i * A.wo i k

/-- What the call keeps for its backward call, side by side. -/
def kept (t : Fin 4096) (f : Fin 2048) : EReal :=
  ![A.u, A.du, A.dvg, A.vh] ⟨f.val / 512, by omega⟩ t ⟨f.val % 512, by omega⟩

theorem kept_col (t : Fin 4096) (p : Fin 4) (j : Fin 512) : A.kept t (col p j) = ![A.u, A.du, A.dvg, A.vh] p t j := by
  unfold kept
  have e0 : (⟨(col p j).val / 512, by omega⟩ : Fin 4) = p := Fin.ext (by simp only [col]; omega)
  have e1 : (⟨(col p j).val % 512, by omega⟩ : Fin 512) = j := Fin.ext (by simp only [col]; omega)
  rw [e0, e1]

/-- What is kept, by column blocks. -/
theorem kept_side (t : Fin 4096) (f : Fin 2048) :
    (if h : f.val < 512 then A.u t ⟨f.val, h⟩ else if h : f.val - 512 < 512 then A.du t ⟨f.val - 512, h⟩
      else if h : f.val - 512 - 512 < 512 then A.dvg t ⟨f.val - 512 - 512, h⟩ else A.vh t ⟨f.val - 512 - 512 - 512, by omega⟩)
      = A.kept t f := by
  have e : ∀ (p : Fin 4) (j : Fin 512), f = col p j → ![A.u, A.du, A.dvg, A.vh] p t j = A.kept t f := fun p j h => by
    rw [h, A.kept_col]
  split
  · exact e 0 _ (Fin.ext (by show f.val = 0 * 512 + f.val; omega))
  · split
    · exact e 1 ⟨f.val - 512, _⟩ (Fin.ext (by show f.val = 1 * 512 + (f.val - 512); omega))
    · split
      · exact e 2 ⟨f.val - 512 - 512, _⟩ (Fin.ext (by show f.val = 2 * 512 + (f.val - 512 - 512); omega))
      · exact e 3 ⟨f.val - 512 - 512 - 512, _⟩ (Fin.ext (by show f.val = 3 * 512 + (f.val - 512 - 512 - 512); omega))

/-- The convolution is the sum over its taps and the offset. -/
theorem cpre_eq (t : Fin 4096) (j : Fin 512) :
    A.cpre t j = ∑ k : Fin 31, A.gAt (t.val + (k.val + 2)) j * A.cw k j + A.cb j := by
  have h : ∀ n, A.conv t j n = A.cb j + ∑ k ∈ Finset.range n, A.tap t j k := fun n => by
    induction n with
    | zero => simp [conv]
    | succ n ih => rw [Finset.sum_range_succ, ← add_assoc, ← ih]; rfl
  unfold cpre
  rw [h, add_comm, Finset.sum_range]
  refine congrArg (· + A.cb j) (Finset.sum_congr rfl fun k _ => ?_)
  unfold tap cwAt
  rw [dif_pos k.isLt]

end Args

end Cert.MixValue

end
-- ==== Proof.MixFwdPoint.lean ====
/- One grid point of the token mixers' forward call over the ideal floats and any arguments: what it computes, name by name. -/
module

public import proofs.«01_k».proof.Proof.Gen.MixFwdIdeal.Frame
public import proofs.«01_k».proof.Proof.MixFwdValue
public import proofs.«01_k».proof.Proof.MixGate

@[expose] public section

set_option maxRecDepth 16384

noncomputable section

namespace Cert.MixFwdIdeal.Hand

open Cert.MixFwdIdeal Cert.MixFwdIdeal.Gen Idealize.ShloMosaic Idealize.ShloMosaic.TcCoe Idealize.SL.Sem Cert.MixValue

open Cert.Reals (c0 c1 col col0 col1 col2 col3 head lane headCol place chunk chunkRow head_headCol)
open Cert.MixBwdIdeal.Hand (hc0 hc1 hc2 hc3 crow cr0 cr1 canon_of_pieces sge_ix)

/-- What the buffers that a grid point reads hold. -/
structure Pt (F : FTy → Type) where
  x : Vec F S256x1024 .f32
  g1 : Vec F S1x1024 .f32
  win : Vec F S4x1024x512 .bf16
  lng : Vec F S1x512 .f32
  lnb : Vec F S1x512 .f32
  ws : Vec F S4x128x128 .f32
  bf : Vec F S4x128x128 .f32
  cw : Vec F S32x512 .f32
  cb : Vec F S1x512 .f32
  cg : Vec F S1x512 .f32
  cbeta : Vec F S1x512 .f32
  wout : Vec F S4x256x1024 .bf16
  halo : Vec F S32x512 .f32

namespace Pt

variable {F : FTy → Type} [FloatOps F]

def v4 (p : Pt F) : FVec F S256x1024 .f32 := k0_pay3 p.x
def v19 (p : Pt F) : FVec F S256x1024 .bf16 := k0_pay4 p.x p.g1
def v22 (p : Pt F) : FVec F S256x512 .f32 := k0_pay5 p.x p.g1 (View.ld p.win (Rect.unit (s := S4x1024x512) ![0, 0, 0] S1x1024x512.size inb_S4x1024x512_S1x1024x512_0_0_0))
def v26 (p : Pt F) : FVec F S256x512 .f32 := k0_pay6 p.x p.g1 (View.ld p.win (Rect.unit (s := S4x1024x512) ![1, 0, 0] S1x1024x512.size inb_S4x1024x512_S1x1024x512_1_0_0))
def v30 (p : Pt F) : FVec F S256x512 .f32 := k0_pay7 p.x p.g1 (View.ld p.win (Rect.unit (s := S4x1024x512) ![2, 0, 0] S1x1024x512.size inb_S4x1024x512_S1x1024x512_2_0_0))
def v34 (p : Pt F) : FVec F S256x512 .f32 := k0_pay8 p.v19 (View.ld p.win (Rect.unit (s := S4x1024x512) ![3, 0, 0] S1x1024x512.size inb_S4x1024x512_S1x1024x512_3_0_0))
def v38 (p : Pt F) : FVec F S1x512 .f32 := k0_pay9 p.lng
def v40 (p : Pt F) : FVec F S1x512 .f32 := k0_pay10 p.lnb
def v42 (p : Pt F) : FVec F S1x512 .f32 := k0_pay11 p.cb
def v44 (p : Pt F) : FVec F S1x512 .f32 := k0_pay12 p.cg
def v46 (p : Pt F) : FVec F S1x512 .f32 := k0_pay13 p.cbeta
def v59 (p : Pt F) : FVec F S256x512 .f32 := k0_pay14 p.v22
def v62 (p : Pt F) : FVec F S256x512 .f32 := k0_pay15 p.v22
def v68 (p : Pt F) : FVec F S256x512 .f32 := k0_pay16 p.v22 p.v59
def v74 (p : Pt F) : FVec F S256x512 .f32 := k0_pay17 p.v22 p.v59 p.v62
def v96 (p : Pt F) : FVec F S256x512 .f32 := k0_pay19 p.v26
def v102 (p : Pt F) : FVec F S256x512 .f32 := k0_pay20 p.v26
def v106 (p : Pt F) : FVec F S256x1 .f32 := k0_pay21 p.v26
def v116 (p : Pt F) : FVec F S256x1 .f32 := k0_pay23 p.v96 p.v106
def v118 (p : Pt F) : FVec F S256x512 .f32 := k0_pay24 p.v96 p.v106
def v130 (p : Pt F) : FVec F S128x128 .bf16 := k0_pay26 (View.ld p.ws (Rect.unit (s := S4x128x128) ![0, 0, 0] S1x128x128.size inb_S4x128x128_S1x128x128_0_0_0))
def v135 (p : Pt F) : FVec F S128x128 .bf16 := k0_pay27 (View.ld p.ws (Rect.unit (s := S4x128x128) ![1, 0, 0] S1x128x128.size inb_S4x128x128_S1x128x128_1_0_0))
def v140 (p : Pt F) : FVec F S128x128 .bf16 := k0_pay28 (View.ld p.ws (Rect.unit (s := S4x128x128) ![2, 0, 0] S1x128x128.size inb_S4x128x128_S1x128x128_2_0_0))
def v145 (p : Pt F) : FVec F S128x128 .bf16 := k0_pay29 (View.ld p.ws (Rect.unit (s := S4x128x128) ![3, 0, 0] S1x128x128.size inb_S4x128x128_S1x128x128_3_0_0))
def v146 (p : Pt F) : FVec F S256x512 .bf16 := k0_pay30 p.v38 p.v40 p.v96 p.v106
def v147 (p : Pt F) : FVec F S128x128 .bf16 := k0_pay31 p.v38 p.v40 p.v96 p.v106
def v179 (p : Pt F) : FVec F S128x128 .bf16 := k0_pay36 p.v146
/-- The spatial gate's buffer, put together from its eight pieces. -/
def mixed (p : Pt F) : Vec F S256x512 .f32 := View.readCov (Val := Elt F) (View.whole cc0_scratch1) [
   ⟨Rect.unit (s := S256x512) ![128, 384] S128x128.size inb_S256x512_S128x128_128_384, k0_pay40 p.v145 p.v146 (View.ld p.bf (Rect.unit (s := S4x128x128) ![3, 0, 0] S1x128x128.size inb_S4x128x128_S1x128x128_3_0_0))⟩,
   ⟨Rect.unit (s := S256x512) ![128, 256] S128x128.size inb_S256x512_S128x128_128_256, k0_pay39 p.v140 p.v146 (View.ld p.bf (Rect.unit (s := S4x128x128) ![2, 0, 0] S1x128x128.size inb_S4x128x128_S1x128x128_2_0_0))⟩,
   ⟨Rect.unit (s := S256x512) ![128, 128] S128x128.size inb_S256x512_S128x128_128_128, k0_pay38 p.v135 p.v146 (View.ld p.bf (Rect.unit (s := S4x128x128) ![1, 0, 0] S1x128x128.size inb_S4x128x128_S1x128x128_1_0_0))⟩,
   ⟨Rect.unit (s := S256x512) ![128, 0] S128x128.size inb_S256x512_S128x128_128_0, k0_pay37 p.v130 p.v179 (View.ld p.bf (Rect.unit (s := S4x128x128) ![0, 0, 0] S1x128x128.size inb_S4x128x128_S1x128x128_0_0_0))⟩,
   ⟨Rect.unit (s := S256x512) ![0, 384] S128x128.size inb_S256x512_S128x128_0_384, k0_pay35 p.v145 p.v146 (View.ld p.bf (Rect.unit (s := S4x128x128) ![3, 0, 0] S1x128x128.size inb_S4x128x128_S1x128x128_3_0_0))⟩,
   ⟨Rect.unit (s := S256x512) ![0, 256] S128x128.size inb_S256x512_S128x128_0_256, k0_pay34 p.v140 p.v146 (View.ld p.bf (Rect.unit (s := S4x128x128) ![2, 0, 0] S1x128x128.size inb_S4x128x128_S1x128x128_2_0_0))⟩,
   ⟨Rect.unit (s := S256x512) ![0, 128] S128x128.size inb_S256x512_S128x128_0_128, k0_pay33 p.v135 p.v146 (View.ld p.bf (Rect.unit (s := S4x128x128) ![1, 0, 0] S1x128x128.size inb_S4x128x128_S1x128x128_1_0_0))⟩,
   ⟨Rect.unit (s := S256x512) ![0, 0] S128x128.size inb_S256x512_S128x128_0_0, k0_pay32 p.v130 p.v147 (View.ld p.bf (Rect.unit (s := S4x128x128) ![0, 0, 0] S1x128x128.size inb_S4x128x128_S1x128x128_0_0_0))⟩]
  (Rect.unit (s := S256x512) ![0, 0] S256x512.size inb_S256x512_S256x512_0_0).toLoadRect
def v212 (p : Pt F) : FVec F S256x512 .f32 := k0_pay41 p.v68 p.mixed
def v220 (p : Pt F) : FVec F S256x512 .f32 := k0_pay42 p.v30 p.v34
def v221 (p : Pt F) : FVec F S288x512 .f32 := k0_pay43 p.v30 p.v34 p.halo
def v222 (p : Pt F) : FVec F S288x512 .f32 := k0_pay44 p.v30 p.v34 p.halo
def v223 (p : Pt F) : FVec F S288x512 .f32 := k0_pay45 p.v30 p.v34 p.halo
def v224 (p : Pt F) : FVec F S288x512 .f32 := k0_pay46 p.v30 p.v34 p.halo
def v225 (p : Pt F) : FVec F S288x512 .f32 := k0_pay47 p.v30 p.v34 p.halo
def v226 (p : Pt F) : FVec F S288x512 .f32 := k0_pay48 p.v30 p.v34 p.halo
def v227 (p : Pt F) : FVec F S288x512 .f32 := k0_pay49 p.v30 p.v34 p.halo
def v228 (p : Pt F) : FVec F S288x512 .f32 := k0_pay50 p.v30 p.v34 p.halo
def v249 (p : Pt F) : FVec F S256x512 .f32 := k0_pay51 p.v30 p.v34 p.halo p.v42 (View.ld p.cw (Rect.unit (s := S32x512) ![0, 0] S1x512.size inb_S32x512_S1x512_0_0)) (View.ld p.cw (Rect.unit (s := S32x512) ![1, 0] S1x512.size inb_S32x512_S1x512_1_0)) (View.ld p.cw (Rect.unit (s := S32x512) ![2, 0] S1x512.size inb_S32x512_S1x512_2_0))
def v250 (p : Pt F) : FVec F S256x512 .f32 := k0_pay52 p.v30 p.v34 p.halo
def v291 (p : Pt F) : FVec F S256x512 .f32 := k0_pay53 p.v221 p.v222 p.v223 p.v224 p.v227 p.v228 p.v249 p.v250 (View.ld p.cw (Rect.unit (s := S32x512) ![3, 0] S1x512.size inb_S32x512_S1x512_3_0)) (View.ld p.cw (Rect.unit (s := S32x512) ![4, 0] S1x512.size inb_S32x512_S1x512_4_0)) (View.ld p.cw (Rect.unit (s := S32x512) ![5, 0] S1x512.size inb_S32x512_S1x512_5_0)) (View.ld p.cw (Rect.unit (s := S32x512) ![6, 0] S1x512.size inb_S32x512_S1x512_6_0)) (View.ld p.cw (Rect.unit (s := S32x512) ![7, 0] S1x512.size inb_S32x512_S1x512_7_0)) (View.ld p.cw (Rect.unit (s := S32x512) ![8, 0] S1x512.size inb_S32x512_S1x512_8_0)) (View.ld p.cw (Rect.unit (s := S32x512) ![9, 0] S1x512.size inb_S32x512_S1x512_9_0))
def v296 (p : Pt F) : FVec F S256x512 .f32 := k0_pay54 p.v225 (View.ld p.cw (Rect.unit (s := S32x512) ![10, 0] S1x512.size inb_S32x512_S1x512_10_0))
def v339 (p : Pt F) : FVec F S256x512 .f32 := k0_pay55 p.v221 p.v222 p.v223 p.v224 p.v226 p.v227 p.v228 p.v291 p.v296 (View.ld p.cw (Rect.unit (s := S32x512) ![11, 0] S1x512.size inb_S32x512_S1x512_11_0)) (View.ld p.cw (Rect.unit (s := S32x512) ![12, 0] S1x512.size inb_S32x512_S1x512_12_0)) (View.ld p.cw (Rect.unit (s := S32x512) ![13, 0] S1x512.size inb_S32x512_S1x512_13_0)) (View.ld p.cw (Rect.unit (s := S32x512) ![14, 0] S1x512.size inb_S32x512_S1x512_14_0)) (View.ld p.cw (Rect.unit (s := S32x512) ![15, 0] S1x512.size inb_S32x512_S1x512_15_0)) (View.ld p.cw (Rect.unit (s := S32x512) ![16, 0] S1x512.size inb_S32x512_S1x512_16_0)) (View.ld p.cw (Rect.unit (s := S32x512) ![17, 0] S1x512.size inb_S32x512_S1x512_17_0))
def v340 (p : Pt F) : FVec F S256x512 .f32 := k0_pay56 p.v225
def v381 (p : Pt F) : FVec F S256x512 .f32 := k0_pay57 p.v221 p.v222 p.v223 p.v226 p.v227 p.v228 p.v339 p.v340 (View.ld p.cw (Rect.unit (s := S32x512) ![18, 0] S1x512.size inb_S32x512_S1x512_18_0)) (View.ld p.cw (Rect.unit (s := S32x512) ![19, 0] S1x512.size inb_S32x512_S1x512_19_0)) (View.ld p.cw (Rect.unit (s := S32x512) ![20, 0] S1x512.size inb_S32x512_S1x512_20_0)) (View.ld p.cw (Rect.unit (s := S32x512) ![21, 0] S1x512.size inb_S32x512_S1x512_21_0)) (View.ld p.cw (Rect.unit (s := S32x512) ![22, 0] S1x512.size inb_S32x512_S1x512_22_0)) (View.ld p.cw (Rect.unit (s := S32x512) ![23, 0] S1x512.size inb_S32x512_S1x512_23_0)) (View.ld p.cw (Rect.unit (s := S32x512) ![24, 0] S1x512.size inb_S32x512_S1x512_24_0))
def v386 (p : Pt F) : FVec F S256x512 .f32 := k0_pay58 p.v224 (View.ld p.cw (Rect.unit (s := S32x512) ![25, 0] S1x512.size inb_S32x512_S1x512_25_0))
def v417 (p : Pt F) : FVec F S256x512 .f32 := k0_pay59 p.v221 p.v225 p.v226 p.v227 p.v228 p.v381 p.v386 (View.ld p.cw (Rect.unit (s := S32x512) ![26, 0] S1x512.size inb_S32x512_S1x512_26_0)) (View.ld p.cw (Rect.unit (s := S32x512) ![27, 0] S1x512.size inb_S32x512_S1x512_27_0)) (View.ld p.cw (Rect.unit (s := S32x512) ![28, 0] S1x512.size inb_S32x512_S1x512_28_0)) (View.ld p.cw (Rect.unit (s := S32x512) ![29, 0] S1x512.size inb_S32x512_S1x512_29_0)) (View.ld p.cw (Rect.unit (s := S32x512) ![30, 0] S1x512.size inb_S32x512_S1x512_30_0))
def v424 (p : Pt F) : FVec F S256x128 .f32 := k0_pay60 p.v221 p.v225 p.v226 p.v227 p.v228 p.v381 p.v386 (View.ld p.cw (Rect.unit (s := S32x512) ![26, 0] S1x512.size inb_S32x512_S1x512_26_0)) (View.ld p.cw (Rect.unit (s := S32x512) ![27, 0] S1x512.size inb_S32x512_S1x512_27_0)) (View.ld p.cw (Rect.unit (s := S32x512) ![28, 0] S1x512.size inb_S32x512_S1x512_28_0)) (View.ld p.cw (Rect.unit (s := S32x512) ![29, 0] S1x512.size inb_S32x512_S1x512_29_0)) (View.ld p.cw (Rect.unit (s := S32x512) ![30, 0] S1x512.size inb_S32x512_S1x512_30_0))
def v431 (p : Pt F) : FVec F S256x1 .f32 := k0_pay61 p.v221 p.v225 p.v226 p.v227 p.v228 p.v381 p.v386 (View.ld p.cw (Rect.unit (s := S32x512) ![26, 0] S1x512.size inb_S32x512_S1x512_26_0)) (View.ld p.cw (Rect.unit (s := S32x512) ![27, 0] S1x512.size inb_S32x512_S1x512_27_0)) (View.ld p.cw (Rect.unit (s := S32x512) ![28, 0] S1x512.size inb_S32x512_S1x512_28_0)) (View.ld p.cw (Rect.unit (s := S32x512) ![29, 0] S1x512.size inb_S32x512_S1x512_29_0)) (View.ld p.cw (Rect.unit (s := S32x512) ![30, 0] S1x512.size inb_S32x512_S1x512_30_0))
def v434 (p : Pt F) : FVec F S256x128 .f32 := k0_pay62 p.v424 p.v431
def v451 (p : Pt F) : FVec F S256x128 .f32 := k0_pay63 p.v417
def v468 (p : Pt F) : FVec F S256x128 .f32 := k0_pay64 p.v417
def v475 (p : Pt F) : FVec F S256x128 .f32 := k0_pay65 p.v417
def v478 (p : Pt F) : FVec F S256x1 .f32 := k0_pay66 p.v417
def v512 (p : Pt F) : FVec F S256x1024 .bf16 := k0_pay69 p.v44 p.v46 p.v212 p.v434 p.v451 p.v468 p.v475 p.v478

end Pt

/-- Row `a` of the row block of grid point `t`, as a row of the array. -/
def rowOf (t : Fin 16) (a : Fin 256) : Fin 4096 := ⟨t.val * 256 + a.val, by omega⟩

theorem place_crow (t : Fin 16) (q : Fin 2) (r : Fin 128) : place (rowOf t (crow q r)) = r :=
  Fin.ext (by simp only [place, rowOf, crow]; omega)

theorem chunk_crow (t : Fin 16) (q : Fin 2) (r s : Fin 128) : chunkRow (chunk (rowOf t (crow q r))) s = rowOf t (crow q s) :=
  Fin.ext (by simp only [chunk, chunkRow, rowOf, crow]; omega)

/-- The mixed rows of one chunk and head. -/
theorem mixed_at (A : Args) (t : Fin 16) (q : Fin 2) (r l : Fin 128) (b : Fin 4) :
    A.mixed (rowOf t (crow q r)) (headCol b l) = ∑ s, A.wm b r s * A.v (rowOf t (crow q s)) (headCol b l) + A.bs b r := by
  unfold Args.mixed
  simp only [place_crow, chunk_crow, head_headCol]

/-- A piece of one chunk and head that agrees with `f` row for row. -/
theorem piece {o0 o1 : ℕ} {inb} {w : (Rect.unit (s := S256x512) ![o0, o1] ![128, 128] inb).shape.Idx → EReal} (f : Fin 256 → Fin 512 → EReal)
    (q : Fin 2) (b : Fin 4) (h0 : o0 = q.val * 128) (h1 : o1 = b.val * 128)
    (h : ∀ r l : Fin 128, w (ix2 r l) = f (crow q r) (headCol b l)) (x) :
    w x = f ((Rect.unit (s := S256x512) ![o0, o1] ![128, 128] inb).emb x 0)
      ((Rect.unit (s := S256x512) ![o0, o1] ![128, 128] inb).emb x 1) := by
  refine ((congrArg w (eq_ix2 x)).trans (h _ _)).trans (congrArg₂ f (Fin.ext ?_) (Fin.ext ?_))
  · show q.val * 128 + (x 0).val = o0 + 1 * (x 0).val
    omega
  · show b.val * 128 + (x 1).val = o1 + 1 * (x 1).val
    omega

/-- A bit's choice between a number and zero. -/
theorem below (q : Prop) [Decidable q] (x : EReal) : Scalar.select (if q then 1#1 else 0#1) x 0 = if q then x else 0 := by
  split <;> simp [Scalar.select]

/-- What the buffers of grid point `t` hold, in terms of the call's arguments; the carried rows are the convolution's input's last
    rows before the block. -/
structure Ins (A : Args) (t : Fin 16) (p : Pt Ideal) : Prop where
  x : ∀ a k, p.x (ix2 a k) = A.x (rowOf t a) k
  g1 : ∀ k, p.g1 (ix2 0 k) = A.g1 k
  win : ∀ q k j, p.win (ix3 q k j) = A.win k (col q j)
  lng : ∀ j, p.lng (ix2 0 j) = A.lg j
  lnb : ∀ j, p.lnb (ix2 0 j) = A.lb j
  ws : ∀ q r s, p.ws (ix3 q r s) = A.ws q r s
  bf : ∀ q r s, p.bf (ix3 q r s) = A.bs q r
  cw : ∀ k : Fin 32, k.val < 31 → ∀ j, p.cw (ix2 k j) = A.cwAt k.val j
  cb : ∀ j, p.cb (ix2 0 j) = A.cb j
  cg : ∀ j, p.cg (ix2 0 j) = A.cg j
  cbeta : ∀ j, p.cbeta (ix2 0 j) = A.ce j
  wout : ∀ (q : Fin 4) (i : Fin 256) k, p.wout (ix3 q i k) = A.wo ⟨q.val * 256 + i.val, by omega⟩ k
  halo : ∀ (r : Fin 32) j, p.halo (ix2 r j) = A.gAt (t.val * 256 + r.val) j

variable {A : Args} {t : Fin 16} {p : Pt Ideal} (hp : Ins A t p)
include hp

theorem key_v4 (a : Fin 256) (k : Fin 1024) : p.v4 (ix2 a k) = A.x (rowOf t a) k := by
  unfold Pt.v4; unfold_payloads; pointwise; simp only [hp.x]

theorem key_v19 (a : Fin 256) (k : Fin 1024) : p.v19 (ix2 a k) = FfnValue.H A.x A.g1 (rowOf t a) k := by
  unfold Pt.v19; unfold_payloads; pointwise; simp only [hp.x, hp.g1]; rfl

theorem key_v22 (a : Fin 256) (j : Fin 512) : p.v22 (ix2 a j) = A.pj (rowOf t a) (col 0 j) := by
  unfold Pt.v22; unfold_payloads; pointwise; simp only [hp.x, hp.g1, hp.win]; rfl

theorem key_v26 (a : Fin 256) (j : Fin 512) : p.v26 (ix2 a j) = A.pj (rowOf t a) (col 1 j) := by
  unfold Pt.v26; unfold_payloads; pointwise; simp only [hp.x, hp.g1, hp.win]; rfl

theorem key_v30 (a : Fin 256) (j : Fin 512) : p.v30 (ix2 a j) = A.pj (rowOf t a) (col 2 j) := by
  unfold Pt.v30; unfold_payloads; pointwise; simp only [hp.x, hp.g1, hp.win]; rfl

theorem key_v34 (a : Fin 256) (j : Fin 512) : p.v34 (ix2 a j) = A.pj (rowOf t a) (col 3 j) := by
  unfold Pt.v34; unfold_payloads; pointwise; simp only [key_v19 hp, hp.win]; rfl

theorem key_v38 (j : Fin 512) : p.v38 (ix2 0 j) = A.lg j := by
  unfold Pt.v38; unfold_payloads; pointwise; simp only [hp.lng]

theorem key_v40 (j : Fin 512) : p.v40 (ix2 0 j) = A.lb j := by
  unfold Pt.v40; unfold_payloads; pointwise; simp only [hp.lnb]

theorem key_v42 (j : Fin 512) : p.v42 (ix2 0 j) = A.cb j := by
  unfold Pt.v42; unfold_payloads; pointwise; simp only [hp.cb]

theorem key_v44 (j : Fin 512) : p.v44 (ix2 0 j) = A.cg j := by
  unfold Pt.v44; unfold_payloads; pointwise; simp only [hp.cg]

theorem key_v46 (j : Fin 512) : p.v46 (ix2 0 j) = A.ce j := by
  unfold Pt.v46; unfold_payloads; pointwise; simp only [hp.cbeta]

theorem key_v59 (a : Fin 256) (j : Fin 512) : p.v59 (ix2 a j) = cdf (A.pj (rowOf t a) (col 0 j)) := by
  unfold Pt.v59; unfold_payloads; pointwise; simp only [key_v22 hp, c0, c1, EReal.coe_zero, EReal.coe_one, zero_sub]; exact cdf_abs _

theorem key_v62 (a : Fin 256) (j : Fin 512) : p.v62 (ix2 a j) = rt * A.pj (rowOf t a) (col 0 j) * (rt * A.pj (rowOf t a) (col 0 j)) := by
  unfold Pt.v62; unfold_payloads; pointwise; simp only [key_v22 hp]; rfl

theorem key_v68 (a : Fin 256) (j : Fin 512) : p.v68 (ix2 a j) = A.u (rowOf t a) j := by
  unfold Pt.v68; unfold_payloads; pointwise; simp only [key_v22 hp, key_v59 hp]; rfl

theorem key_v74 (a : Fin 256) (j : Fin 512) : p.v74 (ix2 a j) = A.du (rowOf t a) j := by
  unfold Pt.v74; unfold_payloads; pointwise; simp only [key_v22 hp, key_v59 hp, key_v62 hp, c0, c1, EReal.coe_zero, EReal.coe_one, zero_sub]; rfl

theorem key_c26 (a : Fin 256) (j : Fin 512) : k0_pay18 p.v26 (ix2 a j) = cdf (A.pj (rowOf t a) (col 1 j)) := by
  unfold k0_pay18; pointwise; simp only [key_v26 hp, c0, c1, EReal.coe_zero, EReal.coe_one, zero_sub]; exact cdf_abs _

theorem key_v96 (a : Fin 256) (j : Fin 512) : p.v96 (ix2 a j) = A.vg (rowOf t a) j := by
  unfold Pt.v96 k0_pay19; pointwise; simp only [key_v26 hp, key_c26 hp]; rfl

theorem key_v102 (a : Fin 256) (j : Fin 512) : p.v102 (ix2 a j) = A.dvg (rowOf t a) j := by
  unfold Pt.v102 k0_pay20; pointwise; simp only [key_v26 hp, key_c26 hp, c0, c1, EReal.coe_zero, EReal.coe_one, zero_sub]; rfl

theorem key_v106 (a : Fin 256) : p.v106 (ix2 a 0) = Ideal.div (∑ k, A.vg (rowOf t a) k) d512 := by
  have e := key_v96 hp
  unfold Pt.v96 at e
  unfold Pt.v106 k0_pay21; pointwise; simp only [e]; rfl

theorem key_v116 (a : Fin 256) : p.v116 (ix2 a 0) = A.rs (rowOf t a) := by
  unfold Pt.v116; unfold_payloads; pointwise; simp only [key_v96 hp, key_v106 hp]; rfl

theorem key_v118 (a : Fin 256) (j : Fin 512) : p.v118 (ix2 a j) = A.vh (rowOf t a) j := by
  unfold Pt.v118; unfold_payloads; pointwise; simp only [key_v96 hp, key_v106 hp]; rfl

theorem key_v130 (r s : Fin 128) : p.v130 (ix2 r s) = A.wm 0 r s := by
  unfold Pt.v130; unfold_payloads; pointwise; simp only [hp.ws, sge_ix, c0, c1, EReal.coe_zero, EReal.coe_one, below]; rfl

theorem key_v135 (r s : Fin 128) : p.v135 (ix2 r s) = A.wm 1 r s := by
  unfold Pt.v135; unfold_payloads; pointwise; simp only [hp.ws, sge_ix, c0, c1, EReal.coe_zero, EReal.coe_one, below]; rfl

theorem key_v140 (r s : Fin 128) : p.v140 (ix2 r s) = A.wm 2 r s := by
  unfold Pt.v140; unfold_payloads; pointwise; simp only [hp.ws, sge_ix, c0, c1, EReal.coe_zero, EReal.coe_one, below]; rfl

theorem key_v145 (r s : Fin 128) : p.v145 (ix2 r s) = A.wm 3 r s := by
  unfold Pt.v145; unfold_payloads; pointwise; simp only [hp.ws, sge_ix, c0, c1, EReal.coe_zero, EReal.coe_one, below]; rfl

theorem key_v146 (a : Fin 256) (j : Fin 512) : p.v146 (ix2 a j) = A.v (rowOf t a) j := by
  unfold Pt.v146; unfold_payloads; pointwise; simp only [key_v96 hp, key_v106 hp, key_v38 hp, key_v40 hp]; rfl

theorem key_v147 (r l : Fin 128) : p.v147 (ix2 r l) = A.v (rowOf t (crow 0 r)) (headCol 0 l) := by
  unfold Pt.v147; unfold_payloads; pointwise; simp only [key_v96 hp, key_v106 hp, key_v38 hp, key_v40 hp, cr0, hc0]; rfl

theorem key_v179 (r l : Fin 128) : p.v179 (ix2 r l) = A.v (rowOf t (crow 1 r)) (headCol 0 l) := by
  unfold Pt.v179; unfold_payloads; pointwise; simp only [key_v146 hp, cr1, hc0]

/-- The mixed rows, put together from their eight pieces. -/
theorem key_mixed (a : Fin 256) (j : Fin 512) : p.mixed (ix2 a j) = A.mixed (rowOf t a) j := by
  unfold Pt.mixed
  rw [View.readCov_eq_canon']
  refine (congrArg (View.canon _) (Rect.emb_unit_full (s := S256x512) inb_S256x512_S256x512_0_0 (ix2 a j))).trans ?_
  refine canon_of_pieces (s := S256x512) (e := .f32) _ (fun y => A.mixed (rowOf t (y 0)) (y 1)) ?_ _
    (View.cover_of_tiledL (s := S256x512) _ ![128, 128] (by sl_kernel_rfl) _)
  simp only [List.forall_mem_cons, List.not_mem_nil, false_imp_iff, implies_true, and_true]
  refine ⟨piece (fun a j => A.mixed (rowOf t a) j) 1 3 rfl rfl fun r l => ?_, piece (fun a j => A.mixed (rowOf t a) j) 1 2 rfl rfl fun r l => ?_,
    piece (fun a j => A.mixed (rowOf t a) j) 1 1 rfl rfl fun r l => ?_, piece (fun a j => A.mixed (rowOf t a) j) 1 0 rfl rfl fun r l => ?_,
    piece (fun a j => A.mixed (rowOf t a) j) 0 3 rfl rfl fun r l => ?_, piece (fun a j => A.mixed (rowOf t a) j) 0 2 rfl rfl fun r l => ?_,
    piece (fun a j => A.mixed (rowOf t a) j) 0 1 rfl rfl fun r l => ?_, piece (fun a j => A.mixed (rowOf t a) j) 0 0 rfl rfl fun r l => ?_⟩ <;>
    rw [mixed_at] <;> unfold_payloads <;> pointwise <;>
    simp only [key_v130 hp, key_v135 hp, key_v140 hp, key_v145 hp, key_v146 hp, key_v147 hp, key_v179 hp, hp.bf, cr0, cr1, hc0, hc1, hc2, hc3]

theorem key_v212 (a : Fin 256) (j : Fin 512) : p.v212 (ix2 a j) = A.a (rowOf t a) j := by
  unfold Pt.v212; unfold_payloads; pointwise; simp only [key_v68 hp, key_mixed hp]; rfl

theorem key_v220 (a : Fin 256) (j : Fin 512) : p.v220 (ix2 a j) = A.gv (rowOf t a) j := by
  unfold Pt.v220; unfold_payloads; pointwise; simp only [key_v30 hp, key_v34 hp, c0, c1, EReal.coe_zero, EReal.coe_one, zero_sub]; rfl

omit hp in
/-- Rows that hold the convolution's input from row `s` of the block's carried rows on. -/
def Shifted (A : Args) (t : Fin 16) (s : ℕ) (V : Vec Ideal S288x512 .f32) : Prop :=
  ∀ (n : ℕ) (hn : n < 288) (j : Fin 512), n + s < 288 → V (ix2 ⟨n, hn⟩ j) = A.gAt (t.val * 256 + (n + s)) j

omit hp in
theorem Shifted.at {s : ℕ} {V : Vec Ideal S288x512 .f32} (h : Shifted A t s V) (hs : s ≤ 32) (a : Fin 256) (j : Fin 512) (h') :
    V (ix2 ⟨a.val, h'⟩ j) = A.gAt ((rowOf t a).val + s) j := by
  refine (h _ h' j (by omega)).trans (congrArg (A.gAt · j) ?_)
  unfold rowOf; dsimp only; omega

omit hp in
theorem Shifted.off {s : ℕ} {V : Vec Ideal S288x512 .f32} (h : Shifted A t s V) (o : ℕ) (hs : o + s ≤ 32) (a : Fin 256) (j : Fin 512) (h') :
    V (ix2 ⟨o + a.val, h'⟩ j) = A.gAt ((rowOf t a).val + (o + s)) j := by
  refine (h _ h' j (by omega)).trans (congrArg (A.gAt · j) ?_)
  unfold rowOf; dsimp only; omega

theorem key_v221 : Shifted A t 0 p.v221 := by
  intro n hn j _
  have e := key_v220 hp
  unfold Pt.v220 at e
  unfold Pt.v221 k0_pay43; pointwise
  split
  · rw [hp.halo]
  · rw [e]
    unfold Args.gAt rowOf
    rw [dif_pos (by omega)]
    refine congrArg (A.gv · j) (Fin.ext ?_)
    dsimp only; omega

theorem key_v222 : Shifted A t 1 p.v222 := by
  intro n hn j h
  have e : p.v222 = dynamicRotate 0 287#32 none p.v221 rotates_S288x512_d0 := rfl
  rw [e]; pointwise
  refine (key_v221 hp _ _ _ (by omega)).trans (congrArg (A.gAt · j) ?_)
  show t.val * 256 + ((n + 288 - 287) % 288 + 0) = _
  omega

theorem key_v223 : Shifted A t 2 p.v223 := by
  intro n hn j h
  have e : p.v223 = dynamicRotate 0 286#32 none p.v221 rotates_S288x512_d0 := rfl
  rw [e]; pointwise
  refine (key_v221 hp _ _ _ (by omega)).trans (congrArg (A.gAt · j) ?_)
  show t.val * 256 + ((n + 288 - 286) % 288 + 0) = _
  omega

theorem key_v224 : Shifted A t 3 p.v224 := by
  intro n hn j h
  have e : p.v224 = dynamicRotate 0 285#32 none p.v221 rotates_S288x512_d0 := rfl
  rw [e]; pointwise
  refine (key_v221 hp _ _ _ (by omega)).trans (congrArg (A.gAt · j) ?_)
  show t.val * 256 + ((n + 288 - 285) % 288 + 0) = _
  omega

theorem key_v225 : Shifted A t 4 p.v225 := by
  intro n hn j h
  have e : p.v225 = dynamicRotate 0 284#32 none p.v221 rotates_S288x512_d0 := rfl
  rw [e]; pointwise
  refine (key_v221 hp _ _ _ (by omega)).trans (congrArg (A.gAt · j) ?_)
  show t.val * 256 + ((n + 288 - 284) % 288 + 0) = _
  omega

theorem key_v226 : Shifted A t 5 p.v226 := by
  intro n hn j h
  have e : p.v226 = dynamicRotate 0 283#32 none p.v221 rotates_S288x512_d0 := rfl
  rw [e]; pointwise
  refine (key_v221 hp _ _ _ (by omega)).trans (congrArg (A.gAt · j) ?_)
  show t.val * 256 + ((n + 288 - 283) % 288 + 0) = _
  omega

theorem key_v227 : Shifted A t 6 p.v227 := by
  intro n hn j h
  have e : p.v227 = dynamicRotate 0 282#32 none p.v221 rotates_S288x512_d0 := rfl
  rw [e]; pointwise
  refine (key_v221 hp _ _ _ (by omega)).trans (congrArg (A.gAt · j) ?_)
  show t.val * 256 + ((n + 288 - 282) % 288 + 0) = _
  omega

theorem key_v228 : Shifted A t 7 p.v228 := by
  intro n hn j h
  have e : p.v228 = dynamicRotate 0 281#32 none p.v221 rotates_S288x512_d0 := rfl
  rw [e]; pointwise
  refine (key_v221 hp _ _ _ (by omega)).trans (congrArg (A.gAt · j) ?_)
  show t.val * 256 + ((n + 288 - 281) % 288 + 0) = _
  omega

/-! ### The convolution's taps -/

theorem key_v249 (a : Fin 256) (j : Fin 512) : p.v249 (ix2 a j) = A.conv (rowOf t a) j 3 := by
  have e2 := key_v223 hp
  have e3 := key_v224 hp
  have e4 := key_v225 hp
  unfold Pt.v223 at e2
  unfold Pt.v224 at e3
  unfold Pt.v225 at e4
  unfold Pt.v249 k0_pay51; pointwise
  simp (disch := decide) only [e2.at (by decide), e3.at (by decide), e4.at (by decide), key_v42 hp, hp.cw, c0, c1, EReal.coe_zero, EReal.coe_one, zero_add]
  try rfl

theorem key_v250 (a : Fin 256) (j : Fin 512) : p.v250 (ix2 a j) = A.gAt ((rowOf t a).val + 5) j := by
  have e5 := key_v226 hp
  unfold Pt.v226 at e5
  unfold Pt.v250 k0_pay52; pointwise
  simp (disch := decide) only [e5.at (by decide), hp.cw, c0, c1, EReal.coe_zero, EReal.coe_one, zero_add]
  try rfl

theorem key_v291 (a : Fin 256) (j : Fin 512) : p.v291 (ix2 a j) = A.conv (rowOf t a) j 10 := by
  unfold Pt.v291; unfold_payloads; pointwise
  simp (disch := decide) only [(key_v227 hp).off, (key_v227 hp).at (by decide), (key_v228 hp).off, (key_v228 hp).at (by decide), (key_v221 hp).off, (key_v222 hp).off, (key_v223 hp).off, (key_v224 hp).off, key_v249 hp, key_v250 hp, hp.cw, c0, c1, EReal.coe_zero, EReal.coe_one, zero_add]
  try rfl

theorem key_v296 (a : Fin 256) (j : Fin 512) : p.v296 (ix2 a j) = A.tap (rowOf t a) j 10 := by
  unfold Pt.v296; unfold_payloads; pointwise
  simp (disch := decide) only [(key_v225 hp).off, hp.cw, c0, c1, EReal.coe_zero, EReal.coe_one, zero_add]
  try rfl

theorem key_v339 (a : Fin 256) (j : Fin 512) : p.v339 (ix2 a j) = A.conv (rowOf t a) j 18 := by
  unfold Pt.v339; unfold_payloads; pointwise
  simp (disch := decide) only [(key_v226 hp).off, (key_v227 hp).off, (key_v228 hp).off, (key_v221 hp).off, (key_v222 hp).off, (key_v223 hp).off, (key_v224 hp).off, key_v291 hp, key_v296 hp, hp.cw, c0, c1, EReal.coe_zero, EReal.coe_one, zero_add]
  try rfl

theorem key_v340 (a : Fin 256) (j : Fin 512) : p.v340 (ix2 a j) = A.gAt ((rowOf t a).val + 20) j := by
  unfold Pt.v340; unfold_payloads; pointwise
  simp (disch := decide) only [(key_v225 hp).off, hp.cw, c0, c1, EReal.coe_zero, EReal.coe_one, zero_add]
  try rfl

theorem key_v381 (a : Fin 256) (j : Fin 512) : p.v381 (ix2 a j) = A.conv (rowOf t a) j 25 := by
  unfold Pt.v381; unfold_payloads; pointwise
  simp (disch := decide) only [(key_v226 hp).off, (key_v227 hp).off, (key_v228 hp).off, (key_v221 hp).off, (key_v222 hp).off, (key_v223 hp).off, key_v339 hp, key_v340 hp, hp.cw, c0, c1, EReal.coe_zero, EReal.coe_one, zero_add]
  try rfl

theorem key_v386 (a : Fin 256) (j : Fin 512) : p.v386 (ix2 a j) = A.tap (rowOf t a) j 25 := by
  unfold Pt.v386; unfold_payloads; pointwise
  simp (disch := decide) only [(key_v224 hp).off, hp.cw, c0, c1, EReal.coe_zero, EReal.coe_one, zero_add]
  try rfl

theorem key_v417 (a : Fin 256) (j : Fin 512) : p.v417 (ix2 a j) = A.conv (rowOf t a) j 31 := by
  unfold Pt.v417; unfold_payloads; pointwise
  simp (disch := decide) only [(key_v225 hp).off, (key_v226 hp).off, (key_v227 hp).off, (key_v228 hp).off, (key_v221 hp).off, key_v381 hp, key_v386 hp, hp.cw, c0, c1, EReal.coe_zero, EReal.coe_one, zero_add]
  try rfl

/-! ### The norm of each head -/

theorem key_v424 (a : Fin 256) (r : Fin 128) : p.v424 (ix2 a r) = cen d128 (A.cgrp (rowOf t a) 0) r := by
  have e : ∀ a j, _ = A.cpre (rowOf t a) j := key_v417 hp
  unfold Pt.v417 at e
  unfold Pt.v424 k0_pay60; pointwise; simp only [e, hc0]; rfl

theorem key_v431 (a : Fin 256) : p.v431 (ix2 a 0) = Ideal.div (∑ k, cen d128 (A.cgrp (rowOf t a) 0) k * cen d128 (A.cgrp (rowOf t a) 0) k) d128 + eps := by
  have e := key_v424 hp
  unfold Pt.v424 at e
  unfold Pt.v431 k0_pay61; pointwise; simp only [e]; rfl

theorem key_v434 (a : Fin 256) (r : Fin 128) : p.v434 (ix2 a r) = hat d128 (A.cgrp (rowOf t a) 0) r := by
  unfold Pt.v434; unfold_payloads; pointwise; simp only [key_v424 hp, key_v431 hp]; rfl

theorem key_v451 (a : Fin 256) (r : Fin 128) : p.v451 (ix2 a r) = hat d128 (A.cgrp (rowOf t a) 1) r := by
  have e : ∀ a j, p.v417 (ix2 a j) = A.cpre (rowOf t a) j := key_v417 hp
  unfold Pt.v451; unfold_payloads; pointwise; simp only [e, hc1]; rfl

theorem key_v468 (a : Fin 256) (r : Fin 128) : p.v468 (ix2 a r) = hat d128 (A.cgrp (rowOf t a) 2) r := by
  have e : ∀ a j, p.v417 (ix2 a j) = A.cpre (rowOf t a) j := key_v417 hp
  unfold Pt.v468; unfold_payloads; pointwise; simp only [e, hc2]; rfl

theorem key_v475 (a : Fin 256) (r : Fin 128) : p.v475 (ix2 a r) = cen d128 (A.cgrp (rowOf t a) 3) r := by
  have e : ∀ a j, p.v417 (ix2 a j) = A.cpre (rowOf t a) j := key_v417 hp
  unfold Pt.v475; unfold_payloads; pointwise; simp only [e, hc3]; rfl

theorem key_v478 (a : Fin 256) : p.v478 (ix2 a 0) = ∑ k, cen d128 (A.cgrp (rowOf t a) 3) k * cen d128 (A.cgrp (rowOf t a) 3) k := by
  have e : ∀ a j, p.v417 (ix2 a j) = A.cpre (rowOf t a) j := key_v417 hp
  unfold Pt.v478; unfold_payloads; pointwise; simp only [e, hc3]; rfl

omit hp in
/-- Four heads side by side, column by column. -/
theorem heads (G : Fin 4 → Fin 128 → EReal) (n : ℕ) (hn : n < 512) :
    (if h : n < 128 then G 0 ⟨n, h⟩ else if h : n - 128 < 128 then G 1 ⟨n - 128, h⟩
      else if h : n - 128 - 128 < 128 then G 2 ⟨n - 128 - 128, h⟩ else G 3 ⟨n - 128 - 128 - 128, by omega⟩)
      = G (head ⟨n, hn⟩) (lane ⟨n, hn⟩) := by
  unfold head lane
  split
  · exact congrArg₂ G (Fin.ext (by show 0 = n / 128; omega)) (Fin.ext (by show n = n % 128; omega))
  · split
    · exact congrArg₂ G (Fin.ext (by show 1 = n / 128; omega)) (Fin.ext (by show n - 128 = n % 128; omega))
    · split
      · exact congrArg₂ G (Fin.ext (by show 2 = n / 128; omega)) (Fin.ext (by show n - 128 - 128 = n % 128; omega))
      · exact congrArg₂ G (Fin.ext (by show 3 = n / 128; omega)) (Fin.ext (by show n - 128 - 128 - 128 = n % 128; omega))

theorem key_v512 (a : Fin 256) (i : Fin 1024) : p.v512 (ix2 a i) = A.mix (rowOf t a) i := by
  unfold Pt.v512; unfold_payloads; pointwise
  simp only [key_v434 hp, key_v451 hp, key_v468 hp, key_v475 hp, key_v478 hp, key_v212 hp, key_v44 hp, key_v46 hp, c0, c1, EReal.coe_zero, EReal.coe_one, zero_sub]
  unfold Args.mix
  split
  · rfl
  · exact congrArg (fun z : EReal => (z * A.cg ⟨i.val - 512, by omega⟩ + A.ce ⟨i.val - 512, by omega⟩)
      * MixValue.sig (z * A.cg ⟨i.val - 512, by omega⟩ + A.ce ⟨i.val - 512, by omega⟩))
      (heads (fun q r => hat d128 (A.cgrp (rowOf t a) q) r) (i.val - 512) (by omega))

end Cert.MixFwdIdeal.Hand

end
-- ==== Proof.MixFwdKernel.lean ====
/- The arrays that the token mixers' forward call leaves, over the ideal floats and any arguments: what each grid point stores, and
   the rows carried from one grid point to the next. -/
module

public import proofs.«01_k».proof.Proof.MixFwdPoint

@[expose] public section

set_option maxRecDepth 16384

noncomputable section

namespace Cert.MixFwdIdeal.Hand

open Cert.MixFwdIdeal Cert.MixFwdIdeal.Gen Idealize.ShloMosaic Idealize.ShloMosaic.TcCoe Idealize.SL.Sem Cert.MixValue
open Cert.Reals (c0 c1 col sum_blocks)
open Cert.MixBwdIdeal.Hand (canon_of_pieces)

/-! ## What one grid point stores -/

namespace Pt

variable {F : FTy → Type} [FloatOps F]

/-- The block of the layer's result. -/
def x1 (p : Pt F) : FVec F S256x1024 .f32 := k0_pay1 p.v4 p.v512
  (View.ld p.wout (Rect.unit (s := S4x256x1024) ![0, 0, 0] S1x256x1024.size inb_S4x256x1024_S1x256x1024_0_0_0))
  (View.ld p.wout (Rect.unit (s := S4x256x1024) ![1, 0, 0] S1x256x1024.size inb_S4x256x1024_S1x256x1024_1_0_0))
  (View.ld p.wout (Rect.unit (s := S4x256x1024) ![2, 0, 0] S1x256x1024.size inb_S4x256x1024_S1x256x1024_2_0_0))
  (View.ld p.wout (Rect.unit (s := S4x256x1024) ![3, 0, 0] S1x256x1024.size inb_S4x256x1024_S1x256x1024_3_0_0))

/-- Four parts of five hundred and twelve columns side by side. -/
def side (w0 w1 w2 w3 : Vec F S256x512 .f32) : Vec F S256x2048 .f32 := View.canon (Val := Elt F) (s := S256x2048) (e := .f32) [
  ⟨Rect.unit (s := S256x2048) ![0, 1536] S256x512.size inb_S256x2048_S256x512_0_1536, w3⟩,
  ⟨Rect.unit (s := S256x2048) ![0, 1024] S256x512.size inb_S256x2048_S256x512_0_1024, w2⟩,
  ⟨Rect.unit (s := S256x2048) ![0, 512] S256x512.size inb_S256x2048_S256x512_0_512, w1⟩,
  ⟨Rect.unit (s := S256x2048) ![0, 0] S256x512.size inb_S256x2048_S256x512_0_0, w0⟩]

end Pt

/-- A piece of one part of the columns. -/
theorem col_piece {o : ℕ} {inb} {w : (Rect.unit (s := S256x2048) ![0, o] ![256, 512] inb).shape.Idx → EReal} (f : Fin 256 → Fin 2048 → EReal)
    (q : Fin 4) (ho : o = q.val * 512) (h : ∀ (a : Fin 256) (j : Fin 512), w (ix2 a j) = f a (col q j)) (x) :
    w x = f ((Rect.unit (s := S256x2048) ![0, o] ![256, 512] inb).emb x 0)
      ((Rect.unit (s := S256x2048) ![0, o] ![256, 512] inb).emb x 1) := by
  refine ((congrArg w (eq_ix2 x)).trans (h _ _)).trans (congrArg₂ f (Fin.ext ?_) (Fin.ext ?_))
  · show (x 0).val = 0 + 1 * (x 0).val
    omega
  · show q.val * 512 + (x 1).val = o + 1 * (x 1).val
    omega

/-- Four parts side by side, number by number. -/
theorem side_eq {w0 w1 w2 w3 : Vec Ideal S256x512 .f32} (f : Fin 256 → Fin 2048 → EReal) (h0 : ∀ a j, w0 (ix2 a j) = f a (col 0 j))
    (h1 : ∀ a j, w1 (ix2 a j) = f a (col 1 j)) (h2 : ∀ a j, w2 (ix2 a j) = f a (col 2 j)) (h3 : ∀ a j, w3 (ix2 a j) = f a (col 3 j))
    (a : Fin 256) (i : Fin 2048) : Pt.side w0 w1 w2 w3 (ix2 a i) = f a i := by
  unfold Pt.side
  refine canon_of_pieces (s := S256x2048) (e := .f32) _ (fun y => f (y 0) (y 1)) ?_ _
    (View.cover_of_tiledL (s := S256x2048) _ ![256, 512] (by sl_kernel_rfl) _)
  simp only [List.forall_mem_cons, List.not_mem_nil, false_imp_iff, implies_true, and_true]
  exact ⟨col_piece f 3 rfl h3, col_piece f 2 rfl h2, col_piece f 1 rfl h1, col_piece f 0 rfl h0⟩

section
variable {A : Args} {t : Fin 16} {p : Pt Ideal} (hp : Ins A t p)
include hp

/-- The layer's result: the sum over the mixers' outputs by four parts. -/
theorem key_x1 (a : Fin 256) (k : Fin 1024) : p.x1 (ix2 a k) = A.out (rowOf t a) k := by
  unfold Pt.x1 k0_pay1
  pointwise
  simp only [key_v4 hp, key_v512 hp, hp.wout]
  unfold Args.out
  rw [← sum_blocks (N := 4) (n := 256) rfl, Fin.sum_univ_four, ← add_assoc, ← add_assoc, ← add_assoc]
  rfl

/-- The projection's block. -/
theorem key_proj (a : Fin 256) (f : Fin 2048)  : Pt.side (F := Ideal) p.v22 p.v26 p.v30 p.v34 (ix2 a f) = A.pj (rowOf t a) f :=
  side_eq (fun a f => A.pj (rowOf t a) f) (key_v22 hp) (key_v26 hp) (key_v30 hp) (key_v34 hp) a f

/-- The block of what is kept. -/
theorem key_kept (a : Fin 256) (f : Fin 2048)  : Pt.side (F := Ideal) p.v68 p.v74 p.v102 p.v118 (ix2 a f) = A.kept (rowOf t a) f :=
  side_eq (fun a f => A.kept (rowOf t a) f) (fun a j => (key_v68 hp a j).trans (A.kept_col _ 0 j).symm)
    (fun a j => (key_v74 hp a j).trans (A.kept_col _ 1 j).symm) (fun a j => (key_v102 hp a j).trans (A.kept_col _ 2 j).symm)
    (fun a j => (key_v118 hp a j).trans (A.kept_col _ 3 j).symm) a f

/-- The norm's factor in every lane. -/
theorem key_rs (a : Fin 256) (l : Fin 128) : k0_pay68 p.v116 (ix2 a l) = A.rs (rowOf t a) := by
  unfold k0_pay68; pointwise; rw [key_v116 hp]

/-- The rows carried to the next grid point. -/
theorem key_next (r : Fin 32) (j : Fin 512) : k0_pay67 p.v220 (ix2 r j) = A.gAt ((t.val + 1) * 256 + r.val) j := by
  unfold k0_pay67; pointwise
  rw [key_v220 hp]
  unfold Args.gAt rowOf
  rw [dif_pos (by omega)]
  exact congrArg (A.gv · j) (Fin.ext (by dsimp only; omega))

end

/-! ## The buffers of a grid point -/

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0, 0] ∧ win0_12.index t = ![t.val, 0] ∧ win0_13.index t = ![t.val, 0] ∧ win0_14.index t = ![t.val, 0]
    ∧ win0_15.index t = ![t.val, 0] ∧ win0_16.index t = ![t.val, 0] := by
  decide +kernel

variable (c : Dev nD)

/-- The call's arguments. -/
def args : Args where
  x t k := m ((c : Thread nD τ).loc main_arg0) (ix3 0 t k)
  g1 k := m ((c : Thread nD τ).loc main_arg1) (ix1 k)
  win k f := m ((c : Thread nD τ).loc main_arg2) (ix2 k f)
  lg j := m ((c : Thread nD τ).loc main_arg3) (ix1 j)
  lb j := m ((c : Thread nD τ).loc main_arg4) (ix1 j)
  ws q r s := m ((c : Thread nD τ).loc main_arg5) (ix3 q r s)
  bs q r := m ((c : Thread nD τ).loc main_arg6) (ix2 q r)
  cw k j := m ((c : Thread nD τ).loc main_arg7) (ix2 k j)
  cb j := m ((c : Thread nD τ).loc main_arg8) (ix1 j)
  cg j := m ((c : Thread nD τ).loc main_arg9) (ix1 j)
  ce j := m ((c : Thread nD τ).loc main_arg10) (ix1 j)
  wo i k := m ((c : Thread nD τ).loc main_arg11) (ix2 i k)

/-- What the buffers of a grid point hold when the carried rows are `v`. -/
def pt (t : Fin cfg0.N) (v : Vec Ideal S32x512 .f32) : Pt Ideal :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, v⟩

variable (t : Fin cfg0.N)

theorem blk_x (a : Fin 256) (k : Fin 1024) :
    iblk m c 0 t (ix2 a k) = (args m c).x (rowOf t a) k :=
  (show iblk m c 0 t (ix2 a k) = V m c main_v8 (ix2 (rowOf t a) k) by unfold rowOf; blk_ext [iblk, idx t]).trans (by
    unfold V; after_reads_simp; pointwise; rfl)

theorem blk_g1 (k : Fin 1024) :
    iblk m c 1 t (ix2 0 k) = (args m c).g1 k :=
  (show iblk m c 1 t (ix2 0 k) = V m c main_v9 (ix2 0 k) by blk_ext [iblk, idx t]).trans (by
    unfold V; after_reads_simp; pointwise; rfl)

theorem blk_win (q : Fin 4) (k : Fin 1024) (j : Fin 512) :
    iblk m c 2 t (ix3 q k j) = (args m c).win k (col q j) :=
  (show iblk m c 2 t (ix3 q k j) = V m c main_v2 (ix3 q k j) by blk_ext [iblk, idx t]).trans (by
    unfold V; after_reads_simp; pointwise; rfl)

theorem blk_lng (j : Fin 512) :
    iblk m c 3 t (ix2 0 j) = (args m c).lg j :=
  (show iblk m c 3 t (ix2 0 j) = V m c main_v10 (ix2 0 j) by blk_ext [iblk, idx t]).trans (by
    unfold V; after_reads_simp; pointwise; rfl)

theorem blk_lnb (j : Fin 512) :
    iblk m c 4 t (ix2 0 j) = (args m c).lb j :=
  (show iblk m c 4 t (ix2 0 j) = V m c main_v11 (ix2 0 j) by blk_ext [iblk, idx t]).trans (by
    unfold V; after_reads_simp; pointwise; rfl)

theorem blk_ws (q : Fin 4) (r s : Fin 128) : iblk m c 5 t (ix3 q r s) = (args m c).ws q r s := by
  unfold args; blk_ext! [iblk, idx t]

theorem blk_bf (q : Fin 4) (r s : Fin 128) :
    iblk m c 6 t (ix3 q r s) = (args m c).bs q r :=
  (show iblk m c 6 t (ix3 q r s) = V m c main_v7 (ix3 q r s) by blk_ext [iblk, idx t]).trans (by
    unfold V; after_reads_simp; pointwise; rfl)

theorem blk_cw (k : Fin 32) (hk : k.val < 31) (j : Fin 512) :
    iblk m c 7 t (ix2 k j) = (args m c).cwAt k.val j :=
  (show iblk m c 7 t (ix2 k j) = V m c main_v5 (ix2 k j) by blk_ext [iblk, idx t]).trans (by
    unfold V Args.cwAt; rw [dif_pos hk]
    after_reads_simp
    simp -implicitDefEqProofs only [StableHlo.TRef.toBuf, StableHlo.TRef.ofBuf, cast_cast, cast_eq]
    pointwise
    rw [dif_pos hk]; rfl)

theorem blk_cb (j : Fin 512) :
    iblk m c 8 t (ix2 0 j) = (args m c).cb j :=
  (show iblk m c 8 t (ix2 0 j) = V m c main_v12 (ix2 0 j) by blk_ext [iblk, idx t]).trans (by
    unfold V; after_reads_simp; pointwise; rfl)

theorem blk_cg (j : Fin 512) :
    iblk m c 9 t (ix2 0 j) = (args m c).cg j :=
  (show iblk m c 9 t (ix2 0 j) = V m c main_v13 (ix2 0 j) by blk_ext [iblk, idx t]).trans (by
    unfold V; after_reads_simp; pointwise; rfl)

theorem blk_ce (j : Fin 512) :
    iblk m c 10 t (ix2 0 j) = (args m c).ce j :=
  (show iblk m c 10 t (ix2 0 j) = V m c main_v14 (ix2 0 j) by blk_ext [iblk, idx t]).trans (by
    unfold V; after_reads_simp; pointwise; rfl)

theorem blk_wout (q : Fin 4) (i : Fin 256) (k : Fin 1024) :
    iblk m c 11 t (ix3 q i k) = (args m c).wo ⟨q.val * 256 + i.val, by omega⟩ k :=
  (show iblk m c 11 t (ix3 q i k) = V m c main_v4 (ix3 q i k) by blk_ext [iblk, idx t]).trans (by
    unfold V; after_reads_simp; pointwise; rfl)

/-- The buffers of a grid point hold what the layer asks for, if the carried rows do. -/
theorem ins {v : Vec Ideal S32x512 .f32} (h : ∀ (r : Fin 32) j, v (ix2 r j) = (args m c).gAt (t.val * 256 + r.val) j) :
    Ins (args m c) t (pt m c t v) where
  x := blk_x m c t
  g1 := blk_g1 m c t
  win := blk_win m c t
  lng := blk_lng m c t
  lnb := blk_lnb m c t
  ws := blk_ws m c t
  bf := blk_bf m c t
  cw := blk_cw m c t
  cb := blk_cb m c t
  cg := blk_cg m c t
  cbeta := blk_ce m c t
  wout := blk_wout m c t
  halo := h

/-! ## What stands after a grid point -/

theorem read_whole0 {h : scM0_0.IsWhole} (v : Vec Ideal S32x512 .f32) :
    View.read (Elt Ideal) (View.whole cc0_scratch0) (h.unread v) = v := h.read_unread v

/-- What a grid point leaves when the carried rows are `v`. -/
def left (t : Fin cfg0.N) (v : Vec Ideal S32x512 .f32) : Vec Ideal S256x1024 .f32 × Vec Ideal S256x2048 .f32 × Vec Ideal S256x512 .f32
    × Vec Ideal S256x2048 .f32 × Vec Ideal S256x128 .f32 × Vec Ideal S32x512 .f32 :=
  ((pt m c t v).x1, Pt.side (pt m c t v).v22 (pt m c t v).v26 (pt m c t v).v30 (pt m c t v).v34, (pt m c t v).v417,
    Pt.side (pt m c t v).v68 (pt m c t v).v74 (pt m c t v).v102 (pt m c t v).v118, k0_pay68 (pt m c t v).v116, k0_pay67 (pt m c t v).v220)

set_option maxHeartbeats 1000000 in
/-- The first point of an example starts from zeros. -/
theorem left_A (h0 : t.val % 16 = 0) : outsAt0 m c t.val t.isLt = left m c t (k0_pay2 (F := Ideal)) := by
  rw [outsAt0_A m c t h0]
  frame_out
  simp only [left, pt,
    Pt.v4, Pt.v19, Pt.v22, Pt.v26, Pt.v30, Pt.v34, Pt.v38, Pt.v40, Pt.v42, Pt.v44, Pt.v46, Pt.v59, Pt.v62, Pt.v68,
    Pt.v74, Pt.v96, Pt.v102, Pt.v106, Pt.v116, Pt.v118, Pt.v130, Pt.v135, Pt.v140, Pt.v145, Pt.v146, Pt.v147, Pt.v179,
    Pt.mixed, Pt.v212, Pt.v220, Pt.v221, Pt.v222, Pt.v223, Pt.v224, Pt.v225, Pt.v226, Pt.v227, Pt.v228, Pt.v249,
    Pt.v250, Pt.v291, Pt.v296, Pt.v339, Pt.v340, Pt.v381, Pt.v386, Pt.v417, Pt.v424, Pt.v431, Pt.v434, Pt.v451, Pt.v468,
    Pt.v475, Pt.v478, Pt.v512, Pt.x1, Pt.side]

set_option maxHeartbeats 1000000 in
/-- A later point starts from the rows that the point before left. -/
theorem left_B (h0 : ¬t.val % 16 = 0) : outsAt0 m c t.val t.isLt
    = left m c t (outsAt0 m c (t.val - 1) (by have := t.isLt; omega)).2.2.2.2.2 := by
  rw [outsAt0_B m c t h0]
  frame_out
  rw [read_whole0]
  simp only [left, pt,
    Pt.v4, Pt.v19, Pt.v22, Pt.v26, Pt.v30, Pt.v34, Pt.v38, Pt.v40, Pt.v42, Pt.v44, Pt.v46, Pt.v59, Pt.v62, Pt.v68,
    Pt.v74, Pt.v96, Pt.v102, Pt.v106, Pt.v116, Pt.v118, Pt.v130, Pt.v135, Pt.v140, Pt.v145, Pt.v146, Pt.v147, Pt.v179,
    Pt.mixed, Pt.v212, Pt.v220, Pt.v221, Pt.v222, Pt.v223, Pt.v224, Pt.v225, Pt.v226, Pt.v227, Pt.v228, Pt.v249,
    Pt.v250, Pt.v291, Pt.v296, Pt.v339, Pt.v340, Pt.v381, Pt.v386, Pt.v417, Pt.v424, Pt.v431, Pt.v434, Pt.v451, Pt.v468,
    Pt.v475, Pt.v478, Pt.v512, Pt.x1, Pt.side]

/-- The zeros before the first block. -/
theorem first (h0 : t.val % 16 = 0) (r : Fin 32) (j : Fin 512) :
    k0_pay2 (F := Ideal) (ix2 r j) = (args m c).gAt (t.val * 256 + r.val) j := by
  have ht : t.val < 16 := t.isLt
  unfold k0_pay2; pointwise
  unfold Args.gAt
  rw [dif_neg (by omega)]

/-- The carried rows after a grid point. -/
theorem carried : ∀ (n : ℕ) (hn : n < cfg0.N) (r : Fin 32) (j : Fin 512),
    (outsAt0 m c n hn).2.2.2.2.2 (ix2 r j) = (args m c).gAt ((n + 1) * 256 + r.val) j := by
  intro n
  induction n with
  | zero =>
    intro hn r j
    rw [left_A m c ⟨0, hn⟩ rfl]
    exact key_next (ins m c ⟨0, hn⟩ (first m c _ rfl)) r j
  | succ n ih =>
    intro hn r j
    have hN : n + 1 < 16 := hn
    have h0 : ¬(n + 1) % 16 = 0 := by omega
    rw [left_B m c ⟨n + 1, hn⟩ h0]
    exact key_next (ins m c ⟨n + 1, hn⟩ (ih (by omega))) r j

/-- Every grid point leaves what it computes from carried rows that are the convolution's input. -/
theorem after : ∃ v, outsAt0 m c t.val t.isLt = left m c t v ∧ Ins (args m c) t (pt m c t v) := by
  by_cases h0 : t.val % 16 = 0
  · exact ⟨_, left_A m c t h0, ins m c t (first m c t h0)⟩
  · refine ⟨_, left_B m c t h0, ins m c t fun r j => (carried m c _ _ r j).trans ?_⟩
    rw [show t.val - 1 + 1 = t.val by omega]

/-- The block of the projection. -/
theorem block_proj (a : Fin 256) (f : Fin 2048) :
    (outsAt0 m c t.val t.isLt).2.1 (ix2 a f) = (args m c).pj (rowOf t a) f := by
  obtain ⟨v, e, hp⟩ := after m c t
  exact (congrFun (congrArg (fun o => o.2.1) e) (ix2 a f)).trans (key_proj hp a f)

/-- The block of what is kept. -/
theorem block_kept (a : Fin 256) (f : Fin 2048) :
    (outsAt0 m c t.val t.isLt).2.2.2.1 (ix2 a f) = (args m c).kept (rowOf t a) f := by
  obtain ⟨v, e, hp⟩ := after m c t
  exact (congrFun (congrArg (fun o => o.2.2.2.1) e) (ix2 a f)).trans (key_kept hp a f)

/-- The first result: the layer's output. -/
theorem out_x1 : (dats m 0 c).arrAt 12 cfg0.N = fun i => (args m c).out (i 0) (i 1) := by
  refine (dats m 0 c).arrAt_eq_of_covers 12 _ (by decide +kernel) fun t hf y => ?_
  obtain ⟨v, e, hp⟩ := after m c t
  blk_simp
  rw [after0_12, e, eq_ix2 y]
  refine (key_x1 hp _ _).trans ?_
  have e0 : (((View.whole main_v15_0).slice (win0_12.rect t)).emb y 0) = rowOf t (y 0) := Fin.ext (by blk_simp [idx t]; rfl)
  have e1 : (((View.whole main_v15_0).slice (win0_12.rect t)).emb y 1) = y 1 := Fin.ext (by blk_simp [idx t])
  rw [← eq_ix2 y, e0, e1]

/-- The second result: the projection. -/
theorem out_proj : (dats m 0 c).arrAt 13 cfg0.N = fun i => (args m c).pj (i 0) (i 1) := by
  refine (dats m 0 c).arrAt_eq_of_covers 13 _ (by decide +kernel) fun t hf y => ?_
  blk_simp
  rw [after0_13, eq_ix2 y]
  refine (block_proj m c t _ _).trans ?_
  have e0 : (((View.whole main_v15_1).slice (win0_13.rect t)).emb y 0) = rowOf t (y 0) := Fin.ext (by blk_simp [idx t]; rfl)
  have e1 : (((View.whole main_v15_1).slice (win0_13.rect t)).emb y 1) = y 1 := Fin.ext (by blk_simp [idx t])
  rw [← eq_ix2 y, e0, e1]

/-- The third result: the convolution before its norm. -/
theorem out_cpre : (dats m 0 c).arrAt 14 cfg0.N = fun i => (args m c).cpre (i 0) (i 1) := by
  refine (dats m 0 c).arrAt_eq_of_covers 14 _ (by decide +kernel) fun t hf y => ?_
  obtain ⟨v, e, hp⟩ := after m c t
  blk_simp
  rw [after0_14, e, eq_ix2 y]
  refine (key_v417 hp _ _).trans ?_
  have e0 : (((View.whole main_v15_2).slice (win0_14.rect t)).emb y 0) = rowOf t (y 0) := Fin.ext (by blk_simp [idx t]; rfl)
  have e1 : (((View.whole main_v15_2).slice (win0_14.rect t)).emb y 1) = y 1 := Fin.ext (by blk_simp [idx t])
  rw [← eq_ix2 y, e0, e1]; rfl

/-- The fourth result: what is kept for the backward call. -/
theorem out_kept : (dats m 0 c).arrAt 15 cfg0.N = fun i => (args m c).kept (i 0) (i 1) := by
  refine (dats m 0 c).arrAt_eq_of_covers 15 _ (by decide +kernel) fun t hf y => ?_
  blk_simp
  rw [after0_15, eq_ix2 y]
  refine (block_kept m c t _ _).trans ?_
  have e0 : (((View.whole main_v15_3).slice (win0_15.rect t)).emb y 0) = rowOf t (y 0) := Fin.ext (by blk_simp [idx t]; rfl)
  have e1 : (((View.whole main_v15_3).slice (win0_15.rect t)).emb y 1) = y 1 := Fin.ext (by blk_simp [idx t])
  rw [← eq_ix2 y, e0, e1]

/-- The fifth result: the gate norm's factor in every lane. -/
theorem out_rs : (dats m 0 c).arrAt 16 cfg0.N = fun i => (args m c).rs (i 0) := by
  refine (dats m 0 c).arrAt_eq_of_covers 16 _ (by decide +kernel) fun t hf y => ?_
  obtain ⟨v, e, hp⟩ := after m c t
  blk_simp
  rw [after0_16, e, eq_ix2 y]
  refine (key_rs hp _ _).trans ?_
  have e0 : (((View.whole main_v15_4).slice (win0_16.rect t)).emb y 0) = rowOf t (y 0) := Fin.ext (by blk_simp [idx t]; rfl)
  rw [← eq_ix2 y, e0]

end Cert.MixFwdIdeal.Hand

end
-- ==== Proof.MixFwdRef.lean ====
/- The reference of the token mixers' forward call over the ideal floats and any arguments: the numbers its results are. -/
module

public import proofs.«01_k».proof.Proof.Gen.MixFwdRefIdeal.Read
public import proofs.«01_k».proof.Proof.MixFwdValue
public import proofs.«01_k».proof.Proof.MixRefFwd

@[expose] public section

set_option maxRecDepth 16384

noncomputable section

namespace Cert.MixFwdRefIdeal.Hand

open Cert.MixFwdRefIdeal Cert.MixFwdRefIdeal.Gen Cert.MixFwdRefIdeal.Read Idealize.ShloMosaic Idealize.ShloMosaic.TcCoe Cert.MixValue
open Cert.Reals (c0 c1 col col0 col1 col2 col3 head lane headCol place chunk chunkRow head_headCol lane_headCol place_chunkRow chunk_chunkRow
  chunkRow_chunk_place headCol_head_lane)
open Cert.MixBwdIdeal.Hand (sge_ix)
open Cert.MixBwdRefIdeal.Hand (eq_ix)

/-- The arguments. -/
structure Arrays (A : MixValue.Args) (x0 : FVec Ideal S1x4096x1024 .f32) (x1 : FVec Ideal S1024 .f32) (x2 : FVec Ideal S1024x2048 .f32)
    (x3 x4 x8 x9 x10 : FVec Ideal S512 .f32) (x5 : FVec Ideal S4x128x128 .f32) (x6 : FVec Ideal S4x128 .f32) (x7 : FVec Ideal S31x512 .f32)
    (x11 : FVec Ideal S1024x1024 .f32) : Prop where
  x : ∀ t k, x0 (ix3 0 t k) = A.x t k
  g1 : ∀ k, x1 (ix1 k) = A.g1 k
  win : ∀ k f, x2 (ix2 k f) = A.win k f
  lg : ∀ j, x3 (ix1 j) = A.lg j
  lb : ∀ j, x4 (ix1 j) = A.lb j
  ws : ∀ q r s, x5 (ix3 q r s) = A.ws q r s
  bs : ∀ q r, x6 (ix2 q r) = A.bs q r
  cw : ∀ k j, x7 (ix2 k j) = A.cw k j
  cb : ∀ j, x8 (ix1 j) = A.cb j
  cg : ∀ j, x9 (ix1 j) = A.cg j
  ce : ∀ j, x10 (ix1 j) = A.ce j
  wo : ∀ i k, x11 (ix2 i k) = A.wo i k

/-- The convolution's window: the row a tap reads. -/
theorem tap_sum (A : MixValue.Args) (t : Fin 4096) (k : Fin 31) (j : Fin 512) :
    ∑ s : Fin 4096, A.gv s j * (if s.val + 30 = t.val + k.val then 1 else 0) = A.gAt (t.val + (k.val + 2)) j := by
  unfold MixValue.Args.gAt
  split
  · next h =>
    rw [Finset.sum_eq_single (⟨t.val + (k.val + 2) - 32, by omega⟩ : Fin 4096), if_pos (by dsimp only; omega), mul_one]
    · intro s _ hs
      rw [if_neg (fun e => hs (Fin.ext (by dsimp only; omega))), mul_zero]
    · intro hs; exact absurd (Finset.mem_univ _) hs
  · next h =>
    exact Finset.sum_eq_zero fun s _ => by rw [if_neg (by omega), mul_zero]

variable {A : MixValue.Args} {x0 : FVec Ideal S1x4096x1024 .f32} {x1 : FVec Ideal S1024 .f32} {x2 : FVec Ideal S1024x2048 .f32}
  {x3 x4 x8 x9 x10 : FVec Ideal S512 .f32} {x5 : FVec Ideal S4x128x128 .f32} {x6 : FVec Ideal S4x128 .f32} {x7 : FVec Ideal S31x512 .f32}
  {x11 : FVec Ideal S1024x1024 .f32} (h : Arrays A x0 x1 x2 x3 x4 x8 x9 x10 x5 x6 x7 x11)
include h

theorem r_v12 (t : Fin 4096) (k : Fin 1024) : val_main_v12 (F := Ideal) x0 x1 (ix3 0 t k) = FfnValue.H A.x A.g1 t k := by
  unfold val_main_v12 val_main_v9 val_main_v8 val_main_v7 val_main_v6 val_main_v4 val_main_v2 val_main_v1 val_main_v0 val_main_cst val_main_v3 val_main_cst_0 val_main_v5 val_main_cst_1 val_main_v11 val_main_v10
  pointwise
  simp only [h.x, h.g1]
  rfl

theorem r_v13 (t : Fin 4096) (f : Fin 2048) : val_main_v13 (F := Ideal) x0 x1 x2 (ix3 0 t f) = A.pj t f := by
  unfold val_main_v13
  pointwise
  simp only [h.win, r_v12 h]
  rfl

theorem r_v14 (t : Fin 4096) (j : Fin 512) : val_main_v14 (F := Ideal) x0 x1 x2 (ix3 0 t j) = A.pj t (col 0 j) := by
  unfold val_main_v14
  pointwise
  simp only [r_v13 h]
  rw [col0]

theorem r_v15 (t : Fin 4096) (j : Fin 512) : val_main_v15 (F := Ideal) x0 x1 x2 (ix3 0 t j) = A.pj t (col 1 j) := by
  unfold val_main_v15
  pointwise
  simp only [r_v13 h, col1]

theorem r_v16 (t : Fin 4096) (j : Fin 512) : val_main_v16 (F := Ideal) x0 x1 x2 (ix3 0 t j) = A.pj t (col 2 j) := by
  unfold val_main_v16
  pointwise
  simp only [r_v13 h, col2]

theorem r_v17 (t : Fin 4096) (j : Fin 512) : val_main_v17 (F := Ideal) x0 x1 x2 (ix3 0 t j) = A.pj t (col 3 j) := by
  unfold val_main_v17
  pointwise
  simp only [r_v13 h, col3]

theorem r_v126 (t : Fin 4096) (j : Fin 512) : val_main_v126 (F := Ideal) x0 x1 x2 (ix3 0 t j) = A.pj t (col 0 j) := by
  unfold val_main_v126
  pointwise
  simp only [r_v13 h]
  rw [col0]

theorem r_v137 (t : Fin 4096) (j : Fin 512) : val_main_v137 (F := Ideal) x0 x1 x2 (ix3 0 t j) = A.pj t (col 1 j) := by
  unfold val_main_v137
  pointwise
  simp only [r_v13 h, col1]

theorem r_v191 (t : Fin 4096) (j : Fin 512) : val_main_v191 (F := Ideal) x0 x1 x2 (ix3 0 t j) = A.pj t (col 2 j) := by
  unfold val_main_v191
  pointwise
  simp only [r_v13 h, col2]

theorem r_v192 (t : Fin 4096) (j : Fin 512) : val_main_v192 (F := Ideal) x0 x1 x2 (ix3 0 t j) = A.pj t (col 3 j) := by
  unfold val_main_v192
  pointwise
  simp only [r_v13 h, col3]

theorem r_v24 (t : Fin 4096) (j : Fin 512) : val_main_v24 (F := Ideal) x0 x1 x2 (ix3 0 t j) = A.u t j := by
  unfold val_main_v24 val_main_v19 val_main_v18 val_main_cst_2 val_main_v23 val_main_v22 val_main_v20 val_main_v21 val_main_cst_3
  pointwise
  simp only [r_v14 h]
  exact gl_eq _

theorem r_v31 (t : Fin 4096) (j : Fin 512) : val_main_v31 (F := Ideal) x0 x1 x2 (ix3 0 t j) = A.vg t j := by
  unfold val_main_v31 val_main_v26 val_main_v25 val_main_cst_4 val_main_v30 val_main_v29 val_main_v27 val_main_v28 val_main_cst_5
  pointwise
  simp only [r_v15 h]
  exact gl_eq _

theorem r_v35 (t : Fin 4096) : val_main_v35 (F := Ideal) x0 x1 x2 (ix3 0 t 0) = Ideal.div (∑ k, A.vg t k) d512 := by
  unfold val_main_v35 val_main_v33 val_main_v32 val_main_cst_6 val_main_v34 val_main_cst_7
  pointwise
  simp only [r_v31 h, c0, c1, EReal.coe_zero, EReal.coe_one, zero_add]
  rfl

theorem r_v37 (t : Fin 4096) (j : Fin 512) : val_main_v37 (F := Ideal) x0 x1 x2 (ix3 0 t j) = cen d512 (A.vg t) j := by
  unfold val_main_v37 val_main_v36
  pointwise
  simp only [r_v31 h, r_v35 h]
  rfl

theorem r_v44 (t : Fin 4096) (j : Fin 512) : val_main_v44 (F := Ideal) x0 x1 x2 (ix3 0 t j) = cen d512 (A.vg t) j := by
  unfold val_main_v44 val_main_v43
  pointwise
  simp only [r_v31 h, r_v35 h]
  rfl

theorem r_v47 (t : Fin 4096) : val_main_v47 (F := Ideal) x0 x1 x2 (ix3 0 t 0) = A.rs t := by
  unfold val_main_v47 val_main_v46 val_main_v42 val_main_v40 val_main_v39 val_main_v38 val_main_cst_8 val_main_v41 val_main_cst_9 val_main_v45 val_main_cst_10
  pointwise
  simp only [r_v37 h, c0, c1, EReal.coe_zero, EReal.coe_one, zero_add]
  rfl

theorem r_v49 (t : Fin 4096) (j : Fin 512) : val_main_v49 (F := Ideal) x0 x1 x2 (ix3 0 t j) = A.vh t j := by
  unfold val_main_v49 val_main_v48
  pointwise
  simp only [r_v44 h, r_v47 h]
  rfl

theorem r_v55 (t : Fin 4096) (j : Fin 512) : val_main_v55 (F := Ideal) x0 x1 x2 x3 x4 (ix3 0 t j) = A.v t j := by
  unfold val_main_v55 val_main_v52 val_main_v51 val_main_v50 val_main_v54 val_main_v53
  pointwise
  simp only [h.lg, h.lb, r_v49 h]
  rfl

theorem r_v58 (r s : Fin 128) : val_main_v58 (F := Ideal) (ix2 r s) = (if s ≤ r then 1 else 0 : EReal) := by
  unfold val_main_v58 val_main_call0_v4 val_main_call0_v2 val_main_call0_v0 val_main_call0_v1 val_main_call0_c val_main_call0_v3 val_main_v57 val_main_cst_11 val_main_call0_v5 val_main_call0_cst
  pointwise
  rw [show IntOp.addi (BitVec.ofNat 32 r.val) 0#32 = BitVec.ofNat 32 r.val from BitVec.add_zero _, sge_ix]
  split <;> simp [Scalar.select, c1, c0]

theorem r_v61 (q : Fin 4) (r s : Fin 128) : val_main_v61 (F := Ideal) x5 (ix3 q r s) = A.wm q r s := by
  unfold val_main_v61 val_main_v60 val_main_v59
  pointwise
  simp only [h.ws, r_v58 h]
  unfold MixValue.Args.wm; simp only [mul_ite, mul_one, mul_zero]

theorem r_v56 (i : Fin 32) (s : Fin 128) (q : Fin 4) (k : Fin 128) : val_main_v56 (F := Ideal) x0 x1 x2 x3 x4 (ix5 0 i s q k) = A.v (chunkRow i s) (headCol q k) := by
  unfold val_main_v56
  pointwise
  simp only [r_v55 h]
  rfl

theorem r_v67 (i : Fin 32) (r : Fin 128) (q : Fin 4) (k : Fin 128) : val_main_v67 (F := Ideal) x0 x1 x2 x3 x4 x5 x6 (ix5 0 i r q k) = A.mixed (chunkRow i r) (headCol q k) := by
  unfold val_main_v67 val_main_v63 val_main_v62 val_main_v66 val_main_v65 val_main_v64
  pointwise
  simp only [h.bs, r_v56 h, r_v61 h]
  unfold MixValue.Args.mixed
  simp only [head_headCol, place_chunkRow, chunk_chunkRow, mul_comm (A.v _ _)]

theorem r_v68 (t : Fin 4096) (j : Fin 512) : val_main_v68 (F := Ideal) x0 x1 x2 x3 x4 x5 x6 (ix3 0 t j) = A.mixed t j := by
  unfold val_main_v68
  pointwise
  simp only [r_v67 h]
  exact congrArg₂ A.mixed (chunkRow_chunk_place t) (headCol_head_lane j)

theorem r_v69 (t : Fin 4096) (j : Fin 512) : val_main_v69 (F := Ideal) x0 x1 x2 x3 x4 x5 x6 (ix3 0 t j) = A.a t j := by
  unfold val_main_v69
  pointwise
  simp only [r_v24 h, r_v68 h]
  rfl

theorem r_v76 (t : Fin 4096) (j : Fin 512) : val_main_v76 (F := Ideal) x0 x1 x2 (ix3 0 t j) = A.gv t j := by
  unfold val_main_v76 val_main_v75 val_main_v74 val_main_cst_13 val_main_v73 val_main_v72 val_main_cst_12 val_main_v71 val_main_v70
  pointwise
  simp only [r_v16 h, r_v17 h, c0, c1, EReal.coe_zero, EReal.coe_one]
  rfl

theorem r_v84 (t s : Fin 4096) (k : Fin 31) : val_main_v84 (F := Ideal) (ix3 t s k) = (if s.val + 30 = t.val + k.val then 1 else 0 : EReal) := by
  unfold val_main_v84 val_main_v83 val_main_v81 val_main_v78 val_main_v80 val_main_c val_main_v82 val_main_v77 val_main_v79
  pointwise
  rw [eq_ix]
  split <;> simp [FloatOps.uitofp]

theorem r_v86 (t : Fin 4096) (k : Fin 31) (j : Fin 512) : val_main_v86 (F := Ideal) x0 x1 x2 (ix4 0 t k j) = A.gAt (t.val + (k.val + 2)) j := by
  unfold val_main_v86 val_main_v85
  pointwise
  simp only [r_v76 h, r_v84 h, tap_sum]

theorem r_v93 (t : Fin 4096) (j : Fin 512) : val_main_v93 (F := Ideal) x0 x1 x2 x7 x8 (ix3 0 t j) = A.cpre t j := by
  unfold val_main_v93 val_main_v90 val_main_v89 val_main_v88 val_main_v87 val_main_cst_14 val_main_v92 val_main_v91
  pointwise
  simp only [h.cw, h.cb, r_v86 h, c0, c1, EReal.coe_zero, EReal.coe_one, zero_add, A.cpre_eq]

theorem r_v94 (t : Fin 4096) (q : Fin 4) (r : Fin 128) : val_main_v94 (F := Ideal) x0 x1 x2 x7 x8 (ix4 0 t q r) = A.cgrp t q r := by
  unfold val_main_v94
  pointwise
  simp only [r_v93 h]
  rfl

theorem r_v100 (t : Fin 4096) (q : Fin 4) : val_main_v100 (F := Ideal) x0 x1 x2 x7 x8 (ix4 0 t q 0) = Ideal.div (∑ r, A.cgrp t q r) d128 := by
  unfold val_main_v100 val_main_v98 val_main_v97 val_main_cst_15 val_main_v99 val_main_cst_16
  pointwise
  simp only [r_v94 h, c0, c1, EReal.coe_zero, EReal.coe_one, zero_add]
  rfl

theorem r_v102 (t : Fin 4096) (q : Fin 4) (r : Fin 128) : val_main_v102 (F := Ideal) x0 x1 x2 x7 x8 (ix4 0 t q r) = cen d128 (A.cgrp t q) r := by
  unfold val_main_v102 val_main_v101
  pointwise
  simp only [r_v94 h, r_v100 h]
  rfl

theorem r_v109 (t : Fin 4096) (q : Fin 4) (r : Fin 128) : val_main_v109 (F := Ideal) x0 x1 x2 x7 x8 (ix4 0 t q r) = cen d128 (A.cgrp t q) r := by
  unfold val_main_v109 val_main_v108
  pointwise
  simp only [r_v94 h, r_v100 h]
  rfl

theorem r_v112 (t : Fin 4096) (q : Fin 4) : val_main_v112 (F := Ideal) x0 x1 x2 x7 x8 (ix4 0 t q 0) = lrs d128 (A.cgrp t q) := by
  unfold val_main_v112 val_main_v111 val_main_v107 val_main_v105 val_main_v104 val_main_v103 val_main_cst_17 val_main_v106 val_main_cst_18 val_main_v110 val_main_cst_19
  pointwise
  simp only [r_v102 h, c0, c1, EReal.coe_zero, EReal.coe_one, zero_add]
  rfl

theorem r_v114 (t : Fin 4096) (q : Fin 4) (r : Fin 128) : val_main_v114 (F := Ideal) x0 x1 x2 x7 x8 (ix4 0 t q r) = hat d128 (A.cgrp t q) r := by
  unfold val_main_v114 val_main_v113
  pointwise
  simp only [r_v109 h, r_v112 h]
  rfl

theorem r_v120 (t : Fin 4096) (q : Fin 4) (r : Fin 128) : val_main_v120 (F := Ideal) x0 x1 x2 x7 x8 x9 x10 (ix4 0 t q r) = A.cn t (headCol q r) := by
  unfold val_main_v120 val_main_v117 val_main_v116 val_main_v115 val_main_v95 val_main_v119 val_main_v118 val_main_v96
  pointwise
  simp only [h.cg, h.ce, r_v114 h]
  unfold MixValue.Args.cn MixValue.Args.chh
  rw [head_headCol, lane_headCol]
  rfl

theorem r_v121 (t : Fin 4096) (q : Fin 4) (r : Fin 128) : val_main_v121 (F := Ideal) x0 x1 x2 x7 x8 x9 x10 (ix4 0 t q r) = A.cout t (headCol q r) := by
  unfold val_main_v121 val_main_call1_v5 val_main_call1_v4 val_main_call1_cst_0 val_main_call1_v3 val_main_call1_v2 val_main_call1_cst val_main_call1_v1 val_main_call1_v0
  pointwise
  simp only [r_v120 h, c0, c1, EReal.coe_zero, EReal.coe_one]
  rfl

theorem r_v122 (t : Fin 4096) (j : Fin 512) : val_main_v122 (F := Ideal) x0 x1 x2 x7 x8 x9 x10 (ix3 0 t j) = A.cout t j := by
  unfold val_main_v122
  pointwise
  simp only [r_v121 h]
  exact congrArg (A.cout t) (headCol_head_lane j)

theorem r_v123 (t : Fin 4096) (i : Fin 1024) : val_main_v123 (F := Ideal) x0 x1 x2 x3 x4 x5 x6 x7 x8 x9 x10 (ix3 0 t i) = A.mix t i := by
  unfold val_main_v123
  pointwise
  simp only [r_v69 h, r_v122 h]
  rfl

theorem r_v125 (t : Fin 4096) (k : Fin 1024) : val_main_v125 (F := Ideal) x0 x1 x2 x3 x4 x5 x6 x7 x8 x9 x10 x11 (ix3 0 t k) = A.out t k := by
  unfold val_main_v125 val_main_v124
  pointwise
  simp only [h.x, h.wo, r_v123 h]
  rfl

theorem r_v136 (t : Fin 4096) (j : Fin 512) : val_main_v136 (F := Ideal) x0 x1 x2 (ix3 0 t j) = A.u t j := by
  unfold val_main_v136 val_main_v128 val_main_v127 val_main_cst_20 val_main_v132 val_main_v131 val_main_v129 val_main_v130 val_main_cst_21
  pointwise
  simp only [r_v126 h]
  exact gl_eq _

theorem r_v147 (t : Fin 4096) (j : Fin 512) : val_main_v147 (F := Ideal) x0 x1 x2 (ix3 0 t j) = A.vg t j := by
  unfold val_main_v147 val_main_v139 val_main_v138 val_main_cst_22 val_main_v143 val_main_v142 val_main_v140 val_main_v141 val_main_cst_23
  pointwise
  simp only [r_v137 h]
  exact gl_eq _

theorem r_v159 (t : Fin 4096) (j : Fin 512) : val_main_v159 (F := Ideal) x0 x1 x2 (ix3 0 t j) = A.du t j := by
  unfold val_main_v159 val_main_v156 val_main_v155 val_main_v153 val_main_v152 val_main_v151 val_main_cst_25 val_main_v149 val_main_v128 val_main_v127 val_main_cst_20 val_main_v135 val_main_v134 val_main_v133 val_main_v154 val_main_cst_26 val_main_v158 val_main_v157 val_main_cst_27 val_main_v150 val_main_v148 val_main_cst_24 val_main_v132 val_main_v131 val_main_v129 val_main_v130 val_main_cst_21
  pointwise
  simp only [r_v126 h, c1, EReal.coe_one, slope_neg]
  exact gd_eq _

theorem r_v171 (t : Fin 4096) (j : Fin 512) : val_main_v171 (F := Ideal) x0 x1 x2 (ix3 0 t j) = A.dvg t j := by
  unfold val_main_v171 val_main_v168 val_main_v167 val_main_v165 val_main_v164 val_main_v163 val_main_cst_29 val_main_v161 val_main_v139 val_main_v138 val_main_cst_22 val_main_v146 val_main_v145 val_main_v144 val_main_v166 val_main_cst_30 val_main_v170 val_main_v169 val_main_cst_31 val_main_v162 val_main_v160 val_main_cst_28 val_main_v143 val_main_v142 val_main_v140 val_main_v141 val_main_cst_23
  pointwise
  simp only [r_v137 h, c1, EReal.coe_one, slope_neg]
  exact gd_eq _

theorem r_v175 (t : Fin 4096) : val_main_v175 (F := Ideal) x0 x1 x2 (ix3 0 t 0) = Ideal.div (∑ k, A.vg t k) d512 := by
  unfold val_main_v175 val_main_v173 val_main_v172 val_main_cst_32 val_main_v174 val_main_cst_33
  pointwise
  simp only [r_v147 h, c0, c1, EReal.coe_zero, EReal.coe_one, zero_add]
  rfl

theorem r_v177 (t : Fin 4096) (j : Fin 512) : val_main_v177 (F := Ideal) x0 x1 x2 (ix3 0 t j) = cen d512 (A.vg t) j := by
  unfold val_main_v177 val_main_v176
  pointwise
  simp only [r_v147 h, r_v175 h]
  rfl

theorem r_v185 (t : Fin 4096) : val_main_v185 (F := Ideal) x0 x1 x2 (ix3 0 t 0) = A.rs t := by
  unfold val_main_v185 val_main_v184 val_main_v182 val_main_v180 val_main_v179 val_main_v178 val_main_cst_34 val_main_v181 val_main_cst_35 val_main_v183 val_main_cst_36
  pointwise
  simp only [r_v177 h, c0, c1, EReal.coe_zero, EReal.coe_one, zero_add]
  rfl

theorem r_v187 (t : Fin 4096) (j : Fin 512) : val_main_v187 (F := Ideal) x0 x1 x2 (ix3 0 t j) = cen d512 (A.vg t) j := by
  unfold val_main_v187 val_main_v186
  pointwise
  simp only [r_v147 h, r_v175 h]
  rfl

theorem r_v189 (t : Fin 4096) (j : Fin 512) : val_main_v189 (F := Ideal) x0 x1 x2 (ix3 0 t j) = A.vh t j := by
  unfold val_main_v189 val_main_v188
  pointwise
  simp only [r_v187 h, r_v185 h]
  rfl

theorem r_v190 (t : Fin 4096) (f : Fin 2048) : val_main_v190 (F := Ideal) x0 x1 x2 (ix3 0 t f) = A.kept t f := by
  unfold val_main_v190
  pointwise
  simp only [r_v136 h, r_v159 h, r_v171 h, r_v189 h]
  exact A.kept_side t f

theorem r_v199 (t : Fin 4096) (j : Fin 512) : val_main_v199 (F := Ideal) x0 x1 x2 (ix3 0 t j) = A.gv t j := by
  unfold val_main_v199 val_main_v198 val_main_v197 val_main_cst_38 val_main_v196 val_main_v195 val_main_cst_37 val_main_v194 val_main_v193
  pointwise
  simp only [r_v191 h, r_v192 h, c0, c1, EReal.coe_zero, EReal.coe_one]
  rfl

theorem r_v207 (t s : Fin 4096) (k : Fin 31) : val_main_v207 (F := Ideal) (ix3 t s k) = (if s.val + 30 = t.val + k.val then 1 else 0 : EReal) := by
  unfold val_main_v207 val_main_v206 val_main_v204 val_main_v201 val_main_v203 val_main_c_39 val_main_v205 val_main_v200 val_main_v202
  pointwise
  rw [eq_ix]
  split <;> simp [FloatOps.uitofp]

theorem r_v209 (t : Fin 4096) (k : Fin 31) (j : Fin 512) : val_main_v209 (F := Ideal) x0 x1 x2 (ix4 0 t k j) = A.gAt (t.val + (k.val + 2)) j := by
  unfold val_main_v209 val_main_v208
  pointwise
  simp only [r_v199 h, r_v207 h, tap_sum]

theorem r_v216 (t : Fin 4096) (j : Fin 512) : val_main_v216 (F := Ideal) x0 x1 x2 x7 x8 (ix3 0 t j) = A.cpre t j := by
  unfold val_main_v216 val_main_v213 val_main_v212 val_main_v211 val_main_v210 val_main_cst_40 val_main_v215 val_main_v214
  pointwise
  simp only [h.cw, h.cb, r_v209 h, c0, c1, EReal.coe_zero, EReal.coe_one, zero_add, A.cpre_eq]

/-- The first result. -/
theorem r_v217 (t : Fin 4096) (k : Fin 1024) : val_main_v217 (F := Ideal) x0 x1 x2 x3 x4 x5 x6 x7 x8 x9 x10 x11 (ix2 t k) = A.out t k := by
  unfold val_main_v217
  pointwise
  simp only [r_v125 h]

/-- The second result. -/
theorem r_v218 (t : Fin 4096) (f : Fin 2048) : val_main_v218 (F := Ideal) x0 x1 x2 (ix2 t f) = A.pj t f := by
  unfold val_main_v218
  pointwise
  simp only [r_v13 h]

/-- The third result. -/
theorem r_v219 (t : Fin 4096) (j : Fin 512) : val_main_v219 (F := Ideal) x0 x1 x2 x7 x8 (ix2 t j) = A.cpre t j := by
  unfold val_main_v219
  pointwise
  simp only [r_v216 h]

/-- The fourth result. -/
theorem r_v220 (t : Fin 4096) (f : Fin 2048) : val_main_v220 (F := Ideal) x0 x1 x2 (ix2 t f) = A.kept t f := by
  unfold val_main_v220
  pointwise
  simp only [r_v190 h]

/-- The fifth result. -/
theorem r_v222 (t : Fin 4096) (l : Fin 128) : val_main_v222 (F := Ideal) x0 x1 x2 (ix2 t l) = A.rs t := by
  unfold val_main_v222 val_main_v221
  pointwise
  simp only [r_v185 h]

end Cert.MixFwdRefIdeal.Hand

end
-- ==== Proof.MixFwdClaim.lean ====
/- The token mixers' forward call: on all arguments the kernel and the reference end with the same extended reals. -/
module

public import proofs.«01_k».proof.Defs
public import proofs.«01_k».proof.Proof.MixFwdKernel
public import proofs.«01_k».proof.Proof.MixFwdRef
public import proofs.«01_k».proof.Proof.Gen.MixFwdRefIdeal.Run

@[expose] public section

set_option maxRecDepth 16384

noncomputable section

namespace Cert.MixFwdClaim

open Idealize.ShloMosaic Idealize.ShloMosaic.TcCoe Idealize.SL.Sem

open MixFwdIdeal.Hand in
/-- The two programs' results agree. -/
theorem algebraic : Cert.algebraic_MixFwdIdeal_MixFwdRefIdeal := by
  intro m g m' g' _ hagree
  refine ⟨fun c i => (args m c).out (i 0) (i 1), fun c i => (args m c).pj (i 0) (i 1), fun c i => (args m c).cpre (i 0) (i 1),
    fun c i => (args m c).kept (i 0) (i 1), fun c i => (args m c).rs (i 0), ?_, ?_⟩
  · refine (θ_run MixFwdIdeal.defs _ _).mono (fun r hr c => ?_)
      (θ_run_and (MixFwdIdeal.Gen.run_main (F := Ideal) m g) (MixFwdIdeal.Gen.frame (F := Ideal) m g))
    have a := (hr.1 c).1
    exact ⟨(a 12).trans (out_x1 m c), (a 13).trans (out_proj m c), (a 14).trans (out_cpre m c), (a 15).trans (out_kept m c),
      (a 16).trans (out_rs m c), hr.2.1 c⟩
  · refine (θ_run MixFwdRefIdeal.defs _ _).mono (fun r hr c => ?_) (MixFwdRefIdeal.Value.run (F := Ideal) m' g')
    obtain ⟨h0, h1, h2, h3, h4, hk⟩ := hr c
    obtain ⟨e0, e1, e2, e3, e4, e5, e6, e7, e8, e9, e10, e11⟩ := hagree c
    have h : MixFwdRefIdeal.Hand.Arrays (args m c) (m' ((c.tc : Thread _ _).loc MixFwdRefIdeal.main_arg0))
        (m' ((c.tc : Thread _ _).loc MixFwdRefIdeal.main_arg1)) (m' ((c.tc : Thread _ _).loc MixFwdRefIdeal.main_arg2))
        (m' ((c.tc : Thread _ _).loc MixFwdRefIdeal.main_arg3)) (m' ((c.tc : Thread _ _).loc MixFwdRefIdeal.main_arg4))
        (m' ((c.tc : Thread _ _).loc MixFwdRefIdeal.main_arg8)) (m' ((c.tc : Thread _ _).loc MixFwdRefIdeal.main_arg9))
        (m' ((c.tc : Thread _ _).loc MixFwdRefIdeal.main_arg10)) (m' ((c.tc : Thread _ _).loc MixFwdRefIdeal.main_arg5))
        (m' ((c.tc : Thread _ _).loc MixFwdRefIdeal.main_arg6)) (m' ((c.tc : Thread _ _).loc MixFwdRefIdeal.main_arg7))
        (m' ((c.tc : Thread _ _).loc MixFwdRefIdeal.main_arg11)) :=
      { x := fun _ _ => congrFun e0 _, g1 := fun _ => congrFun e1 _, win := fun _ _ => congrFun e2 _, lg := fun _ => congrFun e3 _,
        lb := fun _ => congrFun e4 _, ws := fun _ _ _ => congrFun e5 _, bs := fun _ _ => congrFun e6 _, cw := fun _ _ => congrFun e7 _,
        cb := fun _ => congrFun e8 _, cg := fun _ => congrFun e9 _, ce := fun _ => congrFun e10 _, wo := fun _ _ => congrFun e11 _ }
    have v0 : MixFwdRefIdeal.Read.val_main_v217 (F := Ideal) _ _ _ _ _ _ _ _ _ _ _ _ = fun i => (args m c).out (i 0) (i 1) :=
      funext fun i => (congrArg _ (eq_ix2 i)).trans (MixFwdRefIdeal.Hand.r_v217 h (i 0) (i 1))
    have v1 : MixFwdRefIdeal.Read.val_main_v218 (F := Ideal) _ _ _ = fun i => (args m c).pj (i 0) (i 1) :=
      funext fun i => (congrArg _ (eq_ix2 i)).trans (MixFwdRefIdeal.Hand.r_v218 h (i 0) (i 1))
    have v2 : MixFwdRefIdeal.Read.val_main_v219 (F := Ideal) _ _ _ _ _ = fun i => (args m c).cpre (i 0) (i 1) :=
      funext fun i => (congrArg _ (eq_ix2 i)).trans (MixFwdRefIdeal.Hand.r_v219 h (i 0) (i 1))
    have v3 : MixFwdRefIdeal.Read.val_main_v220 (F := Ideal) _ _ _ = fun i => (args m c).kept (i 0) (i 1) :=
      funext fun i => (congrArg _ (eq_ix2 i)).trans (MixFwdRefIdeal.Hand.r_v220 h (i 0) (i 1))
    have v4 : MixFwdRefIdeal.Read.val_main_v222 (F := Ideal) _ _ _ = fun i => (args m c).rs (i 0) :=
      funext fun i => (congrArg _ (eq_ix2 i)).trans (MixFwdRefIdeal.Hand.r_v222 h (i 0) (i 1))
    exact ⟨h0.trans ((MixFwdRefIdeal.Read.val_main_v217_eq _).trans v0),
      h1.trans ((MixFwdRefIdeal.Read.val_main_v218_eq _).trans v1), h2.trans ((MixFwdRefIdeal.Read.val_main_v219_eq _).trans v2),
      h3.trans ((MixFwdRefIdeal.Read.val_main_v220_eq _).trans v3), h4.trans ((MixFwdRefIdeal.Read.val_main_v222_eq _).trans v4), hk⟩

end Cert.MixFwdClaim

end
-- ==== Proof.lean ====
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.Pre_ffn_bwd_finite
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame.Runs
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.Gen.Pre_mix_bwd_finite
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.FfnBits
public import proofs.«01_k».proof.Proof.MixBits
public import proofs.«01_k».proof.Proof.LossClaim
public import proofs.«01_k».proof.Proof.FfnClaim
public import proofs.«01_k».proof.Proof.MixClaim
public import proofs.«01_k».proof.Proof.FfnFwdClaim
public import proofs.«01_k».proof.Proof.MixFwdClaim

@[expose] public section

noncomputable section

namespace Cert.Proof

open Idealize.ShloMosaic Idealize.SL.Sem

/-- The loss head's reference is host code: it runs, keeps its arguments and signals nothing. -/
theorem loss_ref_frame (m) (ρ) : θ_run (Cert.LossRefIdeal.defs (F := Ideal)) (onTc (τ := Cert.LossRefIdeal.τ) (Cert.LossRefIdeal.main (F := Ideal))) ⟨m, fun _ => 0, ρ⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0) :=
  (θ_run Cert.LossRefIdeal.defs _ _).mono
    (fun r h => ⟨fun c => (h c).2.2.2.2, sem_eq_zero_of_no_sems (by decide) r.2⟩)
    (Cert.LossRefIdeal.Value.run (F := Ideal) m ρ)

/-- So is the feed-forward layer's. -/
theorem ffn_ref_frame (m) (ρ) : θ_run (Cert.FfnBwdRefIdeal.defs (F := Ideal)) (onTc (τ := Cert.FfnBwdRefIdeal.τ) (Cert.FfnBwdRefIdeal.main (F := Ideal))) ⟨m, fun _ => 0, ρ⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0) :=
  (θ_run Cert.FfnBwdRefIdeal.defs _ _).mono
    (fun r h => ⟨fun c => (h c).2.2.2.2.2.2, sem_eq_zero_of_no_sems (by decide) r.2⟩)
    (Cert.FfnBwdRefIdeal.Value.run (F := Ideal) m ρ)

/-- So is the token mixers'. -/
theorem mix_ref_frame (m) (ρ) : θ_run (Cert.MixBwdRefIdeal.defs (F := Ideal)) (onTc (τ := Cert.MixBwdRefIdeal.τ) (Cert.MixBwdRefIdeal.main (F := Ideal))) ⟨m, fun _ => 0, ρ⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12))
      ∧ r.2.sem = fun _ => 0) :=
  (θ_run Cert.MixBwdRefIdeal.defs _ _).mono
    (fun r h => ⟨fun c => (h c).2.2.2.2.2.2.2.2.2.2.2.2.2.2, sem_eq_zero_of_no_sems (by decide) r.2⟩)
    (Cert.MixBwdRefIdeal.Value.run (F := Ideal) m ρ)

/-- So is the feed-forward layer's forward call's. -/
theorem ffn_fwd_ref_frame (m) (ρ) : θ_run (Cert.FfnFwdRefIdeal.defs (F := Ideal)) (onTc (τ := Cert.FfnFwdRefIdeal.τ) (Cert.FfnFwdRefIdeal.main (F := Ideal))) ⟨m, fun _ => 0, ρ⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0) :=
  (θ_run Cert.FfnFwdRefIdeal.defs _ _).mono
    (fun r h => ⟨fun c => (h c).2.2, sem_eq_zero_of_no_sems (by decide) r.2⟩)
    (Cert.FfnFwdRefIdeal.Value.run (F := Ideal) m ρ)

/-- So is the token mixers' forward call's. -/
theorem mix_fwd_ref_frame (m) (ρ) : θ_run (Cert.MixFwdRefIdeal.defs (F := Ideal)) (onTc (τ := Cert.MixFwdRefIdeal.τ) (Cert.MixFwdRefIdeal.main (F := Ideal))) ⟨m, fun _ => 0, ρ⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11))
      ∧ r.2.sem = fun _ => 0) :=
  (θ_run Cert.MixFwdRefIdeal.defs _ _).mono
    (fun r h => ⟨fun c => (h c).2.2.2.2.2, sem_eq_zero_of_no_sems (by decide) r.2⟩)
    (Cert.MixFwdRefIdeal.Value.run (F := Ideal) m ρ)

theorem claim : Cert.Claim :=
  ⟨Cert.Loss.Gen.facts, Cert.LossIdeal.Gen.facts, Cert.LossRefIdeal.Gen.facts,
    Cert.FfnBwd.Gen.facts, Cert.FfnBwdIdeal.Gen.facts, Cert.FfnBwdRefIdeal.Gen.facts,
    Cert.MixBwd.Gen.facts, Cert.MixBwdIdeal.Gen.facts, Cert.MixBwdRefIdeal.Gen.facts,
    Cert.FfnFwd.Gen.facts, Cert.FfnFwdIdeal.Gen.facts, Cert.FfnFwdRefIdeal.Gen.facts,
    Cert.MixFwd.Gen.facts, Cert.MixFwdIdeal.Gen.facts, Cert.MixFwdRefIdeal.Gen.facts,
    Cert.Pre_loss_finite.Gen.facts, Cert.Pre_ffn_bwd_finite.Gen.facts, Cert.Pre_mix_bwd_finite.Gen.facts,
    fun m ρ _ => Cert.Loss.Gen.frame m ρ,
    fun m ρ _ => Cert.LossIdeal.Gen.frame m ρ,
    fun m ρ _ => Cert.LossIdeal.Gen.frame m ρ,
    fun m ρ _ => loss_ref_frame m ρ,
    fun m ρ _ => loss_ref_frame m ρ,
    Cert.FfnBwd.Hand.frame,
    fun m ρ _ => Cert.FfnBwdIdeal.Hand.frame m ρ,
    fun m ρ _ => Cert.FfnBwdIdeal.Hand.frame m ρ,
    fun m ρ _ => ffn_ref_frame m ρ,
    fun m ρ _ => ffn_ref_frame m ρ,
    Cert.MixBwd.Hand.frame,
    fun m ρ _ => Cert.MixBwdIdeal.Hand.frame m ρ,
    fun m ρ _ => Cert.MixBwdIdeal.Hand.frame m ρ,
    fun m ρ _ => mix_ref_frame m ρ,
    fun m ρ _ => mix_ref_frame m ρ,
    fun m ρ _ => Cert.FfnFwd.Gen.frame m ρ,
    fun m ρ _ => Cert.FfnFwdIdeal.Gen.frame m ρ,
    fun m ρ _ => ffn_fwd_ref_frame m ρ,
    fun m ρ _ => Cert.MixFwd.Gen.frame m ρ,
    fun m ρ _ => Cert.MixFwdIdeal.Gen.frame m ρ,
    fun m ρ _ => mix_fwd_ref_frame m ρ,
    trivial,
    Cert.LossClaim.algebraic,
    trivial,
    Cert.FfnClaim.algebraic,
    trivial,
    Cert.MixClaim.algebraic,
    trivial,
    Cert.FfnFwdClaim.algebraic,
    trivial,
    Cert.MixFwdClaim.algebraic⟩

end Cert.Proof

end
